-- ==== Defs.lean ====
def Pre_KernelSmall (m : (ℓ : Loc Cert.KernelSmall.nD Cert.KernelSmall.τ Cert.KernelSmall.sig) → Buf (Elt Bits) ℓ) : Prop :=
  True

def Pre_KernelSmallIdeal (m : (ℓ : Loc Cert.KernelSmallIdeal.nD Cert.KernelSmallIdeal.τ Cert.KernelSmallIdeal.sig) → Buf (Elt Ideal) ℓ) : Prop :=
  True

def Pre_KernelSmallIdeal_finite_small [hPre_finite_small : Cert.Pre_finite_small.Facts] (m : (ℓ : Loc Cert.KernelSmallIdeal.nD Cert.KernelSmallIdeal.τ Cert.KernelSmallIdeal.sig) → Buf (Elt Ideal) ℓ) : Prop :=
  ∀ c : Dev Cert.KernelSmallIdeal.nD,
    (Cert.Pre_finite_small.fn (F := Ideal) (m ((c.tc : Thread Cert.KernelSmallIdeal.nD Cert.KernelSmallIdeal.τ).loc Cert.KernelSmallIdeal.main_arg0)) (m ((c.tc : Thread Cert.KernelSmallIdeal.nD Cert.KernelSmallIdeal.τ).loc Cert.KernelSmallIdeal.main_arg1)) (m ((c.tc : Thread Cert.KernelSmallIdeal.nD Cert.KernelSmallIdeal.τ).loc Cert.KernelSmallIdeal.main_arg2)) (m ((c.tc : Thread Cert.KernelSmallIdeal.nD Cert.KernelSmallIdeal.τ).loc Cert.KernelSmallIdeal.main_arg3)) (m ((c.tc : Thread Cert.KernelSmallIdeal.nD Cert.KernelSmallIdeal.τ).loc Cert.KernelSmallIdeal.main_arg4)) (m ((c.tc : Thread Cert.KernelSmallIdeal.nD Cert.KernelSmallIdeal.τ).loc Cert.KernelSmallIdeal.main_arg5)) (m ((c.tc : Thread Cert.KernelSmallIdeal.nD Cert.KernelSmallIdeal.τ).loc Cert.KernelSmallIdeal.main_arg6)) (m ((c.tc : Thread Cert.KernelSmallIdeal.nD Cert.KernelSmallIdeal.τ).loc Cert.KernelSmallIdeal.main_arg7)) (m ((c.tc : Thread Cert.KernelSmallIdeal.nD Cert.KernelSmallIdeal.τ).loc Cert.KernelSmallIdeal.main_arg8)) (m ((c.tc : Thread Cert.KernelSmallIdeal.nD Cert.KernelSmallIdeal.τ).loc Cert.KernelSmallIdeal.main_arg9)) (m ((c.tc : Thread Cert.KernelSmallIdeal.nD Cert.KernelSmallIdeal.τ).loc Cert.KernelSmallIdeal.main_arg10)) (m ((c.tc : Thread Cert.KernelSmallIdeal.nD Cert.KernelSmallIdeal.τ).loc Cert.KernelSmallIdeal.main_arg11)) (m ((c.tc : Thread Cert.KernelSmallIdeal.nD Cert.KernelSmallIdeal.τ).loc Cert.KernelSmallIdeal.main_arg12)) (m ((c.tc : Thread Cert.KernelSmallIdeal.nD Cert.KernelSmallIdeal.τ).loc Cert.KernelSmallIdeal.main_arg13)) (m ((c.tc : Thread Cert.KernelSmallIdeal.nD Cert.KernelSmallIdeal.τ).loc Cert.KernelSmallIdeal.main_arg14)) (m ((c.tc : Thread Cert.KernelSmallIdeal.nD Cert.KernelSmallIdeal.τ).loc Cert.KernelSmallIdeal.main_arg15)) (m ((c.tc : Thread Cert.KernelSmallIdeal.nD Cert.KernelSmallIdeal.τ).loc Cert.KernelSmallIdeal.main_arg16)) (m ((c.tc : Thread Cert.KernelSmallIdeal.nD Cert.KernelSmallIdeal.τ).loc Cert.KernelSmallIdeal.main_arg17)) (m ((c.tc : Thread Cert.KernelSmallIdeal.nD Cert.KernelSmallIdeal.τ).loc Cert.KernelSmallIdeal.main_arg18)) (m ((c.tc : Thread Cert.KernelSmallIdeal.nD Cert.KernelSmallIdeal.τ).loc Cert.KernelSmallIdeal.main_arg19)) (m ((c.tc : Thread Cert.KernelSmallIdeal.nD Cert.KernelSmallIdeal.τ).loc Cert.KernelSmallIdeal.main_arg20))).1 = (fun _ => 1#1)
    ∧ (Cert.Pre_finite_small.fn (F := Ideal) (m ((c.tc : Thread Cert.KernelSmallIdeal.nD Cert.KernelSmallIdeal.τ).loc Cert.KernelSmallIdeal.main_arg0)) (m ((c.tc : Thread Cert.KernelSmallIdeal.nD Cert.KernelSmallIdeal.τ).loc Cert.KernelSmallIdeal.main_arg1)) (m ((c.tc : Thread Cert.KernelSmallIdeal.nD Cert.KernelSmallIdeal.τ).loc Cert.KernelSmallIdeal.main_arg2)) (m ((c.tc : Thread Cert.KernelSmallIdeal.nD Cert.KernelSmallIdeal.τ).loc Cert.KernelSmallIdeal.main_arg3)) (m ((c.tc : Thread Cert.KernelSmallIdeal.nD Cert.KernelSmallIdeal.τ).loc Cert.KernelSmallIdeal.main_arg4)) (m ((c.tc : Thread Cert.KernelSmallIdeal.nD Cert.KernelSmallIdeal.τ).loc Cert.KernelSmallIdeal.main_arg5)) (m ((c.tc : Thread Cert.KernelSmallIdeal.nD Cert.KernelSmallIdeal.τ).loc Cert.KernelSmallIdeal.main_arg6)) (m ((c.tc : Thread Cert.KernelSmallIdeal.nD Cert.KernelSmallIdeal.τ).loc Cert.KernelSmallIdeal.main_arg7)) (m ((c.tc : Thread Cert.KernelSmallIdeal.nD Cert.KernelSmallIdeal.τ).loc Cert.KernelSmallIdeal.main_arg8)) (m ((c.tc : Thread Cert.KernelSmallIdeal.nD Cert.KernelSmallIdeal.τ).loc Cert.KernelSmallIdeal.main_arg9)) (m ((c.tc : Thread Cert.KernelSmallIdeal.nD Cert.KernelSmallIdeal.τ).loc Cert.KernelSmallIdeal.main_arg10)) (m ((c.tc : Thread Cert.KernelSmallIdeal.nD Cert.KernelSmallIdeal.τ).loc Cert.KernelSmallIdeal.main_arg11)) (m ((c.tc : Thread Cert.KernelSmallIdeal.nD Cert.KernelSmallIdeal.τ).loc Cert.KernelSmallIdeal.main_arg12)) (m ((c.tc : Thread Cert.KernelSmallIdeal.nD Cert.KernelSmallIdeal.τ).loc Cert.KernelSmallIdeal.main_arg13)) (m ((c.tc : Thread Cert.KernelSmallIdeal.nD Cert.KernelSmallIdeal.τ).loc Cert.KernelSmallIdeal.main_arg14)) (m ((c.tc : Thread Cert.KernelSmallIdeal.nD Cert.KernelSmallIdeal.τ).loc Cert.KernelSmallIdeal.main_arg15)) (m ((c.tc : Thread Cert.KernelSmallIdeal.nD Cert.KernelSmallIdeal.τ).loc Cert.KernelSmallIdeal.main_arg16)) (m ((c.tc : Thread Cert.KernelSmallIdeal.nD Cert.KernelSmallIdeal.τ).loc Cert.KernelSmallIdeal.main_arg17)) (m ((c.tc : Thread Cert.KernelSmallIdeal.nD Cert.KernelSmallIdeal.τ).loc Cert.KernelSmallIdeal.main_arg18)) (m ((c.tc : Thread Cert.KernelSmallIdeal.nD Cert.KernelSmallIdeal.τ).loc Cert.KernelSmallIdeal.main_arg19)) (m ((c.tc : Thread Cert.KernelSmallIdeal.nD Cert.KernelSmallIdeal.τ).loc Cert.KernelSmallIdeal.main_arg20))).2 = (fun _ => 1#1)

def Pre_ReferenceSmallIdeal (m : (ℓ : Loc Cert.ReferenceSmallIdeal.nD Cert.ReferenceSmallIdeal.τ Cert.ReferenceSmallIdeal.sig) → Buf (Elt Ideal) ℓ) : Prop :=
  True

def Pre_ReferenceSmallIdeal_finite_small [hPre_finite_small : Cert.Pre_finite_small.Facts] (m : (ℓ : Loc Cert.ReferenceSmallIdeal.nD Cert.ReferenceSmallIdeal.τ Cert.ReferenceSmallIdeal.sig) → Buf (Elt Ideal) ℓ) : Prop :=
  ∀ c : Dev Cert.ReferenceSmallIdeal.nD,
    (Cert.Pre_finite_small.fn (F := Ideal) (m ((c.tc : Thread Cert.ReferenceSmallIdeal.nD Cert.ReferenceSmallIdeal.τ).loc Cert.ReferenceSmallIdeal.main_arg0)) (m ((c.tc : Thread Cert.ReferenceSmallIdeal.nD Cert.ReferenceSmallIdeal.τ).loc Cert.ReferenceSmallIdeal.main_arg1)) (m ((c.tc : Thread Cert.ReferenceSmallIdeal.nD Cert.ReferenceSmallIdeal.τ).loc Cert.ReferenceSmallIdeal.main_arg2)) (m ((c.tc : Thread Cert.ReferenceSmallIdeal.nD Cert.ReferenceSmallIdeal.τ).loc Cert.ReferenceSmallIdeal.main_arg3)) (m ((c.tc : Thread Cert.ReferenceSmallIdeal.nD Cert.ReferenceSmallIdeal.τ).loc Cert.ReferenceSmallIdeal.main_arg4)) (m ((c.tc : Thread Cert.ReferenceSmallIdeal.nD Cert.ReferenceSmallIdeal.τ).loc Cert.ReferenceSmallIdeal.main_arg5)) (m ((c.tc : Thread Cert.ReferenceSmallIdeal.nD Cert.ReferenceSmallIdeal.τ).loc Cert.ReferenceSmallIdeal.main_arg6)) (m ((c.tc : Thread Cert.ReferenceSmallIdeal.nD Cert.ReferenceSmallIdeal.τ).loc Cert.ReferenceSmallIdeal.main_arg7)) (m ((c.tc : Thread Cert.ReferenceSmallIdeal.nD Cert.ReferenceSmallIdeal.τ).loc Cert.ReferenceSmallIdeal.main_arg8)) (m ((c.tc : Thread Cert.ReferenceSmallIdeal.nD Cert.ReferenceSmallIdeal.τ).loc Cert.ReferenceSmallIdeal.main_arg9)) (m ((c.tc : Thread Cert.ReferenceSmallIdeal.nD Cert.ReferenceSmallIdeal.τ).loc Cert.ReferenceSmallIdeal.main_arg10)) (m ((c.tc : Thread Cert.ReferenceSmallIdeal.nD Cert.ReferenceSmallIdeal.τ).loc Cert.ReferenceSmallIdeal.main_arg11)) (m ((c.tc : Thread Cert.ReferenceSmallIdeal.nD Cert.ReferenceSmallIdeal.τ).loc Cert.ReferenceSmallIdeal.main_arg12)) (m ((c.tc : Thread Cert.ReferenceSmallIdeal.nD Cert.ReferenceSmallIdeal.τ).loc Cert.ReferenceSmallIdeal.main_arg13)) (m ((c.tc : Thread Cert.ReferenceSmallIdeal.nD Cert.ReferenceSmallIdeal.τ).loc Cert.ReferenceSmallIdeal.main_arg14)) (m ((c.tc : Thread Cert.ReferenceSmallIdeal.nD Cert.ReferenceSmallIdeal.τ).loc Cert.ReferenceSmallIdeal.main_arg15)) (m ((c.tc : Thread Cert.ReferenceSmallIdeal.nD Cert.ReferenceSmallIdeal.τ).loc Cert.ReferenceSmallIdeal.main_arg16)) (m ((c.tc : Thread Cert.ReferenceSmallIdeal.nD Cert.ReferenceSmallIdeal.τ).loc Cert.ReferenceSmallIdeal.main_arg17)) (m ((c.tc : Thread Cert.ReferenceSmallIdeal.nD Cert.ReferenceSmallIdeal.τ).loc Cert.ReferenceSmallIdeal.main_arg18)) (m ((c.tc : Thread Cert.ReferenceSmallIdeal.nD Cert.ReferenceSmallIdeal.τ).loc Cert.ReferenceSmallIdeal.main_arg19)) (m ((c.tc : Thread Cert.ReferenceSmallIdeal.nD Cert.ReferenceSmallIdeal.τ).loc Cert.ReferenceSmallIdeal.main_arg20))).1 = (fun _ => 1#1)
    ∧ (Cert.Pre_finite_small.fn (F := Ideal) (m ((c.tc : Thread Cert.ReferenceSmallIdeal.nD Cert.ReferenceSmallIdeal.τ).loc Cert.ReferenceSmallIdeal.main_arg0)) (m ((c.tc : Thread Cert.ReferenceSmallIdeal.nD Cert.ReferenceSmallIdeal.τ).loc Cert.ReferenceSmallIdeal.main_arg1)) (m ((c.tc : Thread Cert.ReferenceSmallIdeal.nD Cert.ReferenceSmallIdeal.τ).loc Cert.ReferenceSmallIdeal.main_arg2)) (m ((c.tc : Thread Cert.ReferenceSmallIdeal.nD Cert.ReferenceSmallIdeal.τ).loc Cert.ReferenceSmallIdeal.main_arg3)) (m ((c.tc : Thread Cert.ReferenceSmallIdeal.nD Cert.ReferenceSmallIdeal.τ).loc Cert.ReferenceSmallIdeal.main_arg4)) (m ((c.tc : Thread Cert.ReferenceSmallIdeal.nD Cert.ReferenceSmallIdeal.τ).loc Cert.ReferenceSmallIdeal.main_arg5)) (m ((c.tc : Thread Cert.ReferenceSmallIdeal.nD Cert.ReferenceSmallIdeal.τ).loc Cert.ReferenceSmallIdeal.main_arg6)) (m ((c.tc : Thread Cert.ReferenceSmallIdeal.nD Cert.ReferenceSmallIdeal.τ).loc Cert.ReferenceSmallIdeal.main_arg7)) (m ((c.tc : Thread Cert.ReferenceSmallIdeal.nD Cert.ReferenceSmallIdeal.τ).loc Cert.ReferenceSmallIdeal.main_arg8)) (m ((c.tc : Thread Cert.ReferenceSmallIdeal.nD Cert.ReferenceSmallIdeal.τ).loc Cert.ReferenceSmallIdeal.main_arg9)) (m ((c.tc : Thread Cert.ReferenceSmallIdeal.nD Cert.ReferenceSmallIdeal.τ).loc Cert.ReferenceSmallIdeal.main_arg10)) (m ((c.tc : Thread Cert.ReferenceSmallIdeal.nD Cert.ReferenceSmallIdeal.τ).loc Cert.ReferenceSmallIdeal.main_arg11)) (m ((c.tc : Thread Cert.ReferenceSmallIdeal.nD Cert.ReferenceSmallIdeal.τ).loc Cert.ReferenceSmallIdeal.main_arg12)) (m ((c.tc : Thread Cert.ReferenceSmallIdeal.nD Cert.ReferenceSmallIdeal.τ).loc Cert.ReferenceSmallIdeal.main_arg13)) (m ((c.tc : Thread Cert.ReferenceSmallIdeal.nD Cert.ReferenceSmallIdeal.τ).loc Cert.ReferenceSmallIdeal.main_arg14)) (m ((c.tc : Thread Cert.ReferenceSmallIdeal.nD Cert.ReferenceSmallIdeal.τ).loc Cert.ReferenceSmallIdeal.main_arg15)) (m ((c.tc : Thread Cert.ReferenceSmallIdeal.nD Cert.ReferenceSmallIdeal.τ).loc Cert.ReferenceSmallIdeal.main_arg16)) (m ((c.tc : Thread Cert.ReferenceSmallIdeal.nD Cert.ReferenceSmallIdeal.τ).loc Cert.ReferenceSmallIdeal.main_arg17)) (m ((c.tc : Thread Cert.ReferenceSmallIdeal.nD Cert.ReferenceSmallIdeal.τ).loc Cert.ReferenceSmallIdeal.main_arg18)) (m ((c.tc : Thread Cert.ReferenceSmallIdeal.nD Cert.ReferenceSmallIdeal.τ).loc Cert.ReferenceSmallIdeal.main_arg19)) (m ((c.tc : Thread Cert.ReferenceSmallIdeal.nD Cert.ReferenceSmallIdeal.τ).loc Cert.ReferenceSmallIdeal.main_arg20))).2 = (fun _ => 1#1)

def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_KernelSbIdeal_finite_sb [hPre_finite_sb : Cert.Pre_finite_sb.Facts] (m : (ℓ : Loc Cert.KernelSbIdeal.nD Cert.KernelSbIdeal.τ Cert.KernelSbIdeal.sig) → Buf (Elt Ideal) ℓ) : Prop :=
  ∀ c : Dev Cert.KernelSbIdeal.nD,
    (Cert.Pre_finite_sb.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1))).1 = (fun _ => 1#1)
    ∧ (Cert.Pre_finite_sb.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1))).2 = (fun _ => 1#1)

def Pre_ReferenceSbIdeal (m : (ℓ : Loc Cert.ReferenceSbIdeal.nD Cert.ReferenceSbIdeal.τ Cert.ReferenceSbIdeal.sig) → Buf (Elt Ideal) ℓ) : Prop :=
  True

def Pre_ReferenceSbIdeal_finite_sb [hPre_finite_sb : Cert.Pre_finite_sb.Facts] (m : (ℓ : Loc Cert.ReferenceSbIdeal.nD Cert.ReferenceSbIdeal.τ Cert.ReferenceSbIdeal.sig) → Buf (Elt Ideal) ℓ) : Prop :=
  ∀ c : Dev Cert.ReferenceSbIdeal.nD,
    (Cert.Pre_finite_sb.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1))).1 = (fun _ => 1#1)
    ∧ (Cert.Pre_finite_sb.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1))).2 = (fun _ => 1#1)

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_KernelMidIdeal_finite_mid [hPre_finite_mid : Cert.Pre_finite_mid.Facts] (m : (ℓ : Loc Cert.KernelMidIdeal.nD Cert.KernelMidIdeal.τ Cert.KernelMidIdeal.sig) → Buf (Elt Ideal) ℓ) : Prop :=
  ∀ c : Dev Cert.KernelMidIdeal.nD,
    (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.2.2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.2.2.2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.2.2.2.2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.2.2.2.2.2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10))).2.2.2.2.2.2.2.2.2.2 = (fun _ => 1#1)

def Pre_ReferenceMidIdeal (m : (ℓ : Loc Cert.ReferenceMidIdeal.nD Cert.ReferenceMidIdeal.τ Cert.ReferenceMidIdeal.sig) → Buf (Elt Ideal) ℓ) : Prop :=
  True

def Pre_ReferenceMidIdeal_finite_mid [hPre_finite_mid : Cert.Pre_finite_mid.Facts] (m : (ℓ : Loc Cert.ReferenceMidIdeal.nD Cert.ReferenceMidIdeal.τ Cert.ReferenceMidIdeal.sig) → Buf (Elt Ideal) ℓ) : Prop :=
  ∀ c : Dev Cert.ReferenceMidIdeal.nD,
    (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.2.2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.2.2.2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.2.2.2.2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.2.2.2.2.2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10))).2.2.2.2.2.2.2.2.2.2 = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0))) = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0))) = (fun _ => 1#1)

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_KernelDxIdeal_finite_dx [hPre_finite_dx : Cert.Pre_finite_dx.Facts] (m : (ℓ : Loc Cert.KernelDxIdeal.nD Cert.KernelDxIdeal.τ Cert.KernelDxIdeal.sig) → Buf (Elt Ideal) ℓ) : Prop :=
  ∀ c : Dev Cert.KernelDxIdeal.nD,
    (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7)) (m ((c.tc : Thread Cert.KernelDxIdeal.nD Cert.KernelDxIdeal.τ).loc Cert.KernelDxIdeal.main_arg8))).1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7)) (m ((c.tc : Thread Cert.KernelDxIdeal.nD Cert.KernelDxIdeal.τ).loc Cert.KernelDxIdeal.main_arg8))).2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7)) (m ((c.tc : Thread Cert.KernelDxIdeal.nD Cert.KernelDxIdeal.τ).loc Cert.KernelDxIdeal.main_arg8))).2.2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7)) (m ((c.tc : Thread Cert.KernelDxIdeal.nD Cert.KernelDxIdeal.τ).loc Cert.KernelDxIdeal.main_arg8))).2.2.2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7)) (m ((c.tc : Thread Cert.KernelDxIdeal.nD Cert.KernelDxIdeal.τ).loc Cert.KernelDxIdeal.main_arg8))).2.2.2.2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7)) (m ((c.tc : Thread Cert.KernelDxIdeal.nD Cert.KernelDxIdeal.τ).loc Cert.KernelDxIdeal.main_arg8))).2.2.2.2.2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7)) (m ((c.tc : Thread Cert.KernelDxIdeal.nD Cert.KernelDxIdeal.τ).loc Cert.KernelDxIdeal.main_arg8))).2.2.2.2.2.2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7)) (m ((c.tc : Thread Cert.KernelDxIdeal.nD Cert.KernelDxIdeal.τ).loc Cert.KernelDxIdeal.main_arg8))).2.2.2.2.2.2.2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7)) (m ((c.tc : Thread Cert.KernelDxIdeal.nD Cert.KernelDxIdeal.τ).loc Cert.KernelDxIdeal.main_arg8))).2.2.2.2.2.2.2.2 = (fun _ => 1#1)

def Pre_ReferenceDxIdeal (m : (ℓ : Loc Cert.ReferenceDxIdeal.nD Cert.ReferenceDxIdeal.τ Cert.ReferenceDxIdeal.sig) → Buf (Elt Ideal) ℓ) : Prop :=
  True

def Pre_ReferenceDxIdeal_finite_dx [hPre_finite_dx : Cert.Pre_finite_dx.Facts] (m : (ℓ : Loc Cert.ReferenceDxIdeal.nD Cert.ReferenceDxIdeal.τ Cert.ReferenceDxIdeal.sig) → Buf (Elt Ideal) ℓ) : Prop :=
  ∀ c : Dev Cert.ReferenceDxIdeal.nD,
    (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7)) (m ((c.tc : Thread Cert.ReferenceDxIdeal.nD Cert.ReferenceDxIdeal.τ).loc Cert.ReferenceDxIdeal.main_arg8))).1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7)) (m ((c.tc : Thread Cert.ReferenceDxIdeal.nD Cert.ReferenceDxIdeal.τ).loc Cert.ReferenceDxIdeal.main_arg8))).2.1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7)) (m ((c.tc : Thread Cert.ReferenceDxIdeal.nD Cert.ReferenceDxIdeal.τ).loc Cert.ReferenceDxIdeal.main_arg8))).2.2.1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7)) (m ((c.tc : Thread Cert.ReferenceDxIdeal.nD Cert.ReferenceDxIdeal.τ).loc Cert.ReferenceDxIdeal.main_arg8))).2.2.2.1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7)) (m ((c.tc : Thread Cert.ReferenceDxIdeal.nD Cert.ReferenceDxIdeal.τ).loc Cert.ReferenceDxIdeal.main_arg8))).2.2.2.2.1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7)) (m ((c.tc : Thread Cert.ReferenceDxIdeal.nD Cert.ReferenceDxIdeal.τ).loc Cert.ReferenceDxIdeal.main_arg8))).2.2.2.2.2.1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7)) (m ((c.tc : Thread Cert.ReferenceDxIdeal.nD Cert.ReferenceDxIdeal.τ).loc Cert.ReferenceDxIdeal.main_arg8))).2.2.2.2.2.2.1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7)) (m ((c.tc : Thread Cert.ReferenceDxIdeal.nD Cert.ReferenceDxIdeal.τ).loc Cert.ReferenceDxIdeal.main_arg8))).2.2.2.2.2.2.2.1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7)) (m ((c.tc : Thread Cert.ReferenceDxIdeal.nD Cert.ReferenceDxIdeal.τ).loc Cert.ReferenceDxIdeal.main_arg8))).2.2.2.2.2.2.2.2 = (fun _ => 1#1)

def Pre_KernelHgf (m : (ℓ : Loc Cert.KernelHgf.nD Cert.KernelHgf.τ Cert.KernelHgf.sig) → Buf (Elt Bits) ℓ) : Prop :=
  True

def Pre_KernelHgfIdeal (m : (ℓ : Loc Cert.KernelHgfIdeal.nD Cert.KernelHgfIdeal.τ Cert.KernelHgfIdeal.sig) → Buf (Elt Ideal) ℓ) : Prop :=
  True

def Pre_ReferenceHgfIdeal (m : (ℓ : Loc Cert.ReferenceHgfIdeal.nD Cert.ReferenceHgfIdeal.τ Cert.ReferenceHgfIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelHg (m : (ℓ : Loc Cert.KernelHg.nD Cert.KernelHg.τ Cert.KernelHg.sig) → Buf (Elt Bits) ℓ) : Prop :=
  True

def Pre_KernelHgIdeal (m : (ℓ : Loc Cert.KernelHgIdeal.nD Cert.KernelHgIdeal.τ Cert.KernelHgIdeal.sig) → Buf (Elt Ideal) ℓ) : Prop :=
  True

def quiescent_KernelSmall [hKernelSmall : Cert.KernelSmall.Facts] : Prop :=
  ∀ (m : (ℓ : Loc Cert.KernelSmall.nD Cert.KernelSmall.τ Cert.KernelSmall.sig) → Buf (Elt Bits) ℓ) (g : Dev Cert.KernelSmall.nD → PrngReg), Pre_KernelSmall m →
    θ_run (Cert.KernelSmall.defs (F := Bits)) (onTc (τ := Cert.KernelSmall.τ) (Cert.KernelSmall.main (F := Bits))) ⟨m, fun _ => 0, g⟩ (fun r => (∀ c : Dev Cert.KernelSmall.nD,
      r.2.mem ((c.tc : Thread Cert.KernelSmall.nD Cert.KernelSmall.τ).loc Cert.KernelSmall.main_arg0) = m ((c.tc : Thread Cert.KernelSmall.nD Cert.KernelSmall.τ).loc Cert.KernelSmall.main_arg0)
      ∧ r.2.mem ((c.tc : Thread Cert.KernelSmall.nD Cert.KernelSmall.τ).loc Cert.KernelSmall.main_arg1) = m ((c.tc : Thread Cert.KernelSmall.nD Cert.KernelSmall.τ).loc Cert.KernelSmall.main_arg1)
      ∧ r.2.mem ((c.tc : Thread Cert.KernelSmall.nD Cert.KernelSmall.τ).loc Cert.KernelSmall.main_arg2) = m ((c.tc : Thread Cert.KernelSmall.nD Cert.KernelSmall.τ).loc Cert.KernelSmall.main_arg2)
      ∧ r.2.mem ((c.tc : Thread Cert.KernelSmall.nD Cert.KernelSmall.τ).loc Cert.KernelSmall.main_arg3) = m ((c.tc : Thread Cert.KernelSmall.nD Cert.KernelSmall.τ).loc Cert.KernelSmall.main_arg3)
      ∧ r.2.mem ((c.tc : Thread Cert.KernelSmall.nD Cert.KernelSmall.τ).loc Cert.KernelSmall.main_arg4) = m ((c.tc : Thread Cert.KernelSmall.nD Cert.KernelSmall.τ).loc Cert.KernelSmall.main_arg4)
      ∧ r.2.mem ((c.tc : Thread Cert.KernelSmall.nD Cert.KernelSmall.τ).loc Cert.KernelSmall.main_arg5) = m ((c.tc : Thread Cert.KernelSmall.nD Cert.KernelSmall.τ).loc Cert.KernelSmall.main_arg5)
      ∧ r.2.mem ((c.tc : Thread Cert.KernelSmall.nD Cert.KernelSmall.τ).loc Cert.KernelSmall.main_arg6) = m ((c.tc : Thread Cert.KernelSmall.nD Cert.KernelSmall.τ).loc Cert.KernelSmall.main_arg6)
      ∧ r.2.mem ((c.tc : Thread Cert.KernelSmall.nD Cert.KernelSmall.τ).loc Cert.KernelSmall.main_arg7) = m ((c.tc : Thread Cert.KernelSmall.nD Cert.KernelSmall.τ).loc Cert.KernelSmall.main_arg7)
      ∧ r.2.mem ((c.tc : Thread Cert.KernelSmall.nD Cert.KernelSmall.τ).loc Cert.KernelSmall.main_arg8) = m ((c.tc : Thread Cert.KernelSmall.nD Cert.KernelSmall.τ).loc Cert.KernelSmall.main_arg8)
      ∧ r.2.mem ((c.tc : Thread Cert.KernelSmall.nD Cert.KernelSmall.τ).loc Cert.KernelSmall.main_arg9) = m ((c.tc : Thread Cert.KernelSmall.nD Cert.KernelSmall.τ).loc Cert.KernelSmall.main_arg9)
      ∧ r.2.mem ((c.tc : Thread Cert.KernelSmall.nD Cert.KernelSmall.τ).loc Cert.KernelSmall.main_arg10) = m ((c.tc : Thread Cert.KernelSmall.nD Cert.KernelSmall.τ).loc Cert.KernelSmall.main_arg10)
      ∧ r.2.mem ((c.tc : Thread Cert.KernelSmall.nD Cert.KernelSmall.τ).loc Cert.KernelSmall.main_arg11) = m ((c.tc : Thread Cert.KernelSmall.nD Cert.KernelSmall.τ).loc Cert.KernelSmall.main_arg11)
      ∧ r.2.mem ((c.tc : Thread Cert.KernelSmall.nD Cert.KernelSmall.τ).loc Cert.KernelSmall.main_arg12) = m ((c.tc : Thread Cert.KernelSmall.nD Cert.KernelSmall.τ).loc Cert.KernelSmall.main_arg12)
      ∧ r.2.mem ((c.tc : Thread Cert.KernelSmall.nD Cert.KernelSmall.τ).loc Cert.KernelSmall.main_arg13) = m ((c.tc : Thread Cert.KernelSmall.nD Cert.KernelSmall.τ).loc Cert.KernelSmall.main_arg13)
      ∧ r.2.mem ((c.tc : Thread Cert.KernelSmall.nD Cert.KernelSmall.τ).loc Cert.KernelSmall.main_arg14) = m ((c.tc : Thread Cert.KernelSmall.nD Cert.KernelSmall.τ).loc Cert.KernelSmall.main_arg14)
      ∧ r.2.mem ((c.tc : Thread Cert.KernelSmall.nD Cert.KernelSmall.τ).loc Cert.KernelSmall.main_arg15) = m ((c.tc : Thread Cert.KernelSmall.nD Cert.KernelSmall.τ).loc Cert.KernelSmall.main_arg15)
      ∧ r.2.mem ((c.tc : Thread Cert.KernelSmall.nD Cert.KernelSmall.τ).loc Cert.KernelSmall.main_arg16) = m ((c.tc : Thread Cert.KernelSmall.nD Cert.KernelSmall.τ).loc Cert.KernelSmall.main_arg16)
      ∧ r.2.mem ((c.tc : Thread Cert.KernelSmall.nD Cert.KernelSmall.τ).loc Cert.KernelSmall.main_arg17) = m ((c.tc : Thread Cert.KernelSmall.nD Cert.KernelSmall.τ).loc Cert.KernelSmall.main_arg17)
      ∧ r.2.mem ((c.tc : Thread Cert.KernelSmall.nD Cert.KernelSmall.τ).loc Cert.KernelSmall.main_arg18) = m ((c.tc : Thread Cert.KernelSmall.nD Cert.KernelSmall.τ).loc Cert.KernelSmall.main_arg18)
      ∧ r.2.mem ((c.tc : Thread Cert.KernelSmall.nD Cert.KernelSmall.τ).loc Cert.KernelSmall.main_arg19) = m ((c.tc : Thread Cert.KernelSmall.nD Cert.KernelSmall.τ).loc Cert.KernelSmall.main_arg19)
      ∧ r.2.mem ((c.tc : Thread Cert.KernelSmall.nD Cert.KernelSmall.τ).loc Cert.KernelSmall.main_arg20) = m ((c.tc : Thread Cert.KernelSmall.nD Cert.KernelSmall.τ).loc Cert.KernelSmall.main_arg20))
      ∧ r.2.sem = fun _ => 0)

def quiescent_KernelSmallIdeal [hKernelSmallIdeal : Cert.KernelSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
      ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2)
      ∧ r.2.mem ((c.tc : Thread Cert.KernelSmallIdeal.nD Cert.KernelSmallIdeal.τ).loc Cert.KernelSmallIdeal.main_arg3) = m ((c.tc : Thread Cert.KernelSmallIdeal.nD Cert.KernelSmallIdeal.τ).loc Cert.KernelSmallIdeal.main_arg3)
      ∧ r.2.mem ((c.tc : Thread Cert.KernelSmallIdeal.nD Cert.KernelSmallIdeal.τ).loc Cert.KernelSmallIdeal.main_arg4) = m ((c.tc : Thread Cert.KernelSmallIdeal.nD Cert.KernelSmallIdeal.τ).loc Cert.KernelSmallIdeal.main_arg4)
      ∧ r.2.mem ((c.tc : Thread Cert.KernelSmallIdeal.nD Cert.KernelSmallIdeal.τ).loc Cert.KernelSmallIdeal.main_arg5) = m ((c.tc : Thread Cert.KernelSmallIdeal.nD Cert.KernelSmallIdeal.τ).loc Cert.KernelSmallIdeal.main_arg5)
      ∧ r.2.mem ((c.tc : Thread Cert.KernelSmallIdeal.nD Cert.KernelSmallIdeal.τ).loc Cert.KernelSmallIdeal.main_arg6) = m ((c.tc : Thread Cert.KernelSmallIdeal.nD Cert.KernelSmallIdeal.τ).loc Cert.KernelSmallIdeal.main_arg6)
      ∧ r.2.mem ((c.tc : Thread Cert.KernelSmallIdeal.nD Cert.KernelSmallIdeal.τ).loc Cert.KernelSmallIdeal.main_arg7) = m ((c.tc : Thread Cert.KernelSmallIdeal.nD Cert.KernelSmallIdeal.τ).loc Cert.KernelSmallIdeal.main_arg7)
      ∧ r.2.mem ((c.tc : Thread Cert.KernelSmallIdeal.nD Cert.KernelSmallIdeal.τ).loc Cert.KernelSmallIdeal.main_arg8) = m ((c.tc : Thread Cert.KernelSmallIdeal.nD Cert.KernelSmallIdeal.τ).loc Cert.KernelSmallIdeal.main_arg8)
      ∧ r.2.mem ((c.tc : Thread Cert.KernelSmallIdeal.nD Cert.KernelSmallIdeal.τ).loc Cert.KernelSmallIdeal.main_arg9) = m ((c.tc : Thread Cert.KernelSmallIdeal.nD Cert.KernelSmallIdeal.τ).loc Cert.KernelSmallIdeal.main_arg9)
      ∧ r.2.mem ((c.tc : Thread Cert.KernelSmallIdeal.nD Cert.KernelSmallIdeal.τ).loc Cert.KernelSmallIdeal.main_arg10) = m ((c.tc : Thread Cert.KernelSmallIdeal.nD Cert.KernelSmallIdeal.τ).loc Cert.KernelSmallIdeal.main_arg10)
      ∧ r.2.mem ((c.tc : Thread Cert.KernelSmallIdeal.nD Cert.KernelSmallIdeal.τ).loc Cert.KernelSmallIdeal.main_arg11) = m ((c.tc : Thread Cert.KernelSmallIdeal.nD Cert.KernelSmallIdeal.τ).loc Cert.KernelSmallIdeal.main_arg11)
      ∧ r.2.mem ((c.tc : Thread Cert.KernelSmallIdeal.nD Cert.KernelSmallIdeal.τ).loc Cert.KernelSmallIdeal.main_arg12) = m ((c.tc : Thread Cert.KernelSmallIdeal.nD Cert.KernelSmallIdeal.τ).loc Cert.KernelSmallIdeal.main_arg12)
      ∧ r.2.mem ((c.tc : Thread Cert.KernelSmallIdeal.nD Cert.KernelSmallIdeal.τ).loc Cert.KernelSmallIdeal.main_arg13) = m ((c.tc : Thread Cert.KernelSmallIdeal.nD Cert.KernelSmallIdeal.τ).loc Cert.KernelSmallIdeal.main_arg13)
      ∧ r.2.mem ((c.tc : Thread Cert.KernelSmallIdeal.nD Cert.KernelSmallIdeal.τ).loc Cert.KernelSmallIdeal.main_arg14) = m ((c.tc : Thread Cert.KernelSmallIdeal.nD Cert.KernelSmallIdeal.τ).loc Cert.KernelSmallIdeal.main_arg14)
      ∧ r.2.mem ((c.tc : Thread Cert.KernelSmallIdeal.nD Cert.KernelSmallIdeal.τ).loc Cert.KernelSmallIdeal.main_arg15) = m ((c.tc : Thread Cert.KernelSmallIdeal.nD Cert.KernelSmallIdeal.τ).loc Cert.KernelSmallIdeal.main_arg15)
      ∧ r.2.mem ((c.tc : Thread Cert.KernelSmallIdeal.nD Cert.KernelSmallIdeal.τ).loc Cert.KernelSmallIdeal.main_arg16) = m ((c.tc : Thread Cert.KernelSmallIdeal.nD Cert.KernelSmallIdeal.τ).loc Cert.KernelSmallIdeal.main_arg16)
      ∧ r.2.mem ((c.tc : Thread Cert.KernelSmallIdeal.nD Cert.KernelSmallIdeal.τ).loc Cert.KernelSmallIdeal.main_arg17) = m ((c.tc : Thread Cert.KernelSmallIdeal.nD Cert.KernelSmallIdeal.τ).loc Cert.KernelSmallIdeal.main_arg17)
      ∧ r.2.mem ((c.tc : Thread Cert.KernelSmallIdeal.nD Cert.KernelSmallIdeal.τ).loc Cert.KernelSmallIdeal.main_arg18) = m ((c.tc : Thread Cert.KernelSmallIdeal.nD Cert.KernelSmallIdeal.τ).loc Cert.KernelSmallIdeal.main_arg18)
      ∧ r.2.mem ((c.tc : Thread Cert.KernelSmallIdeal.nD Cert.KernelSmallIdeal.τ).loc Cert.KernelSmallIdeal.main_arg19) = m ((c.tc : Thread Cert.KernelSmallIdeal.nD Cert.KernelSmallIdeal.τ).loc Cert.KernelSmallIdeal.main_arg19)
      ∧ r.2.mem ((c.tc : Thread Cert.KernelSmallIdeal.nD Cert.KernelSmallIdeal.τ).loc Cert.KernelSmallIdeal.main_arg20) = m ((c.tc : Thread Cert.KernelSmallIdeal.nD Cert.KernelSmallIdeal.τ).loc Cert.KernelSmallIdeal.main_arg20))
      ∧ r.2.sem = fun _ => 0)

def quiescent_KernelSmallIdeal_pre_finite_small [hKernelSmallIdeal : Cert.KernelSmallIdeal.Facts] [hPre_finite_small : Cert.Pre_finite_small.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal_finite_small m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
      ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2)
      ∧ r.2.mem ((c.tc : Thread Cert.KernelSmallIdeal.nD Cert.KernelSmallIdeal.τ).loc Cert.KernelSmallIdeal.main_arg3) = m ((c.tc : Thread Cert.KernelSmallIdeal.nD Cert.KernelSmallIdeal.τ).loc Cert.KernelSmallIdeal.main_arg3)
      ∧ r.2.mem ((c.tc : Thread Cert.KernelSmallIdeal.nD Cert.KernelSmallIdeal.τ).loc Cert.KernelSmallIdeal.main_arg4) = m ((c.tc : Thread Cert.KernelSmallIdeal.nD Cert.KernelSmallIdeal.τ).loc Cert.KernelSmallIdeal.main_arg4)
      ∧ r.2.mem ((c.tc : Thread Cert.KernelSmallIdeal.nD Cert.KernelSmallIdeal.τ).loc Cert.KernelSmallIdeal.main_arg5) = m ((c.tc : Thread Cert.KernelSmallIdeal.nD Cert.KernelSmallIdeal.τ).loc Cert.KernelSmallIdeal.main_arg5)
      ∧ r.2.mem ((c.tc : Thread Cert.KernelSmallIdeal.nD Cert.KernelSmallIdeal.τ).loc Cert.KernelSmallIdeal.main_arg6) = m ((c.tc : Thread Cert.KernelSmallIdeal.nD Cert.KernelSmallIdeal.τ).loc Cert.KernelSmallIdeal.main_arg6)
      ∧ r.2.mem ((c.tc : Thread Cert.KernelSmallIdeal.nD Cert.KernelSmallIdeal.τ).loc Cert.KernelSmallIdeal.main_arg7) = m ((c.tc : Thread Cert.KernelSmallIdeal.nD Cert.KernelSmallIdeal.τ).loc Cert.KernelSmallIdeal.main_arg7)
      ∧ r.2.mem ((c.tc : Thread Cert.KernelSmallIdeal.nD Cert.KernelSmallIdeal.τ).loc Cert.KernelSmallIdeal.main_arg8) = m ((c.tc : Thread Cert.KernelSmallIdeal.nD Cert.KernelSmallIdeal.τ).loc Cert.KernelSmallIdeal.main_arg8)
      ∧ r.2.mem ((c.tc : Thread Cert.KernelSmallIdeal.nD Cert.KernelSmallIdeal.τ).loc Cert.KernelSmallIdeal.main_arg9) = m ((c.tc : Thread Cert.KernelSmallIdeal.nD Cert.KernelSmallIdeal.τ).loc Cert.KernelSmallIdeal.main_arg9)
      ∧ r.2.mem ((c.tc : Thread Cert.KernelSmallIdeal.nD Cert.KernelSmallIdeal.τ).loc Cert.KernelSmallIdeal.main_arg10) = m ((c.tc : Thread Cert.KernelSmallIdeal.nD Cert.KernelSmallIdeal.τ).loc Cert.KernelSmallIdeal.main_arg10)
      ∧ r.2.mem ((c.tc : Thread Cert.KernelSmallIdeal.nD Cert.KernelSmallIdeal.τ).loc Cert.KernelSmallIdeal.main_arg11) = m ((c.tc : Thread Cert.KernelSmallIdeal.nD Cert.KernelSmallIdeal.τ).loc Cert.KernelSmallIdeal.main_arg11)
      ∧ r.2.mem ((c.tc : Thread Cert.KernelSmallIdeal.nD Cert.KernelSmallIdeal.τ).loc Cert.KernelSmallIdeal.main_arg12) = m ((c.tc : Thread Cert.KernelSmallIdeal.nD Cert.KernelSmallIdeal.τ).loc Cert.KernelSmallIdeal.main_arg12)
      ∧ r.2.mem ((c.tc : Thread Cert.KernelSmallIdeal.nD Cert.KernelSmallIdeal.τ).loc Cert.KernelSmallIdeal.main_arg13) = m ((c.tc : Thread Cert.KernelSmallIdeal.nD Cert.KernelSmallIdeal.τ).loc Cert.KernelSmallIdeal.main_arg13)
      ∧ r.2.mem ((c.tc : Thread Cert.KernelSmallIdeal.nD Cert.KernelSmallIdeal.τ).loc Cert.KernelSmallIdeal.main_arg14) = m ((c.tc : Thread Cert.KernelSmallIdeal.nD Cert.KernelSmallIdeal.τ).loc Cert.KernelSmallIdeal.main_arg14)
      ∧ r.2.mem ((c.tc : Thread Cert.KernelSmallIdeal.nD Cert.KernelSmallIdeal.τ).loc Cert.KernelSmallIdeal.main_arg15) = m ((c.tc : Thread Cert.KernelSmallIdeal.nD Cert.KernelSmallIdeal.τ).loc Cert.KernelSmallIdeal.main_arg15)
      ∧ r.2.mem ((c.tc : Thread Cert.KernelSmallIdeal.nD Cert.KernelSmallIdeal.τ).loc Cert.KernelSmallIdeal.main_arg16) = m ((c.tc : Thread Cert.KernelSmallIdeal.nD Cert.KernelSmallIdeal.τ).loc Cert.KernelSmallIdeal.main_arg16)
      ∧ r.2.mem ((c.tc : Thread Cert.KernelSmallIdeal.nD Cert.KernelSmallIdeal.τ).loc Cert.KernelSmallIdeal.main_arg17) = m ((c.tc : Thread Cert.KernelSmallIdeal.nD Cert.KernelSmallIdeal.τ).loc Cert.KernelSmallIdeal.main_arg17)
      ∧ r.2.mem ((c.tc : Thread Cert.KernelSmallIdeal.nD Cert.KernelSmallIdeal.τ).loc Cert.KernelSmallIdeal.main_arg18) = m ((c.tc : Thread Cert.KernelSmallIdeal.nD Cert.KernelSmallIdeal.τ).loc Cert.KernelSmallIdeal.main_arg18)
      ∧ r.2.mem ((c.tc : Thread Cert.KernelSmallIdeal.nD Cert.KernelSmallIdeal.τ).loc Cert.KernelSmallIdeal.main_arg19) = m ((c.tc : Thread Cert.KernelSmallIdeal.nD Cert.KernelSmallIdeal.τ).loc Cert.KernelSmallIdeal.main_arg19)
      ∧ r.2.mem ((c.tc : Thread Cert.KernelSmallIdeal.nD Cert.KernelSmallIdeal.τ).loc Cert.KernelSmallIdeal.main_arg20) = m ((c.tc : Thread Cert.KernelSmallIdeal.nD Cert.KernelSmallIdeal.τ).loc Cert.KernelSmallIdeal.main_arg20))
      ∧ r.2.sem = fun _ => 0)

def quiescent_ReferenceSmallIdeal [hReferenceSmallIdeal : Cert.ReferenceSmallIdeal.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1)
      ∧ r.2.mem ((c.tc : Thread Cert.ReferenceSmallIdeal.nD Cert.ReferenceSmallIdeal.τ).loc Cert.ReferenceSmallIdeal.main_arg2) = m ((c.tc : Thread Cert.ReferenceSmallIdeal.nD Cert.ReferenceSmallIdeal.τ).loc Cert.ReferenceSmallIdeal.main_arg2)
      ∧ r.2.mem ((c.tc : Thread Cert.ReferenceSmallIdeal.nD Cert.ReferenceSmallIdeal.τ).loc Cert.ReferenceSmallIdeal.main_arg3) = m ((c.tc : Thread Cert.ReferenceSmallIdeal.nD Cert.ReferenceSmallIdeal.τ).loc Cert.ReferenceSmallIdeal.main_arg3)
      ∧ r.2.mem ((c.tc : Thread Cert.ReferenceSmallIdeal.nD Cert.ReferenceSmallIdeal.τ).loc Cert.ReferenceSmallIdeal.main_arg4) = m ((c.tc : Thread Cert.ReferenceSmallIdeal.nD Cert.ReferenceSmallIdeal.τ).loc Cert.ReferenceSmallIdeal.main_arg4)
      ∧ r.2.mem ((c.tc : Thread Cert.ReferenceSmallIdeal.nD Cert.ReferenceSmallIdeal.τ).loc Cert.ReferenceSmallIdeal.main_arg5) = m ((c.tc : Thread Cert.ReferenceSmallIdeal.nD Cert.ReferenceSmallIdeal.τ).loc Cert.ReferenceSmallIdeal.main_arg5)
      ∧ r.2.mem ((c.tc : Thread Cert.ReferenceSmallIdeal.nD Cert.ReferenceSmallIdeal.τ).loc Cert.ReferenceSmallIdeal.main_arg6) = m ((c.tc : Thread Cert.ReferenceSmallIdeal.nD Cert.ReferenceSmallIdeal.τ).loc Cert.ReferenceSmallIdeal.main_arg6)
      ∧ r.2.mem ((c.tc : Thread Cert.ReferenceSmallIdeal.nD Cert.ReferenceSmallIdeal.τ).loc Cert.ReferenceSmallIdeal.main_arg7) = m ((c.tc : Thread Cert.ReferenceSmallIdeal.nD Cert.ReferenceSmallIdeal.τ).loc Cert.ReferenceSmallIdeal.main_arg7)
      ∧ r.2.mem ((c.tc : Thread Cert.ReferenceSmallIdeal.nD Cert.ReferenceSmallIdeal.τ).loc Cert.ReferenceSmallIdeal.main_arg8) = m ((c.tc : Thread Cert.ReferenceSmallIdeal.nD Cert.ReferenceSmallIdeal.τ).loc Cert.ReferenceSmallIdeal.main_arg8)
      ∧ r.2.mem ((c.tc : Thread Cert.ReferenceSmallIdeal.nD Cert.ReferenceSmallIdeal.τ).loc Cert.ReferenceSmallIdeal.main_arg9) = m ((c.tc : Thread Cert.ReferenceSmallIdeal.nD Cert.ReferenceSmallIdeal.τ).loc Cert.ReferenceSmallIdeal.main_arg9)
      ∧ r.2.mem ((c.tc : Thread Cert.ReferenceSmallIdeal.nD Cert.ReferenceSmallIdeal.τ).loc Cert.ReferenceSmallIdeal.main_arg10) = m ((c.tc : Thread Cert.ReferenceSmallIdeal.nD Cert.ReferenceSmallIdeal.τ).loc Cert.ReferenceSmallIdeal.main_arg10)
      ∧ r.2.mem ((c.tc : Thread Cert.ReferenceSmallIdeal.nD Cert.ReferenceSmallIdeal.τ).loc Cert.ReferenceSmallIdeal.main_arg11) = m ((c.tc : Thread Cert.ReferenceSmallIdeal.nD Cert.ReferenceSmallIdeal.τ).loc Cert.ReferenceSmallIdeal.main_arg11)
      ∧ r.2.mem ((c.tc : Thread Cert.ReferenceSmallIdeal.nD Cert.ReferenceSmallIdeal.τ).loc Cert.ReferenceSmallIdeal.main_arg12) = m ((c.tc : Thread Cert.ReferenceSmallIdeal.nD Cert.ReferenceSmallIdeal.τ).loc Cert.ReferenceSmallIdeal.main_arg12)
      ∧ r.2.mem ((c.tc : Thread Cert.ReferenceSmallIdeal.nD Cert.ReferenceSmallIdeal.τ).loc Cert.ReferenceSmallIdeal.main_arg13) = m ((c.tc : Thread Cert.ReferenceSmallIdeal.nD Cert.ReferenceSmallIdeal.τ).loc Cert.ReferenceSmallIdeal.main_arg13)
      ∧ r.2.mem ((c.tc : Thread Cert.ReferenceSmallIdeal.nD Cert.ReferenceSmallIdeal.τ).loc Cert.ReferenceSmallIdeal.main_arg14) = m ((c.tc : Thread Cert.ReferenceSmallIdeal.nD Cert.ReferenceSmallIdeal.τ).loc Cert.ReferenceSmallIdeal.main_arg14)
      ∧ r.2.mem ((c.tc : Thread Cert.ReferenceSmallIdeal.nD Cert.ReferenceSmallIdeal.τ).loc Cert.ReferenceSmallIdeal.main_arg15) = m ((c.tc : Thread Cert.ReferenceSmallIdeal.nD Cert.ReferenceSmallIdeal.τ).loc Cert.ReferenceSmallIdeal.main_arg15)
      ∧ r.2.mem ((c.tc : Thread Cert.ReferenceSmallIdeal.nD Cert.ReferenceSmallIdeal.τ).loc Cert.ReferenceSmallIdeal.main_arg16) = m ((c.tc : Thread Cert.ReferenceSmallIdeal.nD Cert.ReferenceSmallIdeal.τ).loc Cert.ReferenceSmallIdeal.main_arg16)
      ∧ r.2.mem ((c.tc : Thread Cert.ReferenceSmallIdeal.nD Cert.ReferenceSmallIdeal.τ).loc Cert.ReferenceSmallIdeal.main_arg17) = m ((c.tc : Thread Cert.ReferenceSmallIdeal.nD Cert.ReferenceSmallIdeal.τ).loc Cert.ReferenceSmallIdeal.main_arg17)
      ∧ r.2.mem ((c.tc : Thread Cert.ReferenceSmallIdeal.nD Cert.ReferenceSmallIdeal.τ).loc Cert.ReferenceSmallIdeal.main_arg18) = m ((c.tc : Thread Cert.ReferenceSmallIdeal.nD Cert.ReferenceSmallIdeal.τ).loc Cert.ReferenceSmallIdeal.main_arg18)
      ∧ r.2.mem ((c.tc : Thread Cert.ReferenceSmallIdeal.nD Cert.ReferenceSmallIdeal.τ).loc Cert.ReferenceSmallIdeal.main_arg19) = m ((c.tc : Thread Cert.ReferenceSmallIdeal.nD Cert.ReferenceSmallIdeal.τ).loc Cert.ReferenceSmallIdeal.main_arg19)
      ∧ r.2.mem ((c.tc : Thread Cert.ReferenceSmallIdeal.nD Cert.ReferenceSmallIdeal.τ).loc Cert.ReferenceSmallIdeal.main_arg20) = m ((c.tc : Thread Cert.ReferenceSmallIdeal.nD Cert.ReferenceSmallIdeal.τ).loc Cert.ReferenceSmallIdeal.main_arg20))
      ∧ r.2.sem = fun _ => 0)

def quiescent_ReferenceSmallIdeal_pre_finite_small [hReferenceSmallIdeal : Cert.ReferenceSmallIdeal.Facts] [hPre_finite_small : Cert.Pre_finite_small.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal_finite_small m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1)
      ∧ r.2.mem ((c.tc : Thread Cert.ReferenceSmallIdeal.nD Cert.ReferenceSmallIdeal.τ).loc Cert.ReferenceSmallIdeal.main_arg2) = m ((c.tc : Thread Cert.ReferenceSmallIdeal.nD Cert.ReferenceSmallIdeal.τ).loc Cert.ReferenceSmallIdeal.main_arg2)
      ∧ r.2.mem ((c.tc : Thread Cert.ReferenceSmallIdeal.nD Cert.ReferenceSmallIdeal.τ).loc Cert.ReferenceSmallIdeal.main_arg3) = m ((c.tc : Thread Cert.ReferenceSmallIdeal.nD Cert.ReferenceSmallIdeal.τ).loc Cert.ReferenceSmallIdeal.main_arg3)
      ∧ r.2.mem ((c.tc : Thread Cert.ReferenceSmallIdeal.nD Cert.ReferenceSmallIdeal.τ).loc Cert.ReferenceSmallIdeal.main_arg4) = m ((c.tc : Thread Cert.ReferenceSmallIdeal.nD Cert.ReferenceSmallIdeal.τ).loc Cert.ReferenceSmallIdeal.main_arg4)
      ∧ r.2.mem ((c.tc : Thread Cert.ReferenceSmallIdeal.nD Cert.ReferenceSmallIdeal.τ).loc Cert.ReferenceSmallIdeal.main_arg5) = m ((c.tc : Thread Cert.ReferenceSmallIdeal.nD Cert.ReferenceSmallIdeal.τ).loc Cert.ReferenceSmallIdeal.main_arg5)
      ∧ r.2.mem ((c.tc : Thread Cert.ReferenceSmallIdeal.nD Cert.ReferenceSmallIdeal.τ).loc Cert.ReferenceSmallIdeal.main_arg6) = m ((c.tc : Thread Cert.ReferenceSmallIdeal.nD Cert.ReferenceSmallIdeal.τ).loc Cert.ReferenceSmallIdeal.main_arg6)
      ∧ r.2.mem ((c.tc : Thread Cert.ReferenceSmallIdeal.nD Cert.ReferenceSmallIdeal.τ).loc Cert.ReferenceSmallIdeal.main_arg7) = m ((c.tc : Thread Cert.ReferenceSmallIdeal.nD Cert.ReferenceSmallIdeal.τ).loc Cert.ReferenceSmallIdeal.main_arg7)
      ∧ r.2.mem ((c.tc : Thread Cert.ReferenceSmallIdeal.nD Cert.ReferenceSmallIdeal.τ).loc Cert.ReferenceSmallIdeal.main_arg8) = m ((c.tc : Thread Cert.ReferenceSmallIdeal.nD Cert.ReferenceSmallIdeal.τ).loc Cert.ReferenceSmallIdeal.main_arg8)
      ∧ r.2.mem ((c.tc : Thread Cert.ReferenceSmallIdeal.nD Cert.ReferenceSmallIdeal.τ).loc Cert.ReferenceSmallIdeal.main_arg9) = m ((c.tc : Thread Cert.ReferenceSmallIdeal.nD Cert.ReferenceSmallIdeal.τ).loc Cert.ReferenceSmallIdeal.main_arg9)
      ∧ r.2.mem ((c.tc : Thread Cert.ReferenceSmallIdeal.nD Cert.ReferenceSmallIdeal.τ).loc Cert.ReferenceSmallIdeal.main_arg10) = m ((c.tc : Thread Cert.ReferenceSmallIdeal.nD Cert.ReferenceSmallIdeal.τ).loc Cert.ReferenceSmallIdeal.main_arg10)
      ∧ r.2.mem ((c.tc : Thread Cert.ReferenceSmallIdeal.nD Cert.ReferenceSmallIdeal.τ).loc Cert.ReferenceSmallIdeal.main_arg11) = m ((c.tc : Thread Cert.ReferenceSmallIdeal.nD Cert.ReferenceSmallIdeal.τ).loc Cert.ReferenceSmallIdeal.main_arg11)
      ∧ r.2.mem ((c.tc : Thread Cert.ReferenceSmallIdeal.nD Cert.ReferenceSmallIdeal.τ).loc Cert.ReferenceSmallIdeal.main_arg12) = m ((c.tc : Thread Cert.ReferenceSmallIdeal.nD Cert.ReferenceSmallIdeal.τ).loc Cert.ReferenceSmallIdeal.main_arg12)
      ∧ r.2.mem ((c.tc : Thread Cert.ReferenceSmallIdeal.nD Cert.ReferenceSmallIdeal.τ).loc Cert.ReferenceSmallIdeal.main_arg13) = m ((c.tc : Thread Cert.ReferenceSmallIdeal.nD Cert.ReferenceSmallIdeal.τ).loc Cert.ReferenceSmallIdeal.main_arg13)
      ∧ r.2.mem ((c.tc : Thread Cert.ReferenceSmallIdeal.nD Cert.ReferenceSmallIdeal.τ).loc Cert.ReferenceSmallIdeal.main_arg14) = m ((c.tc : Thread Cert.ReferenceSmallIdeal.nD Cert.ReferenceSmallIdeal.τ).loc Cert.ReferenceSmallIdeal.main_arg14)
      ∧ r.2.mem ((c.tc : Thread Cert.ReferenceSmallIdeal.nD Cert.ReferenceSmallIdeal.τ).loc Cert.ReferenceSmallIdeal.main_arg15) = m ((c.tc : Thread Cert.ReferenceSmallIdeal.nD Cert.ReferenceSmallIdeal.τ).loc Cert.ReferenceSmallIdeal.main_arg15)
      ∧ r.2.mem ((c.tc : Thread Cert.ReferenceSmallIdeal.nD Cert.ReferenceSmallIdeal.τ).loc Cert.ReferenceSmallIdeal.main_arg16) = m ((c.tc : Thread Cert.ReferenceSmallIdeal.nD Cert.ReferenceSmallIdeal.τ).loc Cert.ReferenceSmallIdeal.main_arg16)
      ∧ r.2.mem ((c.tc : Thread Cert.ReferenceSmallIdeal.nD Cert.ReferenceSmallIdeal.τ).loc Cert.ReferenceSmallIdeal.main_arg17) = m ((c.tc : Thread Cert.ReferenceSmallIdeal.nD Cert.ReferenceSmallIdeal.τ).loc Cert.ReferenceSmallIdeal.main_arg17)
      ∧ r.2.mem ((c.tc : Thread Cert.ReferenceSmallIdeal.nD Cert.ReferenceSmallIdeal.τ).loc Cert.ReferenceSmallIdeal.main_arg18) = m ((c.tc : Thread Cert.ReferenceSmallIdeal.nD Cert.ReferenceSmallIdeal.τ).loc Cert.ReferenceSmallIdeal.main_arg18)
      ∧ r.2.mem ((c.tc : Thread Cert.ReferenceSmallIdeal.nD Cert.ReferenceSmallIdeal.τ).loc Cert.ReferenceSmallIdeal.main_arg19) = m ((c.tc : Thread Cert.ReferenceSmallIdeal.nD Cert.ReferenceSmallIdeal.τ).loc Cert.ReferenceSmallIdeal.main_arg19)
      ∧ r.2.mem ((c.tc : Thread Cert.ReferenceSmallIdeal.nD Cert.ReferenceSmallIdeal.τ).loc Cert.ReferenceSmallIdeal.main_arg20) = m ((c.tc : Thread Cert.ReferenceSmallIdeal.nD Cert.ReferenceSmallIdeal.τ).loc Cert.ReferenceSmallIdeal.main_arg20))
      ∧ r.2.sem = fun _ => 0)

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0)
      ∧ r.2.mem ((c.tc : Thread Cert.KernelSb.nD Cert.KernelSb.τ).loc Cert.KernelSb.main_arg1) = m ((c.tc : Thread Cert.KernelSb.nD Cert.KernelSb.τ).loc Cert.KernelSb.main_arg1))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1))
      ∧ r.2.sem = fun _ => 0)

def quiescent_KernelSbIdeal_pre_finite_sb [hKernelSbIdeal : Cert.KernelSbIdeal.Facts] [hPre_finite_sb : Cert.Pre_finite_sb.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal_finite_sb m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1))
      ∧ r.2.sem = fun _ => 0)

def quiescent_ReferenceSbIdeal_pre_finite_sb [hReferenceSbIdeal : Cert.ReferenceSbIdeal.Facts] [hPre_finite_sb : Cert.Pre_finite_sb.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal_finite_sb m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6)
      ∧ r.2.mem ((c.tc : Thread Cert.KernelMid.nD Cert.KernelMid.τ).loc Cert.KernelMid.main_arg7) = m ((c.tc : Thread Cert.KernelMid.nD Cert.KernelMid.τ).loc Cert.KernelMid.main_arg7)
      ∧ r.2.mem ((c.tc : Thread Cert.KernelMid.nD Cert.KernelMid.τ).loc Cert.KernelMid.main_arg8) = m ((c.tc : Thread Cert.KernelMid.nD Cert.KernelMid.τ).loc Cert.KernelMid.main_arg8)
      ∧ r.2.mem ((c.tc : Thread Cert.KernelMid.nD Cert.KernelMid.τ).loc Cert.KernelMid.main_arg9) = m ((c.tc : Thread Cert.KernelMid.nD Cert.KernelMid.τ).loc Cert.KernelMid.main_arg9)
      ∧ r.2.mem ((c.tc : Thread Cert.KernelMid.nD Cert.KernelMid.τ).loc Cert.KernelMid.main_arg10) = m ((c.tc : Thread Cert.KernelMid.nD Cert.KernelMid.τ).loc Cert.KernelMid.main_arg10))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
      ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8)
      ∧ r.2.mem ((c.tc : Thread Cert.KernelMidIdeal.nD Cert.KernelMidIdeal.τ).loc Cert.KernelMidIdeal.main_arg9) = m ((c.tc : Thread Cert.KernelMidIdeal.nD Cert.KernelMidIdeal.τ).loc Cert.KernelMidIdeal.main_arg9)
      ∧ r.2.mem ((c.tc : Thread Cert.KernelMidIdeal.nD Cert.KernelMidIdeal.τ).loc Cert.KernelMidIdeal.main_arg10) = m ((c.tc : Thread Cert.KernelMidIdeal.nD Cert.KernelMidIdeal.τ).loc Cert.KernelMidIdeal.main_arg10))
      ∧ r.2.sem = fun _ => 0)

def quiescent_KernelMidIdeal_pre_finite_mid [hKernelMidIdeal : Cert.KernelMidIdeal.Facts] [hPre_finite_mid : Cert.Pre_finite_mid.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal_finite_mid m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
      ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8)
      ∧ r.2.mem ((c.tc : Thread Cert.KernelMidIdeal.nD Cert.KernelMidIdeal.τ).loc Cert.KernelMidIdeal.main_arg9) = m ((c.tc : Thread Cert.KernelMidIdeal.nD Cert.KernelMidIdeal.τ).loc Cert.KernelMidIdeal.main_arg9)
      ∧ r.2.mem ((c.tc : Thread Cert.KernelMidIdeal.nD Cert.KernelMidIdeal.τ).loc Cert.KernelMidIdeal.main_arg10) = m ((c.tc : Thread Cert.KernelMidIdeal.nD Cert.KernelMidIdeal.τ).loc Cert.KernelMidIdeal.main_arg10))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7)
      ∧ r.2.mem ((c.tc : Thread Cert.ReferenceMidIdeal.nD Cert.ReferenceMidIdeal.τ).loc Cert.ReferenceMidIdeal.main_arg8) = m ((c.tc : Thread Cert.ReferenceMidIdeal.nD Cert.ReferenceMidIdeal.τ).loc Cert.ReferenceMidIdeal.main_arg8)
      ∧ r.2.mem ((c.tc : Thread Cert.ReferenceMidIdeal.nD Cert.ReferenceMidIdeal.τ).loc Cert.ReferenceMidIdeal.main_arg9) = m ((c.tc : Thread Cert.ReferenceMidIdeal.nD Cert.ReferenceMidIdeal.τ).loc Cert.ReferenceMidIdeal.main_arg9)
      ∧ r.2.mem ((c.tc : Thread Cert.ReferenceMidIdeal.nD Cert.ReferenceMidIdeal.τ).loc Cert.ReferenceMidIdeal.main_arg10) = m ((c.tc : Thread Cert.ReferenceMidIdeal.nD Cert.ReferenceMidIdeal.τ).loc Cert.ReferenceMidIdeal.main_arg10))
      ∧ r.2.sem = fun _ => 0)

def quiescent_ReferenceMidIdeal_pre_finite_mid [hReferenceMidIdeal : Cert.ReferenceMidIdeal.Facts] [hPre_finite_mid : Cert.Pre_finite_mid.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal_finite_mid m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7)
      ∧ r.2.mem ((c.tc : Thread Cert.ReferenceMidIdeal.nD Cert.ReferenceMidIdeal.τ).loc Cert.ReferenceMidIdeal.main_arg8) = m ((c.tc : Thread Cert.ReferenceMidIdeal.nD Cert.ReferenceMidIdeal.τ).loc Cert.ReferenceMidIdeal.main_arg8)
      ∧ r.2.mem ((c.tc : Thread Cert.ReferenceMidIdeal.nD Cert.ReferenceMidIdeal.τ).loc Cert.ReferenceMidIdeal.main_arg9) = m ((c.tc : Thread Cert.ReferenceMidIdeal.nD Cert.ReferenceMidIdeal.τ).loc Cert.ReferenceMidIdeal.main_arg9)
      ∧ r.2.mem ((c.tc : Thread Cert.ReferenceMidIdeal.nD Cert.ReferenceMidIdeal.τ).loc Cert.ReferenceMidIdeal.main_arg10) = m ((c.tc : Thread Cert.ReferenceMidIdeal.nD Cert.ReferenceMidIdeal.τ).loc Cert.ReferenceMidIdeal.main_arg10))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4)
      ∧ r.2.mem ((c.tc : Thread Cert.KernelDx.nD Cert.KernelDx.τ).loc Cert.KernelDx.main_arg5) = m ((c.tc : Thread Cert.KernelDx.nD Cert.KernelDx.τ).loc Cert.KernelDx.main_arg5)
      ∧ r.2.mem ((c.tc : Thread Cert.KernelDx.nD Cert.KernelDx.τ).loc Cert.KernelDx.main_arg6) = m ((c.tc : Thread Cert.KernelDx.nD Cert.KernelDx.τ).loc Cert.KernelDx.main_arg6)
      ∧ r.2.mem ((c.tc : Thread Cert.KernelDx.nD Cert.KernelDx.τ).loc Cert.KernelDx.main_arg7) = m ((c.tc : Thread Cert.KernelDx.nD Cert.KernelDx.τ).loc Cert.KernelDx.main_arg7)
      ∧ r.2.mem ((c.tc : Thread Cert.KernelDx.nD Cert.KernelDx.τ).loc Cert.KernelDx.main_arg8) = m ((c.tc : Thread Cert.KernelDx.nD Cert.KernelDx.τ).loc Cert.KernelDx.main_arg8))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
      ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6)
      ∧ r.2.mem ((c.tc : Thread Cert.KernelDxIdeal.nD Cert.KernelDxIdeal.τ).loc Cert.KernelDxIdeal.main_arg7) = m ((c.tc : Thread Cert.KernelDxIdeal.nD Cert.KernelDxIdeal.τ).loc Cert.KernelDxIdeal.main_arg7)
      ∧ r.2.mem ((c.tc : Thread Cert.KernelDxIdeal.nD Cert.KernelDxIdeal.τ).loc Cert.KernelDxIdeal.main_arg8) = m ((c.tc : Thread Cert.KernelDxIdeal.nD Cert.KernelDxIdeal.τ).loc Cert.KernelDxIdeal.main_arg8))
      ∧ r.2.sem = fun _ => 0)

def quiescent_KernelDxIdeal_pre_finite_dx [hKernelDxIdeal : Cert.KernelDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal_finite_dx m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
      ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6)
      ∧ r.2.mem ((c.tc : Thread Cert.KernelDxIdeal.nD Cert.KernelDxIdeal.τ).loc Cert.KernelDxIdeal.main_arg7) = m ((c.tc : Thread Cert.KernelDxIdeal.nD Cert.KernelDxIdeal.τ).loc Cert.KernelDxIdeal.main_arg7)
      ∧ r.2.mem ((c.tc : Thread Cert.KernelDxIdeal.nD Cert.KernelDxIdeal.τ).loc Cert.KernelDxIdeal.main_arg8) = m ((c.tc : Thread Cert.KernelDxIdeal.nD Cert.KernelDxIdeal.τ).loc Cert.KernelDxIdeal.main_arg8))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5)
      ∧ r.2.mem ((c.tc : Thread Cert.ReferenceDxIdeal.nD Cert.ReferenceDxIdeal.τ).loc Cert.ReferenceDxIdeal.main_arg6) = m ((c.tc : Thread Cert.ReferenceDxIdeal.nD Cert.ReferenceDxIdeal.τ).loc Cert.ReferenceDxIdeal.main_arg6)
      ∧ r.2.mem ((c.tc : Thread Cert.ReferenceDxIdeal.nD Cert.ReferenceDxIdeal.τ).loc Cert.ReferenceDxIdeal.main_arg7) = m ((c.tc : Thread Cert.ReferenceDxIdeal.nD Cert.ReferenceDxIdeal.τ).loc Cert.ReferenceDxIdeal.main_arg7)
      ∧ r.2.mem ((c.tc : Thread Cert.ReferenceDxIdeal.nD Cert.ReferenceDxIdeal.τ).loc Cert.ReferenceDxIdeal.main_arg8) = m ((c.tc : Thread Cert.ReferenceDxIdeal.nD Cert.ReferenceDxIdeal.τ).loc Cert.ReferenceDxIdeal.main_arg8))
      ∧ r.2.sem = fun _ => 0)

def quiescent_ReferenceDxIdeal_pre_finite_dx [hReferenceDxIdeal : Cert.ReferenceDxIdeal.Facts] [hPre_finite_dx : Cert.Pre_finite_dx.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal_finite_dx m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5)
      ∧ r.2.mem ((c.tc : Thread Cert.ReferenceDxIdeal.nD Cert.ReferenceDxIdeal.τ).loc Cert.ReferenceDxIdeal.main_arg6) = m ((c.tc : Thread Cert.ReferenceDxIdeal.nD Cert.ReferenceDxIdeal.τ).loc Cert.ReferenceDxIdeal.main_arg6)
      ∧ r.2.mem ((c.tc : Thread Cert.ReferenceDxIdeal.nD Cert.ReferenceDxIdeal.τ).loc Cert.ReferenceDxIdeal.main_arg7) = m ((c.tc : Thread Cert.ReferenceDxIdeal.nD Cert.ReferenceDxIdeal.τ).loc Cert.ReferenceDxIdeal.main_arg7)
      ∧ r.2.mem ((c.tc : Thread Cert.ReferenceDxIdeal.nD Cert.ReferenceDxIdeal.τ).loc Cert.ReferenceDxIdeal.main_arg8) = m ((c.tc : Thread Cert.ReferenceDxIdeal.nD Cert.ReferenceDxIdeal.τ).loc Cert.ReferenceDxIdeal.main_arg8))
      ∧ r.2.sem = fun _ => 0)

def quiescent_KernelHgf [hKernelHgf : Cert.KernelHgf.Facts] : Prop :=
  ∀ (m : (ℓ : Loc Cert.KernelHgf.nD Cert.KernelHgf.τ Cert.KernelHgf.sig) → Buf (Elt Bits) ℓ) (g : Dev Cert.KernelHgf.nD → PrngReg), Pre_KernelHgf m →
    θ_run (Cert.KernelHgf.defs (F := Bits)) (onTc (τ := Cert.KernelHgf.τ) (Cert.KernelHgf.main (F := Bits))) ⟨m, fun _ => 0, g⟩ (fun r => (∀ c : Dev Cert.KernelHgf.nD,
      r.2.mem ((c.tc : Thread Cert.KernelHgf.nD Cert.KernelHgf.τ).loc Cert.KernelHgf.main_arg0) = m ((c.tc : Thread Cert.KernelHgf.nD Cert.KernelHgf.τ).loc Cert.KernelHgf.main_arg0)
      ∧ r.2.mem ((c.tc : Thread Cert.KernelHgf.nD Cert.KernelHgf.τ).loc Cert.KernelHgf.main_arg1) = m ((c.tc : Thread Cert.KernelHgf.nD Cert.KernelHgf.τ).loc Cert.KernelHgf.main_arg1))
      ∧ r.2.sem = fun _ => 0)

def quiescent_KernelHgfIdeal [hKernelHgfIdeal : Cert.KernelHgfIdeal.Facts] : Prop :=
  ∀ (m : (ℓ : Loc Cert.KernelHgfIdeal.nD Cert.KernelHgfIdeal.τ Cert.KernelHgfIdeal.sig) → Buf (Elt Ideal) ℓ) (g : Dev Cert.KernelHgfIdeal.nD → PrngReg), Pre_KernelHgfIdeal m →
    θ_run (Cert.KernelHgfIdeal.defs (F := Ideal)) (onTc (τ := Cert.KernelHgfIdeal.τ) (Cert.KernelHgfIdeal.main (F := Ideal))) ⟨m, fun _ => 0, g⟩ (fun r => (∀ c : Dev Cert.KernelHgfIdeal.nD,
      r.2.mem ((c.tc : Thread Cert.KernelHgfIdeal.nD Cert.KernelHgfIdeal.τ).loc Cert.KernelHgfIdeal.main_arg0) = m ((c.tc : Thread Cert.KernelHgfIdeal.nD Cert.KernelHgfIdeal.τ).loc Cert.KernelHgfIdeal.main_arg0)
      ∧ r.2.mem ((c.tc : Thread Cert.KernelHgfIdeal.nD Cert.KernelHgfIdeal.τ).loc Cert.KernelHgfIdeal.main_arg1) = m ((c.tc : Thread Cert.KernelHgfIdeal.nD Cert.KernelHgfIdeal.τ).loc Cert.KernelHgfIdeal.main_arg1))
      ∧ r.2.sem = fun _ => 0)

def quiescent_ReferenceHgfIdeal [hReferenceHgfIdeal : Cert.ReferenceHgfIdeal.Facts] : Prop :=
  ∀ (m : (ℓ : Loc Cert.ReferenceHgfIdeal.nD Cert.ReferenceHgfIdeal.τ Cert.ReferenceHgfIdeal.sig) → Buf (Elt Ideal) ℓ) (g : Dev Cert.ReferenceHgfIdeal.nD → PrngReg), Pre_ReferenceHgfIdeal m →
    θ_run (Cert.ReferenceHgfIdeal.defs (F := Ideal)) (onTc (τ := Cert.ReferenceHgfIdeal.τ) (Cert.ReferenceHgfIdeal.main (F := Ideal))) ⟨m, fun _ => 0, g⟩ (fun r => (∀ c : Dev Cert.ReferenceHgfIdeal.nD,
      r.2.mem ((c.tc : Thread Cert.ReferenceHgfIdeal.nD Cert.ReferenceHgfIdeal.τ).loc Cert.ReferenceHgfIdeal.main_arg0) = m ((c.tc : Thread Cert.ReferenceHgfIdeal.nD Cert.ReferenceHgfIdeal.τ).loc Cert.ReferenceHgfIdeal.main_arg0)
      ∧ r.2.mem ((c.tc : Thread Cert.ReferenceHgfIdeal.nD Cert.ReferenceHgfIdeal.τ).loc Cert.ReferenceHgfIdeal.main_arg1) = m ((c.tc : Thread Cert.ReferenceHgfIdeal.nD Cert.ReferenceHgfIdeal.τ).loc Cert.ReferenceHgfIdeal.main_arg1))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1))
      ∧ r.2.sem = fun _ => 0)

def quiescent_KernelHg [hKernelHg : Cert.KernelHg.Facts] : Prop :=
  ∀ (m : (ℓ : Loc Cert.KernelHg.nD Cert.KernelHg.τ Cert.KernelHg.sig) → Buf (Elt Bits) ℓ) (g : Dev Cert.KernelHg.nD → PrngReg), Pre_KernelHg m →
    θ_run (Cert.KernelHg.defs (F := Bits)) (onTc (τ := Cert.KernelHg.τ) (Cert.KernelHg.main (F := Bits))) ⟨m, fun _ => 0, g⟩ (fun r => (∀ c : Dev Cert.KernelHg.nD,
      r.2.mem ((c.tc : Thread Cert.KernelHg.nD Cert.KernelHg.τ).loc Cert.KernelHg.main_arg0) = m ((c.tc : Thread Cert.KernelHg.nD Cert.KernelHg.τ).loc Cert.KernelHg.main_arg0)
      ∧ r.2.mem ((c.tc : Thread Cert.KernelHg.nD Cert.KernelHg.τ).loc Cert.KernelHg.main_arg1) = m ((c.tc : Thread Cert.KernelHg.nD Cert.KernelHg.τ).loc Cert.KernelHg.main_arg1)
      ∧ r.2.mem ((c.tc : Thread Cert.KernelHg.nD Cert.KernelHg.τ).loc Cert.KernelHg.main_arg2) = m ((c.tc : Thread Cert.KernelHg.nD Cert.KernelHg.τ).loc Cert.KernelHg.main_arg2))
      ∧ r.2.sem = fun _ => 0)

def quiescent_KernelHgIdeal [hKernelHgIdeal : Cert.KernelHgIdeal.Facts] : Prop :=
  ∀ (m : (ℓ : Loc Cert.KernelHgIdeal.nD Cert.KernelHgIdeal.τ Cert.KernelHgIdeal.sig) → Buf (Elt Ideal) ℓ) (g : Dev Cert.KernelHgIdeal.nD → PrngReg), Pre_KernelHgIdeal m →
    θ_run (Cert.KernelHgIdeal.defs (F := Ideal)) (onTc (τ := Cert.KernelHgIdeal.τ) (Cert.KernelHgIdeal.main (F := Ideal))) ⟨m, fun _ => 0, g⟩ (fun r => (∀ c : Dev Cert.KernelHgIdeal.nD,
      r.2.mem ((c.tc : Thread Cert.KernelHgIdeal.nD Cert.KernelHgIdeal.τ).loc Cert.KernelHgIdeal.main_arg0) = m ((c.tc : Thread Cert.KernelHgIdeal.nD Cert.KernelHgIdeal.τ).loc Cert.KernelHgIdeal.main_arg0)
      ∧ r.2.mem ((c.tc : Thread Cert.KernelHgIdeal.nD Cert.KernelHgIdeal.τ).loc Cert.KernelHgIdeal.main_arg1) = m ((c.tc : Thread Cert.KernelHgIdeal.nD Cert.KernelHgIdeal.τ).loc Cert.KernelHgIdeal.main_arg1)
      ∧ r.2.mem ((c.tc : Thread Cert.KernelHgIdeal.nD Cert.KernelHgIdeal.τ).loc Cert.KernelHgIdeal.main_arg2) = m ((c.tc : Thread Cert.KernelHgIdeal.nD Cert.KernelHgIdeal.τ).loc Cert.KernelHgIdeal.main_arg2))
      ∧ r.2.sem = fun _ => 0)

def preserves_KernelSmall_KernelSmallIdeal : Prop :=
  True

def algebraic_KernelSmallIdeal_ReferenceSmallIdeal_pre_finite_small [hKernelSmallIdeal : Cert.KernelSmallIdeal.Facts] [hReferenceSmallIdeal : Cert.ReferenceSmallIdeal.Facts] [hPre_finite_small : Cert.Pre_finite_small.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg)
    (m' : (ℓ : Loc Cert.ReferenceSmallIdeal.nD Cert.ReferenceSmallIdeal.τ Cert.ReferenceSmallIdeal.sig) → Buf (Elt Ideal) ℓ) (g' : Dev Cert.ReferenceSmallIdeal.nD → PrngReg), Pre_KernelSmallIdeal_finite_small m →
    (∀ c : Dev Cert.KernelSmallIdeal.nD,
      m' ((c.tc : Thread Cert.ReferenceSmallIdeal.nD Cert.ReferenceSmallIdeal.τ).loc Cert.ReferenceSmallIdeal.main_arg0) = m ((c.tc : Thread Cert.KernelSmallIdeal.nD Cert.KernelSmallIdeal.τ).loc Cert.KernelSmallIdeal.main_arg0)
      ∧ m' ((c.tc : Thread Cert.ReferenceSmallIdeal.nD Cert.ReferenceSmallIdeal.τ).loc Cert.ReferenceSmallIdeal.main_arg1) = m ((c.tc : Thread Cert.KernelSmallIdeal.nD Cert.KernelSmallIdeal.τ).loc Cert.KernelSmallIdeal.main_arg1)
      ∧ m' ((c.tc : Thread Cert.ReferenceSmallIdeal.nD Cert.ReferenceSmallIdeal.τ).loc Cert.ReferenceSmallIdeal.main_arg2) = m ((c.tc : Thread Cert.KernelSmallIdeal.nD Cert.KernelSmallIdeal.τ).loc Cert.KernelSmallIdeal.main_arg2)
      ∧ m' ((c.tc : Thread Cert.ReferenceSmallIdeal.nD Cert.ReferenceSmallIdeal.τ).loc Cert.ReferenceSmallIdeal.main_arg3) = m ((c.tc : Thread Cert.KernelSmallIdeal.nD Cert.KernelSmallIdeal.τ).loc Cert.KernelSmallIdeal.main_arg3)
      ∧ m' ((c.tc : Thread Cert.ReferenceSmallIdeal.nD Cert.ReferenceSmallIdeal.τ).loc Cert.ReferenceSmallIdeal.main_arg4) = m ((c.tc : Thread Cert.KernelSmallIdeal.nD Cert.KernelSmallIdeal.τ).loc Cert.KernelSmallIdeal.main_arg4)
      ∧ m' ((c.tc : Thread Cert.ReferenceSmallIdeal.nD Cert.ReferenceSmallIdeal.τ).loc Cert.ReferenceSmallIdeal.main_arg5) = m ((c.tc : Thread Cert.KernelSmallIdeal.nD Cert.KernelSmallIdeal.τ).loc Cert.KernelSmallIdeal.main_arg5)
      ∧ m' ((c.tc : Thread Cert.ReferenceSmallIdeal.nD Cert.ReferenceSmallIdeal.τ).loc Cert.ReferenceSmallIdeal.main_arg6) = m ((c.tc : Thread Cert.KernelSmallIdeal.nD Cert.KernelSmallIdeal.τ).loc Cert.KernelSmallIdeal.main_arg6)
      ∧ m' ((c.tc : Thread Cert.ReferenceSmallIdeal.nD Cert.ReferenceSmallIdeal.τ).loc Cert.ReferenceSmallIdeal.main_arg7) = m ((c.tc : Thread Cert.KernelSmallIdeal.nD Cert.KernelSmallIdeal.τ).loc Cert.KernelSmallIdeal.main_arg7)
      ∧ m' ((c.tc : Thread Cert.ReferenceSmallIdeal.nD Cert.ReferenceSmallIdeal.τ).loc Cert.ReferenceSmallIdeal.main_arg8) = m ((c.tc : Thread Cert.KernelSmallIdeal.nD Cert.KernelSmallIdeal.τ).loc Cert.KernelSmallIdeal.main_arg8)
      ∧ m' ((c.tc : Thread Cert.ReferenceSmallIdeal.nD Cert.ReferenceSmallIdeal.τ).loc Cert.ReferenceSmallIdeal.main_arg9) = m ((c.tc : Thread Cert.KernelSmallIdeal.nD Cert.KernelSmallIdeal.τ).loc Cert.KernelSmallIdeal.main_arg9)
      ∧ m' ((c.tc : Thread Cert.ReferenceSmallIdeal.nD Cert.ReferenceSmallIdeal.τ).loc Cert.ReferenceSmallIdeal.main_arg10) = m ((c.tc : Thread Cert.KernelSmallIdeal.nD Cert.KernelSmallIdeal.τ).loc Cert.KernelSmallIdeal.main_arg10)
      ∧ m' ((c.tc : Thread Cert.ReferenceSmallIdeal.nD Cert.ReferenceSmallIdeal.τ).loc Cert.ReferenceSmallIdeal.main_arg11) = m ((c.tc : Thread Cert.KernelSmallIdeal.nD Cert.KernelSmallIdeal.τ).loc Cert.KernelSmallIdeal.main_arg11)
      ∧ m' ((c.tc : Thread Cert.ReferenceSmallIdeal.nD Cert.ReferenceSmallIdeal.τ).loc Cert.ReferenceSmallIdeal.main_arg12) = m ((c.tc : Thread Cert.KernelSmallIdeal.nD Cert.KernelSmallIdeal.τ).loc Cert.KernelSmallIdeal.main_arg12)
      ∧ m' ((c.tc : Thread Cert.ReferenceSmallIdeal.nD Cert.ReferenceSmallIdeal.τ).loc Cert.ReferenceSmallIdeal.main_arg13) = m ((c.tc : Thread Cert.KernelSmallIdeal.nD Cert.KernelSmallIdeal.τ).loc Cert.KernelSmallIdeal.main_arg13)
      ∧ m' ((c.tc : Thread Cert.ReferenceSmallIdeal.nD Cert.ReferenceSmallIdeal.τ).loc Cert.ReferenceSmallIdeal.main_arg14) = m ((c.tc : Thread Cert.KernelSmallIdeal.nD Cert.KernelSmallIdeal.τ).loc Cert.KernelSmallIdeal.main_arg14)
      ∧ m' ((c.tc : Thread Cert.ReferenceSmallIdeal.nD Cert.ReferenceSmallIdeal.τ).loc Cert.ReferenceSmallIdeal.main_arg15) = m ((c.tc : Thread Cert.KernelSmallIdeal.nD Cert.KernelSmallIdeal.τ).loc Cert.KernelSmallIdeal.main_arg15)
      ∧ m' ((c.tc : Thread Cert.ReferenceSmallIdeal.nD Cert.ReferenceSmallIdeal.τ).loc Cert.ReferenceSmallIdeal.main_arg16) = m ((c.tc : Thread Cert.KernelSmallIdeal.nD Cert.KernelSmallIdeal.τ).loc Cert.KernelSmallIdeal.main_arg16)
      ∧ m' ((c.tc : Thread Cert.ReferenceSmallIdeal.nD Cert.ReferenceSmallIdeal.τ).loc Cert.ReferenceSmallIdeal.main_arg17) = m ((c.tc : Thread Cert.KernelSmallIdeal.nD Cert.KernelSmallIdeal.τ).loc Cert.KernelSmallIdeal.main_arg17)
      ∧ m' ((c.tc : Thread Cert.ReferenceSmallIdeal.nD Cert.ReferenceSmallIdeal.τ).loc Cert.ReferenceSmallIdeal.main_arg18) = m ((c.tc : Thread Cert.KernelSmallIdeal.nD Cert.KernelSmallIdeal.τ).loc Cert.KernelSmallIdeal.main_arg18)
      ∧ m' ((c.tc : Thread Cert.ReferenceSmallIdeal.nD Cert.ReferenceSmallIdeal.τ).loc Cert.ReferenceSmallIdeal.main_arg19) = m ((c.tc : Thread Cert.KernelSmallIdeal.nD Cert.KernelSmallIdeal.τ).loc Cert.KernelSmallIdeal.main_arg19)
      ∧ m' ((c.tc : Thread Cert.ReferenceSmallIdeal.nD Cert.ReferenceSmallIdeal.τ).loc Cert.ReferenceSmallIdeal.main_arg20) = m ((c.tc : Thread Cert.KernelSmallIdeal.nD Cert.KernelSmallIdeal.τ).loc Cert.KernelSmallIdeal.main_arg20)) →
    ∃ (v0 : (c : Dev Cert.KernelSmallIdeal.nD) → Buf (Elt Ideal) ((c.tc : Thread Cert.KernelSmallIdeal.nD Cert.KernelSmallIdeal.τ).loc Cert.KernelSmallIdeal.main_v31)) (v1 : (c : Dev Cert.KernelSmallIdeal.nD) → Buf (Elt Ideal) ((c.tc : Thread Cert.KernelSmallIdeal.nD Cert.KernelSmallIdeal.τ).loc Cert.KernelSmallIdeal.main_v33)) (v2 : (c : Dev Cert.KernelSmallIdeal.nD) → Buf (Elt Ideal) ((c.tc : Thread Cert.KernelSmallIdeal.nD Cert.KernelSmallIdeal.τ).loc Cert.KernelSmallIdeal.main_v35)) (v3 : (c : Dev Cert.KernelSmallIdeal.nD) → Buf (Elt Ideal) ((c.tc : Thread Cert.KernelSmallIdeal.nD Cert.KernelSmallIdeal.τ).loc Cert.KernelSmallIdeal.main_v37)) (v4 : (c : Dev Cert.KernelSmallIdeal.nD) → Buf (Elt Ideal) ((c.tc : Thread Cert.KernelSmallIdeal.nD Cert.KernelSmallIdeal.τ).loc Cert.KernelSmallIdeal.main_v39)) (v5 : (c : Dev Cert.KernelSmallIdeal.nD) → Buf (Elt Ideal) ((c.tc : Thread Cert.KernelSmallIdeal.nD Cert.KernelSmallIdeal.τ).loc Cert.KernelSmallIdeal.main_v41)) (v6 : (c : Dev Cert.KernelSmallIdeal.nD) → Buf (Elt Ideal) ((c.tc : Thread Cert.KernelSmallIdeal.nD Cert.KernelSmallIdeal.τ).loc Cert.KernelSmallIdeal.main_v43)) (v7 : (c : Dev Cert.KernelSmallIdeal.nD) → Buf (Elt Ideal) ((c.tc : Thread Cert.KernelSmallIdeal.nD Cert.KernelSmallIdeal.τ).loc Cert.KernelSmallIdeal.main_v45)) (v8 : (c : Dev Cert.KernelSmallIdeal.nD) → Buf (Elt Ideal) ((c.tc : Thread Cert.KernelSmallIdeal.nD Cert.KernelSmallIdeal.τ).loc Cert.KernelSmallIdeal.main_v47)) (v9 : (c : Dev Cert.KernelSmallIdeal.nD) → Buf (Elt Ideal) ((c.tc : Thread Cert.KernelSmallIdeal.nD Cert.KernelSmallIdeal.τ).loc Cert.KernelSmallIdeal.main_v49)) (v10 : (c : Dev Cert.KernelSmallIdeal.nD) → Buf (Elt Ideal) ((c.tc : Thread Cert.KernelSmallIdeal.nD Cert.KernelSmallIdeal.τ).loc Cert.KernelSmallIdeal.main_v51)) (v11 : (c : Dev Cert.KernelSmallIdeal.nD) → Buf (Elt Ideal) ((c.tc : Thread Cert.KernelSmallIdeal.nD Cert.KernelSmallIdeal.τ).loc Cert.KernelSmallIdeal.main_v53)) (v12 : (c : Dev Cert.KernelSmallIdeal.nD) → Buf (Elt Ideal) ((c.tc : Thread Cert.KernelSmallIdeal.nD Cert.KernelSmallIdeal.τ).loc Cert.KernelSmallIdeal.main_v55)) (v13 : (c : Dev Cert.KernelSmallIdeal.nD) → Buf (Elt Ideal) ((c.tc : Thread Cert.KernelSmallIdeal.nD Cert.KernelSmallIdeal.τ).loc Cert.KernelSmallIdeal.main_v57)) (v14 : (c : Dev Cert.KernelSmallIdeal.nD) → Buf (Elt Ideal) ((c.tc : Thread Cert.KernelSmallIdeal.nD Cert.KernelSmallIdeal.τ).loc Cert.KernelSmallIdeal.main_v59)) (v15 : (c : Dev Cert.KernelSmallIdeal.nD) → Buf (Elt Ideal) ((c.tc : Thread Cert.KernelSmallIdeal.nD Cert.KernelSmallIdeal.τ).loc Cert.KernelSmallIdeal.main_v61)) (v16 : (c : Dev Cert.KernelSmallIdeal.nD) → Buf (Elt Ideal) ((c.tc : Thread Cert.KernelSmallIdeal.nD Cert.KernelSmallIdeal.τ).loc Cert.KernelSmallIdeal.main_v63)) (v17 : (c : Dev Cert.KernelSmallIdeal.nD) → Buf (Elt Ideal) ((c.tc : Thread Cert.KernelSmallIdeal.nD Cert.KernelSmallIdeal.τ).loc Cert.KernelSmallIdeal.main_v65)) (v18 : (c : Dev Cert.KernelSmallIdeal.nD) → Buf (Elt Ideal) ((c.tc : Thread Cert.KernelSmallIdeal.nD Cert.KernelSmallIdeal.τ).loc Cert.KernelSmallIdeal.main_v67)) (v19 : (c : Dev Cert.KernelSmallIdeal.nD) → Buf (Elt Ideal) ((c.tc : Thread Cert.KernelSmallIdeal.nD Cert.KernelSmallIdeal.τ).loc Cert.KernelSmallIdeal.main_v69)) (v20 : (c : Dev Cert.KernelSmallIdeal.nD) → Buf (Elt Ideal) ((c.tc : Thread Cert.KernelSmallIdeal.nD Cert.KernelSmallIdeal.τ).loc Cert.KernelSmallIdeal.main_v71)),
      θ_run (Cert.KernelSmallIdeal.defs (F := Ideal)) (onTc (τ := Cert.KernelSmallIdeal.τ) (Cert.KernelSmallIdeal.main (F := Ideal))) ⟨m, fun _ => 0, g⟩ (fun r => ∀ c : Dev Cert.KernelSmallIdeal.nD,
          r.2.mem ((c.tc : Thread Cert.KernelSmallIdeal.nD Cert.KernelSmallIdeal.τ).loc Cert.KernelSmallIdeal.main_v31) = v0 c
          ∧ r.2.mem ((c.tc : Thread Cert.KernelSmallIdeal.nD Cert.KernelSmallIdeal.τ).loc Cert.KernelSmallIdeal.main_v33) = v1 c
          ∧ r.2.mem ((c.tc : Thread Cert.KernelSmallIdeal.nD Cert.KernelSmallIdeal.τ).loc Cert.KernelSmallIdeal.main_v35) = v2 c
          ∧ r.2.mem ((c.tc : Thread Cert.KernelSmallIdeal.nD Cert.KernelSmallIdeal.τ).loc Cert.KernelSmallIdeal.main_v37) = v3 c
          ∧ r.2.mem ((c.tc : Thread Cert.KernelSmallIdeal.nD Cert.KernelSmallIdeal.τ).loc Cert.KernelSmallIdeal.main_v39) = v4 c
          ∧ r.2.mem ((c.tc : Thread Cert.KernelSmallIdeal.nD Cert.KernelSmallIdeal.τ).loc Cert.KernelSmallIdeal.main_v41) = v5 c
          ∧ r.2.mem ((c.tc : Thread Cert.KernelSmallIdeal.nD Cert.KernelSmallIdeal.τ).loc Cert.KernelSmallIdeal.main_v43) = v6 c
          ∧ r.2.mem ((c.tc : Thread Cert.KernelSmallIdeal.nD Cert.KernelSmallIdeal.τ).loc Cert.KernelSmallIdeal.main_v45) = v7 c
          ∧ r.2.mem ((c.tc : Thread Cert.KernelSmallIdeal.nD Cert.KernelSmallIdeal.τ).loc Cert.KernelSmallIdeal.main_v47) = v8 c
          ∧ r.2.mem ((c.tc : Thread Cert.KernelSmallIdeal.nD Cert.KernelSmallIdeal.τ).loc Cert.KernelSmallIdeal.main_v49) = v9 c
          ∧ r.2.mem ((c.tc : Thread Cert.KernelSmallIdeal.nD Cert.KernelSmallIdeal.τ).loc Cert.KernelSmallIdeal.main_v51) = v10 c
          ∧ r.2.mem ((c.tc : Thread Cert.KernelSmallIdeal.nD Cert.KernelSmallIdeal.τ).loc Cert.KernelSmallIdeal.main_v53) = v11 c
          ∧ r.2.mem ((c.tc : Thread Cert.KernelSmallIdeal.nD Cert.KernelSmallIdeal.τ).loc Cert.KernelSmallIdeal.main_v55) = v12 c
          ∧ r.2.mem ((c.tc : Thread Cert.KernelSmallIdeal.nD Cert.KernelSmallIdeal.τ).loc Cert.KernelSmallIdeal.main_v57) = v13 c
          ∧ r.2.mem ((c.tc : Thread Cert.KernelSmallIdeal.nD Cert.KernelSmallIdeal.τ).loc Cert.KernelSmallIdeal.main_v59) = v14 c
          ∧ r.2.mem ((c.tc : Thread Cert.KernelSmallIdeal.nD Cert.KernelSmallIdeal.τ).loc Cert.KernelSmallIdeal.main_v61) = v15 c
          ∧ r.2.mem ((c.tc : Thread Cert.KernelSmallIdeal.nD Cert.KernelSmallIdeal.τ).loc Cert.KernelSmallIdeal.main_v63) = v16 c
          ∧ r.2.mem ((c.tc : Thread Cert.KernelSmallIdeal.nD Cert.KernelSmallIdeal.τ).loc Cert.KernelSmallIdeal.main_v65) = v17 c
          ∧ r.2.mem ((c.tc : Thread Cert.KernelSmallIdeal.nD Cert.KernelSmallIdeal.τ).loc Cert.KernelSmallIdeal.main_v67) = v18 c
          ∧ r.2.mem ((c.tc : Thread Cert.KernelSmallIdeal.nD Cert.KernelSmallIdeal.τ).loc Cert.KernelSmallIdeal.main_v69) = v19 c
          ∧ r.2.mem ((c.tc : Thread Cert.KernelSmallIdeal.nD Cert.KernelSmallIdeal.τ).loc Cert.KernelSmallIdeal.main_v71) = v20 c
          ∧ r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
          ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
          ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2)
          ∧ r.2.mem ((c.tc : Thread Cert.KernelSmallIdeal.nD Cert.KernelSmallIdeal.τ).loc Cert.KernelSmallIdeal.main_arg3) = m ((c.tc : Thread Cert.KernelSmallIdeal.nD Cert.KernelSmallIdeal.τ).loc Cert.KernelSmallIdeal.main_arg3)
          ∧ r.2.mem ((c.tc : Thread Cert.KernelSmallIdeal.nD Cert.KernelSmallIdeal.τ).loc Cert.KernelSmallIdeal.main_arg4) = m ((c.tc : Thread Cert.KernelSmallIdeal.nD Cert.KernelSmallIdeal.τ).loc Cert.KernelSmallIdeal.main_arg4)
          ∧ r.2.mem ((c.tc : Thread Cert.KernelSmallIdeal.nD Cert.KernelSmallIdeal.τ).loc Cert.KernelSmallIdeal.main_arg5) = m ((c.tc : Thread Cert.KernelSmallIdeal.nD Cert.KernelSmallIdeal.τ).loc Cert.KernelSmallIdeal.main_arg5)
          ∧ r.2.mem ((c.tc : Thread Cert.KernelSmallIdeal.nD Cert.KernelSmallIdeal.τ).loc Cert.KernelSmallIdeal.main_arg6) = m ((c.tc : Thread Cert.KernelSmallIdeal.nD Cert.KernelSmallIdeal.τ).loc Cert.KernelSmallIdeal.main_arg6)
          ∧ r.2.mem ((c.tc : Thread Cert.KernelSmallIdeal.nD Cert.KernelSmallIdeal.τ).loc Cert.KernelSmallIdeal.main_arg7) = m ((c.tc : Thread Cert.KernelSmallIdeal.nD Cert.KernelSmallIdeal.τ).loc Cert.KernelSmallIdeal.main_arg7)
          ∧ r.2.mem ((c.tc : Thread Cert.KernelSmallIdeal.nD Cert.KernelSmallIdeal.τ).loc Cert.KernelSmallIdeal.main_arg8) = m ((c.tc : Thread Cert.KernelSmallIdeal.nD Cert.KernelSmallIdeal.τ).loc Cert.KernelSmallIdeal.main_arg8)
          ∧ r.2.mem ((c.tc : Thread Cert.KernelSmallIdeal.nD Cert.KernelSmallIdeal.τ).loc Cert.KernelSmallIdeal.main_arg9) = m ((c.tc : Thread Cert.KernelSmallIdeal.nD Cert.KernelSmallIdeal.τ).loc Cert.KernelSmallIdeal.main_arg9)
          ∧ r.2.mem ((c.tc : Thread Cert.KernelSmallIdeal.nD Cert.KernelSmallIdeal.τ).loc Cert.KernelSmallIdeal.main_arg10) = m ((c.tc : Thread Cert.KernelSmallIdeal.nD Cert.KernelSmallIdeal.τ).loc Cert.KernelSmallIdeal.main_arg10)
          ∧ r.2.mem ((c.tc : Thread Cert.KernelSmallIdeal.nD Cert.KernelSmallIdeal.τ).loc Cert.KernelSmallIdeal.main_arg11) = m ((c.tc : Thread Cert.KernelSmallIdeal.nD Cert.KernelSmallIdeal.τ).loc Cert.KernelSmallIdeal.main_arg11)
          ∧ r.2.mem ((c.tc : Thread Cert.KernelSmallIdeal.nD Cert.KernelSmallIdeal.τ).loc Cert.KernelSmallIdeal.main_arg12) = m ((c.tc : Thread Cert.KernelSmallIdeal.nD Cert.KernelSmallIdeal.τ).loc Cert.KernelSmallIdeal.main_arg12)
          ∧ r.2.mem ((c.tc : Thread Cert.KernelSmallIdeal.nD Cert.KernelSmallIdeal.τ).loc Cert.KernelSmallIdeal.main_arg13) = m ((c.tc : Thread Cert.KernelSmallIdeal.nD Cert.KernelSmallIdeal.τ).loc Cert.KernelSmallIdeal.main_arg13)
          ∧ r.2.mem ((c.tc : Thread Cert.KernelSmallIdeal.nD Cert.KernelSmallIdeal.τ).loc Cert.KernelSmallIdeal.main_arg14) = m ((c.tc : Thread Cert.KernelSmallIdeal.nD Cert.KernelSmallIdeal.τ).loc Cert.KernelSmallIdeal.main_arg14)
          ∧ r.2.mem ((c.tc : Thread Cert.KernelSmallIdeal.nD Cert.KernelSmallIdeal.τ).loc Cert.KernelSmallIdeal.main_arg15) = m ((c.tc : Thread Cert.KernelSmallIdeal.nD Cert.KernelSmallIdeal.τ).loc Cert.KernelSmallIdeal.main_arg15)
          ∧ r.2.mem ((c.tc : Thread Cert.KernelSmallIdeal.nD Cert.KernelSmallIdeal.τ).loc Cert.KernelSmallIdeal.main_arg16) = m ((c.tc : Thread Cert.KernelSmallIdeal.nD Cert.KernelSmallIdeal.τ).loc Cert.KernelSmallIdeal.main_arg16)
          ∧ r.2.mem ((c.tc : Thread Cert.KernelSmallIdeal.nD Cert.KernelSmallIdeal.τ).loc Cert.KernelSmallIdeal.main_arg17) = m ((c.tc : Thread Cert.KernelSmallIdeal.nD Cert.KernelSmallIdeal.τ).loc Cert.KernelSmallIdeal.main_arg17)
          ∧ r.2.mem ((c.tc : Thread Cert.KernelSmallIdeal.nD Cert.KernelSmallIdeal.τ).loc Cert.KernelSmallIdeal.main_arg18) = m ((c.tc : Thread Cert.KernelSmallIdeal.nD Cert.KernelSmallIdeal.τ).loc Cert.KernelSmallIdeal.main_arg18)
          ∧ r.2.mem ((c.tc : Thread Cert.KernelSmallIdeal.nD Cert.KernelSmallIdeal.τ).loc Cert.KernelSmallIdeal.main_arg19) = m ((c.tc : Thread Cert.KernelSmallIdeal.nD Cert.KernelSmallIdeal.τ).loc Cert.KernelSmallIdeal.main_arg19)
          ∧ r.2.mem ((c.tc : Thread Cert.KernelSmallIdeal.nD Cert.KernelSmallIdeal.τ).loc Cert.KernelSmallIdeal.main_arg20) = m ((c.tc : Thread Cert.KernelSmallIdeal.nD Cert.KernelSmallIdeal.τ).loc Cert.KernelSmallIdeal.main_arg20))
      ∧ θ_run (Cert.ReferenceSmallIdeal.defs (F := Ideal)) (onTc (τ := Cert.ReferenceSmallIdeal.τ) (Cert.ReferenceSmallIdeal.main (F := Ideal))) ⟨m', fun _ => 0, g'⟩ (fun r => ∀ c : Dev Cert.ReferenceSmallIdeal.nD,
          r.2.mem ((c.tc : Thread Cert.ReferenceSmallIdeal.nD Cert.ReferenceSmallIdeal.τ).loc Cert.ReferenceSmallIdeal.main_v169) = v0 c
          ∧ r.2.mem ((c.tc : Thread Cert.ReferenceSmallIdeal.nD Cert.ReferenceSmallIdeal.τ).loc Cert.ReferenceSmallIdeal.main_arg1) = v1 c
          ∧ r.2.mem ((c.tc : Thread Cert.ReferenceSmallIdeal.nD Cert.ReferenceSmallIdeal.τ).loc Cert.ReferenceSmallIdeal.main_arg2) = v2 c
          ∧ r.2.mem ((c.tc : Thread Cert.ReferenceSmallIdeal.nD Cert.ReferenceSmallIdeal.τ).loc Cert.ReferenceSmallIdeal.main_v46) = v3 c
          ∧ r.2.mem ((c.tc : Thread Cert.ReferenceSmallIdeal.nD Cert.ReferenceSmallIdeal.τ).loc Cert.ReferenceSmallIdeal.main_v47) = v4 c
          ∧ r.2.mem ((c.tc : Thread Cert.ReferenceSmallIdeal.nD Cert.ReferenceSmallIdeal.τ).loc Cert.ReferenceSmallIdeal.main_v48) = v5 c
          ∧ r.2.mem ((c.tc : Thread Cert.ReferenceSmallIdeal.nD Cert.ReferenceSmallIdeal.τ).loc Cert.ReferenceSmallIdeal.main_v72) = v6 c
          ∧ r.2.mem ((c.tc : Thread Cert.ReferenceSmallIdeal.nD Cert.ReferenceSmallIdeal.τ).loc Cert.ReferenceSmallIdeal.main_v96) = v7 c
          ∧ r.2.mem ((c.tc : Thread Cert.ReferenceSmallIdeal.nD Cert.ReferenceSmallIdeal.τ).loc Cert.ReferenceSmallIdeal.main_v120) = v8 c
          ∧ r.2.mem ((c.tc : Thread Cert.ReferenceSmallIdeal.nD Cert.ReferenceSmallIdeal.τ).loc Cert.ReferenceSmallIdeal.main_v144) = v9 c
          ∧ r.2.mem ((c.tc : Thread Cert.ReferenceSmallIdeal.nD Cert.ReferenceSmallIdeal.τ).loc Cert.ReferenceSmallIdeal.main_v168) = v10 c
          ∧ r.2.mem ((c.tc : Thread Cert.ReferenceSmallIdeal.nD Cert.ReferenceSmallIdeal.τ).loc Cert.ReferenceSmallIdeal.main_v53) = v11 c
          ∧ r.2.mem ((c.tc : Thread Cert.ReferenceSmallIdeal.nD Cert.ReferenceSmallIdeal.τ).loc Cert.ReferenceSmallIdeal.main_v77) = v12 c
          ∧ r.2.mem ((c.tc : Thread Cert.ReferenceSmallIdeal.nD Cert.ReferenceSmallIdeal.τ).loc Cert.ReferenceSmallIdeal.main_v101) = v13 c
          ∧ r.2.mem ((c.tc : Thread Cert.ReferenceSmallIdeal.nD Cert.ReferenceSmallIdeal.τ).loc Cert.ReferenceSmallIdeal.main_v125) = v14 c
          ∧ r.2.mem ((c.tc : Thread Cert.ReferenceSmallIdeal.nD Cert.ReferenceSmallIdeal.τ).loc Cert.ReferenceSmallIdeal.main_v149) = v15 c
          ∧ r.2.mem ((c.tc : Thread Cert.ReferenceSmallIdeal.nD Cert.ReferenceSmallIdeal.τ).loc Cert.ReferenceSmallIdeal.main_v59) = v16 c
          ∧ r.2.mem ((c.tc : Thread Cert.ReferenceSmallIdeal.nD Cert.ReferenceSmallIdeal.τ).loc Cert.ReferenceSmallIdeal.main_v83) = v17 c
          ∧ r.2.mem ((c.tc : Thread Cert.ReferenceSmallIdeal.nD Cert.ReferenceSmallIdeal.τ).loc Cert.ReferenceSmallIdeal.main_v107) = v18 c
          ∧ r.2.mem ((c.tc : Thread Cert.ReferenceSmallIdeal.nD Cert.ReferenceSmallIdeal.τ).loc Cert.ReferenceSmallIdeal.main_v131) = v19 c
          ∧ r.2.mem ((c.tc : Thread Cert.ReferenceSmallIdeal.nD Cert.ReferenceSmallIdeal.τ).loc Cert.ReferenceSmallIdeal.main_v155) = v20 c
          ∧ r.2.mem ((c.tc : Thread Cert.ReferenceSmallIdeal.nD Cert.ReferenceSmallIdeal.τ).loc Cert.ReferenceSmallIdeal.main_arg0) = m' ((c.tc : Thread Cert.ReferenceSmallIdeal.nD Cert.ReferenceSmallIdeal.τ).loc Cert.ReferenceSmallIdeal.main_arg0)
          ∧ r.2.mem ((c.tc : Thread Cert.ReferenceSmallIdeal.nD Cert.ReferenceSmallIdeal.τ).loc Cert.ReferenceSmallIdeal.main_arg1) = m' ((c.tc : Thread Cert.ReferenceSmallIdeal.nD Cert.ReferenceSmallIdeal.τ).loc Cert.ReferenceSmallIdeal.main_arg1)
          ∧ r.2.mem ((c.tc : Thread Cert.ReferenceSmallIdeal.nD Cert.ReferenceSmallIdeal.τ).loc Cert.ReferenceSmallIdeal.main_arg2) = m' ((c.tc : Thread Cert.ReferenceSmallIdeal.nD Cert.ReferenceSmallIdeal.τ).loc Cert.ReferenceSmallIdeal.main_arg2)
          ∧ r.2.mem ((c.tc : Thread Cert.ReferenceSmallIdeal.nD Cert.ReferenceSmallIdeal.τ).loc Cert.ReferenceSmallIdeal.main_arg3) = m' ((c.tc : Thread Cert.ReferenceSmallIdeal.nD Cert.ReferenceSmallIdeal.τ).loc Cert.ReferenceSmallIdeal.main_arg3)
          ∧ r.2.mem ((c.tc : Thread Cert.ReferenceSmallIdeal.nD Cert.ReferenceSmallIdeal.τ).loc Cert.ReferenceSmallIdeal.main_arg4) = m' ((c.tc : Thread Cert.ReferenceSmallIdeal.nD Cert.ReferenceSmallIdeal.τ).loc Cert.ReferenceSmallIdeal.main_arg4)
          ∧ r.2.mem ((c.tc : Thread Cert.ReferenceSmallIdeal.nD Cert.ReferenceSmallIdeal.τ).loc Cert.ReferenceSmallIdeal.main_arg5) = m' ((c.tc : Thread Cert.ReferenceSmallIdeal.nD Cert.ReferenceSmallIdeal.τ).loc Cert.ReferenceSmallIdeal.main_arg5)
          ∧ r.2.mem ((c.tc : Thread Cert.ReferenceSmallIdeal.nD Cert.ReferenceSmallIdeal.τ).loc Cert.ReferenceSmallIdeal.main_arg6) = m' ((c.tc : Thread Cert.ReferenceSmallIdeal.nD Cert.ReferenceSmallIdeal.τ).loc Cert.ReferenceSmallIdeal.main_arg6)
          ∧ r.2.mem ((c.tc : Thread Cert.ReferenceSmallIdeal.nD Cert.ReferenceSmallIdeal.τ).loc Cert.ReferenceSmallIdeal.main_arg7) = m' ((c.tc : Thread Cert.ReferenceSmallIdeal.nD Cert.ReferenceSmallIdeal.τ).loc Cert.ReferenceSmallIdeal.main_arg7)
          ∧ r.2.mem ((c.tc : Thread Cert.ReferenceSmallIdeal.nD Cert.ReferenceSmallIdeal.τ).loc Cert.ReferenceSmallIdeal.main_arg8) = m' ((c.tc : Thread Cert.ReferenceSmallIdeal.nD Cert.ReferenceSmallIdeal.τ).loc Cert.ReferenceSmallIdeal.main_arg8)
          ∧ r.2.mem ((c.tc : Thread Cert.ReferenceSmallIdeal.nD Cert.ReferenceSmallIdeal.τ).loc Cert.ReferenceSmallIdeal.main_arg9) = m' ((c.tc : Thread Cert.ReferenceSmallIdeal.nD Cert.ReferenceSmallIdeal.τ).loc Cert.ReferenceSmallIdeal.main_arg9)
          ∧ r.2.mem ((c.tc : Thread Cert.ReferenceSmallIdeal.nD Cert.ReferenceSmallIdeal.τ).loc Cert.ReferenceSmallIdeal.main_arg10) = m' ((c.tc : Thread Cert.ReferenceSmallIdeal.nD Cert.ReferenceSmallIdeal.τ).loc Cert.ReferenceSmallIdeal.main_arg10)
          ∧ r.2.mem ((c.tc : Thread Cert.ReferenceSmallIdeal.nD Cert.ReferenceSmallIdeal.τ).loc Cert.ReferenceSmallIdeal.main_arg11) = m' ((c.tc : Thread Cert.ReferenceSmallIdeal.nD Cert.ReferenceSmallIdeal.τ).loc Cert.ReferenceSmallIdeal.main_arg11)
          ∧ r.2.mem ((c.tc : Thread Cert.ReferenceSmallIdeal.nD Cert.ReferenceSmallIdeal.τ).loc Cert.ReferenceSmallIdeal.main_arg12) = m' ((c.tc : Thread Cert.ReferenceSmallIdeal.nD Cert.ReferenceSmallIdeal.τ).loc Cert.ReferenceSmallIdeal.main_arg12)
          ∧ r.2.mem ((c.tc : Thread Cert.ReferenceSmallIdeal.nD Cert.ReferenceSmallIdeal.τ).loc Cert.ReferenceSmallIdeal.main_arg13) = m' ((c.tc : Thread Cert.ReferenceSmallIdeal.nD Cert.ReferenceSmallIdeal.τ).loc Cert.ReferenceSmallIdeal.main_arg13)
          ∧ r.2.mem ((c.tc : Thread Cert.ReferenceSmallIdeal.nD Cert.ReferenceSmallIdeal.τ).loc Cert.ReferenceSmallIdeal.main_arg14) = m' ((c.tc : Thread Cert.ReferenceSmallIdeal.nD Cert.ReferenceSmallIdeal.τ).loc Cert.ReferenceSmallIdeal.main_arg14)
          ∧ r.2.mem ((c.tc : Thread Cert.ReferenceSmallIdeal.nD Cert.ReferenceSmallIdeal.τ).loc Cert.ReferenceSmallIdeal.main_arg15) = m' ((c.tc : Thread Cert.ReferenceSmallIdeal.nD Cert.ReferenceSmallIdeal.τ).loc Cert.ReferenceSmallIdeal.main_arg15)
          ∧ r.2.mem ((c.tc : Thread Cert.ReferenceSmallIdeal.nD Cert.ReferenceSmallIdeal.τ).loc Cert.ReferenceSmallIdeal.main_arg16) = m' ((c.tc : Thread Cert.ReferenceSmallIdeal.nD Cert.ReferenceSmallIdeal.τ).loc Cert.ReferenceSmallIdeal.main_arg16)
          ∧ r.2.mem ((c.tc : Thread Cert.ReferenceSmallIdeal.nD Cert.ReferenceSmallIdeal.τ).loc Cert.ReferenceSmallIdeal.main_arg17) = m' ((c.tc : Thread Cert.ReferenceSmallIdeal.nD Cert.ReferenceSmallIdeal.τ).loc Cert.ReferenceSmallIdeal.main_arg17)
          ∧ r.2.mem ((c.tc : Thread Cert.ReferenceSmallIdeal.nD Cert.ReferenceSmallIdeal.τ).loc Cert.ReferenceSmallIdeal.main_arg18) = m' ((c.tc : Thread Cert.ReferenceSmallIdeal.nD Cert.ReferenceSmallIdeal.τ).loc Cert.ReferenceSmallIdeal.main_arg18)
          ∧ r.2.mem ((c.tc : Thread Cert.ReferenceSmallIdeal.nD Cert.ReferenceSmallIdeal.τ).loc Cert.ReferenceSmallIdeal.main_arg19) = m' ((c.tc : Thread Cert.ReferenceSmallIdeal.nD Cert.ReferenceSmallIdeal.τ).loc Cert.ReferenceSmallIdeal.main_arg19)
          ∧ r.2.mem ((c.tc : Thread Cert.ReferenceSmallIdeal.nD Cert.ReferenceSmallIdeal.τ).loc Cert.ReferenceSmallIdeal.main_arg20) = m' ((c.tc : Thread Cert.ReferenceSmallIdeal.nD Cert.ReferenceSmallIdeal.τ).loc Cert.ReferenceSmallIdeal.main_arg20))

def preserves_KernelSb_KernelSbIdeal : Prop :=
  IdealRules.named_const.Statement Cert.KernelSbIdeal.κ "gone" .f32 0xF149F2CA#32 ⊥
  ∧ IdealRules.named_const.Statement Cert.KernelSbIdeal.κ "dead" .f32 0xC2DC0000#32 ⊥

def algebraic_KernelSbIdeal_ReferenceSbIdeal_pre_finite_sb [hKernelSbIdeal : Cert.KernelSbIdeal.Facts] [hReferenceSbIdeal : Cert.ReferenceSbIdeal.Facts] [hPre_finite_sb : Cert.Pre_finite_sb.Facts] : Prop :=
  ∀ (m : (ℓ : Loc Cert.KernelSbIdeal.nD Cert.KernelSbIdeal.τ Cert.KernelSbIdeal.sig) → Buf (Elt Ideal) ℓ) (g : Dev Cert.KernelSbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_KernelSbIdeal_finite_sb m →
    (∀ c : Dev Cert.KernelSbIdeal.nD,
      m' ((c.tc : Thread Cert.ReferenceSbIdeal.nD Cert.ReferenceSbIdeal.τ).loc Cert.ReferenceSbIdeal.main_arg0) = m ((c.tc : Thread Cert.KernelSbIdeal.nD Cert.KernelSbIdeal.τ).loc Cert.KernelSbIdeal.main_arg0)
      ∧ m' ((c.tc : Thread Cert.ReferenceSbIdeal.nD Cert.ReferenceSbIdeal.τ).loc Cert.ReferenceSbIdeal.main_arg1) = m ((c.tc : Thread Cert.KernelSbIdeal.nD Cert.KernelSbIdeal.τ).loc Cert.KernelSbIdeal.main_arg1)) →
    ∃ (v0 : (c : Dev Cert.KernelSbIdeal.nD) → Buf (Elt Ideal) ((c.tc : Thread Cert.KernelSbIdeal.nD Cert.KernelSbIdeal.τ).loc Cert.KernelSbIdeal.main_v33_0)) (v1 : (c : Dev Cert.KernelSbIdeal.nD) → Buf (Elt Ideal) ((c.tc : Thread Cert.KernelSbIdeal.nD Cert.KernelSbIdeal.τ).loc Cert.KernelSbIdeal.main_v33_1)) (v2 : (c : Dev Cert.KernelSbIdeal.nD) → Buf (Elt Ideal) ((c.tc : Thread Cert.KernelSbIdeal.nD Cert.KernelSbIdeal.τ).loc Cert.KernelSbIdeal.main_v33_2)),
      θ_run (Cert.KernelSbIdeal.defs (F := Ideal)) (onTc (τ := Cert.KernelSbIdeal.τ) (Cert.KernelSbIdeal.main (F := Ideal))) ⟨m, fun _ => 0, g⟩ (fun r => ∀ c : Dev Cert.KernelSbIdeal.nD,
          r.2.mem ((c.tc : Thread Cert.KernelSbIdeal.nD Cert.KernelSbIdeal.τ).loc Cert.KernelSbIdeal.main_v33_0) = v0 c
          ∧ r.2.mem ((c.tc : Thread Cert.KernelSbIdeal.nD Cert.KernelSbIdeal.τ).loc Cert.KernelSbIdeal.main_v33_1) = v1 c
          ∧ r.2.mem ((c.tc : Thread Cert.KernelSbIdeal.nD Cert.KernelSbIdeal.τ).loc Cert.KernelSbIdeal.main_v33_2) = v2 c
          ∧ r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
          ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v59) = v0 c
          ∧ r.2.mem ((c.tc : Thread Cert.ReferenceSbIdeal.nD Cert.ReferenceSbIdeal.τ).loc Cert.ReferenceSbIdeal.main_v60) = v1 c
          ∧ r.2.mem ((c.tc : Thread Cert.ReferenceSbIdeal.nD Cert.ReferenceSbIdeal.τ).loc Cert.ReferenceSbIdeal.main_v61) = v2 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0)
          ∧ r.2.mem ((c.tc : Thread Cert.ReferenceSbIdeal.nD Cert.ReferenceSbIdeal.τ).loc Cert.ReferenceSbIdeal.main_arg1) = m' ((c.tc : Thread Cert.ReferenceSbIdeal.nD Cert.ReferenceSbIdeal.τ).loc Cert.ReferenceSbIdeal.main_arg1))

def preserves_KernelMid_KernelMidIdeal : Prop :=
  True

def algebraic_KernelMidIdeal_ReferenceMidIdeal_pre_finite_mid [hKernelMidIdeal : Cert.KernelMidIdeal.Facts] [hReferenceMidIdeal : Cert.ReferenceMidIdeal.Facts] [hPre_finite_mid : Cert.Pre_finite_mid.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal_finite_mid m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)
      ∧ m' ((c.tc : Thread Cert.ReferenceMidIdeal.nD Cert.ReferenceMidIdeal.τ).loc Cert.ReferenceMidIdeal.main_arg6) = m ((c.tc : Thread Cert.KernelMidIdeal.nD Cert.KernelMidIdeal.τ).loc Cert.KernelMidIdeal.main_arg6)
      ∧ m' ((c.tc : Thread Cert.ReferenceMidIdeal.nD Cert.ReferenceMidIdeal.τ).loc Cert.ReferenceMidIdeal.main_arg7) = m ((c.tc : Thread Cert.KernelMidIdeal.nD Cert.KernelMidIdeal.τ).loc Cert.KernelMidIdeal.main_arg7)
      ∧ m' ((c.tc : Thread Cert.ReferenceMidIdeal.nD Cert.ReferenceMidIdeal.τ).loc Cert.ReferenceMidIdeal.main_arg8) = m ((c.tc : Thread Cert.KernelMidIdeal.nD Cert.KernelMidIdeal.τ).loc Cert.KernelMidIdeal.main_arg8)
      ∧ m' ((c.tc : Thread Cert.ReferenceMidIdeal.nD Cert.ReferenceMidIdeal.τ).loc Cert.ReferenceMidIdeal.main_arg9) = m ((c.tc : Thread Cert.KernelMidIdeal.nD Cert.KernelMidIdeal.τ).loc Cert.KernelMidIdeal.main_arg9)
      ∧ m' ((c.tc : Thread Cert.ReferenceMidIdeal.nD Cert.ReferenceMidIdeal.τ).loc Cert.ReferenceMidIdeal.main_arg10) = m ((c.tc : Thread Cert.KernelMidIdeal.nD Cert.KernelMidIdeal.τ).loc Cert.KernelMidIdeal.main_arg10)) →
    ∃ (v0 : (c : Dev Cert.KernelMidIdeal.nD) → Buf (Elt Ideal) ((c.tc : Thread Cert.KernelMidIdeal.nD Cert.KernelMidIdeal.τ).loc Cert.KernelMidIdeal.main_v5_0)) (v1 : (c : Dev Cert.KernelMidIdeal.nD) → Buf (Elt Ideal) ((c.tc : Thread Cert.KernelMidIdeal.nD Cert.KernelMidIdeal.τ).loc Cert.KernelMidIdeal.main_v5_1)) (v2 : (c : Dev Cert.KernelMidIdeal.nD) → Buf (Elt Ideal) ((c.tc : Thread Cert.KernelMidIdeal.nD Cert.KernelMidIdeal.τ).loc Cert.KernelMidIdeal.main_v5_2)) (v3 : (c : Dev Cert.KernelMidIdeal.nD) → Buf (Elt Ideal) ((c.tc : Thread Cert.KernelMidIdeal.nD Cert.KernelMidIdeal.τ).loc Cert.KernelMidIdeal.main_v5_3)) (v4 : (c : Dev Cert.KernelMidIdeal.nD) → Buf (Elt Ideal) ((c.tc : Thread Cert.KernelMidIdeal.nD Cert.KernelMidIdeal.τ).loc Cert.KernelMidIdeal.main_v5_4)) (v5 : (c : Dev Cert.KernelMidIdeal.nD) → Buf (Elt Ideal) ((c.tc : Thread Cert.KernelMidIdeal.nD Cert.KernelMidIdeal.τ).loc Cert.KernelMidIdeal.main_v5_5)) (v6 : (c : Dev Cert.KernelMidIdeal.nD) → Buf (Elt Ideal) ((c.tc : Thread Cert.KernelMidIdeal.nD Cert.KernelMidIdeal.τ).loc Cert.KernelMidIdeal.main_v5_6)) (v7 : (c : Dev Cert.KernelMidIdeal.nD) → Buf (Elt Ideal) ((c.tc : Thread Cert.KernelMidIdeal.nD Cert.KernelMidIdeal.τ).loc Cert.KernelMidIdeal.main_v5_7)) (v8 : (c : Dev Cert.KernelMidIdeal.nD) → Buf (Elt Ideal) ((c.tc : Thread Cert.KernelMidIdeal.nD Cert.KernelMidIdeal.τ).loc Cert.KernelMidIdeal.main_v5_8)) (v9 : (c : Dev Cert.KernelMidIdeal.nD) → Buf (Elt Ideal) ((c.tc : Thread Cert.KernelMidIdeal.nD Cert.KernelMidIdeal.τ).loc Cert.KernelMidIdeal.main_v5_9)) (v10 : (c : Dev Cert.KernelMidIdeal.nD) → Buf (Elt Ideal) ((c.tc : Thread Cert.KernelMidIdeal.nD Cert.KernelMidIdeal.τ).loc Cert.KernelMidIdeal.main_v5_10)) (v11 : (c : Dev Cert.KernelMidIdeal.nD) → Buf (Elt Ideal) ((c.tc : Thread Cert.KernelMidIdeal.nD Cert.KernelMidIdeal.τ).loc Cert.KernelMidIdeal.main_v5_11)) (v12 : (c : Dev Cert.KernelMidIdeal.nD) → Buf (Elt Ideal) ((c.tc : Thread Cert.KernelMidIdeal.nD Cert.KernelMidIdeal.τ).loc Cert.KernelMidIdeal.main_v5_12)) (v13 : (c : Dev Cert.KernelMidIdeal.nD) → Buf (Elt Ideal) ((c.tc : Thread Cert.KernelMidIdeal.nD Cert.KernelMidIdeal.τ).loc Cert.KernelMidIdeal.main_v5_13)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v5_0) = v0 c
          ∧ r.2.mem ((c.tc : Thread Cert.KernelMidIdeal.nD Cert.KernelMidIdeal.τ).loc Cert.KernelMidIdeal.main_v5_1) = v1 c
          ∧ r.2.mem ((c.tc : Thread Cert.KernelMidIdeal.nD Cert.KernelMidIdeal.τ).loc Cert.KernelMidIdeal.main_v5_2) = v2 c
          ∧ r.2.mem ((c.tc : Thread Cert.KernelMidIdeal.nD Cert.KernelMidIdeal.τ).loc Cert.KernelMidIdeal.main_v5_3) = v3 c
          ∧ r.2.mem ((c.tc : Thread Cert.KernelMidIdeal.nD Cert.KernelMidIdeal.τ).loc Cert.KernelMidIdeal.main_v5_4) = v4 c
          ∧ r.2.mem ((c.tc : Thread Cert.KernelMidIdeal.nD Cert.KernelMidIdeal.τ).loc Cert.KernelMidIdeal.main_v5_5) = v5 c
          ∧ r.2.mem ((c.tc : Thread Cert.KernelMidIdeal.nD Cert.KernelMidIdeal.τ).loc Cert.KernelMidIdeal.main_v5_6) = v6 c
          ∧ r.2.mem ((c.tc : Thread Cert.KernelMidIdeal.nD Cert.KernelMidIdeal.τ).loc Cert.KernelMidIdeal.main_v5_7) = v7 c
          ∧ r.2.mem ((c.tc : Thread Cert.KernelMidIdeal.nD Cert.KernelMidIdeal.τ).loc Cert.KernelMidIdeal.main_v5_8) = v8 c
          ∧ r.2.mem ((c.tc : Thread Cert.KernelMidIdeal.nD Cert.KernelMidIdeal.τ).loc Cert.KernelMidIdeal.main_v5_9) = v9 c
          ∧ r.2.mem ((c.tc : Thread Cert.KernelMidIdeal.nD Cert.KernelMidIdeal.τ).loc Cert.KernelMidIdeal.main_v5_10) = v10 c
          ∧ r.2.mem ((c.tc : Thread Cert.KernelMidIdeal.nD Cert.KernelMidIdeal.τ).loc Cert.KernelMidIdeal.main_v5_11) = v11 c
          ∧ r.2.mem ((c.tc : Thread Cert.KernelMidIdeal.nD Cert.KernelMidIdeal.τ).loc Cert.KernelMidIdeal.main_v5_12) = v12 c
          ∧ r.2.mem ((c.tc : Thread Cert.KernelMidIdeal.nD Cert.KernelMidIdeal.τ).loc Cert.KernelMidIdeal.main_v5_13) = v13 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
          ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
          ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8)
          ∧ r.2.mem ((c.tc : Thread Cert.KernelMidIdeal.nD Cert.KernelMidIdeal.τ).loc Cert.KernelMidIdeal.main_arg9) = m ((c.tc : Thread Cert.KernelMidIdeal.nD Cert.KernelMidIdeal.τ).loc Cert.KernelMidIdeal.main_arg9)
          ∧ r.2.mem ((c.tc : Thread Cert.KernelMidIdeal.nD Cert.KernelMidIdeal.τ).loc Cert.KernelMidIdeal.main_arg10) = m ((c.tc : Thread Cert.KernelMidIdeal.nD Cert.KernelMidIdeal.τ).loc Cert.KernelMidIdeal.main_arg10))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v101) = v0 c
          ∧ r.2.mem ((c.tc : Thread Cert.ReferenceMidIdeal.nD Cert.ReferenceMidIdeal.τ).loc Cert.ReferenceMidIdeal.main_v146) = v1 c
          ∧ r.2.mem ((c.tc : Thread Cert.ReferenceMidIdeal.nD Cert.ReferenceMidIdeal.τ).loc Cert.ReferenceMidIdeal.main_v147) = v2 c
          ∧ r.2.mem ((c.tc : Thread Cert.ReferenceMidIdeal.nD Cert.ReferenceMidIdeal.τ).loc Cert.ReferenceMidIdeal.main_v149) = v3 c
          ∧ r.2.mem ((c.tc : Thread Cert.ReferenceMidIdeal.nD Cert.ReferenceMidIdeal.τ).loc Cert.ReferenceMidIdeal.main_v151) = v4 c
          ∧ r.2.mem ((c.tc : Thread Cert.ReferenceMidIdeal.nD Cert.ReferenceMidIdeal.τ).loc Cert.ReferenceMidIdeal.main_v152) = v5 c
          ∧ r.2.mem ((c.tc : Thread Cert.ReferenceMidIdeal.nD Cert.ReferenceMidIdeal.τ).loc Cert.ReferenceMidIdeal.main_v154) = v6 c
          ∧ r.2.mem ((c.tc : Thread Cert.ReferenceMidIdeal.nD Cert.ReferenceMidIdeal.τ).loc Cert.ReferenceMidIdeal.main_v155) = v7 c
          ∧ r.2.mem ((c.tc : Thread Cert.ReferenceMidIdeal.nD Cert.ReferenceMidIdeal.τ).loc Cert.ReferenceMidIdeal.main_v157) = v8 c
          ∧ r.2.mem ((c.tc : Thread Cert.ReferenceMidIdeal.nD Cert.ReferenceMidIdeal.τ).loc Cert.ReferenceMidIdeal.main_v158) = v9 c
          ∧ r.2.mem ((c.tc : Thread Cert.ReferenceMidIdeal.nD Cert.ReferenceMidIdeal.τ).loc Cert.ReferenceMidIdeal.main_v159) = v10 c
          ∧ r.2.mem ((c.tc : Thread Cert.ReferenceMidIdeal.nD Cert.ReferenceMidIdeal.τ).loc Cert.ReferenceMidIdeal.main_v160) = v11 c
          ∧ r.2.mem ((c.tc : Thread Cert.ReferenceMidIdeal.nD Cert.ReferenceMidIdeal.τ).loc Cert.ReferenceMidIdeal.main_v114) = v12 c
          ∧ r.2.mem ((c.tc : Thread Cert.ReferenceMidIdeal.nD Cert.ReferenceMidIdeal.τ).loc Cert.ReferenceMidIdeal.main_v161) = v13 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6)
          ∧ r.2.mem ((c.tc : Thread Cert.ReferenceMidIdeal.nD Cert.ReferenceMidIdeal.τ).loc Cert.ReferenceMidIdeal.main_arg7) = m' ((c.tc : Thread Cert.ReferenceMidIdeal.nD Cert.ReferenceMidIdeal.τ).loc Cert.ReferenceMidIdeal.main_arg7)
          ∧ r.2.mem ((c.tc : Thread Cert.ReferenceMidIdeal.nD Cert.ReferenceMidIdeal.τ).loc Cert.ReferenceMidIdeal.main_arg8) = m' ((c.tc : Thread Cert.ReferenceMidIdeal.nD Cert.ReferenceMidIdeal.τ).loc Cert.ReferenceMidIdeal.main_arg8)
          ∧ r.2.mem ((c.tc : Thread Cert.ReferenceMidIdeal.nD Cert.ReferenceMidIdeal.τ).loc Cert.ReferenceMidIdeal.main_arg9) = m' ((c.tc : Thread Cert.ReferenceMidIdeal.nD Cert.ReferenceMidIdeal.τ).loc Cert.ReferenceMidIdeal.main_arg9)
          ∧ r.2.mem ((c.tc : Thread Cert.ReferenceMidIdeal.nD Cert.ReferenceMidIdeal.τ).loc Cert.ReferenceMidIdeal.main_arg10) = m' ((c.tc : Thread Cert.ReferenceMidIdeal.nD Cert.ReferenceMidIdeal.τ).loc Cert.ReferenceMidIdeal.main_arg10))

def preserves_KernelFwd_KernelFwdIdeal : Prop :=
  IdealRules.named_const.Statement Cert.KernelFwdIdeal.κ "gone" .f32 0xF149F2CA#32 ⊥
  ∧ IdealRules.named_const.Statement Cert.KernelFwdIdeal.κ "dead" .f32 0xC2DC0000#32 ⊥

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)) →
    ∃ (v0 : (c : Dev Cert.KernelFwdIdeal.nD) → Buf (Elt Ideal) ((c.tc : Thread Cert.KernelFwdIdeal.nD Cert.KernelFwdIdeal.τ).loc Cert.KernelFwdIdeal.main_v0_0)) (v1 : (c : Dev Cert.KernelFwdIdeal.nD) → Buf (Elt Ideal) ((c.tc : Thread Cert.KernelFwdIdeal.nD Cert.KernelFwdIdeal.τ).loc Cert.KernelFwdIdeal.main_v0_1)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v0_0) = v0 c
          ∧ r.2.mem ((c.tc : Thread Cert.KernelFwdIdeal.nD Cert.KernelFwdIdeal.τ).loc Cert.KernelFwdIdeal.main_v0_1) = v1 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v32) = v0 c
          ∧ r.2.mem ((c.tc : Thread Cert.ReferenceFwdIdeal.nD Cert.ReferenceFwdIdeal.τ).loc Cert.ReferenceFwdIdeal.main_v32) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0))

def preserves_KernelDx_KernelDxIdeal : Prop :=
  True

def algebraic_KernelDxIdeal_ReferenceDxIdeal_pre_finite_dx [hKernelDxIdeal : Cert.KernelDxIdeal.Facts] [hReferenceDxIdeal : Cert.ReferenceDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal_finite_dx m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)
      ∧ m' ((c.tc : Thread Cert.ReferenceDxIdeal.nD Cert.ReferenceDxIdeal.τ).loc Cert.ReferenceDxIdeal.main_arg5) = m ((c.tc : Thread Cert.KernelDxIdeal.nD Cert.KernelDxIdeal.τ).loc Cert.KernelDxIdeal.main_arg5)
      ∧ m' ((c.tc : Thread Cert.ReferenceDxIdeal.nD Cert.ReferenceDxIdeal.τ).loc Cert.ReferenceDxIdeal.main_arg6) = m ((c.tc : Thread Cert.KernelDxIdeal.nD Cert.KernelDxIdeal.τ).loc Cert.KernelDxIdeal.main_arg6)
      ∧ m' ((c.tc : Thread Cert.ReferenceDxIdeal.nD Cert.ReferenceDxIdeal.τ).loc Cert.ReferenceDxIdeal.main_arg7) = m ((c.tc : Thread Cert.KernelDxIdeal.nD Cert.KernelDxIdeal.τ).loc Cert.KernelDxIdeal.main_arg7)
      ∧ m' ((c.tc : Thread Cert.ReferenceDxIdeal.nD Cert.ReferenceDxIdeal.τ).loc Cert.ReferenceDxIdeal.main_arg8) = m ((c.tc : Thread Cert.KernelDxIdeal.nD Cert.KernelDxIdeal.τ).loc Cert.KernelDxIdeal.main_arg8)) →
    ∃ (v0 : (c : Dev Cert.KernelDxIdeal.nD) → Buf (Elt Ideal) ((c.tc : Thread Cert.KernelDxIdeal.nD Cert.KernelDxIdeal.τ).loc Cert.KernelDxIdeal.main_v0_0)) (v1 : (c : Dev Cert.KernelDxIdeal.nD) → Buf (Elt Ideal) ((c.tc : Thread Cert.KernelDxIdeal.nD Cert.KernelDxIdeal.τ).loc Cert.KernelDxIdeal.main_v0_1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0_0) = v0 c
          ∧ r.2.mem ((c.tc : Thread Cert.KernelDxIdeal.nD Cert.KernelDxIdeal.τ).loc Cert.KernelDxIdeal.main_v0_1) = v1 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
          ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
          ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6)
          ∧ r.2.mem ((c.tc : Thread Cert.KernelDxIdeal.nD Cert.KernelDxIdeal.τ).loc Cert.KernelDxIdeal.main_arg7) = m ((c.tc : Thread Cert.KernelDxIdeal.nD Cert.KernelDxIdeal.τ).loc Cert.KernelDxIdeal.main_arg7)
          ∧ r.2.mem ((c.tc : Thread Cert.KernelDxIdeal.nD Cert.KernelDxIdeal.τ).loc Cert.KernelDxIdeal.main_arg8) = m ((c.tc : Thread Cert.KernelDxIdeal.nD Cert.KernelDxIdeal.τ).loc Cert.KernelDxIdeal.main_arg8))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v44) = v0 c
          ∧ r.2.mem ((c.tc : Thread Cert.ReferenceDxIdeal.nD Cert.ReferenceDxIdeal.τ).loc Cert.ReferenceDxIdeal.main_v45) = v1 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4)
          ∧ r.2.mem ((c.tc : Thread Cert.ReferenceDxIdeal.nD Cert.ReferenceDxIdeal.τ).loc Cert.ReferenceDxIdeal.main_arg5) = m' ((c.tc : Thread Cert.ReferenceDxIdeal.nD Cert.ReferenceDxIdeal.τ).loc Cert.ReferenceDxIdeal.main_arg5)
          ∧ r.2.mem ((c.tc : Thread Cert.ReferenceDxIdeal.nD Cert.ReferenceDxIdeal.τ).loc Cert.ReferenceDxIdeal.main_arg6) = m' ((c.tc : Thread Cert.ReferenceDxIdeal.nD Cert.ReferenceDxIdeal.τ).loc Cert.ReferenceDxIdeal.main_arg6)
          ∧ r.2.mem ((c.tc : Thread Cert.ReferenceDxIdeal.nD Cert.ReferenceDxIdeal.τ).loc Cert.ReferenceDxIdeal.main_arg7) = m' ((c.tc : Thread Cert.ReferenceDxIdeal.nD Cert.ReferenceDxIdeal.τ).loc Cert.ReferenceDxIdeal.main_arg7)
          ∧ r.2.mem ((c.tc : Thread Cert.ReferenceDxIdeal.nD Cert.ReferenceDxIdeal.τ).loc Cert.ReferenceDxIdeal.main_arg8) = m' ((c.tc : Thread Cert.ReferenceDxIdeal.nD Cert.ReferenceDxIdeal.τ).loc Cert.ReferenceDxIdeal.main_arg8))

def preserves_KernelHgf_KernelHgfIdeal : Prop :=
  True

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)) →
    ∃ (v0 : (c : Dev Cert.KernelPreIdeal.nD) → Buf (Elt Ideal) ((c.tc : Thread Cert.KernelPreIdeal.nD Cert.KernelPreIdeal.τ).loc Cert.KernelPreIdeal.main_v0_0)) (v1 : (c : Dev Cert.KernelPreIdeal.nD) → Buf (Elt Ideal) ((c.tc : Thread Cert.KernelPreIdeal.nD Cert.KernelPreIdeal.τ).loc Cert.KernelPreIdeal.main_v0_1)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v0_0) = v0 c
          ∧ r.2.mem ((c.tc : Thread Cert.KernelPreIdeal.nD Cert.KernelPreIdeal.τ).loc Cert.KernelPreIdeal.main_v0_1) = v1 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v14) = v0 c
          ∧ r.2.mem ((c.tc : Thread Cert.ReferencePreIdeal.nD Cert.ReferencePreIdeal.τ).loc Cert.ReferencePreIdeal.main_v15) = v1 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1))

def preserves_KernelHg_KernelHgIdeal : Prop :=
  True

def Claim : Prop :=
  ∃ (hKernelSmall : Cert.KernelSmall.Facts) (hKernelSmallIdeal : Cert.KernelSmallIdeal.Facts) (hReferenceSmallIdeal : Cert.ReferenceSmallIdeal.Facts) (hKernelSb : Cert.KernelSb.Facts) (hKernelSbIdeal : Cert.KernelSbIdeal.Facts) (hReferenceSbIdeal : Cert.ReferenceSbIdeal.Facts) (hKernelMid : Cert.KernelMid.Facts) (hKernelMidIdeal : Cert.KernelMidIdeal.Facts) (hReferenceMidIdeal : Cert.ReferenceMidIdeal.Facts) (hKernelFwd : Cert.KernelFwd.Facts) (hKernelFwdIdeal : Cert.KernelFwdIdeal.Facts) (hReferenceFwdIdeal : Cert.ReferenceFwdIdeal.Facts) (hKernelDx : Cert.KernelDx.Facts) (hKernelDxIdeal : Cert.KernelDxIdeal.Facts) (hReferenceDxIdeal : Cert.ReferenceDxIdeal.Facts) (hKernelHgf : Cert.KernelHgf.Facts) (hKernelHgfIdeal : Cert.KernelHgfIdeal.Facts) (hReferenceHgfIdeal : Cert.ReferenceHgfIdeal.Facts) (hKernelPre : Cert.KernelPre.Facts) (hKernelPreIdeal : Cert.KernelPreIdeal.Facts) (hReferencePreIdeal : Cert.ReferencePreIdeal.Facts) (hKernelHg : Cert.KernelHg.Facts) (hKernelHgIdeal : Cert.KernelHgIdeal.Facts) (hPre_finite_small : Cert.Pre_finite_small.Facts) (hPre_finite_sb : Cert.Pre_finite_sb.Facts) (hPre_finite_mid : Cert.Pre_finite_mid.Facts) (hPre_finite_fwd : Cert.Pre_finite_fwd.Facts) (hPre_finite_dx : Cert.Pre_finite_dx.Facts),
    quiescent_KernelSmall (hKernelSmall := hKernelSmall)
    ∧ quiescent_KernelSmallIdeal (hKernelSmallIdeal := hKernelSmallIdeal)
    ∧ quiescent_KernelSmallIdeal_pre_finite_small (hKernelSmallIdeal := hKernelSmallIdeal) (hPre_finite_small := hPre_finite_small)
    ∧ quiescent_ReferenceSmallIdeal (hReferenceSmallIdeal := hReferenceSmallIdeal)
    ∧ quiescent_ReferenceSmallIdeal_pre_finite_small (hReferenceSmallIdeal := hReferenceSmallIdeal) (hPre_finite_small := hPre_finite_small)
    ∧ quiescent_KernelSb (hKernelSb := hKernelSb)
    ∧ quiescent_KernelSbIdeal (hKernelSbIdeal := hKernelSbIdeal)
    ∧ quiescent_KernelSbIdeal_pre_finite_sb (hKernelSbIdeal := hKernelSbIdeal) (hPre_finite_sb := hPre_finite_sb)
    ∧ quiescent_ReferenceSbIdeal (hReferenceSbIdeal := hReferenceSbIdeal)
    ∧ quiescent_ReferenceSbIdeal_pre_finite_sb (hReferenceSbIdeal := hReferenceSbIdeal) (hPre_finite_sb := hPre_finite_sb)
    ∧ quiescent_KernelMid (hKernelMid := hKernelMid)
    ∧ quiescent_KernelMidIdeal (hKernelMidIdeal := hKernelMidIdeal)
    ∧ quiescent_KernelMidIdeal_pre_finite_mid (hKernelMidIdeal := hKernelMidIdeal) (hPre_finite_mid := hPre_finite_mid)
    ∧ quiescent_ReferenceMidIdeal (hReferenceMidIdeal := hReferenceMidIdeal)
    ∧ quiescent_ReferenceMidIdeal_pre_finite_mid (hReferenceMidIdeal := hReferenceMidIdeal) (hPre_finite_mid := hPre_finite_mid)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelDx (hKernelDx := hKernelDx)
    ∧ quiescent_KernelDxIdeal (hKernelDxIdeal := hKernelDxIdeal)
    ∧ quiescent_KernelDxIdeal_pre_finite_dx (hKernelDxIdeal := hKernelDxIdeal) (hPre_finite_dx := hPre_finite_dx)
    ∧ quiescent_ReferenceDxIdeal (hReferenceDxIdeal := hReferenceDxIdeal)
    ∧ quiescent_ReferenceDxIdeal_pre_finite_dx (hReferenceDxIdeal := hReferenceDxIdeal) (hPre_finite_dx := hPre_finite_dx)
    ∧ quiescent_KernelHgf (hKernelHgf := hKernelHgf)
    ∧ quiescent_KernelHgfIdeal (hKernelHgfIdeal := hKernelHgfIdeal)
    ∧ quiescent_ReferenceHgfIdeal (hReferenceHgfIdeal := hReferenceHgfIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelHg (hKernelHg := hKernelHg)
    ∧ quiescent_KernelHgIdeal (hKernelHgIdeal := hKernelHgIdeal)
    ∧ preserves_KernelSmall_KernelSmallIdeal
    ∧ algebraic_KernelSmallIdeal_ReferenceSmallIdeal_pre_finite_small (hKernelSmallIdeal := hKernelSmallIdeal) (hReferenceSmallIdeal := hReferenceSmallIdeal) (hPre_finite_small := hPre_finite_small)
    ∧ preserves_KernelSb_KernelSbIdeal
    ∧ algebraic_KernelSbIdeal_ReferenceSbIdeal_pre_finite_sb (hKernelSbIdeal := hKernelSbIdeal) (hReferenceSbIdeal := hReferenceSbIdeal) (hPre_finite_sb := hPre_finite_sb)
    ∧ preserves_KernelMid_KernelMidIdeal
    ∧ algebraic_KernelMidIdeal_ReferenceMidIdeal_pre_finite_mid (hKernelMidIdeal := hKernelMidIdeal) (hReferenceMidIdeal := hReferenceMidIdeal) (hPre_finite_mid := hPre_finite_mid)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelDx_KernelDxIdeal
    ∧ algebraic_KernelDxIdeal_ReferenceDxIdeal_pre_finite_dx (hKernelDxIdeal := hKernelDxIdeal) (hReferenceDxIdeal := hReferenceDxIdeal) (hPre_finite_dx := hPre_finite_dx)
    ∧ preserves_KernelHgf_KernelHgfIdeal
    ∧ preserves_KernelPre_KernelPreIdeal
    ∧ algebraic_KernelPreIdeal_ReferencePreIdeal (hKernelPreIdeal := hKernelPreIdeal) (hReferencePreIdeal := hReferencePreIdeal)
    ∧ preserves_KernelHg_KernelHgIdeal
-- ==== Pre_finite_dx.lean ====
abbrev S8192x1024 : Shape := ⟨2, ![8192, 1024]⟩
abbrev S8192x4096 : Shape := ⟨2, ![8192, 4096]⟩
abbrev S8192x3072 : Shape := ⟨2, ![8192, 3072]⟩
abbrev S1024x10240 : Shape := ⟨2, ![1024, 10240]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x4096 : S_.BroadcastsInDim S8192x4096 (![] : Fin 0 → Fin S8192x4096.rank)
  bcast_S_S8192x3072 : S_.BroadcastsInDim S8192x3072 (![] : Fin 0 → Fin S8192x3072.rank)
  bcast_S_S1024x10240 : S_.BroadcastsInDim S1024x10240 (![] : Fin 0 → Fin S1024x10240.rank)
  bcast_S_S1x1024 : S_.BroadcastsInDim S1x1024 (![] : Fin 0 → Fin S1x1024.rank)

variable [Facts]

def fn_part1 {F : FTy → Type} [FloatOps F] (main_arg5 : FVec F S1024x10240 .bf16) (main_arg6 : FVec F S8192x1024 .f32) (main_arg7 : FVec F S1x1024 .f32) (main_arg8 : FVec F S8192x1024 .f32) (main_v3 : IVec S8192x1024 1) (main_v7 : IVec S8192x1024 1) (main_v11 : IVec S8192x1024 1) (main_v15 : IVec S8192x4096 1) (main_v17 : FVec F S8192x3072 .f32) (main_v18 : FVec F S8192x3072 .f32) : IVec S8192x1024 1 × IVec S8192x1024 1 × IVec S8192x1024 1 × IVec S8192x4096 1 × IVec S8192x3072 1 × IVec S1024x10240 1 × IVec S8192x1024 1 × IVec S1x1024 1 × IVec S8192x1024 1 :=
  let main_v19 : IVec S8192x3072 1 := cmpf .olt main_v17 main_v18
  let main_v20 : FVec F S1024x10240 .f32 := (extf .f32 · bitsLt_bf16_f32) main_arg5
  let main_v21 : FVec F S1024x10240 .f32 := Host.absf main_v20
  let main_cst_4 : FVec F S_ .f32 := constant S_ .f32 0x7F800000#32
  let main_v22 : FVec F S1024x10240 .f32 := broadcastInDim S1024x10240 ![] bcast_S_S1024x10240 main_cst_4
  let main_v23 : IVec S1024x10240 1 := cmpf .olt main_v21 main_v22
  let main_v24 : FVec F S8192x1024 .f32 := Host.absf main_arg6
  let main_cst_5 : FVec F S_ .f32 := constant S_ .f32 0x7F800000#32
  let main_v25 : FVec F S8192x1024 .f32 := broadcastInDim S8192x1024 ![] bcast_S_S8192x1024 main_cst_5
  let main_v26 : IVec S8192x1024 1 := cmpf .olt main_v24 main_v25
  let main_v27 : FVec F S1x1024 .f32 := Host.absf main_arg7
  let main_cst_6 : FVec F S_ .f32 := constant S_ .f32 0x7F800000#32
  let main_v28 : FVec F S1x1024 .f32 := broadcastInDim S1x1024 ![] bcast_S_S1x1024 main_cst_6
  let main_v29 : IVec S1x1024 1 := cmpf .olt main_v27 main_v28
  let main_v30 : FVec F S8192x1024 .f32 := Host.absf main_arg8
  let main_cst_7 : FVec F S_ .f32 := constant S_ .f32 0x7F800000#32
  let main_v31 : FVec F S8192x1024 .f32 := broadcastInDim S8192x1024 ![] bcast_S_S8192x1024 main_cst_7
  let main_v32 : IVec S8192x1024 1 := cmpf .olt main_v30 main_v31
  (main_v3, main_v7, main_v11, main_v15, main_v19, main_v23, main_v26, main_v29, main_v32)

def fn {F : FTy → Type} [FloatOps F] (main_arg0 : FVec F S8192x1024 .bf16) (main_arg1 : FVec F S8192x1024 .bf16) (main_arg2 : FVec F S8192x1024 .bf16) (main_arg3 : FVec F S8192x4096 .bf16) (main_arg4 : FVec F S8192x3072 .bf16) (main_arg5 : FVec F S1024x10240 .bf16) (main_arg6 : FVec F S8192x1024 .f32) (main_arg7 : FVec F S1x1024 .f32) (main_arg8 : FVec F S8192x1024 .f32) : IVec S8192x1024 1 × IVec S8192x1024 1 × IVec S8192x1024 1 × IVec S8192x4096 1 × IVec S8192x3072 1 × IVec S1024x10240 1 × IVec S8192x1024 1 × IVec S1x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x4096 .f32 := (extf .f32 · bitsLt_bf16_f32) main_arg3
  let main_v13 : FVec F S8192x4096 .f32 := Host.absf main_v12
  let main_cst_2 : FVec F S_ .f32 := constant S_ .f32 0x7F800000#32
  let main_v14 : FVec F S8192x4096 .f32 := broadcastInDim S8192x4096 ![] bcast_S_S8192x4096 main_cst_2
  let main_v15 : IVec S8192x4096 1 := cmpf .olt main_v13 main_v14
  let main_v16 : FVec F S8192x3072 .f32 := (extf .f32 · bitsLt_bf16_f32) main_arg4
  let main_v17 : FVec F S8192x3072 .f32 := Host.absf main_v16
  let main_cst_3 : FVec F S_ .f32 := constant S_ .f32 0x7F800000#32
  let main_v18 : FVec F S8192x3072 .f32 := broadcastInDim S8192x3072 ![] bcast_S_S8192x3072 main_cst_3
  fn_part1 (F := F) main_arg5 main_arg6 main_arg7 main_arg8 main_v3 main_v7 main_v11 main_v15 main_v17 main_v18
-- ==== Pre_finite_fwd.lean ====
abbrev S8192x10240 : Shape := ⟨2, ![8192, 10240]⟩
abbrev S_ : Shape := ⟨0, ![]⟩

class Facts : Prop where
  bitsLt_bf16_f32 : FTy.bits .bf16 < FTy.bits .f32
  bcast_S_S8192x10240 : S_.BroadcastsInDim S8192x10240 (![] : Fin 0 → Fin S8192x10240.rank)

variable [Facts]

def fn {F : FTy → Type} [FloatOps F] (main_arg0 : FVec F S8192x10240 .bf16) : IVec S8192x10240 1 :=
  let main_v0 : FVec F S8192x10240 .f32 := (extf .f32 · bitsLt_bf16_f32) main_arg0
  let main_v1 : FVec F S8192x10240 .f32 := Host.absf main_v0
  let main_cst : FVec F S_ .f32 := constant S_ .f32 0x7F800000#32
  let main_v2 : FVec F S8192x10240 .f32 := broadcastInDim S8192x10240 ![] bcast_S_S8192x10240 main_cst
  let main_v3 : IVec S8192x10240 1 := cmpf .olt main_v1 main_v2
  main_v3
-- ==== Pre_finite_mid.lean ====
abbrev S8192x10240 : Shape := ⟨2, ![8192, 10240]⟩
abbrev S8192x1024 : Shape := ⟨2, ![8192, 1024]⟩
abbrev S1x2048 : Shape := ⟨2, ![1, 2048]⟩
abbrev S1x8x128 : Shape := ⟨3, ![1, 8, 128]⟩
abbrev S1024 : Shape := ⟨1, ![1024]⟩
abbrev S1024x1024 : Shape := ⟨2, ![1024, 1024]⟩
abbrev S_ : Shape := ⟨0, ![]⟩

class Facts : Prop where
  bcast_S_S8192x10240 : S_.BroadcastsInDim S8192x10240 (![] : Fin 0 → Fin S8192x10240.rank)
  bcast_S_S8192x1024 : S_.BroadcastsInDim S8192x1024 (![] : Fin 0 → Fin S8192x1024.rank)
  bcast_S_S1x2048 : S_.BroadcastsInDim S1x2048 (![] : Fin 0 → Fin S1x2048.rank)
  bcast_S_S1x8x128 : S_.BroadcastsInDim S1x8x128 (![] : Fin 0 → Fin S1x8x128.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg6 : FVec F S1x8x128 .f32) (main_arg7 : FVec F S1024 .f32) (main_arg8 : FVec F S1024x1024 .f32) (main_arg9 : FVec F S1024x1024 .f32) (main_arg10 : FVec F S1024x1024 .f32) (main_v2 : IVec S8192x10240 1) (main_v5 : IVec S8192x1024 1) (main_v8 : IVec S8192x1024 1) (main_v11 : IVec S8192x1024 1) (main_v14 : IVec S8192x1024 1) (main_v17 : IVec S1x2048 1) : IVec S8192x10240 1 × IVec S8192x1024 1 × IVec S8192x1024 1 × IVec S8192x1024 1 × IVec S8192x1024 1 × IVec S1x2048 1 × IVec S1x8x128 1 × IVec S1024 1 × IVec S1024x1024 1 × IVec S1024x1024 1 × IVec S1024x1024 1 :=
  let main_v18 : FVec F S1x8x128 .f32 := Host.absf main_arg6
  let main_cst_5 : FVec F S_ .f32 := constant S_ .f32 0x7F800000#32
  let main_v19 : FVec F S1x8x128 .f32 := broadcastInDim S1x8x128 ![] bcast_S_S1x8x128 main_cst_5
  let main_v20 : IVec S1x8x128 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S1024x1024 .f32 := Host.absf main_arg9
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_v30 : FVec F S1024x1024 .f32 := Host.absf main_arg10
  let main_cst_9 : FVec F S_ .f32 := constant S_ .f32 0x7F800000#32
  let main_v31 : FVec F S1024x1024 .f32 := broadcastInDim S1024x1024 ![] bcast_S_S1024x1024 main_cst_9
  let main_v32 : IVec S1024x1024 1 := cmpf .olt main_v30 main_v31
  (main_v2, main_v5, main_v8, main_v11, main_v14, main_v17, main_v20, main_v23, main_v26, main_v29, main_v32)

def fn {F : FTy → Type} [FloatOps F] (main_arg0 : FVec F S8192x10240 .f32) (main_arg1 : FVec F S8192x1024 .f32) (main_arg2 : FVec F S8192x1024 .f32) (main_arg3 : FVec F S8192x1024 .f32) (main_arg4 : FVec F S8192x1024 .f32) (main_arg5 : FVec F S1x2048 .f32) (main_arg6 : FVec F S1x8x128 .f32) (main_arg7 : FVec F S1024 .f32) (main_arg8 : FVec F S1024x1024 .f32) (main_arg9 : FVec F S1024x1024 .f32) (main_arg10 : FVec F S1024x1024 .f32) : IVec S8192x10240 1 × IVec S8192x1024 1 × IVec S8192x1024 1 × IVec S8192x1024 1 × IVec S8192x1024 1 × IVec S1x2048 1 × IVec S1x8x128 1 × IVec S1024 1 × IVec S1024x1024 1 × IVec S1024x1024 1 × IVec S1024x1024 1 :=
  let main_v0 : FVec F S8192x10240 .f32 := Host.absf main_arg0
  let main_cst : FVec F S_ .f32 := constant S_ .f32 0x7F800000#32
  let main_v1 : FVec F S8192x10240 .f32 := broadcastInDim S8192x10240 ![] bcast_S_S8192x10240 main_cst
  let main_v2 : IVec S8192x10240 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1x2048 .f32 := Host.absf main_arg5
  let main_cst_4 : FVec F S_ .f32 := constant S_ .f32 0x7F800000#32
  let main_v16 : FVec F S1x2048 .f32 := broadcastInDim S1x2048 ![] bcast_S_S1x2048 main_cst_4
  let main_v17 : IVec S1x2048 1 := cmpf .olt main_v15 main_v16
  fn_part1 (F := F) main_arg6 main_arg7 main_arg8 main_arg9 main_arg10 main_v2 main_v5 main_v8 main_v11 main_v14 main_v17
-- ==== Pre_finite_sb.lean ====
abbrev S8192x10240 : Shape := ⟨2, ![8192, 10240]⟩
abbrev S8192x1024 : Shape := ⟨2, ![8192, 1024]⟩
abbrev S_ : Shape := ⟨0, ![]⟩

class Facts : Prop where
  bitsLt_bf16_f32 : FTy.bits .bf16 < FTy.bits .f32
  bcast_S_S8192x10240 : S_.BroadcastsInDim S8192x10240 (![] : Fin 0 → Fin S8192x10240.rank)
  bcast_S_S8192x1024 : S_.BroadcastsInDim S8192x1024 (![] : Fin 0 → Fin S8192x1024.rank)

variable [Facts]

def fn {F : FTy → Type} [FloatOps F] (main_arg0 : FVec F S8192x10240 .bf16) (main_arg1 : FVec F S8192x1024 .bf16) : IVec S8192x10240 1 × IVec S8192x1024 1 :=
  let main_v0 : FVec F S8192x10240 .f32 := (extf .f32 · bitsLt_bf16_f32) main_arg0
  let main_v1 : FVec F S8192x10240 .f32 := Host.absf main_v0
  let main_cst : FVec F S_ .f32 := constant S_ .f32 0x7F800000#32
  let main_v2 : FVec F S8192x10240 .f32 := broadcastInDim S8192x10240 ![] bcast_S_S8192x10240 main_cst
  let main_v3 : IVec S8192x10240 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  (main_v3, main_v7)
-- ==== Pre_finite_small.lean ====
abbrev S1x1 : Shape := ⟨2, ![1, 1]⟩
abbrev S1x1024 : Shape := ⟨2, ![1, 1024]⟩
abbrev S1x2048 : Shape := ⟨2, ![1, 2048]⟩
abbrev S2x8x128 : Shape := ⟨3, ![2, 8, 128]⟩
abbrev S1x8x128 : Shape := ⟨3, ![1, 8, 128]⟩
abbrev S1024 : Shape := ⟨1, ![1024]⟩
abbrev S_ : Shape := ⟨0, ![]⟩

class Facts : Prop where
  bcast_S_S2x8x128 : S_.BroadcastsInDim S2x8x128 (![] : Fin 0 → Fin S2x8x128.rank)
  bcast_S_S1x1024 : S_.BroadcastsInDim S1x1024 (![] : Fin 0 → Fin S1x1024.rank)

variable [Facts]

def fn {F : FTy → Type} [FloatOps F] (main_arg0 : FVec F S1x1 .f32) (main_arg1 : FVec F S1x1024 .f32) (main_arg2 : FVec F S1x2048 .f32) (main_arg3 : FVec F S1x1024 .f32) (main_arg4 : FVec F S1x1024 .f32) (main_arg5 : FVec F S1x1024 .f32) (main_arg6 : FVec F S1x1024 .f32) (main_arg7 : FVec F S1x2048 .f32) (main_arg8 : FVec F S2x8x128 .f32) (main_arg9 : FVec F S1x8x128 .f32) (main_arg10 : FVec F S1024 .f32) (main_arg11 : FVec F S1x1024 .f32) (main_arg12 : FVec F S1x2048 .f32) (main_arg13 : FVec F S2x8x128 .f32) (main_arg14 : FVec F S1x8x128 .f32) (main_arg15 : FVec F S1024 .f32) (main_arg16 : FVec F S1x1024 .f32) (main_arg17 : FVec F S1x2048 .f32) (main_arg18 : FVec F S2x8x128 .f32) (main_arg19 : FVec F S1x8x128 .f32) (main_arg20 : FVec F S1024 .f32) : IVec S2x8x128 1 × IVec S1x1024 1 :=
  let main_v0 : FVec F S2x8x128 .f32 := Host.absf main_arg8
  let main_cst : FVec F S_ .f32 := constant S_ .f32 0x7F800000#32
  let main_v1 : FVec F S2x8x128 .f32 := broadcastInDim S2x8x128 ![] bcast_S_S2x8x128 main_cst
  let main_v2 : IVec S2x8x128 1 := cmpf .olt main_v0 main_v1
  let main_v3 : FVec F S1x1024 .f32 := Host.absf main_arg3
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== KernelSmall.lean ====
abbrev S1x1 : Shape := ⟨2, ![1, 1]⟩
abbrev S1x1024 : Shape := ⟨2, ![1, 1024]⟩
abbrev S1x2048 : Shape := ⟨2, ![1, 2048]⟩
abbrev S2x8x128 : Shape := ⟨3, ![2, 8, 128]⟩
abbrev S1x8x128 : Shape := ⟨3, ![1, 8, 128]⟩
abbrev S1024 : Shape := ⟨1, ![1024]⟩
abbrev S_ : Shape := ⟨0, ![]⟩
abbrev S8x128 : Shape := ⟨2, ![8, 128]⟩
abbrev S1 : Shape := ⟨1, ![1]⟩
abbrev S2 : Shape := ⟨1, ![2]⟩
abbrev S16x128 : Shape := ⟨2, ![16, 128]⟩
abbrev S56x128 : Shape := ⟨2, ![56, 128]⟩

abbrev nBuf : Space → Nat
  | .hbm => 100
  | .vmem => 9
  | .smem => 0
  | _ => 0

abbrev bufTy : (tb : Table) → Fin (tcTables nBuf tb) → BufTy
  | .hbm, ⟨0, _⟩ => ⟨S1x1, .f32⟩
  | .hbm, ⟨1, _⟩ => ⟨S1x1024, .f32⟩
  | .hbm, ⟨2, _⟩ => ⟨S1x2048, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x2048, .f32⟩
  | .hbm, ⟨8, _⟩ => ⟨S2x8x128, .f32⟩
  | .hbm, ⟨9, _⟩ => ⟨S1x8x128, .f32⟩
  | .hbm, ⟨10, _⟩ => ⟨S1024, .f32⟩
  | .hbm, ⟨11, _⟩ => ⟨S1x1024, .f32⟩
  | .hbm, ⟨12, _⟩ => ⟨S1x2048, .f32⟩
  | .hbm, ⟨13, _⟩ => ⟨S2x8x128, .f32⟩
  | .hbm, ⟨14, _⟩ => ⟨S1x8x128, .f32⟩
  | .hbm, ⟨15, _⟩ => ⟨S1024, .f32⟩
  | .hbm, ⟨16, _⟩ => ⟨S1x1024, .f32⟩
  | .hbm, ⟨17, _⟩ => ⟨S1x2048, .f32⟩
  | .hbm, ⟨18, _⟩ => ⟨S2x8x128, .f32⟩
  | .hbm, ⟨19, _⟩ => ⟨S1x8x128, .f32⟩
  | .hbm, ⟨20, _⟩ => ⟨S1024, .f32⟩
  | .hbm, ⟨21, _⟩ => ⟨S_, .f32⟩
  | .hbm, ⟨22, _⟩ => ⟨S8x128, .f32⟩
  | .hbm, ⟨23, _⟩ => ⟨S_, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S8x128, .f32⟩
  | .hbm, ⟨30, _⟩ => ⟨S8x128, .f32⟩
  | .hbm, ⟨31, _⟩ => ⟨S16x128, .f32⟩
  | .hbm, ⟨32, _⟩ => ⟨S8x128, .f32⟩
  | .hbm, ⟨33, _⟩ => ⟨S8x128, .f32⟩
  | .hbm, ⟨34, _⟩ => ⟨S8x128, .f32⟩
  | .hbm, ⟨35, _⟩ => ⟨S56x128, .f32⟩
  | .hbm, ⟨36, _⟩ => ⟨S8x128, .f32⟩
  | .hbm, ⟨37, _⟩ => ⟨S16x128, .f32⟩
  | .hbm, ⟨38, _⟩ => ⟨S16x128, .f32⟩
  | .hbm, ⟨39, _⟩ => ⟨S8x128, .f32⟩
  | .hbm, ⟨40, _⟩ => ⟨S8x128, .f32⟩
  | .hbm, ⟨41, _⟩ => ⟨S56x128, .f32⟩
  | .hbm, ⟨42, _⟩ => ⟨S8x128, .f32⟩
  | .hbm, ⟨43, _⟩ => ⟨S16x128, .f32⟩
  | .hbm, ⟨44, _⟩ => ⟨S16x128, .f32⟩
  | .hbm, ⟨45, _⟩ => ⟨S8x128, .f32⟩
  | .hbm, ⟨46, _⟩ => ⟨S8x128, .f32⟩
  | .hbm, ⟨47, _⟩ => ⟨S56x128, .f32⟩
  | .hbm, ⟨48, _⟩ => ⟨S8x128, .f32⟩
  | .hbm, ⟨49, _⟩ => ⟨S16x128, .f32⟩
  | .hbm, ⟨50, _⟩ => ⟨S16x128, .f32⟩
  | .hbm, ⟨51, _⟩ => ⟨S8x128, .f32⟩
  | .hbm, ⟨52, _⟩ => ⟨S8x128, .f32⟩
  | .hbm, ⟨53, _⟩ => ⟨S56x128, .f32⟩
  | .hbm, ⟨54, _⟩ => ⟨S1x1, .f32⟩
  | .hbm, ⟨55, _⟩ => ⟨S56x128, .f32⟩
  | .hbm, ⟨56, _⟩ => ⟨S56x128, .f32⟩
  | .hbm, ⟨57, _⟩ => ⟨S56x128, .f32⟩
  | .hbm, ⟨58, _⟩ => ⟨S56x128, .f32⟩
  | .hbm, ⟨59, _⟩ => ⟨S_, .f32⟩
  | .hbm, ⟨60, _⟩ => ⟨S8x128, .f32⟩
  | .hbm, ⟨61, _⟩ => ⟨S1x1024, .f32⟩
  | .hbm, ⟨62, _⟩ => ⟨S16x128, .f32⟩
  | .hbm, ⟨63, _⟩ => ⟨S1x2048, .f32⟩
  | .hbm, ⟨64, _⟩ => ⟨S16x128, .f32⟩
  | .hbm, ⟨65, _⟩ => ⟨S2x8x128, .f32⟩
  | .hbm, ⟨66, _⟩ => ⟨S8x128, .f32⟩
  | .hbm, ⟨67, _⟩ => ⟨S1x8x128, .f32⟩
  | .hbm, ⟨68, _⟩ => ⟨S8x128, .f32⟩
  | .hbm, ⟨69, _⟩ => ⟨S1024, .f32⟩
  | .hbm, ⟨70, _⟩ => ⟨S8x128, .f32⟩
  | .hbm, ⟨71, _⟩ => ⟨S1x1024, .f32⟩
  | .hbm, ⟨72, _⟩ => ⟨S16x128, .f32⟩
  | .hbm, ⟨73, _⟩ => ⟨S1x2048, .f32⟩
  | .hbm, ⟨74, _⟩ => ⟨S16x128, .f32⟩
  | .hbm, ⟨75, _⟩ => ⟨S2x8x128, .f32⟩
  | .hbm, ⟨76, _⟩ => ⟨S8x128, .f32⟩
  | .hbm, ⟨77, _⟩ => ⟨S1x8x128, .f32⟩
  | .hbm, ⟨78, _⟩ => ⟨S8x128, .f32⟩
  | .hbm, ⟨79, _⟩ => ⟨S1024, .f32⟩
  | .hbm, ⟨80, _⟩ => ⟨S8x128, .f32⟩
  | .hbm, ⟨81, _⟩ => ⟨S1x1024, .f32⟩
  | .hbm, ⟨82, _⟩ => ⟨S16x128, .f32⟩
  | .hbm, ⟨83, _⟩ => ⟨S1x2048, .f32⟩
  | .hbm, ⟨84, _⟩ => ⟨S16x128, .f32⟩
  | .hbm, ⟨85, _⟩ => ⟨S2x8x128, .f32⟩
  | .hbm, ⟨86, _⟩ => ⟨S8x128, .f32⟩
  | .hbm, ⟨87, _⟩ => ⟨S1x8x128, .f32⟩
  | .hbm, ⟨88, _⟩ => ⟨S8x128, .f32⟩
  | .hbm, ⟨89, _⟩ => ⟨S1024, .f32⟩
  | .hbm, ⟨90, _⟩ => ⟨S8x128, .f32⟩
  | .hbm, ⟨91, _⟩ => ⟨S1x1024, .f32⟩
  | .hbm, ⟨92, _⟩ => ⟨S16x128, .f32⟩
  | .hbm, ⟨93, _⟩ => ⟨S1x2048, .f32⟩
  | .hbm, ⟨94, _⟩ => ⟨S16x128, .f32⟩
  | .hbm, ⟨95, _⟩ => ⟨S2x8x128, .f32⟩
  | .hbm, ⟨96, _⟩ => ⟨S8x128, .f32⟩
  | .hbm, ⟨97, _⟩ => ⟨S1x8x128, .f32⟩
  | .hbm, ⟨98, _⟩ => ⟨S8x128, .f32⟩
  | .hbm, ⟨99, _⟩ => ⟨S1024, .f32⟩
  | .local _ .vmem, ⟨0, _⟩ => ⟨S56x128, .f32⟩
  | .local _ .vmem, ⟨1, _⟩ => ⟨S56x128, .f32⟩
  | .local _ .vmem, ⟨2, _⟩ => ⟨S56x128, .f32⟩
  | .local _ .vmem, ⟨3, _⟩ => ⟨S56x128, .f32⟩
  | .local _ .vmem, ⟨4, _⟩ => ⟨S1x1, .f32⟩
  | .local _ .vmem, ⟨5, _⟩ => ⟨S56x128, .f32⟩
  | .local _ .vmem, ⟨6, _⟩ => ⟨S56x128, .f32⟩
  | .local _ .vmem, ⟨7, _⟩ => ⟨S56x128, .f32⟩
  | .local _ .vmem, ⟨8, _⟩ => ⟨S56x128, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_v30_2 : Ref sig .tc := ⟨.hbm, 56, rfl⟩
abbrev main_v30_3 : Ref sig .tc := ⟨.hbm, 57, rfl⟩
abbrev main_v30_4 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S56x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S56x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S56x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceSmallIdeal.lean ====
abbrev S1x1 : Shape := ⟨2, ![1, 1]⟩
abbrev S1x1024 : Shape := ⟨2, ![1, 1024]⟩
abbrev S1x2048 : Shape := ⟨2, ![1, 2048]⟩
abbrev S2x8x128 : Shape := ⟨3, ![2, 8, 128]⟩
abbrev S1x8x128 : Shape := ⟨3, ![1, 8, 128]⟩
abbrev S1024 : Shape := ⟨1, ![1024]⟩
abbrev S_ : Shape := ⟨0, ![]⟩
abbrev S8x128 : Shape := ⟨2, ![8, 128]⟩

abbrev nBuf : Space → Nat
  | .hbm => 253
  | .vmem => 0
  | .smem => 0
  | _ => 0

abbrev hbmTy0_0 (i : Nat) : BufTy := match i % 128 with
  | 0 => ⟨S1x1, .f32⟩
  | 1 => ⟨S1x1024, .f32⟩
  | 2 => ⟨S1x2048, .f32⟩
  | 3 => ⟨S1x1024, .f32⟩
  | 4 => ⟨S1x1024, .f32⟩
  | 5 => ⟨S1x1024, .f32⟩
  | 6 => ⟨S1x1024, .f32⟩
  | 7 => ⟨S1x2048, .f32⟩
  | 8 => ⟨S2x8x128, .f32⟩
  | 9 => ⟨S1x8x128, .f32⟩
  | 10 => ⟨S1024, .f32⟩
  | 11 => ⟨S1x1024, .f32⟩
  | 12 => ⟨S1x2048, .f32⟩
  | 13 => ⟨S2x8x128, .f32⟩
  | 14 => ⟨S1x8x128, .f32⟩
  | 15 => ⟨S1024, .f32⟩
  | 16 => ⟨S1x1024, .f32⟩
  | 17 => ⟨S1x2048, .f32⟩
  | 18 => ⟨S2x8x128, .f32⟩
  | 19 => ⟨S1x8x128, .f32⟩
  | 20 => ⟨S1024, .f32⟩
  | 21 => ⟨S_, .f32⟩
  | 22 => ⟨S8x128, .f32⟩
  | 23 => ⟨S1x8x128, .f32⟩
  | 24 => ⟨S2x8x128, .f32⟩
  | 25 => ⟨S2x8x128, .i1⟩
  | 26 => ⟨S2x8x128, .f32⟩
  | 27 => ⟨S_, .f32⟩
  | 28 => ⟨S8x128, .f32⟩
  | 29 => ⟨S_, .f32⟩
  | 30 => ⟨S8x128, .f32⟩
  | 31 => ⟨S8x128, .f32⟩
  | 32 => ⟨S_, .f32⟩
  | 33 => ⟨S8x128, .f32⟩
  | 34 => ⟨S8x128, .i1⟩
  | 35 => ⟨S_, .f32⟩
  | 36 => ⟨S8x128, .f32⟩
  | 37 => ⟨S8x128, .i1⟩
  | 38 => ⟨S_, .f32⟩
  | 39 => ⟨S8x128, .f32⟩
  | 40 => ⟨S_, .f32⟩
  | 41 => ⟨S8x128, .f32⟩
  | 42 => ⟨S_, .f32⟩
  | 43 => ⟨S8x128, .f32⟩
  | 44 => ⟨S8x128, .f32⟩
  | 45 => ⟨S8x128, .f32⟩
  | 46 => ⟨S1x8x128, .f32⟩
  | 47 => ⟨S2x8x128, .f32⟩
  | 48 => ⟨S2x8x128, .f32⟩
  | 49 => ⟨S2x8x128, .f32⟩
  | 50 => ⟨S_, .f32⟩
  | 51 => ⟨S8x128, .f32⟩
  | 52 => ⟨S1x8x128, .f32⟩
  | 53 => ⟨S2x8x128, .f32⟩
  | 54 => ⟨S2x8x128, .f32⟩
  | 55 => ⟨S1x8x128, .f32⟩
  | 56 => ⟨S_, .f32⟩
  | 57 => ⟨S1x8x128, .f32⟩
  | 58 => ⟨S1x8x128, .f32⟩
  | 59 => ⟨S_, .f32⟩
  | 60 => ⟨S_, .f32⟩
  | 61 => ⟨S2x8x128, .f32⟩
  | 62 => ⟨S1x8x128, .f32⟩
  | 63 => ⟨S8x128, .f32⟩
  | 64 => ⟨S8x128, .f32⟩
  | 65 => ⟨S1x8x128, .f32⟩
  | 66 => ⟨S_, .f32⟩
  | 67 => ⟨S2x8x128, .f32⟩
  | 68 => ⟨S_, .f32⟩
  | 69 => ⟨S_, .f32⟩
  | 70 => ⟨S2x8x128, .f32⟩
  | 71 => ⟨S2x8x128, .f32⟩
  | 72 => ⟨S2x8x128, .f32⟩
  | 73 => ⟨S2x8x128, .f32⟩
  | 74 => ⟨S_, .f32⟩
  | 75 => ⟨S8x128, .f32⟩
  | 76 => ⟨S1x8x128, .f32⟩
  | 77 => ⟨S1x8x128, .f32⟩
  | 78 => ⟨S2x8x128, .f32⟩
  | 79 => ⟨S2x8x128, .f32⟩
  | 80 => ⟨S_, .f32⟩
  | 81 => ⟨S8x128, .f32⟩
  | 82 => ⟨S2x8x128, .f32⟩
  | 83 => ⟨S2x8x128, .f32⟩
  | 84 => ⟨S2x8x128, .f32⟩
  | 85 => ⟨S1x8x128, .f32⟩
  | 86 => ⟨S1024, .f32⟩
  | 87 => ⟨S_, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x2048, .f32⟩
  | 122 => ⟨S1x2048, .f32⟩
  | 123 => ⟨S_, .f32⟩
  | 124 => ⟨S1x2048, .f32⟩
  | 125 => ⟨S1x2048, .f32⟩
  | 126 => ⟨S1x2048, .f32⟩
  | 127 => ⟨S_, .f32⟩
  | _ => ⟨S1x1, .f32⟩

abbrev hbmTy0_1 (i : Nat) : BufTy := match i % 128 with
  | 0 => ⟨S1x2048, .f32⟩
  | 1 => ⟨S1x2048, .f32⟩
  | 2 => ⟨S1x2048, .f32⟩
  | 3 => ⟨S_, .f32⟩
  | 4 => ⟨S1x2048, .f32⟩
  | 5 => ⟨S1x2048, .f32⟩
  | 6 => ⟨S1x2048, .f32⟩
  | 7 => ⟨S_, .f32⟩
  | 8 => ⟨S1x2048, .f32⟩
  | 9 => ⟨S1x2048, .f32⟩
  | 10 => ⟨S_, .f32⟩
  | 11 => ⟨S1x2048, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S_, .f32⟩
  | 26 => ⟨S2x8x128, .f32⟩
  | 27 => ⟨S2x8x128, .f32⟩
  | 28 => ⟨S_, .f32⟩
  | 29 => ⟨S2x8x128, .f32⟩
  | 30 => ⟨S2x8x128, .f32⟩
  | 31 => ⟨S2x8x128, .f32⟩
  | 32 => ⟨S_, .f32⟩
  | 33 => ⟨S2x8x128, .f32⟩
  | 34 => ⟨S2x8x128, .f32⟩
  | 35 => ⟨S2x8x128, .f32⟩
  | 36 => ⟨S_, .f32⟩
  | 37 => ⟨S2x8x128, .f32⟩
  | 38 => ⟨S2x8x128, .f32⟩
  | 39 => ⟨S2x8x128, .f32⟩
  | 40 => ⟨S_, .f32⟩
  | 41 => ⟨S2x8x128, .f32⟩
  | 42 => ⟨S2x8x128, .f32⟩
  | 43 => ⟨S_, .f32⟩
  | 44 => ⟨S2x8x128, .f32⟩
  | 45 => ⟨S2x8x128, .f32⟩
  | 46 => ⟨S2x8x128, .f32⟩
  | 47 => ⟨S_, .f32⟩
  | 48 => ⟨S2x8x128, .f32⟩
  | 49 => ⟨S2x8x128, .f32⟩
  | 50 => ⟨S2x8x128, .f32⟩
  | 51 => ⟨S_, .f32⟩
  | 52 => ⟨S2x8x128, .f32⟩
  | 53 => ⟨S2x8x128, .f32⟩
  | 54 => ⟨S2x8x128, .f32⟩
  | 55 => ⟨S_, .f32⟩
  | 56 => ⟨S2x8x128, .f32⟩
  | 57 => ⟨S2x8x128, .f32⟩
  | 58 => ⟨S_, .f32⟩
  | 59 => ⟨S1x8x128, .f32⟩
  | 60 => ⟨S1x8x128, .f32⟩
  | 61 => ⟨S_, .f32⟩
  | 62 => ⟨S1x8x128, .f32⟩
  | 63 => ⟨S1x8x128, .f32⟩
  | 64 => ⟨S1x8x128, .f32⟩
  | 65 => ⟨S_, .f32⟩
  | 66 => ⟨S1x8x128, .f32⟩
  | 67 => ⟨S1x8x128, .f32⟩
  | 68 => ⟨S1x8x128, .f32⟩
  | 69 => ⟨S_, .f32⟩
  | 70 => ⟨S1x8x128, .f32⟩
  | 71 => ⟨S1x8x128, .f32⟩
  | 72 => ⟨S1x8x128, .f32⟩
  | 73 => ⟨S_, .f32⟩
  | 74 => ⟨S1x8x128, .f32⟩
  | 75 => ⟨S1x8x128, .f32⟩
  | 76 => ⟨S_, .f32⟩
  | 77 => ⟨S1x8x128, .f32⟩
  | 78 => ⟨S1x8x128, .f32⟩
  | 79 => ⟨S1x8x128, .f32⟩
  | 80 => ⟨S_, .f32⟩
  | 81 => ⟨S1x8x128, .f32⟩
  | 82 => ⟨S1x8x128, .f32⟩
  | 83 => ⟨S1x8x128, .f32⟩
  | 84 => ⟨S_, .f32⟩
  | 85 => ⟨S1x8x128, .f32⟩
  | 86 => ⟨S1x8x128, .f32⟩
  | 87 => ⟨S1x8x128, .f32⟩
  | 88 => ⟨S_, .f32⟩
  | 89 => ⟨S1x8x128, .f32⟩
  | 90 => ⟨S1x8x128, .f32⟩
  | 91 => ⟨S_, .f32⟩
  | 92 => ⟨S1024, .f32⟩
  | 93 => ⟨S1024, .f32⟩
  | 94 => ⟨S_, .f32⟩
  | 95 => ⟨S1024, .f32⟩
  | 96 => ⟨S1024, .f32⟩
  | 97 => ⟨S1024, .f32⟩
  | 98 => ⟨S_, .f32⟩
  | 99 => ⟨S1024, .f32⟩
  | 100 => ⟨S1024, .f32⟩
  | 101 => ⟨S1024, .f32⟩
  | 102 => ⟨S_, .f32⟩
  | 103 => ⟨S1024, .f32⟩
  | 104 => ⟨S1024, .f32⟩
  | 105 => ⟨S1024, .f32⟩
  | 106 => ⟨S_, .f32⟩
  | 107 => ⟨S1024, .f32⟩
  | 108 => ⟨S1024, .f32⟩
  | 109 => ⟨S_, .f32⟩
  | 110 => ⟨S1024, .f32⟩
  | 111 => ⟨S1024, .f32⟩
  | 112 => ⟨S1024, .f32⟩
  | 113 => ⟨S_, .f32⟩
  | 114 => ⟨S1024, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S_, .f32⟩
  | 122 => ⟨S1024, .f32⟩
  | 123 => ⟨S1024, .f32⟩
  | 124 => ⟨S_, .f32⟩
  | _ => ⟨S1x1, .f32⟩

abbrev hbmTy (i : Nat) : BufTy := match i / 128 with
  | 0 => hbmTy0_0 i
  | 1 => hbmTy0_1 i
  | _ => ⟨S1x1, .f32⟩

abbrev bufTy : (tb : Table) → Fin (tcTables nBuf tb) → BufTy
  | .hbm, ⟨i, _⟩ => hbmTy i
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_cst_2 : Ref sig .tc := ⟨.hbm, 32, rfl⟩
abbrev main_v8 : Ref sig .tc := ⟨.hbm, 33, rfl⟩
abbrev main_v9 : Ref sig .tc := ⟨.hbm, 34, rfl⟩
abbrev main_cst_3 : Ref sig .tc := ⟨.hbm, 35, rfl⟩
abbrev main_v10 : Ref sig .tc := ⟨.hbm, 36, rfl⟩
abbrev main_v11 : Ref sig .tc := ⟨.hbm, 37, rfl⟩
abbrev main_cst_4 : Ref sig .tc := ⟨.hbm, 38, rfl⟩
abbrev main_v12 : Ref sig .tc := ⟨.hbm, 39, rfl⟩
abbrev main_cst_5 : Ref sig .tc := ⟨.hbm, 40, rfl⟩
abbrev main_v13 : Ref sig .tc := ⟨.hbm, 41, rfl⟩
abbrev main_cst_6 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_7 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_8 : Ref sig .tc := ⟨.hbm, 56, rfl⟩
abbrev main_v26 : Ref sig .tc := ⟨.hbm, 57, rfl⟩
abbrev main_v27 : Ref sig .tc := ⟨.hbm, 58, rfl⟩
abbrev main_call0_call0_cst : Ref sig .tc := ⟨.hbm, 59, rfl⟩
abbrev main_call0_call0_v0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_v33 : Ref sig .tc := ⟨.hbm, 67, rfl⟩
abbrev main_call1_call0_cst : Ref sig .tc := ⟨.hbm, 68, rfl⟩
abbrev main_call1_call0_v0 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_10 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_11 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_12 : Ref sig .tc := ⟨.hbm, 87, rfl⟩
abbrev main_v49 : Ref sig .tc := ⟨.hbm, 88, rfl⟩
abbrev main_v50 : Ref sig .tc := ⟨.hbm, 89, rfl⟩
abbrev main_cst_13 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_14 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_15 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_16 : Ref sig .tc := ⟨.hbm, 102, rfl⟩
abbrev main_v60 : Ref sig .tc := ⟨.hbm, 103, rfl⟩
abbrev main_v61 : Ref sig .tc := ⟨.hbm, 104, rfl⟩
abbrev main_cst_17 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_18 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_19 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_20 : Ref sig .tc := ⟨.hbm, 117, rfl⟩
abbrev main_v71 : Ref sig .tc := ⟨.hbm, 118, rfl⟩
abbrev main_v72 : Ref sig .tc := ⟨.hbm, 119, rfl⟩
abbrev main_cst_21 : Ref sig .tc := ⟨.hbm, 120, rfl⟩
abbrev main_v73 : Ref sig .tc := ⟨.hbm, 121, rfl⟩
abbrev main_v74 : Ref sig .tc := ⟨.hbm, 122, rfl⟩
abbrev main_cst_22 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_23 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_24 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_25 : Ref sig .tc := ⟨.hbm, 135, rfl⟩
abbrev main_v84 : Ref sig .tc := ⟨.hbm, 136, rfl⟩
abbrev main_v85 : Ref sig .tc := ⟨.hbm, 137, rfl⟩
abbrev main_cst_26 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_27 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_28 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_29 : Ref sig .tc := ⟨.hbm, 150, rfl⟩
abbrev main_v95 : Ref sig .tc := ⟨.hbm, 151, rfl⟩
abbrev main_v96 : Ref sig .tc := ⟨.hbm, 152, rfl⟩
abbrev main_cst_30 : Ref sig .tc := ⟨.hbm, 153, rfl⟩
abbrev main_v97 : Ref sig .tc := ⟨.hbm, 154, rfl⟩
abbrev main_v98 : Ref sig .tc := ⟨.hbm, 155, rfl⟩
abbrev main_cst_31 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_32 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_33 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_34 : Ref sig .tc := ⟨.hbm, 168, rfl⟩
abbrev main_v108 : Ref sig .tc := ⟨.hbm, 169, rfl⟩
abbrev main_v109 : Ref sig .tc := ⟨.hbm, 170, rfl⟩
abbrev main_cst_35 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_cst_36 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_37 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_38 : Ref sig .tc := ⟨.hbm, 183, rfl⟩
abbrev main_v119 : Ref sig .tc := ⟨.hbm, 184, rfl⟩
abbrev main_v120 : Ref sig .tc := ⟨.hbm, 185, rfl⟩
abbrev main_cst_39 : Ref sig .tc := ⟨.hbm, 186, rfl⟩
abbrev main_v121 : Ref sig .tc := ⟨.hbm, 187, rfl⟩
abbrev main_v122 : Ref sig .tc := ⟨.hbm, 188, rfl⟩
abbrev main_cst_40 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_41 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_42 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_cst_43 : Ref sig .tc := ⟨.hbm, 201, rfl⟩
abbrev main_v132 : Ref sig .tc := ⟨.hbm, 202, rfl⟩
abbrev main_v133 : Ref sig .tc := ⟨.hbm, 203, rfl⟩
abbrev main_cst_44 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_cst_45 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_cst_46 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_47 : Ref sig .tc := ⟨.hbm, 216, rfl⟩
abbrev main_v143 : Ref sig .tc := ⟨.hbm, 217, rfl⟩
abbrev main_v144 : Ref sig .tc := ⟨.hbm, 218, rfl⟩
abbrev main_cst_48 : Ref sig .tc := ⟨.hbm, 219, rfl⟩
abbrev main_v145 : Ref sig .tc := ⟨.hbm, 220, rfl⟩
abbrev main_v146 : Ref sig .tc := ⟨.hbm, 221, rfl⟩
abbrev main_cst_49 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_cst_50 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_cst_51 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_cst_52 : Ref sig .tc := ⟨.hbm, 234, rfl⟩
abbrev main_v156 : Ref sig .tc := ⟨.hbm, 235, rfl⟩
abbrev main_v157 : Ref sig .tc := ⟨.hbm, 236, rfl⟩
abbrev main_cst_53 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_cst_54 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_cst_55 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_cst_56 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩

abbrev nD : Nat := 1
abbrev τ : Topo := Topo.v7x

variable {F : FTy → Type} [FloatOps F]
-- ==== KernelSb.lean ====
abbrev S8192x10240 : Shape := ⟨2, ![8192, 10240]⟩
abbrev S8192x1024 : Shape := ⟨2, ![8192, 1024]⟩
abbrev S8192x8x128 : Shape := ⟨3, ![8192, 8, 128]⟩
abbrev S8x8192x128 : Shape := ⟨3, ![8, 8192, 128]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S512x256 : Shape := ⟨2, ![512, 256]⟩
abbrev S8192x256 : Shape := ⟨2, ![8192, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 79
  | .vmem => 16
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x8x128, .f32⟩
  | .hbm, ⟨7, _⟩ => ⟨S8x8192x128, .f32⟩
  | .hbm, ⟨8, _⟩ => ⟨S8192x1024, .f32⟩
  | .hbm, ⟨9, _⟩ => ⟨S8192x8x128, .f32⟩
  | .hbm, ⟨10, _⟩ => ⟨S8x8192x128, .f32⟩
  | .hbm, ⟨11, _⟩ => ⟨S8192x1024, .f32⟩
  | .hbm, ⟨12, _⟩ => ⟨S8192x8x128, .f32⟩
  | .hbm, ⟨13, _⟩ => ⟨S8x8192x128, .f32⟩
  | .hbm, ⟨14, _⟩ => ⟨S8192, .i32⟩
  | .hbm, ⟨15, _⟩ => ⟨S8x8192x8192, .f32⟩
  | .hbm, ⟨16, _⟩ => ⟨S_, .f32⟩
  | .hbm, ⟨17, _⟩ => ⟨S8x8192x8192, .f32⟩
  | .hbm, ⟨18, _⟩ => ⟨S8x8192x8192, .f32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .i1⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S_, .f32⟩
  | .hbm, ⟨43, _⟩ => ⟨S8x8192x8192, .i1⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S_, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .i1⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S_, .f32⟩
  | .hbm, ⟨69, _⟩ => ⟨S8x8192x8192, .i1⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S8x8192x128, .f32⟩
  | .hbm, ⟨74, _⟩ => ⟨S8192x8x128, .f32⟩
  | .hbm, ⟨75, _⟩ => ⟨S8192x1024, .f32⟩
  | .hbm, ⟨76, _⟩ => ⟨S8192x1024, .bf16⟩
  | .hbm, ⟨77, _⟩ => ⟨S8192x1024, .bf16⟩
  | .hbm, ⟨78, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S512x256, .f32⟩
  | .local _ .vmem, ⟨5, _⟩ => ⟨S512x256, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S8192x256, .bf16⟩
  | .local _ .vmem, ⟨11, _⟩ => ⟨S8192x256, .bf16⟩
  | .local _ .vmem, ⟨12, _⟩ => ⟨S8192x256, .bf16⟩
  | .local _ .vmem, ⟨13, _⟩ => ⟨S8192x256, .bf16⟩
  | .local _ .vmem, ⟨14, _⟩ => ⟨S8192x256, .f32⟩
  | .local _ .vmem, ⟨15, _⟩ => ⟨S8192x256, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v22 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_call2_cst : Ref sig .tc := ⟨.hbm, 46, rfl⟩
abbrev main_call2_v0 : Ref sig .tc := ⟨.hbm, 47, rfl⟩
abbrev main_v24 : Ref sig .tc := ⟨.hbm, 48, rfl⟩
abbrev main_v25 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33_0 : Ref sig .tc := ⟨.hbm, 76, rfl⟩
abbrev main_v33_1 : Ref sig .tc := ⟨.hbm, 77, rfl⟩
abbrev main_v33_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c2_i32 : BitVec 32 := 2#32
  let arg1 : BitVec 32 := BitVec.ofNat 32 (i 1).val
  let v37 : BitVec 32 := Scalar.muli c2_i32 arg1
  let c0_i32_10 : BitVec 32 := 0#32
  let v38 : BitVec 32 := Scalar.addi v37 c0_i32_10
  let c0_i32_11 : BitVec 32 := 0#32
  let v39 : BitVec 32 := Scalar.subi v38 c0_i32_11
  let c0_i32_12 : BitVec 32 := 0#32
  let v40 : BitVec 32 := Scalar.maxsi v39 c0_i32_12
  let c256_i32 : BitVec 32 := 256#32
  let v41 : BitVec 32 := Scalar.muli v40 c256_i32
  v41
def k0_off1 (i : grid0.Coords) (c0_i32_10 : BitVec 32) (c0_i32_11 : BitVec 32) : Fin 2 → Nat :=
  let c2_i32 : BitVec 32 := 2#32
  let arg1 : BitVec 32 := BitVec.ofNat 32 (i 1).val
  let v37 : BitVec 32 := Scalar.muli c2_i32 arg1
  let v38 : BitVec 32 := Scalar.addi v37 c0_i32_10
  let v39 : BitVec 32 := Scalar.subi v38 c0_i32_11
  let c0_i32_12 : BitVec 32 := 0#32
  let v40 : BitVec 32 := Scalar.maxsi v39 c0_i32_12
  let c256_i32 : BitVec 32 := 256#32
  let v41 : BitVec 32 := Scalar.muli v40 c256_i32
  let v42 : BitVec 32 := v41
  let v43 : Index := Scalar.indexCast v42
  let c0_13 : Index := 0#32
  ![v43.toNat, 0]
def k0_mult2 (i : grid0.Coords) : BitVec 32 :=
  let c2_i32_24 : BitVec 32 := 2#32
  let arg1 : BitVec 32 := BitVec.ofNat 32 (i 1).val
  let v73 : BitVec 32 := Scalar.muli c2_i32_24 arg1
  let c1_i32 : BitVec 32 := 1#32
  let v74 : BitVec 32 := Scalar.addi v73 c1_i32
  let c0_i32_25 : BitVec 32 := 0#32
  let v75 : BitVec 32 := Scalar.subi v74 c0_i32_25
  let c0_i32_26 : BitVec 32 := 0#32
  let v76 : BitVec 32 := Scalar.maxsi v75 c0_i32_26
  let c256_i32_27 : BitVec 32 := 256#32
  let v77 : BitVec 32 := Scalar.muli v76 c256_i32_27
  v77
def k0_mult3 (i : grid0.Coords) : BitVec 32 :=
  let c2_i32_38 : BitVec 32 := 2#32
  let arg1 : BitVec 32 := BitVec.ofNat 32 (i 1).val
  let v109 : BitVec 32 := Scalar.muli c2_i32_38 arg1
  let c0_i32_39 : BitVec 32 := 0#32
  let v110 : BitVec 32 := Scalar.addi v109 c0_i32_39
  let c0_i32_40 : BitVec 32 := 0#32
  let v111 : BitVec 32 := Scalar.subi v110 c0_i32_40
  let c0_i32_41 : BitVec 32 := 0#32
  let v112 : BitVec 32 := Scalar.maxsi v111 c0_i32_41
  let c256_i32_42 : BitVec 32 := 256#32
  let v113 : BitVec 32 := Scalar.muli v112 c256_i32_42
  v113
def k0_off2 (i : grid0.Coords) (c0_i32_39 : BitVec 32) (c0_i32_40 : BitVec 32) : Fin 2 → Nat :=
  let c2_i32_38 : BitVec 32 := 2#32
  let arg1 : BitVec 32 := BitVec.ofNat 32 (i 1).val
  let v109 : BitVec 32 := Scalar.muli c2_i32_38 arg1
  let v110 : BitVec 32 := Scalar.addi v109 c0_i32_39
  let v111 : BitVec 32 := Scalar.subi v110 c0_i32_40
  let c0_i32_41 : BitVec 32 := 0#32
  let v112 : BitVec 32 := Scalar.maxsi v111 c0_i32_41
  let c256_i32_42 : BitVec 32 := 256#32
  let v113 : BitVec 32 := Scalar.muli v112 c256_i32_42
  let v114 : BitVec 32 := v113
  let v115 : Index := Scalar.indexCast v114
  let c128 : Index := 128#32
  ![v115.toNat, 128]
def k0_mult4 (i : grid0.Coords) : BitVec 32 :=
  let c2_i32_53 : BitVec 32 := 2#32
  let arg1 : BitVec 32 := BitVec.ofNat 32 (i 1).val
  let v145 : BitVec 32 := Scalar.muli c2_i32_53 arg1
  let c1_i32_54 : BitVec 32 := 1#32
  let v146 : BitVec 32 := Scalar.addi v145 c1_i32_54
  let c0_i32_55 : BitVec 32 := 0#32
  let v147 : BitVec 32 := Scalar.subi v146 c0_i32_55
  let c0_i32_56 : BitVec 32 := 0#32
  let v148 : BitVec 32 := Scalar.maxsi v147 c0_i32_56
  let c256_i32_57 : BitVec 32 := 256#32
  let v149 : BitVec 32 := Scalar.muli v148 c256_i32_57
  v149
def k0_mult5 (i : grid0.Coords) : BitVec 32 :=
  let c2_i32_69 : BitVec 32 := 2#32
  let arg1 : BitVec 32 := BitVec.ofNat 32 (i 1).val
  let v181 : BitVec 32 := Scalar.muli c2_i32_69 arg1
  let c0_i32_70 : BitVec 32 := 0#32
  let v182 : BitVec 32 := Scalar.addi v181 c0_i32_70
  let c1_i32_71 : BitVec 32 := 1#32
  let v183 : BitVec 32 := Scalar.subi v182 c1_i32_71
  let c0_i32_72 : BitVec 32 := 0#32
  let v184 : BitVec 32 := Scalar.maxsi v183 c0_i32_72
  let c256_i32_73 : BitVec 32 := 256#32
  let v185 : BitVec 32 := Scalar.muli v184 c256_i32_73
  v185
def k0_mult6 (i : grid0.Coords) : BitVec 32 :=
  let c2_i32_84 : BitVec 32 := 2#32
  let arg1 : BitVec 32 := BitVec.ofNat 32 (i 1).val
  let v215 : BitVec 32 := Scalar.muli c2_i32_84 arg1
  let c1_i32_85 : BitVec 32 := 1#32
  let v216 : BitVec 32 := Scalar.addi v215 c1_i32_85
  let c1_i32_86 : BitVec 32 := 1#32
  let v217 : BitVec 32 := Scalar.subi v216 c1_i32_86
  let c0_i32_87 : BitVec 32 := 0#32
  let v218 : BitVec 32 := Scalar.maxsi v217 c0_i32_87
  let c256_i32_88 : BitVec 32 := 256#32
  let v219 : BitVec 32 := Scalar.muli v218 c256_i32_88
  v219
def k0_mult7 (i : grid0.Coords) : BitVec 32 :=
  let c2_i32_99 : BitVec 32 := 2#32
  let arg1 : BitVec 32 := BitVec.ofNat 32 (i 1).val
  let v249 : BitVec 32 := Scalar.muli c2_i32_99 arg1
  let c0_i32_100 : BitVec 32 := 0#32
  let v250 : BitVec 32 := Scalar.addi v249 c0_i32_100
  let c1_i32_101 : BitVec 32 := 1#32
  let v251 : BitVec 32 := Scalar.subi v250 c1_i32_101
  let c0_i32_102 : BitVec 32 := 0#32
  let v252 : BitVec 32 := Scalar.maxsi v251 c0_i32_102
  let c256_i32_103 : BitVec 32 := 256#32
  let v253 : BitVec 32 := Scalar.muli v252 c256_i32_103
  v253
def k0_mult8 (i : grid0.Coords) : BitVec 32 :=
  let c2_i32_114 : BitVec 32 := 2#32
  let arg1 : BitVec 32 := BitVec.ofNat 32 (i 1).val
  let v283 : BitVec 32 := Scalar.muli c2_i32_114 arg1
  let c1_i32_115 : BitVec 32 := 1#32
  let v284 : BitVec 32 := Scalar.addi v283 c1_i32_115
  let c1_i32_116 : BitVec 32 := 1#32
  let v285 : BitVec 32 := Scalar.subi v284 c1_i32_116
  let c0_i32_117 : BitVec 32 := 0#32
  let v286 : BitVec 32 := Scalar.maxsi v285 c0_i32_117
  let c256_i32_118 : BitVec 32 := 256#32
  let v287 : BitVec 32 := Scalar.muli v286 c256_i32_118
  v287
def k0_mult9 (i : grid0.Coords) (arg12 : BitVec 32) : BitVec 32 :=
  let c2_i32_236 : BitVec 32 := 2#32
  let arg1 : BitVec 32 := BitVec.ofNat 32 (i 1).val
  let v754 : BitVec 32 := Scalar.muli c2_i32_236 arg1
  let c0_i32_237 : BitVec 32 := 0#32
  let v755 : BitVec 32 := Scalar.addi v754 c0_i32_237
  let v756 : BitVec 32 := Scalar.subi v755 arg12
  let c0_i32_238 : BitVec 32 := 0#32
  let v757 : BitVec 32 := Scalar.maxsi v756 c0_i32_238
  let c256_i32_239 : BitVec 32 := 256#32
  let v758 : BitVec 32 := Scalar.muli v757 c256_i32_239
  v758

def k0_off3 (i : grid0.Coords) (arg12 : BitVec 32) (c0_i32_237 : BitVec 32) : Fin 2 → Nat :=
  let c2_i32_236 : BitVec 32 := 2#32
  let arg1 : BitVec 32 := BitVec.ofNat 32 (i 1).val
  let v754 : BitVec 32 := Scalar.muli c2_i32_236 arg1
  let v755 : BitVec 32 := Scalar.addi v754 c0_i32_237
  let v756 : BitVec 32 := Scalar.subi v755 arg12
  let c0_i32_238 : BitVec 32 := 0#32
  let v757 : BitVec 32 := Scalar.maxsi v756 c0_i32_238
  let c256_i32_239 : BitVec 32 := 256#32
  let v758 : BitVec 32 := Scalar.muli v757 c256_i32_239
  let v759 : BitVec 32 := v758
  let v760 : Index := Scalar.indexCast v759
  let c0_240 : Index := 0#32
  ![v760.toNat, 0]
def k0_mult10 (i : grid0.Coords) (arg12 : BitVec 32) : BitVec 32 :=
  let c2_i32_250 : BitVec 32 := 2#32
  let arg1 : BitVec 32 := BitVec.ofNat 32 (i 1).val
  let v788 : BitVec 32 := Scalar.muli c2_i32_250 arg1
  let c1_i32_251 : BitVec 32 := 1#32
  let v789 : BitVec 32 := Scalar.addi v788 c1_i32_251
  let v790 : BitVec 32 := Scalar.subi v789 arg12
  let c0_i32_252 : BitVec 32 := 0#32
  let v791 : BitVec 32 := Scalar.maxsi v790 c0_i32_252
  let c256_i32_253 : BitVec 32 := 256#32
  let v792 : BitVec 32 := Scalar.muli v791 c256_i32_253
  v792
def k0_mult11 (i : grid0.Coords) (arg12 : BitVec 32) : BitVec 32 :=
  let c2_i32_264 : BitVec 32 := 2#32
  let arg1 : BitVec 32 := BitVec.ofNat 32 (i 1).val
  let v822 : BitVec 32 := Scalar.muli c2_i32_264 arg1
  let c0_i32_265 : BitVec 32 := 0#32
  let v823 : BitVec 32 := Scalar.addi v822 c0_i32_265
  let v824 : BitVec 32 := Scalar.subi v823 arg12
  let c0_i32_266 : BitVec 32 := 0#32
  let v825 : BitVec 32 := Scalar.maxsi v824 c0_i32_266
  let c256_i32_267 : BitVec 32 := 256#32
  let v826 : BitVec 32 := Scalar.muli v825 c256_i32_267
  v826
def k0_off4 (i : grid0.Coords) (arg12 : BitVec 32) (c0_i32_265 : BitVec 32) : Fin 2 → Nat :=
  let c2_i32_264 : BitVec 32 := 2#32
  let arg1 : BitVec 32 := BitVec.ofNat 32 (i 1).val
  let v822 : BitVec 32 := Scalar.muli c2_i32_264 arg1
  let v823 : BitVec 32 := Scalar.addi v822 c0_i32_265
  let v824 : BitVec 32 := Scalar.subi v823 arg12
  let c0_i32_266 : BitVec 32 := 0#32
  let v825 : BitVec 32 := Scalar.maxsi v824 c0_i32_266
  let c256_i32_267 : BitVec 32 := 256#32
  let v826 : BitVec 32 := Scalar.muli v825 c256_i32_267
  let v827 : BitVec 32 := v826
  let v828 : Index := Scalar.indexCast v827
  let c128_268 : Index := 128#32
  ![v828.toNat, 128]
def k0_mult12 (i : grid0.Coords) (arg12 : BitVec 32) : BitVec 32 :=
  let c2_i32_278 : BitVec 32 := 2#32
  let arg1 : BitVec 32 := BitVec.ofNat 32 (i 1).val
  let v856 : BitVec 32 := Scalar.muli c2_i32_278 arg1
  let c1_i32_279 : BitVec 32 := 1#32
  let v857 : BitVec 32 := Scalar.addi v856 c1_i32_279
  let v858 : BitVec 32 := Scalar.subi v857 arg12
  let c0_i32_280 : BitVec 32 := 0#32
  let v859 : BitVec 32 := Scalar.maxsi v858 c0_i32_280
  let c256_i32_281 : BitVec 32 := 256#32
  let v860 : BitVec 32 := Scalar.muli v859 c256_i32_281
  v860

def k0_chk1 (i : grid0.Coords) (arg12 : BitVec 32) : Prop :=
  (256 ∣ (k0_mult9 i arg12).toNat) ∧
  (∀ (r : Fin 2), ∀ a, (k0_off3 i arg12 (BitVec.ofNat 32 r.val)) a + S256x128.size a ≤ S8192x256.size a) ∧
  (256 ∣ (k0_mult10 i arg12).toNat) ∧
  (256 ∣ (k0_mult11 i arg12).toNat) ∧
  (∀ (r : Fin 2), ∀ a, (k0_off4 i arg12 (BitVec.ofNat 32 r.val)) a + S256x128.size a ≤ S8192x256.size a) ∧
  (256 ∣ (k0_mult12 i arg12).toNat)
theorem k0_mult9_dvd : ∀ (i : grid0.Coords) (arg12 : BitVec 32) (k0_hw1 : k0_chk1 i arg12), 256 ∣ (k0_mult9 i arg12).toNat := fun i arg12 k0_hw1 => k0_hw1.1
theorem k0_off3_inb : ∀ (i : grid0.Coords) (arg12 : BitVec 32) (k0_hw1 : k0_chk1 i arg12), ∀ (r : Fin 2), ∀ a, (k0_off3 i arg12 (BitVec.ofNat 32 r.val)) a + S256x128.size a ≤ S8192x256.size a := fun i arg12 k0_hw1 r => k0_hw1.2.1 r
theorem k0_mult10_dvd : ∀ (i : grid0.Coords) (arg12 : BitVec 32) (k0_hw1 : k0_chk1 i arg12), 256 ∣ (k0_mult10 i arg12).toNat := fun i arg12 k0_hw1 => k0_hw1.2.2.1
theorem k0_mult11_dvd : ∀ (i : grid0.Coords) (arg12 : BitVec 32) (k0_hw1 : k0_chk1 i arg12), 256 ∣ (k0_mult11 i arg12).toNat := fun i arg12 k0_hw1 => k0_hw1.2.2.2.1
theorem k0_off4_inb : ∀ (i : grid0.Coords) (arg12 : BitVec 32) (k0_hw1 : k0_chk1 i arg12), ∀ (r : Fin 2), ∀ a, (k0_off4 i arg12 (BitVec.ofNat 32 r.val)) a + S256x128.size a ≤ S8192x256.size a := fun i arg12 k0_hw1 r => k0_hw1.2.2.2.2.1 r
theorem k0_mult12_dvd : ∀ (i : grid0.Coords) (arg12 : BitVec 32) (k0_hw1 : k0_chk1 i arg12), 256 ∣ (k0_mult12 i arg12).toNat := fun i arg12 k0_hw1 => k0_hw1.2.2.2.2.2

def k0_cond2 (i : grid0.Coords) : BitVec 1 :=
  let arg1 : BitVec 32 := BitVec.ofNat 32 (i 1).val
  let c15_i32 : BitVec 32 := 15#32
  let v750 : BitVec 1 := Scalar.cmpi .eq arg1 c15_i32
  let v751 : BitVec 32 := Scalar.extui v750
  let c0_i32_234 : BitVec 32 := 0#32
  let v752 : BitVec 1 := Scalar.cmpi .ne v751 c0_i32_234
  v752

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelSbIdeal.lean ====
variable {F : FTy → Type} [FloatOps F] [Named F]
def κ : String → Option EReal := fun
  | "dead" => some ⊥
  | "gone" => some ⊥
  | _ => none
-- ==== ReferenceSbIdeal.lean ====
abbrev S8192x10240 : Shape := ⟨2, ![8192, 10240]⟩
abbrev S8192x1024 : Shape := ⟨2, ![8192, 1024]⟩
abbrev S8192x8x128 : Shape := ⟨3, ![8192, 8, 128]⟩
abbrev S8x8192x128 : Shape := ⟨3, ![8, 8192, 128]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩

abbrev nBuf : Space → Nat
  | .hbm => 184
  | .vmem => 0
  | .smem => 0
  | _ => 0

abbrev hbmTy0_0 (i : Nat) : BufTy := match i % 128 with
  | 0 => ⟨S8192x10240, .bf16⟩
  | 1 => ⟨S8192x1024, .bf16⟩
  | 2 => ⟨S8192x1024, .bf16⟩
  | 3 => ⟨S8192x1024, .bf16⟩
  | 4 => ⟨S8192x1024, .bf16⟩
  | 5 => ⟨S8192x1024, .f32⟩
  | 6 => ⟨S8192x1024, .f32⟩
  | 7 => ⟨S8192x1024, .f32⟩
  | 8 => ⟨S8192x8x128, .f32⟩
  | 9 => ⟨S8x8192x128, .f32⟩
  | 10 => ⟨S8192x8x128, .f32⟩
  | 11 => ⟨S8x8192x128, .f32⟩
  | 12 => ⟨S8192x8x128, .f32⟩
  | 13 => ⟨S8x8192x128, .f32⟩
  | 14 => ⟨S8192, .i32⟩
  | 15 => ⟨S8x8192x8192, .f32⟩
  | 16 => ⟨S_, .f32⟩
  | 17 => ⟨S8x8192x8192, .f32⟩
  | 18 => ⟨S8x8192x8192, .f32⟩
  | 19 => ⟨S1x8192, .i32⟩
  | 20 => ⟨S8192x1, .i32⟩
  | 21 => ⟨S8192x8192, .i32⟩
  | 22 => ⟨S8192x8192, .i32⟩
  | 23 => ⟨S8192x8192, .i1⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .i1⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S_, .f32⟩
  | 47 => ⟨S8x8192x8192, .f32⟩
  | 48 => ⟨S8x8192x8192, .i1⟩
  | 49 => ⟨S_, .f32⟩
  | 50 => ⟨S8x8192x8192, .f32⟩
  | 51 => ⟨S8x8192x8192, .f32⟩
  | 52 => ⟨S8x8192x8192, .f32⟩
  | 53 => ⟨S8x8192x8192, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x8192x8192, .f32⟩
  | 62 => ⟨S8x8192x8192, .i1⟩
  | 63 => ⟨S_, .f32⟩
  | 64 => ⟨S8x8192x8192, .f32⟩
  | 65 => ⟨S8x8192x8192, .f32⟩
  | 66 => ⟨S8x8192x8192, .f32⟩
  | 67 => ⟨S8x8192x8192, .f32⟩
  | 68 => ⟨S8x8192x8192, .f32⟩
  | 69 => ⟨S_, .f32⟩
  | 70 => ⟨S8x8192x8192, .f32⟩
  | 71 => ⟨S8x8192x8192, .f32⟩
  | 72 => ⟨S8x8192x8192, .f32⟩
  | 73 => ⟨S_, .f32⟩
  | 74 => ⟨S_, .f32⟩
  | 75 => ⟨S8x8192x8192, .i1⟩
  | 76 => ⟨S8x8192x8192, .f32⟩
  | 77 => ⟨S8x8192x8192, .f32⟩
  | 78 => ⟨S_, .f32⟩
  | 79 => ⟨S8x8192x8192, .f32⟩
  | 80 => ⟨S_, .f32⟩
  | 81 => ⟨S_, .f32⟩
  | 82 => ⟨S8x8192x8192, .f32⟩
  | 83 => ⟨S8x8192x8192, .f32⟩
  | 84 => ⟨S8x8192x8192, .f32⟩
  | 85 => ⟨S_, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .i1⟩
  | 91 => ⟨S8x8192x8192, .f32⟩
  | 92 => ⟨S8x8192x8192, .f32⟩
  | 93 => ⟨S8x8192x8192, .f32⟩
  | 94 => ⟨S8x8192x8192, .f32⟩
  | 95 => ⟨S8x8192x8192, .f32⟩
  | 96 => ⟨S8x8192x8192, .f32⟩
  | 97 => ⟨S8x8192x8192, .f32⟩
  | 98 => ⟨S8x8192x8192, .f32⟩
  | 99 => ⟨S_, .f32⟩
  | 100 => ⟨S8x8192x8192, .f32⟩
  | 101 => ⟨S8x8192x8192, .i1⟩
  | 102 => ⟨S_, .f32⟩
  | 103 => ⟨S8x8192x8192, .f32⟩
  | 104 => ⟨S8x8192x8192, .f32⟩
  | 105 => ⟨S_, .f32⟩
  | 106 => ⟨S8x8192x8192, .f32⟩
  | 107 => ⟨S8x8192x8192, .i1⟩
  | 108 => ⟨S_, .f32⟩
  | 109 => ⟨S8x8192x8192, .f32⟩
  | 110 => ⟨S8x8192x8192, .f32⟩
  | 111 => ⟨S8x8192x8192, .f32⟩
  | 112 => ⟨S8x8192x8192, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S8x8192x8192, .f32⟩
  | 121 => ⟨S8x8192x8192, .i1⟩
  | 122 => ⟨S_, .f32⟩
  | 123 => ⟨S8x8192x8192, .f32⟩
  | 124 => ⟨S8x8192x8192, .f32⟩
  | 125 => ⟨S8x8192x8192, .f32⟩
  | 126 => ⟨S8x8192x8192, .f32⟩
  | 127 => ⟨S8x8192x8192, .f32⟩
  | _ => ⟨S8192x10240, .bf16⟩

abbrev hbmTy0_1 (i : Nat) : BufTy := match i % 128 with
  | 0 => ⟨S_, .f32⟩
  | 1 => ⟨S8x8192x8192, .f32⟩
  | 2 => ⟨S8x8192x8192, .f32⟩
  | 3 => ⟨S8x8192x8192, .f32⟩
  | 4 => ⟨S8x8192x8192, .f32⟩
  | 5 => ⟨S_, .f32⟩
  | 6 => ⟨S_, .f32⟩
  | 7 => ⟨S8x8192x8192, .i1⟩
  | 8 => ⟨S8x8192x8192, .f32⟩
  | 9 => ⟨S8x8192x8192, .f32⟩
  | 10 => ⟨S_, .f32⟩
  | 11 => ⟨S8x8192x8192, .f32⟩
  | 12 => ⟨S8x8192x8192, .f32⟩
  | 13 => ⟨S8x8192x128, .f32⟩
  | 14 => ⟨S8192x8x128, .f32⟩
  | 15 => ⟨S8192x1024, .f32⟩
  | 16 => ⟨S8192x1024, .f32⟩
  | 17 => ⟨S8192x8x128, .f32⟩
  | 18 => ⟨S8x8192x128, .f32⟩
  | 19 => ⟨S8x128x8192, .f32⟩
  | 20 => ⟨S8x8192x128, .f32⟩
  | 21 => ⟨S8x8192x8192, .f32⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S_, .f32⟩
  | 31 => ⟨S_, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S8x8192x8192, .f32⟩
  | 41 => ⟨S8x8192x8192, .f32⟩
  | 42 => ⟨S_, .f32⟩
  | 43 => ⟨S8x8192x8192, .f32⟩
  | 44 => ⟨S8x8192x8192, .f32⟩
  | 45 => ⟨S8x8192x128, .f32⟩
  | 46 => ⟨S8x8192x128, .f32⟩
  | 47 => ⟨S8192x8x128, .f32⟩
  | 48 => ⟨S8192x1024, .f32⟩
  | 49 => ⟨S8192x8x128, .f32⟩
  | 50 => ⟨S8192x1024, .f32⟩
  | 51 => ⟨S8192x8x128, .f32⟩
  | 52 => ⟨S8192x1024, .f32⟩
  | 53 => ⟨S8192x1024, .bf16⟩
  | 54 => ⟨S8192x1024, .bf16⟩
  | 55 => ⟨S8192x1024, .bf16⟩
  | _ => ⟨S8192x10240, .bf16⟩

abbrev hbmTy (i : Nat) : BufTy := match i / 128 with
  | 0 => hbmTy0_0 i
  | 1 => hbmTy0_1 i
  | _ => ⟨S8192x10240, .bf16⟩

abbrev bufTy : (tb : Table) → Fin (tcTables nBuf tb) → BufTy
  | .hbm, ⟨i, _⟩ => hbmTy i
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_cst_0 : Ref sig .tc := ⟨.hbm, 73, rfl⟩
abbrev main_call1_v0 : Ref sig .tc := ⟨.hbm, 74, rfl⟩
abbrev main_v23_1 : Ref sig .tc := ⟨.hbm, 75, rfl⟩
abbrev main_call1_v2 : Ref sig .tc := ⟨.hbm, 76, rfl⟩
abbrev main_v23_0 : Ref sig .tc := ⟨.hbm, 77, rfl⟩
abbrev main_call1_cst : Ref sig .tc := ⟨.hbm, 78, rfl⟩
abbrev main_v23_2 : Ref sig .tc := ⟨.hbm, 79, rfl⟩
abbrev main_call2_cst : Ref sig .tc := ⟨.hbm, 80, rfl⟩
abbrev main_call2_v0 : Ref sig .tc := ⟨.hbm, 81, rfl⟩
abbrev main_v24 : Ref sig .tc := ⟨.hbm, 82, rfl⟩
abbrev main_v25 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v26_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v26_2 : Ref sig .tc := ⟨.hbm, 130, rfl⟩
abbrev main_v26_0 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_call6_v0 : Ref sig .tc := ⟨.hbm, 154, rfl⟩
abbrev main_call6_v1 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_v44 : Ref sig .tc := ⟨.hbm, 161, rfl⟩
abbrev main_call8_cst : Ref sig .tc := ⟨.hbm, 162, rfl⟩
abbrev main_call8_v0 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_cst_2 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩

abbrev nD : Nat := 1
abbrev τ : Topo := Topo.v7x

variable {F : FTy → Type} [FloatOps F]
-- ==== KernelMid.lean ====
abbrev S8192x10240 : Shape := ⟨2, ![8192, 10240]⟩
abbrev S8192x1024 : Shape := ⟨2, ![8192, 1024]⟩
abbrev S1x2048 : Shape := ⟨2, ![1, 2048]⟩
abbrev S1x8x128 : Shape := ⟨3, ![1, 8, 128]⟩
abbrev S1024 : Shape := ⟨1, ![1024]⟩
abbrev S1024x1024 : Shape := ⟨2, ![1024, 1024]⟩
abbrev S1x1024 : Shape := ⟨2, ![1, 1024]⟩
abbrev S8192x4096 : Shape := ⟨2, ![8192, 4096]⟩
abbrev S1024x8192 : Shape := ⟨2, ![1024, 8192]⟩
abbrev S1x1 : Shape := ⟨2, ![1, 1]⟩
abbrev S256x1024 : Shape := ⟨2, ![256, 1024]⟩
abbrev S256x2048 : Shape := ⟨2, ![256, 2048]⟩
abbrev S256x4096 : Shape := ⟨2, ![256, 4096]⟩
abbrev S1024x256 : Shape := ⟨2, ![1024, 256]⟩
abbrev S256x128 : Shape := ⟨2, ![256, 128]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 30
  | .vmem => 44
  | .smem => 0
  | _ => 0

abbrev bufTy : (tb : Table) → Fin (tcTables nBuf tb) → BufTy
  | .hbm, ⟨0, _⟩ => ⟨S8192x10240, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x2048, .f32⟩
  | .hbm, ⟨6, _⟩ => ⟨S1x8x128, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S8192x4096, .bf16⟩
  | .hbm, ⟨20, _⟩ => ⟨S1024x8192, .bf16⟩
  | .hbm, ⟨21, _⟩ => ⟨S8192x1024, .bf16⟩
  | .hbm, ⟨22, _⟩ => ⟨S1024x8192, .bf16⟩
  | .hbm, ⟨23, _⟩ => ⟨S8192x1024, .bf16⟩
  | .hbm, ⟨24, _⟩ => ⟨S1024x8192, .bf16⟩
  | .hbm, ⟨25, _⟩ => ⟨S8192x1024, .bf16⟩
  | .hbm, ⟨26, _⟩ => ⟨S1x1, .f32⟩
  | .hbm, ⟨27, _⟩ => ⟨S1x1024, .f32⟩
  | .hbm, ⟨28, _⟩ => ⟨S1x2048, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x2048, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x4096, .bf16⟩
  | .local _ .vmem, ⟨27, _⟩ => ⟨S256x4096, .bf16⟩
  | .local _ .vmem, ⟨28, _⟩ => ⟨S1024x256, .bf16⟩
  | .local _ .vmem, ⟨29, _⟩ => ⟨S1024x256, .bf16⟩
  | .local _ .vmem, ⟨30, _⟩ => ⟨S256x1024, .bf16⟩
  | .local _ .vmem, ⟨31, _⟩ => ⟨S256x1024, .bf16⟩
  | .local _ .vmem, ⟨32, _⟩ => ⟨S1024x256, .bf16⟩
  | .local _ .vmem, ⟨33, _⟩ => ⟨S1024x256, .bf16⟩
  | .local _ .vmem, ⟨34, _⟩ => ⟨S256x1024, .bf16⟩
  | .local _ .vmem, ⟨35, _⟩ => ⟨S256x1024, .bf16⟩
  | .local _ .vmem, ⟨36, _⟩ => ⟨S1024x256, .bf16⟩
  | .local _ .vmem, ⟨37, _⟩ => ⟨S1024x256, .bf16⟩
  | .local _ .vmem, ⟨38, _⟩ => ⟨S256x1024, .bf16⟩
  | .local _ .vmem, ⟨39, _⟩ => ⟨S256x1024, .bf16⟩
  | .local _ .vmem, ⟨40, _⟩ => ⟨S1x1, .f32⟩
  | .local _ .vmem, ⟨41, _⟩ => ⟨S1x1024, .f32⟩
  | .local _ .vmem, ⟨42, _⟩ => ⟨S1x2048, .f32⟩
  | .local _ .vmem, ⟨43, _⟩ => ⟨S1x1024, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v5_5 : Ref sig .tc := ⟨.hbm, 21, rfl⟩
abbrev main_v5_6 : Ref sig .tc := ⟨.hbm, 22, rfl⟩
abbrev main_v5_7 : Ref sig .tc := ⟨.hbm, 23, rfl⟩
abbrev main_v5_8 : Ref sig .tc := ⟨.hbm, 24, rfl⟩
abbrev main_v5_9 : Ref sig .tc := ⟨.hbm, 25, rfl⟩
abbrev main_v5_10 : Ref sig .tc := ⟨.hbm, 26, rfl⟩
abbrev main_v5_11 : Ref sig .tc := ⟨.hbm, 27, rfl⟩
abbrev main_v5_12 : Ref sig .tc := ⟨.hbm, 28, rfl⟩
abbrev main_v5_13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg24_0 : Ref sig .tc := ⟨.vmem, 41, rfl⟩
abbrev cc0_stg25_0 : Ref sig .tc := ⟨.vmem, 42, rfl⟩
abbrev cc0_stg26_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem24_0 : DmaSem sig := 41
abbrev cc0_sem25_0 : DmaSem sig := 42
abbrev cc0_sem26_0 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== ReferenceMidIdeal.lean ====
abbrev S8192x10240 : Shape := ⟨2, ![8192, 10240]⟩
abbrev S8192x1024 : Shape := ⟨2, ![8192, 1024]⟩
abbrev S1x2048 : Shape := ⟨2, ![1, 2048]⟩
abbrev S1x8x128 : Shape := ⟨3, ![1, 8, 128]⟩
abbrev S1024 : Shape := ⟨1, ![1024]⟩
abbrev S1024x1024 : Shape := ⟨2, ![1024, 1024]⟩
abbrev S_ : Shape := ⟨0, ![]⟩
abbrev S8192x2048 : Shape := ⟨2, ![8192, 2048]⟩
abbrev S8192x8x128 : Shape := ⟨3, ![8192, 8, 128]⟩
abbrev S8x128 : Shape := ⟨2, ![8, 128]⟩
abbrev S8192x8 : Shape := ⟨2, ![8192, 8]⟩
abbrev S8192x8x1 : Shape := ⟨3, ![8192, 8, 1]⟩
abbrev S2048 : Shape := ⟨1, ![2048]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x8192 : Shape := ⟨2, ![1024, 8192]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S8192x10240, .f32⟩
  | 1 => ⟨S8192x1024, .f32⟩
  | 2 => ⟨S8192x1024, .f32⟩
  | 3 => ⟨S8192x1024, .f32⟩
  | 4 => ⟨S8192x1024, .f32⟩
  | 5 => ⟨S1x2048, .f32⟩
  | 6 => ⟨S1x8x128, .f32⟩
  | 7 => ⟨S1024, .f32⟩
  | 8 => ⟨S1024x1024, .f32⟩
  | 9 => ⟨S1024x1024, .f32⟩
  | 10 => ⟨S1024x1024, .f32⟩
  | 11 => ⟨S_, .f32⟩
  | 12 => ⟨S8192x1024, .f32⟩
  | 13 => ⟨S8192x1024, .f32⟩
  | 14 => ⟨S8192x1024, .f32⟩
  | 15 => ⟨S8192x2048, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x8x128, .f32⟩
  | 33 => ⟨S8x128, .f32⟩
  | 34 => ⟨S8192x8x128, .f32⟩
  | 35 => ⟨S_, .f32⟩
  | 36 => ⟨S8192x8, .f32⟩
  | 37 => ⟨S8192x8x1, .f32⟩
  | 38 => ⟨S_, .f32⟩
  | 39 => ⟨S8192x8x1, .f32⟩
  | 40 => ⟨S8192x8x1, .f32⟩
  | 41 => ⟨S_, .f32⟩
  | 42 => ⟨S8192x8x1, .f32⟩
  | 43 => ⟨S8192x8x1, .f32⟩
  | 44 => ⟨S8192x8x1, .f32⟩
  | 45 => ⟨S8192x8x1, .f32⟩
  | 46 => ⟨S_, .f32⟩
  | 47 => ⟨S8192x8x1, .f32⟩
  | 48 => ⟨S8192x8x1, .f32⟩
  | 49 => ⟨S8192x8x128, .f32⟩
  | 50 => ⟨S8192x8x128, .f32⟩
  | 51 => ⟨S1x8x128, .f32⟩
  | 52 => ⟨S8192x8x128, .f32⟩
  | 53 => ⟨S8192x8x128, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S2048, .f32⟩
  | 72 => ⟨S1x2048, .f32⟩
  | 73 => ⟨S8192x2048, .f32⟩
  | 74 => ⟨S8192x2048, .f32⟩
  | 75 => ⟨S8192x2048, .f32⟩
  | 76 => ⟨S8192x2048, .f32⟩
  | 77 => ⟨S_, .f32⟩
  | 78 => ⟨S8192x2048, .f32⟩
  | 79 => ⟨S8192x2048, .f32⟩
  | 80 => ⟨S_, .f32⟩
  | 81 => ⟨S8192x2048, .f32⟩
  | 82 => ⟨S8192x2048, .f32⟩
  | 83 => ⟨S_, .f32⟩
  | 84 => ⟨S8192x2048, .f32⟩
  | 85 => ⟨S8192x2048, .f32⟩
  | 86 => ⟨S8192x2048, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1024, .f32⟩
  | 110 => ⟨S8192x1024, .f32⟩
  | 111 => ⟨S1x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S_, .f32⟩
  | 120 => ⟨S8192, .f32⟩
  | 121 => ⟨S_, .f32⟩
  | 122 => ⟨S8192, .f32⟩
  | 123 => ⟨S8192, .f32⟩
  | 124 => ⟨S_, .f32⟩
  | 125 => ⟨S_, .f32⟩
  | 126 => ⟨S_, .f32⟩
  | 127 => ⟨S_, .f32⟩
  | _ => ⟨S8192x10240, .f32⟩

abbrev hbmTy0_1 (i : Nat) : BufTy := match i % 128 with
  | 0 => ⟨S_, .f32⟩
  | 1 => ⟨S_, .f32⟩
  | 2 => ⟨S_, .f32⟩
  | 3 => ⟨S8192, .f32⟩
  | 4 => ⟨S_, .f32⟩
  | 5 => ⟨S8192, .f32⟩
  | 6 => ⟨S8192, .f32⟩
  | 7 => ⟨S8192x1024, .f32⟩
  | 8 => ⟨S8192x1024, .f32⟩
  | 9 => ⟨S8192x1024, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x2048, .f32⟩
  | 39 => ⟨S8192x1024, .f32⟩
  | 40 => ⟨S8192x1024, .f32⟩
  | 41 => ⟨S_, .f32⟩
  | 42 => ⟨S8192x2048, .f32⟩
  | 43 => ⟨S8192x2048, .f32⟩
  | 44 => ⟨S8192x2048, .f32⟩
  | 45 => ⟨S_, .f32⟩
  | 46 => ⟨S2048, .f32⟩
  | 47 => ⟨S1x2048, .f32⟩
  | 48 => ⟨S_, .f32⟩
  | 49 => ⟨S2048, .f32⟩
  | 50 => ⟨S1x2048, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x8x128, .f32⟩
  | 59 => ⟨S8192x8x128, .f32⟩
  | 60 => ⟨S_, .f32⟩
  | 61 => ⟨S8x128, .f32⟩
  | 62 => ⟨S1x8x128, .f32⟩
  | 63 => ⟨S8192x8x128, .f32⟩
  | 64 => ⟨S8192x8x128, .f32⟩
  | 65 => ⟨S_, .f32⟩
  | 66 => ⟨S8x128, .f32⟩
  | 67 => ⟨S8192x8x128, .f32⟩
  | 68 => ⟨S_, .f32⟩
  | 69 => ⟨S8192x8, .f32⟩
  | 70 => ⟨S8192x8x1, .f32⟩
  | 71 => ⟨S8192x8x128, .f32⟩
  | 72 => ⟨S8192x8x128, .f32⟩
  | 73 => ⟨S8192x8x1, .f32⟩
  | 74 => ⟨S_, .f32⟩
  | 75 => ⟨S8192x8x1, .f32⟩
  | 76 => ⟨S8192x8x1, .f32⟩
  | 77 => ⟨S_, .f32⟩
  | 78 => ⟨S8192x8, .f32⟩
  | 79 => ⟨S8192x8x128, .f32⟩
  | 80 => ⟨S8192x8x128, .f32⟩
  | 81 => ⟨S8192x8x128, .f32⟩
  | 82 => ⟨S8192x8x128, .f32⟩
  | 83 => ⟨S8192x8x128, .f32⟩
  | 84 => ⟨S1x8x128, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .bf16⟩
  | 94 => ⟨S8192x1024, .bf16⟩
  | 95 => ⟨S8192x4096, .f32⟩
  | 96 => ⟨S8192x4096, .bf16⟩
  | 97 => ⟨S8192x1024, .bf16⟩
  | 98 => ⟨S1024x8192, .bf16⟩
  | 99 => ⟨S8192x1024, .bf16⟩
  | 100 => ⟨S8192x1024, .bf16⟩
  | 101 => ⟨S1024x8192, .bf16⟩
  | 102 => ⟨S8192x1024, .bf16⟩
  | 103 => ⟨S8192x1024, .bf16⟩
  | 104 => ⟨S1024x8192, .bf16⟩
  | 105 => ⟨S8192x1024, .bf16⟩
  | 106 => ⟨S1x1, .f32⟩
  | 107 => ⟨S1x1024, .f32⟩
  | 108 => ⟨S1x1024, .f32⟩
  | _ => ⟨S8192x10240, .f32⟩

abbrev hbmTy (i : Nat) : BufTy := match i / 128 with
  | 0 => hbmTy0_0 i
  | 1 => hbmTy0_1 i
  | _ => ⟨S8192x10240, .f32⟩

abbrev bufTy : (tb : Table) → Fin (tcTables nBuf tb) → BufTy
  | .hbm, ⟨i, _⟩ => hbmTy i
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v4_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v4_1 : Ref sig .tc := ⟨.hbm, 27, rfl⟩
abbrev main_v4_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_v27_2 : Ref sig .tc := ⟨.hbm, 62, rfl⟩
abbrev main_call1_cst_1 : Ref sig .tc := ⟨.hbm, 63, rfl⟩
abbrev main_call1_v6 : Ref sig .tc := ⟨.hbm, 64, rfl⟩
abbrev main_call1_v7 : Ref sig .tc := ⟨.hbm, 65, rfl⟩
abbrev main_v27_1 : Ref sig .tc := ⟨.hbm, 66, rfl⟩
abbrev main_v27_0 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_4 : Ref sig .tc := ⟨.hbm, 77, rfl⟩
abbrev main_v37 : Ref sig .tc := ⟨.hbm, 78, rfl⟩
abbrev main_v38 : Ref sig .tc := ⟨.hbm, 79, rfl⟩
abbrev main_cst_5 : Ref sig .tc := ⟨.hbm, 80, rfl⟩
abbrev main_v39 : Ref sig .tc := ⟨.hbm, 81, rfl⟩
abbrev main_v40 : Ref sig .tc := ⟨.hbm, 82, rfl⟩
abbrev main_cst_6 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_7 : Ref sig .tc := ⟨.hbm, 95, rfl⟩
abbrev main_v52 : Ref sig .tc := ⟨.hbm, 96, rfl⟩
abbrev main_v53 : Ref sig .tc := ⟨.hbm, 97, rfl⟩
abbrev main_cst_8 : Ref sig .tc := ⟨.hbm, 98, rfl⟩
abbrev main_v54 : Ref sig .tc := ⟨.hbm, 99, rfl⟩
abbrev main_v55 : Ref sig .tc := ⟨.hbm, 100, rfl⟩
abbrev main_cst_9 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_10 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_11 : Ref sig .tc := ⟨.hbm, 116, rfl⟩
abbrev main_v69 : Ref sig .tc := ⟨.hbm, 117, rfl⟩
abbrev main_v70 : Ref sig .tc := ⟨.hbm, 118, rfl⟩
abbrev main_cst_12 : Ref sig .tc := ⟨.hbm, 119, rfl⟩
abbrev main_v71 : Ref sig .tc := ⟨.hbm, 120, rfl⟩
abbrev main_cst_13 : Ref sig .tc := ⟨.hbm, 121, rfl⟩
abbrev main_v72 : Ref sig .tc := ⟨.hbm, 122, rfl⟩
abbrev main_v73 : Ref sig .tc := ⟨.hbm, 123, rfl⟩
abbrev main_cst_14 : Ref sig .tc := ⟨.hbm, 124, rfl⟩
abbrev main_v74 : Ref sig .tc := ⟨.hbm, 125, rfl⟩
abbrev main_cst_15 : Ref sig .tc := ⟨.hbm, 126, rfl⟩
abbrev main_v75 : Ref sig .tc := ⟨.hbm, 127, rfl⟩
abbrev main_cst_16 : Ref sig .tc := ⟨.hbm, 128, rfl⟩
abbrev main_cst_17 : Ref sig .tc := ⟨.hbm, 129, rfl⟩
abbrev main_v76 : Ref sig .tc := ⟨.hbm, 130, rfl⟩
abbrev main_v77 : Ref sig .tc := ⟨.hbm, 131, rfl⟩
abbrev main_cst_18 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_19 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_20 : Ref sig .tc := ⟨.hbm, 143, rfl⟩
abbrev main_v87 : Ref sig .tc := ⟨.hbm, 144, rfl⟩
abbrev main_v88 : Ref sig .tc := ⟨.hbm, 145, rfl⟩
abbrev main_cst_21 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_22 : Ref sig .tc := ⟨.hbm, 152, rfl⟩
abbrev main_v94 : Ref sig .tc := ⟨.hbm, 153, rfl⟩
abbrev main_v95 : Ref sig .tc := ⟨.hbm, 154, rfl⟩
abbrev main_cst_23 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_24 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_cst_25 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_cst_26 : Ref sig .tc := ⟨.hbm, 173, rfl⟩
abbrev main_v111 : Ref sig .tc := ⟨.hbm, 174, rfl⟩
abbrev main_v112 : Ref sig .tc := ⟨.hbm, 175, rfl⟩
abbrev main_cst_27 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_call2_v0 : Ref sig .tc := ⟨.hbm, 182, rfl⟩
abbrev main_call2_v1 : Ref sig .tc := ⟨.hbm, 183, rfl⟩
abbrev main_call2_v2 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_28 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_29 : Ref sig .tc := ⟨.hbm, 193, rfl⟩
abbrev main_v125 : Ref sig .tc := ⟨.hbm, 194, rfl⟩
abbrev main_v126 : Ref sig .tc := ⟨.hbm, 195, rfl⟩
abbrev main_cst_30 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_cst_31 : Ref sig .tc := ⟨.hbm, 202, rfl⟩
abbrev main_v132 : Ref sig .tc := ⟨.hbm, 203, rfl⟩
abbrev main_v133 : Ref sig .tc := ⟨.hbm, 204, rfl⟩
abbrev main_cst_32 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_call3_v0 : Ref sig .tc := ⟨.hbm, 217, rfl⟩
abbrev main_call3_v1 : Ref sig .tc := ⟨.hbm, 218, rfl⟩
abbrev main_call3_v2 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩

abbrev nD : Nat := 1
abbrev τ : Topo := Topo.v7x

variable {F : FTy → Type} [FloatOps F]
-- ==== KernelFwd.lean ====
abbrev S8192x10240 : Shape := ⟨2, ![8192, 10240]⟩
abbrev S8192x1024 : Shape := ⟨2, ![8192, 1024]⟩
abbrev S512x512 : Shape := ⟨2, ![512, 512]⟩
abbrev S8192x512 : Shape := ⟨2, ![8192, 512]⟩
abbrev S256x256 : Shape := ⟨2, ![256, 256]⟩
abbrev S256x128 : Shape := ⟨2, ![256, 128]⟩
abbrev S256x1 : Shape := ⟨2, ![256, 1]⟩
abbrev S512x256 : Shape := ⟨2, ![512, 256]⟩
abbrev S512x128 : Shape := ⟨2, ![512, 128]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 3
  | .vmem => 10
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .f32⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c2_i32 : BitVec 32 := 2#32
  let arg1 : BitVec 32 := BitVec.ofNat 32 (i 1).val
  let v13 : BitVec 32 := Scalar.muli c2_i32 arg1
  let c0_i32_1 : BitVec 32 := 0#32
  let v14 : BitVec 32 := Scalar.addi v13 c0_i32_1
  let c0_i32_2 : BitVec 32 := 0#32
  let v15 : BitVec 32 := Scalar.subi v14 c0_i32_2
  let c0_i32_3 : BitVec 32 := 0#32
  let v16 : BitVec 32 := Scalar.maxsi v15 c0_i32_3
  let c256_i32 : BitVec 32 := 256#32
  let v17 : BitVec 32 := Scalar.muli v16 c256_i32
  v17
def k0_off1 (i : grid0.Coords) (c0_i32_1 : BitVec 32) (c0_i32_2 : BitVec 32) : Fin 2 → Nat :=
  let c2_i32 : BitVec 32 := 2#32
  let arg1 : BitVec 32 := BitVec.ofNat 32 (i 1).val
  let v13 : BitVec 32 := Scalar.muli c2_i32 arg1
  let v14 : BitVec 32 := Scalar.addi v13 c0_i32_1
  let v15 : BitVec 32 := Scalar.subi v14 c0_i32_2
  let c0_i32_3 : BitVec 32 := 0#32
  let v16 : BitVec 32 := Scalar.maxsi v15 c0_i32_3
  let c256_i32 : BitVec 32 := 256#32
  let v17 : BitVec 32 := Scalar.muli v16 c256_i32
  let v18 : BitVec 32 := v17
  let v19 : Index := Scalar.indexCast v18
  let c0 : Index := 0#32
  ![v19.toNat, 0]
def k0_mult2 (i : grid0.Coords) : BitVec 32 :=
  let c2_i32_13 : BitVec 32 := 2#32
  let arg1 : BitVec 32 := BitVec.ofNat 32 (i 1).val
  let v47 : BitVec 32 := Scalar.muli c2_i32_13 arg1
  let c1_i32 : BitVec 32 := 1#32
  let v48 : BitVec 32 := Scalar.addi v47 c1_i32
  let c0_i32_14 : BitVec 32 := 0#32
  let v49 : BitVec 32 := Scalar.subi v48 c0_i32_14
  let c0_i32_15 : BitVec 32 := 0#32
  let v50 : BitVec 32 := Scalar.maxsi v49 c0_i32_15
  let c256_i32_16 : BitVec 32 := 256#32
  let v51 : BitVec 32 := Scalar.muli v50 c256_i32_16
  v51
def k0_mult3 (i : grid0.Coords) : BitVec 32 :=
  let c2_i32_26 : BitVec 32 := 2#32
  let arg1 : BitVec 32 := BitVec.ofNat 32 (i 1).val
  let v81 : BitVec 32 := Scalar.muli c2_i32_26 arg1
  let c0_i32_27 : BitVec 32 := 0#32
  let v82 : BitVec 32 := Scalar.addi v81 c0_i32_27
  let c0_i32_28 : BitVec 32 := 0#32
  let v83 : BitVec 32 := Scalar.subi v82 c0_i32_28
  let c0_i32_29 : BitVec 32 := 0#32
  let v84 : BitVec 32 := Scalar.maxsi v83 c0_i32_29
  let c256_i32_30 : BitVec 32 := 256#32
  let v85 : BitVec 32 := Scalar.muli v84 c256_i32_30
  v85
def k0_off2 (i : grid0.Coords) (c0_i32_27 : BitVec 32) (c0_i32_28 : BitVec 32) : Fin 2 → Nat :=
  let c2_i32_26 : BitVec 32 := 2#32
  let arg1 : BitVec 32 := BitVec.ofNat 32 (i 1).val
  let v81 : BitVec 32 := Scalar.muli c2_i32_26 arg1
  let v82 : BitVec 32 := Scalar.addi v81 c0_i32_27
  let v83 : BitVec 32 := Scalar.subi v82 c0_i32_28
  let c0_i32_29 : BitVec 32 := 0#32
  let v84 : BitVec 32 := Scalar.maxsi v83 c0_i32_29
  let c256_i32_30 : BitVec 32 := 256#32
  let v85 : BitVec 32 := Scalar.muli v84 c256_i32_30
  let v86 : BitVec 32 := v85
  let v87 : Index := Scalar.indexCast v86
  let c128 : Index := 128#32
  ![v87.toNat, 128]
def k0_mult4 (i : grid0.Coords) : BitVec 32 :=
  let c2_i32_40 : BitVec 32 := 2#32
  let arg1 : BitVec 32 := BitVec.ofNat 32 (i 1).val
  let v115 : BitVec 32 := Scalar.muli c2_i32_40 arg1
  let c1_i32_41 : BitVec 32 := 1#32
  let v116 : BitVec 32 := Scalar.addi v115 c1_i32_41
  let c0_i32_42 : BitVec 32 := 0#32
  let v117 : BitVec 32 := Scalar.subi v116 c0_i32_42
  let c0_i32_43 : BitVec 32 := 0#32
  let v118 : BitVec 32 := Scalar.maxsi v117 c0_i32_43
  let c256_i32_44 : BitVec 32 := 256#32
  let v119 : BitVec 32 := Scalar.muli v118 c256_i32_44
  v119
def k0_mult5 (i : grid0.Coords) : BitVec 32 :=
  let c2_i32_55 : BitVec 32 := 2#32
  let arg1 : BitVec 32 := BitVec.ofNat 32 (i 1).val
  let v149 : BitVec 32 := Scalar.muli c2_i32_55 arg1
  let c0_i32_56 : BitVec 32 := 0#32
  let v150 : BitVec 32 := Scalar.addi v149 c0_i32_56
  let c0_i32_57 : BitVec 32 := 0#32
  let v151 : BitVec 32 := Scalar.subi v150 c0_i32_57
  let c0_i32_58 : BitVec 32 := 0#32
  let v152 : BitVec 32 := Scalar.maxsi v151 c0_i32_58
  let c256_i32_59 : BitVec 32 := 256#32
  let v153 : BitVec 32 := Scalar.muli v152 c256_i32_59
  v153
def k0_off3 (i : grid0.Coords) (c0_i32_56 : BitVec 32) (c0_i32_57 : BitVec 32) : Fin 2 → Nat :=
  let c2_i32_55 : BitVec 32 := 2#32
  let arg1 : BitVec 32 := BitVec.ofNat 32 (i 1).val
  let v149 : BitVec 32 := Scalar.muli c2_i32_55 arg1
  let v150 : BitVec 32 := Scalar.addi v149 c0_i32_56
  let v151 : BitVec 32 := Scalar.subi v150 c0_i32_57
  let c0_i32_58 : BitVec 32 := 0#32
  let v152 : BitVec 32 := Scalar.maxsi v151 c0_i32_58
  let c256_i32_59 : BitVec 32 := 256#32
  let v153 : BitVec 32 := Scalar.muli v152 c256_i32_59
  let v154 : BitVec 32 := v153
  let v155 : Index := Scalar.indexCast v154
  let c256_60 : Index := 256#32
  ![v155.toNat, 256]
def k0_mult6 (i : grid0.Coords) : BitVec 32 :=
  let c2_i32_70 : BitVec 32 := 2#32
  let arg1 : BitVec 32 := BitVec.ofNat 32 (i 1).val
  let v183 : BitVec 32 := Scalar.muli c2_i32_70 arg1
  let c1_i32_71 : BitVec 32 := 1#32
  let v184 : BitVec 32 := Scalar.addi v183 c1_i32_71
  let c0_i32_72 : BitVec 32 := 0#32
  let v185 : BitVec 32 := Scalar.subi v184 c0_i32_72
  let c0_i32_73 : BitVec 32 := 0#32
  let v186 : BitVec 32 := Scalar.maxsi v185 c0_i32_73
  let c256_i32_74 : BitVec 32 := 256#32
  let v187 : BitVec 32 := Scalar.muli v186 c256_i32_74
  v187
def k0_mult7 (i : grid0.Coords) : BitVec 32 :=
  let c2_i32_85 : BitVec 32 := 2#32
  let arg1 : BitVec 32 := BitVec.ofNat 32 (i 1).val
  let v217 : BitVec 32 := Scalar.muli c2_i32_85 arg1
  let c0_i32_86 : BitVec 32 := 0#32
  let v218 : BitVec 32 := Scalar.addi v217 c0_i32_86
  let c0_i32_87 : BitVec 32 := 0#32
  let v219 : BitVec 32 := Scalar.subi v218 c0_i32_87
  let c0_i32_88 : BitVec 32 := 0#32
  let v220 : BitVec 32 := Scalar.maxsi v219 c0_i32_88
  let c256_i32_89 : BitVec 32 := 256#32
  let v221 : BitVec 32 := Scalar.muli v220 c256_i32_89
  v221
def k0_off4 (i : grid0.Coords) (c0_i32_86 : BitVec 32) (c0_i32_87 : BitVec 32) : Fin 2 → Nat :=
  let c2_i32_85 : BitVec 32 := 2#32
  let arg1 : BitVec 32 := BitVec.ofNat 32 (i 1).val
  let v217 : BitVec 32 := Scalar.muli c2_i32_85 arg1
  let v218 : BitVec 32 := Scalar.addi v217 c0_i32_86
  let v219 : BitVec 32 := Scalar.subi v218 c0_i32_87
  let c0_i32_88 : BitVec 32 := 0#32
  let v220 : BitVec 32 := Scalar.maxsi v219 c0_i32_88
  let c256_i32_89 : BitVec 32 := 256#32
  let v221 : BitVec 32 := Scalar.muli v220 c256_i32_89
  let v222 : BitVec 32 := v221
  let v223 : Index := Scalar.indexCast v222
  let c384 : Index := 384#32
  ![v223.toNat, 384]
def k0_mult8 (i : grid0.Coords) : BitVec 32 :=
  let c2_i32_99 : BitVec 32 := 2#32
  let arg1 : BitVec 32 := BitVec.ofNat 32 (i 1).val
  let v251 : BitVec 32 := Scalar.muli c2_i32_99 arg1
  let c1_i32_100 : BitVec 32 := 1#32
  let v252 : BitVec 32 := Scalar.addi v251 c1_i32_100
  let c0_i32_101 : BitVec 32 := 0#32
  let v253 : BitVec 32 := Scalar.subi v252 c0_i32_101
  let c0_i32_102 : BitVec 32 := 0#32
  let v254 : BitVec 32 := Scalar.maxsi v253 c0_i32_102
  let c256_i32_103 : BitVec 32 := 256#32
  let v255 : BitVec 32 := Scalar.muli v254 c256_i32_103
  v255
def k0_mult9 (i : grid0.Coords) : BitVec 32 :=
  let c2_i32_114 : BitVec 32 := 2#32
  let arg1 : BitVec 32 := BitVec.ofNat 32 (i 1).val
  let v285 : BitVec 32 := Scalar.muli c2_i32_114 arg1
  let c0_i32_115 : BitVec 32 := 0#32
  let v286 : BitVec 32 := Scalar.addi v285 c0_i32_115
  let c1_i32_116 : BitVec 32 := 1#32
  let v287 : BitVec 32 := Scalar.subi v286 c1_i32_116
  let c0_i32_117 : BitVec 32 := 0#32
  let v288 : BitVec 32 := Scalar.maxsi v287 c0_i32_117
  let c256_i32_118 : BitVec 32 := 256#32
  let v289 : BitVec 32 := Scalar.muli v288 c256_i32_118
  v289
def k0_mult10 (i : grid0.Coords) : BitVec 32 :=
  let c2_i32_128 : BitVec 32 := 2#32
  let arg1 : BitVec 32 := BitVec.ofNat 32 (i 1).val
  let v317 : BitVec 32 := Scalar.muli c2_i32_128 arg1
  let c1_i32_129 : BitVec 32 := 1#32
  let v318 : BitVec 32 := Scalar.addi v317 c1_i32_129
  let c1_i32_130 : BitVec 32 := 1#32
  let v319 : BitVec 32 := Scalar.subi v318 c1_i32_130
  let c0_i32_131 : BitVec 32 := 0#32
  let v320 : BitVec 32 := Scalar.maxsi v319 c0_i32_131
  let c256_i32_132 : BitVec 32 := 256#32
  let v321 : BitVec 32 := Scalar.muli v320 c256_i32_132
  v321
def k0_mult11 (i : grid0.Coords) : BitVec 32 :=
  let c2_i32_142 : BitVec 32 := 2#32
  let arg1 : BitVec 32 := BitVec.ofNat 32 (i 1).val
  let v349 : BitVec 32 := Scalar.muli c2_i32_142 arg1
  let c0_i32_143 : BitVec 32 := 0#32
  let v350 : BitVec 32 := Scalar.addi v349 c0_i32_143
  let c1_i32_144 : BitVec 32 := 1#32
  let v351 : BitVec 32 := Scalar.subi v350 c1_i32_144
  let c0_i32_145 : BitVec 32 := 0#32
  let v352 : BitVec 32 := Scalar.maxsi v351 c0_i32_145
  let c256_i32_146 : BitVec 32 := 256#32
  let v353 : BitVec 32 := Scalar.muli v352 c256_i32_146
  v353
def k0_mult12 (i : grid0.Coords) : BitVec 32 :=
  let c2_i32_156 : BitVec 32 := 2#32
  let arg1 : BitVec 32 := BitVec.ofNat 32 (i 1).val
  let v381 : BitVec 32 := Scalar.muli c2_i32_156 arg1
  let c1_i32_157 : BitVec 32 := 1#32
  let v382 : BitVec 32 := Scalar.addi v381 c1_i32_157
  let c1_i32_158 : BitVec 32 := 1#32
  let v383 : BitVec 32 := Scalar.subi v382 c1_i32_158
  let c0_i32_159 : BitVec 32 := 0#32
  let v384 : BitVec 32 := Scalar.maxsi v383 c0_i32_159
  let c256_i32_160 : BitVec 32 := 256#32
  let v385 : BitVec 32 := Scalar.muli v384 c256_i32_160
  v385
def k0_mult13 (i : grid0.Coords) : BitVec 32 :=
  let c2_i32_170 : BitVec 32 := 2#32
  let arg1 : BitVec 32 := BitVec.ofNat 32 (i 1).val
  let v413 : BitVec 32 := Scalar.muli c2_i32_170 arg1
  let c0_i32_171 : BitVec 32 := 0#32
  let v414 : BitVec 32 := Scalar.addi v413 c0_i32_171
  let c1_i32_172 : BitVec 32 := 1#32
  let v415 : BitVec 32 := Scalar.subi v414 c1_i32_172
  let c0_i32_173 : BitVec 32 := 0#32
  let v416 : BitVec 32 := Scalar.maxsi v415 c0_i32_173
  let c256_i32_174 : BitVec 32 := 256#32
  let v417 : BitVec 32 := Scalar.muli v416 c256_i32_174
  v417
def k0_mult14 (i : grid0.Coords) : BitVec 32 :=
  let c2_i32_184 : BitVec 32 := 2#32
  let arg1 : BitVec 32 := BitVec.ofNat 32 (i 1).val
  let v445 : BitVec 32 := Scalar.muli c2_i32_184 arg1
  let c1_i32_185 : BitVec 32 := 1#32
  let v446 : BitVec 32 := Scalar.addi v445 c1_i32_185
  let c1_i32_186 : BitVec 32 := 1#32
  let v447 : BitVec 32 := Scalar.subi v446 c1_i32_186
  let c0_i32_187 : BitVec 32 := 0#32
  let v448 : BitVec 32 := Scalar.maxsi v447 c0_i32_187
  let c256_i32_188 : BitVec 32 := 256#32
  let v449 : BitVec 32 := Scalar.muli v448 c256_i32_188
  v449
def k0_mult15 (i : grid0.Coords) : BitVec 32 :=
  let c2_i32_198 : BitVec 32 := 2#32
  let arg1 : BitVec 32 := BitVec.ofNat 32 (i 1).val
  let v477 : BitVec 32 := Scalar.muli c2_i32_198 arg1
  let c0_i32_199 : BitVec 32 := 0#32
  let v478 : BitVec 32 := Scalar.addi v477 c0_i32_199
  let c1_i32_200 : BitVec 32 := 1#32
  let v479 : BitVec 32 := Scalar.subi v478 c1_i32_200
  let c0_i32_201 : BitVec 32 := 0#32
  let v480 : BitVec 32 := Scalar.maxsi v479 c0_i32_201
  let c256_i32_202 : BitVec 32 := 256#32
  let v481 : BitVec 32 := Scalar.muli v480 c256_i32_202
  v481
def k0_mult16 (i : grid0.Coords) : BitVec 32 :=
  let c2_i32_212 : BitVec 32 := 2#32
  let arg1 : BitVec 32 := BitVec.ofNat 32 (i 1).val
  let v509 : BitVec 32 := Scalar.muli c2_i32_212 arg1
  let c1_i32_213 : BitVec 32 := 1#32
  let v510 : BitVec 32 := Scalar.addi v509 c1_i32_213
  let c1_i32_214 : BitVec 32 := 1#32
  let v511 : BitVec 32 := Scalar.subi v510 c1_i32_214
  let c0_i32_215 : BitVec 32 := 0#32
  let v512 : BitVec 32 := Scalar.maxsi v511 c0_i32_215
  let c256_i32_216 : BitVec 32 := 256#32
  let v513 : BitVec 32 := Scalar.muli v512 c256_i32_216
  v513
def k0_mult17 (i : grid0.Coords) (arg7 : BitVec 32) : BitVec 32 :=
  let c2_i32_300 : BitVec 32 := 2#32
  let arg1 : BitVec 32 := BitVec.ofNat 32 (i 1).val
  let v879 : BitVec 32 := Scalar.muli c2_i32_300 arg1
  let c0_i32_301 : BitVec 32 := 0#32
  let v880 : BitVec 32 := Scalar.addi v879 c0_i32_301
  let v881 : BitVec 32 := Scalar.subi v880 arg7
  let c0_i32_302 : BitVec 32 := 0#32
  let v882 : BitVec 32 := Scalar.maxsi v881 c0_i32_302
  let c256_i32_303 : BitVec 32 := 256#32
  let v883 : BitVec 32 := Scalar.muli v882 c256_i32_303
  v883

def k0_off5 (i : grid0.Coords) (arg7 : BitVec 32) (c0_i32_301 : BitVec 32) : Fin 2 → Nat :=
  let c2_i32_300 : BitVec 32 := 2#32
  let arg1 : BitVec 32 := BitVec.ofNat 32 (i 1).val
  let v879 : BitVec 32 := Scalar.muli c2_i32_300 arg1
  let v880 : BitVec 32 := Scalar.addi v879 c0_i32_301
  let v881 : BitVec 32 := Scalar.subi v880 arg7
  let c0_i32_302 : BitVec 32 := 0#32
  let v882 : BitVec 32 := Scalar.maxsi v881 c0_i32_302
  let c256_i32_303 : BitVec 32 := 256#32
  let v883 : BitVec 32 := Scalar.muli v882 c256_i32_303
  let v884 : BitVec 32 := v883
  let v885 : Index := Scalar.indexCast v884
  let c0_304 : Index := 0#32
  ![v885.toNat, 0]
def k0_mult18 (i : grid0.Coords) (arg7 : BitVec 32) : BitVec 32 :=
  let c2_i32_313 : BitVec 32 := 2#32
  let arg1 : BitVec 32 := BitVec.ofNat 32 (i 1).val
  let v911 : BitVec 32 := Scalar.muli c2_i32_313 arg1
  let c1_i32_314 : BitVec 32 := 1#32
  let v912 : BitVec 32 := Scalar.addi v911 c1_i32_314
  let v913 : BitVec 32 := Scalar.subi v912 arg7
  let c0_i32_315 : BitVec 32 := 0#32
  let v914 : BitVec 32 := Scalar.maxsi v913 c0_i32_315
  let c256_i32_316 : BitVec 32 := 256#32
  let v915 : BitVec 32 := Scalar.muli v914 c256_i32_316
  v915
def k0_mult19 (i : grid0.Coords) (arg7 : BitVec 32) : BitVec 32 :=
  let c2_i32_326 : BitVec 32 := 2#32
  let arg1 : BitVec 32 := BitVec.ofNat 32 (i 1).val
  let v943 : BitVec 32 := Scalar.muli c2_i32_326 arg1
  let c0_i32_327 : BitVec 32 := 0#32
  let v944 : BitVec 32 := Scalar.addi v943 c0_i32_327
  let v945 : BitVec 32 := Scalar.subi v944 arg7
  let c0_i32_328 : BitVec 32 := 0#32
  let v946 : BitVec 32 := Scalar.maxsi v945 c0_i32_328
  let c256_i32_329 : BitVec 32 := 256#32
  let v947 : BitVec 32 := Scalar.muli v946 c256_i32_329
  v947
def k0_off6 (i : grid0.Coords) (arg7 : BitVec 32) (c0_i32_327 : BitVec 32) : Fin 2 → Nat :=
  let c2_i32_326 : BitVec 32 := 2#32
  let arg1 : BitVec 32 := BitVec.ofNat 32 (i 1).val
  let v943 : BitVec 32 := Scalar.muli c2_i32_326 arg1
  let v944 : BitVec 32 := Scalar.addi v943 c0_i32_327
  let v945 : BitVec 32 := Scalar.subi v944 arg7
  let c0_i32_328 : BitVec 32 := 0#32
  let v946 : BitVec 32 := Scalar.maxsi v945 c0_i32_328
  let c256_i32_329 : BitVec 32 := 256#32
  let v947 : BitVec 32 := Scalar.muli v946 c256_i32_329
  let v948 : BitVec 32 := v947
  let v949 : Index := Scalar.indexCast v948
  let c128_330 : Index := 128#32
  ![v949.toNat, 128]
def k0_mult20 (i : grid0.Coords) (arg7 : BitVec 32) : BitVec 32 :=
  let c2_i32_339 : BitVec 32 := 2#32
  let arg1 : BitVec 32 := BitVec.ofNat 32 (i 1).val
  let v975 : BitVec 32 := Scalar.muli c2_i32_339 arg1
  let c1_i32_340 : BitVec 32 := 1#32
  let v976 : BitVec 32 := Scalar.addi v975 c1_i32_340
  let v977 : BitVec 32 := Scalar.subi v976 arg7
  let c0_i32_341 : BitVec 32 := 0#32
  let v978 : BitVec 32 := Scalar.maxsi v977 c0_i32_341
  let c256_i32_342 : BitVec 32 := 256#32
  let v979 : BitVec 32 := Scalar.muli v978 c256_i32_342
  v979
def k0_mult21 (i : grid0.Coords) (arg7 : BitVec 32) : BitVec 32 :=
  let c2_i32_352 : BitVec 32 := 2#32
  let arg1 : BitVec 32 := BitVec.ofNat 32 (i 1).val
  let v1007 : BitVec 32 := Scalar.muli c2_i32_352 arg1
  let c0_i32_353 : BitVec 32 := 0#32
  let v1008 : BitVec 32 := Scalar.addi v1007 c0_i32_353
  let v1009 : BitVec 32 := Scalar.subi v1008 arg7
  let c0_i32_354 : BitVec 32 := 0#32
  let v1010 : BitVec 32 := Scalar.maxsi v1009 c0_i32_354
  let c256_i32_355 : BitVec 32 := 256#32
  let v1011 : BitVec 32 := Scalar.muli v1010 c256_i32_355
  v1011
def k0_off7 (i : grid0.Coords) (arg7 : BitVec 32) (c0_i32_353 : BitVec 32) : Fin 2 → Nat :=
  let c2_i32_352 : BitVec 32 := 2#32
  let arg1 : BitVec 32 := BitVec.ofNat 32 (i 1).val
  let v1007 : BitVec 32 := Scalar.muli c2_i32_352 arg1
  let v1008 : BitVec 32 := Scalar.addi v1007 c0_i32_353
  let v1009 : BitVec 32 := Scalar.subi v1008 arg7
  let c0_i32_354 : BitVec 32 := 0#32
  let v1010 : BitVec 32 := Scalar.maxsi v1009 c0_i32_354
  let c256_i32_355 : BitVec 32 := 256#32
  let v1011 : BitVec 32 := Scalar.muli v1010 c256_i32_355
  let v1012 : BitVec 32 := v1011
  let v1013 : Index := Scalar.indexCast v1012
  let c256_356 : Index := 256#32
  ![v1013.toNat, 256]
def k0_mult22 (i : grid0.Coords) (arg7 : BitVec 32) : BitVec 32 :=
  let c2_i32_365 : BitVec 32 := 2#32
  let arg1 : BitVec 32 := BitVec.ofNat 32 (i 1).val
  let v1039 : BitVec 32 := Scalar.muli c2_i32_365 arg1
  let c1_i32_366 : BitVec 32 := 1#32
  let v1040 : BitVec 32 := Scalar.addi v1039 c1_i32_366
  let v1041 : BitVec 32 := Scalar.subi v1040 arg7
  let c0_i32_367 : BitVec 32 := 0#32
  let v1042 : BitVec 32 := Scalar.maxsi v1041 c0_i32_367
  let c256_i32_368 : BitVec 32 := 256#32
  let v1043 : BitVec 32 := Scalar.muli v1042 c256_i32_368
  v1043
def k0_mult23 (i : grid0.Coords) (arg7 : BitVec 32) : BitVec 32 :=
  let c2_i32_378 : BitVec 32 := 2#32
  let arg1 : BitVec 32 := BitVec.ofNat 32 (i 1).val
  let v1071 : BitVec 32 := Scalar.muli c2_i32_378 arg1
  let c0_i32_379 : BitVec 32 := 0#32
  let v1072 : BitVec 32 := Scalar.addi v1071 c0_i32_379
  let v1073 : BitVec 32 := Scalar.subi v1072 arg7
  let c0_i32_380 : BitVec 32 := 0#32
  let v1074 : BitVec 32 := Scalar.maxsi v1073 c0_i32_380
  let c256_i32_381 : BitVec 32 := 256#32
  let v1075 : BitVec 32 := Scalar.muli v1074 c256_i32_381
  v1075
def k0_off8 (i : grid0.Coords) (arg7 : BitVec 32) (c0_i32_379 : BitVec 32) : Fin 2 → Nat :=
  let c2_i32_378 : BitVec 32 := 2#32
  let arg1 : BitVec 32 := BitVec.ofNat 32 (i 1).val
  let v1071 : BitVec 32 := Scalar.muli c2_i32_378 arg1
  let v1072 : BitVec 32 := Scalar.addi v1071 c0_i32_379
  let v1073 : BitVec 32 := Scalar.subi v1072 arg7
  let c0_i32_380 : BitVec 32 := 0#32
  let v1074 : BitVec 32 := Scalar.maxsi v1073 c0_i32_380
  let c256_i32_381 : BitVec 32 := 256#32
  let v1075 : BitVec 32 := Scalar.muli v1074 c256_i32_381
  let v1076 : BitVec 32 := v1075
  let v1077 : Index := Scalar.indexCast v1076
  let c384_382 : Index := 384#32
  ![v1077.toNat, 384]
def k0_mult24 (i : grid0.Coords) (arg7 : BitVec 32) : BitVec 32 :=
  let c2_i32_391 : BitVec 32 := 2#32
  let arg1 : BitVec 32 := BitVec.ofNat 32 (i 1).val
  let v1103 : BitVec 32 := Scalar.muli c2_i32_391 arg1
  let c1_i32_392 : BitVec 32 := 1#32
  let v1104 : BitVec 32 := Scalar.addi v1103 c1_i32_392
  let v1105 : BitVec 32 := Scalar.subi v1104 arg7
  let c0_i32_393 : BitVec 32 := 0#32
  let v1106 : BitVec 32 := Scalar.maxsi v1105 c0_i32_393
  let c256_i32_394 : BitVec 32 := 256#32
  let v1107 : BitVec 32 := Scalar.muli v1106 c256_i32_394
  v1107

def k0_chk1 (i : grid0.Coords) (arg7 : BitVec 32) : Prop :=
  (256 ∣ (k0_mult17 i arg7).toNat) ∧
  (∀ (r : Fin 2), ∀ a, (k0_off5 i arg7 (BitVec.ofNat 32 r.val)) a + S256x128.size a ≤ S8192x512.size a) ∧
  (256 ∣ (k0_mult18 i arg7).toNat) ∧
  (256 ∣ (k0_mult19 i arg7).toNat) ∧
  (∀ (r : Fin 2), ∀ a, (k0_off6 i arg7 (BitVec.ofNat 32 r.val)) a + S256x128.size a ≤ S8192x512.size a) ∧
  (256 ∣ (k0_mult20 i arg7).toNat) ∧
  (256 ∣ (k0_mult21 i arg7).toNat) ∧
  (∀ (r : Fin 2), ∀ a, (k0_off7 i arg7 (BitVec.ofNat 32 r.val)) a + S256x128.size a ≤ S8192x512.size a) ∧
  (256 ∣ (k0_mult22 i arg7).toNat) ∧
  (256 ∣ (k0_mult23 i arg7).toNat) ∧
  (∀ (r : Fin 2), ∀ a, (k0_off8 i arg7 (BitVec.ofNat 32 r.val)) a + S256x128.size a ≤ S8192x512.size a) ∧
  (256 ∣ (k0_mult24 i arg7).toNat)
theorem k0_mult17_dvd : ∀ (i : grid0.Coords) (arg7 : BitVec 32) (k0_hw1 : k0_chk1 i arg7), 256 ∣ (k0_mult17 i arg7).toNat := fun i arg7 k0_hw1 => k0_hw1.1
theorem k0_off5_inb : ∀ (i : grid0.Coords) (arg7 : BitVec 32) (k0_hw1 : k0_chk1 i arg7), ∀ (r : Fin 2), ∀ a, (k0_off5 i arg7 (BitVec.ofNat 32 r.val)) a + S256x128.size a ≤ S8192x512.size a := fun i arg7 k0_hw1 r => k0_hw1.2.1 r
theorem k0_mult18_dvd : ∀ (i : grid0.Coords) (arg7 : BitVec 32) (k0_hw1 : k0_chk1 i arg7), 256 ∣ (k0_mult18 i arg7).toNat := fun i arg7 k0_hw1 => k0_hw1.2.2.1
theorem k0_mult19_dvd : ∀ (i : grid0.Coords) (arg7 : BitVec 32) (k0_hw1 : k0_chk1 i arg7), 256 ∣ (k0_mult19 i arg7).toNat := fun i arg7 k0_hw1 => k0_hw1.2.2.2.1
theorem k0_off6_inb : ∀ (i : grid0.Coords) (arg7 : BitVec 32) (k0_hw1 : k0_chk1 i arg7), ∀ (r : Fin 2), ∀ a, (k0_off6 i arg7 (BitVec.ofNat 32 r.val)) a + S256x128.size a ≤ S8192x512.size a := fun i arg7 k0_hw1 r => k0_hw1.2.2.2.2.1 r
theorem k0_mult20_dvd : ∀ (i : grid0.Coords) (arg7 : BitVec 32) (k0_hw1 : k0_chk1 i arg7), 256 ∣ (k0_mult20 i arg7).toNat := fun i arg7 k0_hw1 => k0_hw1.2.2.2.2.2.1
theorem k0_mult21_dvd : ∀ (i : grid0.Coords) (arg7 : BitVec 32) (k0_hw1 : k0_chk1 i arg7), 256 ∣ (k0_mult21 i arg7).toNat := fun i arg7 k0_hw1 => k0_hw1.2.2.2.2.2.2.1
theorem k0_off7_inb : ∀ (i : grid0.Coords) (arg7 : BitVec 32) (k0_hw1 : k0_chk1 i arg7), ∀ (r : Fin 2), ∀ a, (k0_off7 i arg7 (BitVec.ofNat 32 r.val)) a + S256x128.size a ≤ S8192x512.size a := fun i arg7 k0_hw1 r => k0_hw1.2.2.2.2.2.2.2.1 r
theorem k0_mult22_dvd : ∀ (i : grid0.Coords) (arg7 : BitVec 32) (k0_hw1 : k0_chk1 i arg7), 256 ∣ (k0_mult22 i arg7).toNat := fun i arg7 k0_hw1 => k0_hw1.2.2.2.2.2.2.2.2.1
theorem k0_mult23_dvd : ∀ (i : grid0.Coords) (arg7 : BitVec 32) (k0_hw1 : k0_chk1 i arg7), 256 ∣ (k0_mult23 i arg7).toNat := fun i arg7 k0_hw1 => k0_hw1.2.2.2.2.2.2.2.2.2.1
theorem k0_off8_inb : ∀ (i : grid0.Coords) (arg7 : BitVec 32) (k0_hw1 : k0_chk1 i arg7), ∀ (r : Fin 2), ∀ a, (k0_off8 i arg7 (BitVec.ofNat 32 r.val)) a + S256x128.size a ≤ S8192x512.size a := fun i arg7 k0_hw1 r => k0_hw1.2.2.2.2.2.2.2.2.2.2.1 r
theorem k0_mult24_dvd : ∀ (i : grid0.Coords) (arg7 : BitVec 32) (k0_hw1 : k0_chk1 i arg7), 256 ∣ (k0_mult24 i arg7).toNat := fun i arg7 k0_hw1 => k0_hw1.2.2.2.2.2.2.2.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelFwdIdeal.lean ====
variable {F : FTy → Type} [FloatOps F] [Named F]
def κ : String → Option EReal := fun
  | "dead" => some ⊥
  | "gone" => some ⊥
  | _ => none
-- ==== ReferenceFwdIdeal.lean ====
abbrev S8192x10240 : Shape := ⟨2, ![8192, 10240]⟩
abbrev S8192x1024 : Shape := ⟨2, ![8192, 1024]⟩
abbrev S8192x8x128 : Shape := ⟨3, ![8192, 8, 128]⟩
abbrev S8x8192x128 : Shape := ⟨3, ![8, 8192, 128]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x8x128, .f32⟩
  | .hbm, ⟨6, _⟩ => ⟨S8x8192x128, .f32⟩
  | .hbm, ⟨7, _⟩ => ⟨S8192x1024, .f32⟩
  | .hbm, ⟨8, _⟩ => ⟨S8192x8x128, .f32⟩
  | .hbm, ⟨9, _⟩ => ⟨S8x8192x128, .f32⟩
  | .hbm, ⟨10, _⟩ => ⟨S8192x1024, .f32⟩
  | .hbm, ⟨11, _⟩ => ⟨S8192x8x128, .f32⟩
  | .hbm, ⟨12, _⟩ => ⟨S8x8192x128, .f32⟩
  | .hbm, ⟨13, _⟩ => ⟨S8192, .i32⟩
  | .hbm, ⟨14, _⟩ => ⟨S8x8192x8192, .f32⟩
  | .hbm, ⟨15, _⟩ => ⟨S_, .f32⟩
  | .hbm, ⟨16, _⟩ => ⟨S8x8192x8192, .f32⟩
  | .hbm, ⟨17, _⟩ => ⟨S8x8192x8192, .f32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .i1⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S_, .f32⟩
  | .hbm, ⟨42, _⟩ => ⟨S8x8192x8192, .i1⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S_, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .i1⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S_, .f32⟩
  | .hbm, ⟨68, _⟩ => ⟨S8x8192x8192, .i1⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S8x8192x128, .f32⟩
  | .hbm, ⟨73, _⟩ => ⟨S8192x8x128, .f32⟩
  | .hbm, ⟨74, _⟩ => ⟨S8192x1024, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== KernelDx.lean ====
abbrev S8192x1024 : Shape := ⟨2, ![8192, 1024]⟩
abbrev S8192x4096 : Shape := ⟨2, ![8192, 4096]⟩
abbrev S8192x3072 : Shape := ⟨2, ![8192, 3072]⟩
abbrev S1024x10240 : Shape := ⟨2, ![1024, 10240]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x4096, .bf16⟩
  | .hbm, ⟨4, _⟩ => ⟨S8192x3072, .bf16⟩
  | .hbm, ⟨5, _⟩ => ⟨S1024x10240, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 10], ![false, false]⟩

def k0_cond8 (i : grid0.Coords) : BitVec 1 :=
  let arg1 : BitVec 32 := BitVec.ofNat 32 (i 1).val
  let c9_i32 : BitVec 32 := 9#32
  let v33 : BitVec 1 := Scalar.cmpi .eq arg1 c9_i32
  let v34 : BitVec 32 := Scalar.extui v33
  let c0_i32_14 : BitVec 32 := 0#32
  let v35 : BitVec 1 := Scalar.cmpi .ne v34 c0_i32_14
  v35

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c3_i32_0 : BitVec 32 := 3#32
  let v1 : BitVec 32 := Scalar.maxsi c0_i32 v0
  let v2 : BitVec 32 := Scalar.minsi c3_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c7_i32 : BitVec 32 := 7#32
  let v1 : BitVec 1 := Scalar.cmpi .slt arg1 c7_i32
  let c3_i32 : BitVec 32 := 3#32
  let v2 : BitVec 32 := Scalar.addi arg1 c3_i32
  let c3_i32_0 : BitVec 32 := 3#32
  let v3 : BitVec 32 := Scalar.subi arg1 c3_i32_0
  let v4 : BitVec 32 := Scalar.select v1 v2 v3
  let v5 : BitVec 32 := Scalar.select v0 arg1 v4
  let c0_i32 : BitVec 32 := 0#32
  let c0_i32_1 : BitVec 32 := 0#32
  ![c0_i32.toNat, v5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceDxIdeal.lean ====
abbrev S8192x1024 : Shape := ⟨2, ![8192, 1024]⟩
abbrev S8192x4096 : Shape := ⟨2, ![8192, 4096]⟩
abbrev S8192x3072 : Shape := ⟨2, ![8192, 3072]⟩
abbrev S1024x10240 : Shape := ⟨2, ![1024, 10240]⟩
abbrev S1x1024 : Shape := ⟨2, ![1, 1024]⟩
abbrev S8192x10240 : Shape := ⟨2, ![8192, 10240]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x4096, .bf16⟩
  | .hbm, ⟨4, _⟩ => ⟨S8192x3072, .bf16⟩
  | .hbm, ⟨5, _⟩ => ⟨S1024x10240, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x3072, .bf16⟩
  | .hbm, ⟨11, _⟩ => ⟨S8192x10240, .bf16⟩
  | .hbm, ⟨12, _⟩ => ⟨S8192x10240, .f32⟩
  | .hbm, ⟨13, _⟩ => ⟨S1024x10240, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x10240, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== KernelHgf.lean ====
abbrev S8192x10240 : Shape := ⟨2, ![8192, 10240]⟩
abbrev S2x8x128 : Shape := ⟨3, ![2, 8, 128]⟩
abbrev S2x1024 : Shape := ⟨2, ![2, 1024]⟩
abbrev S8192x1024 : Shape := ⟨2, ![8192, 1024]⟩
abbrev S128x8x128x128 : Shape := ⟨4, ![128, 8, 128, 128]⟩
abbrev S256x1024 : Shape := ⟨2, ![256, 1024]⟩
abbrev S4x8x128x128 : Shape := ⟨4, ![4, 8, 128, 128]⟩
abbrev S8x128x128 : Shape := ⟨3, ![8, 128, 128]⟩
abbrev S256x3072 : Shape := ⟨2, ![256, 3072]⟩
abbrev S1x1024 : Shape := ⟨2, ![1, 1024]⟩
abbrev S256x256 : Shape := ⟨2, ![256, 256]⟩
abbrev S8x32x1024 : Shape := ⟨3, ![8, 32, 1024]⟩
abbrev S8x1x1024 : Shape := ⟨3, ![8, 1, 1024]⟩
abbrev S4x64x1024 : Shape := ⟨3, ![4, 64, 1024]⟩
abbrev S4x1x1024 : Shape := ⟨3, ![4, 1, 1024]⟩
abbrev S64x64 : Shape := ⟨2, ![64, 64]⟩
abbrev S64x128 : Shape := ⟨2, ![64, 128]⟩
abbrev S64x384 : Shape := ⟨2, ![64, 384]⟩
abbrev S1x128x128 : Shape := ⟨3, ![1, 128, 128]⟩
abbrev S128x128 : Shape := ⟨2, ![128, 128]⟩
abbrev S1x1x128x128 : Shape := ⟨4, ![1, 1, 128, 128]⟩
abbrev S1x128 : Shape := ⟨2, ![1, 128]⟩

abbrev nBuf : Space → Nat
  | .hbm => 5
  | .vmem => 17
  | .smem => 0
  | _ => 0

abbrev bufTy : (tb : Table) → Fin (tcTables nBuf tb) → BufTy
  | .hbm, ⟨0, _⟩ => ⟨S8192x10240, .f32⟩
  | .hbm, ⟨1, _⟩ => ⟨S2x8x128, .f32⟩
  | .hbm, ⟨2, _⟩ => ⟨S2x1024, .f32⟩
  | .hbm, ⟨3, _⟩ => ⟨S8192x1024, .f32⟩
  | .hbm, ⟨4, _⟩ => ⟨S128x8x128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2x1024, .f32⟩
  | .local _ .vmem, ⟨7, _⟩ => ⟨S256x1024, .f32⟩
  | .local _ .vmem, ⟨8, _⟩ => ⟨S256x1024, .f32⟩
  | .local _ .vmem, ⟨9, _⟩ => ⟨S4x8x128x128, .f32⟩
  | .local _ .vmem, ⟨10, _⟩ => ⟨S4x8x128x128, .f32⟩
  | .local _ .vmem, ⟨11, _⟩ => ⟨S8x128x128, .f32⟩
  | .local _ .vmem, ⟨12, _⟩ => ⟨S256x3072, .bf16⟩
  | .local _ .vmem, ⟨13, _⟩ => ⟨S256x3072, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceHgfIdeal.lean ====
abbrev S8192x10240 : Shape := ⟨2, ![8192, 10240]⟩
abbrev S2x8x128 : Shape := ⟨3, ![2, 8, 128]⟩
abbrev S_ : Shape := ⟨0, ![]⟩
abbrev S8x128 : Shape := ⟨2, ![8, 128]⟩
abbrev S1x8x128 : Shape := ⟨3, ![1, 8, 128]⟩
abbrev S1024 : Shape := ⟨1, ![1024]⟩
abbrev S8192x1024 : Shape := ⟨2, ![8192, 1024]⟩
abbrev S32x32 : Shape := ⟨2, ![32, 32]⟩
abbrev S32x32x1 : Shape := ⟨3, ![32, 32, 1]⟩
abbrev S8x128x128 : Shape := ⟨3, ![8, 128, 128]⟩
abbrev S1x1024 : Shape := ⟨2, ![1, 1024]⟩
abbrev S256x32x8x128 : Shape := ⟨4, ![256, 32, 8, 128]⟩
abbrev S256x8x32x128 : Shape := ⟨4, ![256, 8, 32, 128]⟩
abbrev S1x8x32x128 : Shape := ⟨4, ![1, 8, 32, 128]⟩
abbrev S8x32x128 : Shape := ⟨3, ![8, 32, 128]⟩
abbrev S8x32x1x128 : Shape := ⟨4, ![8, 32, 1, 128]⟩
abbrev S8x1x32x128 : Shape := ⟨4, ![8, 1, 32, 128]⟩
abbrev S8x32x32x128 : Shape := ⟨4, ![8, 32, 32, 128]⟩
abbrev S8x32x32 : Shape := ⟨3, ![8, 32, 32]⟩
abbrev S8x1x128 : Shape := ⟨3, ![8, 1, 128]⟩
abbrev S8x128x1 : Shape := ⟨3, ![8, 128, 1]⟩
abbrev S8x32x128x1 : Shape := ⟨4, ![8, 32, 128, 1]⟩
abbrev S8x32x128x128 : Shape := ⟨4, ![8, 32, 128, 128]⟩

abbrev nBuf : Space → Nat
  | .hbm => 167
  | .vmem => 0
  | .smem => 0
  | _ => 0

abbrev hbmTy0_0 (i : Nat) : BufTy := match i % 128 with
  | 0 => ⟨S8192x10240, .f32⟩
  | 1 => ⟨S2x8x128, .f32⟩
  | 2 => ⟨S_, .f32⟩
  | 3 => ⟨S8x128, .f32⟩
  | 4 => ⟨S_, .f32⟩
  | 5 => ⟨S8x128, .f32⟩
  | 6 => ⟨S8x128, .f32⟩
  | 7 => ⟨S1x8x128, .f32⟩
  | 8 => ⟨S2x8x128, .f32⟩
  | 9 => ⟨S2x8x128, .f32⟩
  | 10 => ⟨S2x8x128, .f32⟩
  | 11 => ⟨S_, .f32⟩
  | 12 => ⟨S8x128, .f32⟩
  | 13 => ⟨S1x8x128, .f32⟩
  | 14 => ⟨S2x8x128, .f32⟩
  | 15 => ⟨S2x8x128, .f32⟩
  | 16 => ⟨S_, .f32⟩
  | 17 => ⟨S_, .f32⟩
  | 18 => ⟨S2x8x128, .f32⟩
  | 19 => ⟨S1x8x128, .f32⟩
  | 20 => ⟨S8x128, .f32⟩
  | 21 => ⟨S1024, .f32⟩
  | 22 => ⟨S8192x1024, .f32⟩
  | 23 => ⟨S8192x1024, .f32⟩
  | 24 => ⟨S8192x1024, .f32⟩
  | 25 => ⟨S_, .i1⟩
  | 26 => ⟨S32x32, .i1⟩
  | 27 => ⟨S32x32, .i32⟩
  | 28 => ⟨S_, .i32⟩
  | 29 => ⟨S32x32, .i32⟩
  | 30 => ⟨S32x32, .i32⟩
  | 31 => ⟨S32x32, .i32⟩
  | 32 => ⟨S32x32, .i1⟩
  | 33 => ⟨S_, .i1⟩
  | 34 => ⟨S32x32, .i1⟩
  | 35 => ⟨S32x32, .i1⟩
  | 36 => ⟨S32x32x1, .i1⟩
  | 37 => ⟨S_, .f32⟩
  | 38 => ⟨S8x128x128, .f32⟩
  | 39 => ⟨S_, .f32⟩
  | 40 => ⟨S1024, .f32⟩
  | 41 => ⟨S1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S8192x1024, .f32⟩
  | 65 => ⟨S256x32x8x128, .f32⟩
  | 66 => ⟨S256x8x32x128, .f32⟩
  | 67 => ⟨S_, .f32⟩
  | 68 => ⟨S8192x1024, .f32⟩
  | 69 => ⟨S8192x1024, .f32⟩
  | 70 => ⟨S256x32x8x128, .f32⟩
  | 71 => ⟨S256x8x32x128, .f32⟩
  | 72 => ⟨S8192x1024, .f32⟩
  | 73 => ⟨S256x32x8x128, .f32⟩
  | 74 => ⟨S256x8x32x128, .f32⟩
  | 75 => ⟨S256x32x8x128, .f32⟩
  | 76 => ⟨S256x8x32x128, .f32⟩
  | 77 => ⟨S_, .f32⟩
  | 78 => ⟨S256x8x32x128, .f32⟩
  | 79 => ⟨S_, .i32⟩
  | 80 => ⟨S256x8x32x128, .f32⟩
  | 81 => ⟨S256x8x32x128, .f32⟩
  | 82 => ⟨S256x8x32x128, .f32⟩
  | 83 => ⟨S256x8x32x128, .f32⟩
  | 84 => ⟨S32x32x1, .i1⟩
  | 85 => ⟨S_, .i32⟩
  | 86 => ⟨S8x128x128, .f32⟩
  | 87 => ⟨S256x8x32x128, .f32⟩
  | 88 => ⟨S_, .i32⟩
  | 89 => ⟨S_, .i1⟩
  | 90 => ⟨S_, .i32⟩
  | 91 => ⟨S_, .i32⟩
  | 92 => ⟨S_, .i32⟩
  | 93 => ⟨S1x8x32x128, .f32⟩
  | 94 => ⟨S8x32x128, .f32⟩
  | 95 => ⟨S_, .i32⟩
  | 96 => ⟨S_, .i32⟩
  | 97 => ⟨S_, .i32⟩
  | 98 => ⟨S1x8x32x128, .f32⟩
  | 99 => ⟨S8x32x128, .f32⟩
  | 100 => ⟨S_, .i32⟩
  | 101 => ⟨S_, .i32⟩
  | 102 => ⟨S_, .i32⟩
  | 103 => ⟨S1x8x32x128, .f32⟩
  | 104 => ⟨S8x32x128, .f32⟩
  | 105 => ⟨S_, .i32⟩
  | 106 => ⟨S_, .i32⟩
  | 107 => ⟨S_, .i32⟩
  | 108 => ⟨S1x8x32x128, .f32⟩
  | 109 => ⟨S8x32x128, .f32⟩
  | 110 => ⟨S_, .f32⟩
  | 111 => ⟨S_, .f32⟩
  | 112 => ⟨S8x32x128, .f32⟩
  | 113 => ⟨S8x32x1x128, .f32⟩
  | 114 => ⟨S8x1x32x128, .f32⟩
  | 115 => ⟨S8x32x32x128, .f32⟩
  | 116 => ⟨S8x32x32x128, .f32⟩
  | 117 => ⟨S8x32x32x128, .f32⟩
  | 118 => ⟨S_, .f32⟩
  | 119 => ⟨S_, .f32⟩
  | 120 => ⟨S8x32x32x128, .i1⟩
  | 121 => ⟨S8x32x32x128, .f32⟩
  | 122 => ⟨S8x32x32x128, .f32⟩
  | 123 => ⟨S8x32x32x128, .f32⟩
  | 124 => ⟨S8x32x1x128, .f32⟩
  | 125 => ⟨S8x32x32x128, .f32⟩
  | 126 => ⟨S8x32x32x128, .f32⟩
  | 127 => ⟨S8x1x32x128, .f32⟩
  | _ => ⟨S8192x10240, .f32⟩

abbrev hbmTy0_1 (i : Nat) : BufTy := match i % 128 with
  | 0 => ⟨S8x32x32x128, .f32⟩
  | 1 => ⟨S8x32x32x128, .f32⟩
  | 2 => ⟨S_, .f32⟩
  | 3 => ⟨S8x32x32, .f32⟩
  | 4 => ⟨S8x32x128, .f32⟩
  | 5 => ⟨S8x32x128, .f32⟩
  | 6 => ⟨S8x32x128, .f32⟩
  | 7 => ⟨S8x32x128, .f32⟩
  | 8 => ⟨S8x32x128, .f32⟩
  | 9 => ⟨S_, .f32⟩
  | 10 => ⟨S_, .f32⟩
  | 11 => ⟨S8x32x128, .f32⟩
  | 12 => ⟨S8x1x128, .f32⟩
  | 13 => ⟨S8x128, .f32⟩
  | 14 => ⟨S8x128, .f32⟩
  | 15 => ⟨S8x128x1, .f32⟩
  | 16 => ⟨S8x128x128, .f32⟩
  | 17 => ⟨S8x128x128, .f32⟩
  | 18 => ⟨S8x32x128, .f32⟩
  | 19 => ⟨S8x32x128, .f32⟩
  | 20 => ⟨S8x32x128, .f32⟩
  | 21 => ⟨S8x32x128, .f32⟩
  | 22 => ⟨S8x32x128x1, .f32⟩
  | 23 => ⟨S8x32x1x128, .f32⟩
  | 24 => ⟨S8x32x128x128, .f32⟩
  | 25 => ⟨S8x32x128x128, .f32⟩
  | 26 => ⟨S8x32x128x128, .f32⟩
  | 27 => ⟨S_, .f32⟩
  | 28 => ⟨S8x128x128, .f32⟩
  | 29 => ⟨S8x128x128, .f32⟩
  | 30 => ⟨S1x8x32x128, .f32⟩
  | 31 => ⟨S_, .i32⟩
  | 32 => ⟨S_, .i32⟩
  | 33 => ⟨S_, .i32⟩
  | 34 => ⟨S256x8x32x128, .f32⟩
  | 35 => ⟨S_, .i32⟩
  | 36 => ⟨S_, .i32⟩
  | 37 => ⟨S256x32x8x128, .f32⟩
  | 38 => ⟨S8192x1024, .f32⟩
  | _ => ⟨S8192x10240, .f32⟩

abbrev hbmTy (i : Nat) : BufTy := match i / 128 with
  | 0 => hbmTy0_0 i
  | 1 => hbmTy0_1 i
  | _ => ⟨S8192x10240, .f32⟩

abbrev bufTy : (tb : Table) → Fin (tcTables nBuf tb) → BufTy
  | .hbm, ⟨i, _⟩ => hbmTy i
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_0 : Ref sig .tc := ⟨.hbm, 33, rfl⟩
abbrev main_call1_v5 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_c_8 : Ref sig .tc := ⟨.hbm, 79, rfl⟩
abbrev main_v49_0 : Ref sig .tc := ⟨.hbm, 80, rfl⟩
abbrev main_v49_1 : Ref sig .tc := ⟨.hbm, 81, rfl⟩
abbrev main_v49_2 : Ref sig .tc := ⟨.hbm, 82, rfl⟩
abbrev main_v49_3 : Ref sig .tc := ⟨.hbm, 83, rfl⟩
abbrev main_v49_4 : Ref sig .tc := ⟨.hbm, 84, rfl⟩
abbrev main_v49_5 : Ref sig .tc := ⟨.hbm, 85, rfl⟩
abbrev main_v49_6 : Ref sig .tc := ⟨.hbm, 86, rfl⟩
abbrev main_v49_7 : Ref sig .tc := ⟨.hbm, 87, rfl⟩
abbrev main_while0c_c_16 : Ref sig .tc := ⟨.hbm, 88, rfl⟩
abbrev main_while0c_v52 : Ref sig .tc := ⟨.hbm, 89, rfl⟩
abbrev main_while0b_call3_c : Ref sig .tc := ⟨.hbm, 90, rfl⟩
abbrev main_while0b_call3_c_0 : Ref sig .tc := ⟨.hbm, 91, rfl⟩
abbrev main_while0b_call3_c_1 : Ref sig .tc := ⟨.hbm, 92, rfl⟩
abbrev main_while0b_call3_v0 : Ref sig .tc := ⟨.hbm, 93, rfl⟩
abbrev main_while0b_v52 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_v0 : Ref sig .tc := ⟨.hbm, 98, rfl⟩
abbrev main_while0b_v53 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_call5_v0 : Ref sig .tc := ⟨.hbm, 103, rfl⟩
abbrev main_while0b_v54 : Ref sig .tc := ⟨.hbm, 104, rfl⟩
abbrev main_while0b_call6_c : Ref sig .tc := ⟨.hbm, 105, rfl⟩
abbrev main_while0b_call6_c_0 : Ref sig .tc := ⟨.hbm, 106, rfl⟩
abbrev main_while0b_call6_c_1 : Ref sig .tc := ⟨.hbm, 107, rfl⟩
abbrev main_while0b_call6_v0 : Ref sig .tc := ⟨.hbm, 108, rfl⟩
abbrev main_while0b_v55 : Ref sig .tc := ⟨.hbm, 109, rfl⟩
abbrev main_while0b_call7_call0_cst : Ref sig .tc := ⟨.hbm, 110, rfl⟩
abbrev main_while0b_call7_call0_v0 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_v61 : Ref sig .tc := ⟨.hbm, 117, rfl⟩
abbrev main_while0b_cst_16 : Ref sig .tc := ⟨.hbm, 118, rfl⟩
abbrev main_while0b_call8_v0 : Ref sig .tc := ⟨.hbm, 119, rfl⟩
abbrev main_while0b_call8_v1 : Ref sig .tc := ⟨.hbm, 120, rfl⟩
abbrev main_while0b_call8_v2 : Ref sig .tc := ⟨.hbm, 121, rfl⟩
abbrev main_while0b_v62 : Ref sig .tc := ⟨.hbm, 122, rfl⟩
abbrev main_while0b_v63 : Ref sig .tc := ⟨.hbm, 123, rfl⟩
abbrev main_while0b_v64 : Ref sig .tc := ⟨.hbm, 124, rfl⟩
abbrev main_while0b_v65 : Ref sig .tc := ⟨.hbm, 125, rfl⟩
abbrev main_while0b_v66 : Ref sig .tc := ⟨.hbm, 126, rfl⟩
abbrev main_while0b_v67 : Ref sig .tc := ⟨.hbm, 127, rfl⟩
abbrev main_while0b_v68 : Ref sig .tc := ⟨.hbm, 128, rfl⟩
abbrev main_while0b_v69 : Ref sig .tc := ⟨.hbm, 129, rfl⟩
abbrev main_while0b_cst_17 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_call9_call0_cst : Ref sig .tc := ⟨.hbm, 137, rfl⟩
abbrev main_while0b_call9_call0_v0 : Ref sig .tc := ⟨.hbm, 138, rfl⟩
abbrev main_while0b_v76 : Ref sig .tc := ⟨.hbm, 139, rfl⟩
abbrev main_while0b_v77 : Ref sig .tc := ⟨.hbm, 140, rfl⟩
abbrev main_while0b_v78 : Ref sig .tc := ⟨.hbm, 141, rfl⟩
abbrev main_while0b_v79 : Ref sig .tc := ⟨.hbm, 142, rfl⟩
abbrev main_while0b_v80 : Ref sig .tc := ⟨.hbm, 143, rfl⟩
abbrev main_while0b_v81 : Ref sig .tc := ⟨.hbm, 144, rfl⟩
abbrev main_while0b_v82 : Ref sig .tc := ⟨.hbm, 145, rfl⟩
abbrev main_while0b_v83 : Ref sig .tc := ⟨.hbm, 146, rfl⟩
abbrev main_while0b_v84 : Ref sig .tc := ⟨.hbm, 147, rfl⟩
abbrev main_while0b_v85 : Ref sig .tc := ⟨.hbm, 148, rfl⟩
abbrev main_while0b_v86 : Ref sig .tc := ⟨.hbm, 149, rfl⟩
abbrev main_while0b_v87 : Ref sig .tc := ⟨.hbm, 150, rfl⟩
abbrev main_while0b_v88 : Ref sig .tc := ⟨.hbm, 151, rfl⟩
abbrev main_while0b_v89 : Ref sig .tc := ⟨.hbm, 152, rfl⟩
abbrev main_while0b_v90 : Ref sig .tc := ⟨.hbm, 153, rfl⟩
abbrev main_while0b_v91 : Ref sig .tc := ⟨.hbm, 154, rfl⟩
abbrev main_while0b_cst_18 : Ref sig .tc := ⟨.hbm, 155, rfl⟩
abbrev main_while0b_v92 : Ref sig .tc := ⟨.hbm, 156, rfl⟩
abbrev main_while0b_v93 : Ref sig .tc := ⟨.hbm, 157, rfl⟩
abbrev main_while0b_call10_v0 : Ref sig .tc := ⟨.hbm, 158, rfl⟩
abbrev main_while0b_call10_c : Ref sig .tc := ⟨.hbm, 159, rfl⟩
abbrev main_while0b_call10_c_0 : Ref sig .tc := ⟨.hbm, 160, rfl⟩
abbrev main_while0b_call10_c_1 : Ref sig .tc := ⟨.hbm, 161, rfl⟩
abbrev main_while0b_v94 : Ref sig .tc := ⟨.hbm, 162, rfl⟩
abbrev main_while0b_c_19 : Ref sig .tc := ⟨.hbm, 163, rfl⟩
abbrev main_while0b_v95 : Ref sig .tc := ⟨.hbm, 164, rfl⟩
abbrev main_v50 : Ref sig .tc := ⟨.hbm, 165, rfl⟩
abbrev main_v51 : Ref sig .tc := ⟨.hbm, 166, rfl⟩

abbrev nD : Nat := 1
abbrev τ : Topo := Topo.v7x

variable {F : FTy → Type} [FloatOps F]

abbrev main_while0_count : Scf.Loop 32 := ⟨0#32, 256#32, 1#32⟩
-- ==== KernelPre.lean ====
abbrev S8192x1024 : Shape := ⟨2, ![8192, 1024]⟩
abbrev S1x1024 : Shape := ⟨2, ![1, 1024]⟩
abbrev S1024x8192 : Shape := ⟨2, ![1024, 8192]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePreIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelHg.lean ====
abbrev S8192x10240 : Shape := ⟨2, ![8192, 10240]⟩
abbrev S2x8x128 : Shape := ⟨3, ![2, 8, 128]⟩
abbrev S8192x1024 : Shape := ⟨2, ![8192, 1024]⟩
abbrev S2x1024 : Shape := ⟨2, ![2, 1024]⟩
abbrev S_ : Shape := ⟨0, ![]⟩
abbrev S8x128 : Shape := ⟨2, ![8, 128]⟩
abbrev S1x8x128 : Shape := ⟨3, ![1, 8, 128]⟩
abbrev S1024 : Shape := ⟨1, ![1024]⟩
abbrev S1x1024 : Shape := ⟨2, ![1, 1024]⟩
abbrev S256x32x8x128 : Shape := ⟨4, ![256, 32, 8, 128]⟩
abbrev S256x8x32x128 : Shape := ⟨4, ![256, 8, 32, 128]⟩
abbrev S128x2x8x32x128 : Shape := ⟨5, ![128, 2, 8, 32, 128]⟩
abbrev S128x8x2x32x128 : Shape := ⟨5, ![128, 8, 2, 32, 128]⟩
abbrev S128x8x64x128 : Shape := ⟨4, ![128, 8, 64, 128]⟩
abbrev S128x8x1x128 : Shape := ⟨4, ![128, 8, 1, 128]⟩
abbrev S128x8x64x128x1 : Shape := ⟨5, ![128, 8, 64, 128, 1]⟩
abbrev S128x8x64x1x128 : Shape := ⟨5, ![128, 8, 64, 1, 128]⟩
abbrev S128x8x64x128x128 : Shape := ⟨5, ![128, 8, 64, 128, 128]⟩
abbrev S128x8x128x128 : Shape := ⟨4, ![128, 8, 128, 128]⟩
abbrev S128x8x128 : Shape := ⟨3, ![128, 8, 128]⟩
abbrev S128x8x128x1 : Shape := ⟨4, ![128, 8, 128, 1]⟩
abbrev S1x8x128x128 : Shape := ⟨4, ![1, 8, 128, 128]⟩
abbrev S127x8x128x128 : Shape := ⟨4, ![127, 8, 128, 128]⟩
abbrev S2x8x128x128 : Shape := ⟨4, ![2, 8, 128, 128]⟩
abbrev S126x8x128x128 : Shape := ⟨4, ![126, 8, 128, 128]⟩
abbrev S4x8x128x128 : Shape := ⟨4, ![4, 8, 128, 128]⟩
abbrev S124x8x128x128 : Shape := ⟨4, ![124, 8, 128, 128]⟩
abbrev S8x8x128x128 : Shape := ⟨4, ![8, 8, 128, 128]⟩
abbrev S120x8x128x128 : Shape := ⟨4, ![120, 8, 128, 128]⟩
abbrev S16x8x128x128 : Shape := ⟨4, ![16, 8, 128, 128]⟩
abbrev S112x8x128x128 : Shape := ⟨4, ![112, 8, 128, 128]⟩
abbrev S32x8x128x128 : Shape := ⟨4, ![32, 8, 128, 128]⟩
abbrev S96x8x128x128 : Shape := ⟨4, ![96, 8, 128, 128]⟩
abbrev S64x8x128x128 : Shape := ⟨4, ![64, 8, 128, 128]⟩
abbrev S8192x3072 : Shape := ⟨2, ![8192, 3072]⟩
abbrev S256x1024 : Shape := ⟨2, ![256, 1024]⟩
abbrev S256x3072 : Shape := ⟨2, ![256, 3072]⟩
abbrev S8x128x128 : Shape := ⟨3, ![8, 128, 128]⟩
abbrev S4x1024 : Shape := ⟨2, ![4, 1024]⟩
abbrev S256x256 : Shape := ⟨2, ![256, 256]⟩
abbrev S8x32x1024 : Shape := ⟨3, ![8, 32, 1024]⟩
abbrev S8x1x1024 : Shape := ⟨3, ![8, 1, 1024]⟩
abbrev S4x64x1024 : Shape := ⟨3, ![4, 64, 1024]⟩
abbrev S4x1x1024 : Shape := ⟨3, ![4, 1, 1024]⟩
abbrev S64x64 : Shape := ⟨2, ![64, 64]⟩
abbrev S64x128 : Shape := ⟨2, ![64, 128]⟩
abbrev S64x384 : Shape := ⟨2, ![64, 384]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩

abbrev nBuf : Space → Nat
  | .hbm => 185
  | .vmem => 27
  | .smem => 0
  | _ => 0

abbrev hbmTy0_0 (i : Nat) : BufTy := match i % 128 with
  | 0 => ⟨S8192x10240, .f32⟩
  | 1 => ⟨S2x8x128, .f32⟩
  | 2 => ⟨S8192x1024, .bf16⟩
  | 3 => ⟨S2x1024, .f32⟩
  | 4 => ⟨S_, .f32⟩
  | 5 => ⟨S8x128, .f32⟩
  | 6 => ⟨S_, .f32⟩
  | 7 => ⟨S8x128, .f32⟩
  | 8 => ⟨S8x128, .f32⟩
  | 9 => ⟨S1x8x128, .f32⟩
  | 10 => ⟨S2x8x128, .f32⟩
  | 11 => ⟨S2x8x128, .f32⟩
  | 12 => ⟨S2x8x128, .f32⟩
  | 13 => ⟨S_, .f32⟩
  | 14 => ⟨S8x128, .f32⟩
  | 15 => ⟨S1x8x128, .f32⟩
  | 16 => ⟨S2x8x128, .f32⟩
  | 17 => ⟨S2x8x128, .f32⟩
  | 18 => ⟨S_, .f32⟩
  | 19 => ⟨S_, .f32⟩
  | 20 => ⟨S2x8x128, .f32⟩
  | 21 => ⟨S1x8x128, .f32⟩
  | 22 => ⟨S8x128, .f32⟩
  | 23 => ⟨S1024, .f32⟩
  | 24 => ⟨S8192x1024, .f32⟩
  | 25 => ⟨S8192x1024, .f32⟩
  | 26 => ⟨S8192x1024, .f32⟩
  | 27 => ⟨S_, .f32⟩
  | 28 => ⟨S1024, .f32⟩
  | 29 => ⟨S1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S8192x1024, .f32⟩
  | 53 => ⟨S256x32x8x128, .f32⟩
  | 54 => ⟨S256x8x32x128, .f32⟩
  | 55 => ⟨S_, .f32⟩
  | 56 => ⟨S8192x1024, .f32⟩
  | 57 => ⟨S8192x1024, .f32⟩
  | 58 => ⟨S256x32x8x128, .f32⟩
  | 59 => ⟨S256x8x32x128, .f32⟩
  | 60 => ⟨S8192x1024, .f32⟩
  | 61 => ⟨S256x32x8x128, .f32⟩
  | 62 => ⟨S256x8x32x128, .f32⟩
  | 63 => ⟨S256x32x8x128, .f32⟩
  | 64 => ⟨S256x8x32x128, .f32⟩
  | 65 => ⟨S128x2x8x32x128, .f32⟩
  | 66 => ⟨S128x8x2x32x128, .f32⟩
  | 67 => ⟨S128x8x64x128, .f32⟩
  | 68 => ⟨S128x2x8x32x128, .f32⟩
  | 69 => ⟨S128x8x2x32x128, .f32⟩
  | 70 => ⟨S128x8x64x128, .f32⟩
  | 71 => ⟨S128x2x8x32x128, .f32⟩
  | 72 => ⟨S128x8x2x32x128, .f32⟩
  | 73 => ⟨S128x8x64x128, .f32⟩
  | 74 => ⟨S_, .f32⟩
  | 75 => ⟨S_, .f32⟩
  | 76 => ⟨S128x8x64x128, .f32⟩
  | 77 => ⟨S128x8x1x128, .f32⟩
  | 78 => ⟨S128x8x64x128, .f32⟩
  | 79 => ⟨S128x8x64x128, .f32⟩
  | 80 => ⟨S128x8x64x128, .f32⟩
  | 81 => ⟨S128x8x64x128, .f32⟩
  | 82 => ⟨S128x8x64x128x1, .f32⟩
  | 83 => ⟨S128x8x64x1x128, .f32⟩
  | 84 => ⟨S128x8x64x128x128, .f32⟩
  | 85 => ⟨S128x8x64x128x128, .f32⟩
  | 86 => ⟨S128x8x64x128x128, .f32⟩
  | 87 => ⟨S_, .f32⟩
  | 88 => ⟨S128x8x128x128, .f32⟩
  | 89 => ⟨S128x8x128, .f32⟩
  | 90 => ⟨S128x8x128, .f32⟩
  | 91 => ⟨S128x8x128x1, .f32⟩
  | 92 => ⟨S128x8x128x128, .f32⟩
  | 93 => ⟨S1x8x128x128, .f32⟩
  | 94 => ⟨S127x8x128x128, .f32⟩
  | 95 => ⟨S127x8x128x128, .f32⟩
  | 96 => ⟨S127x8x128x128, .f32⟩
  | 97 => ⟨S127x8x128x128, .f32⟩
  | 98 => ⟨S127x8x128x128, .f32⟩
  | 99 => ⟨S128x8x128x128, .f32⟩
  | 100 => ⟨S1x8x128x128, .f32⟩
  | 101 => ⟨S127x8x128x128, .f32⟩
  | 102 => ⟨S127x8x128x128, .f32⟩
  | 103 => ⟨S127x8x128x128, .f32⟩
  | 104 => ⟨S128x8x128x128, .f32⟩
  | 105 => ⟨S2x8x128x128, .f32⟩
  | 106 => ⟨S126x8x128x128, .f32⟩
  | 107 => ⟨S126x8x128x128, .f32⟩
  | 108 => ⟨S126x8x128x128, .f32⟩
  | 109 => ⟨S126x8x128x128, .f32⟩
  | 110 => ⟨S126x8x128x128, .f32⟩
  | 111 => ⟨S128x8x128x128, .f32⟩
  | 112 => ⟨S2x8x128x128, .f32⟩
  | 113 => ⟨S126x8x128x128, .f32⟩
  | 114 => ⟨S126x8x128x128, .f32⟩
  | 115 => ⟨S126x8x128x128, .f32⟩
  | 116 => ⟨S128x8x128x128, .f32⟩
  | 117 => ⟨S4x8x128x128, .f32⟩
  | 118 => ⟨S124x8x128x128, .f32⟩
  | 119 => ⟨S124x8x128x128, .f32⟩
  | 120 => ⟨S124x8x128x128, .f32⟩
  | 121 => ⟨S124x8x128x128, .f32⟩
  | 122 => ⟨S124x8x128x128, .f32⟩
  | 123 => ⟨S128x8x128x128, .f32⟩
  | 124 => ⟨S4x8x128x128, .f32⟩
  | 125 => ⟨S124x8x128x128, .f32⟩
  | 126 => ⟨S124x8x128x128, .f32⟩
  | 127 => ⟨S124x8x128x128, .f32⟩
  | _ => ⟨S8192x10240, .f32⟩

abbrev hbmTy0_1 (i : Nat) : BufTy := match i % 128 with
  | 0 => ⟨S128x8x128x128, .f32⟩
  | 1 => ⟨S8x8x128x128, .f32⟩
  | 2 => ⟨S120x8x128x128, .f32⟩
  | 3 => ⟨S120x8x128x128, .f32⟩
  | 4 => ⟨S120x8x128x128, .f32⟩
  | 5 => ⟨S120x8x128x128, .f32⟩
  | 6 => ⟨S120x8x128x128, .f32⟩
  | 7 => ⟨S128x8x128x128, .f32⟩
  | 8 => ⟨S8x8x128x128, .f32⟩
  | 9 => ⟨S120x8x128x128, .f32⟩
  | 10 => ⟨S120x8x128x128, .f32⟩
  | 11 => ⟨S120x8x128x128, .f32⟩
  | 12 => ⟨S128x8x128x128, .f32⟩
  | 13 => ⟨S16x8x128x128, .f32⟩
  | 14 => ⟨S112x8x128x128, .f32⟩
  | 15 => ⟨S112x8x128x128, .f32⟩
  | 16 => ⟨S112x8x128x128, .f32⟩
  | 17 => ⟨S112x8x128x128, .f32⟩
  | 18 => ⟨S112x8x128x128, .f32⟩
  | 19 => ⟨S128x8x128x128, .f32⟩
  | 20 => ⟨S16x8x128x128, .f32⟩
  | 21 => ⟨S112x8x128x128, .f32⟩
  | 22 => ⟨S112x8x128x128, .f32⟩
  | 23 => ⟨S112x8x128x128, .f32⟩
  | 24 => ⟨S128x8x128x128, .f32⟩
  | 25 => ⟨S32x8x128x128, .f32⟩
  | 26 => ⟨S96x8x128x128, .f32⟩
  | 27 => ⟨S96x8x128x128, .f32⟩
  | 28 => ⟨S96x8x128x128, .f32⟩
  | 29 => ⟨S96x8x128x128, .f32⟩
  | 30 => ⟨S96x8x128x128, .f32⟩
  | 31 => ⟨S128x8x128x128, .f32⟩
  | 32 => ⟨S32x8x128x128, .f32⟩
  | 33 => ⟨S96x8x128x128, .f32⟩
  | 34 => ⟨S96x8x128x128, .f32⟩
  | 35 => ⟨S96x8x128x128, .f32⟩
  | 36 => ⟨S128x8x128x128, .f32⟩
  | 37 => ⟨S64x8x128x128, .f32⟩
  | 38 => ⟨S64x8x128x128, .f32⟩
  | 39 => ⟨S64x8x128x128, .f32⟩
  | 40 => ⟨S64x8x128x128, .f32⟩
  | 41 => ⟨S64x8x128x128, .f32⟩
  | 42 => ⟨S64x8x128x128, .f32⟩
  | 43 => ⟨S128x8x128x128, .f32⟩
  | 44 => ⟨S64x8x128x128, .f32⟩
  | 45 => ⟨S64x8x128x128, .f32⟩
  | 46 => ⟨S64x8x128x128, .f32⟩
  | 47 => ⟨S64x8x128x128, .f32⟩
  | 48 => ⟨S128x8x128x128, .f32⟩
  | 49 => ⟨S1x8x128x128, .f32⟩
  | 50 => ⟨S_, .f32⟩
  | 51 => ⟨S1x8x128x128, .f32⟩
  | 52 => ⟨S127x8x128x128, .f32⟩
  | 53 => ⟨S128x8x128x128, .f32⟩
  | 54 => ⟨S128x8x128x128, .f32⟩
  | 55 => ⟨S8192x3072, .bf16⟩
  | 56 => ⟨S1x1024, .f32⟩
  | _ => ⟨S8192x10240, .f32⟩

abbrev hbmTy (i : Nat) : BufTy := match i / 128 with
  | 0 => hbmTy0_0 i
  | 1 => hbmTy0_1 i
  | _ => ⟨S8192x10240, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2x1024, .f32⟩
  | .local _ .vmem, ⟨7, _⟩ => ⟨S4x8x128x128, .f32⟩
  | .local _ .vmem, ⟨8, _⟩ => ⟨S4x8x128x128, .f32⟩
  | .local _ .vmem, ⟨9, _⟩ => ⟨S256x1024, .bf16⟩
  | .local _ .vmem, ⟨10, _⟩ => ⟨S256x1024, .bf16⟩
  | .local _ .vmem, ⟨11, _⟩ => ⟨S256x3072, .bf16⟩
  | .local _ .vmem, ⟨12, _⟩ => ⟨S256x3072, .bf16⟩
  | .local _ .vmem, ⟨13, _⟩ => ⟨S1x1024, .f32⟩
  | .local _ .vmem, ⟨14, _⟩ => ⟨S8x128x128, .f32⟩
  | .local _ .vmem, ⟨15, _⟩ => ⟨S256x3072, .bf16⟩
  | .local _ .vmem, ⟨16, _⟩ => ⟨S256x3072, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x3072, .f32⟩
  | .local _ .vmem, ⟨22, _⟩ => ⟨S256x3072, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S4x1024, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_call0_cst : Ref sig .tc := ⟨.hbm, 18, rfl⟩
abbrev main_call0_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call2_call0_cst : Ref sig .tc := ⟨.hbm, 74, rfl⟩
abbrev main_call2_call0_v0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_cst_7 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159_0 : Ref sig .tc := ⟨.hbm, 183, rfl⟩
abbrev main_v159_1 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Proof.Hg.Reference.lean ====
/-
The recurrence's reference runs its loop over the chunks and ends with its two arguments as it found them.
-/
module

public import proofs.«01_k».proof.Proof.Gen.ReferenceHgfIdeal.Run
public import Idealize.ShloMosaic.PureOps.Ideal

@[expose] public section

noncomputable section

open Idealize.ShloMosaic Idealize.ShloMosaic.TcCoe Idealize.SL.Sem

namespace Cert.ReferenceHgfIdeal.Hg

open Cert.ReferenceHgfIdeal

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem (c.tc.loc main_arg0) = m (c.tc.loc main_arg0)
      ∧ r.2.mem (c.tc.loc main_arg1) = m (c.tc.loc main_arg1)) ∧ r.2.sem = fun _ => 0) :=
  (θ_run defs _ _).mono (fun r h => ⟨fun c => (h c).2, sem_eq_zero_of_no_sems (by decide) r.2⟩) (Cert.ReferenceHgfIdeal.Value.run m ρ)

end Cert.ReferenceHgfIdeal.Hg

end

end
-- ==== Proof.Common.Reals.lean ====
/- Extended reals that are reals: the operations of the ideal reading on coerced reals. -/
module
public import Idealize.ShloMosaic.PureOps.Ideal.Laws
public import Idealize.ShloMosaic.Lib.IdealHost
@[expose] public section
set_option maxRecDepth 16384
noncomputable section
namespace Cert.Common
open Idealize.ShloMosaic

theorem div_real (x : ℝ) {y : ℝ} (h : y ≠ 0) : Ideal.div (x : EReal) (y : EReal) = ((x / y : ℝ) : EReal) := by
  rw [Ideal.div_coe h, ← EReal.coe_mul, mul_one_div]

theorem max_real (x y : ℝ) : max (x : EReal) (y : EReal) = ((max x y : ℝ) : EReal) :=
  (EReal.coe_strictMono.monotone.map_max).symm

/-- The pattern that stands for −∞. -/
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-- An extended real smaller than +∞ in size is a real. -/
theorem exists_real {x : EReal} (h : max x (-x) < ⊤) : ∃ r : ℝ, x = r := by
  induction x with
  | bot => simp at h
  | coe r => exact ⟨r, rfl⟩
  | top => simp at h

theorem sum_real {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A number whose size compares as smaller than +∞ is a real. -/
theorem real_of_cmp {x : EReal} (h : Ideal.cmp .olt (max x (-x)) (Ideal.ofBits .f32 0x7F800000#32) = 1#1) : ∃ r : ℝ, x = (r : EReal) := by
  rw [ofBits_top] at h
  refine exists_real ?_
  by_contra hn
  have : Ideal.cmp .olt (max x (-x)) ⊤ = 0#1 := by simp [Ideal.cmp, hn]
  rw [this] at h; exact absurd h (by decide)

end Cert.Common
end
-- ==== Proof.Common.Stick.lean ====
/-
Stick-breaking attention over the reals: one head's scores, weights and gradients, rows and columns by number. Row t attends
to the positions before it; a position's score is the chance that the stick breaks there.
-/
module

public import Idealize.ShloMosaic.PureOps.Ideal
public import Mathlib.Analysis.SpecialFunctions.Log.Basic
public import Mathlib.Algebra.BigOperators.Intervals
public import proofs.«01_k».proof.Proof.Common.Reals

@[expose] public section

noncomputable section

namespace Cert.Stick

open Finset Idealize.ShloMosaic Cert.Common

/-- The softplus: −log (1 − σ). -/
def sp (x : ℝ) : ℝ := max x 0 + Real.log (1 + Real.exp (-|x|))

theorem sp_neg (x : ℝ) : sp (-x) = sp x - x := by
  unfold sp
  rw [abs_neg]
  rcases le_total x 0 with h | h
  · rw [max_eq_right h, max_eq_left (by linarith)]; ring
  · rw [max_eq_left h, max_eq_right (by linarith)]; ring

theorem exp_sp (x : ℝ) : Real.exp (sp x) = 1 + Real.exp x := by
  have hp : (0 : ℝ) < 1 + Real.exp (-|x|) := by positivity
  unfold sp
  rw [Real.exp_add, Real.exp_log hp]
  rcases le_total x 0 with h | h
  · rw [max_eq_right h, abs_of_nonpos h, Real.exp_zero, neg_neg]; ring
  · rw [max_eq_left h, abs_of_nonneg h, mul_add, mul_one, ← Real.exp_add, add_neg_cancel, Real.exp_zero]; ring

/-- σ and 1 − σ add up to one. -/
theorem sigma_add (x : ℝ) : Real.exp (x - sp x) = 1 - Real.exp (-sp x) := by
  have h := Real.exp_pos (sp x)
  rw [Real.exp_sub, Real.exp_neg, exp_sp]
  rw [exp_sp] at h
  field_simp
  ring

/-- One head: queries, keys, values, the gradient of its results, and the scale of the scores. -/
structure Head where
  q : ℕ → ℕ → ℝ
  k : ℕ → ℕ → ℝ
  v : ℕ → ℕ → ℝ
  d : ℕ → ℕ → ℝ
  sc : ℝ

namespace Head

variable (H : Head) (t s : ℕ)

/-- The scaled score. -/
def z : ℝ := (∑ e ∈ range 128, H.q t e * H.k s e) * H.sc

/-- The log chance that the stick does not break at `s`; beyond the row's own position, nothing. -/
def miss : ℝ := if s < t then -sp (H.z t s) else 0

/-- The log chance that it has survived down to `s`. -/
def surv : ℝ := ∑ j ∈ Ico (s + 1) 8192, H.miss t j

/-- The weight. -/
def w : ℝ := if s < t then Real.exp (-sp (-(H.z t s)) + H.surv t s) else 0

/-- The weight's gradient times the weight: the gradient of its logarithm. -/
def g : ℝ := (∑ e ∈ range 128, H.d t e * H.v s e) * H.w t s

/-- The gradient of `miss`: every weight before `s` has it as a summand. -/
def gm : ℝ := ∑ j ∈ range s, H.g t j

/-- The gradient of the product of query and key. -/
def dz : ℝ := if s < t then ((H.g t s + H.gm t s) * Real.exp (-sp (H.z t s)) - H.gm t s) * H.sc else 0

/-- The result and the gradients of the queries, the keys and the values. -/
def out (e : ℕ) : ℝ := ∑ s ∈ range 8192, H.w t s * H.v s e
def dq (e : ℕ) : ℝ := ∑ s ∈ range 8192, H.dz t s * H.k s e
def dk (e : ℕ) : ℝ := ∑ t ∈ range 8192, H.dz t s * H.q t e
def dv (e : ℕ) : ℝ := ∑ t ∈ range 8192, H.w t s * H.d t e

/-- A row's gradient against its result is the sum of the gradients of the logarithms of its weights. -/
theorem total : ∑ e ∈ range 128, H.d t e * H.out t e = ∑ s ∈ range 8192, H.g t s := by
  unfold out g
  simp only [mul_sum, sum_mul]
  rw [sum_comm]
  exact sum_congr rfl fun s _ => sum_congr rfl fun e _ => by ring

end Head

/-- A block of 256 positions of a sum from a position on. -/
theorem sum_block (f : ℕ → ℝ) (j a : ℕ) (ha : a ≤ 256) (hj : j + 256 ≤ 8192) :
    ∑ c ∈ Ico a 256, f (j + c) + ∑ x ∈ Ico (j + 256) 8192, f x = ∑ x ∈ Ico (j + a) 8192, f x := by
  rw [← sum_Ico_consecutive f (show j + a ≤ j + 256 by omega) hj, sum_Ico_add f a 256 j]
  congr 1
  · rw [add_comm a, add_comm 256]

/-- The scale of the scores, 2⁻³·⁵ to the nearest number of the format. -/
def scale : ℝ := (Ideal.ofBits .f32 0x3DB504F3#32).toReal

theorem scale_eq : Ideal.ofBits .f32 0x3DB504F3#32 = (scale : EReal) := by
  have h : ∃ r : ℝ, Ideal.ofBits .f32 0x3DB504F3#32 = (r : EReal) := by
    simp only [Ideal.ofBits, Ideal.ieee]
    norm_num
    exact ⟨_, rfl⟩
  obtain ⟨r, hr⟩ := h
  unfold scale
  rw [hr, EReal.toReal_coe]

theorem zero_eq : (Ideal.ofBits .f32 0x00000000#32 : EReal) = 0 := by simp [Ideal.ofBits, Ideal.ieee]

/-- A finite sum over positions below a bound, by number. -/
theorem sum_num {n : ℕ} (f : ℕ → ℝ) : ∑ k : Fin n, ((f k.val : ℝ) : EReal) = ((∑ k ∈ range n, f k : ℝ) : EReal) := by
  rw [sum_real, Finset.sum_range]

theorem log1p_exp_num (r : ℝ) : Ideal.log1p (Ideal.exp (r : EReal)) = ((Real.log (1 + Real.exp r) : ℝ) : EReal) := by
  have h1 : ¬ 1 + Real.exp r ≤ 0 := by have := Real.exp_pos r; linarith
  have h2 : (1 : EReal) = ((1 : ℝ) : EReal) := rfl
  rw [Ideal.exp_coe, Ideal.log1p, h2, ← EReal.coe_add, Ideal.log_coe, if_neg h1]

/-- A model's attention head number `h`: its columns of the queries, the keys and the values, side by side in one array, and
    of the gradient of the results. -/
def headOf (x y : ℕ → ℕ → ℝ) (h : ℕ) : Head where
  q t e := x t (128 * h + e)
  k t e := x t (1024 + (128 * h + e))
  v t e := x t (2048 + (128 * h + e))
  d t e := y t (128 * h + e)
  sc := scale

end Cert.Stick

end

end
-- ==== Proof.Pre.Ops.lean ====
/-
The first norm at one element, as the reference computes it and as the kernel's body does from a block of rows.
-/
module

public import proofs.«01_k».proof.Proof.Gen.KernelPreIdeal.Skeleton
public import proofs.«01_k».proof.Proof.Gen.ReferencePreIdeal.Read
public import proofs.«01_k».proof.Proof.Common.Stick
public import Idealize.ShloMosaic.PureOps.IdealRules
public import Idealize.ShloMosaic.Lib.Pipeline.ValueKit.Basic
public import Idealize.ShloMosaic.Lib.Pipeline.ValueKit

@[expose] public section

set_option maxRecDepth 16384

noncomputable section

namespace Cert.Pre

open Idealize.ShloMosaic Cert.Common Cert.Stick Cert.ReferencePreIdeal Cert.ReferencePreIdeal.Read

def tall (f : ℕ → ℕ → EReal) : Cert.ReferencePreIdeal.S8192x1024.Idx → EReal := fun i => f (i 0).val (i 1).val
def line (f : ℕ → EReal) : Cert.ReferencePreIdeal.S1x1024.Idx → EReal := fun i => f (i 1).val
def rows (f : ℕ → ℕ → EReal) (s : ℕ) : Cert.KernelPreIdeal.S1024x1024.Idx → EReal := fun i => f (1024 * s + (i 0).val) (i 1).val

/-- An element of the normed array. -/
def norm (x : ℕ → ℕ → EReal) (g : ℕ → EReal) (a b : ℕ) : EReal :=
  x a b * Ideal.rsqrt (Ideal.div (∑ k : Fin 1024, x a k.val * x a k.val) (Ideal.ofBits .f32 0x44800000#32) + Ideal.ofBits .f32 0x358637BD#32) * g b

variable (x : ℕ → ℕ → EReal) (g : ℕ → EReal)

theorem v14_at (i : Cert.ReferencePreIdeal.S8192x1024.Idx) : val_main_v14 (F := Ideal) (tall x) (line g) i = norm x g (i 0).val (i 1).val := by
  have h1 : (i 1).val < 1024 := (i 1).isLt
  simp only [val_main_v14_apply, val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v1_apply, val_main_v0_apply, val_main_cst_apply,
    val_main_cst_0_apply, val_main_cst_1_apply, tall, line, Nat.mod_eq_of_lt h1]
  have h0 : (FloatOps.ofBits .f32 0x00000000#32 : Ideal .f32) = (0 : EReal) := zero_eq
  rw [h0]
  show x _ _ * Ideal.rsqrt (Ideal.div ((0 : EReal) + _) _ + _) * g _ = _
  rw [zero_add]
  rfl

theorem v15_at (i : Cert.ReferencePreIdeal.S1024x8192.Idx) : val_main_v15 (F := Ideal) (tall x) (line g) i = norm x g (i 1).val (i 0).val := by
  rw [val_main_v15_apply]
  exact v14_at x g _

open Cert.KernelPreIdeal.Gen in
theorem pay1_at (s : ℕ) (i : Cert.KernelPreIdeal.S1024x1024.Idx) : k0_pay1 (F := Ideal) (rows x s) (line g) i = norm x g (1024 * s + (i 0).val) (i 1).val := by
  pointwise [k0_pay1, rows, line]
  rfl

open Cert.KernelPreIdeal.Gen in
theorem pay2_at (s : ℕ) (i : Cert.KernelPreIdeal.S1024x1024.Idx) : k0_pay2 (F := Ideal) (rows x s) (line g) i = norm x g (1024 * s + (i 0).val) (i 1).val := by
  pointwise [k0_pay2]
  exact pay1_at x g s i

open Cert.KernelPreIdeal.Gen in
theorem pay3_at (s : ℕ) (i : Cert.KernelPreIdeal.S1024x1024.Idx) : k0_pay3 (F := Ideal) (rows x s) (line g) i = norm x g (1024 * s + (i 1).val) (i 0).val := by
  pointwise [k0_pay3]
  exact pay1_at x g s _

end Cert.Pre

end

end
-- ==== Proof.Common.Access.lean ====
/-
Loads and stores of a body that holds its buffers by value, of any program: of a window of a buffer and of a whole buffer.
-/
module

public import Idealize.ShloMosaic.Lib.Pipeline.Kit
public import Idealize.ShloMosaic.Lib.VecWindow
public import Idealize.ShloMosaic.Lib.Tactic

@[expose] public section

noncomputable section

namespace Cert.Common

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {F : FTy → Type} {Λ : Labels} {α : Type}

local notation "𝕄" => MT nD τ sig Unit (Elt F) ℕ (UR sig nD τ) ℕ

variable (defs : Defs nD τ sig (Elt F) Λ) (𝒱 : Variants) (bd : Option 𝒱.V) (c : Dev nD)
  {s : Shape} {e : EltTy} {m : Memref sig .tc .vmem s e} {x : s.Idx → Elt F e}

/-- A load of a window. -/
theorem load_part (Q : α → sProp 𝕄) {off size : Fin s.rank → ℕ} {inb : ∀ a, off a + size a ≤ s.size a}
    {hl : m.view.LoadsAt (Rect.unit off size inb).toLoadRect}
    {k : ((Rect.unit off size inb).shape.Idx → Elt F e) → Prog (TpuEff nD τ sig (Elt F) Λ .tc) α} :
    (owns (c : Thread nD τ) m fullShare x : sProp 𝕄)
      ⊢ iprop((owns (c : Thread nD τ) m fullShare x -∗
          wp frame (wpE defs 𝒱 c bd) Set.univ (k (VecWindow.window x off size inb)) Q)
        -∗ wp frame (wpE defs 𝒱 c bd) Set.univ (.op (.load m (Rect.unit off size inb).toLoadRect hl) k) Q) := by
  unfold owns
  iintro ⟨%f, %hf, H⟩ Hk
  iapply (wp_load 𝒱 (c : Thread nD τ) bd Set.univ (m := m) (m.view.setOn_subset_set _)) $$ H
  iintro H
  rw [View.readAt_unit m.view f inb rfl inb, hf]
  iapply Hk
  iexists f
  isplitr
  · ipureintro; exact hf
  iexact H

/-- A window's elements are among the buffer's. -/
theorem part_subset (m : Memref sig .tc .vmem s e) (r : Rect s) : (m.access r).setOn Finset.univ ⊆ m.view.set := by
  rw [View.setOn_univ]
  exact (View.set_slice m.view r).trans_subset (m.view.setOn_subset_set _)

/-- A store over a window. -/
theorem store_part (Q : α → sProp 𝕄) {off size : Fin s.rank → ℕ} {inb : ∀ a, off a + size a ≤ s.size a} {w : (Rect.unit off size inb).shape.Idx → Elt F e}
    {hx : (m.access (Rect.unit off size inb)).Stores Finset.univ} {h : (Finset.univ = (Finset.univ : Finset (Rect.unit off size inb).shape.Idx)) ∨ ∀ a, (Rect.unit off size inb).stride a = 1}
    {k : PUnit → Prog (TpuEff nD τ sig (Elt F) Λ .tc) α} :
    (owns (c : Thread nD τ) m fullShare x : sProp 𝕄)
      ⊢ iprop((owns (c : Thread nD τ) m fullShare (VecWindow.put x off size w) -∗
          wp frame (wpE defs 𝒱 c bd) Set.univ (k ⟨⟩) Q)
        -∗ wp frame (wpE defs 𝒱 c bd) Set.univ (.op (.store m (Rect.unit off size inb) w Finset.univ hx h) k) Q) := by
  unfold owns
  iintro ⟨%f, %hf, H⟩ Hk
  iapply (wp_store 𝒱 (c : Thread nD τ) bd Set.univ (m := m) (r := Rect.unit off size inb) (Mk := Finset.univ) (part_subset m _)) $$ H
  iintro H
  iapply Hk
  iexists _
  isplitr; swap
  · iexact H
  ipureintro
  subst hf
  exact View.read_writes_cons_put m.view f inb w [] rfl

/-- A load of the whole buffer. -/
theorem load_all (Q : α → sProp 𝕄) {off : Fin s.rank → ℕ} {inb : ∀ a, off a + s.size a ≤ s.size a}
    {hl : m.view.LoadsAt (Rect.unit off s.size inb).toLoadRect} {k : (s.Idx → Elt F e) → Prog (TpuEff nD τ sig (Elt F) Λ .tc) α} :
    (owns (c : Thread nD τ) m fullShare x : sProp 𝕄)
      ⊢ iprop((owns (c : Thread nD τ) m fullShare x -∗ wp frame (wpE defs 𝒱 c bd) Set.univ (k x) Q)
        -∗ wp frame (wpE defs 𝒱 c bd) Set.univ (.op (.load m (Rect.unit off s.size inb).toLoadRect hl) k) Q) := by
  unfold owns
  iintro ⟨%f, %hf, H⟩ Hk
  iapply (wp_load 𝒱 (c : Thread nD τ) bd Set.univ (m := m) (m.view.setOn_subset_set _)) $$ H
  iintro H
  rw [View.readAt_full m.view f inb, hf]
  iapply Hk
  iexists f
  isplitr
  · ipureintro; exact hf
  iexact H

/-- A store over the whole buffer. -/
theorem store_all (Q : α → sProp 𝕄) {off : Fin s.rank → ℕ} {inb : ∀ a, off a + s.size a ≤ s.size a} {w : s.Idx → Elt F e}
    {hx : (m.access (Rect.unit off s.size inb)).Stores Finset.univ} {h : (Finset.univ = (Finset.univ : Finset (Rect.unit off s.size inb).shape.Idx)) ∨ ∀ a, (Rect.unit off s.size inb).stride a = 1}
    {k : PUnit → Prog (TpuEff nD τ sig (Elt F) Λ .tc) α} :
    (owns (c : Thread nD τ) m fullShare x : sProp 𝕄)
      ⊢ iprop((owns (c : Thread nD τ) m fullShare w -∗ wp frame (wpE defs 𝒱 c bd) Set.univ (k ⟨⟩) Q)
        -∗ wp frame (wpE defs 𝒱 c bd) Set.univ (.op (.store m (Rect.unit off s.size inb) w Finset.univ hx h) k) Q) := by
  unfold owns
  iintro ⟨%f, %hf, H⟩ Hk
  iapply (wp_store 𝒱 (c : Thread nD τ) bd Set.univ (m := m) (r := Rect.unit off s.size inb) (Mk := Finset.univ) (part_subset m _)) $$ H
  iintro H
  iapply Hk
  iexists _
  isplitr; swap
  · iexact H
  ipureintro
  exact View.read_writes_full m.view f inb w []

end Cert.Common

end

end
-- ==== Proof.Mid.Body.lean ====
/-
The body of the merge: what a point makes of its blocks, and its run. A point holds 256 rows; the weights, the gate's bias
and the two norms' scales are whole. Four results are sums over the rows, cleared at the first point.
-/
module

public import proofs.«01_k».proof.Proof.Common.Access
public import proofs.«01_k».proof.Proof.Gen.KernelMidIdeal.Frame.Runs

@[expose] public section

set_option maxRecDepth 16384

noncomputable section

namespace Cert.KernelMidIdeal.Mid

open Cert.KernelMidIdeal Cert.KernelMidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Common

variable {F : FTy → Type} [FloatOps F]

local notation "𝕄" => MT nD τ sig Unit (Elt F) ℕ (UR sig nD τ) ℕ

/-- A point's blocks: the gate inputs and the branches' results of its rows, the tokens and the target, the weights. -/
structure Rows (F : FTy → Type) where
  zsb : Vec F S256x1024 .f32
  hz : Vec F S256x1024 .f32
  gl : Vec F S256x2048 .f32
  sbo : Vec F S256x1024 .f32
  hgo : Vec F S256x1024 .f32
  x : Vec F S256x1024 .f32
  tgt : Vec F S256x1024 .f32
  bg : Vec F S1x2048 .f32
  hgn : Vec F S1x1024 .f32
  fg : Vec F S1x1024 .f32
  wsb : Vec F S1024x1024 .bf16
  whg : Vec F S1024x1024 .bf16
  wout : Vec F S1024x1024 .bf16

/-- The sums over the rows: the loss, and the gradients of the last norm's scale, the gate's bias, the recurrence's norm. -/
structure Sums (F : FTy → Type) where
  loss : Vec F S1x1 .f32
  fg : Vec F S1x1024 .f32
  bg : Vec F S1x2048 .f32
  hgn : Vec F S1x1024 .f32

namespace Rows

variable (X : Rows F)

/-- The attention branch through its weight. -/
abbrev uSb : FVec F S256x1024 .f32 := k0_pay8 X.zsb X.sbo X.wsb
/-- The recurrence's result over its heads' norms: the reciprocal norms, -/
abbrev rHg : FVec F S256x1024 .f32 :=
  k0_pay37 X.hgo (k0_pay12 X.hgo) (k0_pay17 (k0_pay15 X.hgo)) (k0_pay21 X.hgo) (k0_pay25 X.hgo) (k0_pay29 X.hgo) (k0_pay31 X.hgo)
/-- the normed rows, -/
abbrev ynHg : FVec F S256x1024 .f32 :=
  k0_pay38 X.hgo (k0_pay13 X.hgo) (k0_pay18 (k0_pay14 X.hgo) (k0_pay15 X.hgo)) (k0_pay22 X.hgo) (k0_pay26 X.hgo) (k0_pay30 X.hgo) (k0_pay31 X.hgo)
/-- and scaled. -/
abbrev hn : FVec F S256x1024 .f32 :=
  k0_pay39 X.hgo (k0_pay9 X.hgn) (k0_pay13 X.hgo) (k0_pay18 (k0_pay14 X.hgo) (k0_pay15 X.hgo)) (k0_pay22 X.hgo) (k0_pay26 X.hgo) (k0_pay30 X.hgo) (k0_pay31 X.hgo)
/-- The recurrence branch through its weight. -/
abbrev uHg : FVec F S256x1024 .f32 := k0_pay45 X.hn X.hz (k0_pay40 X.hz) k0_pay41 X.whg
/-- The merge. -/
abbrev y : FVec F S256x1024 .f32 := k0_pay49 X.uSb X.hn X.hz (k0_pay40 X.hz) k0_pay41 X.whg X.gl X.bg
/-- The last norm's reciprocals and its normed rows. -/
abbrev r2 : FVec F S256x1 .f32 := k0_pay51 X.uSb X.hn X.hz (k0_pay40 X.hz) k0_pay41 X.whg X.gl X.bg X.x X.wout
abbrev yn2 : FVec F S256x1024 .f32 := k0_pay52 X.uSb X.hn X.hz (k0_pay40 X.hz) k0_pay41 X.whg X.gl X.bg X.x X.wout
/-- The gradient of the norm's argument. -/
abbrev dOut : FVec F S256x1024 .f32 := k0_pay58 X.r2 X.yn2 X.fg X.tgt
/-- The gates' halves. -/
abbrev gSb : FVec F S256x1024 .f32 := k0_pay47 X.gl X.bg
abbrev gHg : FVec F S256x1024 .f32 := k0_pay48 X.gl X.bg
/-- The gradients of the two branches. -/
abbrev duSb : FVec F S256x1024 .bf16 := k0_pay61 X.gSb X.dOut X.wout
abbrev duHg : FVec F S256x1024 .bf16 := k0_pay62 X.gHg X.dOut X.wout
/-- The gradient of the scaled rows. -/
abbrev dHn : FVec F S256x1024 .f32 := k0_pay73 (k0_pay43 X.hz (k0_pay40 X.hz) k0_pay41) X.duHg X.whg
/-- The gradient of the recurrence's result. -/
abbrev dHgo : FVec F S256x1024 .bf16 :=
  k0_pay86 X.rHg X.ynHg (k0_pay78 (k0_pay9 X.hgn) X.dHn) (k0_pay79 (k0_pay9 X.hgn) X.ynHg X.dHn) (k0_pay80 (k0_pay9 X.hgn) X.ynHg X.dHn)
    (k0_pay81 (k0_pay9 X.hgn) X.ynHg X.dHn) (k0_pay82 (k0_pay9 X.hgn) X.ynHg X.dHn) (k0_pay83 (k0_pay9 X.hgn) X.ynHg X.dHn)
    (k0_pay84 (k0_pay9 X.hgn) X.ynHg X.dHn) (k0_pay85 (k0_pay9 X.hgn) X.ynHg X.dHn)

/-- The gradient of the four columns groups of the projections, over what the buffer held. -/
def dMid (b : Vec F S256x4096 .bf16) : Vec F S256x4096 .bf16 :=
  VecWindow.put (VecWindow.put (VecWindow.put (VecWindow.put b ![0, 2048] S256x1024.size (k0_pay65 X.uSb X.gSb X.dOut X.wout))
    ![0, 3072] S256x1024.size (k0_pay66 X.uHg X.gHg X.dOut X.wout))
    ![0, 0] S256x1024.size (k0_pay71 X.zsb X.sbo (k0_pay5 X.zsb) X.duSb X.wsb))
    ![0, 1024] S256x1024.size (k0_pay74 X.hn X.hz (k0_pay42 (k0_pay40 X.hz) k0_pay41) X.duHg X.whg)

/-- The gate's bias: its left half gets its rows' sum, -/
def bgLeft (b : Vec F S1x2048 .f32) : Vec F S1x2048 .f32 :=
  VecWindow.put b ![0, 0] S1x1024.size (k0_pay67 X.uSb X.gSb X.dOut X.wout (VecWindow.window b ![0, 0] S1x1024.size inb_S1x2048_S1x1024_0_0))

/-- then its right half. -/
def bgBoth (b : Vec F S1x2048 .f32) : Vec F S1x2048 .f32 :=
  VecWindow.put (X.bgLeft b) ![0, 1024] S1x1024.size (k0_pay68 X.uHg X.gHg X.dOut X.wout (VecWindow.window (X.bgLeft b) ![0, 1024] S1x1024.size inb_S1x2048_S1x1024_0_1024))

/-- What the rows add to the sums. -/
def add (S : Sums F) : Sums F where
  loss := k0_pay55 X.yn2 X.fg X.tgt S.loss
  fg := k0_pay57 X.yn2 X.fg X.tgt S.fg
  bg := X.bgBoth S.bg
  hgn := k0_pay77 (k0_pay75 S.hgn) (k0_pay76 X.ynHg (k0_pay43 X.hz (k0_pay40 X.hz) k0_pay41) X.duHg X.whg)

end Rows

/-- The sums as a point finds them: zero at the first. -/
def cleared (i : grid0.Coords) (S : Sums F) : Sums F := if cond0_0 i then ⟨k0_pay1, k0_pay2, k0_pay3, k0_pay4⟩ else S

section Run

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x4096 .bf16) (harg17 : arg17.IsWhole) (arg18 : Memref sig .tc .vmem S1024x256 .bf16) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S256x1024 .bf16) (harg21 : arg21.IsWhole) (arg22 : Memref sig .tc .vmem S1024x256 .bf16) (harg22 : arg22.IsWhole) (arg23 : Memref sig .tc .vmem S256x1024 .bf16) (harg23 : arg23.IsWhole) (arg24 : Memref sig .tc .vmem S1x1 .f32) (harg24 : arg24.IsWhole) (arg25 : Memref sig .tc .vmem S1x1024 .f32) (harg25 : arg25.IsWhole) (arg26 : Memref sig .tc .vmem S1x2048 .f32) (harg26 : arg26.IsWhole) (arg27 : Memref sig .tc .vmem S1x1024 .f32) (harg27 : arg27.IsWhole)

/-- The first point clears the sums; every point reads the branches. -/
theorem part1_run (X : Rows F) (S : Sums F) (Q : _ → sProp 𝕄) :
    iprop(owns (c : Thread nD τ) arg1 fullShare X.zsb ∗ owns (c : Thread nD τ) arg4 fullShare X.sbo ∗ owns (c : Thread nD τ) arg11 fullShare X.wsb ∗ owns (c : Thread nD τ) arg5 fullShare X.hgo ∗ owns (c : Thread nD τ) arg9 fullShare X.hgn
      ∗ owns (c : Thread nD τ) arg24 fullShare S.loss ∗ owns (c : Thread nD τ) arg25 fullShare S.fg ∗ owns (c : Thread nD τ) arg26 fullShare S.bg ∗ owns (c : Thread nD τ) arg27 fullShare S.hgn
      ∗ (owns (c : Thread nD τ) arg1 fullShare X.zsb -∗ owns (c : Thread nD τ) arg4 fullShare X.sbo -∗ owns (c : Thread nD τ) arg11 fullShare X.wsb -∗ owns (c : Thread nD τ) arg5 fullShare X.hgo -∗ owns (c : Thread nD τ) arg9 fullShare X.hgn
        -∗ owns (c : Thread nD τ) arg24 fullShare (cleared i S).loss -∗ owns (c : Thread nD τ) arg25 fullShare (cleared i S).fg -∗ owns (c : Thread nD τ) arg26 fullShare (cleared i S).bg -∗ owns (c : Thread nD τ) arg27 fullShare (cleared i S).hgn
        -∗ Q ⟨X.zsb, X.sbo, k0_pay5 X.zsb, k0_pay6 X.zsb, k0_pay7 X.zsb X.sbo, X.uSb, X.hgo, k0_pay9 X.hgn, k0_pay12 X.hgo, k0_pay13 X.hgo, k0_pay14 X.hgo, k0_pay15 X.hgo⟩))
      ⊢ wp frame (wpE (defs₀ (F := F)) Variants.none (c : Thread nD τ) none) Set.univ (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q := by
  iintro ⟨H1, H4, H11, H5, H9, H24, H25, H26, H27, HK⟩
  rw [k0_part1_eq_skeleton]
  unfold k0_part1_skel
  by_cases hf : cond0_0 i
  · rw [show cleared i S = ⟨k0_pay1, k0_pay2, k0_pay3, k0_pay4⟩ from if_pos hf]
    have hf' := hf
    unfold cond0_0 at hf'
    simp only [hf', ↓reduceDIte, ↓reduceIte, Prog.lift, Prog.bind_op, Prog.bind_ret, Prog.pure_eq_ret]
    iapply (load_all defs₀ Variants.none none c Q) $$ H24; iintro H24
    iapply (store_all defs₀ Variants.none none c Q) $$ H24; iintro H24
    iapply (load_all defs₀ Variants.none none c Q) $$ H25; iintro H25
    iapply (store_all defs₀ Variants.none none c Q) $$ H25; iintro H25
    iapply (load_all defs₀ Variants.none none c Q) $$ H26; iintro H26
    iapply (store_all defs₀ Variants.none none c Q) $$ H26; iintro H26
    iapply (load_all defs₀ Variants.none none c Q) $$ H27; iintro H27
    iapply (store_all defs₀ Variants.none none c Q) $$ H27; iintro H27
    iapply (load_all defs₀ Variants.none none c Q) $$ H1; iintro H1
    iapply (load_all defs₀ Variants.none none c Q) $$ H4; iintro H4
    iapply (load_all defs₀ Variants.none none c Q) $$ H11; iintro H11
    iapply (load_all defs₀ Variants.none none c Q) $$ H5; iintro H5
    iapply (load_all defs₀ Variants.none none c Q) $$ H9; iintro H9
    rw [wp_ret]; imodintro
    iapply HK $$ H1 H4 H11 H5 H9 H24 H25 H26 H27
  · rw [show cleared i S = S from if_neg hf]
    have hf' := hf
    unfold cond0_0 at hf'
    simp only [hf', ↓reduceDIte, ↓reduceIte, Prog.lift, Prog.bind_op, Prog.bind_ret, Prog.pure_eq_ret]
    iapply (load_all defs₀ Variants.none none c Q) $$ H1; iintro H1
    iapply (load_all defs₀ Variants.none none c Q) $$ H4; iintro H4
    iapply (load_all defs₀ Variants.none none c Q) $$ H11; iintro H11
    iapply (load_all defs₀ Variants.none none c Q) $$ H5; iintro H5
    iapply (load_all defs₀ Variants.none none c Q) $$ H9; iintro H9
    rw [wp_ret]; imodintro
    iapply HK $$ H1 H4 H11 H5 H9 H24 H25 H26 H27

set_option maxHeartbeats 4000000 in
/-- A point's run: its blocks as they were, each result's buffer at its value, the sums with the rows added. -/
theorem body_run (X : Rows F) (b14 : Vec F S256x1024 .f32) (b15 : Vec F S256x1024 .bf16) (b16 : Vec F S256x1024 .bf16) (b17 : Vec F S256x4096 .bf16) (b18 : Vec F S1024x256 .bf16) (b19 : Vec F S256x1024 .bf16) (b20 : Vec F S1024x256 .bf16) (b21 : Vec F S256x1024 .bf16) (b22 : Vec F S1024x256 .bf16) (b23 : Vec F S256x1024 .bf16) (S : Sums F) (K : PUnit → sProp 𝕄) :
    iprop((owns (c : Thread nD τ) arg1 fullShare X.zsb ∗ owns (c : Thread nD τ) arg2 fullShare X.hz ∗ owns (c : Thread nD τ) arg3 fullShare X.gl ∗ owns (c : Thread nD τ) arg4 fullShare X.sbo ∗ owns (c : Thread nD τ) arg5 fullShare X.hgo ∗ owns (c : Thread nD τ) arg6 fullShare X.x ∗ owns (c : Thread nD τ) arg7 fullShare X.tgt ∗ owns (c : Thread nD τ) arg8 fullShare X.bg ∗ owns (c : Thread nD τ) arg9 fullShare X.hgn ∗ owns (c : Thread nD τ) arg10 fullShare X.fg ∗ owns (c : Thread nD τ) arg11 fullShare X.wsb ∗ owns (c : Thread nD τ) arg12 fullShare X.whg ∗ owns (c : Thread nD τ) arg13 fullShare X.wout
      ∗ owns (c : Thread nD τ) arg14 fullShare b14 ∗ owns (c : Thread nD τ) arg15 fullShare b15 ∗ owns (c : Thread nD τ) arg16 fullShare b16 ∗ owns (c : Thread nD τ) arg17 fullShare b17 ∗ owns (c : Thread nD τ) arg18 fullShare b18 ∗ owns (c : Thread nD τ) arg19 fullShare b19 ∗ owns (c : Thread nD τ) arg20 fullShare b20 ∗ owns (c : Thread nD τ) arg21 fullShare b21 ∗ owns (c : Thread nD τ) arg22 fullShare b22 ∗ owns (c : Thread nD τ) arg23 fullShare b23
      ∗ owns (c : Thread nD τ) arg24 fullShare S.loss ∗ owns (c : Thread nD τ) arg25 fullShare S.fg ∗ owns (c : Thread nD τ) arg26 fullShare S.bg ∗ owns (c : Thread nD τ) arg27 fullShare S.hgn)
      ∗ ((owns (c : Thread nD τ) arg1 fullShare X.zsb ∗ owns (c : Thread nD τ) arg2 fullShare X.hz ∗ owns (c : Thread nD τ) arg3 fullShare X.gl ∗ owns (c : Thread nD τ) arg4 fullShare X.sbo ∗ owns (c : Thread nD τ) arg5 fullShare X.hgo ∗ owns (c : Thread nD τ) arg6 fullShare X.x ∗ owns (c : Thread nD τ) arg7 fullShare X.tgt ∗ owns (c : Thread nD τ) arg8 fullShare X.bg ∗ owns (c : Thread nD τ) arg9 fullShare X.hgn ∗ owns (c : Thread nD τ) arg10 fullShare X.fg ∗ owns (c : Thread nD τ) arg11 fullShare X.wsb ∗ owns (c : Thread nD τ) arg12 fullShare X.whg ∗ owns (c : Thread nD τ) arg13 fullShare X.wout
      ∗ owns (c : Thread nD τ) arg14 fullShare X.dOut ∗ owns (c : Thread nD τ) arg15 fullShare (k0_pay70 (k0_pay6 X.zsb) X.duSb X.wsb) ∗ owns (c : Thread nD τ) arg16 fullShare X.dHgo ∗ owns (c : Thread nD τ) arg17 fullShare (X.dMid b17) ∗ owns (c : Thread nD τ) arg18 fullShare (k0_pay87 (k0_pay7 X.zsb X.sbo)) ∗ owns (c : Thread nD τ) arg19 fullShare X.duSb ∗ owns (c : Thread nD τ) arg20 fullShare (k0_pay88 (k0_pay44 X.hn X.hz (k0_pay40 X.hz) k0_pay41)) ∗ owns (c : Thread nD τ) arg21 fullShare X.duHg ∗ owns (c : Thread nD τ) arg22 fullShare (k0_pay89 X.y) ∗ owns (c : Thread nD τ) arg23 fullShare (k0_pay59 X.dOut)
      ∗ owns (c : Thread nD τ) arg24 fullShare (X.add (cleared i S)).loss ∗ owns (c : Thread nD τ) arg25 fullShare (X.add (cleared i S)).fg ∗ owns (c : Thread nD τ) arg26 fullShare (X.add (cleared i S)).bg ∗ owns (c : Thread nD τ) arg27 fullShare (X.add (cleared i S)).hgn) -∗ K ⟨⟩))
      ⊢ wp frame (wpE (defs₀ (F := F)) Variants.none (c : Thread nD τ) none) Set.univ (cc0_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [cc0_mid_eq_skeleton]
  unfold cc0_mid_skel
  simp only [k0_part9_eq_skeleton]
  unfold k0_part9_skel
  simp only [k0_part2_eq_skeleton, k0_part3_eq_skeleton, k0_part4_eq_skeleton, k0_part5_eq_skeleton, k0_part6_eq_skeleton, k0_part7_eq_skeleton, k0_part8_eq_skeleton]
  unfold k0_part2_skel k0_part3_skel k0_part4_skel k0_part5_skel k0_part6_skel k0_part7_skel k0_part8_skel
  simp only [Prog.bind_assoc, Prog.lift, Prog.bind_op, Prog.bind_ret, Prog.pure_eq_ret]
  iintro ⟨⟨H1, H2, H3, H4, H5, H6, H7, H8, H9, H10, H11, H12, H13, H14, H15, H16, H17, H18, H19, H20, H21, H22, H23, H24, H25, H26, H27⟩, HK⟩
  rw [wp_bind]
  iapply (part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X S _)
  isplitl [H1]; · iexact H1
  isplitl [H4]; · iexact H4
  isplitl [H11]; · iexact H11
  isplitl [H5]; · iexact H5
  isplitl [H9]; · iexact H9
  isplitl [H24]; · iexact H24
  isplitl [H25]; · iexact H25
  isplitl [H26]; · iexact H26
  isplitl [H27]; · iexact H27
  iintro H1 H4 H11 H5 H9 H24 H25 H26 H27
  dsimp only
  iapply (load_all defs₀ Variants.none none c K) $$ H2; iintro H2
  iapply (load_all defs₀ Variants.none none c K) $$ H12; iintro H12
  iapply (load_all defs₀ Variants.none none c K) $$ H3; iintro H3
  iapply (load_all defs₀ Variants.none none c K) $$ H8; iintro H8
  iapply (load_all defs₀ Variants.none none c K) $$ H6; iintro H6
  iapply (load_all defs₀ Variants.none none c K) $$ H13; iintro H13
  iapply (load_all defs₀ Variants.none none c K) $$ H10; iintro H10
  iapply (load_all defs₀ Variants.none none c K) $$ H7; iintro H7
  iapply (load_all defs₀ Variants.none none c K) $$ H24; iintro H24
  iapply (load_all defs₀ Variants.none none c K) $$ H24; iintro H24
  iapply (store_all defs₀ Variants.none none c K) $$ H24; iintro H24
  iapply (load_all defs₀ Variants.none none c K) $$ H25; iintro H25
  iapply (load_all defs₀ Variants.none none c K) $$ H25; iintro H25
  iapply (store_all defs₀ Variants.none none c K) $$ H25; iintro H25
  iapply (load_all defs₀ Variants.none none c K) $$ H14; iintro H14
  iapply (store_all defs₀ Variants.none none c K) $$ H14; iintro H14
  iapply (load_all defs₀ Variants.none none c K) $$ H23; iintro H23
  iapply (store_all defs₀ Variants.none none c K) $$ H23; iintro H23
  iapply (load_all defs₀ Variants.none none c K) $$ H13; iintro H13
  iapply (load_part defs₀ Variants.none none c K) $$ H17; iintro H17
  iapply (store_part defs₀ Variants.none none c K) $$ H17; iintro H17
  iapply (load_part defs₀ Variants.none none c K) $$ H17; iintro H17
  iapply (store_part defs₀ Variants.none none c K) $$ H17; iintro H17
  iapply (load_part defs₀ Variants.none none c K) $$ H26; iintro H26
  iapply (load_part defs₀ Variants.none none c K) $$ H26; iintro H26
  iapply (store_part defs₀ Variants.none none c K) $$ H26; iintro H26
  iapply (load_part defs₀ Variants.none none c K) $$ H26; iintro H26
  iapply (load_part defs₀ Variants.none none c K) $$ H26; iintro H26
  iapply (store_part defs₀ Variants.none none c K) $$ H26; iintro H26
  iapply (load_all defs₀ Variants.none none c K) $$ H11; iintro H11
  iapply (load_all defs₀ Variants.none none c K) $$ H15; iintro H15
  iapply (store_all defs₀ Variants.none none c K) $$ H15; iintro H15
  iapply (load_part defs₀ Variants.none none c K) $$ H17; iintro H17
  iapply (store_part defs₀ Variants.none none c K) $$ H17; iintro H17
  iapply (load_all defs₀ Variants.none none c K) $$ H12; iintro H12
  iapply (load_part defs₀ Variants.none none c K) $$ H17; iintro H17
  iapply (store_part defs₀ Variants.none none c K) $$ H17; iintro H17
  iapply (load_all defs₀ Variants.none none c K) $$ H27; iintro H27
  iapply (load_all defs₀ Variants.none none c K) $$ H27; iintro H27
  iapply (store_all defs₀ Variants.none none c K) $$ H27; iintro H27
  iapply (load_all defs₀ Variants.none none c K) $$ H16; iintro H16
  iapply (store_all defs₀ Variants.none none c K) $$ H16; iintro H16
  iapply (load_all defs₀ Variants.none none c K) $$ H18; iintro H18
  iapply (store_all defs₀ Variants.none none c K) $$ H18; iintro H18
  iapply (load_all defs₀ Variants.none none c K) $$ H19; iintro H19
  iapply (store_all defs₀ Variants.none none c K) $$ H19; iintro H19
  iapply (load_all defs₀ Variants.none none c K) $$ H20; iintro H20
  iapply (store_all defs₀ Variants.none none c K) $$ H20; iintro H20
  iapply (load_all defs₀ Variants.none none c K) $$ H21; iintro H21
  iapply (store_all defs₀ Variants.none none c K) $$ H21; iintro H21
  iapply (load_all defs₀ Variants.none none c K) $$ H22; iintro H22
  iapply (store_all defs₀ Variants.none none c K) $$ H22; iintro H22
  rw [wp_ret]; imodintro
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

end Run

end Cert.KernelMidIdeal.Mid

end

end
-- ==== Proof.Mid.Frame.lean ====
/-
The merge, launched: it ends, its arguments unchanged, each output array at what the grid's points left.
-/
module

public import proofs.«01_k».proof.Proof.Mid.Body
public import Idealize.ShloMosaic.Lib.Claim

@[expose] public section

set_option maxRecDepth 16384

noncomputable section

namespace Cert.KernelMidIdeal.Mid

open Cert.KernelMidIdeal Cert.KernelMidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's blocks, read off the arrays as the launch finds them. -/
def rows (c : Dev nD) (t : Fin cfg0.N) : Rows F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- The sums before point `n`; before the first, what nothing reads. -/
def sums (c : Dev nD) : (n : ℕ) → n ≤ cfg0.N → Sums F
  | 0, _ => ⟨k0_pay1, k0_pay2, k0_pay3, k0_pay4⟩
  | n + 1, h => (rows m c ⟨n, h⟩).add (cleared (grid0.coords ⟨n, h⟩) (sums c n (Nat.le_of_lt h)))

/-- The sums after a point. -/
def sumsAt (c : Dev nD) (t : Fin cfg0.N) : Sums F := sums m c (t.val + 1) t.isLt

/-- The four groups of columns cover the block. -/
theorem dMid_eq (X : Rows F) (a b : Vec F S256x4096 .bf16) : X.dMid a = X.dMid b := by
  funext z
  have h0 : (z 0).val < 256 := (z 0).isLt
  have h1 : (z 1).val < 4096 := (z 1).isLt
  unfold Rows.dMid VecWindow.put
  by_cases p : (z 1).val < 1024 <;> by_cases q : (z 1).val < 2048 <;> by_cases r : (z 1).val < 3072 <;>
    simp [Fin.forall_fin_two, S256x1024] <;> split_ifs <;> first | rfl | omega

/-- A block for what nothing reads. -/
abbrev blank : Vec F S256x4096 .bf16 := constant S256x4096 .bf16 0x0000#16

/-- The launch's data: the arrays as found, each input buffer left at its block, each output buffer at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (rows m c t).dOut
    | ⟨14, _⟩ => k0_pay70 (k0_pay6 (rows m c t).zsb) (rows m c t).duSb (rows m c t).wsb
    | ⟨15, _⟩ => (rows m c t).dHgo
    | ⟨16, _⟩ => (rows m c t).dMid blank
    | ⟨17, _⟩ => k0_pay87 (k0_pay7 (rows m c t).zsb (rows m c t).sbo)
    | ⟨18, _⟩ => (rows m c t).duSb
    | ⟨19, _⟩ => k0_pay88 (k0_pay44 (rows m c t).hn (rows m c t).hz (k0_pay40 (rows m c t).hz) k0_pay41)
    | ⟨20, _⟩ => (rows m c t).duHg
    | ⟨21, _⟩ => k0_pay89 (rows m c t).y
    | ⟨22, _⟩ => k0_pay59 (rows m c t).dOut
    | ⟨23, _⟩ => (sumsAt m c t).loss
    | ⟨24, _⟩ => (sumsAt m c t).fg
    | ⟨25, _⟩ => (sumsAt m c t).bg
    | ⟨26, _⟩ => (sumsAt m c t).hgn
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What a sum's buffer holds before a point other than the first: what the point before left. -/
theorem carried (c : Dev nD) (t : Fin cfg0.N) (h : ¬ cond0_0 (grid0.coords t)) (d23 d24 d25 d26) :
    (⟨(dats m 0 c).before 23 t d23, (dats m 0 c).before 24 t d24, (dats m 0 c).before 25 t d25, (dats m 0 c).before 26 t d26⟩ : Sums F)
      = sums m c t.val (Nat.le_of_lt t.isLt) := by
  have hN : t.val < 32 := lt_of_lt_of_eq t.isLt (show cfg0.N = 32 from N_0)
  have h0 : ¬ t.val % 32 = 0 := fun e => h ((hcond0_0 t).2 e)
  rw [Dat.before_out_kept _ 23 rfl t (by omega) (Bool.eq_false_iff.mpr fun h => by have := (flush0_23 _).mp h; dsimp only at this; omega) (fun _ => rfl) (fun _ _ => rfl),
    Dat.before_out_kept _ 24 rfl t (by omega) (Bool.eq_false_iff.mpr fun h => by have := (flush0_24 _).mp h; dsimp only at this; omega) (fun _ => rfl) (fun _ _ => rfl),
    Dat.before_out_kept _ 25 rfl t (by omega) (Bool.eq_false_iff.mpr fun h => by have := (flush0_25 _).mp h; dsimp only at this; omega) (fun _ => rfl) (fun _ _ => rfl),
    Dat.before_out_kept _ 26 rfl t (by omega) (Bool.eq_false_iff.mpr fun h => by have := (flush0_26 _).mp h; dsimp only at this; omega) (fun _ => rfl) (fun _ _ => rfl)]
  obtain ⟨n, hn⟩ := t
  cases n with
  | zero => exact absurd rfl h0
  | succ n => rfl

/-- The first point clears the sums, the others find what was left: either way the point leaves the same. -/
theorem found (c : Dev nD) (t : Fin cfg0.N) (d23 d24 d25 d26) :
    (rows m c t).add (cleared (grid0.coords t) ⟨(dats m 0 c).before 23 t d23, (dats m 0 c).before 24 t d24, (dats m 0 c).before 25 t d25, (dats m 0 c).before 26 t d26⟩)
      = sumsAt m c t := by
  show _ = (rows m c t).add (cleared (grid0.coords t) (sums m c t.val (Nat.le_of_lt t.isLt)))
  by_cases h : cond0_0 (grid0.coords t)
  · unfold cleared
    rw [if_pos h, if_pos h]
  · rw [carried m c t h]

/-- What a point's body is handed, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it hands back. -/
def handed (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

theorem owns_eq (c : Dev nD) {sp : Space} {s : Shape} {e : EltTy} (b : Memref sig .tc sp s e) {X Y : s.Idx → Elt F e} (h : X = Y) :
    (owns (c : Thread nD τ) b fullShare X : sProp 𝕄) ⊢ owns (c : Thread nD τ) b fullShare Y := h ▸ .rfl

set_option maxHeartbeats 4000000 in
/-- A point's body. -/
theorem sound (c : Dev nD) (t : Fin cfg0.N) :
    given m c t ⊢ wp frame (wpE (defs₀ (F := F)) Variants.none c none) Set.univ (bodyAt0 t) (fun _ => handed m c t) := by
  unfold given handed bodyAt0
  rw [show (dats m 0 c).Φ t.succ = Pipeline.ΦA spec0 c from rfl, show (dats m 0 c).Φ t.castSucc = Pipeline.ΦA spec0 c from rfl]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl), before0_11_of m (dats m 0 c) (A_eq m c 11) (fun _ => rfl), before0_12_of m (dats m 0 c) (A_eq m c 12) (fun _ => rfl)]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (body_run c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (st0_22 t) _ (st0_23 t) _ (st0_24 t) _ (st0_25 t) _ (st0_26 t) _
    (rows m c t) ((dats m 0 c).before 13 t d13) ((dats m 0 c).before 14 t d14) ((dats m 0 c).before 15 t d15) ((dats m 0 c).before 16 t d16) ((dats m 0 c).before 17 t d17) ((dats m 0 c).before 18 t d18) ((dats m 0 c).before 19 t d19) ((dats m 0 c).before 20 t d20) ((dats m 0 c).before 21 t d21) ((dats m 0 c).before 22 t d22)
    ⟨(dats m 0 c).before 23 t d23, (dats m 0 c).before 24 t d24, (dats m 0 c).before 25 t d25, (dats m 0 c).before 26 t d26⟩ _)
  rw [found m c t d23 d24 d25 d26, dMid_eq (rows m c t) _ blank]
  isplitl [H0 H1 H2 H3 H4 H5 H6 H7 H8 H9 H10 H11 H12 H13 H14 H15 H16 H17 H18 H19 H20 H21 H22 H23 H24 H25 H26]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  iintro ⟨H0, H1, H2, H3, H4, H5, H6, H7, H8, H9, H10, H11, H12, H13, H14, H15, H16, H17, H18, H19, H20, H21, H22, H23, H24, H25, H26⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem row (t : Fin cfg0.N) : defs₀ (F := F) .tc cfg0.body (cfg0.bodyArgs t (cfg0.slots t)) = bodyAt0 t := by
  unfold defs₀; rw [Defs.onTc_tc]

set_option maxHeartbeats 1000000 in
/-- The body at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The launch ends, each array at what the points left, every counter at zero. -/
theorem run : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The launch ends with the eleven arguments as it found them and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelMidIdeal.Mid

end

end
-- ==== Proof.Common.Merge.lean ====
/-
The merge of the two branches over the reals: gates, norms, loss, and their gradients, row by row. The branches' results, the
tokens and the target are `t c ↦ …`; heads are 128 columns wide.
-/
module

public import proofs.«01_k».proof.Proof.Common.Reals
public import proofs.«01_k».proof.Proof.Common.Stick

@[expose] public section

set_option maxRecDepth 16384

noncomputable section

namespace Cert.Merge

open Idealize.ShloMosaic Cert.Common Cert.Stick Finset

/-- What the norms add to a mean square. -/
def eps : ℝ := 8796093 * (2 ^ 43)⁻¹

theorem eps_eq : Ideal.ofBits .f32 0x358637BD#32 = (eps : EReal) := by
  simp [eps, Ideal.ofBits, Ideal.ieee]

theorem eps_pos : 0 < eps := by
  unfold eps
  positivity

def sg (z : ℝ) : ℝ := 1 / (1 + Real.exp (-z))

/-- The reciprocal root. -/
def rs (x : ℝ) : ℝ := (Real.sqrt x)⁻¹

theorem rs_sq {x : ℝ} (h : 0 < x) : rs x * rs x = 1 / x := by
  unfold rs
  rw [← mul_inv, Real.mul_self_sqrt h.le, one_div]

theorem rs_num {x : ℝ} (h : 0 < x) : Ideal.rsqrt (x : EReal) = ((rs x : ℝ) : EReal) := by
  rw [Ideal.rsqrt_coe, if_neg (not_lt.2 h.le), if_neg h.ne']
  rfl

theorem sig_den (z : ℝ) : 1 + Real.exp z ≠ 0 := by have := Real.exp_pos z; linarith

theorem sig_num (z : ℝ) : Ideal.div ((1 : ℝ) : EReal) (((1 : ℝ) : EReal) + Ideal.exp ((-z : ℝ) : EReal)) = ((sg z : ℝ) : EReal) := by
  rw [Ideal.exp_coe, ← EReal.coe_add, div_real _ (sig_den _)]
  rfl

/-- The arguments: the columns of the projections that are read, the branches' results, tokens and target, and the weights. -/
structure Args where
  zsb : ℕ → ℕ → ℝ
  hz : ℕ → ℕ → ℝ
  gl : ℕ → ℕ → ℝ
  sbo : ℕ → ℕ → ℝ
  hgo : ℕ → ℕ → ℝ
  x : ℕ → ℕ → ℝ
  tgt : ℕ → ℕ → ℝ
  bg : ℕ → ℝ
  gain : ℕ → ℝ
  fg : ℕ → ℝ
  wsb : ℕ → ℕ → ℝ
  whg : ℕ → ℕ → ℝ
  wout : ℕ → ℕ → ℝ

/-- Rows through a weight, and back through it. -/
def through (a w : ℕ → ℕ → ℝ) (t c : ℕ) : ℝ := ∑ k ∈ range 1024, a t k * w k c
def back (a w : ℕ → ℕ → ℝ) (t c : ℕ) : ℝ := ∑ k ∈ range 1024, a t k * w c k

variable (A : Args) (t c : ℕ)

namespace Args

def silu1 : ℝ := A.zsb t c * sg (A.zsb t c)
def silu2 : ℝ := A.hz t c * sg (A.hz t c)
def aSb : ℝ := A.sbo t c * A.silu1 t c
def uSb : ℝ := through A.aSb A.wsb t c
/-- A head's mean square. -/
def sqH (h : ℕ) : ℝ := (∑ e ∈ range 128, A.hgo t (128 * h + e) * A.hgo t (128 * h + e)) / 128 + eps
def rH (h : ℕ) : ℝ := rs (A.sqH t h)
def yn : ℝ := A.hgo t c * A.rH t (c / 128)
def hn : ℝ := A.yn t c * A.gain c
def aHg : ℝ := A.hn t c * A.silu2 t c
def uHg : ℝ := through A.aHg A.whg t c
def g : ℝ := sg (A.gl t c + A.bg c)
def y : ℝ := A.g t c * A.uSb t c + A.g t (1024 + c) * A.uHg t c
def out : ℝ := A.x t c + through A.y A.wout t c
def sqO : ℝ := (∑ c ∈ range 1024, A.out t c * A.out t c) / 1024 + eps
def rO : ℝ := rs (A.sqO t)
def yn2 : ℝ := A.out t c * A.rO t
def diff : ℝ := A.yn2 t c * A.fg c - A.tgt t c
def dyf : ℝ := A.diff t c * (1 / 1024)
def dyn : ℝ := A.dyf t c * A.fg c
def dOut : ℝ := A.rO t * (A.dyn t c - A.yn2 t c * ((∑ k ∈ range 1024, A.dyn t k * A.yn2 t k) / 1024))
def dy : ℝ := back A.dOut A.wout t c
def duSb : ℝ := A.dy t c * A.g t c
def duHg : ℝ := A.dy t c * A.g t (1024 + c)
def dgSb : ℝ := A.dy t c * A.uSb t c * (A.g t c * (1 - A.g t c))
def dgHg : ℝ := A.dy t c * A.uHg t c * (A.g t (1024 + c) * (1 - A.g t (1024 + c)))
def daSb : ℝ := back A.duSb A.wsb t c
def daHg : ℝ := back A.duHg A.whg t c
def dSbo : ℝ := A.daSb t c * A.silu1 t c
def dHn : ℝ := A.daHg t c * A.silu2 t c
def dZsb : ℝ := A.daSb t c * A.sbo t c * (sg (A.zsb t c) * (1 + A.zsb t c * (1 - sg (A.zsb t c))))
def dHz : ℝ := A.daHg t c * A.hn t c * (sg (A.hz t c) * (1 + A.hz t c * (1 - sg (A.hz t c))))
def dYn : ℝ := A.dHn t c * A.gain c
/-- A head's mean of the gradient times the normed row. -/
def mnH (h : ℕ) : ℝ := (∑ e ∈ range 128, A.dYn t (128 * h + e) * A.yn t (128 * h + e)) / 128
def dHgo : ℝ := A.rH t (c / 128) * (A.dYn t c - A.yn t c * A.mnH t (c / 128))

/-- A row's shares of the four sums. -/
def lossOf : ℝ := ∑ c ∈ range 1024, A.diff t c * A.diff t c
def fgOf : ℝ := A.dyf t c * A.yn2 t c
def gainOf : ℝ := A.dHn t c * A.yn t c

theorem sqH_pos (h : ℕ) : 0 < A.sqH t h := by
  have := eps_pos
  have h0 : 0 ≤ ∑ e ∈ range 128, A.hgo t (128 * h + e) * A.hgo t (128 * h + e) := sum_nonneg fun _ _ => mul_self_nonneg _
  unfold sqH
  positivity

theorem sqO_pos : 0 < A.sqO t := by
  have := eps_pos
  have h0 : 0 ≤ ∑ c ∈ range 1024, A.out t c * A.out t c := sum_nonneg fun _ _ => mul_self_nonneg _
  unfold sqO
  positivity

end Args

end Cert.Merge

end
-- ==== Proof.Mid.Ops.lean ====
/-
A point's operations on rows of reals: a row's head, its sums, the products with the weights. Each again gives rows of reals.
-/
module

public import proofs.«01_k».proof.Proof.Mid.Body
public import proofs.«01_k».proof.Proof.Common.Merge
public import Idealize.ShloMosaic.Lib.Pointwise
public import Idealize.ShloMosaic.PureOps.Ideal.Laws
public import Idealize.ShloMosaic.Lib.ValueIdx
public import Idealize.ShloMosaic.PureOps.IdealRules

@[expose] public section

set_option maxRecDepth 16384
set_option maxHeartbeats 1000000

noncomputable section

namespace Cert.KernelMidIdeal.Mid

open Idealize.ShloMosaic Cert.KernelMidIdeal Cert.KernelMidIdeal.Gen Cert.Common Cert.Stick Cert.Merge Finset

/-- Rows, both gates' rows, a head's columns, one column; one row; a weight. -/
def sheet (f : ℕ → ℕ → ℝ) : S256x1024.Idx → EReal := fun i => ((f (i 0).val (i 1).val : ℝ) : EReal)
def wide (f : ℕ → ℕ → ℝ) : S256x2048.Idx → EReal := fun i => ((f (i 0).val (i 1).val : ℝ) : EReal)
def part (f : ℕ → ℕ → ℝ) : S256x128.Idx → EReal := fun i => ((f (i 0).val (i 1).val : ℝ) : EReal)
def col (f : ℕ → ℝ) : S256x1.Idx → EReal := fun i => ((f (i 0).val : ℝ) : EReal)
def line (f : ℕ → ℝ) : S1x1024.Idx → EReal := fun i => ((f (i 1).val : ℝ) : EReal)
def wline (f : ℕ → ℝ) : S1x2048.Idx → EReal := fun i => ((f (i 1).val : ℝ) : EReal)
def mat (f : ℕ → ℕ → ℝ) : S1024x1024.Idx → EReal := fun i => ((f (i 0).val (i 1).val : ℝ) : EReal)
def one (x : ℝ) : S1x1.Idx → EReal := fun _ => (x : EReal)

theorem one_eq : (Ideal.ofBits .f32 0x3F800000#32 : EReal) = ((1 : ℝ) : EReal) := by simp [Ideal.ofBits, Ideal.ieee]; rw [← EReal.coe_mul]; norm_num
theorem n128_eq : (Ideal.ofBits .f32 0x43000000#32 : EReal) = ((128 : ℝ) : EReal) := by simp [Ideal.ofBits, Ideal.ieee]; rw [← EReal.coe_mul]; norm_num
theorem n1024_eq : (Ideal.ofBits .f32 0x44800000#32 : EReal) = ((1024 : ℝ) : EReal) := by simp [Ideal.ofBits, Ideal.ieee]; rw [← EReal.coe_mul]; norm_num
theorem inv1024_eq : (Ideal.ofBits .f32 0x3A800000#32 : EReal) = ((1 / 1024 : ℝ) : EReal) := by simp [Ideal.ofBits, Ideal.ieee]; rw [← EReal.coe_mul]; norm_num
theorem inv2048_eq : (Ideal.ofBits .f32 0x3A000000#32 : EReal) = ((1 / 2048 : ℝ) : EReal) := by simp [Ideal.ofBits, Ideal.ieee]; rw [← EReal.coe_mul]; norm_num

variable {f g h : ℕ → ℕ → ℝ}

theorem sig_pay (z : ℝ) : Ideal.div 1 (1 + Ideal.exp (0 - (z : EReal))) = ((sg z : ℝ) : EReal) := by
  rw [zero_sub, ← EReal.coe_neg]
  exact sig_num z

theorem pay5_real : k0_pay5 (F := Ideal) (sheet f) = sheet fun r c => sg (f r c) := by
  funext i
  pointwise [k0_pay5, sheet]
  exact sig_pay _

theorem pay6_real : k0_pay6 (F := Ideal) (sheet f) = sheet fun r c => f r c * sg (f r c) := by
  unfold k0_pay6
  rw [pay5_real]
  funext i
  pointwise [sheet]
  rw [← EReal.coe_mul]

theorem pay7_real : k0_pay7 (F := Ideal) (sheet f) (sheet g) = sheet fun r c => g r c * (f r c * sg (f r c)) := by
  unfold k0_pay7
  rw [pay6_real]
  funext i
  pointwise [sheet]
  rw [← EReal.coe_mul]

/-- Rows through a weight, and back through it. -/
theorem through_real (w : ℕ → ℕ → ℝ) :
    (matmul (φ₁ := .bf16) (φ₂ := .bf16) dot_S256x1024_S1024x1024_S256x1024_1_0_0_1_n_n none (truncf (F := Ideal) .bf16 (φ := .f32) (sheet f) bitsLt_bf16_f32)
      (shapeCast S1024x1024 (mat w) shapeCasts_S1024x1024_S1024x1024) (constant S256x1024 .f32 0x00000000#32) : FVec Ideal S256x1024 .f32)
      = sheet (through f w) := by
  funext i
  pointwise [sheet, mat]
  simp only [← EReal.coe_mul, zero_eq, sum_num (fun k => f (i 0).val k * w k (i 1).val)]
  simp [through]

theorem back_real (w : ℕ → ℕ → ℝ) :
    (matmul (φ₁ := .bf16) (φ₂ := .bf16) dot_S256x1024_S1024x1024_S256x1024_1_1_0_0_n_n none (sheet f)
      (shapeCast S1024x1024 (mat w) shapeCasts_S1024x1024_S1024x1024) (constant S256x1024 .f32 0x00000000#32) : FVec Ideal S256x1024 .f32)
      = sheet (back f w) := by
  funext i
  pointwise [sheet, mat]
  simp only [← EReal.coe_mul, zero_eq, sum_num (fun k => f (i 0).val k * w (i 1).val k)]
  simp [back]

theorem pay8_real (w : ℕ → ℕ → ℝ) : k0_pay8 (F := Ideal) (sheet f) (sheet g) (mat w) = sheet (through (fun r c => g r c * (f r c * sg (f r c))) w) := by
  unfold k0_pay8
  rw [pay7_real]
  exact through_real w

/-- A head's columns, their sum, a column spread over them. -/
theorem slice_real (o : ℕ) (hs : S256x1024.Slices ![0, o] S256x128) :
    extractStridedSlice (α := Ideal .f32) S256x128 ![0, o] (sheet f) hs = part fun r e => f r (o + e) := by
  funext i
  pointwise [sheet, part]

theorem headSum_real (o : ℕ) (hs : S256x1024.Slices ![0, o] S256x128) :
    (shapeCast S256x1 (multiReduction (F := Ideal) (φ := .f32) .add [1] S256 (part f) 0x00000000#32 reduces_S256x128_S256 (.inl rfl) rfl) shapeCasts_S256_S256x1 : FVec Ideal S256x1 .f32)
      = col fun r => ∑ e ∈ range 128, f r e := by
  funext i
  pointwise [part, col]
  simp only [zero_eq, sum_num (fun k => f (i 0).val k)]

/-- A head's reciprocal norm; the body spells it once a head. -/
theorem norm_real : k0_pay32 (F := Ideal) (part f) = col fun r => rs ((∑ e ∈ range 128, f r e * f r e) / 128 + eps) := by
  funext i
  pointwise [k0_pay32, part, col]
  simp only [← EReal.coe_mul, zero_eq, sum_num (fun k => f (i 0).val k * f (i 0).val k), n128_eq, eps_eq, div_real _ (show (128 : ℝ) ≠ 0 by norm_num), ← EReal.coe_add]
  refine rs_num ?_
  have := eps_pos
  have h0 : 0 ≤ ∑ e ∈ range 128, f (i 0).val e * f (i 0).val e := sum_nonneg fun _ _ => mul_self_nonneg _
  positivity

theorem norm_same (v : FVec Ideal S256x1024 .f32) :
    k0_pay11 (F := Ideal) v = k0_pay32 (F := Ideal) (k0_pay10 (F := Ideal) v) ∧ k0_pay16 (F := Ideal) (k0_pay15 (F := Ideal) v) = k0_pay32 (F := Ideal) (k0_pay14 (F := Ideal) v) ∧ k0_pay20 (F := Ideal) v = k0_pay32 (F := Ideal) (k0_pay19 (F := Ideal) v) ∧ k0_pay24 (F := Ideal) v = k0_pay32 (F := Ideal) (k0_pay23 (F := Ideal) v)
      ∧ k0_pay28 (F := Ideal) v = k0_pay32 (F := Ideal) (k0_pay27 (F := Ideal) v) ∧ k0_pay34 (F := Ideal) v = k0_pay32 (F := Ideal) (k0_pay33 (F := Ideal) v) ∧ k0_pay36 (F := Ideal) v = k0_pay32 (F := Ideal) (k0_pay35 (F := Ideal) v) := ⟨rfl, rfl, rfl, rfl, rfl, rfl, rfl⟩

theorem spread_real (u : ℕ → ℝ) : broadcastTo (α := Ideal .f32) S256x128 (col u) broadcasts_S256x1_S256x128 = part fun r _ => u r := by
  funext i
  pointwise [part, col]

theorem concat_real (F : ℕ → ℕ → ℕ → ℝ) :
    concatenate (α := Ideal .f32) S256x1024 1 [⟨S256x128, part (F 0)⟩, ⟨S256x128, part (F 1)⟩, ⟨S256x128, part (F 2)⟩, ⟨S256x128, part (F 3)⟩, ⟨S256x128, part (F 4)⟩, ⟨S256x128, part (F 5)⟩, ⟨S256x128, part (F 6)⟩, ⟨S256x128, part (F 7)⟩]
      concatenates_S256x128_S256x128_S256x128_S256x128_S256x128_S256x128_S256x128_S256x128_S256x1024_d1
      = sheet fun r c => F (c / 128) r (c % 128) := by
  funext i
  have h1 : (i 1).val < 1024 := (i 1).isLt
  pointwise [part, sheet]
  split_ifs <;> refine congrArg (fun r : ℝ => (r : EReal)) ?_ <;> congr 1 <;> omega

/-- The same, where the last three heads are still to be read. -/
theorem concat_last (F : ℕ → ℕ → ℕ → ℝ) (a b c : FVec Ideal S256x128 .f32) (ha : a = part (F 5)) (hb : b = part (F 6)) (hc : c = part (F 7)) :
    concatenate (α := Ideal .f32) S256x1024 1 [⟨S256x128, part (F 0)⟩, ⟨S256x128, part (F 1)⟩, ⟨S256x128, part (F 2)⟩, ⟨S256x128, part (F 3)⟩, ⟨S256x128, part (F 4)⟩, ⟨S256x128, a⟩, ⟨S256x128, b⟩, ⟨S256x128, c⟩]
      concatenates_S256x128_S256x128_S256x128_S256x128_S256x128_S256x128_S256x128_S256x128_S256x1024_d1
      = sheet fun r c => F (c / 128) r (c % 128) := by
  subst ha hb hc
  exact concat_real F

end Cert.KernelMidIdeal.Mid

end
-- ==== Proof.Mid.Forward.lean ====
/-
A point's forward lines on its 256 rows of real arguments: branches, gates, merge, the last norm.
-/
module

public import proofs.«01_k».proof.Proof.Mid.Ops

@[expose] public section

set_option maxRecDepth 16384
set_option maxHeartbeats 1000000

noncomputable section

namespace Cert.KernelMidIdeal.Mid

open Idealize.ShloMosaic Cert.KernelMidIdeal Cert.KernelMidIdeal.Gen Cert.Common Cert.Stick Cert.Merge Finset

/-- The rows of block `n`, as numbers; of one value a row or of one a column. -/
def rowsAt (f : ℕ → ℕ → ℝ) (n r c : ℕ) : ℝ := f (256 * n + r) c
def blk (f : ℕ → ℕ → ℝ) (n : ℕ) : S256x1024.Idx → EReal := sheet fun r c => f (256 * n + r) c
def cblk (f : ℕ → ℝ) (n : ℕ) : S256x1.Idx → EReal := col fun r => f (256 * n + r)

/-- A point's blocks of real arguments. -/
def real (A : Args) (n : ℕ) : Rows Ideal where
  zsb := blk A.zsb n
  hz := blk A.hz n
  gl := wide fun r c => A.gl (256 * n + r) c
  sbo := blk A.sbo n
  hgo := blk A.hgo n
  x := blk A.x n
  tgt := blk A.tgt n
  bg := wline A.bg
  hgn := line A.gain
  fg := line A.fg
  wsb := mat A.wsb
  whg := mat A.whg
  wout := mat A.wout

variable (A : Args) (n : ℕ)

local notation "X" => real A n

theorem silu1_real : k0_pay6 (F := Ideal) (X).zsb = blk A.silu1 n := pay6_real (f := rowsAt A.zsb n)
theorem aSb_real : k0_pay7 (F := Ideal) (X).zsb (X).sbo = blk A.aSb n := pay7_real (f := rowsAt A.zsb n) (g := rowsAt A.sbo n)
theorem uSb_real : (X).uSb = blk A.uSb n := pay8_real (f := rowsAt A.zsb n) (g := rowsAt A.sbo n) A.wsb

/-- A head's norm, columns and normed columns. -/
def normOf (h : ℕ) : S256x128.Idx → EReal := part fun r _ => A.rH (256 * n + r) h
def headOf (h : ℕ) : S256x128.Idx → EReal := part fun r e => A.hgo (256 * n + r) (128 * h + e)
def unitOf (h : ℕ) : S256x128.Idx → EReal := part fun r e => A.hgo (256 * n + r) (128 * h + e) * A.rH (256 * n + r) h

theorem cast_col (u : ℕ → ℝ) : shapeCast (α := Ideal .f32) S256x1 (col u) shapeCasts_S256x1_S256x1 = col u := by
  funext i
  pointwise [col]

theorem mul_part (f g : ℕ → ℕ → ℝ) : mulf (F := Ideal) (φ := .f32) (part f) (part g) = part fun r e => f r e * g r e := by
  funext i
  pointwise [part]
  rw [← EReal.coe_mul]

/-- A head's columns, read. -/
theorem cols_real :
    k0_pay10 (F := Ideal) (X).hgo = headOf A n 0 ∧ k0_pay14 (F := Ideal) (X).hgo = headOf A n 1 ∧ k0_pay19 (F := Ideal) (X).hgo = headOf A n 2
      ∧ k0_pay23 (F := Ideal) (X).hgo = headOf A n 3 ∧ k0_pay27 (F := Ideal) (X).hgo = headOf A n 4 ∧ k0_pay31 (F := Ideal) (X).hgo = headOf A n 5
      ∧ k0_pay33 (F := Ideal) (X).hgo = headOf A n 6 ∧ k0_pay35 (F := Ideal) (X).hgo = headOf A n 7 :=
  ⟨slice_real (f := rowsAt A.hgo n) 0 slices_S256x1024_o0_0_S256x128, slice_real (f := rowsAt A.hgo n) 128 slices_S256x1024_o0_128_S256x128, slice_real (f := rowsAt A.hgo n) 256 slices_S256x1024_o0_256_S256x128, slice_real (f := rowsAt A.hgo n) 384 slices_S256x1024_o0_384_S256x128, slice_real (f := rowsAt A.hgo n) 512 slices_S256x1024_o0_512_S256x128, slice_real (f := rowsAt A.hgo n) 640 slices_S256x1024_o0_640_S256x128, slice_real (f := rowsAt A.hgo n) 768 slices_S256x1024_o0_768_S256x128, slice_real (f := rowsAt A.hgo n) 896 slices_S256x1024_o0_896_S256x128⟩

theorem headNorm (h : ℕ) : k0_pay32 (F := Ideal) (headOf A n h) = col fun r => A.rH (256 * n + r) h := norm_real

theorem heads_real :
    (k0_pay12 (F := Ideal) (X).hgo = normOf A n 0 ∧ k0_pay17 (F := Ideal) (k0_pay15 (X).hgo) = normOf A n 1 ∧ k0_pay21 (F := Ideal) (X).hgo = normOf A n 2
      ∧ k0_pay25 (F := Ideal) (X).hgo = normOf A n 3 ∧ k0_pay29 (F := Ideal) (X).hgo = normOf A n 4)
    ∧ (k0_pay13 (F := Ideal) (X).hgo = unitOf A n 0 ∧ k0_pay18 (F := Ideal) (k0_pay14 (X).hgo) (k0_pay15 (X).hgo) = unitOf A n 1
      ∧ k0_pay22 (F := Ideal) (X).hgo = unitOf A n 2 ∧ k0_pay26 (F := Ideal) (X).hgo = unitOf A n 3 ∧ k0_pay30 (F := Ideal) (X).hgo = unitOf A n 4) := by
  obtain ⟨s0, s1, s2, s3, s4, -, -⟩ := norm_same (X).hgo
  obtain ⟨c0, c1, c2, c3, c4, -⟩ := cols_real A n
  refine ⟨⟨?_, ?_, ?_, ?_, ?_⟩, ?_, ?_, ?_, ?_, ?_⟩
  iterate 5
    · simp only [k0_pay12, k0_pay17, k0_pay21, k0_pay25, k0_pay29, s0, s1, s2, s3, s4, c0, c1, c2, c3, c4, headNorm, cast_col, spread_real]
      rfl
  iterate 5
    · simp only [k0_pay13, k0_pay18, k0_pay22, k0_pay26, k0_pay30, s0, s1, s2, s3, s4, c0, c1, c2, c3, c4, headNorm, spread_real]
      exact mul_part _ _

theorem rHg_real : (X).rHg = blk (fun t c => A.rH t (c / 128)) n := by
  obtain ⟨⟨h0, h1, h2, h3, h4⟩, -⟩ := heads_real A n
  obtain ⟨-, -, -, -, -, s6, s7⟩ := norm_same (X).hgo
  obtain ⟨-, -, -, -, -, c5, c6, c7⟩ := cols_real A n
  simp only [Rows.rHg, h0, h1, h2, h3, h4]
  refine concat_last (fun h r _ => A.rH (256 * n + r) h) _ _ _ ?_ ?_ ?_ <;>
    simp only [s6, s7, c5, c6, c7, headNorm, cast_col, spread_real]

theorem ynHg_real : (X).ynHg = blk A.yn n := by
  obtain ⟨-, h0, h1, h2, h3, h4⟩ := heads_real A n
  obtain ⟨-, -, -, -, -, s6, s7⟩ := norm_same (X).hgo
  obtain ⟨-, -, -, -, -, c5, c6, c7⟩ := cols_real A n
  simp only [Rows.ynHg, h0, h1, h2, h3, h4]
  refine (concat_last (fun h r e => A.hgo (256 * n + r) (128 * h + e) * A.rH (256 * n + r) h) _ _ _ ?_ ?_ ?_).trans ?_
  iterate 3
    · simp only [s6, s7, c5, c6, c7, headNorm, spread_real]
      exact mul_part _ _
  refine congrArg sheet (funext fun r => funext fun c => ?_)
  rw [Nat.div_add_mod]
  rfl

theorem hn_real : (X).hn = blk A.hn n := by
  unfold Rows.hn k0_pay39 k0_pay9
  rw [show k0_pay38 (F := Ideal) (X).hgo _ _ _ _ _ _ = blk A.yn n from ynHg_real A n]
  funext i
  pointwise [real, line, blk, sheet]
  rw [← EReal.coe_mul]
  rfl

theorem sg2_real : k0_pay42 (F := Ideal) (k0_pay40 (X).hz) k0_pay41 = blk (fun t c => sg (A.hz t c)) n := by
  funext i
  pointwise [k0_pay40, k0_pay41, k0_pay42, real, blk, sheet]
  exact sig_pay _

theorem silu2_real : k0_pay43 (F := Ideal) (X).hz (k0_pay40 (X).hz) k0_pay41 = blk A.silu2 n := by
  unfold k0_pay43
  rw [sg2_real]
  funext i
  pointwise [real, blk, sheet]
  rw [← EReal.coe_mul]
  rfl

theorem aHg_real : k0_pay44 (F := Ideal) (X).hn (X).hz (k0_pay40 (X).hz) k0_pay41 = blk A.aHg n := by
  unfold k0_pay44
  rw [silu2_real, hn_real]
  funext i
  pointwise [blk, sheet]
  rw [← EReal.coe_mul]
  rfl

theorem uHg_real : (X).uHg = blk A.uHg n := by
  unfold Rows.uHg k0_pay45
  rw [aHg_real]
  exact through_real (f := rowsAt A.aHg n) A.whg

theorem gates_real : k0_pay46 (F := Ideal) (X).gl (X).bg = wide fun r c => A.g (256 * n + r) c := by
  funext i
  pointwise [k0_pay46, real, wide, wline]
  rw [← EReal.coe_add]
  exact sig_pay _

theorem gSb_real : (X).gSb = blk A.g n := by
  unfold Rows.gSb k0_pay47
  rw [gates_real]
  funext i
  pointwise [blk, sheet, wide]

theorem gHg_real : (X).gHg = blk (fun t c => A.g t (1024 + c)) n := by
  unfold Rows.gHg k0_pay48
  rw [gates_real]
  funext i
  pointwise [blk, sheet, wide]

theorem y_real : (X).y = blk A.y n := by
  unfold Rows.y k0_pay49
  rw [show k0_pay47 (F := Ideal) (X).gl (X).bg = _ from gSb_real A n, show k0_pay48 (F := Ideal) (X).gl (X).bg = _ from gHg_real A n, uSb_real,
    show k0_pay45 (F := Ideal) (X).hn (X).hz (k0_pay40 (X).hz) k0_pay41 (X).whg = _ from uHg_real A n]
  funext i
  pointwise [blk, sheet]
  rw [← EReal.coe_mul, ← EReal.coe_mul, ← EReal.coe_add]
  rfl

theorem out_real : k0_pay50 (F := Ideal) (X).uSb (X).hn (X).hz (k0_pay40 (X).hz) k0_pay41 (X).whg (X).gl (X).bg (X).x (X).wout = blk A.out n := by
  unfold k0_pay50
  rw [show k0_pay49 (F := Ideal) (X).uSb (X).hn (X).hz (k0_pay40 (X).hz) k0_pay41 (X).whg (X).gl (X).bg = _ from y_real A n]
  refine Eq.trans (congrArg (addf _) (through_real (f := rowsAt A.y n) A.wout)) ?_
  funext i
  pointwise [real, blk, sheet]
  rw [← EReal.coe_add]
  rfl

theorem r2_real : (X).r2 = cblk A.rO n := by
  unfold Rows.r2 k0_pay51
  rw [out_real]
  funext i
  pointwise [blk, cblk, col, sheet]
  simp only [← EReal.coe_mul, zero_eq, sum_num (fun k => A.out (256 * n + (i 0).val) k * A.out (256 * n + (i 0).val) k), n1024_eq, eps_eq,
    div_real _ (show (1024 : ℝ) ≠ 0 by norm_num), ← EReal.coe_add]
  exact rs_num (A.sqO_pos _)

theorem yn2_real : (X).yn2 = blk A.yn2 n := by
  unfold Rows.yn2 k0_pay52
  rw [out_real, show k0_pay51 (F := Ideal) (X).uSb (X).hn (X).hz (k0_pay40 (X).hz) k0_pay41 (X).whg (X).gl (X).bg (X).x (X).wout = _ from r2_real A n]
  funext i
  pointwise [blk, cblk, col, sheet]
  rw [← EReal.coe_mul]
  rfl

end Cert.KernelMidIdeal.Mid

end
-- ==== Proof.Mid.Backward.lean ====
/-
A point's backward lines on its 256 rows of real arguments, and what the rows add to the four sums.
-/
module

public import proofs.«01_k».proof.Proof.Mid.Forward

@[expose] public section

set_option maxRecDepth 16384
set_option maxHeartbeats 1000000

noncomputable section

namespace Cert.KernelMidIdeal.Mid

open Idealize.ShloMosaic Cert.KernelMidIdeal Cert.KernelMidIdeal.Gen Cert.Common Cert.Stick Cert.Merge Finset

variable (A : Args) (n : ℕ)

local notation "X" => real A n

theorem diff_real : k0_pay54 (F := Ideal) (X).yn2 (X).fg (X).tgt = blk A.diff n := by
  unfold k0_pay54 k0_pay53
  rw [yn2_real]
  funext i
  pointwise [real, line, blk, sheet]
  rw [← EReal.coe_mul, ← EReal.coe_sub]
  rfl

theorem dyf_real : k0_pay56 (F := Ideal) (X).yn2 (X).fg (X).tgt = blk A.dyf n := by
  unfold k0_pay56
  rw [diff_real]
  funext i
  pointwise [blk, sheet]
  rw [inv1024_eq, ← EReal.coe_mul]
  rfl

theorem dOut_real : (X).dOut = blk A.dOut n := by
  have hd : mulf (F := Ideal) (φ := .f32) (blk A.dyf n) (broadcastTo S256x1024 (k0_pay53 (F := Ideal) (X).fg) broadcasts_S1x1024_S256x1024) = blk A.dyn n := by
    funext i
    pointwise [k0_pay53, real, line, blk, sheet]
    rw [← EReal.coe_mul]
    rfl
  unfold Rows.dOut k0_pay58
  rw [dyf_real, yn2_real, r2_real]
  dsimp only
  rw [hd]
  funext i
  pointwise [blk, cblk, col, sheet]
  simp only [← EReal.coe_mul, zero_eq, sum_num (fun k => A.dyn (256 * n + (i 0).val) k * A.yn2 (256 * n + (i 0).val) k), n1024_eq,
    div_real _ (show (1024 : ℝ) ≠ 0 by norm_num), ← EReal.coe_sub]
  rfl

theorem dy_real : k0_pay60 (F := Ideal) (X).dOut (X).wout = blk A.dy n := by
  unfold k0_pay60 k0_pay59
  rw [dOut_real]
  exact back_real (f := rowsAt A.dOut n) A.wout

theorem duSb_real : (X).duSb = blk A.duSb n := by
  unfold Rows.duSb k0_pay61
  rw [dy_real, gSb_real]
  funext i
  pointwise [blk, sheet]
  rw [← EReal.coe_mul]
  rfl

theorem duHg_real : (X).duHg = blk A.duHg n := by
  unfold Rows.duHg k0_pay62
  rw [dy_real, gHg_real]
  funext i
  pointwise [blk, sheet]
  rw [← EReal.coe_mul]
  rfl

theorem dgSb_real : k0_pay63 (F := Ideal) (X).uSb (X).gSb (X).dOut (X).wout = blk A.dgSb n := by
  unfold k0_pay63
  rw [dy_real, gSb_real, uSb_real]
  funext i
  pointwise [blk, sheet]
  rw [show (1 : EReal) = ((1 : ℝ) : EReal) from rfl, ← EReal.coe_mul, ← EReal.coe_mul, ← EReal.coe_sub, ← EReal.coe_mul]
  exact congrArg (fun r : ℝ => (r : EReal)) (mul_assoc _ _ _)

theorem dgHg_real : k0_pay64 (F := Ideal) (X).uHg (X).gHg (X).dOut (X).wout = blk A.dgHg n := by
  unfold k0_pay64
  rw [dy_real, gHg_real, uHg_real]
  funext i
  pointwise [blk, sheet]
  rw [show (1 : EReal) = ((1 : ℝ) : EReal) from rfl, ← EReal.coe_mul, ← EReal.coe_mul, ← EReal.coe_sub, ← EReal.coe_mul]
  exact congrArg (fun r : ℝ => (r : EReal)) (mul_assoc _ _ _)

theorem daSb_real : k0_pay69 (F := Ideal) (X).duSb (X).wsb = blk A.daSb n := by
  unfold k0_pay69
  rw [duSb_real]
  exact back_real (f := rowsAt A.duSb n) A.wsb

theorem daHg_real : k0_pay72 (F := Ideal) (X).duHg (X).whg = blk A.daHg n := by
  unfold k0_pay72
  rw [duHg_real]
  exact back_real (f := rowsAt A.duHg n) A.whg

theorem dSbo_real : k0_pay70 (F := Ideal) (k0_pay6 (X).zsb) (X).duSb (X).wsb = blk A.dSbo n := by
  unfold k0_pay70
  rw [daSb_real, silu1_real]
  funext i
  pointwise [blk, sheet]
  rw [← EReal.coe_mul]
  rfl

theorem dZsb_real : k0_pay71 (F := Ideal) (X).zsb (X).sbo (k0_pay5 (X).zsb) (X).duSb (X).wsb = blk A.dZsb n := by
  unfold k0_pay71
  rw [daSb_real, show k0_pay5 (F := Ideal) (X).zsb = blk (fun t c => sg (A.zsb t c)) n from pay5_real (f := rowsAt A.zsb n)]
  funext i
  pointwise [real, blk, sheet]
  rw [show (1 : EReal) = ((1 : ℝ) : EReal) from rfl]
  simp only [← EReal.coe_mul, ← EReal.coe_sub, ← EReal.coe_add]
  rfl

theorem dHz_real : k0_pay74 (F := Ideal) (X).hn (X).hz (k0_pay42 (k0_pay40 (X).hz) k0_pay41) (X).duHg (X).whg = blk A.dHz n := by
  unfold k0_pay74
  rw [daHg_real, sg2_real, hn_real]
  funext i
  pointwise [real, blk, sheet]
  rw [show (1 : EReal) = ((1 : ℝ) : EReal) from rfl]
  simp only [← EReal.coe_mul, ← EReal.coe_sub, ← EReal.coe_add]
  rfl

theorem dHn_real : (X).dHn = blk A.dHn n := by
  unfold Rows.dHn k0_pay73
  rw [daHg_real, silu2_real]
  funext i
  pointwise [blk, sheet]
  rw [← EReal.coe_mul]
  rfl

theorem dYn_real : k0_pay78 (F := Ideal) (k0_pay9 (X).hgn) (X).dHn = blk A.dYn n := by
  unfold k0_pay78
  rw [dHn_real]
  funext i
  pointwise [k0_pay9, real, line, blk, sheet]
  rw [← EReal.coe_mul]
  rfl

/-- The gradient times the normed rows, whose heads' means are taken. -/
theorem prod_real : k0_pay79 (F := Ideal) (k0_pay9 (X).hgn) (X).ynHg (X).dHn = blk (fun t c => A.dYn t c * A.yn t c) n := by
  unfold k0_pay79
  rw [dYn_real, ynHg_real]
  funext i
  pointwise [blk, sheet]
  rw [← EReal.coe_mul]

/-- A head's mean, spread over its columns; the body spells it once a head. -/
def meanOf (v : FVec Ideal S256x128 .f32) : FVec Ideal S256x128 .f32 :=
  broadcastTo S256x128 (shapeCast S256x1 (divf (shapeCast S256x1 (multiReduction (F := Ideal) (φ := .f32) .add [1] S256 v 0x00000000#32 reduces_S256x128_S256 (.inl rfl) rfl) shapeCasts_S256_S256x1 : FVec Ideal S256x1 .f32)
    (broadcast S256x1 (Scalar.ofBits .f32 0x43000000#32))) shapeCasts_S256x1_S256x1) broadcasts_S256x1_S256x128

theorem meanOf_real (f : ℕ → ℕ → ℝ) : meanOf (part f) = part fun r _ => (∑ e ∈ range 128, f r e) / 128 := by
  funext i
  pointwise [meanOf, part]
  simp only [zero_eq, sum_num (fun k => f (i 0).val k), n128_eq, div_real _ (show (128 : ℝ) ≠ 0 by norm_num)]

/-- A head's mean of the product. -/
def meanAt (h : ℕ) : FVec Ideal S256x128 .f32 := part fun r _ => A.mnH (256 * n + r) h

theorem mean_real (o h : ℕ) (ho : o = 128 * h) (hs : S256x1024.Slices ![0, o] S256x128) :
    meanOf (extractStridedSlice S256x128 ![0, o] (blk (fun t c => A.dYn t c * A.yn t c) n) hs) = meanAt A n h := by
  subst ho
  exact (congrArg meanOf (slice_real (f := rowsAt (fun t c => A.dYn t c * A.yn t c) n) _ hs)).trans (meanOf_real _)

theorem means_real :
    k0_pay80 (F := Ideal) (k0_pay9 (X).hgn) (X).ynHg (X).dHn = meanAt A n 0 ∧ k0_pay81 (F := Ideal) (k0_pay9 (X).hgn) (X).ynHg (X).dHn = meanAt A n 1
      ∧ k0_pay82 (F := Ideal) (k0_pay9 (X).hgn) (X).ynHg (X).dHn = meanAt A n 2 ∧ k0_pay83 (F := Ideal) (k0_pay9 (X).hgn) (X).ynHg (X).dHn = meanAt A n 3
      ∧ k0_pay84 (F := Ideal) (k0_pay9 (X).hgn) (X).ynHg (X).dHn = meanAt A n 4 := by
  unfold k0_pay80 k0_pay81 k0_pay82 k0_pay83 k0_pay84
  rw [prod_real]
  exact ⟨mean_real A n 0 0 rfl slices_S256x1024_o0_0_S256x128, mean_real A n 128 1 rfl slices_S256x1024_o0_128_S256x128, mean_real A n 256 2 rfl slices_S256x1024_o0_256_S256x128,
    mean_real A n 384 3 rfl slices_S256x1024_o0_384_S256x128, mean_real A n 512 4 rfl slices_S256x1024_o0_512_S256x128⟩

theorem dHgo_real : (X).dHgo = blk A.dHgo n := by
  obtain ⟨h0, h1, h2, h3, h4⟩ := means_real A n
  have key : ∀ a b c : FVec Ideal S256x128 .f32, a = meanAt A n 5 → b = meanAt A n 6 → c = meanAt A n 7 →
      truncf (F := Ideal) (φ := .f32) .bf16 (mulf (F := Ideal) (φ := .f32) (blk (fun t c => A.rH t (c / 128)) n) (subf (F := Ideal) (φ := .f32) (blk A.dYn n) (mulf (F := Ideal) (φ := .f32) (blk A.yn n)
        (concatenate (α := Ideal .f32) S256x1024 1 [⟨S256x128, meanAt A n 0⟩, ⟨S256x128, meanAt A n 1⟩, ⟨S256x128, meanAt A n 2⟩, ⟨S256x128, meanAt A n 3⟩, ⟨S256x128, meanAt A n 4⟩, ⟨S256x128, a⟩, ⟨S256x128, b⟩, ⟨S256x128, c⟩]
          concatenates_S256x128_S256x128_S256x128_S256x128_S256x128_S256x128_S256x128_S256x128_S256x1024_d1)))) bitsLt_bf16_f32 = blk A.dHgo n := by
    intro a b c ha hb hc
    rw [show concatenate (α := Ideal .f32) S256x1024 1 [⟨S256x128, meanAt A n 0⟩, ⟨S256x128, meanAt A n 1⟩, ⟨S256x128, meanAt A n 2⟩, ⟨S256x128, meanAt A n 3⟩, ⟨S256x128, meanAt A n 4⟩, ⟨S256x128, a⟩, ⟨S256x128, b⟩, ⟨S256x128, c⟩]
      concatenates_S256x128_S256x128_S256x128_S256x128_S256x128_S256x128_S256x128_S256x128_S256x1024_d1 = _ from concat_last (fun h r _ => A.mnH (256 * n + r) h) a b c ha hb hc]
    funext i
    pointwise [blk, sheet]
    rw [← EReal.coe_mul, ← EReal.coe_sub, ← EReal.coe_mul]
    rfl
  unfold Rows.dHgo
  rw [h0, h1, h2, h3, h4, dYn_real, prod_real, rHg_real, ynHg_real]
  refine key _ _ _ ?_ (mean_real A n 768 6 rfl slices_S256x1024_o0_768_S256x128) (mean_real A n 896 7 rfl slices_S256x1024_o0_896_S256x128)
  rw [← ynHg_real]
  unfold k0_pay85
  rw [prod_real]
  exact mean_real A n 640 5 rfl slices_S256x1024_o0_640_S256x128

end Cert.KernelMidIdeal.Mid

end
-- ==== Proof.Mid.Sums.lean ====
/-
The four sums over rows of real arguments: after `n` points, the sums over the first `256 n` rows.
-/
module

public import proofs.«01_k».proof.Proof.Mid.Backward

@[expose] public section

set_option maxRecDepth 16384
set_option maxHeartbeats 1000000

noncomputable section

namespace Cert.KernelMidIdeal.Mid

open Idealize.ShloMosaic Cert.KernelMidIdeal Cert.KernelMidIdeal.Gen Cert.Common Cert.Stick Cert.Merge Finset

variable (A : Args) (n : ℕ)

local notation "X" => real A n

theorem line_sum (f : ℕ → ℕ → ℝ) :
    (shapeCast S1x1024 (multiReduction (F := Ideal) (φ := .f32) .add [0] S1024 (sheet f) 0x00000000#32 reduces_S256x1024_S1024 (.inl rfl) rfl) shapeCasts_S1024_S1x1024 : FVec Ideal S1x1024 .f32)
      = line fun c => ∑ r ∈ range 256, f r c := by
  funext i
  pointwise [sheet, line]
  simp only [zero_eq, sum_num (fun r => f r (i 1).val)]

theorem line_add (f g : ℕ → ℝ) : addf (F := Ideal) (φ := .f32) (line f) (line g) = line fun c => f c + g c := by
  funext i
  pointwise [line]
  rw [← EReal.coe_add]

theorem cast_line (f : ℕ → ℝ) : shapeCast (α := Ideal .f32) S1x1024 (line f) shapeCasts_S1x1024_S1x1024 = line f := by
  funext i
  pointwise [line]

/-- Another 256 rows. -/
theorem sum_rows (f : ℕ → ℝ) : ∑ t ∈ range (256 * n), f t + ∑ r ∈ range 256, f (256 * n + r) = ∑ t ∈ range (256 * (n + 1)), f t := by
  rw [Nat.mul_succ, sum_range_add]

/-- The sum of all entries, as the body takes it. -/
theorem total_real (f : ℕ → ℕ → ℝ) :
    (multiReduction (F := Ideal) (φ := .f32) .add [1, 2] S1 (shapeCast (α := Ideal .f32) S1x256x1024 (sheet f) shapeCasts_S256x1024_S1x256x1024) 0x00000000#32 reduces_S1x256x1024_S1 (.inl rfl) rfl : FVec Ideal S1 .f32)
      = fun _ => ((∑ r ∈ range 256, ∑ c ∈ range 1024, f r c : ℝ) : EReal) := by
  funext i
  pointwise [sheet]
  exact (sum_congr rfl fun (r : Fin 256) _ => sum_num (n := 1024) fun c => f r.val c).trans (sum_num (n := 256) fun r => ∑ c ∈ range 1024, f r c)

theorem loss_real (x : ℝ) : k0_pay55 (F := Ideal) (X).yn2 (X).fg (X).tgt (one x) = one (x + 1 / 2048 * ∑ r ∈ range 256, A.lossOf (256 * n + r)) := by
  have hm : mulf (F := Ideal) (φ := .f32) (blk A.diff n) (blk A.diff n) = sheet fun r c => A.diff (256 * n + r) c * A.diff (256 * n + r) c := by
    funext i
    pointwise [blk, sheet]
    rw [← EReal.coe_mul]
  unfold k0_pay55
  rw [diff_real]
  dsimp only
  rw [hm, total_real]
  funext i
  pointwise [one]
  rw [inv2048_eq, ← EReal.coe_mul, ← EReal.coe_add]
  rfl

theorem fg_real (f : ℕ → ℝ) : k0_pay57 (F := Ideal) (X).yn2 (X).fg (X).tgt (line f) = line fun c => f c + ∑ r ∈ range 256, A.fgOf (256 * n + r) c := by
  have hm : mulf (F := Ideal) (φ := .f32) (blk A.dyf n) (blk A.yn2 n) = sheet (rowsAt A.fgOf n) := by
    funext i
    pointwise [blk, sheet]
    rw [← EReal.coe_mul]
    rfl
  unfold k0_pay57
  rw [dyf_real, yn2_real]
  dsimp only
  rw [hm, line_sum, cast_line, line_add]
  rfl

theorem gain_real (f : ℕ → ℝ) :
    k0_pay77 (F := Ideal) (k0_pay75 (line f)) (k0_pay76 (X).ynHg (k0_pay43 (X).hz (k0_pay40 (X).hz) k0_pay41) (X).duHg (X).whg)
      = line fun c => f c + ∑ r ∈ range 256, A.gainOf (256 * n + r) c := by
  have hm : mulf (F := Ideal) (φ := .f32) (blk A.dHn n) (blk A.yn n) = sheet (rowsAt A.gainOf n) := by
    funext i
    pointwise [blk, sheet]
    rw [← EReal.coe_mul]
    rfl
  unfold k0_pay77 k0_pay75 k0_pay76
  rw [show k0_pay73 (F := Ideal) (k0_pay43 (X).hz (k0_pay40 (X).hz) k0_pay41) (X).duHg (X).whg = _ from dHn_real A n, ynHg_real]
  dsimp only
  rw [hm, line_sum, cast_line, line_add]
  rfl

theorem left_real (f : ℕ → ℝ) :
    k0_pay67 (F := Ideal) (X).uSb (X).gSb (X).dOut (X).wout (line f) = line fun c => f c + ∑ r ∈ range 256, A.dgSb (256 * n + r) c := by
  unfold k0_pay67
  rw [dgSb_real]
  dsimp only
  rw [show blk A.dgSb n = sheet (rowsAt A.dgSb n) from rfl, line_sum, cast_line, line_add]
  rfl

theorem right_real (f : ℕ → ℝ) :
    k0_pay68 (F := Ideal) (X).uHg (X).gHg (X).dOut (X).wout (line f) = line fun c => f c + ∑ r ∈ range 256, A.dgHg (256 * n + r) c := by
  unfold k0_pay68
  rw [dgHg_real]
  dsimp only
  rw [show blk A.dgHg n = sheet (rowsAt A.dgHg n) from rfl, line_sum, cast_line, line_add]
  rfl

/-- The gate's bias gets both halves' sums. -/
theorem bias_real (f : ℕ → ℝ) :
    (X).bgBoth (wline f) = wline fun c => f c + if c < 1024 then ∑ r ∈ range 256, A.dgSb (256 * n + r) c else ∑ r ∈ range 256, A.dgHg (256 * n + r) (c - 1024) := by
  have hl : VecWindow.window (wline f) ![0, 0] S1x1024.size inb_S1x2048_S1x1024_0_0 = line f := by
    funext z
    simp [VecWindow.window, wline, line]
  have hr : VecWindow.window ((X).bgLeft (wline f)) ![0, 1024] S1x1024.size inb_S1x2048_S1x1024_0_1024 = line fun c => f (1024 + c) := by
    funext z
    simp [VecWindow.window, Rows.bgLeft, VecWindow.put, wline, line, Fin.forall_fin_two, S1x1024]
  unfold Rows.bgBoth
  rw [hr, right_real]
  unfold Rows.bgLeft
  rw [hl, left_real]
  funext z
  have h0 : (z 0).val < 1 := (z 0).isLt
  have h1 : (z 1).val < 2048 := (z 1).isLt
  unfold VecWindow.put
  by_cases p : (z 1).val < 1024 <;> simp [Fin.forall_fin_two, S1x1024, line, wline, p]
  · rw [if_neg (by omega), if_pos (by omega)]
  · rw [if_pos (by omega), show 1024 + ((z 1).val - 1024) = (z 1).val by omega]

/-- The sums over the first `256 n` rows. -/
def sumReal : Sums Ideal where
  loss := one (1 / 2048 * ∑ t ∈ range (256 * n), A.lossOf t)
  fg := line fun c => ∑ t ∈ range (256 * n), A.fgOf t c
  bg := wline fun c => if c < 1024 then ∑ t ∈ range (256 * n), A.dgSb t c else ∑ t ∈ range (256 * n), A.dgHg t (c - 1024)
  hgn := line fun c => ∑ t ∈ range (256 * n), A.gainOf t c

theorem add_real : (X).add (sumReal A n) = sumReal A (n + 1) := by
  unfold Rows.add
  simp only [sumReal, loss_real, fg_real, gain_real, bias_real, ← sum_rows, ← mul_add, Sums.mk.injEq, true_and, and_true]
  refine congrArg wline (funext fun c => ?_)
  split_ifs <;> rfl

theorem zero_real : (⟨k0_pay1 (F := Ideal), k0_pay2 (F := Ideal), k0_pay3 (F := Ideal), k0_pay4 (F := Ideal)⟩ : Sums Ideal) = sumReal A 0 := by
  simp only [sumReal, mul_zero, range_zero, sum_empty, ite_self, Sums.mk.injEq]
  refine ⟨?_, ?_, ?_, ?_⟩ <;> funext i <;> pointwise [k0_pay1, k0_pay2, k0_pay3, k0_pay4, one, line, wline] <;> rfl

end Cert.KernelMidIdeal.Mid

end
-- ==== Proof.Mid.Host.lean ====
/-
The arguments of the merge, of reals, as the host's arrays.
-/
module

public import proofs.«01_k».proof.Proof.Gen.ReferenceMidIdeal.Read
public import proofs.«01_k».proof.Proof.Common.Merge

@[expose] public section

set_option maxRecDepth 16384

noncomputable section

namespace Cert.ReferenceMidIdeal.Mid

open Idealize.ShloMosaic Cert.ReferenceMidIdeal Cert.ReferenceMidIdeal.Gen Cert.Common Cert.Merge

/-- Arrays of reals: the projections, one branch's rows, a weight; the gate's bias, the heads' scale and the last norm's. -/
def proj (f : ℕ → ℕ → ℝ) : S8192x10240.Idx → EReal := fun i => ((f (i 0).val (i 1).val : ℝ) : EReal)
def tall (f : ℕ → ℕ → ℝ) : S8192x1024.Idx → EReal := fun i => ((f (i 0).val (i 1).val : ℝ) : EReal)
def weight (f : ℕ → ℕ → ℝ) : S1024x1024.Idx → EReal := fun i => ((f (i 0).val (i 1).val : ℝ) : EReal)
def bias (f : ℕ → ℝ) : S1x2048.Idx → EReal := fun i => ((f (i 1).val : ℝ) : EReal)
def scales (f : ℕ → ℝ) : S1x8x128.Idx → EReal := fun i => ((f (128 * (i 1).val + (i 2).val) : ℝ) : EReal)
def scale1 (f : ℕ → ℝ) : S1024.Idx → EReal := fun i => ((f (i 0).val : ℝ) : EReal)

/-- The arguments that read the projections `p`. -/
def argsOf (p sbo hgo x tgt : ℕ → ℕ → ℝ) (bg gain fg : ℕ → ℝ) (wsb whg wout : ℕ → ℕ → ℝ) : Args where
  zsb t c := p t (3072 + c)
  hz t c := p t (7168 + c)
  gl t c := p t (8192 + c)
  sbo := sbo
  hgo := hgo
  x := x
  tgt := tgt
  bg := bg
  gain := gain
  fg := fg
  wsb := wsb
  whg := whg
  wout := wout

end Cert.ReferenceMidIdeal.Mid

end
-- ==== Proof.Mid.Points.lean ====
/-
The merge's blocks and sums over the reals: each point is handed its 256 rows, and the sums hold the rows so far.
-/
module

public import proofs.«01_k».proof.Proof.Mid.Frame
public import proofs.«01_k».proof.Proof.Mid.Sums
public import proofs.«01_k».proof.Proof.Mid.Host
public import Idealize.ShloMosaic.Lib.Pipeline.Value
public import Idealize.ShloMosaic.Lib.Pipeline.ValueKit.Basic
public import Idealize.ShloMosaic.Lib.Pipeline.ValueKit
public import Idealize.ShloMosaic.Lib.StableHlo.RunRead

@[expose] public section

set_option maxRecDepth 16384
set_option maxHeartbeats 1000000

noncomputable section

namespace Cert.KernelMidIdeal.Mid

open Idealize.ShloMosaic Idealize.ShloMosaic.TcCoe Idealize.SL.Sem Cert.KernelMidIdeal Cert.KernelMidIdeal.Gen Cert.Common Cert.Stick Cert.Merge Finset
open Cert.ReferenceMidIdeal.Mid (proj tall weight bias scales scale1 argsOf)

variable (m : (ℓ : Loc nD τ sig) → Buf (Elt Ideal) ℓ) (c : Dev nD)

/-- The scales and weights as the launch finds them. -/
theorem V_v0 : V m c main_v0 = shapeCast S1x1024 (m ((c : Thread nD τ).loc main_arg6)) shapeCasts_S1x8x128_S1x1024 := by
  unfold V
  after_reads_simp
  rfl

theorem V_v1 : V m c main_v1 = shapeCast S1x1024 (m ((c : Thread nD τ).loc main_arg7)) shapeCasts_S1024_S1x1024 := by
  unfold V
  after_reads_simp
  rfl

theorem V_v2 : V m c main_v2 = m ((c : Thread nD τ).loc main_arg8) := by
  unfold V
  after_reads_simp
  rfl

theorem V_v3 : V m c main_v3 = m ((c : Thread nD τ).loc main_arg9) := by
  unfold V
  after_reads_simp
  rfl

theorem V_v4 : V m c main_v4 = m ((c : Thread nD τ).loc main_arg10) := by
  unfold V
  after_reads_simp
  rfl

/-- The input blocks' places in their arrays. -/
theorem places (t : Fin cfg0.N) :
    (win0_0.index t 0 = t.val ∧ win0_0.index t 1 = 3) ∧ (win0_1.index t 0 = t.val ∧ win0_1.index t 1 = 7) ∧ (win0_2.index t 0 = t.val ∧ win0_2.index t 1 = 4)
    ∧ (win0_3.index t 0 = t.val ∧ win0_3.index t 1 = 0) ∧ (win0_4.index t 0 = t.val ∧ win0_4.index t 1 = 0) ∧ (win0_5.index t 0 = t.val ∧ win0_5.index t 1 = 0)
    ∧ (win0_6.index t 0 = t.val ∧ win0_6.index t 1 = 0) := by
  revert t
  decide +kernel

theorem places_whole (t : Fin cfg0.N) :
    (win0_7.index t 0 = 0 ∧ win0_7.index t 1 = 0) ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0) ∧ (win0_12.index t 0 = 0 ∧ win0_12.index t 1 = 0) := by
  revert t
  decide +kernel

variable (p sbo hgo x tgt : ℕ → ℕ → ℝ) (bg gain fg : ℕ → ℝ) (wsb whg wout : ℕ → ℕ → ℝ)

/-- The memory holds the arguments. -/
structure Holds : Prop where
  a0 : m ((c : Thread nD τ).loc main_arg0) = proj p
  a1 : m ((c : Thread nD τ).loc main_arg1) = tall sbo
  a2 : m ((c : Thread nD τ).loc main_arg2) = tall hgo
  a3 : m ((c : Thread nD τ).loc main_arg3) = tall x
  a4 : m ((c : Thread nD τ).loc main_arg4) = tall tgt
  a5 : m ((c : Thread nD τ).loc main_arg5) = bias bg
  a6 : m ((c : Thread nD τ).loc main_arg6) = scales gain
  a7 : m ((c : Thread nD τ).loc main_arg7) = scale1 fg
  a8 : m ((c : Thread nD τ).loc main_arg8) = weight wsb
  a9 : m ((c : Thread nD τ).loc main_arg9) = weight whg
  a10 : m ((c : Thread nD τ).loc main_arg10) = weight wout

variable {m c p sbo hgo x tgt bg gain fg wsb whg wout}

theorem entry (f : ℕ → ℕ → ℝ) {a a' b b' : ℕ} (h : a = a') (h' : b = b') : ((f a b : ℝ) : EReal) = ((f a' b' : ℝ) : EReal) := by
  rw [h, h']

/-- The scales as one row. -/
theorem cast_scales (f : ℕ → ℝ) : shapeCast (α := Ideal .f32) S1x1024 (scales f) shapeCasts_S1x8x128_S1x1024 = line f := by
  funext i
  have h1 : (i 1).val < 1024 := (i 1).isLt
  pointwise [scales, line]
  refine entry (fun _ => f) (a := 0) rfl ?_
  omega

theorem cast_scale1 (f : ℕ → ℝ) : shapeCast (α := Ideal .f32) S1x1024 (scale1 f) shapeCasts_S1024_S1x1024 = line f := by
  funext i
  pointwise [scale1, line]

/-- A point's blocks are its rows of the arguments. -/
theorem rows_real (H : Holds m c p sbo hgo x tgt bg gain fg wsb whg wout) (t : Fin cfg0.N) :
    rows m c t = real (argsOf p sbo hgo x tgt bg gain fg wsb whg wout) t.val := by
  obtain ⟨e0, e1, e2, e3, e4, e5, e6⟩ := places t
  obtain ⟨w7, w8, w9, w10, w11, w12⟩ := places_whole t
  unfold rows real
  congr 1
  · funext j; unfold iblk; blk_simp [V_main_arg0 m c, H.a0]
    refine entry p ?_ ?_ <;> (blk_simp [e0.1, e0.2]; try omega)
  · funext j; unfold iblk; blk_simp [V_main_arg0 m c, H.a0]
    refine entry p ?_ ?_ <;> (blk_simp [e1.1, e1.2]; try omega)
  · funext j; unfold iblk; blk_simp [V_main_arg0 m c, H.a0]
    refine entry p ?_ ?_ <;> (blk_simp [e2.1, e2.2]; try omega)
  · funext j; unfold iblk; blk_simp [V_main_arg1 m c, H.a1]
    refine entry sbo ?_ ?_ <;> (blk_simp [e3.1, e3.2]; try omega)
  · funext j; unfold iblk; blk_simp [V_main_arg2 m c, H.a2]
    refine entry hgo ?_ ?_ <;> (blk_simp [e4.1, e4.2]; try omega)
  · funext j; unfold iblk; blk_simp [V_main_arg3 m c, H.a3]
    refine entry x ?_ ?_ <;> (blk_simp [e5.1, e5.2]; try omega)
  · funext j; unfold iblk; blk_simp [V_main_arg4 m c, H.a4]
    refine entry tgt ?_ ?_ <;> (blk_simp [e6.1, e6.2]; try omega)
  · funext j; unfold iblk; blk_simp [V_main_arg5 m c, H.a5]
    refine entry (fun _ => bg) (a := 0) rfl ?_; blk_simp [w7.2]
  · funext j; unfold iblk; blk_simp [V_v0 m c, H.a6]
    rw [cast_scales]
    refine entry (fun _ => gain) (a := 0) rfl ?_; blk_simp [w8.2]
  · funext j; unfold iblk; blk_simp [V_v1 m c, H.a7]
    rw [cast_scale1]
    refine entry (fun _ => fg) (a := 0) rfl ?_; blk_simp [w9.2]
  · funext j; unfold iblk; blk_simp [V_v2 m c, H.a8]
    refine entry wsb ?_ ?_ <;> (blk_simp [w10.1, w10.2]; try omega)
  · funext j; unfold iblk; blk_simp [V_v3 m c, H.a9]
    refine entry whg ?_ ?_ <;> (blk_simp [w11.1, w11.2]; try omega)
  · funext j; unfold iblk; blk_simp [V_v4 m c, H.a10]
    refine entry wout ?_ ?_ <;> (blk_simp [w12.1, w12.2]; try omega)

/-- The sums before a point are those over the rows before it. -/
theorem sums_real (H : Holds m c p sbo hgo x tgt bg gain fg wsb whg wout) : ∀ (n : ℕ) (h : n ≤ cfg0.N),
    sums m c n h = sumReal (argsOf p sbo hgo x tgt bg gain fg wsb whg wout) n
  | 0, _ => zero_real _
  | n + 1, h => by
    have hn : n < 32 := lt_of_lt_of_eq (Nat.lt_of_succ_le h) N_0
    have hc : cleared (grid0.coords ⟨n, h⟩) (sums m c n (Nat.le_of_lt h)) = sumReal (argsOf p sbo hgo x tgt bg gain fg wsb whg wout) n := by
      unfold cleared
      split_ifs with h0
      · have z : n = 0 := by have := (hcond0_0 ⟨n, h⟩).1 h0; dsimp only at this; omega
        subst z
        exact zero_real _
      · exact sums_real H n _
    show (rows m c ⟨n, h⟩).add (cleared (grid0.coords ⟨n, h⟩) (sums m c n (Nat.le_of_lt h))) = _
    rw [hc, rows_real H ⟨n, h⟩]
    exact add_real _ n

end Cert.KernelMidIdeal.Mid

end
-- ==== Proof.Mid.HostForward.lean ====
/-
The merge's forward pass, as the host's lines compute it, over the reals.
-/
module

public import proofs.«01_k».proof.Proof.Mid.Host

@[expose] public section

set_option maxRecDepth 16384

noncomputable section

namespace Cert.ReferenceMidIdeal.Mid

open Idealize.ShloMosaic Cert.ReferenceMidIdeal Cert.ReferenceMidIdeal.Gen Cert.ReferenceMidIdeal.Read Cert.Common Cert.Merge Cert.Stick Finset

/-! The operations on reals. -/

theorem add_num (a b : ℝ) : FloatOps.addf (F := Ideal) (φ := .f32) (a : EReal) (b : EReal) = ((a + b : ℝ) : EReal) := (EReal.coe_add a b).symm
theorem sub_num (a b : ℝ) : FloatOps.subf (F := Ideal) (φ := .f32) (a : EReal) (b : EReal) = ((a - b : ℝ) : EReal) := (EReal.coe_sub a b).symm
theorem mul_num (a b : ℝ) : FloatOps.mulf (F := Ideal) (φ := .f32) (a : EReal) (b : EReal) = ((a * b : ℝ) : EReal) := (EReal.coe_mul a b).symm
theorem neg_num (a : ℝ) : FloatOps.hostNegf (F := Ideal) (φ := .f32) (a : EReal) = ((-a : ℝ) : EReal) := (EReal.coe_neg a).symm
theorem div_num (a : ℝ) {b : ℝ} (h : b ≠ 0) : FloatOps.hostDivf (F := Ideal) (φ := .f32) (a : EReal) (b : EReal) = ((a / b : ℝ) : EReal) := div_real a h
theorem rsqrt_num {a : ℝ} (h : 0 < a) : FloatOps.hostUnary (F := Ideal) (φ := .f32) .rsqrt (a : EReal) = ((rs a : ℝ) : EReal) := rs_num h
theorem exp_num (a : ℝ) : FloatOps.hostUnary (F := Ideal) (φ := .f32) .exp (a : EReal) = ((Real.exp a : ℝ) : EReal) := Ideal.exp_coe a
theorem logistic_num (z : ℝ) : FloatOps.hostDivf (F := Ideal) (φ := .f32) ((1 : ℝ) : EReal) ((1 + Real.exp (-z) : ℝ) : EReal) = ((sg z : ℝ) : EReal) :=
  div_real 1 (sig_den (-z))

theorem lit0 : FloatOps.ofBits (F := Ideal) .f32 0x00000000#32 = ((0 : ℝ) : EReal) := by
  show Ideal.ofBits .f32 0x00000000#32 = _
  simp [Ideal.ofBits, Ideal.ieee]
theorem lit1 : FloatOps.ofBits (F := Ideal) .f32 0x3F800000#32 = ((1 : ℝ) : EReal) := by
  show Ideal.ofBits .f32 0x3F800000#32 = _
  simp [Ideal.ofBits, Ideal.ieee]; rw [← EReal.coe_mul]; norm_num
theorem lit2 : FloatOps.ofBits (F := Ideal) .f32 0x40000000#32 = ((2 : ℝ) : EReal) := by
  show Ideal.ofBits .f32 0x40000000#32 = _
  simp [Ideal.ofBits, Ideal.ieee]; rw [← EReal.coe_mul]; norm_num
theorem litH : FloatOps.ofBits (F := Ideal) .f32 0x3F000000#32 = ((1 / 2 : ℝ) : EReal) := by
  show Ideal.ofBits .f32 0x3F000000#32 = _
  simp [Ideal.ofBits, Ideal.ieee]; rw [← EReal.coe_mul]; norm_num
theorem litN : FloatOps.ofBits (F := Ideal) .f32 0xBF000000#32 = ((-(1 / 2) : ℝ) : EReal) := by
  show Ideal.ofBits .f32 0xBF000000#32 = _
  simp [Ideal.ofBits, Ideal.ieee]; rw [← EReal.coe_mul]; norm_num
theorem lit128 : FloatOps.ofBits (F := Ideal) .f32 0x43000000#32 = ((128 : ℝ) : EReal) := by
  show Ideal.ofBits .f32 0x43000000#32 = _
  simp [Ideal.ofBits, Ideal.ieee]; rw [← EReal.coe_mul]; norm_num
theorem lit1024 : FloatOps.ofBits (F := Ideal) .f32 0x44800000#32 = ((1024 : ℝ) : EReal) := by
  show Ideal.ofBits .f32 0x44800000#32 = _
  simp [Ideal.ofBits, Ideal.ieee]; rw [← EReal.coe_mul]; norm_num
theorem litE : FloatOps.ofBits (F := Ideal) .f32 0x358637BD#32 = ((eps : ℝ) : EReal) := eps_eq

theorem div128 (a : ℝ) : FloatOps.hostDivf (F := Ideal) (φ := .f32) (a : EReal) ((128 : ℝ) : EReal) = ((a / 128 : ℝ) : EReal) := div_num a (by norm_num)
theorem div1024 (a : ℝ) : FloatOps.hostDivf (F := Ideal) (φ := .f32) (a : EReal) ((1024 : ℝ) : EReal) = ((a / 1024 : ℝ) : EReal) := div_num a (by norm_num)

/-- A sum from nought. -/
theorem sum0_num {n : ℕ} (f : ℕ → ℝ) : ((0 : ℝ) : EReal) + ∑ k : Fin n, ((f k.val : ℝ) : EReal) = ((∑ k ∈ range n, f k : ℝ) : EReal) := by
  rw [EReal.coe_zero, zero_add, sum_num]

/-! Arrays of reals: by heads, a number per head, gates, a number per row. -/

def heads (f : ℕ → ℕ → ℝ) : S8192x8x128.Idx → EReal := fun i => ((f (i 0).val (128 * (i 1).val + (i 2).val) : ℝ) : EReal)
def perHead (f : ℕ → ℕ → ℝ) : S8192x8.Idx → EReal := fun i => ((f (i 0).val (i 1).val : ℝ) : EReal)
def perHead1 (f : ℕ → ℕ → ℝ) : S8192x8x1.Idx → EReal := fun i => ((f (i 0).val (i 1).val : ℝ) : EReal)
def gates (f : ℕ → ℕ → ℝ) : S8192x2048.Idx → EReal := fun i => ((f (i 0).val (i 1).val : ℝ) : EReal)
def perRow (f : ℕ → ℝ) : S8192.Idx → EReal := fun i => ((f (i 0).val : ℝ) : EReal)
def perRow1 (f : ℕ → ℝ) : S8192x1.Idx → EReal := fun i => ((f (i 0).val : ℝ) : EReal)

/-- The columns that are read. -/
def Reads (A : Args) (p : ℕ → ℕ → ℝ) : Prop :=
  (∀ t c, p t (3072 + c) = A.zsb t c) ∧ (∀ t c, p t (7168 + c) = A.hz t c) ∧ ∀ t c, p t (8192 + c) = A.gl t c

variable (A : Args) (p : ℕ → ℕ → ℝ)

/-- Equal reals, as entries. -/
theorem entry {a b : ℝ} (h : a = b) : (a : EReal) = (b : EReal) := congrArg _ h

theorem v1_real (h : Reads A p) : val_main_v1 (F := Ideal) (proj p) = tall A.zsb := by
  funext i
  rw [val_main_v1_apply]
  refine entry (Eq.trans (congrArg₂ p ?_ ?_) (h.1 _ _)) <;> dsimp only <;> omega

theorem v2_real (h : Reads A p) : val_main_v2 (F := Ideal) (proj p) = tall A.hz := by
  funext i
  rw [val_main_v2_apply]
  refine entry (Eq.trans (congrArg₂ p ?_ ?_) (h.2.1 _ _)) <;> dsimp only <;> omega

theorem v3_real (h : Reads A p) : val_main_v3 (F := Ideal) (proj p) = gates A.gl := by
  funext i
  rw [val_main_v3_apply]
  refine entry (Eq.trans (congrArg₂ p ?_ ?_) (h.2.2 _ _)) <;> dsimp only <;> omega

theorem v4_2_real (h : Reads A p) : val_main_v4_2 (F := Ideal) (proj p) = tall (fun t c => sg (A.zsb t c)) := by
  funext i
  simp only [val_main_v4_2_apply, val_main_call0_v4_apply, val_main_call0_v3_apply, val_main_call0_v2_apply, val_main_call0_v1_apply, val_main_call0_v0_apply, val_main_call0_cst_apply, val_main_call0_cst_0_apply, v1_real A p h, tall, lit1, neg_num, exp_num, add_num, logistic_num]

theorem v4_1_real (h : Reads A p) : val_main_v4_1 (F := Ideal) (proj p) = tall (fun t c => sg (A.zsb t c) * (1 - sg (A.zsb t c))) := by
  funext i
  simp only [val_main_v4_1_apply, val_main_call0_v7_apply, val_main_call0_v6_apply, val_main_call0_cst_1_apply, v4_2_real A p h, tall, lit1, sub_num, mul_num]

theorem v4_0_real (h : Reads A p) : val_main_v4_0 (F := Ideal) (proj p) = tall A.silu1 := by
  funext i
  simp only [val_main_v4_0_apply, v4_2_real A p h, v1_real A p h, tall, mul_num]
  rfl

theorem v27_2_real (h : Reads A p) : val_main_v27_2 (F := Ideal) (proj p) = tall (fun t c => sg (A.hz t c)) := by
  funext i
  simp only [val_main_v27_2_apply, val_main_call1_v4_apply, val_main_call1_v3_apply, val_main_call1_v2_apply, val_main_call1_v1_apply, val_main_call1_v0_apply, val_main_call1_cst_apply, val_main_call1_cst_0_apply, v2_real A p h, tall, lit1, neg_num, exp_num, add_num, logistic_num]

theorem v27_1_real (h : Reads A p) : val_main_v27_1 (F := Ideal) (proj p) = tall (fun t c => sg (A.hz t c) * (1 - sg (A.hz t c))) := by
  funext i
  simp only [val_main_v27_1_apply, val_main_call1_v7_apply, val_main_call1_v6_apply, val_main_call1_cst_1_apply, v27_2_real A p h, tall, lit1, sub_num, mul_num]

theorem v27_0_real (h : Reads A p) : val_main_v27_0 (F := Ideal) (proj p) = tall A.silu2 := by
  funext i
  simp only [val_main_v27_0_apply, v27_2_real A p h, v2_real A p h, tall, mul_num]
  rfl

theorem v0_real : val_main_v0 (F := Ideal)  = tall (fun _ _ => 0) := by
  funext i
  simp only [val_main_v0_apply, val_main_cst_apply, lit0, tall]

theorem v5_real (h : Reads A p) : val_main_v5 (F := Ideal) (proj p) (tall A.sbo) = tall A.aSb := by
  funext i
  simp only [val_main_v5_apply, v4_0_real A p h, tall, mul_num]
  rfl

theorem v7_real (h : Reads A p) : val_main_v7 (F := Ideal) (proj p) (tall A.sbo) (weight A.wsb) = tall A.uSb := by
  funext i
  simp only [val_main_v7_apply, val_main_v6_apply, v5_real A p h, v0_real, tall, weight, ← EReal.coe_mul]
  rw [sum_num (n := 1024) fun k => A.aSb (i 0).val k * A.wsb k (i 1).val, add_num, add_zero]
  rfl

theorem v8_real : val_main_v8 (F := Ideal) (tall A.hgo) = heads A.hgo := by
  funext i
  have h1 : (i 1).val < 8 := (i 1).isLt
  have h2 : (i 2).val < 128 := (i 2).isLt
  rw [val_main_v8_apply]
  refine entry (congrArg₂ A.hgo ?_ ?_) <;> dsimp only <;> omega

theorem v16_real : val_main_v16 (F := Ideal) (tall A.hgo) = perHead1 A.sqH := by
  funext i
  simp only [val_main_v16_apply, val_main_v14_apply, val_main_v12_apply, val_main_v11_apply, val_main_v10_apply, val_main_v13_apply, val_main_v15_apply, val_main_cst_0_apply, val_main_cst_1_apply, val_main_cst_2_apply, v8_real, heads, lit0, lit128, litE, mul_num]
  rw [sum0_num (n := 128) fun e => A.hgo (i 0).val (128 * (i 1).val + e) * A.hgo (i 0).val (128 * (i 1).val + e), div128, add_num]
  rfl

theorem v17_real : val_main_v17 (F := Ideal) (tall A.hgo) = perHead1 A.rH := by
  funext i
  simp only [val_main_v17_apply, v16_real, perHead1, rsqrt_num (A.sqH_pos _ _)]
  rfl

theorem v20_real : val_main_v20 (F := Ideal) (tall A.hgo) = perHead1 (fun t h => -(1 / 2) * (A.rH t h / A.sqH t h)) := by
  funext i
  simp only [val_main_v20_apply, val_main_v19_apply, val_main_v18_apply, val_main_cst_3_apply, v17_real, v16_real, perHead1, litN, div_num _ (A.sqH_pos _ _).ne', mul_num]

theorem v22_real : val_main_v22 (F := Ideal) (tall A.hgo) = heads A.yn := by
  funext i
  have h2 : (i 2).val < 128 := (i 2).isLt
  simp only [val_main_v22_apply, val_main_v21_apply, v8_real, v17_real, heads, perHead1, mul_num]
  refine entry (congrArg (A.hgo (i 0).val (128 * (i 1).val + (i 2).val) * ·) (congrArg (A.rH (i 0).val) ?_))
  omega

theorem v23_real : val_main_v23 (F := Ideal) (scales A.gain) = scales A.gain := by
  funext i
  have h1 : (i 1).val < 8 := (i 1).isLt
  have h2 : (i 2).val < 128 := (i 2).isLt
  rw [val_main_v23_apply, val_main_v9_apply]
  refine entry (congrArg A.gain ?_) <;> dsimp only <;> omega

theorem v25_real : val_main_v25 (F := Ideal) (tall A.hgo) (scales A.gain) = heads A.hn := by
  funext i
  simp only [val_main_v25_apply, val_main_v24_apply, v22_real, v23_real, heads, scales, mul_num]
  rfl

theorem v26_real : val_main_v26 (F := Ideal) (tall A.hgo) (scales A.gain) = tall A.hn := by
  funext i
  have h1 : (i 1).val < 1024 := (i 1).isLt
  rw [val_main_v26_apply, v25_real]
  refine entry (congrArg₂ A.hn ?_ ?_) <;> dsimp only <;> omega

theorem v28_real (h : Reads A p) : val_main_v28 (F := Ideal) (proj p) (tall A.hgo) (scales A.gain) = tall A.aHg := by
  funext i
  simp only [val_main_v28_apply, v26_real, v27_0_real A p h, tall, mul_num]
  rfl

theorem v30_real (h : Reads A p) : val_main_v30 (F := Ideal) (proj p) (tall A.hgo) (scales A.gain) (weight A.whg) = tall A.uHg := by
  funext i
  simp only [val_main_v30_apply, val_main_v29_apply, v28_real A p h, v0_real, tall, weight, ← EReal.coe_mul]
  rw [sum_num (n := 1024) fun k => A.aHg (i 0).val k * A.whg k (i 1).val, add_num, add_zero]
  rfl

theorem v33_real : val_main_v33 (F := Ideal) (bias A.bg) = gates (fun _ c => A.bg c) := by
  funext i
  have h1 : (i 1).val < 2048 := (i 1).isLt
  rw [val_main_v33_apply, val_main_v32_apply, val_main_v31_apply]
  refine entry (congrArg A.bg ?_) <;> dsimp only <;> omega

theorem v40_real (h : Reads A p) : val_main_v40 (F := Ideal) (proj p) (bias A.bg) = gates A.g := by
  funext i
  simp only [val_main_v40_apply, val_main_v39_apply, val_main_v38_apply, val_main_v37_apply, val_main_v36_apply, val_main_v35_apply, val_main_v34_apply, val_main_cst_4_apply, val_main_cst_5_apply, v3_real A p h, v33_real, gates, lit1, neg_num, exp_num, add_num, logistic_num]
  rfl

theorem v43_real (h : Reads A p) : val_main_v43 (F := Ideal) (proj p) (bias A.bg) = gates (fun t c => A.g t c * (1 - A.g t c)) := by
  funext i
  simp only [val_main_v43_apply, val_main_v42_apply, val_main_v41_apply, val_main_cst_6_apply, v40_real A p h, gates, lit1, sub_num, mul_num]

theorem v44_real (h : Reads A p) : val_main_v44 (F := Ideal) (proj p) (bias A.bg) = tall A.g := by
  funext i
  rw [val_main_v44_apply, v40_real A p h]
  rfl

theorem v46_real (h : Reads A p) : val_main_v46 (F := Ideal) (proj p) (bias A.bg) = tall (fun t c => A.g t (1024 + c)) := by
  funext i
  rw [val_main_v46_apply, v40_real A p h]
  refine entry (congrArg₂ A.g ?_ ?_) <;> dsimp only <;> omega

theorem v48_real (h : Reads A p) : val_main_v48 (F := Ideal) (proj p) (tall A.sbo) (tall A.hgo) (bias A.bg) (scales A.gain) (weight A.wsb) (weight A.whg) = tall A.y := by
  funext i
  simp only [val_main_v48_apply, val_main_v47_apply, val_main_v45_apply, v44_real A p h, v46_real A p h, v7_real A p h, v30_real A p h, tall, mul_num, add_num]
  rfl

theorem v50_real (h : Reads A p) : val_main_v50 (F := Ideal) (proj p) (tall A.sbo) (tall A.hgo) (tall A.x) (bias A.bg) (scales A.gain) (weight A.wsb) (weight A.whg) (weight A.wout) = tall A.out := by
  funext i
  simp only [val_main_v50_apply, val_main_v49_apply, v48_real A p h, tall, weight, ← EReal.coe_mul]
  rw [sum_num (n := 1024) fun k => A.y (i 0).val k * A.wout k (i 1).val, add_num]
  rfl

theorem v57_real (h : Reads A p) : val_main_v57 (F := Ideal) (proj p) (tall A.sbo) (tall A.hgo) (tall A.x) (bias A.bg) (scales A.gain) (weight A.wsb) (weight A.whg) (weight A.wout) = perRow1 A.sqO := by
  funext i
  simp only [val_main_v57_apply, val_main_v56_apply, val_main_v55_apply, val_main_v54_apply, val_main_v53_apply, val_main_v52_apply, val_main_v51_apply, val_main_cst_7_apply, val_main_cst_8_apply, val_main_cst_9_apply, v50_real A p h, tall, lit0, lit1024, litE, mul_num]
  rw [sum0_num (n := 1024) fun k => A.out (i 0).val k * A.out (i 0).val k, div1024, add_num]
  rfl

theorem v58_real (h : Reads A p) : val_main_v58 (F := Ideal) (proj p) (tall A.sbo) (tall A.hgo) (tall A.x) (bias A.bg) (scales A.gain) (weight A.wsb) (weight A.whg) (weight A.wout) = perRow1 A.rO := by
  funext i
  simp only [val_main_v58_apply, v57_real A p h, perRow1, rsqrt_num (A.sqO_pos _)]
  rfl

theorem v61_real (h : Reads A p) : val_main_v61 (F := Ideal) (proj p) (tall A.sbo) (tall A.hgo) (tall A.x) (bias A.bg) (scales A.gain) (weight A.wsb) (weight A.whg) (weight A.wout) = perRow1 (fun t => -(1 / 2) * (A.rO t / A.sqO t)) := by
  funext i
  simp only [val_main_v61_apply, val_main_v60_apply, val_main_v59_apply, val_main_cst_10_apply, v58_real A p h, v57_real A p h, perRow1, litN, div_num _ (A.sqO_pos _).ne', mul_num]

theorem v63_real (h : Reads A p) : val_main_v63 (F := Ideal) (proj p) (tall A.sbo) (tall A.hgo) (tall A.x) (bias A.bg) (scales A.gain) (weight A.wsb) (weight A.whg) (weight A.wout) = tall A.yn2 := by
  funext i
  simp only [val_main_v63_apply, val_main_v62_apply, v50_real A p h, v58_real A p h, tall, perRow1, mul_num]
  rfl

theorem v67_real (h : Reads A p) : val_main_v67 (F := Ideal) (proj p) (tall A.sbo) (tall A.hgo) (tall A.x) (tall A.tgt) (bias A.bg) (scales A.gain) (scale1 A.fg) (weight A.wsb) (weight A.whg) (weight A.wout) = tall A.diff := by
  funext i
  simp only [val_main_v67_apply, val_main_v66_apply, val_main_v65_apply, val_main_v64_apply, v63_real A p h, tall, scale1, mul_num, sub_num]
  rfl

end Cert.ReferenceMidIdeal.Mid

end
-- ==== Proof.Mid.HostBackward.lean ====
/-
The merge's gradients, as the host's lines compute them, over the reals, and the fourteen results.
-/
module

public import proofs.«01_k».proof.Proof.Mid.HostForward
public import Idealize.ShloMosaic.Lib.Pointwise

@[expose] public section

set_option maxRecDepth 16384

noncomputable section

namespace Cert.ReferenceMidIdeal.Mid

open Idealize.ShloMosaic Cert.ReferenceMidIdeal Cert.ReferenceMidIdeal.Gen Cert.ReferenceMidIdeal.Read Cert.Common Cert.Merge Cert.Stick Finset

/-- The gradient of a norm as the host writes it, a term for the row and two for its mean square, is the kernel's one term. -/
theorem norm_grad (r ms o d n : ℝ) (f g : ℕ → ℝ) (N : ℕ) (h : r * r = 1 / ms) :
    d * r + o * ((∑ k ∈ range N, f k * g k) * (-(1 / 2) * (r / ms)) / n) + (∑ k ∈ range N, f k * g k) * (-(1 / 2) * (r / ms)) / n * o
      = r * (d - o * r * ((∑ k ∈ range N, g k * (f k * r)) / n)) := by
  have e : ∑ k ∈ range N, g k * (f k * r) = (∑ k ∈ range N, f k * g k) * r := by
    rw [sum_mul]
    exact sum_congr rfl fun k _ => by ring
  rw [e, div_eq_mul_one_div r ms, ← h]
  ring

/-- The gates' gradients side by side, and all four gradients of the projections. -/
def dgl (A : Args) (t c : ℕ) : ℝ := if c < 1024 then A.dgSb t c else A.dgHg t (c - 1024)
def dAll (A : Args) (t c : ℕ) : ℝ := if c < 1024 then A.dZsb t c else if c < 2048 then A.dHz t (c - 1024) else dgl A t (c - 2048)

def allOf (f : ℕ → ℕ → ℝ) : S8192x4096.Idx → EReal := fun i => ((f (i 0).val (i 1).val : ℝ) : EReal)
def across (f : ℕ → ℕ → ℝ) : S1024x8192.Idx → EReal := fun i => ((f (i 1).val (i 0).val : ℝ) : EReal)
def line (f : ℕ → ℝ) : S1x1024.Idx → EReal := fun i => ((f (i 1).val : ℝ) : EReal)
def scale8 (f : ℕ → ℝ) : S8x128.Idx → EReal := fun i => ((f (128 * (i 0).val + (i 1).val) : ℝ) : EReal)

variable (A : Args) (p : ℕ → ℕ → ℝ)

theorem v81_real (h : Reads A p) : val_main_v81 (F := Ideal) (proj p) (tall A.sbo) (tall A.hgo) (tall A.x) (tall A.tgt) (bias A.bg) (scales A.gain) (scale1 A.fg) (weight A.wsb) (weight A.whg) (weight A.wout) = tall A.dyf := by
  funext i
  simp only [val_main_v81_apply, val_main_v80_apply, val_main_v79_apply, val_main_v78_apply, val_main_v77_apply, val_main_v76_apply, val_main_v70_apply, val_main_v69_apply, val_main_cst_11_apply, val_main_cst_16_apply, val_main_cst_17_apply, val_main_cst_18_apply, v67_real A p h, tall, lit1, lit2, litH, lit1024, mul_num, div1024]
  refine entry ?_
  unfold Args.dyf
  ring

theorem v160_real (h : Reads A p) : val_main_v160 (F := Ideal) (proj p) (tall A.sbo) (tall A.hgo) (tall A.x) (tall A.tgt) (bias A.bg) (scales A.gain) (scale1 A.fg) (weight A.wsb) (weight A.whg) (weight A.wout) = line (fun c => ∑ t ∈ range 8192, A.fgOf t c) := by
  funext i
  simp only [val_main_v160_apply, val_main_v87_apply, val_main_v84_apply, val_main_v83_apply, val_main_v82_apply, val_main_cst_19_apply, val_main_cst_20_apply, v81_real A p h, v63_real A p h, tall, lit0, mul_num]
  simp only [Fin.sum_univ_one]
  rw [sum0_num (n := 8192) fun t => A.yn2 t _ * A.dyf t _, EReal.coe_zero, zero_add]
  refine entry (sum_congr rfl fun t _ => ?_)
  have h0 : (i 0).val < 1 := (i 0).isLt
  unfold Args.fgOf
  rw [mul_comm]
  refine congrArg₂ (· * ·) (congrArg (A.dyf t) ?_) (congrArg (A.yn2 t) ?_) <;> simp only [Fin.val_zero] <;> omega

theorem v86_real (h : Reads A p) : val_main_v86 (F := Ideal) (proj p) (tall A.sbo) (tall A.hgo) (tall A.x) (tall A.tgt) (bias A.bg) (scales A.gain) (scale1 A.fg) (weight A.wsb) (weight A.whg) (weight A.wout) = tall A.dyn := by
  funext i
  simp only [val_main_v86_apply, val_main_v85_apply, val_main_v64_apply, v81_real A p h, tall, scale1, mul_num]
  rfl

theorem v97_real (h : Reads A p) :
    val_main_v97 (F := Ideal) (proj p) (tall A.sbo) (tall A.hgo) (tall A.x) (tall A.tgt) (bias A.bg) (scales A.gain) (scale1 A.fg) (weight A.wsb) (weight A.whg) (weight A.wout) = tall (fun t _ => (∑ k ∈ range 1024, A.out t k * A.dyn t k) * (-(1 / 2) * (A.rO t / A.sqO t)) / 1024) := by
  funext i
  simp only [val_main_v97_apply, val_main_v96_apply, val_main_v95_apply, val_main_v94_apply, val_main_v93_apply, val_main_v90_apply, val_main_v89_apply, val_main_v88_apply, val_main_cst_21_apply, val_main_cst_22_apply, val_main_cst_23_apply, v86_real A p h, v50_real A p h, v61_real A p h, tall, perRow1, lit0, lit1024, mul_num]
  simp only [Fin.sum_univ_one]
  rw [sum0_num (n := 1024) fun k => A.out _ k * A.dyn _ k, mul_num, div1024, EReal.coe_zero, zero_add]
  have e : (i 0).val * 1 + (0 : Fin 1).val = (i 0).val := by simp only [Fin.val_zero]; omega
  simp only [e]

theorem v101_real (h : Reads A p) : val_main_v101 (F := Ideal) (proj p) (tall A.sbo) (tall A.hgo) (tall A.x) (tall A.tgt) (bias A.bg) (scales A.gain) (scale1 A.fg) (weight A.wsb) (weight A.whg) (weight A.wout) = tall A.dOut := by
  funext i
  simp only [val_main_v101_apply, val_main_v100_apply, val_main_v99_apply, val_main_v98_apply, val_main_v92_apply, val_main_v91_apply, v86_real A p h, v50_real A p h, v58_real A p h, v97_real A p h, tall, perRow1, mul_num, add_num]
  exact entry (norm_grad (A.rO _) (A.sqO _) _ _ 1024 (A.out _) (A.dyn _) 1024 (rs_sq (A.sqO_pos _)))

theorem v102_real (h : Reads A p) : val_main_v102 (F := Ideal) (proj p) (tall A.sbo) (tall A.hgo) (tall A.x) (tall A.tgt) (bias A.bg) (scales A.gain) (scale1 A.fg) (weight A.wsb) (weight A.whg) (weight A.wout) = tall A.dy := by
  funext i
  simp only [val_main_v102_apply, v101_real A p h, tall, weight, ← EReal.coe_mul]
  exact sum_num (n := 1024) fun k => A.dOut (i 0).val k * A.wout (i 1).val k

theorem v103_real (h : Reads A p) : val_main_v103 (F := Ideal) (proj p) (tall A.sbo) (tall A.hgo) (tall A.x) (tall A.tgt) (bias A.bg) (scales A.gain) (scale1 A.fg) (weight A.wsb) (weight A.whg) (weight A.wout) = tall A.duHg := by
  funext i
  simp only [val_main_v103_apply, v46_real A p h, v102_real A p h, tall, mul_num]
  exact entry (mul_comm _ _)

theorem v106_real (h : Reads A p) : val_main_v106 (F := Ideal) (proj p) (tall A.sbo) (tall A.hgo) (tall A.x) (tall A.tgt) (bias A.bg) (scales A.gain) (scale1 A.fg) (weight A.wsb) (weight A.whg) (weight A.wout) = tall A.duSb := by
  funext i
  simp only [val_main_v106_apply, v44_real A p h, v102_real A p h, tall, mul_num]
  exact entry (mul_comm _ _)

theorem v104_real (h : Reads A p) : val_main_v104 (F := Ideal) (proj p) (tall A.sbo) (tall A.hgo) (tall A.x) (tall A.tgt) (bias A.bg) (scales A.gain) (scale1 A.fg) (weight A.wsb) (weight A.whg) (weight A.wout) = tall (fun t c => A.dy t c * A.uHg t c) := by
  funext i
  simp only [val_main_v104_apply, v30_real A p h, v102_real A p h, tall, mul_num]

theorem v107_real (h : Reads A p) : val_main_v107 (F := Ideal) (proj p) (tall A.sbo) (tall A.hgo) (tall A.x) (tall A.tgt) (bias A.bg) (scales A.gain) (scale1 A.fg) (weight A.wsb) (weight A.whg) (weight A.wout) = tall (fun t c => A.dy t c * A.uSb t c) := by
  funext i
  simp only [val_main_v107_apply, v7_real A p h, v102_real A p h, tall, mul_num]

theorem v105_real (h : Reads A p) : val_main_v105 (F := Ideal) (proj p) (tall A.sbo) (tall A.hgo) (tall A.x) (tall A.tgt) (bias A.bg) (scales A.gain) (scale1 A.fg) (weight A.wsb) (weight A.whg) (weight A.wout) = gates (fun t c => if c < 1024 then 0 else A.dy t (c - 1024) * A.uHg t (c - 1024)) := by
  unfold val_main_v105
  rw [v104_real A p h]
  funext i
  have h1 : (i 1).val < 2048 := (i 1).isLt
  have h0 : (i 0).val < 8192 := (i 0).isLt
  pointwise [tall, gates, val_main_cst_24]
  split_ifs <;> first | rfl | omega

theorem v108_real (h : Reads A p) : val_main_v108 (F := Ideal) (proj p) (tall A.sbo) (tall A.hgo) (tall A.x) (tall A.tgt) (bias A.bg) (scales A.gain) (scale1 A.fg) (weight A.wsb) (weight A.whg) (weight A.wout) = gates (fun t c => if c < 1024 then A.dy t c * A.uSb t c else 0) := by
  unfold val_main_v108
  rw [v107_real A p h]
  funext i
  have h1 : (i 1).val < 2048 := (i 1).isLt
  have h0 : (i 0).val < 8192 := (i 0).isLt
  pointwise [tall, gates, val_main_cst_25]
  split_ifs <;> rfl

theorem v110_real (h : Reads A p) : val_main_v110 (F := Ideal) (proj p) (tall A.sbo) (tall A.hgo) (tall A.x) (tall A.tgt) (bias A.bg) (scales A.gain) (scale1 A.fg) (weight A.wsb) (weight A.whg) (weight A.wout) = gates (dgl A) := by
  funext i
  simp only [val_main_v110_apply, val_main_v109_apply, v105_real A p h, v108_real A p h, v43_real A p h, gates, mul_num, add_num]
  refine entry ?_
  unfold dgl Args.dgSb Args.dgHg
  split_ifs with hc
  · rw [zero_add]
  · rw [add_zero, Nat.add_sub_cancel' (not_lt.1 hc)]

theorem v114_real (h : Reads A p) : val_main_v114 (F := Ideal) (proj p) (tall A.sbo) (tall A.hgo) (tall A.x) (tall A.tgt) (bias A.bg) (scales A.gain) (scale1 A.fg) (weight A.wsb) (weight A.whg) (weight A.wout) = bias (fun c => ∑ t ∈ range 8192, dgl A t c) := by
  funext i
  simp only [val_main_v114_apply, val_main_v113_apply, val_main_v112_apply, val_main_v111_apply, val_main_cst_26_apply, val_main_cst_27_apply, v110_real A p h, gates, lit0]
  simp only [Fin.sum_univ_one]
  rw [sum0_num (n := 8192) fun t => dgl A t _, EReal.coe_zero, zero_add]
  refine entry (sum_congr rfl fun t _ => congrArg (dgl A t) ?_)
  simp only [Fin.val_zero]
  omega

theorem v115_real (h : Reads A p) : val_main_v115 (F := Ideal) (proj p) (tall A.sbo) (tall A.hgo) (tall A.x) (tall A.tgt) (bias A.bg) (scales A.gain) (scale1 A.fg) (weight A.wsb) (weight A.whg) (weight A.wout) = tall A.daHg := by
  funext i
  simp only [val_main_v115_apply, v103_real A p h, tall, weight, ← EReal.coe_mul]
  exact sum_num (n := 1024) fun k => A.duHg (i 0).val k * A.whg (i 1).val k

theorem v118_real (h : Reads A p) : val_main_v118 (F := Ideal) (proj p) (tall A.sbo) (tall A.hgo) (tall A.x) (tall A.tgt) (bias A.bg) (scales A.gain) (scale1 A.fg) (weight A.wsb) (weight A.whg) (weight A.wout) = tall A.dHz := by
  funext i
  simp only [val_main_v118_apply, val_main_call2_v0_apply, val_main_call2_v1_apply, val_main_call2_v2_apply, val_main_v116_apply, v26_real, v115_real A p h, v2_real A p h, v27_1_real A p h, v27_2_real A p h, tall, mul_num, add_num]
  refine entry ?_
  unfold Args.dHz
  ring

theorem v119_real (h : Reads A p) : val_main_v119 (F := Ideal) (proj p) (tall A.sbo) (tall A.hgo) (tall A.x) (tall A.tgt) (bias A.bg) (scales A.gain) (scale1 A.fg) (weight A.wsb) (weight A.whg) (weight A.wout) = heads A.dHn := by
  funext i
  have h1 : (i 1).val < 8 := (i 1).isLt
  have h2 : (i 2).val < 128 := (i 2).isLt
  simp only [val_main_v119_apply, val_main_v117_apply, v115_real A p h, v27_0_real A p h, tall, mul_num]
  refine entry (congrArg₂ A.dHn ?_ ?_) <;> dsimp only <;> omega

theorem v161_real (h : Reads A p) : val_main_v161 (F := Ideal) (proj p) (tall A.sbo) (tall A.hgo) (tall A.x) (tall A.tgt) (bias A.bg) (scales A.gain) (scale1 A.fg) (weight A.wsb) (weight A.whg) (weight A.wout) = line (fun c => ∑ t ∈ range 8192, A.gainOf t c) := by
  funext i
  have h1 : (i 1).val < 1024 := (i 1).isLt
  simp only [val_main_v161_apply, val_main_v140_apply, val_main_v125_apply, val_main_v122_apply, val_main_v121_apply, val_main_v120_apply, val_main_cst_28_apply, val_main_cst_29_apply, v119_real A p h, v22_real, heads, lit0, mul_num]
  simp only [Fin.sum_univ_one]
  rw [sum0_num (n := 8192) fun t => A.yn t _ * A.dHn t _, EReal.coe_zero, zero_add]
  refine entry (sum_congr rfl fun t _ => ?_)
  unfold Args.gainOf
  rw [mul_comm]
  refine congrArg₂ (· * ·) (congrArg (A.dHn t) ?_) (congrArg (A.yn t) ?_) <;> dsimp only <;> omega

theorem v124_real (h : Reads A p) : val_main_v124 (F := Ideal) (proj p) (tall A.sbo) (tall A.hgo) (tall A.x) (tall A.tgt) (bias A.bg) (scales A.gain) (scale1 A.fg) (weight A.wsb) (weight A.whg) (weight A.wout) = heads A.dYn := by
  funext i
  simp only [val_main_v124_apply, val_main_v123_apply, v119_real A p h, v23_real, heads, scales, mul_num]
  rfl

theorem v135_real (h : Reads A p) :
    val_main_v135 (F := Ideal) (proj p) (tall A.sbo) (tall A.hgo) (tall A.x) (tall A.tgt) (bias A.bg) (scales A.gain) (scale1 A.fg) (weight A.wsb) (weight A.whg) (weight A.wout) = heads (fun t c => (∑ e ∈ range 128, A.hgo t (128 * (c / 128) + e) * A.dYn t (128 * (c / 128) + e))
      * (-(1 / 2) * (A.rH t (c / 128) / A.sqH t (c / 128))) / 128) := by
  funext i
  have h2 : (i 2).val < 128 := (i 2).isLt
  have hd : (128 * (i 1).val + (i 2).val) / 128 = (i 1).val := by omega
  have h1 : (i 1).val < 8 := (i 1).isLt
  have e0 : (((i 0).val * 8 + (i 1).val) * 1 + (0 : Fin 1).val) / 8 = (i 0).val := by simp only [Fin.val_zero]; omega
  have e1 : (((i 0).val * 8 + (i 1).val) * 1 + (0 : Fin 1).val) % 8 = (i 1).val := by simp only [Fin.val_zero]; omega
  simp only [val_main_v135_apply, val_main_v134_apply, val_main_v133_apply, val_main_v132_apply, val_main_v131_apply, val_main_v128_apply, val_main_v127_apply, val_main_v126_apply, val_main_cst_30_apply, val_main_cst_31_apply, val_main_cst_32_apply, v124_real A p h, v8_real, v20_real, heads, perHead1, lit0, lit128, mul_num]
  simp only [Fin.sum_univ_one]
  rw [sum0_num (n := 128) fun e => A.hgo _ (128 * _ + e) * A.dYn _ (128 * _ + e), mul_num, div128, EReal.coe_zero, zero_add]
  simp only [e0, e1, hd]

theorem v139_real (h : Reads A p) : val_main_v139 (F := Ideal) (proj p) (tall A.sbo) (tall A.hgo) (tall A.x) (tall A.tgt) (bias A.bg) (scales A.gain) (scale1 A.fg) (weight A.wsb) (weight A.whg) (weight A.wout) = heads A.dHgo := by
  funext i
  have h2 : (i 2).val < 128 := (i 2).isLt
  have hd : (128 * (i 1).val + (i 2).val) / 128 = (i 1).val := by omega
  simp only [val_main_v139_apply, val_main_v138_apply, val_main_v137_apply, val_main_v136_apply, val_main_v130_apply, val_main_v129_apply, v124_real A p h, v8_real, v17_real, v135_real A p h, heads, perHead1, mul_num, add_num]
  rw [hd]
  refine entry ((norm_grad (A.rH _ (i 1).val) (A.sqH _ (i 1).val) _ _ 128 (fun e => A.hgo _ (128 * (i 1).val + e)) (fun e => A.dYn _ (128 * (i 1).val + e)) 128
    (rs_sq (A.sqH_pos _ _))).trans ?_)
  unfold Args.dHgo Args.mnH Args.yn
  rw [hd]
  refine congrArg (fun s => A.rH (i 0).val (i 1).val * (A.dYn (i 0).val (128 * (i 1).val + (i 2).val) - A.hgo (i 0).val (128 * (i 1).val + (i 2).val) * A.rH (i 0).val (i 1).val * (s / 128)))
    (sum_congr rfl fun e he => ?_)
  have := mem_range.1 he
  rw [show (128 * (i 1).val + e) / 128 = (i 1).val by omega]

theorem v141_real (h : Reads A p) : val_main_v141 (F := Ideal) (proj p) (tall A.sbo) (tall A.hgo) (tall A.x) (tall A.tgt) (bias A.bg) (scales A.gain) (scale1 A.fg) (weight A.wsb) (weight A.whg) (weight A.wout) = tall A.dHgo := by
  funext i
  have h1 : (i 1).val < 1024 := (i 1).isLt
  rw [val_main_v141_apply, v139_real A p h]
  refine entry (congrArg₂ A.dHgo ?_ ?_) <;> dsimp only <;> omega

theorem v142_real (h : Reads A p) : val_main_v142 (F := Ideal) (proj p) (tall A.sbo) (tall A.hgo) (tall A.x) (tall A.tgt) (bias A.bg) (scales A.gain) (scale1 A.fg) (weight A.wsb) (weight A.whg) (weight A.wout) = tall A.daSb := by
  funext i
  simp only [val_main_v142_apply, v106_real A p h, tall, weight, ← EReal.coe_mul]
  exact sum_num (n := 1024) fun k => A.duSb (i 0).val k * A.wsb (i 1).val k

theorem v145_real (h : Reads A p) : val_main_v145 (F := Ideal) (proj p) (tall A.sbo) (tall A.hgo) (tall A.x) (tall A.tgt) (bias A.bg) (scales A.gain) (scale1 A.fg) (weight A.wsb) (weight A.whg) (weight A.wout) = tall A.dZsb := by
  funext i
  simp only [val_main_v145_apply, val_main_call3_v0_apply, val_main_call3_v1_apply, val_main_call3_v2_apply, val_main_v143_apply, v142_real A p h, v1_real A p h, v4_1_real A p h, v4_2_real A p h, tall, mul_num, add_num]
  refine entry ?_
  unfold Args.dZsb
  ring

/-! The results in sixteen bits are the same numbers. -/

theorem v146_real (h : Reads A p) : val_main_v146 (F := Ideal) (proj p) (tall A.sbo) (tall A.hgo) (tall A.x) (tall A.tgt) (bias A.bg) (scales A.gain) (scale1 A.fg) (weight A.wsb) (weight A.whg) (weight A.wout) = tall A.dSbo := by
  funext i
  simp only [val_main_v146_apply, val_main_v144_apply, v142_real A p h, v4_0_real A p h, tall, mul_num]
  rfl

theorem v147_real (h : Reads A p) : val_main_v147 (F := Ideal) (proj p) (tall A.sbo) (tall A.hgo) (tall A.x) (tall A.tgt) (bias A.bg) (scales A.gain) (scale1 A.fg) (weight A.wsb) (weight A.whg) (weight A.wout) = tall A.dHgo := by
  funext i
  rw [val_main_v147_apply, v141_real A p h]
  rfl

theorem v149_real (h : Reads A p) : val_main_v149 (F := Ideal) (proj p) (tall A.sbo) (tall A.hgo) (tall A.x) (tall A.tgt) (bias A.bg) (scales A.gain) (scale1 A.fg) (weight A.wsb) (weight A.whg) (weight A.wout) = allOf (dAll A) := by
  funext i
  rw [val_main_v149_apply]
  unfold val_main_v148
  rw [v145_real A p h, v118_real A p h, v110_real A p h]
  have h1 : (i 1).val < 4096 := (i 1).isLt
  have h0 : (i 0).val < 8192 := (i 0).isLt
  pointwise [tall, gates, allOf]
  refine Eq.trans ?_ (congrArg (fun r : ℝ => (r : EReal)) (show _ = dAll A (i 0).val (i 1).val from rfl))
  unfold dAll
  split_ifs <;> first | rfl | omega

theorem v151_real (h : Reads A p) : val_main_v151 (F := Ideal) (proj p) (tall A.sbo) = across A.aSb := by
  funext i
  rw [val_main_v151_apply, val_main_v150_apply, v5_real A p h]
  rfl

theorem v152_real (h : Reads A p) : val_main_v152 (F := Ideal) (proj p) (tall A.sbo) (tall A.hgo) (tall A.x) (tall A.tgt) (bias A.bg) (scales A.gain) (scale1 A.fg) (weight A.wsb) (weight A.whg) (weight A.wout) = tall A.duSb := by
  funext i
  rw [val_main_v152_apply, v106_real A p h]
  rfl

theorem v154_real (h : Reads A p) : val_main_v154 (F := Ideal) (proj p) (tall A.hgo) (scales A.gain) = across A.aHg := by
  funext i
  rw [val_main_v154_apply, val_main_v153_apply, v28_real A p h]
  rfl

theorem v155_real (h : Reads A p) : val_main_v155 (F := Ideal) (proj p) (tall A.sbo) (tall A.hgo) (tall A.x) (tall A.tgt) (bias A.bg) (scales A.gain) (scale1 A.fg) (weight A.wsb) (weight A.whg) (weight A.wout) = tall A.duHg := by
  funext i
  rw [val_main_v155_apply, v103_real A p h]
  rfl

theorem v157_real (h : Reads A p) : val_main_v157 (F := Ideal) (proj p) (tall A.sbo) (tall A.hgo) (bias A.bg) (scales A.gain) (weight A.wsb) (weight A.whg) = across A.y := by
  funext i
  rw [val_main_v157_apply, val_main_v156_apply, v48_real A p h]
  rfl

theorem v158_real (h : Reads A p) : val_main_v158 (F := Ideal) (proj p) (tall A.sbo) (tall A.hgo) (tall A.x) (tall A.tgt) (bias A.bg) (scales A.gain) (scale1 A.fg) (weight A.wsb) (weight A.whg) (weight A.wout) = tall A.dOut := by
  funext i
  rw [val_main_v158_apply, v101_real A p h]
  rfl

/-- The loss, half the mean of the rows' mean squares. -/
theorem v159_real (h : Reads A p) : val_main_v159 (F := Ideal) (proj p) (tall A.sbo) (tall A.hgo) (tall A.x) (tall A.tgt) (bias A.bg) (scales A.gain) (scale1 A.fg) (weight A.wsb) (weight A.whg) (weight A.wout) = fun _ => ((1 / 2048 * ∑ t ∈ range 8192, A.lossOf t : ℝ) : EReal) := by
  have e : val_main_v73 (F := Ideal) (proj p) (tall A.sbo) (tall A.hgo) (tall A.x) (tall A.tgt) (bias A.bg) (scales A.gain) (scale1 A.fg) (weight A.wsb) (weight A.whg) (weight A.wout) = perRow (fun t => A.lossOf t / 1024) := by
    funext i
    simp only [val_main_v73_apply, val_main_v72_apply, val_main_v71_apply, val_main_v68_apply, val_main_cst_12_apply, val_main_cst_13_apply, v67_real A p h, tall, lit0, lit1024, mul_num]
    rw [sum0_num (n := 1024) fun k => A.diff _ k * A.diff _ k, div1024]
    rfl
  funext i
  unfold val_main_v159
  pointwise
  simp only [val_main_v75_apply, val_main_v74_apply, val_main_cst_14_apply, val_main_cst_15_apply, e, litH, lit0]
  rw [← Equiv.sum_comp (Equiv.mk (fun k : Fin 8192 => (fun a => match a with | ⟨0, _⟩ => k : S8192.Idx)) (fun x => x 0)
    (fun _ => rfl) (fun x => funext fun a => match a with | ⟨0, _⟩ => rfl)) (perRow fun t => A.lossOf t / 1024)]
  refine Eq.trans (congrArg (FloatOps.mulf (F := Ideal) (φ := .f32) ((1 / 2 : ℝ) : EReal)) (sum0_num (n := 8192) fun t => A.lossOf t / 1024)) ?_
  rw [mul_num, ← sum_div]
  refine entry ?_
  ring

end Cert.ReferenceMidIdeal.Mid

end
-- ==== Proof.Mid.Arrays.lean ====
/-
The merge's output arrays over the reals: the rows' values, their transposes, and the sums over all rows.
-/
module

public import proofs.«01_k».proof.Proof.Mid.Points
public import proofs.«01_k».proof.Proof.Mid.Backward
public import proofs.«01_k».proof.Proof.Mid.HostBackward

@[expose] public section

set_option maxRecDepth 16384
set_option maxHeartbeats 1000000

noncomputable section

namespace Cert.KernelMidIdeal.Mid

open Idealize.ShloMosaic Idealize.ShloMosaic.TcCoe Idealize.SL.Sem Cert.KernelMidIdeal Cert.KernelMidIdeal.Gen Cert.Common Cert.Stick Cert.Merge Finset
open Cert.ReferenceMidIdeal.Mid (proj tall weight bias scales scale1 argsOf across allOf dAll dgl)

/-- The output blocks' places in their arrays. -/
theorem places_tall (t : Fin cfg0.N) :
    (win0_13.index t 0 = t.val ∧ win0_13.index t 1 = 0) ∧ (win0_14.index t 0 = t.val ∧ win0_14.index t 1 = 0) ∧ (win0_15.index t 0 = t.val ∧ win0_15.index t 1 = 0)
    ∧ (win0_16.index t 0 = t.val ∧ win0_16.index t 1 = 0) ∧ (win0_18.index t 0 = t.val ∧ win0_18.index t 1 = 0) ∧ (win0_20.index t 0 = t.val ∧ win0_20.index t 1 = 0)
    ∧ (win0_22.index t 0 = t.val ∧ win0_22.index t 1 = 0) := by
  revert t
  decide +kernel

theorem places_across (t : Fin cfg0.N) :
    (win0_17.index t 0 = 0 ∧ win0_17.index t 1 = t.val) ∧ (win0_19.index t 0 = 0 ∧ win0_19.index t 1 = t.val) ∧ (win0_21.index t 0 = 0 ∧ win0_21.index t 1 = t.val) := by
  revert t
  decide +kernel

theorem places_sums (t : Fin cfg0.N) :
    (win0_24.index t 0 = 0 ∧ win0_24.index t 1 = 0) ∧ (win0_25.index t 0 = 0 ∧ win0_25.index t 1 = 0) ∧ (win0_26.index t 0 = 0 ∧ win0_26.index t 1 = 0) := by
  revert t
  decide +kernel

/-- A point's block of the transposed rows, and of the four gradients side by side. -/
def tblk (f : ℕ → ℕ → ℝ) (n : ℕ) : S1024x256.Idx → EReal := fun i => ((f (256 * n + (i 1).val) (i 0).val : ℝ) : EReal)
def ablk (f : ℕ → ℕ → ℝ) (n : ℕ) : S256x4096.Idx → EReal := fun i => ((f (256 * n + (i 0).val) (i 1).val : ℝ) : EReal)

section Blocks

variable (A : Args) (n : ℕ)

theorem aSbT_real : k0_pay87 (F := Ideal) (k0_pay7 (real A n).zsb (real A n).sbo) = tblk A.aSb n := by
  rw [aSb_real]
  funext i
  unfold k0_pay87
  pointwise [blk, sheet, tblk]
  try rfl

theorem aHgT_real : k0_pay88 (F := Ideal) (k0_pay44 (real A n).hn (real A n).hz (k0_pay40 (real A n).hz) k0_pay41) = tblk A.aHg n := by
  rw [aHg_real]
  funext i
  unfold k0_pay88
  pointwise [blk, sheet, tblk]
  try rfl

theorem yT_real : k0_pay89 (F := Ideal) (real A n).y = tblk A.y n := by
  rw [y_real]
  funext i
  unfold k0_pay89
  pointwise [blk, sheet, tblk]
  try rfl

theorem dOut16_real : k0_pay59 (F := Ideal) (real A n).dOut = blk A.dOut n := by
  rw [dOut_real]
  rfl

/-- Four sheets side by side. -/
theorem four_real (b : FVec Ideal S256x4096 .bf16) (f1 f2 f3 f4 : ℕ → ℕ → ℝ) :
    VecWindow.put (VecWindow.put (VecWindow.put (VecWindow.put b ![0, 2048] S256x1024.size (sheet f3)) ![0, 3072] S256x1024.size (sheet f4))
      ![0, 0] S256x1024.size (sheet f1)) ![0, 1024] S256x1024.size (sheet f2)
      = fun z => ((if (z 1).val < 1024 then f1 (z 0).val (z 1).val else if (z 1).val < 2048 then f2 (z 0).val ((z 1).val - 1024)
        else if (z 1).val - 2048 < 1024 then f3 (z 0).val ((z 1).val - 2048) else f4 (z 0).val ((z 1).val - 2048 - 1024) : ℝ) : EReal) := by
  funext z
  have h0 : (z 0).val < 256 := (z 0).isLt
  have h1 : (z 1).val < 4096 := (z 1).isLt
  have hs : (z 1).val - 2048 - 1024 = (z 1).val - 3072 := by omega
  rw [hs]
  unfold VecWindow.put
  by_cases p : (z 1).val < 1024 <;> by_cases q : (z 1).val < 2048 <;> by_cases r : (z 1).val < 3072 <;>
    simp [Fin.forall_fin_two, S256x1024, sheet, p, q] <;> split_ifs <;> first | rfl | omega

theorem dMid_real (b : FVec Ideal S256x4096 .bf16) : (real A n).dMid b = ablk (dAll A) n := by
  have e1 : k0_pay65 (F := Ideal) (real A n).uSb (real A n).gSb (real A n).dOut (real A n).wout = blk A.dgSb n := by
    rw [← dgSb_real A n]; rfl
  have e2 : k0_pay66 (F := Ideal) (real A n).uHg (real A n).gHg (real A n).dOut (real A n).wout = blk A.dgHg n := by
    rw [← dgHg_real A n]; rfl
  unfold Rows.dMid
  rw [e1, e2, dZsb_real, dHz_real]
  exact four_real b _ _ _ _

end Blocks

variable {m : (ℓ : Loc nD τ sig) → Buf (Elt Ideal) ℓ} {c : Dev nD}
variable {p sbo hgo x tgt : ℕ → ℕ → ℝ} {bg gain fg : ℕ → ℝ} {wsb whg wout : ℕ → ℕ → ℝ}

/-! The arrays that the call leaves. -/

theorem arr13 (H : Holds m c p sbo hgo x tgt bg gain fg wsb whg wout) : (dats m 0 c).arrAt 13 cfg0.N = tall (argsOf p sbo hgo x tgt bg gain fg wsb whg wout).dOut := by
  refine (dats m 0 c).arrAt_eq_of_covers 13 _ (by decide +kernel) fun t hf j => ?_
  have e := (places_tall t).1
  blk_simp
  show ((rows m c t).dOut) _ = _
  rw [rows_real H t, dOut_real]
  refine entry (argsOf p sbo hgo x tgt bg gain fg wsb whg wout).dOut ?_ ?_ <;> (blk_simp [e.1, e.2]; try omega)

theorem arr14 (H : Holds m c p sbo hgo x tgt bg gain fg wsb whg wout) : (dats m 0 c).arrAt 14 cfg0.N = tall (argsOf p sbo hgo x tgt bg gain fg wsb whg wout).dSbo := by
  refine (dats m 0 c).arrAt_eq_of_covers 14 _ (by decide +kernel) fun t hf j => ?_
  have e := (places_tall t).2.1
  blk_simp
  show (k0_pay70 (k0_pay6 (rows m c t).zsb) (rows m c t).duSb (rows m c t).wsb) _ = _
  rw [rows_real H t, dSbo_real]
  refine entry (argsOf p sbo hgo x tgt bg gain fg wsb whg wout).dSbo ?_ ?_ <;> (blk_simp [e.1, e.2]; try omega)

theorem arr15 (H : Holds m c p sbo hgo x tgt bg gain fg wsb whg wout) : (dats m 0 c).arrAt 15 cfg0.N = tall (argsOf p sbo hgo x tgt bg gain fg wsb whg wout).dHgo := by
  refine (dats m 0 c).arrAt_eq_of_covers 15 _ (by decide +kernel) fun t hf j => ?_
  have e := (places_tall t).2.2.1
  blk_simp
  show ((rows m c t).dHgo) _ = _
  rw [rows_real H t, dHgo_real]
  refine entry (argsOf p sbo hgo x tgt bg gain fg wsb whg wout).dHgo ?_ ?_ <;> (blk_simp [e.1, e.2]; try omega)

theorem arr18 (H : Holds m c p sbo hgo x tgt bg gain fg wsb whg wout) : (dats m 0 c).arrAt 18 cfg0.N = tall (argsOf p sbo hgo x tgt bg gain fg wsb whg wout).duSb := by
  refine (dats m 0 c).arrAt_eq_of_covers 18 _ (by decide +kernel) fun t hf j => ?_
  have e := (places_tall t).2.2.2.2.1
  blk_simp
  show ((rows m c t).duSb) _ = _
  rw [rows_real H t, duSb_real]
  refine entry (argsOf p sbo hgo x tgt bg gain fg wsb whg wout).duSb ?_ ?_ <;> (blk_simp [e.1, e.2]; try omega)

theorem arr20 (H : Holds m c p sbo hgo x tgt bg gain fg wsb whg wout) : (dats m 0 c).arrAt 20 cfg0.N = tall (argsOf p sbo hgo x tgt bg gain fg wsb whg wout).duHg := by
  refine (dats m 0 c).arrAt_eq_of_covers 20 _ (by decide +kernel) fun t hf j => ?_
  have e := (places_tall t).2.2.2.2.2.1
  blk_simp
  show ((rows m c t).duHg) _ = _
  rw [rows_real H t, duHg_real]
  refine entry (argsOf p sbo hgo x tgt bg gain fg wsb whg wout).duHg ?_ ?_ <;> (blk_simp [e.1, e.2]; try omega)

theorem arr22 (H : Holds m c p sbo hgo x tgt bg gain fg wsb whg wout) : (dats m 0 c).arrAt 22 cfg0.N = tall (argsOf p sbo hgo x tgt bg gain fg wsb whg wout).dOut := by
  refine (dats m 0 c).arrAt_eq_of_covers 22 _ (by decide +kernel) fun t hf j => ?_
  have e := (places_tall t).2.2.2.2.2.2
  blk_simp
  show (k0_pay59 (rows m c t).dOut) _ = _
  rw [rows_real H t, dOut16_real]
  refine entry (argsOf p sbo hgo x tgt bg gain fg wsb whg wout).dOut ?_ ?_ <;> (blk_simp [e.1, e.2]; try omega)

theorem arr16 (H : Holds m c p sbo hgo x tgt bg gain fg wsb whg wout) : (dats m 0 c).arrAt 16 cfg0.N = allOf (dAll (argsOf p sbo hgo x tgt bg gain fg wsb whg wout)) := by
  refine (dats m 0 c).arrAt_eq_of_covers 16 _ (by decide +kernel) fun t hf j => ?_
  have e := (places_tall t).2.2.2.1
  blk_simp
  show (rows m c t).dMid blank _ = _
  rw [rows_real H t, dMid_real]
  refine entry (dAll (argsOf p sbo hgo x tgt bg gain fg wsb whg wout)) ?_ ?_ <;> (blk_simp [e.1, e.2]; try omega)

theorem arr17 (H : Holds m c p sbo hgo x tgt bg gain fg wsb whg wout) : (dats m 0 c).arrAt 17 cfg0.N = across (argsOf p sbo hgo x tgt bg gain fg wsb whg wout).aSb := by
  refine (dats m 0 c).arrAt_eq_of_covers 17 _ (by decide +kernel) fun t hf j => ?_
  have e := (places_across t).1
  blk_simp
  show (k0_pay87 (k0_pay7 (rows m c t).zsb (rows m c t).sbo)) _ = _
  rw [rows_real H t, aSbT_real]
  refine entry (argsOf p sbo hgo x tgt bg gain fg wsb whg wout).aSb ?_ ?_ <;> (blk_simp [e.1, e.2]; try omega)

theorem arr19 (H : Holds m c p sbo hgo x tgt bg gain fg wsb whg wout) : (dats m 0 c).arrAt 19 cfg0.N = across (argsOf p sbo hgo x tgt bg gain fg wsb whg wout).aHg := by
  refine (dats m 0 c).arrAt_eq_of_covers 19 _ (by decide +kernel) fun t hf j => ?_
  have e := (places_across t).2.1
  blk_simp
  show (k0_pay88 (k0_pay44 (rows m c t).hn (rows m c t).hz (k0_pay40 (rows m c t).hz) k0_pay41)) _ = _
  rw [rows_real H t, aHgT_real]
  refine entry (argsOf p sbo hgo x tgt bg gain fg wsb whg wout).aHg ?_ ?_ <;> (blk_simp [e.1, e.2]; try omega)

theorem arr21 (H : Holds m c p sbo hgo x tgt bg gain fg wsb whg wout) : (dats m 0 c).arrAt 21 cfg0.N = across (argsOf p sbo hgo x tgt bg gain fg wsb whg wout).y := by
  refine (dats m 0 c).arrAt_eq_of_covers 21 _ (by decide +kernel) fun t hf j => ?_
  have e := (places_across t).2.2
  blk_simp
  show (k0_pay89 (rows m c t).y) _ = _
  rw [rows_real H t, yT_real]
  refine entry (argsOf p sbo hgo x tgt bg gain fg wsb whg wout).y ?_ ?_ <;> (blk_simp [e.1, e.2]; try omega)

/-- The sums after the last point are those over all rows. -/
theorem last_sums (H : Holds m c p sbo hgo x tgt bg gain fg wsb whg wout) {t : Fin cfg0.N} (h : t.val % 32 = 31) : sumsAt m c t = sumReal (argsOf p sbo hgo x tgt bg gain fg wsb whg wout) 32 := by
  have hN : t.val < 32 := lt_of_lt_of_eq t.isLt N_0
  have e : t.val + 1 = 32 := by omega
  unfold sumsAt
  rw [sums_real H, e]

theorem arr23 (H : Holds m c p sbo hgo x tgt bg gain fg wsb whg wout) : (dats m 0 c).arrAt 23 cfg0.N = fun _ => ((1 / 2048 * ∑ t ∈ range 8192, (argsOf p sbo hgo x tgt bg gain fg wsb whg wout).lossOf t : ℝ) : EReal) := by
  refine (dats m 0 c).arrAt_eq_of_covers 23 _ (by decide +kernel) fun t hf j => ?_
  blk_simp
  show (sumsAt m c t).loss _ = _
  rw [last_sums H ((flush0_23 t).1 hf)]
  rfl

theorem arr24 (H : Holds m c p sbo hgo x tgt bg gain fg wsb whg wout) : (dats m 0 c).arrAt 24 cfg0.N = line (fun c => ∑ t ∈ range 8192, (argsOf p sbo hgo x tgt bg gain fg wsb whg wout).fgOf t c) := by
  refine (dats m 0 c).arrAt_eq_of_covers 24 _ (by decide +kernel) fun t hf j => ?_
  have e := (places_sums t).1
  blk_simp
  show (sumsAt m c t).fg _ = _
  rw [last_sums H ((flush0_24 t).1 hf)]
  refine entry (fun _ c => ∑ t ∈ range 8192, (argsOf p sbo hgo x tgt bg gain fg wsb whg wout).fgOf t c) (a := 0) rfl ?_
  blk_simp [e.2]

theorem arr25 (H : Holds m c p sbo hgo x tgt bg gain fg wsb whg wout) : (dats m 0 c).arrAt 25 cfg0.N = bias (fun c => ∑ t ∈ range 8192, dgl (argsOf p sbo hgo x tgt bg gain fg wsb whg wout) t c) := by
  refine (dats m 0 c).arrAt_eq_of_covers 25 _ (by decide +kernel) fun t hf j => ?_
  have e := (places_sums t).2.1
  blk_simp
  show (sumsAt m c t).bg _ = _
  rw [last_sums H ((flush0_25 t).1 hf)]
  refine Eq.trans (congrArg (fun r : ℝ => (r : EReal)) (show _ = ∑ t ∈ range 8192, dgl (argsOf p sbo hgo x tgt bg gain fg wsb whg wout) t (j 1).val from ?_)) (entry (fun _ c => ∑ t ∈ range 8192, dgl (argsOf p sbo hgo x tgt bg gain fg wsb whg wout) t c) (a := 0) rfl ?_)
  · unfold dgl
    dsimp only
    split_ifs <;> rfl
  · blk_simp [e.2]

theorem arr26 (H : Holds m c p sbo hgo x tgt bg gain fg wsb whg wout) : (dats m 0 c).arrAt 26 cfg0.N = line (fun c => ∑ t ∈ range 8192, (argsOf p sbo hgo x tgt bg gain fg wsb whg wout).gainOf t c) := by
  refine (dats m 0 c).arrAt_eq_of_covers 26 _ (by decide +kernel) fun t hf j => ?_
  have e := (places_sums t).2.2
  blk_simp
  show (sumsAt m c t).hgn _ = _
  rw [last_sums H ((flush0_26 t).1 hf)]
  refine entry (fun _ c => ∑ t ∈ range 8192, (argsOf p sbo hgo x tgt bg gain fg wsb whg wout).gainOf t c) (a := 0) rfl ?_
  blk_simp [e.2]

end Cert.KernelMidIdeal.Mid

end
-- ==== Proof.Mid.Results.lean ====
/-
The merge's results: from finite arguments the kernel and the reference both leave the rows' values, the gradients and the sums of
the model.
-/
module

public import proofs.«01_k».proof.Proof.Mid.Arrays
public import proofs.«01_k».proof.Proof.Gen.ReferenceMidIdeal.Run
public import proofs.«01_k».proof.Defs

@[expose] public section

set_option maxRecDepth 16384
set_option maxHeartbeats 2000000

noncomputable section

open Idealize.ShloMosaic Idealize.ShloMosaic.TcCoe Idealize.SL.Sem Cert.Merge
open Cert.ReferenceMidIdeal.Mid (proj tall weight bias scales scale1 argsOf across allOf dAll dgl)

namespace Cert.KernelMidIdeal.Mid

open Cert.KernelMidIdeal Cert.KernelMidIdeal.Gen

/-- An array of reals is a function of anything that tells its entries apart. -/
theorem real_of {s : Shape} {K : Type} (e : s.Idx → K) (he : Function.Injective e) (x : s.Idx → EReal) (h : ∀ i, ∃ r : ℝ, x i = r) :
    ∃ f : K → ℝ, ∀ i, x i = (f (e i) : EReal) := by
  choose r hr using h
  exact ⟨Function.extend e r fun _ => 0, fun i => by rw [he.extend_apply, hr]⟩

theorem two_inj {n k : ℕ} : Function.Injective (fun i : (⟨2, ![n, k]⟩ : Shape).Idx => ((i 0).val, (i 1).val)) := fun i j h =>
  funext fun a => Fin.ext (match a with | ⟨0, _⟩ => congrArg Prod.fst h | ⟨1, _⟩ => congrArg Prod.snd h)

theorem two_real {n k : ℕ} (x : (⟨2, ![n, k]⟩ : Shape).Idx → EReal) (h : ∀ i, ∃ r : ℝ, x i = r) :
    ∃ f : ℕ → ℕ → ℝ, x = fun i => ((f (i 0).val (i 1).val : ℝ) : EReal) := by
  obtain ⟨f, hf⟩ := real_of _ two_inj x h
  exact ⟨fun a b => f (a, b), funext hf⟩

theorem bias_is_real (x : S1x2048.Idx → EReal) (h : ∀ i, ∃ r : ℝ, x i = r) : ∃ f, x = bias f := by
  obtain ⟨f, hf⟩ := real_of (fun i : S1x2048.Idx => (i 1).val) (fun i j h => funext fun a => Fin.ext (match a with
    | ⟨0, _⟩ => by have h0 : (i 0).val < 1 := (i 0).isLt; have h1 : (j 0).val < 1 := (j 0).isLt; show (i 0).val = (j 0).val; omega
    | ⟨1, _⟩ => h)) x h
  exact ⟨f, funext hf⟩

theorem scale_is_real (x : S1024.Idx → EReal) (h : ∀ i, ∃ r : ℝ, x i = r) : ∃ f, x = scale1 f := by
  obtain ⟨f, hf⟩ := real_of (fun i : S1024.Idx => (i 0).val) (fun i j h => funext fun a => Fin.ext (match a with | ⟨0, _⟩ => h)) x h
  exact ⟨f, funext hf⟩

theorem scales_are_real (x : S1x8x128.Idx → EReal) (h : ∀ i, ∃ r : ℝ, x i = r) : ∃ f, x = scales f := by
  obtain ⟨f, hf⟩ := real_of (fun i : S1x8x128.Idx => 128 * (i 1).val + (i 2).val) (fun i j h => funext fun a => Fin.ext (by
    have i0 : (i 0).val < 1 := (i 0).isLt
    have j0 : (j 0).val < 1 := (j 0).isLt
    have i2 : (i 2).val < 128 := (i 2).isLt
    have j2 : (j 2).val < 128 := (j 2).isLt
    dsimp only at h
    match a with
    | ⟨0, _⟩ => show (i 0).val = (j 0).val; omega
    | ⟨1, _⟩ => show (i 1).val = (j 1).val; omega
    | ⟨2, _⟩ => show (i 2).val = (j 2).val; omega)) x h
  exact ⟨f, funext hf⟩

variable (m : (ℓ : Loc nD τ sig) → Buf (Elt Ideal) ℓ)

/-- Finite arguments hold reals. -/
theorem finite_args [Cert.Pre_finite_mid.Facts] (h : Cert.Pre_KernelMidIdeal_finite_mid m) (c : Dev nD) :
    ∃ (p sbo hgo x tgt : ℕ → ℕ → ℝ) (bg gain fg : ℕ → ℝ) (wsb whg wout : ℕ → ℕ → ℝ), Holds m c p sbo hgo x tgt bg gain fg wsb whg wout := by
  obtain ⟨h0, h1, h2, h3, h4, h5, h6, h7, h8, h9, h10⟩ := h c
  obtain ⟨p, a0⟩ := two_real (n := 8192) (k := 10240) (m (c.tc.loc main_arg0)) fun i => Cert.Common.real_of_cmp (congrFun h0 i)
  obtain ⟨sbo, a1⟩ := two_real (n := 8192) (k := 1024) (m (c.tc.loc main_arg1)) fun i => Cert.Common.real_of_cmp (congrFun h1 i)
  obtain ⟨hgo, a2⟩ := two_real (n := 8192) (k := 1024) (m (c.tc.loc main_arg2)) fun i => Cert.Common.real_of_cmp (congrFun h2 i)
  obtain ⟨x, a3⟩ := two_real (n := 8192) (k := 1024) (m (c.tc.loc main_arg3)) fun i => Cert.Common.real_of_cmp (congrFun h3 i)
  obtain ⟨tgt, a4⟩ := two_real (n := 8192) (k := 1024) (m (c.tc.loc main_arg4)) fun i => Cert.Common.real_of_cmp (congrFun h4 i)
  obtain ⟨bg, a5⟩ := bias_is_real (m (c.tc.loc main_arg5)) fun i => Cert.Common.real_of_cmp (congrFun h5 i)
  obtain ⟨gain, a6⟩ := scales_are_real (m (c.tc.loc main_arg6)) fun i => Cert.Common.real_of_cmp (congrFun h6 i)
  obtain ⟨fg, a7⟩ := scale_is_real (m (c.tc.loc main_arg7)) fun i => Cert.Common.real_of_cmp (congrFun h7 i)
  obtain ⟨wsb, a8⟩ := two_real (n := 1024) (k := 1024) (m (c.tc.loc main_arg8)) fun i => Cert.Common.real_of_cmp (congrFun h8 i)
  obtain ⟨whg, a9⟩ := two_real (n := 1024) (k := 1024) (m (c.tc.loc main_arg9)) fun i => Cert.Common.real_of_cmp (congrFun h9 i)
  obtain ⟨wout, a10⟩ := two_real (n := 1024) (k := 1024) (m (c.tc.loc main_arg10)) fun i => Cert.Common.real_of_cmp (congrFun h10 i)
  exact ⟨p, sbo, hgo, x, tgt, bg, gain, fg, wsb, whg, wout, a0, a1, a2, a3, a4, a5, a6, a7, a8, a9, a10⟩

variable {m}
variable {p sbo hgo x tgt : Dev nD → ℕ → ℕ → ℝ} {bg gain fg : Dev nD → ℕ → ℝ} {wsb whg wout : Dev nD → ℕ → ℕ → ℝ}

/-- The kernel's results. -/
theorem results (H : ∀ c, Holds m c (p c) (sbo c) (hgo c) (x c) (tgt c) (bg c) (gain c) (fg c) (wsb c) (whg c) (wout c)) {A : Dev nD → Args}
    (hA : A = fun c => argsOf (p c) (sbo c) (hgo c) (x c) (tgt c) (bg c) (gain c) (fg c) (wsb c) (whg c) (wout c)) (ρ : Dev nD → PrngReg) :
    θ_run (defs (F := Ideal)) (onTc (τ := τ) (main (F := Ideal))) ⟨m, fun _ => 0, ρ⟩ (fun r => ∀ c : Dev nD,
      r.2.mem (c.tc.loc main_v5_0) = tall (A c).dOut
      ∧ r.2.mem (c.tc.loc main_v5_1) = tall (A c).dSbo
      ∧ r.2.mem (c.tc.loc main_v5_2) = tall (A c).dHgo
      ∧ r.2.mem (c.tc.loc main_v5_3) = allOf (dAll (A c))
      ∧ r.2.mem (c.tc.loc main_v5_4) = across (A c).aSb
      ∧ r.2.mem (c.tc.loc main_v5_5) = tall (A c).duSb
      ∧ r.2.mem (c.tc.loc main_v5_6) = across (A c).aHg
      ∧ r.2.mem (c.tc.loc main_v5_7) = tall (A c).duHg
      ∧ r.2.mem (c.tc.loc main_v5_8) = across (A c).y
      ∧ r.2.mem (c.tc.loc main_v5_9) = tall (A c).dOut
      ∧ r.2.mem (c.tc.loc main_v5_10) = (fun _ => ((1 / 2048 * ∑ t ∈ Finset.range 8192, (A c).lossOf t : ℝ) : EReal))
      ∧ r.2.mem (c.tc.loc main_v5_11) = line (fun k => ∑ t ∈ Finset.range 8192, (A c).fgOf t k)
      ∧ r.2.mem (c.tc.loc main_v5_12) = bias (fun k => ∑ t ∈ Finset.range 8192, dgl (A c) t k)
      ∧ r.2.mem (c.tc.loc main_v5_13) = line (fun k => ∑ t ∈ Finset.range 8192, (A c).gainOf t k)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)) := by
  subst hA
  exact (θ_run defs _ _).mono (fun r g c =>
    ⟨((g.1.1 c).1 13).trans (arr13 (H c)), ((g.1.1 c).1 14).trans (arr14 (H c)), ((g.1.1 c).1 15).trans (arr15 (H c)), ((g.1.1 c).1 16).trans (arr16 (H c)),
     ((g.1.1 c).1 17).trans (arr17 (H c)), ((g.1.1 c).1 18).trans (arr18 (H c)), ((g.1.1 c).1 19).trans (arr19 (H c)), ((g.1.1 c).1 20).trans (arr20 (H c)),
     ((g.1.1 c).1 21).trans (arr21 (H c)), ((g.1.1 c).1 22).trans (arr22 (H c)), ((g.1.1 c).1 23).trans (arr23 (H c)), ((g.1.1 c).1 24).trans (arr24 (H c)),
     ((g.1.1 c).1 25).trans (arr25 (H c)), ((g.1.1 c).1 26).trans (arr26 (H c)), g.2.1 c⟩)
    (θ_run_and (run m ρ) (frame m ρ))

end Cert.KernelMidIdeal.Mid

namespace Cert.ReferenceMidIdeal.Mid

open Cert.ReferenceMidIdeal Cert.ReferenceMidIdeal.Value Cert.ReferenceMidIdeal.Read Idealize.ShloMosaic.StableHlo
open Cert.KernelMidIdeal.Mid (Holds)

variable {m : (ℓ : Loc Cert.KernelMidIdeal.nD Cert.KernelMidIdeal.τ Cert.KernelMidIdeal.sig) → Buf (Elt Ideal) ℓ}
  {m' : (ℓ : Loc nD τ sig) → Buf (Elt Ideal) ℓ}
variable {p sbo hgo x tgt : Dev nD → ℕ → ℕ → ℝ} {bg gain fg : Dev nD → ℕ → ℝ} {wsb whg wout : Dev nD → ℕ → ℕ → ℝ}

/-- The reference's results, from the same arguments. -/
theorem results (H : ∀ c, Holds m c (p c) (sbo c) (hgo c) (x c) (tgt c) (bg c) (gain c) (fg c) (wsb c) (whg c) (wout c)) {A : Dev nD → Args}
    (hA : A = fun c => argsOf (p c) (sbo c) (hgo c) (x c) (tgt c) (bg c) (gain c) (fg c) (wsb c) (whg c) (wout c))
    (hagree : ∀ c : Dev nD, m' (c.tc.loc main_arg0) = m (c.tc.loc Cert.KernelMidIdeal.main_arg0)
      ∧ m' (c.tc.loc main_arg1) = m (c.tc.loc Cert.KernelMidIdeal.main_arg1)
      ∧ m' (c.tc.loc main_arg2) = m (c.tc.loc Cert.KernelMidIdeal.main_arg2)
      ∧ m' (c.tc.loc main_arg3) = m (c.tc.loc Cert.KernelMidIdeal.main_arg3)
      ∧ m' (c.tc.loc main_arg4) = m (c.tc.loc Cert.KernelMidIdeal.main_arg4)
      ∧ m' (c.tc.loc main_arg5) = m (c.tc.loc Cert.KernelMidIdeal.main_arg5)
      ∧ m' (c.tc.loc main_arg6) = m (c.tc.loc Cert.KernelMidIdeal.main_arg6)
      ∧ m' (c.tc.loc main_arg7) = m (c.tc.loc Cert.KernelMidIdeal.main_arg7)
      ∧ m' (c.tc.loc main_arg8) = m (c.tc.loc Cert.KernelMidIdeal.main_arg8)
      ∧ m' (c.tc.loc main_arg9) = m (c.tc.loc Cert.KernelMidIdeal.main_arg9)
      ∧ m' (c.tc.loc main_arg10) = m (c.tc.loc Cert.KernelMidIdeal.main_arg10)) (ρ : Dev nD → PrngReg) :
    θ_run (defs (F := Ideal)) (onTc (τ := τ) (main (F := Ideal))) ⟨m', fun _ => 0, ρ⟩ (fun r => ∀ c : Dev nD,
      r.2.mem (c.tc.loc main_v101) = tall (A c).dOut
      ∧ r.2.mem (c.tc.loc main_v146) = tall (A c).dSbo
      ∧ r.2.mem (c.tc.loc main_v147) = tall (A c).dHgo
      ∧ r.2.mem (c.tc.loc main_v149) = allOf (dAll (A c))
      ∧ r.2.mem (c.tc.loc main_v151) = across (A c).aSb
      ∧ r.2.mem (c.tc.loc main_v152) = tall (A c).duSb
      ∧ r.2.mem (c.tc.loc main_v154) = across (A c).aHg
      ∧ r.2.mem (c.tc.loc main_v155) = tall (A c).duHg
      ∧ r.2.mem (c.tc.loc main_v157) = across (A c).y
      ∧ r.2.mem (c.tc.loc main_v158) = tall (A c).dOut
      ∧ r.2.mem (c.tc.loc main_v159) = (fun _ => ((1 / 2048 * ∑ t ∈ Finset.range 8192, (A c).lossOf t : ℝ) : EReal))
      ∧ r.2.mem (c.tc.loc main_v160) = line (fun k => ∑ t ∈ Finset.range 8192, (A c).fgOf t k)
      ∧ r.2.mem (c.tc.loc main_v114) = bias (fun k => ∑ t ∈ Finset.range 8192, dgl (A c) t k)
      ∧ r.2.mem (c.tc.loc main_v161) = line (fun k => ∑ t ∈ Finset.range 8192, (A c).gainOf t k)
      ∧ r.2.mem (c.tc.loc main_arg0) = m' (c.tc.loc main_arg0)
      ∧ r.2.mem (c.tc.loc main_arg1) = m' (c.tc.loc main_arg1)
      ∧ r.2.mem (c.tc.loc main_arg2) = m' (c.tc.loc main_arg2)
      ∧ r.2.mem (c.tc.loc main_arg3) = m' (c.tc.loc main_arg3)
      ∧ r.2.mem (c.tc.loc main_arg4) = m' (c.tc.loc main_arg4)
      ∧ r.2.mem (c.tc.loc main_arg5) = m' (c.tc.loc main_arg5)
      ∧ r.2.mem (c.tc.loc main_arg6) = m' (c.tc.loc main_arg6)
      ∧ r.2.mem (c.tc.loc main_arg7) = m' (c.tc.loc main_arg7)
      ∧ r.2.mem (c.tc.loc main_arg8) = m' (c.tc.loc main_arg8)
      ∧ r.2.mem (c.tc.loc main_arg9) = m' (c.tc.loc main_arg9)
      ∧ r.2.mem (c.tc.loc main_arg10) = m' (c.tc.loc main_arg10)) := by
  refine (θ_run defs _ _).mono (fun r g c => ?_) (Cert.ReferenceMidIdeal.Value.run m' ρ)
  obtain ⟨e0, e1, e2, e3, e4, e5, e6, e7, e8, e9, e10⟩ := hagree c
  have hR : Reads (A c) (p c) := by subst hA; exact ⟨fun _ _ => rfl, fun _ _ => rfl, fun _ _ => rfl⟩
  have l0 : m' (c.tc.loc main_arg0) = proj (p c) := e0.trans (H c).a0
  have l1 : m' (c.tc.loc main_arg1) = tall (A c).sbo := by subst hA; exact e1.trans (H c).a1
  have l2 : m' (c.tc.loc main_arg2) = tall (A c).hgo := by subst hA; exact e2.trans (H c).a2
  have l3 : m' (c.tc.loc main_arg3) = tall (A c).x := by subst hA; exact e3.trans (H c).a3
  have l4 : m' (c.tc.loc main_arg4) = tall (A c).tgt := by subst hA; exact e4.trans (H c).a4
  have l5 : m' (c.tc.loc main_arg5) = bias (A c).bg := by subst hA; exact e5.trans (H c).a5
  have l6 : m' (c.tc.loc main_arg6) = scales (A c).gain := by subst hA; exact e6.trans (H c).a6
  have l7 : m' (c.tc.loc main_arg7) = scale1 (A c).fg := by subst hA; exact e7.trans (H c).a7
  have l8 : m' (c.tc.loc main_arg8) = weight (A c).wsb := by subst hA; exact e8.trans (H c).a8
  have l9 : m' (c.tc.loc main_arg9) = weight (A c).whg := by subst hA; exact e9.trans (H c).a9
  have l10 : m' (c.tc.loc main_arg10) = weight (A c).wout := by subst hA; exact e10.trans (H c).a10
  obtain ⟨r0, r1, r2, r3, r4, r5, r6, r7, r8, r9, r10, r11, r12, r13, hargs⟩ := g c
  refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, hargs⟩
  · refine (val_main_v101_eq _).trans (Eq.trans ?_ (v101_real (A c) (p c) hR))
    rw [← l0, ← l1, ← l2, ← l3, ← l4, ← l5, ← l6, ← l7, ← l8, ← l9, ← l10]
  · refine (val_main_v146_eq _).trans (Eq.trans ?_ (v146_real (A c) (p c) hR))
    rw [← l0, ← l1, ← l2, ← l3, ← l4, ← l5, ← l6, ← l7, ← l8, ← l9, ← l10]
  · refine (val_main_v147_eq _).trans (Eq.trans ?_ (v147_real (A c) (p c) hR))
    rw [← l0, ← l1, ← l2, ← l3, ← l4, ← l5, ← l6, ← l7, ← l8, ← l9, ← l10]
  · refine (val_main_v149_eq _).trans (Eq.trans ?_ (v149_real (A c) (p c) hR))
    rw [← l0, ← l1, ← l2, ← l3, ← l4, ← l5, ← l6, ← l7, ← l8, ← l9, ← l10]
  · refine (val_main_v151_eq _).trans (Eq.trans ?_ (v151_real (A c) (p c) hR))
    rw [← l0, ← l1]
  · refine (val_main_v152_eq _).trans (Eq.trans ?_ (v152_real (A c) (p c) hR))
    rw [← l0, ← l1, ← l2, ← l3, ← l4, ← l5, ← l6, ← l7, ← l8, ← l9, ← l10]
  · refine (val_main_v154_eq _).trans (Eq.trans ?_ (v154_real (A c) (p c) hR))
    rw [← l0, ← l2, ← l6]
  · refine (val_main_v155_eq _).trans (Eq.trans ?_ (v155_real (A c) (p c) hR))
    rw [← l0, ← l1, ← l2, ← l3, ← l4, ← l5, ← l6, ← l7, ← l8, ← l9, ← l10]
  · refine (val_main_v157_eq _).trans (Eq.trans ?_ (v157_real (A c) (p c) hR))
    rw [← l0, ← l1, ← l2, ← l5, ← l6, ← l8, ← l9]
  · refine (val_main_v158_eq _).trans (Eq.trans ?_ (v158_real (A c) (p c) hR))
    rw [← l0, ← l1, ← l2, ← l3, ← l4, ← l5, ← l6, ← l7, ← l8, ← l9, ← l10]
  · refine (val_main_v159_eq _).trans (Eq.trans ?_ (v159_real (A c) (p c) hR))
    rw [← l0, ← l1, ← l2, ← l3, ← l4, ← l5, ← l6, ← l7, ← l8, ← l9, ← l10]
  · refine (val_main_v160_eq _).trans (Eq.trans ?_ (v160_real (A c) (p c) hR))
    rw [← l0, ← l1, ← l2, ← l3, ← l4, ← l5, ← l6, ← l7, ← l8, ← l9, ← l10]
  · refine (val_main_v114_eq _).trans (Eq.trans ?_ (v114_real (A c) (p c) hR))
    rw [← l0, ← l1, ← l2, ← l3, ← l4, ← l5, ← l6, ← l7, ← l8, ← l9, ← l10]
  · refine (val_main_v161_eq _).trans (Eq.trans ?_ (v161_real (A c) (p c) hR))
    rw [← l0, ← l1, ← l2, ← l3, ← l4, ← l5, ← l6, ← l7, ← l8, ← l9, ← l10]

end Cert.ReferenceMidIdeal.Mid

end

end
-- ==== Proof.Pre.Results.lean ====
/-
The first norm's results: the kernel and the reference both leave the normed rows and their transpose, at any arguments, and each
ends with its arguments as it found them.
-/
module

public import proofs.«01_k».proof.Proof.Pre.Ops
public import proofs.«01_k».proof.Proof.Mid.Results
public import proofs.«01_k».proof.Proof.Gen.KernelPreIdeal.Frame
public import proofs.«01_k».proof.Proof.Gen.ReferencePreIdeal.Run
public import Idealize.ShloMosaic.Lib.Pipeline.Value

@[expose] public section

set_option maxRecDepth 16384

noncomputable section

open Idealize.ShloMosaic Idealize.ShloMosaic.TcCoe Idealize.SL.Sem
open Cert.KernelMidIdeal.Mid (two_inj)

namespace Cert.Pre

/-- An array is a function of its two places. -/
theorem two_of {n k : ℕ} (x : (⟨2, ![n, k]⟩ : Shape).Idx → EReal) : ∃ f : ℕ → ℕ → EReal, x = fun i => f (i 0).val (i 1).val :=
  ⟨fun a b => Function.extend (fun i : (⟨2, ![n, k]⟩ : Shape).Idx => ((i 0).val, (i 1).val)) x (fun _ => 0) (a, b), funext fun i => (two_inj.extend_apply x _ i).symm⟩

theorem line_of (x : Cert.ReferencePreIdeal.S1x1024.Idx → EReal) : ∃ f, x = line f := by
  obtain ⟨f, hf⟩ := two_of (n := 1) (k := 1024) x
  refine ⟨f 0, hf.trans (funext fun i => ?_)⟩
  have h0 : (i 0).val < 1 := (i 0).isLt
  show f (i 0).val _ = f 0 _
  rw [show (i 0).val = 0 by omega]

end Cert.Pre

namespace Cert.KernelPreIdeal.Pre

open Cert.KernelPreIdeal Cert.KernelPreIdeal.Gen Cert.Pre

theorem places (t : Fin cfg0.N) : (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = t.val) := by
  revert t
  decide +kernel

variable {m : (ℓ : Loc nD τ sig) → Buf (Elt Ideal) ℓ} {c : Dev nD} {x : ℕ → ℕ → EReal} {g : ℕ → EReal}
  (hx : m ((c : Thread nD τ).loc main_arg0) = tall x) (hg : m ((c : Thread nD τ).loc main_arg1) = line g)

include hx in
theorem iblk_0 (t : Fin cfg0.N) : iblk m c 0 t = rows x t.val := by
  have e := (places t).1
  funext j
  unfold iblk
  blk_simp [V, hx]
  refine congrArg₂ x ?_ ?_ <;> blk_simp [e.1, e.2]
  omega

include hg in
theorem iblk_1 (t : Fin cfg0.N) : iblk m c 1 t = line g := by
  have e := (places t).2.1
  funext j
  unfold iblk
  blk_simp [V, hg]
  refine congrArg g ?_
  blk_simp [e.1, e.2]

include hx hg in
theorem arr_h : (dats m 0 c).arrAt 2 cfg0.N = Cert.ReferencePreIdeal.Read.val_main_v14 (F := Ideal) (m ((c : Thread nD τ).loc main_arg0)) (m ((c : Thread nD τ).loc main_arg1)) := by
  refine (dats m 0 c).arrAt_eq_of_covers 2 _ (by decide +kernel) fun t hf j => ?_
  have e := (places t).2.2.1
  rw [after0_2, hx, hg]
  blk_simp
  rw [iblk_0 hx, iblk_1 hg]
  refine Eq.trans ?_ (v14_at x g _).symm
  frame_out
  rw [pay2_at]
  refine congrArg₂ (norm x g) ?_ ?_ <;> blk_simp [e.1, e.2]
  omega

include hx hg in
theorem arr_ht : (dats m 0 c).arrAt 3 cfg0.N = Cert.ReferencePreIdeal.Read.val_main_v15 (F := Ideal) (m ((c : Thread nD τ).loc main_arg0)) (m ((c : Thread nD τ).loc main_arg1)) := by
  refine (dats m 0 c).arrAt_eq_of_covers 3 _ (by decide +kernel) fun t hf j => ?_
  have e := (places t).2.2.2
  rw [after0_3, hx, hg]
  blk_simp
  rw [iblk_0 hx, iblk_1 hg]
  refine Eq.trans ?_ (v15_at x g _).symm
  frame_out
  rw [pay3_at]
  refine congrArg₂ (norm x g) ?_ ?_ <;> blk_simp [e.1, e.2]
  omega

/-- The kernel's results. -/
theorem results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v0_0) = Cert.ReferencePreIdeal.Read.val_main_v14 (F := Ideal) (m (c.tc.loc main_arg0)) (m (c.tc.loc main_arg1))
      ∧ r.2.mem (c.tc.loc main_v0_1) = Cert.ReferencePreIdeal.Read.val_main_v15 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) := by
  refine (θ_run defs _ _).mono (fun r g c => ?_) (θ_run_and (run_main m ρ) (Gen.frame m ρ))
  obtain ⟨x, hx⟩ := two_of (n := 8192) (k := 1024) (m (c.tc.loc main_arg0))
  obtain ⟨s, hs⟩ := line_of (m (c.tc.loc main_arg1))
  exact ⟨((g.1 c).1 2).trans (arr_h hx hs), ((g.1 c).1 3).trans (arr_ht hx hs), g.2.1 c⟩

end Cert.KernelPreIdeal.Pre

namespace Cert.ReferencePreIdeal.Pre

open Cert.ReferencePreIdeal Cert.ReferencePreIdeal.Read

/-- The reference ends with its two arguments as it found them. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem (c.tc.loc main_arg0) = m (c.tc.loc main_arg0)
      ∧ r.2.mem (c.tc.loc main_arg1) = m (c.tc.loc main_arg1)) ∧ r.2.sem = fun _ => 0) :=
  (θ_run defs _ _).mono (fun r h => ⟨fun c => (h c).2.2, sem_eq_zero_of_no_sems (by decide) r.2⟩) (Cert.ReferencePreIdeal.Value.run m ρ)

/-- The reference's results, from the same arguments. -/
theorem results (m : (ℓ : Loc Cert.KernelPreIdeal.nD Cert.KernelPreIdeal.τ Cert.KernelPreIdeal.sig) → Buf (Elt Ideal) ℓ)
    (m' : (ℓ : Loc nD τ sig) → Buf (Elt Ideal) ℓ)
    (hagree : ∀ c : Dev nD, m' (c.tc.loc main_arg0) = m (c.tc.loc Cert.KernelPreIdeal.main_arg0)
      ∧ m' (c.tc.loc main_arg1) = m (c.tc.loc Cert.KernelPreIdeal.main_arg1)) (ρ : Dev nD → PrngReg) :
    θ_run (defs (F := Ideal)) (onTc (τ := τ) (main (F := Ideal))) ⟨m', fun _ => 0, ρ⟩ (fun r => ∀ c : Dev nD,
      r.2.mem (c.tc.loc main_v14) = val_main_v14 (F := Ideal) (m (c.tc.loc Cert.KernelPreIdeal.main_arg0)) (m (c.tc.loc Cert.KernelPreIdeal.main_arg1))
      ∧ r.2.mem (c.tc.loc main_v15) = val_main_v15 (F := Ideal) (m (c.tc.loc Cert.KernelPreIdeal.main_arg0)) (m (c.tc.loc Cert.KernelPreIdeal.main_arg1))
      ∧ r.2.mem (c.tc.loc main_arg0) = m' (c.tc.loc main_arg0)
      ∧ r.2.mem (c.tc.loc main_arg1) = m' (c.tc.loc main_arg1)) := by
  refine (θ_run defs _ _).mono (fun r g c => ?_) (Cert.ReferencePreIdeal.Value.run m' ρ)
  obtain ⟨e0, e1⟩ := hagree c
  obtain ⟨r0, r1, hargs⟩ := g c
  refine ⟨r0.trans ?_, r1.trans ?_, hargs⟩
  · rw [val_main_v14_eq, e0, e1]
  · rw [val_main_v15_eq, e0, e1]

end Cert.ReferencePreIdeal.Pre

end

end
-- ==== Proof.Dx.Model.lean ====
/-
The projections' input gradient over the reals: the five gradients side by side, back through the weight tile by tile, and through
the norm.
-/
module

public import proofs.«01_k».proof.Proof.Common.Merge

@[expose] public section

set_option maxRecDepth 16384

noncomputable section

namespace Cert.KernelDxIdeal.Dx

open Cert.Common Cert.Merge Finset

/-- The five gradients, the weight, the norm's argument and scale, and the gradient that passes by. -/
structure Args where
  q : ℕ → ℕ → ℝ
  k : ℕ → ℕ → ℝ
  v : ℕ → ℕ → ℝ
  mid : ℕ → ℕ → ℝ
  hg : ℕ → ℕ → ℝ
  w : ℕ → ℕ → ℝ
  x : ℕ → ℕ → ℝ
  g : ℕ → ℝ
  past : ℕ → ℕ → ℝ

namespace Args

variable (A : Args) (t : ℕ)

/-- The gradients in the order of the weight's columns. -/
def pr (c : ℕ) : ℝ :=
  if c < 1024 then A.q t c else if c < 2048 then A.k t (c - 1024) else if c < 3072 then A.v t (c - 2048)
  else if c < 4096 then A.mid t (c - 3072) else if c < 7168 then A.hg t (c - 4096) else A.mid t (c - 7168 + 1024)

def dh (j : ℕ) : ℝ := ∑ c ∈ range 10240, A.pr t c * A.w j c

def ms : ℝ := (∑ e ∈ range 1024, A.x t e * A.x t e) / 1024 + eps
def r : ℝ := rs (A.ms t)
def xn (j : ℕ) : ℝ := A.x t j * A.r t
def dxn (j : ℕ) : ℝ := A.dh t j * A.g j
def gx (j : ℕ) : ℝ := A.r t * (A.dxn t j - A.xn t j * ((∑ e ∈ range 1024, A.dxn t e * A.xn t e) / 1024)) + A.past t j

theorem ms_pos : 0 < A.ms t := by
  have := eps_pos
  have h : 0 ≤ ∑ e ∈ range 1024, A.x t e * A.x t e := sum_nonneg fun _ _ => mul_self_nonneg _
  unfold ms
  positivity

/-- The weight's column tile that the grid takes `b`-th, and its product. -/
def tile (b : ℕ) : ℕ := if b < 4 then b else if b < 7 then b + 3 else b - 3
def prod (b j : ℕ) : ℝ := ∑ l ∈ range 1024, A.pr t (1024 * b + l) * A.w j (1024 * b + l)
def upTo (n j : ℕ) : ℝ := ∑ b ∈ range n, A.prod t (tile b) j

/-- The tiles' columns are the five gradients' own. -/
theorem pr_q {l : ℕ} (h : l < 1024) : A.pr t (1024 * tile 0 + l) = A.q t l := by
  unfold pr
  rw [show 1024 * tile 0 + l = l from Nat.zero_add l, if_pos h]

theorem pr_k {l : ℕ} (h : l < 1024) : A.pr t (1024 * tile 1 + l) = A.k t l := by
  unfold pr
  rw [show 1024 * tile 1 + l = 1024 + l from rfl, if_neg (by omega), if_pos (by omega), Nat.add_sub_cancel_left]

theorem pr_v {l : ℕ} (h : l < 1024) : A.pr t (1024 * tile 2 + l) = A.v t l := by
  unfold pr
  rw [show 1024 * tile 2 + l = 2048 + l from rfl, if_neg (by omega), if_neg (by omega), if_pos (by omega), Nat.add_sub_cancel_left]

theorem pr_mid {b l : ℕ} (h : l < 1024) (h3 : 3 ≤ b) (h6 : b ≤ 6) : A.pr t (1024 * tile b + l) = A.mid t (1024 * (b - 3) + l) := by
  by_cases h4 : b < 4
  · have e : tile b = 3 := by unfold tile; rw [if_pos h4]; omega
    unfold pr
    rw [e, if_neg (by omega), if_neg (by omega), if_neg (by omega), if_pos (by omega)]
    exact congrArg _ (by omega)
  · have e : tile b = b + 3 := by unfold tile; rw [if_neg h4, if_pos (by omega)]
    unfold pr
    rw [e, if_neg (by omega), if_neg (by omega), if_neg (by omega), if_neg (by omega), if_neg (by omega)]
    exact congrArg _ (by omega)

theorem pr_hg {b l : ℕ} (h : l < 1024) (h7 : 7 ≤ b) (h9 : b ≤ 9) : A.pr t (1024 * tile b + l) = A.hg t (1024 * (b - 7) + l) := by
  have e : tile b = b - 3 := by unfold tile; rw [if_neg (by omega), if_neg (by omega)]
  unfold pr
  rw [e, if_neg (by omega), if_neg (by omega), if_neg (by omega), if_neg (by omega), if_pos (by omega)]
  exact congrArg _ (by omega)

theorem upTo_succ (n j : ℕ) : A.upTo t (n + 1) j = A.upTo t n j + A.prod t (tile n) j := sum_range_succ _ _

theorem sum_tiles (f : ℕ → ℝ) (n : ℕ) : ∑ b ∈ range n, ∑ l ∈ range 1024, f (1024 * b + l) = ∑ c ∈ range (1024 * n), f c := by
  induction n with
  | zero => simp
  | succ n ih => rw [sum_range_succ, ih, Nat.mul_succ, sum_range_add]

/-- All ten tiles, in whatever order, give the whole product. -/
theorem upTo_ten (j : ℕ) : A.upTo t 10 j = A.dh t j := by
  unfold dh
  rw [show (10240 : ℕ) = 1024 * 10 from rfl, ← sum_tiles (fun c => A.pr t c * A.w j c) 10]
  show ∑ b ∈ range 10, A.prod t (tile b) j = ∑ b ∈ range 10, A.prod t b j
  simp only [sum_range_succ, sum_range_zero, tile]
  norm_num
  ring

end Args

end Cert.KernelDxIdeal.Dx

end

end
-- ==== Proof.Dx.Ops.lean ====
/-
A point's operations on blocks of reals: a tile's product added to the running one, the norm, and at a row block's last tile the
gradients through it.
-/
module

public import proofs.«01_k».proof.Proof.Dx.Model
public import proofs.«01_k».proof.Proof.Common.Stick
public import proofs.«01_k».proof.Proof.Mid.Ops
public import proofs.«01_k».proof.Proof.Gen.KernelDxIdeal.Skeleton

@[expose] public section

set_option maxRecDepth 16384
set_option maxHeartbeats 1000000

noncomputable section

namespace Cert.KernelDxIdeal.Dx

open Idealize.ShloMosaic Cert.KernelDxIdeal Cert.KernelDxIdeal.Gen Cert.Common Cert.Stick Cert.Merge Finset
open Cert.KernelMidIdeal.Mid (n1024_eq)

/-- A block, one column, one row. -/
def sheet (f : ℕ → ℕ → ℝ) : S1024x1024.Idx → EReal := fun i => ((f (i 0).val (i 1).val : ℝ) : EReal)
def col (f : ℕ → ℝ) : S1024x1.Idx → EReal := fun i => ((f (i 0).val : ℝ) : EReal)
def line (f : ℕ → ℝ) : S1x1024.Idx → EReal := fun i => ((f (i 1).val : ℝ) : EReal)

theorem add_real (a p w : ℕ → ℕ → ℝ) :
    k0_pay1 (F := Ideal) (sheet a) (sheet p) (sheet w) = sheet fun r c => a r c + ∑ l ∈ range 1024, p r l * w c l := by
  funext i
  pointwise [k0_pay1, sheet]
  simp only [← EReal.coe_mul, zero_eq, sum_num (fun l => p (i 0).val l * w (i 1).val l), zero_add, ← EReal.coe_add]

theorem none_real : k0_pay7 (F := Ideal) = sheet fun _ _ => 0 := by
  funext i
  pointwise [k0_pay7, sheet]
  rfl

theorem nought_real : k0_pay6 (F := Ideal) = line fun _ => 0 := by
  funext i
  pointwise [k0_pay6, line]
  rfl

/-- The block's rows of the model. -/
def rows (f : ℕ → ℕ → ℝ) (s : ℕ) : ℕ → ℕ → ℝ := fun r c => f (1024 * s + r) c

variable (A : Args) (s : ℕ)

theorem norm_real : k0_pay2 (F := Ideal) (sheet (rows A.x s)) = col fun r => A.r (1024 * s + r) := by
  funext i
  pointwise [k0_pay2, sheet, col, rows]
  simp only [← EReal.coe_mul, zero_eq, sum_num (fun k => A.x (1024 * s + (i 0).val) k * A.x (1024 * s + (i 0).val) k), n1024_eq, eps_eq,
    div_real _ (show (1024 : ℝ) ≠ 0 by norm_num), ← EReal.coe_add]
  exact rs_num (A.ms_pos _)

theorem xn_real : k0_pay3 (F := Ideal) (sheet (rows A.x s)) = sheet (rows A.xn s) := by
  unfold k0_pay3
  rw [norm_real]
  funext i
  pointwise [sheet, col, rows]
  rw [← EReal.coe_mul]
  rfl

theorem scale_real (f : ℕ → ℝ) :
    k0_pay4 (F := Ideal) (sheet (rows A.dh s)) (sheet (rows A.x s)) (line f)
      = line fun c => f c + ∑ r ∈ range 1024, A.dh (1024 * s + r) c * A.xn (1024 * s + r) c := by
  unfold k0_pay4
  rw [xn_real]
  funext i
  pointwise [sheet, line, rows]
  simp only [← EReal.coe_mul, zero_eq, sum_num (fun r => A.dh (1024 * s + r) (i 1).val * A.xn (1024 * s + r) (i 1).val), ← EReal.coe_add]

theorem gx_real : k0_pay5 (F := Ideal) (sheet (rows A.dh s)) (sheet (rows A.x s)) (line A.g) (sheet (rows A.past s)) = sheet (rows A.gx s) := by
  unfold k0_pay5
  rw [xn_real, norm_real]
  funext i
  pointwise [sheet, line, col, rows]
  simp only [← EReal.coe_mul, zero_eq, n1024_eq,
    sum_num (fun k => A.dh (1024 * s + (i 0).val) k * A.g k * A.xn (1024 * s + (i 0).val) k),
    div_real _ (show (1024 : ℝ) ≠ 0 by norm_num), ← EReal.coe_sub, ← EReal.coe_add]
  rfl

end Cert.KernelDxIdeal.Dx

end

end
-- ==== Proof.Dx.Host.lean ====
/-
The reference's two gradients over the reals.
-/
module

public import proofs.«01_k».proof.Proof.Dx.Model
public import proofs.«01_k».proof.Proof.Mid.HostBackward
public import proofs.«01_k».proof.Proof.Gen.ReferenceDxIdeal.Read

@[expose] public section

set_option maxRecDepth 16384
set_option maxHeartbeats 1000000

noncomputable section

namespace Cert.ReferenceDxIdeal.Dx

open Idealize.ShloMosaic Cert.ReferenceDxIdeal Cert.ReferenceDxIdeal.Gen Cert.ReferenceDxIdeal.Read Cert.Common Cert.Merge Cert.Stick Finset
open Cert.ReferenceMidIdeal.Mid (mul_num add_num div_num rsqrt_num sum0_num div1024 lit0 lit1024 litE litN norm_grad)

/-- Arrays of reals. -/
def tall (f : ℕ → ℕ → ℝ) : S8192x1024.Idx → EReal := fun i => ((f (i 0).val (i 1).val : ℝ) : EReal)
def four (f : ℕ → ℕ → ℝ) : S8192x4096.Idx → EReal := fun i => ((f (i 0).val (i 1).val : ℝ) : EReal)
def three (f : ℕ → ℕ → ℝ) : S8192x3072.Idx → EReal := fun i => ((f (i 0).val (i 1).val : ℝ) : EReal)
def all (f : ℕ → ℕ → ℝ) : S8192x10240.Idx → EReal := fun i => ((f (i 0).val (i 1).val : ℝ) : EReal)
def weight (f : ℕ → ℕ → ℝ) : S1024x10240.Idx → EReal := fun i => ((f (i 0).val (i 1).val : ℝ) : EReal)
def line (f : ℕ → ℝ) : S1x1024.Idx → EReal := fun i => ((f (i 1).val : ℝ) : EReal)
def perRow (f : ℕ → ℝ) : S8192x1.Idx → EReal := fun i => ((f (i 0).val : ℝ) : EReal)

variable (A : Cert.KernelDxIdeal.Dx.Args)

theorem entry {a b : ℝ} (h : a = b) : (a : EReal) = (b : EReal) := congrArg _ h

theorem v3_real : val_main_v3 (F := Ideal) (tall A.q) (tall A.k) (tall A.v) (four A.mid) (three A.hg) = all A.pr := by
  have e0 : val_main_v0 (F := Ideal) (four A.mid) = tall A.mid := by
    funext i; rw [val_main_v0_apply]; rfl
  have e1 : val_main_v1 (F := Ideal) (four A.mid) = three (fun t c => A.mid t (1024 + c)) := by
    funext i; rw [val_main_v1_apply]; rfl
  unfold val_main_v3 val_main_v2
  rw [e0, e1]
  funext i
  pointwise [all, tall, three]
  generalize (i 0).val = t
  generalize (i 1).val = c
  simp only [Nat.sub_sub, Nat.reduceAdd]
  unfold Cert.KernelDxIdeal.Dx.Args.pr
  by_cases h1 : c < 1024
  · rw [dif_pos h1, if_pos h1]
  rw [dif_neg h1, if_neg h1]
  by_cases h2 : c < 2048
  · rw [dif_pos (by omega), if_pos h2]
  rw [dif_neg (by omega), if_neg h2]
  by_cases h3 : c < 3072
  · rw [dif_pos (by omega), if_pos h3]
  rw [dif_neg (by omega), if_neg h3]
  by_cases h4 : c < 4096
  · rw [dif_pos (by omega), if_pos h4]
  rw [dif_neg (by omega), if_neg h4]
  by_cases h5 : c < 7168
  · rw [dif_pos (by omega), if_pos h5]
  rw [dif_neg (by omega), if_neg h5, Nat.add_comm 1024]

theorem v23_real : val_main_v23 (F := Ideal) (tall A.q) (tall A.k) (tall A.v) (four A.mid) (three A.hg) (weight A.w) = tall A.dh := by
  funext i
  simp only [val_main_v23_apply, v3_real, val_main_v4_apply]
  exact (sum_congr rfl fun k _ => (EReal.coe_mul _ _).symm).trans (sum_num (n := 10240) fun k => A.pr (i 0).val k * A.w (i 1).val k)

theorem v12_real : val_main_v12 (F := Ideal) (tall A.x) = perRow A.ms := by
  funext i
  simp only [val_main_v12_apply, val_main_v11_apply, val_main_v10_apply, val_main_v9_apply, val_main_v8_apply, val_main_v7_apply, val_main_v6_apply, val_main_cst_apply,
    val_main_cst_0_apply, val_main_cst_1_apply, tall, mul_num, lit0, lit1024, litE]
  rw [sum0_num (n := 1024) fun e => A.x _ e * A.x _ e, div1024, add_num]
  rfl

theorem v13_real : val_main_v13 (F := Ideal) (tall A.x) = perRow A.r := by
  funext i
  rw [val_main_v13_apply, v12_real]
  exact rs_num (A.ms_pos _)

theorem v18_real : val_main_v18 (F := Ideal) (tall A.x) = tall A.xn := by
  funext i
  simp only [val_main_v18_apply, val_main_v17_apply, v13_real, tall, perRow, mul_num]
  rfl

theorem v16_real : val_main_v16 (F := Ideal) (tall A.x) = perRow fun t => -(1 / 2) * (A.r t / A.ms t) := by
  funext i
  simp only [val_main_v16_apply, val_main_v15_apply, val_main_v14_apply, val_main_cst_2_apply, v13_real, v12_real, perRow, litN, div_num _ (A.ms_pos _).ne', mul_num]

theorem v19_real : val_main_v19 (F := Ideal) (line A.g) = line A.g := by
  funext i
  have h1 : (i 1).val < 1024 := (i 1).isLt
  rw [val_main_v19_apply, val_main_v5_apply]
  refine entry (congrArg A.g ?_)
  dsimp only
  omega

/-- The scale's gradient. -/
theorem v45_real : val_main_v45 (F := Ideal) (tall A.q) (tall A.k) (tall A.v) (four A.mid) (three A.hg) (weight A.w) (tall A.x)
    = line fun c => ∑ t ∈ range 8192, A.dh t c * A.xn t c := by
  funext i
  simp only [val_main_v45_apply, val_main_v29_apply, val_main_v26_apply, val_main_v25_apply, val_main_v24_apply, val_main_cst_3_apply, val_main_cst_4_apply, v18_real, v23_real,
    tall, line, lit0, mul_num]
  simp only [Fin.sum_univ_one]
  rw [sum0_num (n := 8192) fun t => A.xn t _ * A.dh t _, EReal.coe_zero, zero_add]
  refine entry (sum_congr rfl fun t _ => (mul_comm _ _).trans (congrArg (fun c => A.dh t c * A.xn t c) ?_))
  simp only [Fin.val_zero]
  omega

theorem v28_real : val_main_v28 (F := Ideal) (tall A.q) (tall A.k) (tall A.v) (four A.mid) (three A.hg) (weight A.w) (line A.g) = tall A.dxn := by
  funext i
  simp only [val_main_v28_apply, val_main_v27_apply, v19_real, v23_real, tall, line, mul_num]
  rfl

theorem v38_real : val_main_v38 (F := Ideal) (tall A.q) (tall A.k) (tall A.v) (four A.mid) (three A.hg) (weight A.w) (tall A.x) (line A.g)
    = perRow fun t => (∑ e ∈ range 1024, A.x t e * A.dxn t e) * (-(1 / 2) * (A.r t / A.ms t)) / 1024 := by
  funext i
  have e0 : (i 0).val * 1 + (i 1).val = (i 0).val := by have : (i 1).val < 1 := (i 1).isLt; omega
  simp only [val_main_v38_apply, val_main_v37_apply, val_main_v36_apply, val_main_v32_apply, val_main_v31_apply, val_main_v30_apply, val_main_cst_5_apply, val_main_cst_6_apply,
    v28_real, v16_real, tall, perRow, lit0, lit1024, mul_num]
  rw [sum0_num (n := 1024) fun e => A.x _ e * A.dxn _ e, mul_num, div1024]
  simp only [e0]

/-- The gradient of the argument. -/
theorem v44_real : val_main_v44 (F := Ideal) (tall A.q) (tall A.k) (tall A.v) (four A.mid) (three A.hg) (weight A.w) (tall A.x) (line A.g) (tall A.past)
    = tall A.gx := by
  funext i
  simp only [val_main_v44_apply, val_main_v43_apply, val_main_v42_apply, val_main_v41_apply, val_main_v40_apply, val_main_v39_apply, val_main_v35_apply, val_main_v34_apply,
    val_main_v33_apply, val_main_cst_7_apply, v28_real, v13_real, v38_real, tall, perRow, lit0, mul_num, add_num]
  simp only [Fin.sum_univ_one, EReal.coe_zero, zero_add, mul_num, add_num]
  refine entry ?_
  have h := norm_grad (A.r (i 0).val) (A.ms (i 0).val) (A.x (i 0).val (i 1).val) (A.dxn (i 0).val (i 1).val) 1024 (A.x (i 0).val) (A.dxn (i 0).val) 1024 (rs_sq (A.ms_pos _))
  unfold Cert.KernelDxIdeal.Dx.Args.gx Cert.KernelDxIdeal.Dx.Args.xn
  rw [← h]
  ring

end Cert.ReferenceDxIdeal.Dx

end

end
-- ==== Proof.Dx.Points.lean ====
/-
What each point of the grid leaves over the reals: the running product of its row block with the tiles so far, and the scale's
gradient over the row blocks that are done.
-/
module

public import proofs.«01_k».proof.Proof.Dx.Ops
public import proofs.«01_k».proof.Proof.Dx.Host
public import proofs.«01_k».proof.Proof.Gen.KernelDxIdeal.Frame
public import Idealize.ShloMosaic.Lib.Pipeline.Value
public import Idealize.ShloMosaic.Lib.Pipeline.ValueKit.Basic
public import Idealize.ShloMosaic.Lib.Pipeline.ValueKit

@[expose] public section

set_option maxRecDepth 16384
set_option maxHeartbeats 1000000

noncomputable section

namespace Cert.KernelDxIdeal.Dx

open Idealize.ShloMosaic Idealize.ShloMosaic.TcCoe Idealize.SL.Sem Cert.KernelDxIdeal Cert.KernelDxIdeal.Gen Cert.Common Cert.Stick Finset

variable (m : (ℓ : Loc nD τ sig) → Buf (Elt Ideal) ℓ) (c : Dev nD)

/-- What the point before left. -/
def prev (t : Fin cfg0.N) : Vec Ideal S1024x1024 .f32 × Vec Ideal S1x1024 .f32 × Vec Ideal S1024x1024 .f32 :=
  outsAt0 m c (t.val - 1) (Nat.lt_of_le_of_lt (Nat.sub_le _ _) t.isLt)

/-- The grid's first point. -/
theorem at_start (t : Fin cfg0.N) (h0 : t.val % 80 = 0) :
    (outsAt0 m c t.val t.isLt).2 = (k0_pay6 (F := Ideal), k0_pay1 (k0_pay7 (F := Ideal)) (iblk m c 0 t) (iblk m c 5 t)) := by
  rw [outsAt0_A m c t h0 (by omega) (by omega) (by omega) (by omega) (by omega) (by omega) (by omega)]
  frame_out
  rfl

/-- A later row block's first point. -/
theorem at_first (t : Fin cfg0.N) (h0 : t.val % 10 = 0) (h1 : ¬t.val % 80 = 0) :
    (outsAt0 m c t.val t.isLt).2 = ((prev m c t).2.1, k0_pay1 (k0_pay7 (F := Ideal)) (iblk m c 0 t) (iblk m c 5 t)) := by
  rw [outsAt0_G m c t (by omega) (by omega) (by omega) (by omega) (by omega) (by omega) (by omega) (by omega)]
  frame_out
  rfl

theorem at_one (t : Fin cfg0.N) (h0 : t.val % 10 = 1) :
    (outsAt0 m c t.val t.isLt).2 = ((prev m c t).2.1, k0_pay1 (prev m c t).2.2 (iblk m c 1 t) (iblk m c 5 t)) := by
  rw [outsAt0_B m c t (by omega) (by omega) (by omega) (by omega) (by omega) (by omega) (by omega) (by omega)]
  frame_out
  exact congrArg (fun X => ((prev m c t).2.1, k0_pay1 X (iblk m c 1 t) (iblk m c 5 t))) ((Memref.isWhole_whole cc0_scratch0).read_unread _)

theorem at_two (t : Fin cfg0.N) (h0 : t.val % 10 = 2) :
    (outsAt0 m c t.val t.isLt).2 = ((prev m c t).2.1, k0_pay1 (prev m c t).2.2 (iblk m c 2 t) (iblk m c 5 t)) := by
  rw [outsAt0_C m c t (by omega) (by omega) (by omega) (by omega) (by omega) (by omega) (by omega) (by omega)]
  frame_out
  exact congrArg (fun X => ((prev m c t).2.1, k0_pay1 X (iblk m c 2 t) (iblk m c 5 t))) ((Memref.isWhole_whole cc0_scratch0).read_unread _)

theorem at_mid (t : Fin cfg0.N) (h0 : 3 ≤ t.val % 10 ∧ t.val % 10 ≤ 6) :
    (outsAt0 m c t.val t.isLt).2 = ((prev m c t).2.1, k0_pay1 (prev m c t).2.2 (iblk m c 3 t) (iblk m c 5 t)) := by
  rw [outsAt0_D m c t (by omega) (by omega) (by omega) (by omega) (by omega) (by omega) (by omega) (by omega)]
  frame_out
  exact congrArg (fun X => ((prev m c t).2.1, k0_pay1 X (iblk m c 3 t) (iblk m c 5 t))) ((Memref.isWhole_whole cc0_scratch0).read_unread _)

theorem at_hg (t : Fin cfg0.N) (h0 : 7 ≤ t.val % 10) (h1 : ¬t.val % 10 = 9) :
    (outsAt0 m c t.val t.isLt).2 = ((prev m c t).2.1, k0_pay1 (prev m c t).2.2 (iblk m c 4 t) (iblk m c 5 t)) := by
  rw [outsAt0_E m c t (by omega) (by omega) (by omega) (by omega) (by omega) (by omega) (by omega) (by omega)]
  frame_out
  exact congrArg (fun X => ((prev m c t).2.1, k0_pay1 X (iblk m c 4 t) (iblk m c 5 t))) ((Memref.isWhole_whole cc0_scratch0).read_unread _)

/-- A row block's last point. -/
theorem at_last (t : Fin cfg0.N) (h0 : t.val % 10 = 9) {dh : Vec Ideal S1024x1024 .f32} (hd : k0_pay1 (prev m c t).2.2 (iblk m c 4 t) (iblk m c 5 t) = dh) :
    outsAt0 m c t.val t.isLt = (k0_pay5 dh (iblk m c 6 t) (iblk m c 7 t) (iblk m c 8 t), k0_pay4 dh (iblk m c 6 t) (prev m c t).2.1, dh) := by
  subst hd
  rw [outsAt0_F m c t (by omega) (by omega) (by omega) (by omega) (by omega) (by omega) (by omega) (by omega)]
  frame_out
  exact congrArg (fun X => (k0_pay5 (k0_pay1 X (iblk m c 4 t) (iblk m c 5 t)) (iblk m c 6 t) (iblk m c 7 t) (iblk m c 8 t),
    k0_pay4 (k0_pay1 X (iblk m c 4 t) (iblk m c 5 t)) (iblk m c 6 t) (prev m c t).2.1, k0_pay1 X (iblk m c 4 t) (iblk m c 5 t)))
    ((Memref.isWhole_whole cc0_scratch0).read_unread _)

end Cert.KernelDxIdeal.Dx

end

end
-- ==== Proof.Dx.Blocks.lean ====
/-
What a point of the grid reads, as blocks of the model's arrays.
-/
module

public import proofs.«01_k».proof.Proof.Dx.Points

@[expose] public section

set_option maxRecDepth 16384
set_option maxHeartbeats 1000000

noncomputable section

namespace Cert.KernelDxIdeal.Dx

open Idealize.ShloMosaic Idealize.ShloMosaic.TcCoe Idealize.SL.Sem Cert.KernelDxIdeal Cert.KernelDxIdeal.Gen Cert.Common Cert.Stick Finset

variable {m : (ℓ : Loc nD τ sig) → Buf (Elt Ideal) ℓ} {c : Dev nD}

/-- The blocks' places in their arrays. -/
theorem places (t : Fin cfg0.N) :
    (win0_0.index t 0 = t.val / 10 ∧ win0_0.index t 1 = 0) ∧ (win0_1.index t 0 = t.val / 10 ∧ win0_1.index t 1 = 0) ∧ (win0_2.index t 0 = t.val / 10 ∧ win0_2.index t 1 = 0)
    ∧ (win0_3.index t 0 = t.val / 10 ∧ (3 ≤ t.val % 10 → t.val % 10 ≤ 6 → win0_3.index t 1 = t.val % 10 - 3))
    ∧ (win0_4.index t 0 = t.val / 10 ∧ (7 ≤ t.val % 10 → win0_4.index t 1 = t.val % 10 - 7))
    ∧ (win0_5.index t 0 = 0 ∧ win0_5.index t 1 = Args.tile (t.val % 10)) ∧ (win0_6.index t 0 = t.val / 10 ∧ win0_6.index t 1 = 0)
    ∧ (win0_7.index t 0 = 0 ∧ win0_7.index t 1 = 0) ∧ (win0_8.index t 0 = t.val / 10 ∧ win0_8.index t 1 = 0)
    ∧ (win0_9.index t 0 = t.val / 10 ∧ win0_9.index t 1 = 0) ∧ (win0_10.index t 0 = 0 ∧ win0_10.index t 1 = 0) := by
  revert t
  decide +kernel

/-- The arguments, as arrays of the model's reals. -/
structure Holds (m : (ℓ : Loc nD τ sig) → Buf (Elt Ideal) ℓ) (c : Dev nD) (A : Args) : Prop where
  q : m ((c : Thread nD τ).loc main_arg0) = Cert.ReferenceDxIdeal.Dx.tall A.q
  k : m ((c : Thread nD τ).loc main_arg1) = Cert.ReferenceDxIdeal.Dx.tall A.k
  v : m ((c : Thread nD τ).loc main_arg2) = Cert.ReferenceDxIdeal.Dx.tall A.v
  mid : m ((c : Thread nD τ).loc main_arg3) = Cert.ReferenceDxIdeal.Dx.four A.mid
  hg : m ((c : Thread nD τ).loc main_arg4) = Cert.ReferenceDxIdeal.Dx.three A.hg
  w : m ((c : Thread nD τ).loc main_arg5) = Cert.ReferenceDxIdeal.Dx.weight A.w
  x : m ((c : Thread nD τ).loc main_arg6) = Cert.ReferenceDxIdeal.Dx.tall A.x
  g : m ((c : Thread nD τ).loc main_arg7) = Cert.ReferenceDxIdeal.Dx.line A.g
  past : m ((c : Thread nD τ).loc main_arg8) = Cert.ReferenceDxIdeal.Dx.tall A.past

variable {A : Args} (H : Holds m c A)

theorem entry (f : ℕ → ℕ → ℝ) {a a' b b' : ℕ} (h : a = a') (h' : b = b') : ((f a b : ℝ) : EReal) = ((f a' b' : ℝ) : EReal) := by
  rw [h, h']

/-- A tile's columns of the gradients that the projections take. -/
def seg (A : Args) (s b : ℕ) : ℕ → ℕ → ℝ := fun r l => A.pr (1024 * s + r) (1024 * Args.tile b + l)

include H in
theorem iblk_0 (t : Fin cfg0.N) : iblk m c 0 t = sheet (seg A (t.val / 10) 0) := by
  have e := (places t).1
  funext j
  have h1 : (j 1).val < 1024 := (j 1).isLt
  unfold iblk
  blk_simp [V, H.q]
  refine Eq.trans (entry A.q ?_ ?_) (congrArg (fun r : ℝ => (r : EReal)) (A.pr_q (1024 * (t.val / 10) + (j 0).val) h1).symm) <;> blk_simp [e.1, e.2]
  omega

include H in
theorem iblk_1 (t : Fin cfg0.N) : iblk m c 1 t = sheet (seg A (t.val / 10) 1) := by
  have e := (places t).2.1
  funext j
  have h1 : (j 1).val < 1024 := (j 1).isLt
  unfold iblk
  blk_simp [V, H.k]
  refine Eq.trans (entry A.k ?_ ?_) (congrArg (fun r : ℝ => (r : EReal)) (A.pr_k (1024 * (t.val / 10) + (j 0).val) h1).symm) <;> blk_simp [e.1, e.2]
  omega

include H in
theorem iblk_2 (t : Fin cfg0.N) : iblk m c 2 t = sheet (seg A (t.val / 10) 2) := by
  have e := (places t).2.2.1
  funext j
  have h1 : (j 1).val < 1024 := (j 1).isLt
  unfold iblk
  blk_simp [V, H.v]
  refine Eq.trans (entry A.v ?_ ?_) (congrArg (fun r : ℝ => (r : EReal)) (A.pr_v (1024 * (t.val / 10) + (j 0).val) h1).symm) <;> blk_simp [e.1, e.2]
  omega

include H in
theorem iblk_3 (t : Fin cfg0.N) (h3 : 3 ≤ t.val % 10) (h6 : t.val % 10 ≤ 6) : iblk m c 3 t = sheet (seg A (t.val / 10) (t.val % 10)) := by
  have e := (places t).2.2.2.1
  funext j
  have h1 : (j 1).val < 1024 := (j 1).isLt
  unfold iblk
  blk_simp [V, H.mid]
  refine Eq.trans (entry A.mid ?_ ?_) (congrArg (fun r : ℝ => (r : EReal)) (A.pr_mid (1024 * (t.val / 10) + (j 0).val) h1 h3 h6).symm) <;> blk_simp [e.1, e.2 h3 h6]
  omega
  omega

include H in
theorem iblk_4 (t : Fin cfg0.N) (h7 : 7 ≤ t.val % 10) : iblk m c 4 t = sheet (seg A (t.val / 10) (t.val % 10)) := by
  have e := (places t).2.2.2.2.1
  funext j
  have h1 : (j 1).val < 1024 := (j 1).isLt
  unfold iblk
  blk_simp [V, H.hg]
  refine Eq.trans (entry A.hg ?_ ?_) (congrArg (fun r : ℝ => (r : EReal)) (A.pr_hg (1024 * (t.val / 10) + (j 0).val) h1 h7 (by omega)).symm) <;> blk_simp [e.1, e.2 h7]
  omega
  omega

include H in
theorem iblk_5 (t : Fin cfg0.N) : iblk m c 5 t = sheet (fun j l => A.w j (1024 * Args.tile (t.val % 10) + l)) := by
  have e := (places t).2.2.2.2.2.1
  funext j
  unfold iblk
  blk_simp [V, H.w]
  refine entry A.w ?_ ?_ <;> blk_simp [e.1, e.2]
  omega

include H in
theorem iblk_6 (t : Fin cfg0.N) : iblk m c 6 t = sheet (rows A.x (t.val / 10)) := by
  have e := (places t).2.2.2.2.2.2.1
  funext j
  unfold iblk
  blk_simp [V, H.x]
  refine entry A.x ?_ ?_ <;> blk_simp [e.1, e.2]
  omega

include H in
theorem iblk_7 (t : Fin cfg0.N) : iblk m c 7 t = line A.g := by
  have e := (places t).2.2.2.2.2.2.2.1
  funext j
  unfold iblk
  blk_simp [V, H.g]
  refine congrArg (fun n => ((A.g n : ℝ) : EReal)) ?_
  blk_simp [e.1, e.2]

include H in
theorem iblk_8 (t : Fin cfg0.N) : iblk m c 8 t = sheet (rows A.past (t.val / 10)) := by
  have e := (places t).2.2.2.2.2.2.2.2.1
  funext j
  unfold iblk
  blk_simp [V, H.past]
  refine entry A.past ?_ ?_ <;> blk_simp [e.1, e.2]
  omega

/-- The scale's gradient over the first rows. -/
def dgTo (A : Args) (n : ℕ) : ℕ → ℝ := fun j => ∑ t ∈ range n, A.dh t j * A.xn t j

theorem dgTo_block (A : Args) (s : ℕ) : (fun j => dgTo A (1024 * s) j + ∑ r ∈ range 1024, A.dh (1024 * s + r) j * A.xn (1024 * s + r) j) = dgTo A (1024 * (s + 1)) := by
  funext j
  unfold dgTo
  rw [Nat.mul_succ, sum_range_add]

/-- A tile's product joins the running one. -/
theorem step_real (A : Args) (s n b : ℕ) (h : n = b) :
    k0_pay1 (F := Ideal) (sheet fun r j => A.upTo (1024 * s + r) n j) (sheet (seg A s b)) (sheet fun j l => A.w j (1024 * Args.tile b + l))
      = sheet fun r j => A.upTo (1024 * s + r) (n + 1) j := by
  subst h
  rw [add_real]
  refine congrArg sheet (funext fun r => funext fun j => ?_)
  rw [A.upTo_succ]
  rfl

end Cert.KernelDxIdeal.Dx

end

end
-- ==== Proof.Dx.Left.lean ====
/-
What each point of the grid leaves over the reals: the running product of its row block with the tiles so far, and the scale's
gradient over the row blocks that are done.
-/
module

public import proofs.«01_k».proof.Proof.Dx.Blocks

@[expose] public section

set_option maxRecDepth 16384
set_option maxHeartbeats 1000000

noncomputable section

namespace Cert.KernelDxIdeal.Dx

open Idealize.ShloMosaic Idealize.ShloMosaic.TcCoe Idealize.SL.Sem Cert.KernelDxIdeal Cert.KernelDxIdeal.Gen Cert.Common Cert.Stick Finset

variable {m : (ℓ : Loc nD τ sig) → Buf (Elt Ideal) ℓ} {c : Dev nD} {A : Args} (H : Holds m c A)

attribute [local irreducible] outsAt0 k0_pay1 k0_pay4 k0_pay5 k0_pay6 k0_pay7

/-- The scale's gradient and the running product after the `n`-th point. -/
def after (A : Args) (n : ℕ) : Vec Ideal S1x1024 .f32 × Vec Ideal S1024x1024 .f32 :=
  (line (dgTo A (1024 * ((n + 1) / 10))), sheet fun r j => A.upTo (1024 * (n / 10) + r) (n % 10 + 1) j)

/-- The running product before a point that is not its row block's first. -/
theorem before_acc (n : ℕ) (h : ¬n % 10 = 0) : (after A (n - 1)).2 = sheet fun r j => A.upTo (1024 * (n / 10) + r) (n % 10) j := by
  show (sheet fun r j => A.upTo (1024 * ((n - 1) / 10) + r) ((n - 1) % 10 + 1) j) = _
  rw [show (n - 1) / 10 = n / 10 by omega, show (n - 1) % 10 + 1 = n % 10 by omega]

/-- The scale's gradient before a point. -/
theorem before_dg (n : ℕ) (h : ¬n = 0) : (after A (n - 1)).1 = line (dgTo A (1024 * (n / 10))) := by
  show line (dgTo A (1024 * ((n - 1 + 1) / 10))) = _
  rw [show n - 1 + 1 = n by omega]

/-- No tile yet. -/
theorem no_tile (s : ℕ) : k0_pay7 (F := Ideal) = sheet fun r j => A.upTo (1024 * s + r) 0 j := none_real

/-- A point that is not its row block's last leaves the scale's gradient as it is. -/
theorem after_of (n : ℕ) (h : ¬n % 10 = 9) :
    after A n = (line (dgTo A (1024 * (n / 10))), sheet fun r j => A.upTo (1024 * (n / 10) + r) (n % 10 + 1) j) := by
  unfold after
  rw [show (n + 1) / 10 = n / 10 by omega]

/-- A row block's whole product. -/
theorem whole (s : ℕ) : (sheet fun r j => A.upTo (1024 * s + r) 10 j) = sheet (rows A.dh s) :=
  congrArg sheet (funext fun r => funext fun j => A.upTo_ten _ j)

include H in
/-- The last tile's product completes the row block's. -/
theorem last_real (t : Fin cfg0.N) (h : t.val % 10 = 9) (ih : (prev m c t).2 = after A (t.val - 1)) :
    k0_pay1 (prev m c t).2.2 (iblk m c 4 t) (iblk m c 5 t) = sheet (rows A.dh (t.val / 10)) := by
  rw [ih, before_acc t.val (by omega), iblk_4 H t (by omega), iblk_5 H t, step_real A (t.val / 10) (t.val % 10) _ rfl, h]
  exact whole _

include H in
theorem left_step (t : Fin cfg0.N) (ih : ¬t.val = 0 → (prev m c t).2 = after A (t.val - 1)) :
    (outsAt0 m c t.val t.isLt).2 = after A t.val := by
  have e5 := iblk_5 H t
  have hN : t.val < 80 := lt_of_lt_of_eq t.isLt N_0
  rcases (by omega : t.val = 0 ∨ (t.val % 10 = 0 ∧ ¬t.val = 0) ∨ t.val % 10 = 1 ∨ t.val % 10 = 2 ∨ (3 ≤ t.val % 10 ∧ t.val % 10 ≤ 6) ∨ (7 ≤ t.val % 10 ∧ ¬t.val % 10 = 9) ∨ t.val % 10 = 9)
    with h | h | h | h | h | h | h
  · rw [at_start m c t (by omega), after_of _ (by omega), iblk_0 H, e5, no_tile (A := A) (t.val / 10), nought_real, h]
    exact congrArg (Prod.mk _) (step_real A (0 / 10) 0 0 rfl)
  · rw [at_first m c t h.1 (by omega), after_of _ (by omega), ih h.2, before_dg _ h.2, iblk_0 H, e5, no_tile (A := A) (t.val / 10), h.1]
    exact congrArg (Prod.mk _) (step_real A _ 0 0 rfl)
  · rw [at_one m c t h, after_of _ (by omega), ih (by omega), before_dg _ (by omega), before_acc _ (by omega), iblk_1 H, e5, h]
    exact congrArg (Prod.mk _) (step_real A _ 1 1 rfl)
  · rw [at_two m c t h, after_of _ (by omega), ih (by omega), before_dg _ (by omega), before_acc _ (by omega), iblk_2 H, e5, h]
    exact congrArg (Prod.mk _) (step_real A _ 2 2 rfl)
  · rw [at_mid m c t h, after_of _ (by omega), ih (by omega), before_dg _ (by omega), before_acc _ (by omega), iblk_3 H t h.1 h.2, e5]
    exact congrArg (Prod.mk _) (step_real A _ _ _ rfl)
  · rw [at_hg m c t h.1 h.2, after_of _ (by omega), ih (by omega), before_dg _ (by omega), before_acc _ (by omega), iblk_4 H t h.1, e5]
    exact congrArg (Prod.mk _) (step_real A _ _ _ rfl)
  · have hp := ih (by omega)
    rw [at_last m c t h (last_real H t h hp), hp, before_dg _ (by omega), iblk_6 H, scale_real, dgTo_block]
    unfold after
    rw [show (t.val + 1) / 10 = t.val / 10 + 1 by omega, h]
    exact congrArg (Prod.mk _) (whole _).symm

include H in
/-- What a point leaves: the scale's gradient over the finished row blocks, and the row block's product with the tiles so far. -/
theorem left_real (n : ℕ) : ∀ t : Fin cfg0.N, t.val = n → (outsAt0 m c t.val t.isLt).2 = after A t.val := by
  induction n with
  | zero => exact fun t h => left_step H t (absurd h)
  | succ n ih => exact fun t h => left_step H t fun _ => ih ⟨t.val - 1, Nat.lt_of_le_of_lt (Nat.sub_le _ _) t.isLt⟩ (show t.val - 1 = n by omega)

include H in
/-- A row block's gradient. -/
theorem rows_real (t : Fin cfg0.N) (h : t.val % 10 = 9) : (outsAt0 m c t.val t.isLt).1 = sheet (rows A.gx (t.val / 10)) := by
  have hp : (prev m c t).2 = after A (t.val - 1) :=
    left_real H (t.val - 1) ⟨t.val - 1, Nat.lt_of_le_of_lt (Nat.sub_le _ _) t.isLt⟩ rfl
  rw [at_last m c t h (last_real H t h hp), iblk_6 H, iblk_7 H, iblk_8 H, gx_real]

end Cert.KernelDxIdeal.Dx

end

end
-- ==== Proof.Dx.Arrays.lean ====
/-
The two arrays that the launch leaves.
-/
module

public import proofs.«01_k».proof.Proof.Dx.Left

@[expose] public section

set_option maxRecDepth 16384
set_option maxHeartbeats 1000000

noncomputable section

namespace Cert.KernelDxIdeal.Dx

open Idealize.ShloMosaic Idealize.ShloMosaic.TcCoe Idealize.SL.Sem Cert.KernelDxIdeal Cert.KernelDxIdeal.Gen Cert.Common Cert.Stick Finset

variable {m : (ℓ : Loc nD τ sig) → Buf (Elt Ideal) ℓ} {c : Dev nD} {A : Args} (H : Holds m c A)

include H in
theorem arr_gx : (dats m 0 c).arrAt 9 cfg0.N = Cert.ReferenceDxIdeal.Dx.tall A.gx := by
  refine (dats m 0 c).arrAt_eq_of_covers 9 _ (by decide +kernel) fun t hf j => ?_
  have e := (places t).2.2.2.2.2.2.2.2.2.1
  have h9 := (flush0_9 t).mp hf
  blk_simp
  show (outsAt0 m c t.val t.isLt).1 _ = _
  rw [rows_real H t h9]
  refine entry A.gx ?_ ?_ <;> blk_simp [e.1, e.2]
  omega

include H in
theorem arr_dg : (dats m 0 c).arrAt 10 cfg0.N = Cert.ReferenceDxIdeal.Dx.line fun j => ∑ t ∈ range 8192, A.dh t j * A.xn t j := by
  refine (dats m 0 c).arrAt_eq_of_covers 10 _ (by decide +kernel) fun t hf j => ?_
  have e := (places t).2.2.2.2.2.2.2.2.2.2
  have h9 := (flush0_10 t).mp hf
  have hN : t.val < 80 := lt_of_lt_of_eq t.isLt N_0
  blk_simp
  show (outsAt0 m c t.val t.isLt).2.1 _ = _
  rw [left_real H t.val t rfl]
  unfold after
  rw [show (t.val + 1) / 10 = 8 by omega]
  refine congrArg (fun n => ((dgTo A 8192 n : ℝ) : EReal)) ?_
  blk_simp [e.1, e.2]

end Cert.KernelDxIdeal.Dx

end

end
-- ==== Proof.Dx.Results.lean ====
/-
The input's gradient: from finite arguments the kernel and the reference both leave the model's gradients, and each ends with its
arguments as it found them.
-/
module

public import proofs.«01_k».proof.Proof.Dx.Arrays
public import proofs.«01_k».proof.Proof.Mid.Results
public import proofs.«01_k».proof.Proof.Gen.ReferenceDxIdeal.Run
public import proofs.«01_k».proof.Defs

@[expose] public section

set_option maxRecDepth 16384
set_option maxHeartbeats 1000000

noncomputable section

open Idealize.ShloMosaic Idealize.ShloMosaic.TcCoe Idealize.SL.Sem
open Cert.KernelMidIdeal.Mid (real_of two_real)
open Cert.ReferenceDxIdeal.Dx (tall line)

namespace Cert.KernelDxIdeal.Dx

open Cert.KernelDxIdeal Cert.KernelDxIdeal.Gen

theorem line_is_real (x : S1x1024.Idx → EReal) (h : ∀ i, ∃ r : ℝ, x i = r) : ∃ f, x = line f := by
  obtain ⟨f, hf⟩ := real_of (fun i : S1x1024.Idx => (i 1).val) (fun i j h => funext fun a => Fin.ext (match a with
    | ⟨0, _⟩ => by have h0 : (i 0).val < 1 := (i 0).isLt; have h1 : (j 0).val < 1 := (j 0).isLt; show (i 0).val = (j 0).val; omega
    | ⟨1, _⟩ => h)) x h
  exact ⟨f, funext hf⟩

variable {m : (ℓ : Loc nD τ sig) → Buf (Elt Ideal) ℓ}

/-- Finite arguments hold reals. -/
theorem finite_args [Cert.Pre_finite_dx.Facts] (h : Cert.Pre_KernelDxIdeal_finite_dx m) (c : Dev nD) : ∃ A : Args, Holds m c A := by
  obtain ⟨h0, h1, h2, h3, h4, h5, h6, h7, h8⟩ := h c
  obtain ⟨q, a0⟩ := two_real (n := 8192) (k := 1024) (m (c.tc.loc main_arg0)) fun i => Cert.Common.real_of_cmp (congrFun h0 i)
  obtain ⟨k, a1⟩ := two_real (n := 8192) (k := 1024) (m (c.tc.loc main_arg1)) fun i => Cert.Common.real_of_cmp (congrFun h1 i)
  obtain ⟨v, a2⟩ := two_real (n := 8192) (k := 1024) (m (c.tc.loc main_arg2)) fun i => Cert.Common.real_of_cmp (congrFun h2 i)
  obtain ⟨mid, a3⟩ := two_real (n := 8192) (k := 4096) (m (c.tc.loc main_arg3)) fun i => Cert.Common.real_of_cmp (congrFun h3 i)
  obtain ⟨hg, a4⟩ := two_real (n := 8192) (k := 3072) (m (c.tc.loc main_arg4)) fun i => Cert.Common.real_of_cmp (congrFun h4 i)
  obtain ⟨w, a5⟩ := two_real (n := 1024) (k := 10240) (m (c.tc.loc main_arg5)) fun i => Cert.Common.real_of_cmp (congrFun h5 i)
  obtain ⟨x, a6⟩ := two_real (n := 8192) (k := 1024) (m (c.tc.loc main_arg6)) fun i => Cert.Common.real_of_cmp (congrFun h6 i)
  obtain ⟨g, a7⟩ := line_is_real (m (c.tc.loc main_arg7)) fun i => Cert.Common.real_of_cmp (congrFun h7 i)
  obtain ⟨past, a8⟩ := two_real (n := 8192) (k := 1024) (m (c.tc.loc main_arg8)) fun i => Cert.Common.real_of_cmp (congrFun h8 i)
  exact ⟨⟨q, k, v, mid, hg, w, x, g, past⟩, a0, a1, a2, a3, a4, a5, a6, a7, a8⟩

/-- The kernel's results. -/
theorem results {A : Dev nD → Args} (H : ∀ c, Holds m c (A c)) (ρ : Dev nD → PrngReg) :
    θ_run (defs (F := Ideal)) (onTc (τ := τ) (main (F := Ideal))) ⟨m, fun _ => 0, ρ⟩ (fun r => ∀ c : Dev nD,
      r.2.mem (c.tc.loc main_v0_0) = tall (A c).gx
      ∧ r.2.mem (c.tc.loc main_v0_1) = line (fun j => ∑ t ∈ Finset.range 8192, (A c).dh t j * (A c).xn t j)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)) :=
  (θ_run defs _ _).mono (fun r g c => ⟨((g.1 c).1 9).trans (arr_gx (H c)), ((g.1 c).1 10).trans (arr_dg (H c)), g.2.1 c⟩)
    (θ_run_and (run_main m ρ) (Gen.frame m ρ))

end Cert.KernelDxIdeal.Dx

namespace Cert.ReferenceDxIdeal.Dx

open Cert.ReferenceDxIdeal Cert.ReferenceDxIdeal.Read
open Cert.KernelDxIdeal.Dx (Holds)

/-- The reference ends with its nine arguments as it found them. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)) ∧ r.2.sem = fun _ => 0) :=
  (θ_run defs _ _).mono (fun r h => ⟨fun c => (h c).2.2, sem_eq_zero_of_no_sems (by decide) r.2⟩) (Cert.ReferenceDxIdeal.Value.run m ρ)

variable {m : (ℓ : Loc Cert.KernelDxIdeal.nD Cert.KernelDxIdeal.τ Cert.KernelDxIdeal.sig) → Buf (Elt Ideal) ℓ}
  {m' : (ℓ : Loc nD τ sig) → Buf (Elt Ideal) ℓ}

/-- The reference's results, from the same arguments. -/
theorem results {A : Dev nD → Cert.KernelDxIdeal.Dx.Args} (H : ∀ c, Holds m c (A c))
    (hagree : ∀ c : Dev nD, m' (c.tc.loc main_arg0) = m (c.tc.loc Cert.KernelDxIdeal.main_arg0)
      ∧ m' (c.tc.loc main_arg1) = m (c.tc.loc Cert.KernelDxIdeal.main_arg1)
      ∧ m' (c.tc.loc main_arg2) = m (c.tc.loc Cert.KernelDxIdeal.main_arg2)
      ∧ m' (c.tc.loc main_arg3) = m (c.tc.loc Cert.KernelDxIdeal.main_arg3)
      ∧ m' (c.tc.loc main_arg4) = m (c.tc.loc Cert.KernelDxIdeal.main_arg4)
      ∧ m' (c.tc.loc main_arg5) = m (c.tc.loc Cert.KernelDxIdeal.main_arg5)
      ∧ m' (c.tc.loc main_arg6) = m (c.tc.loc Cert.KernelDxIdeal.main_arg6)
      ∧ m' (c.tc.loc main_arg7) = m (c.tc.loc Cert.KernelDxIdeal.main_arg7)
      ∧ m' (c.tc.loc main_arg8) = m (c.tc.loc Cert.KernelDxIdeal.main_arg8)) (ρ : Dev nD → PrngReg) :
    θ_run (defs (F := Ideal)) (onTc (τ := τ) (main (F := Ideal))) ⟨m', fun _ => 0, ρ⟩ (fun r => ∀ c : Dev nD,
      r.2.mem (c.tc.loc main_v44) = tall (A c).gx
      ∧ r.2.mem (c.tc.loc main_v45) = line (fun j => ∑ t ∈ Finset.range 8192, (A c).dh t j * (A c).xn t j)
      ∧ r.2.mem (c.tc.loc main_arg0) = m' (c.tc.loc main_arg0)
      ∧ r.2.mem (c.tc.loc main_arg1) = m' (c.tc.loc main_arg1)
      ∧ r.2.mem (c.tc.loc main_arg2) = m' (c.tc.loc main_arg2)
      ∧ r.2.mem (c.tc.loc main_arg3) = m' (c.tc.loc main_arg3)
      ∧ r.2.mem (c.tc.loc main_arg4) = m' (c.tc.loc main_arg4)
      ∧ r.2.mem (c.tc.loc main_arg5) = m' (c.tc.loc main_arg5)
      ∧ r.2.mem (c.tc.loc main_arg6) = m' (c.tc.loc main_arg6)
      ∧ r.2.mem (c.tc.loc main_arg7) = m' (c.tc.loc main_arg7)
      ∧ r.2.mem (c.tc.loc main_arg8) = m' (c.tc.loc main_arg8)) := by
  refine (θ_run defs _ _).mono (fun r g c => ?_) (Cert.ReferenceDxIdeal.Value.run m' ρ)
  obtain ⟨e0, e1, e2, e3, e4, e5, e6, e7, e8⟩ := hagree c
  have l0 := e0.trans (H c).q
  have l1 := e1.trans (H c).k
  have l2 := e2.trans (H c).v
  have l3 := e3.trans (H c).mid
  have l4 := e4.trans (H c).hg
  have l5 := e5.trans (H c).w
  have l6 := e6.trans (H c).x
  have l7 := e7.trans (H c).g
  have l8 := e8.trans (H c).past
  obtain ⟨r0, r1, hargs⟩ := g c
  refine ⟨r0.trans ?_, r1.trans ?_, hargs⟩
  · refine (val_main_v44_eq _ _).trans (Eq.trans ?_ (v44_real (A c)))
    rw [← l0, ← l1, ← l2, ← l3, ← l4, ← l5, ← l6, ← l7, ← l8]
  · refine (val_main_v45_eq _ _ _ _ _ _ _).trans (Eq.trans ?_ (v45_real (A c)))
    rw [← l0, ← l1, ← l2, ← l3, ← l4, ← l5, ← l6]

end Cert.ReferenceDxIdeal.Dx

end

end
-- ==== Proof.Small.Tail.lean ====
/- The parameter update of the small weights: what each result holds, as the host lines after the call read it from
   the packed arrays that the call returns, and what the host lines before the call put into the packed arguments. -/
module
public import proofs.«01_k».proof.Proof.Gen.KernelSmallIdeal.Frame
public import Idealize.ShloMosaic.Lib.Pointwise
public import Idealize.ShloMosaic.Lib.StableHlo.ReadAt
@[expose] public section
set_option maxRecDepth 16384
noncomputable section
namespace Cert.KernelSmallIdeal.Small
open Cert.KernelSmallIdeal Cert.KernelSmallIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The five pieces of a packed array, in the arrays' own shapes. -/
def ngOf (x : FVec F S56x128 .f32) : FVec F S1x1024 .f32 :=
  shapeCast _ (extractStridedSlice S8x128 ![0, 0] x slices_S56x128_S8x128_0_0) shapeCasts_S8x128_S1x1024
@[inherit_doc ngOf] def bgOf (x : FVec F S56x128 .f32) : FVec F S1x2048 .f32 :=
  shapeCast _ (extractStridedSlice S16x128 ![8, 0] x slices_S56x128_S16x128_8_0) shapeCasts_S16x128_S1x2048
@[inherit_doc ngOf] def lbOf (x : FVec F S56x128 .f32) : FVec F S2x8x128 .f32 :=
  shapeCast _ (extractStridedSlice S16x128 ![24, 0] x slices_S56x128_S16x128_24_0) shapeCasts_S16x128_S2x8x128
@[inherit_doc ngOf] def hgOf (x : FVec F S56x128 .f32) : FVec F S1x8x128 .f32 :=
  shapeCast _ (extractStridedSlice S8x128 ![40, 0] x slices_S56x128_S8x128_40_0) shapeCasts_S8x128_S1x8x128
@[inherit_doc ngOf] def fgOf (x : FVec F S56x128 .f32) : FVec F S1024 .f32 :=
  shapeCast _ (extractStridedSlice S8x128 ![48, 0] x slices_S56x128_S8x128_48_0) shapeCasts_S8x128_S1024

/-- Five weights packed into rows of 128. -/
def pack (a : FVec F S1x1024 .f32) (b : FVec F S1x2048 .f32) (l : FVec F S2x8x128 .f32) (h : FVec F S1x8x128 .f32)
    (f : FVec F S1024 .f32) : FVec F S56x128 .f32 :=
  concatenate S56x128 0 [⟨S8x128, shapeCast S8x128 a shapeCasts_S1x1024_S8x128⟩, ⟨S16x128, shapeCast S16x128 b shapeCasts_S1x2048_S16x128⟩,
    ⟨S16x128, shapeCast S16x128 l shapeCasts_S2x8x128_S16x128⟩, ⟨S8x128, shapeCast S8x128 h shapeCasts_S1x8x128_S8x128⟩,
    ⟨S8x128, shapeCast S8x128 f shapeCasts_S1024_S8x128⟩] concatenates_S8x128_S16x128_S16x128_S8x128_S8x128_S56x128_d0

theorem V_w (c : Dev nD) : V m c main_v17 = pack (m (c.tc.loc main_arg6)) (m (c.tc.loc main_arg7)) (m (c.tc.loc main_arg8))
    (m (c.tc.loc main_arg9)) (m (c.tc.loc main_arg10)) := by
  unfold V V0; after_reads_simp; rfl
theorem V_m (c : Dev nD) : V m c main_v23 = pack (m (c.tc.loc main_arg11)) (m (c.tc.loc main_arg12)) (m (c.tc.loc main_arg13))
    (m (c.tc.loc main_arg14)) (m (c.tc.loc main_arg15)) := by
  unfold V V0; after_reads_simp; rfl
theorem V_v (c : Dev nD) : V m c main_v29 = pack (m (c.tc.loc main_arg16)) (m (c.tc.loc main_arg17)) (m (c.tc.loc main_arg18))
    (m (c.tc.loc main_arg19)) (m (c.tc.loc main_arg20)) := by
  unfold V V0; after_reads_simp; rfl

/-- The lines after the call, from any contents. -/
theorem tail_eq (W : Valuation τ sig (Elt F)) :
    let X : Valuation τ sig (Elt F) := after (List.flatten [hostOps1]) W
    (X ↑main_v31 = shapeCast S_ (W ↑main_v30_0) shapeCasts_S1x1_S_)
    ∧ (X ↑main_v33 = ngOf (W ↑main_v30_1) ∧ X ↑main_v35 = bgOf (W ↑main_v30_1) ∧ X ↑main_v37 = lbOf (W ↑main_v30_1)
        ∧ X ↑main_v39 = hgOf (W ↑main_v30_1) ∧ X ↑main_v41 = fgOf (W ↑main_v30_1))
    ∧ (X ↑main_v43 = ngOf (W ↑main_v30_2) ∧ X ↑main_v45 = bgOf (W ↑main_v30_2) ∧ X ↑main_v47 = lbOf (W ↑main_v30_2)
        ∧ X ↑main_v49 = hgOf (W ↑main_v30_2) ∧ X ↑main_v51 = fgOf (W ↑main_v30_2))
    ∧ (X ↑main_v53 = ngOf (W ↑main_v30_3) ∧ X ↑main_v55 = bgOf (W ↑main_v30_3) ∧ X ↑main_v57 = lbOf (W ↑main_v30_3)
        ∧ X ↑main_v59 = hgOf (W ↑main_v30_3) ∧ X ↑main_v61 = fgOf (W ↑main_v30_3))
    ∧ (X ↑main_v63 = ngOf (W ↑main_v30_4) ∧ X ↑main_v65 = bgOf (W ↑main_v30_4) ∧ X ↑main_v67 = lbOf (W ↑main_v30_4)
        ∧ X ↑main_v69 = hgOf (W ↑main_v30_4) ∧ X ↑main_v71 = fgOf (W ↑main_v30_4)) := by
  intro X
  refine ⟨?_, ⟨?_, ?_, ?_, ?_, ?_⟩, ⟨?_, ?_, ?_, ?_, ?_⟩, ⟨?_, ?_, ?_, ?_, ?_⟩, ?_, ?_, ?_, ?_, ?_⟩ <;>
    (unfold X; simp only [List.flatten_cons, List.flatten_nil, List.append_nil]; after_reads_simp; rfl)

end Cert.KernelSmallIdeal.Small
end
-- ==== Proof.Small.Pack.lean ====
/- The pieces of the packed arrays: unpacking what was packed gives the array back, and the packed gradients of the
   kernel unpack to the gradients it was given, the lower bound's apart. -/
module
public import proofs.«01_k».proof.Proof.Small.Tail
@[expose] public section
set_option maxRecDepth 16384
noncomputable section
namespace Cert.KernelSmallIdeal.Small
open Cert.KernelSmallIdeal Cert.KernelSmallIdeal.Gen Idealize.ShloMosaic Idealize.ShloMosaic.TcCoe Idealize.SL.Sem
variable {F : FTy → Type} [FloatOps F]
variable (a : FVec F S1x1024 .f32) (b : FVec F S1x2048 .f32) (l : FVec F S2x8x128 .f32) (h : FVec F S1x8x128 .f32)
    (f : FVec F S1024 .f32)

theorem ng_pack : ngOf (pack a b l h f) = a := by
  funext j
  have h0 : (j 0).val < 1 := (j 0).isLt; have h1 : (j 1).val < 1024 := (j 1).isLt
  pointwise [ngOf, pack]
  split_ifs <;> first | omega | rfl | (congr 1; idx_ext <;> omega)
theorem bg_pack : bgOf (pack a b l h f) = b := by
  funext j
  have h0 : (j 0).val < 1 := (j 0).isLt; have h1 : (j 1).val < 2048 := (j 1).isLt
  pointwise [bgOf, pack]
  split_ifs <;> first | omega | rfl | (congr 1; idx_ext <;> omega)
theorem lb_pack : lbOf (pack a b l h f) = l := by
  funext j
  have h0 : (j 0).val < 2 := (j 0).isLt; have h1 : (j 1).val < 8 := (j 1).isLt; have h2 : (j 2).val < 128 := (j 2).isLt
  pointwise [lbOf, pack]
  split_ifs <;> first | omega | rfl | (congr 1; idx_ext <;> omega)
theorem hg_pack : hgOf (pack a b l h f) = h := by
  funext j
  have h0 : (j 0).val < 1 := (j 0).isLt; have h1 : (j 1).val < 8 := (j 1).isLt; have h2 : (j 2).val < 128 := (j 2).isLt
  pointwise [hgOf, pack]
  split_ifs <;> first | omega | rfl | (congr 1; idx_ext <;> omega)
theorem fg_pack : fgOf (pack a b l h f) = f := by
  funext j
  have h0 : (j 0).val < 1024 := (j 0).isLt
  pointwise [fgOf, pack]
  split_ifs <;> first | omega | rfl | (congr 1; idx_ext <;> omega)
end Cert.KernelSmallIdeal.Small
end
-- ==== Proof.Small.Grads.lean ====
/- The packed gradients, written out by the call, unpack to the gradients that it was given; the lower bound's is the
   softmax's gradient, here at an index. -/
module
public import proofs.«01_k».proof.Proof.Small.Pack
public import Idealize.ShloMosaic.Lib.Routing.OpsSet
@[expose] public section
set_option maxRecDepth 16384
noncomputable section
namespace Cert.KernelSmallIdeal.Small
open Cert.KernelSmallIdeal Cert.KernelSmallIdeal.Gen Idealize.ShloMosaic Idealize.ShloMosaic.TcCoe Idealize.SL.Sem
open Idealize.ShloMosaic.StableHlo
variable {F : FTy → Type} [FloatOps F]
variable (m : (ℓ : Loc nD τ sig) → Buf (Elt F) ℓ)

/-- The packed sums: a row block holding the loss in its corner, then five gradients. -/
def sums (z : FVec F S8x128 .f32) (a : FVec F S1x1024 .f32) (b : FVec F S1x2048 .f32) (d h f : FVec F S1x1024 .f32) :
    FVec F S56x128 .f32 :=
  concatenate S56x128 0 [⟨S8x128, z⟩, ⟨S8x128, shapeCast S8x128 a shapeCasts_S1x1024_S8x128⟩,
    ⟨S16x128, shapeCast S16x128 b shapeCasts_S1x2048_S16x128⟩, ⟨S8x128, shapeCast S8x128 d shapeCasts_S1x1024_S8x128⟩,
    ⟨S8x128, shapeCast S8x128 h shapeCasts_S1x1024_S8x128⟩, ⟨S8x128, shapeCast S8x128 f shapeCasts_S1x1024_S8x128⟩]
    concatenates_S8x128_S8x128_S16x128_S8x128_S8x128_S8x128_S56x128_d0

/-- The scatter that writes the loss into the corner, as the host lines spell it. -/
def corner (x : FVec F S1x1 .f32) : FVec F S8x128 .f32 :=
  Host.scatter scatter_S8x128_S2_S__n_01_01_0 (fun _ b => b) (broadcastInDim S8x128 ![] bcast_S_S8x128 (constant S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0) (shapeCast S_ x shapeCasts_S1x1_S_)

theorem V_s (c : Dev nD) : V m c main_v11 = sums (corner (m (c.tc.loc main_arg0))) (m (c.tc.loc main_arg1)) (m (c.tc.loc main_arg2))
    (m (c.tc.loc main_arg3)) (m (c.tc.loc main_arg4)) (m (c.tc.loc main_arg5)) := by
  unfold V V0; after_reads_simp; rfl

theorem corner_apply (x : FVec F S1x1 .f32) : corner x (ix2 0 0) = x (ix2 0 0) := by
  unfold corner
  have hidx : (concatenate S2 0 [⟨S1, broadcastInDim S1 ![] bcast_S_S1 (constantI S_ 32 0#32)⟩,
      ⟨S1, broadcastInDim S1 ![] bcast_S_S1 (constantI S_ 32 0#32)⟩] concatenates_S1_S1_S2_d0) = (fun _ => 0#32) := by
    funext j; pointwise []; exact ite_self _
  rw [hidx]
  refine (Routing.scatter_set_hit _ _ _ _ _ (x (ix2 0 0)) (fun j _ => ?_) ix0 ?_)
  · pointwise []
  · decide

variable (z : FVec F S8x128 .f32) (a : FVec F S1x1024 .f32) (b : FVec F S1x2048 .f32) (d h f : FVec F S1x1024 .f32)
  (w : FVec F S56x128 .f32)

/-- Six row blocks side by side, as the body puts the gradients together. -/
def cat (A : FVec F S8x128 .f32) (B : FVec F S16x128 .f32) (L₀ L₁ H G : FVec F S8x128 .f32) : FVec F S56x128 .f32 :=
  concatenate S56x128 0 [⟨S8x128, A⟩, ⟨S16x128, B⟩, ⟨S8x128, L₀⟩, ⟨S8x128, L₁⟩, ⟨S8x128, H⟩, ⟨S8x128, G⟩]
    concatenates_S8x128_S16x128_S8x128_S8x128_S8x128_S8x128_S56x128_d0

section cat
variable (A : FVec F S8x128 .f32) (B : FVec F S16x128 .f32) (L₀ L₁ H G : FVec F S8x128 .f32)
theorem ng_cat : ngOf (cat A B L₀ L₁ H G) = shapeCast _ A shapeCasts_S8x128_S1x1024 := by
  funext j
  have h0 : (j 0).val < 1 := (j 0).isLt; have h1 : (j 1).val < 1024 := (j 1).isLt
  pointwise [ngOf, cat]
  split_ifs <;> first | omega | rfl | (congr 1; idx_ext <;> omega)
theorem bg_cat : bgOf (cat A B L₀ L₁ H G) = shapeCast _ B shapeCasts_S16x128_S1x2048 := by
  funext j
  have h0 : (j 0).val < 1 := (j 0).isLt; have h1 : (j 1).val < 2048 := (j 1).isLt
  pointwise [bgOf, cat]
  split_ifs <;> first | omega | rfl | (congr 1; idx_ext <;> omega)
theorem lb_cat (j : S2x8x128.Idx) : lbOf (cat A B L₀ L₁ H G) j
    = if (j 0).val = 0 then L₀ (ix2 (j 1) (j 2)) else L₁ (ix2 (j 1) (j 2)) := by
  have h0 : (j 0).val < 2 := (j 0).isLt; have h1 : (j 1).val < 8 := (j 1).isLt; have h2 : (j 2).val < 128 := (j 2).isLt
  pointwise [lbOf, cat]
  by_cases e : (j 0).val = 0
  · rw [if_pos e]
    split_ifs <;> first | omega | rfl | (congr 1; idx_ext <;> omega)
  · rw [if_neg e]
    split_ifs <;> first | omega | rfl | (congr 1; idx_ext <;> omega)
theorem hg_cat : hgOf (cat A B L₀ L₁ H G) = shapeCast _ H shapeCasts_S8x128_S1x8x128 := by
  funext j
  have h0 : (j 0).val < 1 := (j 0).isLt; have h1 : (j 1).val < 8 := (j 1).isLt; have h2 : (j 2).val < 128 := (j 2).isLt
  pointwise [hgOf, cat]
  split_ifs <;> first | omega | rfl | (congr 1; idx_ext <;> omega)
theorem fg_cat : fgOf (cat A B L₀ L₁ H G) = shapeCast _ G shapeCasts_S8x128_S1024 := by
  funext j
  have h0 : (j 0).val < 1024 := (j 0).isLt
  pointwise [fgOf, cat]
  split_ifs <;> first | omega | rfl | (congr 1; idx_ext <;> omega)
end cat

/-- The body's gradient of the two rows of logits `x` (the first layer's) and `y`, for `d` the lower bound's. -/
def soft₀ (x y : FVec F S8x128 .f32) : FVec F S8x128 .f32 :=
  divf (exp (subf x (maximumf x y))) (addf (exp (subf x (maximumf x y))) (exp (subf y (maximumf x y))))
@[inherit_doc soft₀] def soft₁ (x y : FVec F S8x128 .f32) : FVec F S8x128 .f32 :=
  divf (exp (subf y (maximumf x y))) (addf (exp (subf x (maximumf x y))) (exp (subf y (maximumf x y))))
@[inherit_doc soft₀] def grad₀ (d x y : FVec F S8x128 .f32) : FVec F S8x128 .f32 :=
  mulf (mulf d (soft₀ x y)) (subf (broadcast S8x128 (Scalar.ofBits .f32 0x3F800000#32)) (soft₀ x y))
@[inherit_doc soft₀] def grad₁ (d x y : FVec F S8x128 .f32) : FVec F S8x128 .f32 :=
  mulf (mulf (subf (broadcast S8x128 (Scalar.ofBits .f32 0x00000000#32)) d) (soft₀ x y)) (soft₁ x y)

theorem pay6_eq (v w : FVec F S56x128 .f32) : k0_pay6 v w
    = cat (extractStridedSlice S8x128 ![8, 0] v slices_S56x128_o8_0_S8x128) (extractStridedSlice S16x128 ![16, 0] v slices_S56x128_o16_0_S16x128)
        (grad₀ (extractStridedSlice S8x128 ![32, 0] v slices_S56x128_o32_0_S8x128) (extractStridedSlice S8x128 ![24, 0] w slices_S56x128_o24_0_S8x128) (extractStridedSlice S8x128 ![32, 0] w slices_S56x128_o32_0_S8x128))
        (grad₁ (extractStridedSlice S8x128 ![32, 0] v slices_S56x128_o32_0_S8x128) (extractStridedSlice S8x128 ![24, 0] w slices_S56x128_o24_0_S8x128) (extractStridedSlice S8x128 ![32, 0] w slices_S56x128_o32_0_S8x128))
        (extractStridedSlice S8x128 ![40, 0] v slices_S56x128_o40_0_S8x128) (extractStridedSlice S8x128 ![48, 0] v slices_S56x128_o48_0_S8x128) := by
  unfold k0_pay6 k0_pay3 k0_pay4
  rw [shapeCast_self, shapeCast_self]
  rfl

theorem sums_8 : extractStridedSlice S8x128 ![8, 0] (sums z a b d h f) slices_S56x128_o8_0_S8x128 = shapeCast S8x128 a shapeCasts_S1x1024_S8x128 := by
  funext j
  have h0 : (j 0).val < 8 := (j 0).isLt; have h1 : (j 1).val < 128 := (j 1).isLt
  pointwise [sums]
theorem sums_16 : extractStridedSlice S16x128 ![16, 0] (sums z a b d h f) slices_S56x128_o16_0_S16x128 = shapeCast S16x128 b shapeCasts_S1x2048_S16x128 := by
  funext j
  have h0 : (j 0).val < 16 := (j 0).isLt; have h1 : (j 1).val < 128 := (j 1).isLt
  pointwise [sums]
  split_ifs <;> first | omega | rfl | (congr 1; idx_ext <;> omega)
theorem sums_32 : extractStridedSlice S8x128 ![32, 0] (sums z a b d h f) slices_S56x128_o32_0_S8x128 = shapeCast S8x128 d shapeCasts_S1x1024_S8x128 := by
  funext j
  have h0 : (j 0).val < 8 := (j 0).isLt; have h1 : (j 1).val < 128 := (j 1).isLt
  pointwise [sums]
  split_ifs <;> first | omega | rfl | (congr 1; idx_ext <;> omega)
theorem sums_40 : extractStridedSlice S8x128 ![40, 0] (sums z a b d h f) slices_S56x128_o40_0_S8x128 = shapeCast S8x128 h shapeCasts_S1x1024_S8x128 := by
  funext j
  have h0 : (j 0).val < 8 := (j 0).isLt; have h1 : (j 1).val < 128 := (j 1).isLt
  pointwise [sums]
  split_ifs <;> first | omega | rfl | (congr 1; idx_ext <;> omega)
theorem sums_48 : extractStridedSlice S8x128 ![48, 0] (sums z a b d h f) slices_S56x128_o48_0_S8x128 = shapeCast S8x128 f shapeCasts_S1x1024_S8x128 := by
  funext j
  have h0 : (j 0).val < 8 := (j 0).isLt; have h1 : (j 1).val < 128 := (j 1).isLt
  pointwise [sums]
  split_ifs <;> first | omega | rfl | (congr 1; idx_ext <;> omega)

/-- The loss, read back from the corner. -/
theorem loss_eq (x : FVec F S1x1 .f32) : k0_pay5 (sums (corner x) a b d h f) = x := by
  funext j
  have h0 : (j 0).val < 1 := (j 0).isLt; have h1 : (j 1).val < 1 := (j 1).isLt
  have e : j = ix2 0 0 := by idx_ext <;> omega
  subst e
  pointwise [k0_pay5, k0_pay3, sums]
  exact corner_apply x

section pack
variable (a' : FVec F S1x1024 .f32) (b' : FVec F S1x2048 .f32) (l : FVec F S2x8x128 .f32) (h' : FVec F S1x8x128 .f32) (f' : FVec F S1024 .f32)
theorem pack_24 (j : S8x128.Idx) : extractStridedSlice S8x128 ![24, 0] (pack a' b' l h' f') slices_S56x128_o24_0_S8x128 j = l (ix3 0 (j 0) (j 1)) := by
  have h0 : (j 0).val < 8 := (j 0).isLt; have h1 : (j 1).val < 128 := (j 1).isLt
  pointwise [pack]
  split_ifs <;> first | omega | rfl | (congr 1; idx_ext <;> omega)
theorem pack_32 (j : S8x128.Idx) : extractStridedSlice S8x128 ![32, 0] (pack a' b' l h' f') slices_S56x128_o32_0_S8x128 j = l (ix3 1 (j 0) (j 1)) := by
  have h0 : (j 0).val < 8 := (j 0).isLt; have h1 : (j 1).val < 128 := (j 1).isLt
  pointwise [pack]
  split_ifs <;> first | omega | rfl | (congr 1; idx_ext <;> omega)
end pack

theorem ng_grad : ngOf (k0_pay6 (sums z a b d h f) w) = a := by
  rw [pay6_eq, ng_cat, sums_8]; funext j; have h0 : (j 0).val < 1 := (j 0).isLt; have h1 : (j 1).val < 1024 := (j 1).isLt
  pointwise []
theorem bg_grad : bgOf (k0_pay6 (sums z a b d h f) w) = b := by
  rw [pay6_eq, bg_cat, sums_16]; funext j; have h0 : (j 0).val < 1 := (j 0).isLt; have h1 : (j 1).val < 2048 := (j 1).isLt
  pointwise []
theorem hg_grad (hs) : hgOf (k0_pay6 (sums z a b d h f) w) = shapeCast S1x8x128 h hs := by
  rw [pay6_eq, hg_cat, sums_40]; funext j; have h0 : (j 0).val < 1 := (j 0).isLt; have h1 : (j 1).val < 8 := (j 1).isLt
  have h2 : (j 2).val < 128 := (j 2).isLt
  pointwise []
theorem fg_grad (hs) : fgOf (k0_pay6 (sums z a b d h f) w) = shapeCast S1024 f hs := by
  rw [pay6_eq, fg_cat, sums_48]; funext j; have h0 : (j 0).val < 1024 := (j 0).isLt
  pointwise []
theorem lb_grad (a' : FVec F S1x1024 .f32) (b' : FVec F S1x2048 .f32) (l : FVec F S2x8x128 .f32) (h' : FVec F S1x8x128 .f32)
    (f' : FVec F S1024 .f32) (j) : lbOf (k0_pay6 (sums z a b d h f) (pack a' b' l h' f')) j
    = if (j 0).val = 0 then grad₀ (shapeCast S8x128 d shapeCasts_S1x1024_S8x128) (fun i => l (ix3 0 (i 0) (i 1))) (fun i => l (ix3 1 (i 0) (i 1))) (ix2 (j 1) (j 2))
      else grad₁ (shapeCast S8x128 d shapeCasts_S1x1024_S8x128) (fun i => l (ix3 0 (i 0) (i 1))) (fun i => l (ix3 1 (i 0) (i 1))) (ix2 (j 1) (j 2)) := by
  rw [pay6_eq, lb_cat, sums_32, show extractStridedSlice S8x128 ![24, 0] (pack a' b' l h' f') slices_S56x128_o24_0_S8x128 = _ from funext (pack_24 a' b' l h' f'),
    show extractStridedSlice S8x128 ![32, 0] (pack a' b' l h' f') slices_S56x128_o32_0_S8x128 = _ from funext (pack_32 a' b' l h' f')]
end Cert.KernelSmallIdeal.Small
end
-- ==== Proof.Small.Arrays.lean ====
/- The five arrays that the call leaves, in the packed arguments. -/
module
public import proofs.«01_k».proof.Proof.Small.Grads
public import Idealize.ShloMosaic.Lib.Pipeline.Value
public import Idealize.ShloMosaic.Lib.Pipeline.ValueKit.Basic
public import Idealize.ShloMosaic.Lib.Pipeline.ValueKit
@[expose] public section
set_option maxRecDepth 16384
noncomputable section
namespace Cert.KernelSmallIdeal.Small
open Cert.KernelSmallIdeal Cert.KernelSmallIdeal.Gen Idealize.ShloMosaic Idealize.ShloMosaic.TcCoe Idealize.SL.Sem
open Idealize.ShloMosaic.Pipeline
variable {F : FTy → Type} [FloatOps F]
variable (m : (ℓ : Loc nD τ sig) → Buf (Elt F) ℓ)

/-- The inputs' one block is the whole array. -/
theorem idx_in (t : Fin cfg0.N) : (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) := by
  revert t; decide +kernel
theorem iblk0 (c : Dev nD) (t) : iblk m c 0 t = V m c main_v11 := by
  have e := (idx_in t).1; funext j; unfold iblk; blk_simp
  refine congrArg (V m c main_v11) (funext fun a => Fin.ext ?_)
  match a with
  | ⟨0, _⟩ => blk_simp; rw [e.1, Nat.zero_mul, Nat.zero_add]
  | ⟨1, _⟩ => blk_simp; rw [e.2, Nat.zero_mul, Nat.zero_add]
theorem iblk1 (c : Dev nD) (t) : iblk m c 1 t = V m c main_v17 := by
  have e := (idx_in t).2.1; funext j; unfold iblk; blk_simp
  refine congrArg (V m c main_v17) (funext fun a => Fin.ext ?_)
  match a with
  | ⟨0, _⟩ => blk_simp; rw [e.1, Nat.zero_mul, Nat.zero_add]
  | ⟨1, _⟩ => blk_simp; rw [e.2, Nat.zero_mul, Nat.zero_add]
theorem iblk2 (c : Dev nD) (t) : iblk m c 2 t = V m c main_v23 := by
  have e := (idx_in t).2.2.1; funext j; unfold iblk; blk_simp
  refine congrArg (V m c main_v23) (funext fun a => Fin.ext ?_)
  match a with
  | ⟨0, _⟩ => blk_simp; rw [e.1, Nat.zero_mul, Nat.zero_add]
  | ⟨1, _⟩ => blk_simp; rw [e.2, Nat.zero_mul, Nat.zero_add]
theorem iblk3 (c : Dev nD) (t) : iblk m c 3 t = V m c main_v29 := by
  have e := (idx_in t).2.2.2; funext j; unfold iblk; blk_simp
  refine congrArg (V m c main_v29) (funext fun a => Fin.ext ?_)
  match a with
  | ⟨0, _⟩ => blk_simp; rw [e.1, Nat.zero_mul, Nat.zero_add]
  | ⟨1, _⟩ => blk_simp; rw [e.2, Nat.zero_mul, Nat.zero_add]

theorem zeros (a : Fin 2) : (![0, 0] : Fin 2 → Nat) a = 0 := by fin_cases a <;> rfl

section out
variable (x0 x1 x2 x3 : FVec F S56x128 .f32)
/-- The new first moment and the new second moment, of a gradient. -/
def mom (g x : FVec F S56x128 .f32) : FVec F S56x128 .f32 :=
  addf (mulf (broadcast S56x128 (Scalar.ofBits .f32 0x3F666666#32)) x) (mulf (broadcast S56x128 (Scalar.ofBits .f32 0x3DCCCCCD#32)) g)
@[inherit_doc mom] def sqm (g x : FVec F S56x128 .f32) : FVec F S56x128 .f32 :=
  addf (mulf (broadcast S56x128 (Scalar.ofBits .f32 0x3F7FBE77#32)) x) (mulf (broadcast S56x128 (Scalar.ofBits .f32 0x3A83126F#32)) (mulf g g))
/-- The weight's change, of the two new moments and the weight. -/
def delt (m' v' x : FVec F S56x128 .f32) : FVec F S56x128 .f32 :=
  mulf (broadcast S56x128 (Scalar.ofBits .f32 0xBA83126F#32)) (addf (divf (divf m' (broadcast S56x128 (Scalar.ofBits .f32 0x3F26BD02#32)))
    (addf (sqrt (divf v' (broadcast S56x128 (Scalar.ofBits .f32 0x3C231ACC#32)))) (broadcast S56x128 (Scalar.ofBits .f32 0x322BCC77#32))))
    (mulf (broadcast S56x128 (Scalar.ofBits .f32 0x3C23D70A#32)) x))

theorem out4 : out0_4 x0 x1 x2 x3 = k0_pay5 x0 := by
  unfold out0_4
  rw [View.canon_cons_unit_lit _ _ _ zeros, View.ld_unit_lit _ _ zeros]
theorem out5 : out0_5 x0 x1 x2 x3 = k0_pay6 x0 x1 := by
  unfold out0_5
  rw [View.canon_cons_unit_lit _ _ _ zeros, View.ld_unit_lit _ _ zeros, View.ld_unit_lit _ _ zeros]
theorem out7 : out0_7 x0 x1 x2 x3 = mom (k0_pay6 x0 x1) x2 := by
  unfold_out out0_7
  rw [View.canon_cons_unit_lit _ _ _ zeros, View.ld_unit_lit _ _ zeros, View.ld_unit_lit _ _ zeros, View.ld_unit_lit _ _ zeros]
  unfold k0_pay8; rw [shapeCast_self]; rfl
theorem out8 : out0_8 x0 x1 x2 x3 = sqm (k0_pay6 x0 x1) x3 := by
  unfold_out out0_8
  rw [View.canon_cons_unit_lit _ _ _ zeros, View.ld_unit_lit _ _ zeros, View.ld_unit_lit _ _ zeros, View.ld_unit_lit _ _ zeros]
  unfold k0_pay7; rw [shapeCast_self]; rfl
theorem out6 : out0_6 x0 x1 x2 x3 = delt (mom (k0_pay6 x0 x1) x2) (sqm (k0_pay6 x0 x1) x3) x1 := by
  unfold_out out0_6
  rw [View.canon_cons_unit_lit _ _ _ zeros, View.ld_unit_lit _ _ zeros, View.ld_unit_lit _ _ zeros, View.ld_unit_lit _ _ zeros,
    View.ld_unit_lit _ _ zeros]
  unfold k0_pay7 k0_pay4 k0_pay8; rw [shapeCast_self, shapeCast_self, shapeCast_self]; rfl
end out

/-- The array behind an output window, whole after the one grid point. -/
theorem arr4 (c : Dev nD) : (dats m 0 c).arrAt 4 cfg0.N = k0_pay5 (V m c main_v11) := by
  refine (dats m 0 c).arrAt_eq_of_after_last 4 t0_0 (by decide +kernel) _ fun j => ?_
  blk_simp
  rw [after0_4, out4, iblk0]
theorem arr5 (c : Dev nD) : (dats m 0 c).arrAt 5 cfg0.N = k0_pay6 (V m c main_v11) (V m c main_v17) := by
  refine (dats m 0 c).arrAt_eq_of_after_last 5 t0_0 (by decide +kernel) _ fun j => ?_
  blk_simp
  rw [after0_5, out5, iblk0, iblk1]
theorem arr6 (c : Dev nD) : (dats m 0 c).arrAt 6 cfg0.N = delt (mom (k0_pay6 (V m c main_v11) (V m c main_v17)) (V m c main_v23))
    (sqm (k0_pay6 (V m c main_v11) (V m c main_v17)) (V m c main_v29)) (V m c main_v17) := by
  refine (dats m 0 c).arrAt_eq_of_after_last 6 t0_0 (by decide +kernel) _ fun j => ?_
  blk_simp
  rw [after0_6, out6, iblk0, iblk1, iblk2, iblk3]
theorem arr7 (c : Dev nD) : (dats m 0 c).arrAt 7 cfg0.N = mom (k0_pay6 (V m c main_v11) (V m c main_v17)) (V m c main_v23) := by
  refine (dats m 0 c).arrAt_eq_of_after_last 7 t0_0 (by decide +kernel) _ fun j => ?_
  blk_simp
  rw [after0_7, out7, iblk0, iblk1, iblk2]
theorem arr8 (c : Dev nD) : (dats m 0 c).arrAt 8 cfg0.N = sqm (k0_pay6 (V m c main_v11) (V m c main_v17)) (V m c main_v29) := by
  refine (dats m 0 c).arrAt_eq_of_after_last 8 t0_0 (by decide +kernel) _ fun j => ?_
  blk_simp
  rw [after0_8, out8, iblk0, iblk1, iblk3]
end Cert.KernelSmallIdeal.Small
end
-- ==== Proof.Common.WindowSums.lean ====
/- A host sum over windows, at the extended reals, read at an index: the sum over the window's positions, the padding
   zero. A running sum along one axis is such a sum. -/
module
public import Idealize.ShloMosaic.PureOps.Ideal.Laws
public import Idealize.ShloMosaic.Lib.ValueIdx
@[expose] public section
set_option maxRecDepth 16384
noncomputable section
namespace Cert.Common
open Idealize.ShloMosaic Idealize.ShloMosaic.ValueIdx

theorem foldl_add_eq_sum {M : Type*} [AddCommMonoid M] {n : Nat} (f : Fin n → M) :
    (List.finRange n).foldl (fun r k => r + f k) 0 = ∑ k, f k := by
  rw [← List.foldl_map (f := f) (g := fun a b => a + b), ← List.sum_eq_foldl, ← Fin.sum_univ_def]

theorem reduceWindowAdd_apply {s t u : Shape} {φ : FTy} (window strides lo hi : Fin s.rank → Nat) (x : FVec Ideal s φ) (init : u.Idx → Ideal φ)
    (h : s.ReduceWindows window strides lo hi t) (hu : 0 < u.numel) (h0 : init (Shape.Idx.first hu) = 0) (j : t.Idx) :
    Host.reduceWindowAdd window strides lo hi x init h hu j
      = ∑ p : (⟨s.rank, window⟩ : Shape).Idx,
          if hin : ∀ a, lo a ≤ (j (a.cast h.1.symm)).val * strides a + (p a).val
              ∧ (j (a.cast h.1.symm)).val * strides a + (p a).val - lo a < s.size a
          then x (fun a => ⟨(j (a.cast h.1.symm)).val * strides a + (p a).val - lo a, (hin a).2⟩) else 0 := by
  unfold Host.reduceWindowAdd
  rw [Ideal.hostReduceWindowAdd_def]
  unfold Ideal.hostReduceWindowAdd Host.reduceWindow
  simp only [h0]
  rw [← Equiv.sum_comp (⟨s.rank, window⟩ : Shape).rowMajor.symm, foldl_add_eq_sum]

/-- The positions of a window along the last of three axes. -/
def axis3 (n : Nat) : Fin n ≃ (⟨3, ![1, 1, n]⟩ : Shape).Idx where
  toFun k := ix3 0 0 k
  invFun p := p 2
  left_inv k := rfl
  right_inv p := by
    funext a
    match a with
    | ⟨0, _⟩ => exact Subsingleton.elim (α := Fin 1) _ _
    | ⟨1, _⟩ => exact Subsingleton.elim (α := Fin 1) _ _
    | ⟨2, _⟩ => rfl
/-- The positions of a window along the first of three axes. -/
def axis1 (n : Nat) : Fin n ≃ (⟨3, ![n, 1, 1]⟩ : Shape).Idx where
  toFun k := ix3 k 0 0
  invFun p := p 0
  left_inv k := rfl
  right_inv p := by
    funext a
    match a with
    | ⟨0, _⟩ => rfl
    | ⟨1, _⟩ => exact Subsingleton.elim (α := Fin 1) _ _
    | ⟨2, _⟩ => exact Subsingleton.elim (α := Fin 1) _ _
theorem sum_axis3 {M : Type*} [AddCommMonoid M] (n : Nat) (f : (⟨3, ![1, 1, n]⟩ : Shape).Idx → M) : ∑ p, f p = ∑ k : Fin n, f (ix3 0 0 k) :=
  (Equiv.sum_comp (axis3 n) f).symm
theorem sum_axis1 {M : Type*} [AddCommMonoid M] (n : Nat) (f : (⟨3, ![n, 1, 1]⟩ : Shape).Idx → M) : ∑ p, f p = ∑ k : Fin n, f (ix3 k 0 0) :=
  (Equiv.sum_comp (axis1 n) f).symm
end Cert.Common
end
-- ==== Proof.Small.Lb.lean ====
/- The lower bound's gradient: the two rows that the body writes are what the gradient of `cumsum(softmax)` gives. -/
module
public import proofs.«01_k».proof.Proof.Gen.ReferenceSmallIdeal.Read
public import proofs.«01_k».proof.Proof.Common.WindowSums
public import proofs.«01_k».proof.Proof.Common.Reals
public import proofs.«01_k».proof.Proof.Small.Grads
public import Idealize.ShloMosaic.Lib.Pointwise
@[expose] public section
set_option maxRecDepth 16384
noncomputable section
namespace Cert.ReferenceSmallIdeal.Small
open Cert.ReferenceSmallIdeal Cert.ReferenceSmallIdeal.Read Idealize.ShloMosaic Idealize.ShloMosaic.TcCoe Idealize.SL.Sem
open Cert.Common
open Cert.KernelSmallIdeal.Small (grad₀ grad₁ soft₀ soft₁)

variable (x3 : FVec Ideal S1x1024 .f32) (x8 : FVec Ideal S2x8x128 .f32)

/-- The running sum's gradient: the gradient of the first layer's row, zero in the second. -/
theorem v34 (h : Fin 2) (a : Fin 8) (b : Fin 128) : val_main_v34 (F := Ideal) x3 (ix3 h a b)
    = if h = 0 then shapeCast S8x128 x3 (by decide) (ix2 a b) else 0 := by
  unfold val_main_v34
  rw [reduceWindowAdd_apply _ _ _ _ _ _ _ _ (by pointwise [val_main_call1_call0_v0, val_main_call1_call0_cst]), sum_axis1, Fin.sum_univ_two]
  pointwise [val_main_v33,val_main_v32,val_main_v31]
  have e : constant (F := Ideal) S_ FTy.f32 (0#32) (Shape.Idx.first Gen.h_S_) = 0 := Ideal.ofBits_zero_f32
  fin_cases h <;> simp [val_main_cst_9, e]

theorem v0 (a : Fin 8) (b : Fin 128) : val_main_v0 (F := Ideal) x8 (ix2 a b) = max (x8 (ix3 0 a b)) (x8 (ix3 1 a b)) := by
  pointwise [val_main_v0]
  simp [Fin.univ_succ, val_main_cst]
  rw [show constant (F := Ideal) S_ FTy.f32 4286578688#32 (Shape.Idx.first Gen.h_S_) = ⊥ from ofBits_bot, max_bot_right]

theorem v20 (h : Fin 2) (a : Fin 8) (b : Fin 128) : val_main_v20 (F := Ideal) x8 (ix3 h a b)
    = Ideal.exp (x8 (ix3 h a b) - max (x8 (ix3 0 a b)) (x8 (ix3 1 a b))) := by
  pointwise [val_main_v20, val_main_v19, val_main_v18, val_main_v17, val_main_v7, val_main_v6, val_main_cst_0, val_main_cst_1]
  rw [v0, ofBits_bot, max_bot_left]

theorem v22 (a : Fin 8) (b : Fin 128) : val_main_v22 (F := Ideal) x8 (ix3 0 a b)
    = val_main_v20 (F := Ideal) x8 (ix3 0 a b) + val_main_v20 (F := Ideal) x8 (ix3 1 a b) := by
  pointwise [val_main_v22, val_main_v21, val_main_cst_7]
  rw [Fin.sum_univ_two]

/-- The softmax's gradient of finite logits, in the reals. -/
theorem softmax_grad (X Y D : ℝ) : let e := fun t : ℝ => Real.exp (t - max X Y)
    ((D / (e X + e Y) + -(D * (1 / ((e X + e Y) * (e X + e Y))) * e X + 0 * (1 / ((e X + e Y) * (e X + e Y))) * e Y)) * e X
        = D * (e X / (e X + e Y)) * (1 - e X / (e X + e Y)))
    ∧ ((0 / (e X + e Y) + -(D * (1 / ((e X + e Y) * (e X + e Y))) * e X + 0 * (1 / ((e X + e Y) * (e X + e Y))) * e Y)) * e Y
        = (0 - D) * (e X / (e X + e Y)) * (e Y / (e X + e Y))) := by
  intro e
  have h : e X + e Y ≠ 0 := (add_pos (Real.exp_pos _) (Real.exp_pos _)).ne'
  constructor <;> field_simp <;> ring

theorem v46 (d : FVec Ideal Cert.KernelSmallIdeal.S8x128 .f32) (hd : d = shapeCast S8x128 x3 (by decide))
    (hD : ∀ i, ∃ r : ℝ, d i = r) (hX : ∀ i, ∃ r : ℝ, x8 i = r) (h : Fin 2) (a : Fin 8) (b : Fin 128) :
    val_main_v46 (F := Ideal) x3 x8 (ix3 h a b)
      = if h.val = 0 then grad₀ d (fun i => x8 (ix3 0 (i 0) (i 1))) (fun i => x8 (ix3 1 (i 0) (i 1))) (ix2 a b)
        else grad₁ d (fun i => x8 (ix3 0 (i 0) (i 1))) (fun i => x8 (ix3 1 (i 0) (i 1))) (ix2 a b) := by
  pointwise [val_main_v46, val_main_v45, val_main_v44, val_main_v43, val_main_v42, val_main_v41,val_main_v40, val_main_v39,val_main_v38,
   val_main_v37,val_main_v36,val_main_v35,val_main_v27,val_main_v26,val_main_v25, val_main_cst_8, val_main_cst_10, val_main_cst_11,
   grad₀, grad₁, soft₀, soft₁]
  simp only [Fin.sum_univ_two, Fin.sum_univ_one, v34, v22, v20, ← hd]
  obtain ⟨D, eD⟩ := hD (ix2 a b)
  obtain ⟨X, eX⟩ := hX (ix3 0 a b)
  obtain ⟨Y, eY⟩ := hX (ix3 1 a b)
  have hs : Real.exp (X - max X Y) + Real.exp (Y - max X Y) ≠ 0 := (add_pos (Real.exp_pos _) (Real.exp_pos _)).ne'
  have g := softmax_grad X Y D
  have h1 : (1 : EReal) = ((1 : ℝ) : EReal) := rfl
  have h0 : (0 : EReal) = ((0 : ℝ) : EReal) := rfl
  obtain rfl | rfl : h = 0 ∨ h = 1 := by omega
  · simp only [eD, eX, eY, max_real, ← EReal.coe_sub, Ideal.exp_coe, ← EReal.coe_add, ← EReal.coe_mul, if_true, Fin.val_zero, one_ne_zero, if_false,
      h1, h0, div_real _ hs, div_real _ (mul_ne_zero hs hs), ← EReal.coe_neg]
    exact congrArg _ g.1
  · simp only [eD, eX, eY, max_real, ← EReal.coe_sub, Ideal.exp_coe, ← EReal.coe_add, ← EReal.coe_mul, if_true, Fin.val_one, one_ne_zero, if_false,
      h1, h0, div_real _ hs, div_real _ (mul_ne_zero hs hs), ← EReal.coe_neg]
    exact congrArg _ g.2
end Cert.ReferenceSmallIdeal.Small
end
-- ==== Proof.Small.Results.lean ====
/- The results that the lines after the call read from the packed arrays, in each weight's own shape. -/
module
public import proofs.«01_k».proof.Proof.Small.Arrays
public import proofs.«01_k».proof.Proof.Small.Pack
public import proofs.«01_k».proof.Defs
public import proofs.«01_k».proof.Proof.Small.Lb
public import Idealize.ShloMosaic.Lib.IdealHost
@[expose] public section
set_option maxRecDepth 16384
noncomputable section
namespace Cert.KernelSmallIdeal.Small
open Cert.KernelSmallIdeal Cert.KernelSmallIdeal.Gen Idealize.ShloMosaic Idealize.ShloMosaic.TcCoe Idealize.SL.Sem
open Idealize.ShloMosaic.Pipeline

section
variable {S : Shape} (hb : S_.BroadcastsInDim S (![] : Fin 0 → Fin S.rank)) (g x m' v' : FVec Ideal S .f32)
/-- The new moments and the weight's change, as the reference's lines write them in one weight's shape. -/
def momAt : FVec Ideal S .f32 :=
  addf (mulf (broadcastInDim S ![] hb (constant S_ .f32 0x3F666666#32)) x) (mulf (broadcastInDim S ![] hb (constant S_ .f32 0x3DCCCCCD#32)) g)
@[inherit_doc momAt] def sqmAt : FVec Ideal S .f32 :=
  addf (mulf (broadcastInDim S ![] hb (constant S_ .f32 0x3F7FBE77#32)) x) (mulf (broadcastInDim S ![] hb (constant S_ .f32 0x3A83126F#32)) (mulf g g))
@[inherit_doc momAt] def deltAt : FVec Ideal S .f32 :=
  mulf (broadcastInDim S ![] hb (constant S_ .f32 0xBA83126F#32)) (addf (Host.divf (Host.divf m' (broadcastInDim S ![] hb (constant S_ .f32 0x3F26BD02#32)))
    (addf (Host.sqrt (Host.divf v' (broadcastInDim S ![] hb (constant S_ .f32 0x3C231ACC#32)))) (broadcastInDim S ![] hb (constant S_ .f32 0x322BCC77#32))))
    (mulf (broadcastInDim S ![] hb (constant S_ .f32 0x3C23D70A#32)) x))
end

variable (g x m' v' : FVec Ideal S56x128 .f32)
theorem ng_mom (hb) : ngOf (mom g x) = momAt hb (ngOf g) (ngOf x) := rfl
theorem bg_mom (hb) : bgOf (mom g x) = momAt hb (bgOf g) (bgOf x) := rfl
theorem lb_mom (hb) : lbOf (mom g x) = momAt hb (lbOf g) (lbOf x) := rfl
theorem hg_mom (hb) : hgOf (mom g x) = momAt hb (hgOf g) (hgOf x) := rfl
theorem fg_mom (hb) : fgOf (mom g x) = momAt hb (fgOf g) (fgOf x) := rfl
theorem ng_sqm (hb) : ngOf (sqm g x) = sqmAt hb (ngOf g) (ngOf x) := rfl
theorem bg_sqm (hb) : bgOf (sqm g x) = sqmAt hb (bgOf g) (bgOf x) := rfl
theorem lb_sqm (hb) : lbOf (sqm g x) = sqmAt hb (lbOf g) (lbOf x) := rfl
theorem hg_sqm (hb) : hgOf (sqm g x) = sqmAt hb (hgOf g) (hgOf x) := rfl
theorem fg_sqm (hb) : fgOf (sqm g x) = sqmAt hb (fgOf g) (fgOf x) := rfl
theorem ng_delt (hb) : ngOf (delt m' v' x) = deltAt hb (ngOf x) (ngOf m') (ngOf v') := rfl
theorem bg_delt (hb) : bgOf (delt m' v' x) = deltAt hb (bgOf x) (bgOf m') (bgOf v') := rfl
theorem lb_delt (hb) : lbOf (delt m' v' x) = deltAt hb (lbOf x) (lbOf m') (lbOf v') := rfl
theorem hg_delt (hb) : hgOf (delt m' v' x) = deltAt hb (hgOf x) (hgOf m') (hgOf v') := rfl
theorem fg_delt (hb) : fgOf (delt m' v' x) = deltAt hb (fgOf x) (fgOf m') (fgOf v') := rfl

/-- What the precondition says of an argument: its entries are real. -/
theorem finite_of_pre (m : (ℓ : Loc nD τ sig) → Buf (Elt Ideal) ℓ) [Cert.Pre_finite_small.Facts] (h : Cert.Pre_KernelSmallIdeal_finite_small m) (c : Dev nD) :
    (∀ i, ∃ r : ℝ, (m (c.tc.loc main_arg8) : FVec Ideal S2x8x128 .f32) i = (r : EReal))
    ∧ ∀ i, ∃ r : ℝ, (m (c.tc.loc main_arg3) : FVec Ideal S1x1024 .f32) i = (r : EReal) := by
  obtain ⟨h1, h2⟩ := h c
  exact ⟨fun i => Cert.Common.real_of_cmp (congrFun h1 i), fun i => Cert.Common.real_of_cmp (congrFun h2 i)⟩

/-- The gradient of the forget-gate bounds' logits that the reference's line computes, of the bounds' own gradient and the logits. -/
abbrev lbGrad (x3 : FVec Ideal S1x1024 .f32) (x8 : FVec Ideal S2x8x128 .f32) : FVec Ideal S2x8x128 .f32 :=
  Cert.ReferenceSmallIdeal.Read.val_main_v46 (F := Ideal) x3 x8

theorem lb_grad_eq (z a b d h f a' b' l h' f') (hD : ∀ i, ∃ r : ℝ, d i = (r : EReal)) (hX : ∀ i, ∃ r : ℝ, l i = (r : EReal)) :
    lbOf (k0_pay6 (sums z a b d h f) (pack a' b' l h' f')) = lbGrad d l := by
  funext j
  rw [lb_grad]
  have e : j = ix3 (j 0) (j 1) (j 2) := by funext k; match k with | ⟨0, _⟩ => rfl | ⟨1, _⟩ => rfl | ⟨2, _⟩ => rfl
  conv_rhs => rw [e]
  refine (Cert.ReferenceSmallIdeal.Small.v46 d l _ rfl (fun i => ?_) hX (j 0) (j 1) (j 2)).symm
  exact hD _

section
variable (m : (ℓ : Loc nD τ sig) → Buf (Elt Ideal) ℓ)
/-- The five gradients, of the arguments. -/
def ngG (c : Dev nD) : FVec Ideal S1x1024 .f32 := (m (c.tc.loc main_arg1) : FVec Ideal S1x1024 .f32)
def bgG (c : Dev nD) : FVec Ideal S1x2048 .f32 := (m (c.tc.loc main_arg2) : FVec Ideal S1x2048 .f32)
def lbG (c : Dev nD) : FVec Ideal S2x8x128 .f32 := lbGrad (m (c.tc.loc main_arg3)) (m (c.tc.loc main_arg8))
def hgG (c : Dev nD) : FVec Ideal S1x8x128 .f32 := shapeCast (s := S1x1024) S1x8x128 (m (c.tc.loc main_arg4)) (by decide)
def fgG (c : Dev nD) : FVec Ideal S1024 .f32 := shapeCast (s := S1x1024) S1024 (m (c.tc.loc main_arg5)) (by decide)
def ngM (c : Dev nD) : FVec Ideal S1x1024 .f32 := momAt (by decide) (ngG m c) (m (c.tc.loc main_arg11))
def ngV (c : Dev nD) : FVec Ideal S1x1024 .f32 := sqmAt (by decide) (ngG m c) (m (c.tc.loc main_arg16))
def ngD (c : Dev nD) : FVec Ideal S1x1024 .f32 := deltAt (by decide) (m (c.tc.loc main_arg6)) (ngM m c) (ngV m c)
def bgM (c : Dev nD) : FVec Ideal S1x2048 .f32 := momAt (by decide) (bgG m c) (m (c.tc.loc main_arg12))
def bgV (c : Dev nD) : FVec Ideal S1x2048 .f32 := sqmAt (by decide) (bgG m c) (m (c.tc.loc main_arg17))
def bgD (c : Dev nD) : FVec Ideal S1x2048 .f32 := deltAt (by decide) (m (c.tc.loc main_arg7)) (bgM m c) (bgV m c)
def lbM (c : Dev nD) : FVec Ideal S2x8x128 .f32 := momAt (by decide) (lbG m c) (m (c.tc.loc main_arg13))
def lbV (c : Dev nD) : FVec Ideal S2x8x128 .f32 := sqmAt (by decide) (lbG m c) (m (c.tc.loc main_arg18))
def lbD (c : Dev nD) : FVec Ideal S2x8x128 .f32 := deltAt (by decide) (m (c.tc.loc main_arg8)) (lbM m c) (lbV m c)
def hgM (c : Dev nD) : FVec Ideal S1x8x128 .f32 := momAt (by decide) (hgG m c) (m (c.tc.loc main_arg14))
def hgV (c : Dev nD) : FVec Ideal S1x8x128 .f32 := sqmAt (by decide) (hgG m c) (m (c.tc.loc main_arg19))
def hgD (c : Dev nD) : FVec Ideal S1x8x128 .f32 := deltAt (by decide) (m (c.tc.loc main_arg9)) (hgM m c) (hgV m c)
def fgM (c : Dev nD) : FVec Ideal S1024 .f32 := momAt (by decide) (fgG m c) (m (c.tc.loc main_arg15))
def fgV (c : Dev nD) : FVec Ideal S1024 .f32 := sqmAt (by decide) (fgG m c) (m (c.tc.loc main_arg20))
def fgD (c : Dev nD) : FVec Ideal S1024 .f32 := deltAt (by decide) (m (c.tc.loc main_arg10)) (fgM m c) (fgV m c)
variable [Cert.Pre_finite_small.Facts] (hpre : Cert.Pre_KernelSmallIdeal_finite_small m)
include hpre
theorem ng_5 (c : Dev nD) : ngOf (k0_pay6 (V m c main_v11) (V m c main_v17)) = ngG m c := by
  rw [V_s]; exact ng_grad ..
theorem ng_7 (c : Dev nD) : ngOf (mom (k0_pay6 (V m c main_v11) (V m c main_v17)) (V m c main_v23)) = ngM m c := by
  rw [ng_mom _ _ (by decide), ng_5 m hpre, V_m, ng_pack]; rfl
theorem ng_8 (c : Dev nD) : ngOf (sqm (k0_pay6 (V m c main_v11) (V m c main_v17)) (V m c main_v29)) = ngV m c := by
  rw [ng_sqm _ _ (by decide), ng_5 m hpre, V_v, ng_pack]; rfl
theorem ng_6 (c : Dev nD) : ngOf (delt (mom (k0_pay6 (V m c main_v11) (V m c main_v17)) (V m c main_v23))
    (sqm (k0_pay6 (V m c main_v11) (V m c main_v17)) (V m c main_v29)) (V m c main_v17)) = ngD m c := by
  rw [ng_delt _ _ _ (by decide), ng_7 m hpre, ng_8 m hpre, V_w, ng_pack]; rfl
theorem bg_5 (c : Dev nD) : bgOf (k0_pay6 (V m c main_v11) (V m c main_v17)) = bgG m c := by
  rw [V_s]; exact bg_grad ..
theorem bg_7 (c : Dev nD) : bgOf (mom (k0_pay6 (V m c main_v11) (V m c main_v17)) (V m c main_v23)) = bgM m c := by
  rw [bg_mom _ _ (by decide), bg_5 m hpre, V_m, bg_pack]; rfl
theorem bg_8 (c : Dev nD) : bgOf (sqm (k0_pay6 (V m c main_v11) (V m c main_v17)) (V m c main_v29)) = bgV m c := by
  rw [bg_sqm _ _ (by decide), bg_5 m hpre, V_v, bg_pack]; rfl
theorem bg_6 (c : Dev nD) : bgOf (delt (mom (k0_pay6 (V m c main_v11) (V m c main_v17)) (V m c main_v23))
    (sqm (k0_pay6 (V m c main_v11) (V m c main_v17)) (V m c main_v29)) (V m c main_v17)) = bgD m c := by
  rw [bg_delt _ _ _ (by decide), bg_7 m hpre, bg_8 m hpre, V_w, bg_pack]; rfl
theorem lb_5 (c : Dev nD) : lbOf (k0_pay6 (V m c main_v11) (V m c main_v17)) = lbG m c := by
  rw [V_s]; rw [V_w]; exact lb_grad_eq _ _ _ _ _ _ _ _ _ _ _ (finite_of_pre m hpre c).2 (finite_of_pre m hpre c).1
theorem lb_7 (c : Dev nD) : lbOf (mom (k0_pay6 (V m c main_v11) (V m c main_v17)) (V m c main_v23)) = lbM m c := by
  rw [lb_mom _ _ (by decide), lb_5 m hpre, V_m, lb_pack]; rfl
theorem lb_8 (c : Dev nD) : lbOf (sqm (k0_pay6 (V m c main_v11) (V m c main_v17)) (V m c main_v29)) = lbV m c := by
  rw [lb_sqm _ _ (by decide), lb_5 m hpre, V_v, lb_pack]; rfl
theorem lb_6 (c : Dev nD) : lbOf (delt (mom (k0_pay6 (V m c main_v11) (V m c main_v17)) (V m c main_v23))
    (sqm (k0_pay6 (V m c main_v11) (V m c main_v17)) (V m c main_v29)) (V m c main_v17)) = lbD m c := by
  rw [lb_delt _ _ _ (by decide), lb_7 m hpre, lb_8 m hpre, V_w, lb_pack]; rfl
theorem hg_5 (c : Dev nD) : hgOf (k0_pay6 (V m c main_v11) (V m c main_v17)) = hgG m c := by
  rw [V_s]; exact hg_grad ..
theorem hg_7 (c : Dev nD) : hgOf (mom (k0_pay6 (V m c main_v11) (V m c main_v17)) (V m c main_v23)) = hgM m c := by
  rw [hg_mom _ _ (by decide), hg_5 m hpre, V_m, hg_pack]; rfl
theorem hg_8 (c : Dev nD) : hgOf (sqm (k0_pay6 (V m c main_v11) (V m c main_v17)) (V m c main_v29)) = hgV m c := by
  rw [hg_sqm _ _ (by decide), hg_5 m hpre, V_v, hg_pack]; rfl
theorem hg_6 (c : Dev nD) : hgOf (delt (mom (k0_pay6 (V m c main_v11) (V m c main_v17)) (V m c main_v23))
    (sqm (k0_pay6 (V m c main_v11) (V m c main_v17)) (V m c main_v29)) (V m c main_v17)) = hgD m c := by
  rw [hg_delt _ _ _ (by decide), hg_7 m hpre, hg_8 m hpre, V_w, hg_pack]; rfl
theorem fg_5 (c : Dev nD) : fgOf (k0_pay6 (V m c main_v11) (V m c main_v17)) = fgG m c := by
  rw [V_s]; exact fg_grad ..
theorem fg_7 (c : Dev nD) : fgOf (mom (k0_pay6 (V m c main_v11) (V m c main_v17)) (V m c main_v23)) = fgM m c := by
  rw [fg_mom _ _ (by decide), fg_5 m hpre, V_m, fg_pack]; rfl
theorem fg_8 (c : Dev nD) : fgOf (sqm (k0_pay6 (V m c main_v11) (V m c main_v17)) (V m c main_v29)) = fgV m c := by
  rw [fg_sqm _ _ (by decide), fg_5 m hpre, V_v, fg_pack]; rfl
theorem fg_6 (c : Dev nD) : fgOf (delt (mom (k0_pay6 (V m c main_v11) (V m c main_v17)) (V m c main_v23))
    (sqm (k0_pay6 (V m c main_v11) (V m c main_v17)) (V m c main_v29)) (V m c main_v17)) = fgD m c := by
  rw [fg_delt _ _ _ (by decide), fg_7 m hpre, fg_8 m hpre, V_w, fg_pack]; rfl

omit [Cert.Pre_finite_small.Facts] hpre in
/-- The host's lines after the call leave the arguments as they were. -/
theorem args_kept {r : PUnit × MemSt nD τ sig (Elt Ideal)} (h : Pipeline.FramePost cfgs (dats m) 0 (Pipeline.afterTail₀ cfgs (dats m) 0 (V0 m) [hostOps1]) r) (c : Dev nD) :
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8)
    ∧ r.2.mem (c.tc.loc main_arg9) = m (c.tc.loc main_arg9)
    ∧ r.2.mem (c.tc.loc main_arg10) = m (c.tc.loc main_arg10)
    ∧ r.2.mem (c.tc.loc main_arg11) = m (c.tc.loc main_arg11)
    ∧ r.2.mem (c.tc.loc main_arg12) = m (c.tc.loc main_arg12)
    ∧ r.2.mem (c.tc.loc main_arg13) = m (c.tc.loc main_arg13)
    ∧ r.2.mem (c.tc.loc main_arg14) = m (c.tc.loc main_arg14)
    ∧ r.2.mem (c.tc.loc main_arg15) = m (c.tc.loc main_arg15)
    ∧ r.2.mem (c.tc.loc main_arg16) = m (c.tc.loc main_arg16)
    ∧ r.2.mem (c.tc.loc main_arg17) = m (c.tc.loc main_arg17)
    ∧ r.2.mem (c.tc.loc main_arg18) = m (c.tc.loc main_arg18)
    ∧ r.2.mem (c.tc.loc main_arg19) = m (c.tc.loc main_arg19)
    ∧ r.2.mem (c.tc.loc main_arg20) = m (c.tc.loc main_arg20) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c),
    ((h c).2 main_arg20 (Pipeline.mem_restRefs_of main_arg20 (by decide) (by decide))).trans (W_main_arg20 m (dats m) c)⟩

omit [Cert.Pre_finite_small.Facts] hpre in
/-- A buffer that only the lines after the call write, read from the arrays that the call leaves. -/
theorem tail_read {r : PUnit × MemSt nD τ sig (Elt Ideal)} (h : Pipeline.FramePost cfgs (dats m) 0 (Pipeline.afterTail₀ cfgs (dats m) 0 (V0 m) [hostOps1]) r) (c : Dev nD)
    (b) (hb : b ∈ Pipeline.restRefs sig spec0) : r.2.mem ((c.tc : Thread nD τ).loc b)
      = StableHlo.after (List.flatten [hostOps1]) (Pipeline.withArrays spec0 c (V0 m c) (fun w => (dats m 0 c).arrAt w cfg0.N)) ↑b := (h c).2 b hb

omit [Cert.Pre_finite_small.Facts] hpre in
theorem inj : Function.Injective (Pipeline.arrRef spec0) := by decide

section
variable {r : PUnit × MemSt nD τ sig (Elt Ideal)} (h : Pipeline.FramePost cfgs (dats m) 0 (Pipeline.afterTail₀ cfgs (dats m) 0 (V0 m) [hostOps1]) r) (c : Dev nD)
include h
omit [Cert.Pre_finite_small.Facts] hpre in
theorem read_loss : r.2.mem (c.tc.loc main_v31) = shapeCast S_ (m (c.tc.loc main_arg0) : FVec Ideal S1x1 .f32) shapeCasts_S1x1_S_ := by
  refine (tail_read m h c main_v31 (Pipeline.mem_restRefs_of _ (by decide) (by decide))).trans ?_
  rw [(tail_eq (F := Ideal) _).1]
  refine congrArg (fun x => shapeCast S_ x shapeCasts_S1x1_S_) ((Pipeline.withArrays_arr spec0 inj c (V0 m c) _ 4).trans ((arr4 m c).trans ?_))
  rw [V_s, loss_eq]
theorem read_ngG : r.2.mem (c.tc.loc main_v33) = ngG m c := by
  refine (tail_read m h c main_v33 (Pipeline.mem_restRefs_of _ (by decide) (by decide))).trans ?_
  rw [(tail_eq (F := Ideal) _).2.1.1]
  exact (congrArg ngOf ((Pipeline.withArrays_arr spec0 inj c (V0 m c) _ 5).trans (arr5 m c))).trans (ng_5 m hpre c)
theorem read_bgG : r.2.mem (c.tc.loc main_v35) = bgG m c := by
  refine (tail_read m h c main_v35 (Pipeline.mem_restRefs_of _ (by decide) (by decide))).trans ?_
  rw [(tail_eq (F := Ideal) _).2.1.2.1]
  exact (congrArg bgOf ((Pipeline.withArrays_arr spec0 inj c (V0 m c) _ 5).trans (arr5 m c))).trans (bg_5 m hpre c)
theorem read_lbG : r.2.mem (c.tc.loc main_v37) = lbG m c := by
  refine (tail_read m h c main_v37 (Pipeline.mem_restRefs_of _ (by decide) (by decide))).trans ?_
  rw [(tail_eq (F := Ideal) _).2.1.2.2.1]
  exact (congrArg lbOf ((Pipeline.withArrays_arr spec0 inj c (V0 m c) _ 5).trans (arr5 m c))).trans (lb_5 m hpre c)
theorem read_hgG : r.2.mem (c.tc.loc main_v39) = hgG m c := by
  refine (tail_read m h c main_v39 (Pipeline.mem_restRefs_of _ (by decide) (by decide))).trans ?_
  rw [(tail_eq (F := Ideal) _).2.1.2.2.2.1]
  exact (congrArg hgOf ((Pipeline.withArrays_arr spec0 inj c (V0 m c) _ 5).trans (arr5 m c))).trans (hg_5 m hpre c)
theorem read_fgG : r.2.mem (c.tc.loc main_v41) = fgG m c := by
  refine (tail_read m h c main_v41 (Pipeline.mem_restRefs_of _ (by decide) (by decide))).trans ?_
  rw [(tail_eq (F := Ideal) _).2.1.2.2.2.2]
  exact (congrArg fgOf ((Pipeline.withArrays_arr spec0 inj c (V0 m c) _ 5).trans (arr5 m c))).trans (fg_5 m hpre c)
theorem read_ngD : r.2.mem (c.tc.loc main_v43) = ngD m c := by
  refine (tail_read m h c main_v43 (Pipeline.mem_restRefs_of _ (by decide) (by decide))).trans ?_
  rw [(tail_eq (F := Ideal) _).2.2.1.1]
  exact (congrArg ngOf ((Pipeline.withArrays_arr spec0 inj c (V0 m c) _ 6).trans (arr6 m c))).trans (ng_6 m hpre c)
theorem read_bgD : r.2.mem (c.tc.loc main_v45) = bgD m c := by
  refine (tail_read m h c main_v45 (Pipeline.mem_restRefs_of _ (by decide) (by decide))).trans ?_
  rw [(tail_eq (F := Ideal) _).2.2.1.2.1]
  exact (congrArg bgOf ((Pipeline.withArrays_arr spec0 inj c (V0 m c) _ 6).trans (arr6 m c))).trans (bg_6 m hpre c)
theorem read_lbD : r.2.mem (c.tc.loc main_v47) = lbD m c := by
  refine (tail_read m h c main_v47 (Pipeline.mem_restRefs_of _ (by decide) (by decide))).trans ?_
  rw [(tail_eq (F := Ideal) _).2.2.1.2.2.1]
  exact (congrArg lbOf ((Pipeline.withArrays_arr spec0 inj c (V0 m c) _ 6).trans (arr6 m c))).trans (lb_6 m hpre c)
theorem read_hgD : r.2.mem (c.tc.loc main_v49) = hgD m c := by
  refine (tail_read m h c main_v49 (Pipeline.mem_restRefs_of _ (by decide) (by decide))).trans ?_
  rw [(tail_eq (F := Ideal) _).2.2.1.2.2.2.1]
  exact (congrArg hgOf ((Pipeline.withArrays_arr spec0 inj c (V0 m c) _ 6).trans (arr6 m c))).trans (hg_6 m hpre c)
theorem read_fgD : r.2.mem (c.tc.loc main_v51) = fgD m c := by
  refine (tail_read m h c main_v51 (Pipeline.mem_restRefs_of _ (by decide) (by decide))).trans ?_
  rw [(tail_eq (F := Ideal) _).2.2.1.2.2.2.2]
  exact (congrArg fgOf ((Pipeline.withArrays_arr spec0 inj c (V0 m c) _ 6).trans (arr6 m c))).trans (fg_6 m hpre c)
theorem read_ngM : r.2.mem (c.tc.loc main_v53) = ngM m c := by
  refine (tail_read m h c main_v53 (Pipeline.mem_restRefs_of _ (by decide) (by decide))).trans ?_
  rw [(tail_eq (F := Ideal) _).2.2.2.1.1]
  exact (congrArg ngOf ((Pipeline.withArrays_arr spec0 inj c (V0 m c) _ 7).trans (arr7 m c))).trans (ng_7 m hpre c)
theorem read_bgM : r.2.mem (c.tc.loc main_v55) = bgM m c := by
  refine (tail_read m h c main_v55 (Pipeline.mem_restRefs_of _ (by decide) (by decide))).trans ?_
  rw [(tail_eq (F := Ideal) _).2.2.2.1.2.1]
  exact (congrArg bgOf ((Pipeline.withArrays_arr spec0 inj c (V0 m c) _ 7).trans (arr7 m c))).trans (bg_7 m hpre c)
theorem read_lbM : r.2.mem (c.tc.loc main_v57) = lbM m c := by
  refine (tail_read m h c main_v57 (Pipeline.mem_restRefs_of _ (by decide) (by decide))).trans ?_
  rw [(tail_eq (F := Ideal) _).2.2.2.1.2.2.1]
  exact (congrArg lbOf ((Pipeline.withArrays_arr spec0 inj c (V0 m c) _ 7).trans (arr7 m c))).trans (lb_7 m hpre c)
theorem read_hgM : r.2.mem (c.tc.loc main_v59) = hgM m c := by
  refine (tail_read m h c main_v59 (Pipeline.mem_restRefs_of _ (by decide) (by decide))).trans ?_
  rw [(tail_eq (F := Ideal) _).2.2.2.1.2.2.2.1]
  exact (congrArg hgOf ((Pipeline.withArrays_arr spec0 inj c (V0 m c) _ 7).trans (arr7 m c))).trans (hg_7 m hpre c)
theorem read_fgM : r.2.mem (c.tc.loc main_v61) = fgM m c := by
  refine (tail_read m h c main_v61 (Pipeline.mem_restRefs_of _ (by decide) (by decide))).trans ?_
  rw [(tail_eq (F := Ideal) _).2.2.2.1.2.2.2.2]
  exact (congrArg fgOf ((Pipeline.withArrays_arr spec0 inj c (V0 m c) _ 7).trans (arr7 m c))).trans (fg_7 m hpre c)
theorem read_ngV : r.2.mem (c.tc.loc main_v63) = ngV m c := by
  refine (tail_read m h c main_v63 (Pipeline.mem_restRefs_of _ (by decide) (by decide))).trans ?_
  rw [(tail_eq (F := Ideal) _).2.2.2.2.1]
  exact (congrArg ngOf ((Pipeline.withArrays_arr spec0 inj c (V0 m c) _ 8).trans (arr8 m c))).trans (ng_8 m hpre c)
theorem read_bgV : r.2.mem (c.tc.loc main_v65) = bgV m c := by
  refine (tail_read m h c main_v65 (Pipeline.mem_restRefs_of _ (by decide) (by decide))).trans ?_
  rw [(tail_eq (F := Ideal) _).2.2.2.2.2.1]
  exact (congrArg bgOf ((Pipeline.withArrays_arr spec0 inj c (V0 m c) _ 8).trans (arr8 m c))).trans (bg_8 m hpre c)
theorem read_lbV : r.2.mem (c.tc.loc main_v67) = lbV m c := by
  refine (tail_read m h c main_v67 (Pipeline.mem_restRefs_of _ (by decide) (by decide))).trans ?_
  rw [(tail_eq (F := Ideal) _).2.2.2.2.2.2.1]
  exact (congrArg lbOf ((Pipeline.withArrays_arr spec0 inj c (V0 m c) _ 8).trans (arr8 m c))).trans (lb_8 m hpre c)
theorem read_hgV : r.2.mem (c.tc.loc main_v69) = hgV m c := by
  refine (tail_read m h c main_v69 (Pipeline.mem_restRefs_of _ (by decide) (by decide))).trans ?_
  rw [(tail_eq (F := Ideal) _).2.2.2.2.2.2.2.1]
  exact (congrArg hgOf ((Pipeline.withArrays_arr spec0 inj c (V0 m c) _ 8).trans (arr8 m c))).trans (hg_8 m hpre c)
theorem read_fgV : r.2.mem (c.tc.loc main_v71) = fgV m c := by
  refine (tail_read m h c main_v71 (Pipeline.mem_restRefs_of _ (by decide) (by decide))).trans ?_
  rw [(tail_eq (F := Ideal) _).2.2.2.2.2.2.2.2]
  exact (congrArg fgOf ((Pipeline.withArrays_arr spec0 inj c (V0 m c) _ 8).trans (arr8 m c))).trans (fg_8 m hpre c)
end

variable (ρ : Dev nD → PrngReg)
/-- The 21 results, of the arguments. -/
theorem results : θ_run (defs (F := Ideal)) (onTc (τ := τ) (main (F := Ideal))) ⟨m, fun _ => 0, ρ⟩ (fun r => ∀ c : Dev nD,
    r.2.mem (c.tc.loc main_v31) = shapeCast S_ (m (c.tc.loc main_arg0) : FVec Ideal S1x1 .f32) shapeCasts_S1x1_S_
    ∧ r.2.mem (c.tc.loc main_v33) = ngG m c
    ∧ r.2.mem (c.tc.loc main_v35) = bgG m c
    ∧ r.2.mem (c.tc.loc main_v37) = lbG m c
    ∧ r.2.mem (c.tc.loc main_v39) = hgG m c
    ∧ r.2.mem (c.tc.loc main_v41) = fgG m c
    ∧ r.2.mem (c.tc.loc main_v43) = ngD m c
    ∧ r.2.mem (c.tc.loc main_v45) = bgD m c
    ∧ r.2.mem (c.tc.loc main_v47) = lbD m c
    ∧ r.2.mem (c.tc.loc main_v49) = hgD m c
    ∧ r.2.mem (c.tc.loc main_v51) = fgD m c
    ∧ r.2.mem (c.tc.loc main_v53) = ngM m c
    ∧ r.2.mem (c.tc.loc main_v55) = bgM m c
    ∧ r.2.mem (c.tc.loc main_v57) = lbM m c
    ∧ r.2.mem (c.tc.loc main_v59) = hgM m c
    ∧ r.2.mem (c.tc.loc main_v61) = fgM m c
    ∧ r.2.mem (c.tc.loc main_v63) = ngV m c
    ∧ r.2.mem (c.tc.loc main_v65) = bgV m c
    ∧ r.2.mem (c.tc.loc main_v67) = lbV m c
    ∧ r.2.mem (c.tc.loc main_v69) = hgV m c
    ∧ r.2.mem (c.tc.loc main_v71) = fgV m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8)
    ∧ r.2.mem (c.tc.loc main_arg9) = m (c.tc.loc main_arg9)
    ∧ r.2.mem (c.tc.loc main_arg10) = m (c.tc.loc main_arg10)
    ∧ r.2.mem (c.tc.loc main_arg11) = m (c.tc.loc main_arg11)
    ∧ r.2.mem (c.tc.loc main_arg12) = m (c.tc.loc main_arg12)
    ∧ r.2.mem (c.tc.loc main_arg13) = m (c.tc.loc main_arg13)
    ∧ r.2.mem (c.tc.loc main_arg14) = m (c.tc.loc main_arg14)
    ∧ r.2.mem (c.tc.loc main_arg15) = m (c.tc.loc main_arg15)
    ∧ r.2.mem (c.tc.loc main_arg16) = m (c.tc.loc main_arg16)
    ∧ r.2.mem (c.tc.loc main_arg17) = m (c.tc.loc main_arg17)
    ∧ r.2.mem (c.tc.loc main_arg18) = m (c.tc.loc main_arg18)
    ∧ r.2.mem (c.tc.loc main_arg19) = m (c.tc.loc main_arg19)
    ∧ r.2.mem (c.tc.loc main_arg20) = m (c.tc.loc main_arg20)) :=
  (θ_run defs _ _).mono (fun r h c => ⟨read_loss m h c, read_ngG m hpre h c, read_bgG m hpre h c, read_lbG m hpre h c, read_hgG m hpre h c, read_fgG m hpre h c, read_ngD m hpre h c, read_bgD m hpre h c, read_lbD m hpre h c, read_hgD m hpre h c, read_fgD m hpre h c, read_ngM m hpre h c, read_bgM m hpre h c, read_lbM m hpre h c, read_hgM m hpre h c, read_fgM m hpre h c, read_ngV m hpre h c, read_bgV m hpre h c, read_lbV m hpre h c, read_hgV m hpre h c, read_fgV m hpre h c, args_kept m h c⟩) (run_main m ρ)
end
end Cert.KernelSmallIdeal.Small
end
-- ==== Proof.Small.Reference.lean ====
/- The reference's results, from arguments that agree with the kernel's: the same 21 arrays. -/
module
public import proofs.«01_k».proof.Proof.Small.Results
public import proofs.«01_k».proof.Proof.Gen.ReferenceSmallIdeal.Run
public import proofs.«01_k».proof.Proof.Gen.ReferenceSmallIdeal.Read
@[expose] public section
set_option maxRecDepth 16384
noncomputable section
namespace Cert.ReferenceSmallIdeal.Small
open Cert.ReferenceSmallIdeal Cert.ReferenceSmallIdeal.Value Idealize.ShloMosaic Idealize.ShloMosaic.StableHlo Idealize.ShloMosaic.TcCoe Idealize.SL.Sem
open Cert.KernelSmallIdeal.Small (ngG bgG lbG hgG fgG ngM bgM lbM hgM fgM ngV bgV lbV hgV fgV ngD bgD lbD hgD fgD)

variable (m : (ℓ : Loc Cert.KernelSmallIdeal.nD Cert.KernelSmallIdeal.τ Cert.KernelSmallIdeal.sig) → Buf (Elt Ideal) ℓ)
  (m' : (ℓ : Loc nD τ sig) → Buf (Elt Ideal) ℓ)

theorem results (hagree : ∀ c : Dev nD, m' (c.tc.loc main_arg0) = m (c.tc.loc Cert.KernelSmallIdeal.main_arg0)
    ∧ m' (c.tc.loc main_arg1) = m (c.tc.loc Cert.KernelSmallIdeal.main_arg1)
    ∧ m' (c.tc.loc main_arg2) = m (c.tc.loc Cert.KernelSmallIdeal.main_arg2)
    ∧ m' (c.tc.loc main_arg3) = m (c.tc.loc Cert.KernelSmallIdeal.main_arg3)
    ∧ m' (c.tc.loc main_arg4) = m (c.tc.loc Cert.KernelSmallIdeal.main_arg4)
    ∧ m' (c.tc.loc main_arg5) = m (c.tc.loc Cert.KernelSmallIdeal.main_arg5)
    ∧ m' (c.tc.loc main_arg6) = m (c.tc.loc Cert.KernelSmallIdeal.main_arg6)
    ∧ m' (c.tc.loc main_arg7) = m (c.tc.loc Cert.KernelSmallIdeal.main_arg7)
    ∧ m' (c.tc.loc main_arg8) = m (c.tc.loc Cert.KernelSmallIdeal.main_arg8)
    ∧ m' (c.tc.loc main_arg9) = m (c.tc.loc Cert.KernelSmallIdeal.main_arg9)
    ∧ m' (c.tc.loc main_arg10) = m (c.tc.loc Cert.KernelSmallIdeal.main_arg10)
    ∧ m' (c.tc.loc main_arg11) = m (c.tc.loc Cert.KernelSmallIdeal.main_arg11)
    ∧ m' (c.tc.loc main_arg12) = m (c.tc.loc Cert.KernelSmallIdeal.main_arg12)
    ∧ m' (c.tc.loc main_arg13) = m (c.tc.loc Cert.KernelSmallIdeal.main_arg13)
    ∧ m' (c.tc.loc main_arg14) = m (c.tc.loc Cert.KernelSmallIdeal.main_arg14)
    ∧ m' (c.tc.loc main_arg15) = m (c.tc.loc Cert.KernelSmallIdeal.main_arg15)
    ∧ m' (c.tc.loc main_arg16) = m (c.tc.loc Cert.KernelSmallIdeal.main_arg16)
    ∧ m' (c.tc.loc main_arg17) = m (c.tc.loc Cert.KernelSmallIdeal.main_arg17)
    ∧ m' (c.tc.loc main_arg18) = m (c.tc.loc Cert.KernelSmallIdeal.main_arg18)
    ∧ m' (c.tc.loc main_arg19) = m (c.tc.loc Cert.KernelSmallIdeal.main_arg19)
    ∧ m' (c.tc.loc main_arg20) = m (c.tc.loc Cert.KernelSmallIdeal.main_arg20)) (ρ : Dev nD → PrngReg) :
    θ_run (defs (F := Ideal)) (onTc (τ := τ) (main (F := Ideal))) ⟨m', fun _ => 0, ρ⟩ (fun r => ∀ c : Dev nD,
    r.2.mem (c.tc.loc main_v169) = shapeCast (s := S1x1) S_ (m (c.tc.loc Cert.KernelSmallIdeal.main_arg0)) Cert.KernelSmallIdeal.Gen.facts.shapeCasts_S1x1_S_
    ∧ r.2.mem (c.tc.loc main_arg1) = ngG m c
    ∧ r.2.mem (c.tc.loc main_arg2) = bgG m c
    ∧ r.2.mem (c.tc.loc main_v46) = lbG m c
    ∧ r.2.mem (c.tc.loc main_v47) = hgG m c
    ∧ r.2.mem (c.tc.loc main_v48) = fgG m c
    ∧ r.2.mem (c.tc.loc main_v72) = ngD m c
    ∧ r.2.mem (c.tc.loc main_v96) = bgD m c
    ∧ r.2.mem (c.tc.loc main_v120) = lbD m c
    ∧ r.2.mem (c.tc.loc main_v144) = hgD m c
    ∧ r.2.mem (c.tc.loc main_v168) = fgD m c
    ∧ r.2.mem (c.tc.loc main_v53) = ngM m c
    ∧ r.2.mem (c.tc.loc main_v77) = bgM m c
    ∧ r.2.mem (c.tc.loc main_v101) = lbM m c
    ∧ r.2.mem (c.tc.loc main_v125) = hgM m c
    ∧ r.2.mem (c.tc.loc main_v149) = fgM m c
    ∧ r.2.mem (c.tc.loc main_v59) = ngV m c
    ∧ r.2.mem (c.tc.loc main_v83) = bgV m c
    ∧ r.2.mem (c.tc.loc main_v107) = lbV m c
    ∧ r.2.mem (c.tc.loc main_v131) = hgV m c
    ∧ r.2.mem (c.tc.loc main_v155) = fgV m c
    ∧ r.2.mem (c.tc.loc main_arg0) = m' (c.tc.loc main_arg0)
    ∧ r.2.mem (c.tc.loc main_arg1) = m' (c.tc.loc main_arg1)
    ∧ r.2.mem (c.tc.loc main_arg2) = m' (c.tc.loc main_arg2)
    ∧ r.2.mem (c.tc.loc main_arg3) = m' (c.tc.loc main_arg3)
    ∧ r.2.mem (c.tc.loc main_arg4) = m' (c.tc.loc main_arg4)
    ∧ r.2.mem (c.tc.loc main_arg5) = m' (c.tc.loc main_arg5)
    ∧ r.2.mem (c.tc.loc main_arg6) = m' (c.tc.loc main_arg6)
    ∧ r.2.mem (c.tc.loc main_arg7) = m' (c.tc.loc main_arg7)
    ∧ r.2.mem (c.tc.loc main_arg8) = m' (c.tc.loc main_arg8)
    ∧ r.2.mem (c.tc.loc main_arg9) = m' (c.tc.loc main_arg9)
    ∧ r.2.mem (c.tc.loc main_arg10) = m' (c.tc.loc main_arg10)
    ∧ r.2.mem (c.tc.loc main_arg11) = m' (c.tc.loc main_arg11)
    ∧ r.2.mem (c.tc.loc main_arg12) = m' (c.tc.loc main_arg12)
    ∧ r.2.mem (c.tc.loc main_arg13) = m' (c.tc.loc main_arg13)
    ∧ r.2.mem (c.tc.loc main_arg14) = m' (c.tc.loc main_arg14)
    ∧ r.2.mem (c.tc.loc main_arg15) = m' (c.tc.loc main_arg15)
    ∧ r.2.mem (c.tc.loc main_arg16) = m' (c.tc.loc main_arg16)
    ∧ r.2.mem (c.tc.loc main_arg17) = m' (c.tc.loc main_arg17)
    ∧ r.2.mem (c.tc.loc main_arg18) = m' (c.tc.loc main_arg18)
    ∧ r.2.mem (c.tc.loc main_arg19) = m' (c.tc.loc main_arg19)
    ∧ r.2.mem (c.tc.loc main_arg20) = m' (c.tc.loc main_arg20)) := by
  refine (θ_run defs _ _).mono (fun r h c => ?_) (Cert.ReferenceSmallIdeal.Value.run m' ρ)
  obtain ⟨a0, a1, a2, a3, a4, a5, a6, a7, a8, a9, a10, a11, a12, a13, a14, a15, a16, a17, a18, a19, a20⟩ := hagree c
  have l0 : launchContents m' c (Proc.devRef .tc main_arg0) = m (c.tc.loc Cert.KernelSmallIdeal.main_arg0) := a0
  have l1 : launchContents m' c (Proc.devRef .tc main_arg1) = m (c.tc.loc Cert.KernelSmallIdeal.main_arg1) := a1
  have l2 : launchContents m' c (Proc.devRef .tc main_arg2) = m (c.tc.loc Cert.KernelSmallIdeal.main_arg2) := a2
  have l3 : launchContents m' c (Proc.devRef .tc main_arg3) = m (c.tc.loc Cert.KernelSmallIdeal.main_arg3) := a3
  have l4 : launchContents m' c (Proc.devRef .tc main_arg4) = m (c.tc.loc Cert.KernelSmallIdeal.main_arg4) := a4
  have l5 : launchContents m' c (Proc.devRef .tc main_arg5) = m (c.tc.loc Cert.KernelSmallIdeal.main_arg5) := a5
  have l6 : launchContents m' c (Proc.devRef .tc main_arg6) = m (c.tc.loc Cert.KernelSmallIdeal.main_arg6) := a6
  have l7 : launchContents m' c (Proc.devRef .tc main_arg7) = m (c.tc.loc Cert.KernelSmallIdeal.main_arg7) := a7
  have l8 : launchContents m' c (Proc.devRef .tc main_arg8) = m (c.tc.loc Cert.KernelSmallIdeal.main_arg8) := a8
  have l9 : launchContents m' c (Proc.devRef .tc main_arg9) = m (c.tc.loc Cert.KernelSmallIdeal.main_arg9) := a9
  have l10 : launchContents m' c (Proc.devRef .tc main_arg10) = m (c.tc.loc Cert.KernelSmallIdeal.main_arg10) := a10
  have l11 : launchContents m' c (Proc.devRef .tc main_arg11) = m (c.tc.loc Cert.KernelSmallIdeal.main_arg11) := a11
  have l12 : launchContents m' c (Proc.devRef .tc main_arg12) = m (c.tc.loc Cert.KernelSmallIdeal.main_arg12) := a12
  have l13 : launchContents m' c (Proc.devRef .tc main_arg13) = m (c.tc.loc Cert.KernelSmallIdeal.main_arg13) := a13
  have l14 : launchContents m' c (Proc.devRef .tc main_arg14) = m (c.tc.loc Cert.KernelSmallIdeal.main_arg14) := a14
  have l15 : launchContents m' c (Proc.devRef .tc main_arg15) = m (c.tc.loc Cert.KernelSmallIdeal.main_arg15) := a15
  have l16 : launchContents m' c (Proc.devRef .tc main_arg16) = m (c.tc.loc Cert.KernelSmallIdeal.main_arg16) := a16
  have l17 : launchContents m' c (Proc.devRef .tc main_arg17) = m (c.tc.loc Cert.KernelSmallIdeal.main_arg17) := a17
  have l18 : launchContents m' c (Proc.devRef .tc main_arg18) = m (c.tc.loc Cert.KernelSmallIdeal.main_arg18) := a18
  have l19 : launchContents m' c (Proc.devRef .tc main_arg19) = m (c.tc.loc Cert.KernelSmallIdeal.main_arg19) := a19
  have l20 : launchContents m' c (Proc.devRef .tc main_arg20) = m (c.tc.loc Cert.KernelSmallIdeal.main_arg20) := a20
  have e46 : res_main_v46 (launchContents m' c) = lbG m c := by
    show Cert.ReferenceSmallIdeal.Read.val_main_v46 (launchContents m' c (Proc.devRef .tc main_arg3)) (launchContents m' c (Proc.devRef .tc main_arg8)) = _
    rw [l3, l8]; rfl
  have e47 : res_main_v47 (launchContents m' c) = hgG m c := by
    show Cert.ReferenceSmallIdeal.Read.val_main_v47 (launchContents m' c (Proc.devRef .tc main_arg4)) = _
    rw [l4]; rfl
  have e48 : res_main_v48 (launchContents m' c) = fgG m c := by
    show Cert.ReferenceSmallIdeal.Read.val_main_v48 (launchContents m' c (Proc.devRef .tc main_arg5)) = _
    rw [l5]; rfl
  obtain ⟨r0, r1, r2, r3, r4, r5, r6, r7, r8, r9, r10, r11, r12, r13, r14, r15, r16, r17, r18, r19, r20, hargs⟩ := h c
  refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, r14.trans ?_, r15.trans ?_, r16.trans ?_, r17.trans ?_, r18.trans ?_, r19.trans ?_, r20.trans ?_, hargs⟩
  · rw [l0]
  · exact l1
  · exact l2
  · exact e46
  · exact e47
  · exact e48
  · rw [l1, l6, l11, l16]; rfl
  · rw [l2, l7, l12, l17]; rfl
  · rw [e46, l8, l13, l18]; rfl
  · rw [e47, l9, l14, l19]; rfl
  · rw [e48, l10, l15, l20]; rfl
  · rw [l1, l11]; rfl
  · rw [l2, l12]; rfl
  · rw [e46, l13]; rfl
  · rw [e47, l14]; rfl
  · rw [e48, l15]; rfl
  · rw [l1, l16]; rfl
  · rw [l2, l17]; rfl
  · rw [e46, l18]; rfl
  · rw [e47, l19]; rfl
  · rw [e48, l20]; rfl
/-- The reference leaves its arguments as they were, and it declares no semaphore. -/
theorem frame (ρ : Dev nD → PrngReg) : θ_run (defs (F := Ideal)) (onTc (τ := τ) (main (F := Ideal))) ⟨m', fun _ => 0, ρ⟩ (fun r => (∀ c : Dev nD,
    r.2.mem (c.tc.loc main_arg0) = m' (c.tc.loc main_arg0)
    ∧ r.2.mem (c.tc.loc main_arg1) = m' (c.tc.loc main_arg1)
    ∧ r.2.mem (c.tc.loc main_arg2) = m' (c.tc.loc main_arg2)
    ∧ r.2.mem (c.tc.loc main_arg3) = m' (c.tc.loc main_arg3)
    ∧ r.2.mem (c.tc.loc main_arg4) = m' (c.tc.loc main_arg4)
    ∧ r.2.mem (c.tc.loc main_arg5) = m' (c.tc.loc main_arg5)
    ∧ r.2.mem (c.tc.loc main_arg6) = m' (c.tc.loc main_arg6)
    ∧ r.2.mem (c.tc.loc main_arg7) = m' (c.tc.loc main_arg7)
    ∧ r.2.mem (c.tc.loc main_arg8) = m' (c.tc.loc main_arg8)
    ∧ r.2.mem (c.tc.loc main_arg9) = m' (c.tc.loc main_arg9)
    ∧ r.2.mem (c.tc.loc main_arg10) = m' (c.tc.loc main_arg10)
    ∧ r.2.mem (c.tc.loc main_arg11) = m' (c.tc.loc main_arg11)
    ∧ r.2.mem (c.tc.loc main_arg12) = m' (c.tc.loc main_arg12)
    ∧ r.2.mem (c.tc.loc main_arg13) = m' (c.tc.loc main_arg13)
    ∧ r.2.mem (c.tc.loc main_arg14) = m' (c.tc.loc main_arg14)
    ∧ r.2.mem (c.tc.loc main_arg15) = m' (c.tc.loc main_arg15)
    ∧ r.2.mem (c.tc.loc main_arg16) = m' (c.tc.loc main_arg16)
    ∧ r.2.mem (c.tc.loc main_arg17) = m' (c.tc.loc main_arg17)
    ∧ r.2.mem (c.tc.loc main_arg18) = m' (c.tc.loc main_arg18)
    ∧ r.2.mem (c.tc.loc main_arg19) = m' (c.tc.loc main_arg19)
    ∧ r.2.mem (c.tc.loc main_arg20) = m' (c.tc.loc main_arg20)) ∧ r.2.sem = fun _ => 0) :=
  (θ_run defs _ _).mono (fun r h => ⟨fun c => (h c).2.2.2.2.2.2.2.2.2.2.2.2.2.2.2.2.2.2.2.2.2, Idealize.ShloMosaic.sem_eq_zero_of_no_sems (by decide) r.2⟩) (Cert.ReferenceSmallIdeal.Value.run m' ρ)
end Cert.ReferenceSmallIdeal.Small
end
-- ==== Proof.Sb.Tile.lean ====
/-
One tile of the backward pass of the stick-breaking attention, as a plain function: 256 query rows against 256 keys of
one head, the carried sums of the chain in, the tile's shares of the three gradients out.
-/
module

public import proofs.«01_k».proof.Proof.Gen.KernelSbIdeal.Skeleton

@[expose] public section

set_option maxRecDepth 16384

noncomputable section

namespace Cert.KernelSbIdeal.Sb

open Idealize.ShloMosaic Cert.KernelSbIdeal Cert.KernelSbIdeal.Gen

variable {F : FTy → Type} [FloatOps F] [Named F]

/-- A square of scores, a column of row sums, and 256 rows of one head. -/
abbrev Sq (F : FTy → Type) := FVec F S256x256 .f32
abbrev Col (F : FTy → Type) := FVec F S256x1 .f32
abbrev Rows (F : FTy → Type) := FVec F S256x128 .f32

def zeroF : F .f32 := Scalar.ofBits .f32 0x00000000#32
def scaleF : F .f32 := Scalar.ofBits .f32 0x3DB504F3#32

/-- The scaled scores. -/
def score (q k : Vec F S256x128 .bf16) : Sq F :=
  mulf (matmul dot_S256x128_S256x128_S256x256_1_1_0_0_n_n none q k (constant S256x256 .f32 0x00000000#32)) (broadcast S256x256 (scaleF (F := F)))

/-- log σ of the scores. -/
def lsPos (z : Sq F) : Sq F :=
  subf (minimumf z (broadcast S256x256 (zeroF (F := F))))
    (log1p (exp (subf (broadcast S256x256 (zeroF (F := F))) (absf z))))

/-- log (1 − σ) of the scores. -/
def lsNot (z : Sq F) : Sq F := subf (lsPos z) z

/-- A square times a triangle of ones, in two halves of the precision. -/
def splitDot (x : Sq F) (tri : FVec F S256x256 .bf16) : Sq F :=
  have hi : FVec F S256x256 .bf16 := truncf .bf16 x bitsLt_bf16_f32
  have lo : FVec F S256x256 .bf16 := truncf .bf16 (subf x (extf .f32 hi bitsLt_bf16_f32)) bitsLt_bf16_f32
  have both : FVec F S512x256 .f32 := matmul dot_S512x256_S256x256_S512x256_1_0_0_1_n_n none
    (concatenate S512x256 0 [⟨S256x256, hi⟩, ⟨S256x256, lo⟩] concatenates_S256x256_S256x256_S512x256_d0) tri (constant S512x256 .f32 0x00000000#32)
  addf (extractStridedSlice S256x256 ![0, 0] both slices_S512x256_o0_0_S256x256)
    (extractStridedSlice S256x256 ![256, 0] both slices_S512x256_o256_0_S256x256)

/-- The first column. -/
def firstCol (x : Sq F) : Col F := extractStridedSlice S256x1 ![0, 0] x slices_S256x256_o0_0_S256x1

def wide (x : Col F) : Sq F := broadcastTo S256x256 x broadcasts_S256x1_S256x256

/-- The two triangles of ones and the mask under the diagonal. -/
def triE : FVec F S256x256 .bf16 := Gen.k0_pay15 (F := F)
def triI : FVec F S256x256 .bf16 := Gen.k0_pay16 (F := F)

/-- What a chain carries from tile to tile: the log survival, the sum of `dw·w` so far, and the gradient of the queries. -/
structure Chain (F : FTy → Type) where
  carry : Col F
  cdlw : Col F
  dq : Rows F

/-- A tile's masks: over the log survival terms, over the weights, over the gradient of the scores. -/
structure Mask (F : FTy → Type) where
  ls : Sq F → Sq F
  w : Sq F → Sq F
  dz : Sq F → Sq F
  carry : Col F → Col F

/-- On the diagonal. -/
def Mask.diag : Mask F where
  ls x := select Gen.k0_pay14 x (broadcast S256x256 (zeroF (F := F)))
  w x := select Gen.k0_pay14 x (broadcast S256x256 (zeroF (F := F)))
  dz x := select Gen.k0_pay14 x (broadcast S256x256 (zeroF (F := F)))
  carry x := x

/-- Off the diagonal: the tile counts if its word is not negative. -/
def Mask.off (j : BitVec 32) : Mask F where
  ls x := x
  w x := x
  dz x := Scalar.select (Scalar.cmpi .sge j 0#32) x (broadcast S256x256 (zeroF (F := F)))
  carry x := Scalar.select (Scalar.cmpi .sge j 0#32) x (broadcast S256x1 (Named.named κ "gone" 0xF149F2CA#32))

section Tile

variable (M : Mask F) (q k v d : Vec F S256x128 .bf16) (tot : Col F) (s : Chain F)

def surv : Sq F := addf (splitDot (M.ls (lsNot (score q k))) triE) (wide (M.carry s.carry))
def weight : Sq F := M.w (exp (addf (lsPos (score q k)) (surv M q k s)))
def dlw : Sq F := mulf (matmul dot_S256x128_S256x128_S256x256_1_1_0_0_n_n none d v (constant S256x256 .f32 0x00000000#32)) (weight M q k s)
def dlwSum : Sq F := splitDot (dlw M q k v d s) triI
def dNot : Sq F := subf (wide (subf tot s.cdlw)) (dlwSum M q k v d s)
def dz : FVec F S256x256 .bf16 :=
  truncf .bf16 (M.dz (mulf (subf (mulf (addf (dlw M q k v d s) (dNot M q k v d tot s)) (exp (lsNot (score q k)))) (dNot M q k v d tot s))
    (broadcast S256x256 (scaleF (F := F))))) bitsLt_bf16_f32

/-- The chain after the tile. -/
def next : Chain F where
  carry := addf (firstCol (surv M q k s)) (firstCol (M.ls (lsNot (score q k))))
  cdlw := addf s.cdlw (firstCol (dlwSum M q k v d s))
  dq := addf s.dq (matmul dot_S256x256_S256x128_S256x128_1_0_0_1_n_n none (dz M q k v d tot s) k (constant S256x128 .f32 0x00000000#32))

/-- The tile's shares of the gradients of the keys and the values. -/
def dkInc : Rows F := matmul dot_S256x256_S256x128_S256x128_0_0_1_1_n_n none (dz M q k v d tot s) q (constant S256x128 .f32 0x00000000#32)
def dvInc : Rows F :=
  matmul dot_S256x256_S256x128_S256x128_0_0_1_1_n_n none (truncf .bf16 (weight M q k s) bitsLt_bf16_f32) d (constant S256x128 .f32 0x00000000#32)

end Tile

end Cert.KernelSbIdeal.Sb

end

end
-- ==== Proof.Sb.Step.lean ====
/-
The backward pass of the stick-breaking attention at one grid point, as a plain function of the point's blocks and of
the two accumulators: two tiles of each of the four chains, then the loop's tiles.
-/
module

public import proofs.«01_k».proof.Proof.Sb.Tile
public import Idealize.ShloMosaic.Lib.VecWindow

@[expose] public section

set_option maxRecDepth 16384

noncomputable section

namespace Cert.KernelSbIdeal.Sb

open Idealize.ShloMosaic Cert.KernelSbIdeal Cert.KernelSbIdeal.Gen

variable {F : FTy → Type} [FloatOps F] [Named F]

/-- 256 rows and 128 columns of an array of the sequence. -/
def pick {α : Type} (x : S8192x256.Idx → α) (off : Fin 2 → ℕ) : S256x128.Idx → α := fun y =>
  x fun a => ⟨(off a + (y a).val) % S8192x256.size a, Nat.mod_lt _ (by revert a; decide)⟩

/-- The same of a block of queries. -/
def pickQ {α : Type} (x : S512x256.Idx → α) (off : Fin 2 → ℕ) : S256x128.Idx → α := fun y =>
  x fun a => ⟨(off a + (y a).val) % S512x256.size a, Nat.mod_lt _ (by revert a; decide)⟩

theorem window_eq_pick {α : Type} (x : S8192x256.Idx → α) (off : Fin 2 → ℕ) (inb : ∀ a, off a + S256x128.size a ≤ S8192x256.size a) :
    VecWindow.window x off S256x128.size inb = pick x off := by
  funext y
  refine congrArg x (funext fun a => Fin.ext ?_)
  have e : ((Rect.unit (s := S8192x256) off S256x128.size inb).emb y a).val = off a + 1 * (y a).val := rfl
  have h1 := (y a).isLt
  have h2 := inb a
  have h3 : (Rect.unit (s := S8192x256) off S256x128.size inb).shape.size a = S256x128.size a := rfl
  rw [e, Nat.one_mul]
  exact (Nat.mod_eq_of_lt (by omega)).symm

theorem window_eq_pickQ {α : Type} (x : S512x256.Idx → α) (off : Fin 2 → ℕ) (inb : ∀ a, off a + S256x128.size a ≤ S512x256.size a) :
    VecWindow.window x off S256x128.size inb = pickQ x off := by
  funext y
  refine congrArg x (funext fun a => Fin.ext ?_)
  have e : ((Rect.unit (s := S512x256) off S256x128.size inb).emb y a).val = off a + 1 * (y a).val := rfl
  have h1 := (y a).isLt
  have h2 := inb a
  have h3 : (Rect.unit (s := S512x256) off S256x128.size inb).shape.size a = S256x128.size a := rfl
  rw [e, Nat.one_mul]
  exact (Nat.mod_eq_of_lt (by omega)).symm

/-- What a grid point's body reads: the blocks of the queries and of the results' gradient, the head pair's keys and
    values, and the four chains' totals. -/
structure Blk (F : FTy → Type) where
  q : Vec F S512x256 .bf16
  k : Vec F S8192x256 .bf16
  v : Vec F S8192x256 .bf16
  d : Vec F S512x256 .bf16
  t0 : Col F
  t1 : Col F
  t2 : Col F
  t3 : Col F

/-- The four chains and the accumulators of the keys' and the values' gradients, before tile `n`. -/
structure St (F : FTy → Type) where
  n : BitVec 32
  c0 : Chain F
  c1 : Chain F
  c2 : Chain F
  c3 : Chain F
  A : Vec F S8192x256 .f32
  B : Vec F S8192x256 .f32

/-- The key block's word: negative when the chain has no such tile. -/
def word (i : grid0.Coords) (a n : BitVec 32) : BitVec 32 :=
  Scalar.subi (Scalar.addi (Scalar.muli 2#32 (BitVec.ofNat 32 (i 1).val)) a) n

/-- Add a tile's share at its rows and columns of an accumulator. -/
def acc (A : Vec F S8192x256 .f32) (off : Fin 2 → ℕ) (w : Rows F) : Vec F S8192x256 .f32 :=
  VecWindow.put A off S256x128.size (shapeCast S256x128 (addf (pick A off) w) shapeCasts_S256x128_S256x128)

section Step

variable (i : grid0.Coords) (X : Blk F) (M : BitVec 32 → Mask F) (s : St F)

/-- The blocks of the gradient of the results, chain by chain. -/
def d0 : Vec F S256x128 .bf16 := extractStridedSlice S256x128 ![0, 0] X.d slices_S512x256_o0_0_S256x128
def d1 : Vec F S256x128 .bf16 := extractStridedSlice S256x128 ![256, 0] X.d slices_S512x256_o256_0_S256x128
def d2 : Vec F S256x128 .bf16 := extractStridedSlice S256x128 ![0, 128] X.d slices_S512x256_o0_128_S256x128
def d3 : Vec F S256x128 .bf16 := extractStridedSlice S256x128 ![256, 128] X.d slices_S512x256_o256_128_S256x128

/-- The offsets of the chains' key blocks. -/
def o0 (n : BitVec 32) : Fin 2 → ℕ := k0_off3 i n 0#32
def o1 (n : BitVec 32) : Fin 2 → ℕ := k0_off3 i n 1#32
def o2 (n : BitVec 32) : Fin 2 → ℕ := k0_off4 i n 0#32
def o3 (n : BitVec 32) : Fin 2 → ℕ := k0_off4 i n 1#32

/-- One tile of every chain. -/
def step : St F where
  n := Scalar.addi s.n 1#32
  c0 := next (M (word i 0#32 s.n)) (pickQ X.q ![0, 0]) (pick X.k (o0 i s.n)) (pick X.v (o0 i s.n)) (d0 X) X.t0 s.c0
  c1 := next (M (word i 1#32 s.n)) (pickQ X.q ![256, 0]) (pick X.k (o1 i s.n)) (pick X.v (o1 i s.n)) (d1 X) X.t1 s.c1
  c2 := next (M (word i 0#32 s.n)) (pickQ X.q ![0, 128]) (pick X.k (o2 i s.n)) (pick X.v (o2 i s.n)) (d2 X) X.t2 s.c2
  c3 := next (M (word i 1#32 s.n)) (pickQ X.q ![256, 128]) (pick X.k (o3 i s.n)) (pick X.v (o3 i s.n)) (d3 X) X.t3 s.c3
  A := acc (acc (acc (acc s.A
    (o0 i s.n) (dkInc (M (word i 0#32 s.n)) (pickQ X.q ![0, 0]) (pick X.k (o0 i s.n)) (pick X.v (o0 i s.n)) (d0 X) X.t0 s.c0))
    (o1 i s.n) (dkInc (M (word i 1#32 s.n)) (pickQ X.q ![256, 0]) (pick X.k (o1 i s.n)) (pick X.v (o1 i s.n)) (d1 X) X.t1 s.c1))
    (o2 i s.n) (dkInc (M (word i 0#32 s.n)) (pickQ X.q ![0, 128]) (pick X.k (o2 i s.n)) (pick X.v (o2 i s.n)) (d2 X) X.t2 s.c2))
    (o3 i s.n) (dkInc (M (word i 1#32 s.n)) (pickQ X.q ![256, 128]) (pick X.k (o3 i s.n)) (pick X.v (o3 i s.n)) (d3 X) X.t3 s.c3)
  B := acc (acc (acc (acc s.B
    (o0 i s.n) (dvInc (M (word i 0#32 s.n)) (pickQ X.q ![0, 0]) (pick X.k (o0 i s.n)) (d0 X) s.c0))
    (o1 i s.n) (dvInc (M (word i 1#32 s.n)) (pickQ X.q ![256, 0]) (pick X.k (o1 i s.n)) (d1 X) s.c1))
    (o2 i s.n) (dvInc (M (word i 0#32 s.n)) (pickQ X.q ![0, 128]) (pick X.k (o2 i s.n)) (d2 X) s.c2))
    (o3 i s.n) (dvInc (M (word i 1#32 s.n)) (pickQ X.q ![256, 128]) (pick X.k (o3 i s.n)) (d3 X) s.c3)

/-- The loop's test. -/
def more (i : grid0.Coords) (s : St F) : BitVec 1 :=
  Scalar.andi (Scalar.cmpi .sle s.n (Scalar.subi (Scalar.addi (Scalar.muli 2#32 (BitVec.ofNat 32 (i 1).val)) 2#32) 1#32))
    (Scalar.cmpf .ogt (k0_pay3 s.c0.carry s.c1.carry s.c2.carry s.c3.carry) (Named.named κ "dead" 0xC2DC0000#32))

/-- The loop, at most `k` trips of it. -/
def loop (i : grid0.Coords) (X : Blk F) : ℕ → St F → St F
  | 0, s => s
  | k + 1, s => if more i s = 1#1 then loop i X k (step i X Mask.off s) else s

/-- No tile yet, over given accumulators. -/
def start (A B : Vec F S8192x256 .f32) : St F :=
  have c : Chain F := ⟨k0_pay21 (F := F), k0_pay21 (F := F), k0_pay22 (F := F)⟩
  ⟨0#32, c, c, c, c, A, B⟩

/-- The point's tiles: the diagonal, the one before it, and the loop's. -/
def pass (i : grid0.Coords) (X : Blk F) (A B : Vec F S8192x256 .f32) : St F :=
  loop i X (2 * (i 1).val) (step i X Mask.off (step i X (fun _ => Mask.diag) (start A B)))

end Step

end Cert.KernelSbIdeal.Sb

end

end
-- ==== Proof.Sb.Rules.lean ====
/-
Loads and stores of a body that holds its buffers by value, read as plain functions of the values: a load of a window
of a buffer, an unmasked store over a window, both on the whole buffer held.
-/
module

public import proofs.«01_k».proof.Proof.Sb.Step
public import Idealize.ShloMosaic.Lib.Pipeline.Kit
public import Idealize.ShloMosaic.Lib.Tactic

@[expose] public section

set_option maxRecDepth 16384

noncomputable section

namespace Cert.KernelSbIdeal.Sb

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable {α : Type} (𝒱 : Variants) (bd : Option 𝒱.V) (c : Dev nD)

section
variable {s : Shape} {e : EltTy} {m : Memref sig .tc .vmem s e} {x : s.Idx → Elt F e}

/-- A load of a window. -/
theorem load_window (Q : α → sProp 𝕄) {off size : Fin s.rank → ℕ} {inb : ∀ a, off a + size a ≤ s.size a}
    {hl : m.view.LoadsAt (Rect.unit off size inb).toLoadRect}
    {k : ((Rect.unit off size inb).shape.Idx → Elt F e) → Prog (TpuEff nD τ sig (Elt F) (Λ₀ F) .tc) α} :
    (owns (c : Thread nD τ) m fullShare x : sProp 𝕄)
      ⊢ iprop((owns (c : Thread nD τ) m fullShare x -∗
          wp frame (wpE (defs₀ (F := F)) 𝒱 c bd) Set.univ (k (VecWindow.window x off size inb)) Q)
        -∗ wp frame (wpE (defs₀ (F := F)) 𝒱 c bd) Set.univ (.op (.load m (Rect.unit off size inb).toLoadRect hl) k) Q) := by
  unfold owns
  iintro ⟨%f, %hf, H⟩ Hk
  iapply (wp_load 𝒱 (c : Thread nD τ) bd Set.univ (m := m) (m.view.setOn_subset_set _)) $$ H
  iintro H
  rw [View.readAt_unit m.view f inb rfl inb, hf]
  iapply Hk
  iexists f
  isplitr
  · ipureintro; exact hf
  iexact H

omit [FloatOps F] [Named F] in
/-- A window's elements are among the buffer's. -/
theorem access_subset (m : Memref sig .tc .vmem s e) (r : Rect s) : (m.access r).setOn Finset.univ ⊆ m.view.set := by
  rw [View.setOn_univ]
  show (m.view.slice r).set ⊆ _
  rw [View.set_slice]
  exact m.view.setOn_subset_set _

/-- A store over a window. -/
theorem store_window (Q : α → sProp 𝕄) {off size : Fin s.rank → ℕ} {inb : ∀ a, off a + size a ≤ s.size a} {w : (Rect.unit off size inb).shape.Idx → Elt F e}
    {hx : (m.access (Rect.unit off size inb)).Stores Finset.univ} {h : (Finset.univ = (Finset.univ : Finset (Rect.unit off size inb).shape.Idx)) ∨ ∀ a, (Rect.unit off size inb).stride a = 1}
    {k : PUnit → Prog (TpuEff nD τ sig (Elt F) (Λ₀ F) .tc) α} :
    (owns (c : Thread nD τ) m fullShare x : sProp 𝕄)
      ⊢ iprop((owns (c : Thread nD τ) m fullShare (VecWindow.put x off size w) -∗
          wp frame (wpE (defs₀ (F := F)) 𝒱 c bd) Set.univ (k ⟨⟩) Q)
        -∗ wp frame (wpE (defs₀ (F := F)) 𝒱 c bd) Set.univ (.op (.store m (Rect.unit off size inb) w Finset.univ hx h) k) Q) := by
  unfold owns
  iintro ⟨%f, %hf, H⟩ Hk
  iapply (wp_store 𝒱 (c : Thread nD τ) bd Set.univ (m := m) (r := Rect.unit off size inb) (Mk := Finset.univ) (access_subset m _)) $$ H
  iintro H
  iapply Hk
  iexists _
  isplitr; swap
  · iexact H
  ipureintro
  subst hf
  exact View.read_writes_cons_put m.view f inb w [] rfl
end

section
variable {s : Shape} {e : EltTy} {m : Memref sig .tc .vmem s e} {x : s.Idx → Elt F e}

/-- A load of the whole buffer. -/
theorem load_whole (Q : α → sProp 𝕄) {off : Fin s.rank → ℕ} {inb : ∀ a, off a + s.size a ≤ s.size a}
    {hl : m.view.LoadsAt (Rect.unit off s.size inb).toLoadRect} {k : (s.Idx → Elt F e) → Prog (TpuEff nD τ sig (Elt F) (Λ₀ F) .tc) α} :
    (owns (c : Thread nD τ) m fullShare x : sProp 𝕄)
      ⊢ iprop((owns (c : Thread nD τ) m fullShare x -∗ wp frame (wpE (defs₀ (F := F)) 𝒱 c bd) Set.univ (k x) Q)
        -∗ wp frame (wpE (defs₀ (F := F)) 𝒱 c bd) Set.univ (.op (.load m (Rect.unit off s.size inb).toLoadRect hl) k) Q) := by
  unfold owns
  iintro ⟨%f, %hf, H⟩ Hk
  iapply (wp_load 𝒱 (c : Thread nD τ) bd Set.univ (m := m) (m.view.setOn_subset_set _)) $$ H
  iintro H
  rw [View.readAt_full m.view f inb, hf]
  iapply Hk
  iexists f
  isplitr
  · ipureintro; exact hf
  iexact H

/-- A store over the whole buffer. -/
theorem store_whole (Q : α → sProp 𝕄) {off : Fin s.rank → ℕ} {inb : ∀ a, off a + s.size a ≤ s.size a} {w : s.Idx → Elt F e}
    {hx : (m.access (Rect.unit off s.size inb)).Stores Finset.univ} {h : (Finset.univ = (Finset.univ : Finset (Rect.unit off s.size inb).shape.Idx)) ∨ ∀ a, (Rect.unit off s.size inb).stride a = 1}
    {k : PUnit → Prog (TpuEff nD τ sig (Elt F) (Λ₀ F) .tc) α} :
    (owns (c : Thread nD τ) m fullShare x : sProp 𝕄)
      ⊢ iprop((owns (c : Thread nD τ) m fullShare w -∗ wp frame (wpE (defs₀ (F := F)) 𝒱 c bd) Set.univ (k ⟨⟩) Q)
        -∗ wp frame (wpE (defs₀ (F := F)) 𝒱 c bd) Set.univ (.op (.store m (Rect.unit off s.size inb) w Finset.univ hx h) k) Q) := by
  unfold owns
  iintro ⟨%f, %hf, H⟩ Hk
  iapply (wp_store 𝒱 (c : Thread nD τ) bd Set.univ (m := m) (r := Rect.unit off s.size inb) (Mk := Finset.univ) (access_subset m _)) $$ H
  iintro H
  iapply Hk
  iexists _
  isplitr; swap
  · iexact H
  ipureintro
  exact View.read_writes_full m.view f inb w []
end

/-! The body's own loads and stores: tiles of the sequence's arrays, of a block of queries, and whole blocks. -/

section
variable {e : EltTy}

theorem load_rows (Q : α → sProp 𝕄) {m : Memref sig .tc .vmem S8192x256 e} {x : S8192x256.Idx → Elt F e} {off : Fin 2 → ℕ} {inb : ∀ a, off a + S256x128.size a ≤ S8192x256.size a}
    {hl : m.view.LoadsAt (Rect.unit (s := S8192x256) off S256x128.size inb).toLoadRect} {k : (S256x128.Idx → Elt F e) → Prog (TpuEff nD τ sig (Elt F) (Λ₀ F) .tc) α} :
    (owns (c : Thread nD τ) m fullShare x : sProp 𝕄)
      ⊢ iprop((owns (c : Thread nD τ) m fullShare x -∗ wp frame (wpE (defs₀ (F := F)) 𝒱 c bd) Set.univ (k (pick x off)) Q)
        -∗ wp frame (wpE (defs₀ (F := F)) 𝒱 c bd) Set.univ (.op (.load m (Rect.unit (s := S8192x256) off S256x128.size inb).toLoadRect hl) k) Q) := by
  rw [← window_eq_pick x off inb]
  exact load_window 𝒱 bd c Q

theorem load_block (Q : α → sProp 𝕄) {m : Memref sig .tc .vmem S512x256 e} {x : S512x256.Idx → Elt F e} {off : Fin 2 → ℕ} {inb : ∀ a, off a + S256x128.size a ≤ S512x256.size a}
    {hl : m.view.LoadsAt (Rect.unit (s := S512x256) off S256x128.size inb).toLoadRect} {k : (S256x128.Idx → Elt F e) → Prog (TpuEff nD τ sig (Elt F) (Λ₀ F) .tc) α} :
    (owns (c : Thread nD τ) m fullShare x : sProp 𝕄)
      ⊢ iprop((owns (c : Thread nD τ) m fullShare x -∗ wp frame (wpE (defs₀ (F := F)) 𝒱 c bd) Set.univ (k (pickQ x off)) Q)
        -∗ wp frame (wpE (defs₀ (F := F)) 𝒱 c bd) Set.univ (.op (.load m (Rect.unit (s := S512x256) off S256x128.size inb).toLoadRect hl) k) Q) := by
  rw [← window_eq_pickQ x off inb]
  exact load_window 𝒱 bd c Q
end

end Cert.KernelSbIdeal.Sb

end

end
-- ==== Proof.Sb.Loop.lean ====
/-
The loop of one grid point: its label meets the specification that takes the buffers at a state and gives them back at
the state `loop` computes, by induction on the trips that may still be run.
-/
module

public import proofs.«01_k».proof.Proof.Sb.Rules
public import proofs.«01_k».proof.Proof.Gen.KernelSbIdeal.Skeleton

@[expose] public section

set_option maxRecDepth 16384

noncomputable section

namespace Cert.KernelSbIdeal.Sb

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A trip's key blocks lie inside the sequence. -/
theorem chk_of_le (i : grid0.Coords) (j : ℕ) (hj : j < 34) : k0_chk1 i (BitVec.ofNat 32 j) := by
  obtain ⟨p, hp⟩ : ∃ p : Fin 16, (i 1).val = p.val := ⟨i 1, rfl⟩
  unfold k0_chk1 k0_off3 k0_off4 k0_mult9 k0_mult10 k0_mult11 k0_mult12
  rw [hp]
  clear hp
  obtain ⟨j, rfl⟩ : ∃ r : Fin 34, r.val = j := ⟨⟨j, hj⟩, rfl⟩
  clear hj i
  revert p j
  decide +kernel

/-- Past the last tile the test fails. -/
theorem more_last (i : grid0.Coords) (s : St F) (h : s.n = BitVec.ofNat 32 (2 * (i 1).val + 2)) : ¬more i s = 1#1 := by
  have e : Scalar.cmpi .sle s.n (Scalar.subi (Scalar.addi (Scalar.muli 2#32 (BitVec.ofNat 32 (i 1).val)) 2#32) 1#32) = 0#1 := by
    rw [h]
    obtain ⟨p, hp⟩ : ∃ p : Fin 16, (i 1).val = p.val := ⟨i 1, rfl⟩
    rw [hp]
    clear hp h
    revert p
    decide +kernel
  unfold more
  rw [e]
  unfold Scalar.andi IntOp.andi
  rw [BitVec.zero_and]
  decide

/-- A trip counts one up. -/
theorem next_word {n : BitVec 32} (p k : ℕ) (hs : n = BitVec.ofNat 32 (2 * p + 2 - (k + 1))) (hk : k + 1 ≤ 2 * p) :
    Scalar.addi n 1#32 = BitVec.ofNat 32 (2 * p + 2 - k) := by
  rw [hs]
  unfold Scalar.addi IntOp.addi
  rw [← BitVec.ofNat_add]
  congr 1
  omega

section Label

variable (c : Dev nD) (i : grid0.Coords) (X : Blk F)
  (ak : Memref sig .tc .vmem S8192x256 .bf16) (hk : ak.IsWhole) (av : Memref sig .tc .vmem S8192x256 .bf16) (hv : av.IsWhole)
  (aq : Memref sig .tc .vmem S512x256 .bf16) (hq : aq.IsWhole)
  (aA : Memref sig .tc .vmem S8192x256 .f32) (hA : aA.IsWhole) (aB : Memref sig .tc .vmem S8192x256 .f32) (hB : aB.IsWhole)

/-- The buffers the tiles read and write, the accumulators at a state's. -/
def held (s : St F) : sProp 𝕄 :=
  iprop(owns (c : Thread nD τ) ak fullShare X.k ∗ owns (c : Thread nD τ) av fullShare X.v ∗ owns (c : Thread nD τ) aq fullShare X.q
    ∗ owns (c : Thread nD τ) aA fullShare s.A ∗ owns (c : Thread nD τ) aB fullShare s.B)

/-- What the loop carries in registers. -/
def carried (s : St F) : BitVec 32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 :=
  (s.n, s.c0.carry, s.c0.cdlw, s.c0.dq, s.c1.carry, s.c1.cdlw, s.c1.dq, s.c2.carry, s.c2.cdlw, s.c2.dq, s.c3.carry, s.c3.cdlw, s.c3.dq)

/-- The label's arguments at a state. -/
def args (s : St F) : Cc0While1 F :=
  ⟨i, ak, hk, av, hv, aq, hq, X.d, triE, triI, X.t0, aA, hA, aB, hB, X.t1, X.t2, X.t3, s.n, s.c0.carry, s.c0.cdlw, s.c0.dq,
    s.c1.carry, s.c1.cdlw, s.c1.dq, s.c2.carry, s.c2.cdlw, s.c2.dq, s.c3.carry, s.c3.cdlw, s.c3.dq⟩

/-- From the buffers at a state, to the buffers and the registers after at most `k` trips. -/
def spec (k : ℕ) (s : St F) : sWPT 𝕄 (BitVec 32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) := do
  sWPT.consume (held c X ak av aq aA aB s)
  sWPT.produce (held c X ak av aq aA aB (loop i X k s))
  pure (carried (loop i X k s))

theorem spec_apply (k : ℕ) (s : St F) (K : _ → sProp 𝕄) :
    spec c i X ak av aq aA aB k s K
      = iprop(held c X ak av aq aA aB s ∗ (held c X ak av aq aA aB (loop i X k s) -∗ K (carried (loop i X k s)))) := rfl

theorem spec_le : ∀ (k : ℕ) (s : St F), s.n = BitVec.ofNat 32 (2 * (i 1).val + 2 - k) → k ≤ 2 * (i 1).val → ∀ K,
    spec c i X ak av aq aA aB k s K
      ⊢ wp frame (wpE (defs₀ (F := F)) Variants.nat (c : Thread nD τ) (some k)) Set.univ
          (defs₀ (F := F) .tc 1 (args i X ak hk av hv aq hq aA hA aB hB s)) K := by
  intro k
  induction k with
  | zero =>
    intro s hs _ K
    rw [spec_apply]
    show _ ⊢ wp frame (wpE (defs₀ (F := F)) Variants.nat (c : Thread nD τ) (some 0)) Set.univ
      (cc0_while1 i ak hk av hv aq hq X.d triE triI X.t0 aA hA aB hB X.t1 X.t2 X.t3 s.n s.c0.carry s.c0.cdlw s.c0.dq
        s.c1.carry s.c1.cdlw s.c1.dq s.c2.carry s.c2.cdlw s.c2.dq s.c3.carry s.c3.cdlw s.c3.dq) K
    rw [cc0_while1_eq_skeleton]
    unfold cc0_while1_skel
    have hm : ¬more i s = 1#1 := more_last i s hs
    unfold more at hm
    simp only [hm, ↓reduceIte, Prog.pure_eq_ret]
    iintro ⟨H, Hk⟩
    rw [wp_ret]; imodintro
    have e : loop i X 0 s = s := rfl
    rw [e]
    unfold carried
    iapply Hk
    iexact H
  | succ k ih =>
    intro s hs hk' K
    rw [spec_apply]
    show _ ⊢ wp frame (wpE (defs₀ (F := F)) Variants.nat (c : Thread nD τ) (some (k + 1))) Set.univ
      (cc0_while1 i ak hk av hv aq hq X.d triE triI X.t0 aA hA aB hB X.t1 X.t2 X.t3 s.n s.c0.carry s.c0.cdlw s.c0.dq
        s.c1.carry s.c1.cdlw s.c1.dq s.c2.carry s.c2.cdlw s.c2.dq s.c3.carry s.c3.cdlw s.c3.dq) K
    rw [cc0_while1_eq_skeleton]
    unfold cc0_while1_skel
    by_cases hm : more i s = 1#1
    · have hm' := hm
      unfold more at hm'
      simp only [hm', ↓reduceIte]
      simp only [k0_part18_eq_skeleton, k0_part19_eq_skeleton, k0_part20_eq_skeleton, k0_part21_eq_skeleton,
        k0_part22_eq_skeleton, k0_part23_eq_skeleton, k0_part24_eq_skeleton]
      unfold k0_part18_skel k0_part19_skel k0_part20_skel k0_part21_skel k0_part22_skel k0_part23_skel k0_part24_skel
      simp only [Prog.lift, Prog.bind_op, Prog.bind_ret, Prog.pure_eq_ret]
      unfold held
      iintro ⟨⟨Hk, Hv, Hq, HA, HB⟩, HK⟩
      iapply (wp_assume Variants.nat (c : Thread nD τ) (some (k + 1)) Set.univ (by rw [hs]; exact chk_of_le i _ (by have := (i 1).isLt; have : (i 1).val < 16 := this; omega)))
      iapply (load_rows Variants.nat (some (k + 1)) c K) $$ Hk; iintro Hk
      iapply (load_rows Variants.nat (some (k + 1)) c K) $$ Hv; iintro Hv
      iapply (load_block Variants.nat (some (k + 1)) c K) $$ Hq; iintro Hq
      iapply (load_rows Variants.nat (some (k + 1)) c K) $$ Hk; iintro Hk
      iapply (load_rows Variants.nat (some (k + 1)) c K) $$ Hv; iintro Hv
      iapply (load_block Variants.nat (some (k + 1)) c K) $$ Hq; iintro Hq
      iapply (load_rows Variants.nat (some (k + 1)) c K) $$ Hk; iintro Hk
      iapply (load_rows Variants.nat (some (k + 1)) c K) $$ Hv; iintro Hv
      iapply (load_block Variants.nat (some (k + 1)) c K) $$ Hq; iintro Hq
      iapply (load_rows Variants.nat (some (k + 1)) c K) $$ Hk; iintro Hk
      iapply (load_rows Variants.nat (some (k + 1)) c K) $$ Hv; iintro Hv
      iapply (load_block Variants.nat (some (k + 1)) c K) $$ Hq; iintro Hq
      iapply (load_rows Variants.nat (some (k + 1)) c K) $$ HA; iintro HA
      iapply (load_rows Variants.nat (some (k + 1)) c K) $$ HA; iintro HA
      iapply (store_window Variants.nat (some (k + 1)) c K) $$ HA; iintro HA
      iapply (load_rows Variants.nat (some (k + 1)) c K) $$ HB; iintro HB
      iapply (load_rows Variants.nat (some (k + 1)) c K) $$ HB; iintro HB
      iapply (store_window Variants.nat (some (k + 1)) c K) $$ HB; iintro HB
      iapply (load_rows Variants.nat (some (k + 1)) c K) $$ HA; iintro HA
      iapply (load_rows Variants.nat (some (k + 1)) c K) $$ HA; iintro HA
      iapply (store_window Variants.nat (some (k + 1)) c K) $$ HA; iintro HA
      iapply (load_rows Variants.nat (some (k + 1)) c K) $$ HB; iintro HB
      iapply (load_rows Variants.nat (some (k + 1)) c K) $$ HB; iintro HB
      iapply (store_window Variants.nat (some (k + 1)) c K) $$ HB; iintro HB
      iapply (load_rows Variants.nat (some (k + 1)) c K) $$ HA; iintro HA
      iapply (load_rows Variants.nat (some (k + 1)) c K) $$ HA; iintro HA
      iapply (store_window Variants.nat (some (k + 1)) c K) $$ HA; iintro HA
      iapply (load_rows Variants.nat (some (k + 1)) c K) $$ HB; iintro HB
      iapply (load_rows Variants.nat (some (k + 1)) c K) $$ HB; iintro HB
      iapply (store_window Variants.nat (some (k + 1)) c K) $$ HB; iintro HB
      iapply (load_rows Variants.nat (some (k + 1)) c K) $$ HA; iintro HA
      iapply (load_rows Variants.nat (some (k + 1)) c K) $$ HA; iintro HA
      iapply (store_window Variants.nat (some (k + 1)) c K) $$ HA; iintro HA
      iapply (load_rows Variants.nat (some (k + 1)) c K) $$ HB; iintro HB
      iapply (load_rows Variants.nat (some (k + 1)) c K) $$ HB; iintro HB
      iapply (store_window Variants.nat (some (k + 1)) c K) $$ HB; iintro HB
      iapply (wp_call_spec Variants.nat (c : Thread nD τ) (some (k + 1)) Set.univ (spec c i X ak av aq aA aB k (step i X Mask.off s)) k
        (fun u hu => by cases hu; exact Nat.lt_succ_self k)
        (ih (step i X Mask.off s) (next_word _ _ hs hk') (by omega)))
      rw [spec_apply]
      unfold held
      isplitl [Hk Hv Hq HA HB]
      · isplitl [Hk]; · iexact Hk
        isplitl [Hv]; · iexact Hv
        isplitl [Hq]; · iexact Hq
        isplitl [HA]; · iexact HA
        iexact HB
      iintro H
      rw [wp_ret]; imodintro
      have e : loop i X (k + 1) s = loop i X k (step i X Mask.off s) := if_pos hm
      rw [e]
      iapply HK
      iexact H
    · have hm' := hm
      unfold more at hm'
      have e : loop i X (k + 1) s = s := if_neg hm
      rw [e]
      simp only [hm', ↓reduceIte, Prog.pure_eq_ret]
      iintro ⟨H, Hk⟩
      rw [wp_ret]; imodintro
      unfold carried
      iapply Hk
      iexact H

end Label

end Cert.KernelSbIdeal.Sb

end

end
-- ==== Proof.Sb.Body.lean ====
/-
One grid point of the backward pass of the stick-breaking attention: from the point's blocks and the accumulators, to
the gradient of the queries, the accumulators one point on and, at a head pair's last point, the gradients of the keys
and the values.
-/
module

public import proofs.«01_k».proof.Proof.Sb.Loop

@[expose] public section

set_option maxRecDepth 16384

noncomputable section

namespace Cert.KernelSbIdeal.Sb

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The point's blocks, the totals of the chains computed from the results and their gradient. -/
def blk (q : Vec F S512x256 .bf16) (k v : Vec F S8192x256 .bf16) (o : Vec F S512x256 .f32) (d : Vec F S512x256 .bf16) : Blk F :=
  ⟨q, k, v, d, k0_pay17 d o, k0_pay18 d o, k0_pay19 d o, k0_pay20 d o⟩

/-- The first point of a head pair. -/
abbrev first (i : grid0.Coords) : Prop := Scalar.cmpi .ne (Scalar.extui (Scalar.cmpi .eq (BitVec.ofNat 32 (i 1).val) 0#32)) 0#32 = 1#1

/-- An accumulator as a point finds it: zero at the first. -/
def cleared (i : grid0.Coords) (z A : Vec F S8192x256 .f32) : Vec F S8192x256 .f32 := if first i then z else A

/-- The gradient of the queries of a point: the four chains' pieces. -/
def dqOut (s : St F) (x : Vec F S512x256 .bf16) : Vec F S512x256 .bf16 :=
  VecWindow.put (VecWindow.put (VecWindow.put (VecWindow.put x ![0, 0] S256x128.size (k0_pay169 s.c0.dq)) ![256, 0] S256x128.size (k0_pay170 s.c1.dq))
    ![0, 128] S256x128.size (k0_pay171 s.c2.dq)) ![256, 128] S256x128.size (k0_pay172 s.c3.dq)

/-- What a point makes of the accumulators. -/
def point (i : grid0.Coords) (X : Blk F) (A B : Vec F S8192x256 .f32) : St F :=
  pass i X (cleared i (k0_pay11 (F := F)) A) (cleared i (k0_pay12 (F := F)) B)

/-- A point's state after the tiles before the loop. -/
def early (i : grid0.Coords) (X : Blk F) (A B : Vec F S8192x256 .f32) : St F :=
  step i X Mask.off (step i X (fun _ => Mask.diag) (start A B))

section Run

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S8192x256 .f32) (harg10 : arg10.IsWhole) (arg11 : Memref sig .tc .vmem S8192x256 .f32) (harg11 : arg11.IsWhole)

/-- A head pair's first point clears the accumulators; every point reads the results and their gradient. -/
theorem part1_run (o : Vec F S512x256 .f32) (d : Vec F S512x256 .bf16) (A B : Vec F S8192x256 .f32) (Q : _ → sProp 𝕄) :
    iprop(owns (c : Thread nD τ) arg5 fullShare o ∗ owns (c : Thread nD τ) arg6 fullShare d
      ∗ owns (c : Thread nD τ) arg10 fullShare A ∗ owns (c : Thread nD τ) arg11 fullShare B
      ∗ (owns (c : Thread nD τ) arg5 fullShare o -∗ owns (c : Thread nD τ) arg6 fullShare d
        -∗ owns (c : Thread nD τ) arg10 fullShare (cleared i (k0_pay11 (F := F)) A)
        -∗ owns (c : Thread nD τ) arg11 fullShare (cleared i (k0_pay12 (F := F)) B)
        -∗ Q ⟨BitVec.ofNat 32 (i 1).val, d, k0_pay14, k0_pay15 (F := F), k0_pay16 (F := F), k0_pay17 d o, k0_pay18 d o, k0_pay19 d o, k0_pay20 d o,
          k0_pay21 (F := F), k0_pay22 (F := F), Scalar.subi (Scalar.addi (Scalar.muli 2#32 (BitVec.ofNat 32 (i 1).val)) 0#32) 0#32, 0#32⟩))
      ⊢ wp frame (wpE (defs₀ (F := F)) Variants.nat (c : Thread nD τ) none) Set.univ (k0_part1 i arg2 harg2 arg3 harg3 arg4 harg4 arg5 harg5 arg6 harg6 arg7 harg7 arg8 harg8 arg9 harg9 arg10 harg10 arg11 harg11) Q := by
  iintro ⟨H5, H6, HA, HB, HK⟩
  rw [k0_part1_eq_skeleton]
  unfold k0_part1_skel
  by_cases hf : first i
  · rw [show cleared i (k0_pay11 (F := F)) A = k0_pay11 from if_pos hf, show cleared i (k0_pay12 (F := F)) B = k0_pay12 from if_pos hf]
    have hf' := hf
    unfold first at hf'
    simp only [hf', ↓reduceDIte, ↓reduceIte, Prog.lift, Prog.bind_op, Prog.bind_ret, Prog.pure_eq_ret]
    iapply (load_whole Variants.nat none c Q) $$ HA; iintro HA
    iapply (store_whole Variants.nat none c Q) $$ HA; iintro HA
    iapply (load_whole Variants.nat none c Q) $$ HB; iintro HB
    iapply (store_whole Variants.nat none c Q) $$ HB; iintro HB
    iapply (load_whole Variants.nat none c Q) $$ H6; iintro H6
    iapply (load_whole Variants.nat none c Q) $$ H5; iintro H5
    rw [wp_ret]; imodintro
    iapply HK $$ H5 H6 HA HB
  · rw [show cleared i (k0_pay11 (F := F)) A = A from if_neg hf, show cleared i (k0_pay12 (F := F)) B = B from if_neg hf]
    have hf' := hf
    unfold first at hf'
    simp only [hf', ↓reduceDIte, ↓reduceIte, Prog.lift, Prog.bind_op, Prog.bind_ret, Prog.pure_eq_ret]
    iapply (load_whole Variants.nat none c Q) $$ H6; iintro H6
    iapply (load_whole Variants.nat none c Q) $$ H5; iintro H5
    rw [wp_ret]; imodintro
    iapply HK $$ H5 H6 HA HB

/-- The first tile's chains, as the lines before the loop compute them. -/
theorem first_tile (q : Vec F S512x256 .bf16) (k v : Vec F S8192x256 .bf16) (o : Vec F S512x256 .f32) (d : Vec F S512x256 .bf16)
    (A B : Vec F S8192x256 .f32) :
    have s := step i (blk q k v o d) (fun _ => Mask.diag) (start A B)
    have M := k0_pay14
    have E := k0_pay15 (F := F)
    have I := k0_pay16 (F := F)
    have O := k0_pay21 (F := F)
    have W := k0_pay22 (F := F)
    have z : F .f32 := Scalar.ofBits .f32 0x00000000#32
    have K0 := pick k (k0_off1 i 0#32 0#32)
    have V0 := pick v (k0_off1 i 0#32 0#32)
    have Q0 := pickQ q ![0, 0]
    have K1 := pick k (k0_off1 i 1#32 0#32)
    have V1 := pick v (k0_off1 i 1#32 0#32)
    have Q1 := pickQ q ![256, 0]
    have K2 := pick k (k0_off2 i 0#32 0#32)
    have V2 := pick v (k0_off2 i 0#32 0#32)
    have Q2 := pickQ q ![0, 128]
    have K3 := pick k (k0_off2 i 1#32 0#32)
    have V3 := pick v (k0_off2 i 1#32 0#32)
    have Q3 := pickQ q ![256, 128]
    have v59 := k0_pay25 K0 Q0
    have v60 := k0_pay26 K0 Q0
    have v62 := k0_pay27 M K0 Q0
    have v71 := k0_pay28 M E K0 Q0
    have v72 := k0_pay29 d V0
    have v95 := k0_pay32 K1 Q1
    have v96 := k0_pay33 K1 Q1
    have v98 := k0_pay34 M K1 Q1
    have v107 := k0_pay35 M E K1 Q1
    have v108 := k0_pay36 d V1
    have v120 := k0_pay37 d
    have v121 := k0_pay38 K2 Q2
    have v131 := k0_pay40 v121
    have v132 := k0_pay41 v121
    have v134 := k0_pay42 M v121
    have v143 := k0_pay43 M E v121
    have v144 := k0_pay44 V2 v120
    have v156 := k0_pay45 d
    have v159 := k0_pay46 K3 Q3
    have v161 := k0_pay47 K3 Q3
    have v162 := k0_pay48 K3 Q3
    have v167 := k0_pay49 v161 v162 z
    have v168 := k0_pay50 v159 v161 v162 z
    have v170 := k0_pay51 M v159 v161 v162 z
    have v179 := k0_pay52 M E v159 v161 v162 z
    have v180 := k0_pay53 V3 v156
    have v318 := k0_pay80 O v71
    have v323 := k0_pay82 M O v59 v71 v72
    have v332 := k0_pay83 M I O v59 v71 v72
    have v334 := k0_pay84 O v107
    have v336 := k0_pay85 O v95 v107
    have v339 := k0_pay87 M v108 v336 z
    have v348 := k0_pay88 M I v108 v336 z
    have v350 := k0_pay89 O v143
    have v355 := k0_pay91 M O v131 v143 v144
    have v364 := k0_pay92 M I O v131 v143 v144
    have v366 := k0_pay93 O v179
    have v371 := k0_pay95 M O v167 v179 v180
    have v380 := k0_pay96 M I O v167 v179 v180
    have v389 := k0_pay97 (k0_pay17 d o) O v60 v323 v332
    have v428 := k0_pay104 M (k0_pay18 d o) O v96 v339 v348
    have v464 := k0_pay111 M (k0_pay19 d o) O v132 v355 v364
    k0_pay101 v62 v318 = s.c0.carry
    ∧ k0_pay102 O v332 = s.c0.cdlw
    ∧ k0_pay103 M W K0 v389 z = s.c0.dq
    ∧ k0_pay108 v98 v334 = s.c1.carry
    ∧ k0_pay109 O v348 = s.c1.cdlw
    ∧ k0_pay110 W K1 v428 = s.c1.dq
    ∧ k0_pay115 v134 v350 = s.c2.carry
    ∧ k0_pay116 O v364 = s.c2.cdlw
    ∧ k0_pay117 W K2 v464 = s.c2.dq
    ∧ k0_pay121 v170 v366 = s.c3.carry
    ∧ k0_pay122 O v380 = s.c3.cdlw
    ∧ k0_pay123 M (k0_pay20 d o) O W K3 v168 v371 v380 = s.c3.dq := by
  exact ⟨rfl, rfl, rfl, rfl, rfl, rfl, rfl, rfl, rfl, rfl, rfl, rfl⟩

set_option maxHeartbeats 2000000 in
theorem body_run (q : Vec F S512x256 .bf16) (k v : Vec F S8192x256 .bf16) (o : Vec F S512x256 .f32) (d : Vec F S512x256 .bf16)
    (x7 : Vec F S512x256 .bf16) (x8 x9 : Vec F S8192x256 .bf16) (A B : Vec F S8192x256 .f32) (K : PUnit → sProp 𝕄) :
    iprop((owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare d ∗ owns (c : Thread nD τ) arg7 fullShare x7
        ∗ owns (c : Thread nD τ) arg8 fullShare x8 ∗ owns (c : Thread nD τ) arg9 fullShare x9
        ∗ owns (c : Thread nD τ) arg10 fullShare A ∗ owns (c : Thread nD τ) arg11 fullShare B)
      ∗ ((owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare d
        ∗ owns (c : Thread nD τ) arg7 fullShare (dqOut (point i (blk q k v o d) A B) x7)
        ∗ owns (c : Thread nD τ) arg8 fullShare (if k0_cond2 i = 1#1 then k0_pay1 (point i (blk q k v o d) A B).A else x8)
        ∗ owns (c : Thread nD τ) arg9 fullShare (if k0_cond2 i = 1#1 then k0_pay2 (point i (blk q k v o d) A B).B else x9)
        ∗ owns (c : Thread nD τ) arg10 fullShare (point i (blk q k v o d) A B).A
        ∗ owns (c : Thread nD τ) arg11 fullShare (point i (blk q k v o d) A B).B) -∗ K ⟨⟩))
      ⊢ wp frame (wpE (defs₀ (F := F)) Variants.nat (c : Thread nD τ) none) Set.univ (cc0_sb_bwd i arg2 harg2 arg3 harg3 arg4 harg4 arg5 harg5 arg6 harg6 arg7 harg7 arg8 harg8 arg9 harg9 arg10 harg10 arg11 harg11) K := by
  rw [cc0_sb_bwd_eq_skeleton]
  unfold cc0_sb_bwd_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part2_skel k0_part3_skel k0_part4_skel k0_part5_skel k0_part6_skel k0_part7_skel k0_part8_skel k0_part9_skel k0_part10_skel k0_part11_skel k0_part12_skel
  simp only [Prog.lift, Prog.bind_op, Prog.bind_ret, Prog.pure_eq_ret]
  obtain ⟨e1, e2, e3, e4, e5, e6, e7, e8, e9, e10, e11, e12⟩ := first_tile i q k v o d (cleared i (k0_pay11 (F := F)) A) (cleared i (k0_pay12 (F := F)) B)
  iintro ⟨⟨H2, H3, H4, H5, H6, H7, H8, H9, HA, HB⟩, HK⟩
  rw [wp_bind]
  iapply (part1_run c i arg2 harg2 arg3 harg3 arg4 harg4 arg5 harg5 arg6 harg6 arg7 harg7 arg8 harg8 arg9 harg9 arg10 harg10 arg11 harg11 o d A B _)
  isplitl [H5]; · iexact H5
  isplitl [H6]; · iexact H6
  isplitl [HA]; · iexact HA
  isplitl [HB]; · iexact HB
  iintro H5 H6 HA HB
  dsimp only
  iapply (load_rows Variants.nat none c K) $$ H3; iintro H3
  iapply (load_rows Variants.nat none c K) $$ H4; iintro H4
  iapply (load_block Variants.nat none c K) $$ H2; iintro H2
  iapply (load_rows Variants.nat none c K) $$ H3; iintro H3
  iapply (load_rows Variants.nat none c K) $$ H4; iintro H4
  iapply (load_block Variants.nat none c K) $$ H2; iintro H2
  iapply (load_rows Variants.nat none c K) $$ H3; iintro H3
  iapply (load_rows Variants.nat none c K) $$ H4; iintro H4
  iapply (load_block Variants.nat none c K) $$ H2; iintro H2
  iapply (load_rows Variants.nat none c K) $$ H3; iintro H3
  iapply (load_rows Variants.nat none c K) $$ H4; iintro H4
  iapply (load_block Variants.nat none c K) $$ H2; iintro H2
  iapply (load_rows Variants.nat none c K) $$ H3; iintro H3
  iapply (load_rows Variants.nat none c K) $$ H4; iintro H4
  iapply (load_block Variants.nat none c K) $$ H2; iintro H2
  iapply (load_rows Variants.nat none c K) $$ H3; iintro H3
  iapply (load_rows Variants.nat none c K) $$ H4; iintro H4
  iapply (load_block Variants.nat none c K) $$ H2; iintro H2
  iapply (load_rows Variants.nat none c K) $$ H3; iintro H3
  iapply (load_rows Variants.nat none c K) $$ H4; iintro H4
  iapply (load_block Variants.nat none c K) $$ H2; iintro H2
  iapply (load_rows Variants.nat none c K) $$ H3; iintro H3
  iapply (load_rows Variants.nat none c K) $$ H4; iintro H4
  iapply (load_block Variants.nat none c K) $$ H2; iintro H2
  iapply (load_rows Variants.nat none c K) $$ HA; iintro HA
  iapply (load_rows Variants.nat none c K) $$ HA; iintro HA
  iapply (store_window Variants.nat none c K) $$ HA; iintro HA
  iapply (load_rows Variants.nat none c K) $$ HB; iintro HB
  iapply (load_rows Variants.nat none c K) $$ HB; iintro HB
  iapply (store_window Variants.nat none c K) $$ HB; iintro HB
  iapply (load_rows Variants.nat none c K) $$ HA; iintro HA
  iapply (load_rows Variants.nat none c K) $$ HA; iintro HA
  iapply (store_window Variants.nat none c K) $$ HA; iintro HA
  iapply (load_rows Variants.nat none c K) $$ HB; iintro HB
  iapply (load_rows Variants.nat none c K) $$ HB; iintro HB
  iapply (store_window Variants.nat none c K) $$ HB; iintro HB
  iapply (load_rows Variants.nat none c K) $$ HA; iintro HA
  iapply (load_rows Variants.nat none c K) $$ HA; iintro HA
  iapply (store_window Variants.nat none c K) $$ HA; iintro HA
  iapply (load_rows Variants.nat none c K) $$ HB; iintro HB
  iapply (load_rows Variants.nat none c K) $$ HB; iintro HB
  iapply (store_window Variants.nat none c K) $$ HB; iintro HB
  iapply (load_rows Variants.nat none c K) $$ HA; iintro HA
  iapply (load_rows Variants.nat none c K) $$ HA; iintro HA
  iapply (store_window Variants.nat none c K) $$ HA; iintro HA
  iapply (load_rows Variants.nat none c K) $$ HB; iintro HB
  iapply (load_rows Variants.nat none c K) $$ HB; iintro HB
  iapply (store_window Variants.nat none c K) $$ HB; iintro HB
  ihave HA : owns (c : Thread nD τ) arg10 fullShare (step i (blk q k v o d) (fun _ => Mask.diag) (start (cleared i (k0_pay11 (F := F)) A) (cleared i (k0_pay12 (F := F)) B))).A $$ [HA]; · iexact HA
  ihave HB : owns (c : Thread nD τ) arg11 fullShare (step i (blk q k v o d) (fun _ => Mask.diag) (start (cleared i (k0_pay11 (F := F)) A) (cleared i (k0_pay12 (F := F)) B))).B $$ [HB]; · iexact HB
  rw [e1, e2, e3, e4, e5, e6, e7, e8, e9, e10, e11, e12]
  simp only [k0_part13_eq_skeleton, k0_part14_eq_skeleton, k0_part15_eq_skeleton, k0_part16_eq_skeleton, k0_part17_eq_skeleton]
  unfold k0_part13_skel k0_part14_skel k0_part15_skel k0_part16_skel k0_part17_skel
  simp only [Prog.lift, Prog.bind_op, Prog.bind_ret, Prog.pure_eq_ret]
  iapply (load_rows Variants.nat none c K) $$ HA; iintro HA
  iapply (load_rows Variants.nat none c K) $$ HA; iintro HA
  iapply (store_window Variants.nat none c K) $$ HA; iintro HA
  iapply (load_rows Variants.nat none c K) $$ HB; iintro HB
  iapply (load_rows Variants.nat none c K) $$ HB; iintro HB
  iapply (store_window Variants.nat none c K) $$ HB; iintro HB
  iapply (load_rows Variants.nat none c K) $$ HA; iintro HA
  iapply (load_rows Variants.nat none c K) $$ HA; iintro HA
  iapply (store_window Variants.nat none c K) $$ HA; iintro HA
  iapply (load_rows Variants.nat none c K) $$ HB; iintro HB
  iapply (load_rows Variants.nat none c K) $$ HB; iintro HB
  iapply (store_window Variants.nat none c K) $$ HB; iintro HB
  iapply (load_rows Variants.nat none c K) $$ HA; iintro HA
  iapply (load_rows Variants.nat none c K) $$ HA; iintro HA
  iapply (store_window Variants.nat none c K) $$ HA; iintro HA
  iapply (load_rows Variants.nat none c K) $$ HB; iintro HB
  iapply (load_rows Variants.nat none c K) $$ HB; iintro HB
  iapply (store_window Variants.nat none c K) $$ HB; iintro HB
  iapply (load_rows Variants.nat none c K) $$ HA; iintro HA
  iapply (load_rows Variants.nat none c K) $$ HA; iintro HA
  iapply (store_window Variants.nat none c K) $$ HA; iintro HA
  iapply (load_rows Variants.nat none c K) $$ HB; iintro HB
  iapply (load_rows Variants.nat none c K) $$ HB; iintro HB
  iapply (store_window Variants.nat none c K) $$ HB; iintro HB
  ihave HA : owns (c : Thread nD τ) arg10 fullShare (early i (blk q k v o d) (cleared i (k0_pay11 (F := F)) A) (cleared i (k0_pay12 (F := F)) B)).A $$ [HA]; · iexact HA
  ihave HB : owns (c : Thread nD τ) arg11 fullShare (early i (blk q k v o d) (cleared i (k0_pay11 (F := F)) A) (cleared i (k0_pay12 (F := F)) B)).B $$ [HB]; · iexact HB
  iapply (wp_call_spec Variants.nat (c : Thread nD τ) none Set.univ
    (spec c i (blk q k v o d) arg3 arg4 arg2 arg10 arg11 (2 * (i 1).val) (early i (blk q k v o d) (cleared i (k0_pay11 (F := F)) A) (cleared i (k0_pay12 (F := F)) B))) (2 * (i 1).val)
    (fun u hu => nomatch hu)
    (spec_le c i (blk q k v o d) arg3 harg3 arg4 harg4 arg2 harg2 arg10 harg10 arg11 harg11 (2 * (i 1).val) (early i (blk q k v o d) (cleared i (k0_pay11 (F := F)) A) (cleared i (k0_pay12 (F := F)) B))
      (by rw [Nat.add_sub_cancel_left]; rfl) le_rfl))
  rw [spec_apply]
  unfold held
  isplitl [H2 H3 H4 HA HB]
  · isplitl [H3]; · iexact H3
    isplitl [H4]; · iexact H4
    isplitl [H2]; · iexact H2
    isplitl [HA]; · iexact HA
    iexact HB
  iintro ⟨H3, H4, H2, HA, HB⟩
  clear e1 e2 e3 e4 e5 e6 e7 e8 e9 e10 e11 e12
  iapply (load_block Variants.nat none c K) $$ H7; iintro H7
  iapply (store_window Variants.nat none c K) $$ H7; iintro H7
  iapply (load_block Variants.nat none c K) $$ H7; iintro H7
  iapply (store_window Variants.nat none c K) $$ H7; iintro H7
  iapply (load_block Variants.nat none c K) $$ H7; iintro H7
  iapply (store_window Variants.nat none c K) $$ H7; iintro H7
  iapply (load_block Variants.nat none c K) $$ H7; iintro H7
  iapply (store_window Variants.nat none c K) $$ H7; iintro H7
  by_cases hl : k0_cond2 i = 1#1
  · rw [dif_pos hl, if_pos hl, if_pos hl]
    iapply (load_whole Variants.nat none c K) $$ HA; iintro HA
    iapply (load_whole Variants.nat none c K) $$ H8; iintro H8
    iapply (store_whole Variants.nat none c K) $$ H8; iintro H8
    iapply (load_whole Variants.nat none c K) $$ HB; iintro HB
    iapply (load_whole Variants.nat none c K) $$ H9; iintro H9
    iapply (store_whole Variants.nat none c K) $$ H9; iintro H9
    rw [wp_ret]
    imodintro
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    iexact HB
  · rw [dif_neg hl, if_neg hl, if_neg hl]
    rw [wp_ret]
    imodintro
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    iexact HB

end Run

end Cert.KernelSbIdeal.Sb

end

end
-- ==== Proof.Sb.Data.lean ====
/-
The backward pass of the stick-breaking attention over its grid: what the lines before the launch leave in the buffers, the
blocks each point is handed, and the accumulators from point to point.
-/
module

public import proofs.«01_k».proof.Proof.Sb.Body
public import proofs.«01_k».proof.Proof.Gen.KernelSbIdeal.Launch
public import proofs.«01_k».proof.Proof.Gen.KernelSbIdeal.Points
public import Idealize.ShloMosaic.Lib.Pipeline.FrameBody
public import Idealize.ShloMosaic.Lib.WordCmp

@[expose] public section

set_option maxRecDepth 16384

noncomputable section

namespace Cert.KernelSbIdeal.Sb

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The lines before the launch, in order. -/
abbrev lines : List (List (HloOp τ sig (Elt F))) :=
  [hostOps0, hostOps0_1, hostOps0_2, hostOps0_3, hostOps0_4, hostOps0_5, hostOps0_6, hostOps0_7, hostOps0_8, hostOps0_9]

/-- A device's buffers at the launch. -/
abbrev V0 (c : Dev nD) : Valuation τ sig (Elt F) := StableHlo.after (List.flatten lines) (fun b => m (c, b))

/-- The same read at a reference of the core. -/
abbrev V (c : Dev nD) (b : Ref sig .tc) : Buf (Elt F) ((c : Thread nD τ).loc b) := V0 m c (Proc.devRef .tc b)

/-- A window's block at a point, read off its array as the launch finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The blocks of a point. -/
def blocks (c : Dev nD) (t : Fin (cfg0 (F := F)).N) : Blk F := blk (iblk m c 0 t) (iblk m c 1 t) (iblk m c 2 t) (iblk m c 3 t) (iblk m c 4 t)

/-- The two accumulators before point `n`; before the first, what nothing reads. -/
def accs (c : Dev nD) : (n : ℕ) → n ≤ (cfg0 (F := F)).N → Vec F S8192x256 .f32 × Vec F S8192x256 .f32
  | 0, _ => (k0_pay11, k0_pay12)
  | n + 1, h =>
    let s := point (grid0.coords ⟨n, h⟩) (blocks m c ⟨n, h⟩) (accs c n (Nat.le_of_lt h)).1 (accs c n (Nat.le_of_lt h)).2
    (s.A, s.B)

/-- The state a point's body ends in. -/
def final (c : Dev nD) (t : Fin (cfg0 (F := F)).N) : St F :=
  point (grid0.coords t) (blocks m c t) (accs m c t.val (Nat.le_of_lt t.isLt)).1 (accs m c t.val (Nat.le_of_lt t.isLt)).2

theorem accs_succ (c : Dev nD) (t : Fin (cfg0 (F := F)).N) : accs m c (t.val + 1) t.isLt = ((final m c t).A, (final m c t).B) := rfl

/-- A point's second coordinate. -/
theorem coord1 (t : Fin grid0.N) : (grid0.coords t 1).val = t.val % 16 := by
  have h : (grid0.coords t 1).val = t.val / 1 % 16 := Pipeline.Grid.coords_val t 1 (by decide) rfl
  rw [h, Nat.div_one]

/-- A point's first coordinate. -/
theorem coord0 (t : Fin grid0.N) : (grid0.coords t 0).val = t.val / 16 := by
  have h : (grid0.coords t 0).val = t.val / 16 % 4 := Pipeline.Grid.coords_val t 0 (by decide) rfl
  have ht : t.val < 64 := Nat.lt_of_lt_of_eq t.isLt N_0
  rw [h]; omega

/-- The accumulators are cleared at the first point of each head pair, -/
theorem first_iff (t : Fin grid0.N) : first (grid0.coords t) ↔ t.val % 16 = 0 := by
  have ht : t.val < 64 := Nat.lt_of_lt_of_eq t.isLt N_0
  simp only [first, coord1]
  word_cmp

/-- and written out at the last. -/
theorem last_iff (t : Fin grid0.N) : k0_cond2 (grid0.coords t) = 1#1 ↔ t.val % 16 = 15 := by
  have ht : t.val < 64 := Nat.lt_of_lt_of_eq t.isLt N_0
  simp only [k0_cond2, coord1]
  word_cmp

/-- At the first point of a head pair what the accumulators hold does not matter. -/
theorem point_first (i : grid0.Coords) (h : first i) (X : Blk F) (A B A' B' : Vec F S8192x256 .f32) : point i X A B = point i X A' B' := by
  unfold point cleared
  rw [if_pos h, if_pos h, if_pos h, if_pos h]

/-- The four pieces of the gradient of the queries cover its block. -/
theorem dqOut_eq (s : St F) (x y : Vec F S512x256 .bf16) : dqOut s x = dqOut s y := by
  funext z
  have h0 : (z 0).val < 512 := (z 0).isLt
  have h1 : (z 1).val < 256 := (z 1).isLt
  unfold dqOut VecWindow.put
  by_cases a : (z 0).val < 256 <;> by_cases b : (z 1).val < 128 <;> simp [Fin.forall_fin_two, S256x128] <;> split_ifs <;> first | rfl | omega

end Cert.KernelSbIdeal.Sb

end

end
-- ==== Proof.Sb.Frame.lean ====
/-
The backward pass of the stick-breaking attention, launched: it ends, its arguments unchanged, each output array at
what the grid's points left.
-/
module

public import proofs.«01_k».proof.Proof.Sb.Data
public import Idealize.ShloMosaic.Lib.Pipeline.FrameSuffix
public import Idealize.ShloMosaic.Lib.Claim

@[expose] public section

set_option maxRecDepth 16384

noncomputable section

namespace Cert.KernelSbIdeal.Sb

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main lines
    (by simp only [lines, List.Forall]
        exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [lines, List.Forall]; repeat' constructor)
    fun c => (main_chain c).trans rfl

/-- The accumulators in the kernel's own buffers. -/
abbrev dkBuf : Memref sig .tc .vmem S8192x256 .f32 := Memref.whole cc0_scratch0
abbrev dvBuf : Memref sig .tc .vmem S8192x256 .f32 := Memref.whole cc0_scratch1

/-- What the kernel keeps between points: the accumulators, before the first point at anything. -/
def inv (c : Dev nD) : (n : ℕ) → n ≤ (cfg0 (F := F)).N → sProp 𝕄
  | 0, _ => Pipeline.ΦA spec0 c
  | n + 1, h => iprop(iprop(owns (c : Thread nD τ) dkBuf fullShare (accs m c (n + 1) h).1
      ∗ owns (c : Thread nD τ) dvBuf fullShare (accs m c (n + 1) h).2) ∗ (∃ r, prngReg c r))

/-- What the launch hands the kernel, its buffers named. -/
theorem launched (c : Dev nD) : (Pipeline.ΦA spec0 c : sProp 𝕄)
    = iprop(iprop((∃ f, owns (c : Thread nD τ) dkBuf fullShare f) ∗ (∃ f, owns (c : Thread nD τ) dvBuf fullShare f)) ∗ (∃ r, prngReg c r)) := by
  unfold Pipeline.ΦA
  rw [scopedRest0_eq]
  simp only [dkBuf, dvBuf, owns_whole]
  rfl

/-- The launch's data: the arrays as found, each input buffer left at its block, each output buffer left at what the point
computes. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOut (final m c t) (iblk m c 0 t)
    | ⟨6, _⟩ => k0_pay1 (final m c t).A
    | ⟨7, _⟩ => k0_pay2 (final m c t).B
  Φ t := inv m c t.val (Nat.le_of_lt_succ t.isLt)
  q w := Pipeline.shareOf spec0 w
  owed _ := 0

theorem A_eq (c : Dev nD) (w : Fin (cfg0 (F := F)).W) : (dats m 0 c).A w = V m c (Pipeline.arrRef spec0 w) := by dsimp only [dats]

/-- The input buffers hold their blocks at every point. -/
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => rfl) t d).trans rfl
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => rfl) t d).trans rfl
theorem before_4 (c : Dev nD) (t : Fin (cfg0 (F := F)).N) (d) : (dats m 0 c).before 4 t d = iblk m c 4 t :=
  ((dats m 0 c).before_in_eq_fetched 4 rfl (fun _ => rfl) (fun _ _ _ => rfl) (fun t => rfl) t d).trans rfl

/-- What a point's body is handed, -/
def given (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def handed (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t)

/-- Before any point the accumulators are held: at what the point before left, or at the first at anything, which does not
matter. -/
theorem inv_open (c : Dev nD) (t : Fin (cfg0 (F := F)).N) :
    (dats m 0 c).Φ t.castSucc ⊢ iprop(∃ A B, ⌜point (grid0.coords t) (blocks m c t) A B = final m c t⌝
      ∗ owns (c : Thread nD τ) dkBuf fullShare A ∗ owns (c : Thread nD τ) dvBuf fullShare B ∗ (∃ r, prngReg c r)) := by
  obtain ⟨n, hn⟩ := t
  cases n with
  | zero =>
    rw [show (dats m 0 c).Φ (Fin.castSucc ⟨0, hn⟩) = Pipeline.ΦA spec0 c from rfl, launched]
    iintro ⟨⟨⟨%A, HA⟩, ⟨%B, HB⟩⟩, Hr⟩
    iexists A; iexists B
    isplitr
    · ipureintro
      exact point_first _ ((first_iff ⟨0, hn⟩).2 rfl) _ _ _ _ _
    isplitl [HA]; · iexact HA
    isplitl [HB]; · iexact HB
    iexact Hr
  | succ n =>
    rw [show (dats m 0 c).Φ (Fin.castSucc ⟨n + 1, hn⟩) = inv m c (n + 1) (Nat.le_of_lt hn) from rfl]
    unfold inv
    iintro ⟨⟨HA, HB⟩, Hr⟩
    iexists _; iexists _
    isplitr
    swap
    · isplitl [HA]; · iexact HA
      isplitl [HB]; · iexact HB
      iexact Hr
    · ipureintro; rfl

/-- An output buffer that a point writes only at the last of a head pair. -/
theorem leave_6 (c : Dev nD) (t : Fin (cfg0 (F := F)).N) (d) (X : Vec F S8192x256 .bf16)
    (hX : k0_cond2 (grid0.coords t) = 1#1 → X = (dats m 0 c).after 6 t)
    (hX' : ¬ k0_cond2 (grid0.coords t) = 1#1 → X = (dats m 0 c).before 6 t d) :
    (owns (c : Thread nD τ) (st0_6 t) fullShare X : sProp 𝕄) ⊢ (dats m 0 c).leavesExact 6 t := by
  by_cases h : k0_cond2 (grid0.coords t) = 1#1
  · have hi : (cfg0 (F := F)).idle 6 ((cfg0 (F := F)).grid.coords t) = false := by
      show (!(k0_cond2 (grid0.coords t) == 1#1)) = false
      rw [h]; rfl
    rw [hX h]
    unfold Dat.leavesExact
    rw [hi]
  · have hi : (cfg0 (F := F)).idle 6 ((cfg0 (F := F)).grid.coords t) = true := by
      show (!(k0_cond2 (grid0.coords t) == 1#1)) = true
      rw [beq_false_of_ne h]; rfl
    have hf : ((cfg0 (F := F)).win 6).flush t = false :=
      Bool.eq_false_iff.2 fun hf => h ((last_iff t).2 ((flush0_6 t).1 hf))
    rw [hX' h, Dat.leavesExact_idle _ _ _ hi hf]
    iintro H
    iexists d
    iexact H

theorem leave_7 (c : Dev nD) (t : Fin (cfg0 (F := F)).N) (d) (X : Vec F S8192x256 .bf16)
    (hX : k0_cond2 (grid0.coords t) = 1#1 → X = (dats m 0 c).after 7 t)
    (hX' : ¬ k0_cond2 (grid0.coords t) = 1#1 → X = (dats m 0 c).before 7 t d) :
    (owns (c : Thread nD τ) (st0_7 t) fullShare X : sProp 𝕄) ⊢ (dats m 0 c).leavesExact 7 t := by
  by_cases h : k0_cond2 (grid0.coords t) = 1#1
  · have hi : (cfg0 (F := F)).idle 7 ((cfg0 (F := F)).grid.coords t) = false := by
      show (!(k0_cond2 (grid0.coords t) == 1#1)) = false
      rw [h]; rfl
    rw [hX h]
    unfold Dat.leavesExact
    rw [hi]
  · have hi : (cfg0 (F := F)).idle 7 ((cfg0 (F := F)).grid.coords t) = true := by
      show (!(k0_cond2 (grid0.coords t) == 1#1)) = true
      rw [beq_false_of_ne h]; rfl
    have hf : ((cfg0 (F := F)).win 7).flush t = false :=
      Bool.eq_false_iff.2 fun hf => h ((last_iff t).2 ((flush0_7 t).1 hf))
    rw [hX' h, Dat.leavesExact_idle _ _ _ hi hf]
    iintro H
    iexists d
    iexact H

theorem owns_eq (c : Dev nD) {sp : Space} {s : Shape} {e : EltTy} (b : Memref sig .tc sp s e) {X Y : s.Idx → Elt F e} (h : X = Y) :
    (owns (c : Thread nD τ) b fullShare X : sProp 𝕄) ⊢ owns (c : Thread nD τ) b fullShare Y := h ▸ .rfl

/-- A point's body. -/
theorem sound (c : Dev nD) (t : Fin (cfg0 (F := F)).N) :
    given m c t ⊢ wp frame (wpE (defs₀ (F := F)) Variants.nat c none) Set.univ (bodyAt0 t) (fun _ => handed m c t) := by
  unfold given handed bodyAt0
  simp only [before_0, before_1, before_2, before_3, before_4]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI := (inv_open m c t) $$ HI
  icases HI with ⟨%A, %B, %hq, HA, HB, Hr⟩
  have hp : point (grid0.coords t) (blk (iblk m c 0 t) (iblk m c 1 t) (iblk m c 2 t) (iblk m c 3 t) (iblk m c 4 t)) A B = final m c t := hq
  iapply (body_run c (grid0.coords t) (st0_0 t) _ (st0_1 t) _ (st0_2 t) _ (st0_3 t) _ (st0_4 t) _ (st0_5 t) _ (st0_6 t) _ (st0_7 t) _ dkBuf _ dvBuf _
    (iblk m c 0 t) (iblk m c 1 t) (iblk m c 2 t) (iblk m c 3 t) (iblk m c 4 t)
    ((dats m 0 c).before 5 t d5) ((dats m 0 c).before 6 t d6) ((dats m 0 c).before 7 t d7) A B _)
  isplitl [H0 H1 H2 H3 H4 H5 H6 H7 HA HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    iexact HB
  iintro ⟨H0, H1, H2, H3, H4, H5, H6, H7, HA, HB⟩
  isplitl [HA HB Hr]
  · rw [show (dats m 0 c).Φ t.succ = inv m c (t.val + 1) t.isLt from rfl]
    unfold inv
    isplitl [HA HB]
    · isplitl [HA]
      · iapply (owns_eq c dkBuf (congrArg St.A hp))
        iexact HA
      · iapply (owns_eq c dvBuf (congrArg St.B hp))
        iexact HB
    · iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (owns_eq c (st0_5 t) ((dqOut_eq _ ((dats m 0 c).before 5 t d5) (iblk m c 0 t)).trans (congrArg (fun s => dqOut s (iblk m c 0 t)) hp)))
    iexact H5
  isplitl [H6]
  · iapply (leave_6 m c t d6 _ (fun h => (if_pos h).trans (congrArg (fun s => k0_pay1 s.A) hp)) (fun h => if_neg h))
    iexact H6
  · iapply (leave_7 m c t d7 _ (fun h => (if_pos h).trans (congrArg (fun s => k0_pay2 s.B) hp)) (fun h => if_neg h))
    iexact H7

theorem row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body at every point. -/
theorem obligation (c : Dev nD) : BodyObligation (dats (F := F) m 0 c) (defs₀ (F := F)) Variants.nat () Set.univ := fun t => by
  rw [bigSep_W0, bigSep_W0, row]
  exact triple_restated (sound m c t) rfl .rfl fun _ => .rfl

/-- The accumulators are handed back at anything. -/
theorem inv_last (c : Dev nD) : (dats m 0 c).Φ (Fin.last (cfg0 (F := F)).N) ⊢ Pipeline.ΦA spec0 c := by
  rw [show (dats m 0 c).Φ (Fin.last (cfg0 (F := F)).N) = inv m c (cfg0 (F := F)).N (Nat.le_refl _) from rfl, launched]
  obtain ⟨n, hn⟩ : ∃ n, (cfg0 (F := F)).N = n + 1 := ⟨63, N_0⟩
  have h : inv m c (cfg0 (F := F)).N (Nat.le_refl _) = inv m c (n + 1) (Nat.le_of_eq hn.symm) := by
    congr 1
  rw [h]
  unfold inv
  iintro ⟨⟨HA, HB⟩, Hr⟩
  isplitl [HA HB]
  · isplitl [HA]
    · iexists _; iexact HA
    iexists _; iexact HB
  iexact Hr

/-- No line before the launch writes an argument. -/
theorem V_arg0 (c : Dev nD) : V m c main_arg0 = m ((c : Thread nD τ).loc main_arg0) := by
  refine StableHlo.after_of_forall_not_mem (b := Proc.devRef .tc main_arg0) _ _ (List.forall_iff_forall_mem.mp ?_)
  simp only [lines, hostOps0, hostOps0_1, hostOps0_2, hostOps0_3, hostOps0_4, hostOps0_5, hostOps0_6, hostOps0_7, hostOps0_8, hostOps0_9, List.flatten_cons, List.flatten_nil, List.append_nil, List.cons_append,
    List.nil_append, List.Forall, StableHlo.nullary_writes, StableHlo.unary_writes, StableHlo.binary_writes, StableHlo.ternary_writes,
    StableHlo.reshape_writes, StableHlo.unaryIndexed_writes, StableHlo.nary_writes, Finset.mem_singleton]
  repeat' apply And.intro
  all_goals exact StableHlo.devRef_ne_of_ne (by decide)

theorem V_arg1 (c : Dev nD) : V m c main_arg1 = m ((c : Thread nD τ).loc main_arg1) := by
  refine StableHlo.after_of_forall_not_mem (b := Proc.devRef .tc main_arg1) _ _ (List.forall_iff_forall_mem.mp ?_)
  simp only [lines, hostOps0, hostOps0_1, hostOps0_2, hostOps0_3, hostOps0_4, hostOps0_5, hostOps0_6, hostOps0_7, hostOps0_8, hostOps0_9, List.flatten_cons, List.flatten_nil, List.append_nil, List.cons_append,
    List.nil_append, List.Forall, StableHlo.nullary_writes, StableHlo.unary_writes, StableHlo.binary_writes, StableHlo.ternary_writes,
    StableHlo.reshape_writes, StableHlo.unaryIndexed_writes, StableHlo.nary_writes, Finset.mem_singleton]
  repeat' apply And.intro
  all_goals exact StableHlo.devRef_ne_of_ne (by decide)

set_option backward.isDefEq.respectTransparency.types false in
/-- The launch ends, each array at what the points left, every counter at zero. -/
theorem run : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.nat m ρ main
    (hbody := fun c => (obligation m c).loose) (hq := fun _ _ _ => rfl)
    (howed := fun _ _ => rfl) (V := V m) (hmain := hmain m Variants.nat) (hA := A_eq m) (hin := fun c => .rfl) (hout := inv_last m)

/-- The launch ends with the two arguments as it found them and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).1 0).trans (((dats m 0 c).arrAt_in 0 rfl _).trans (V_arg0 m c)),
     ((h.1 c).1 4).trans (((dats m 0 c).arrAt_in 4 rfl _).trans (V_arg1 m c))⟩, h.2⟩) (run m ρ)

end Cert.KernelSbIdeal.Sb

end

end
-- ==== Proof.Sb.Ops.lean ====
/-
A tile's operations on reals: the kernel's squares, columns and rows of reals are again squares, columns and rows of reals.
-/
module

public import proofs.«01_k».proof.Proof.Sb.Step
public import proofs.«01_k».proof.Proof.Common.Reals
public import proofs.«01_k».proof.Proof.Common.Stick
public import Idealize.ShloMosaic.Lib.Pointwise
public import Idealize.ShloMosaic.PureOps.Ideal.Laws
public import Idealize.ShloMosaic.Lib.ValueIdx
public import Idealize.ShloMosaic.PureOps.IdealRules
public import Idealize.ShloMosaic.Lib.WordCmp

@[expose] public section

set_option maxRecDepth 16384

noncomputable section

namespace Cert.KernelSbIdeal.Sb

open Idealize.ShloMosaic Idealize.ShloMosaic.WordCmp Cert.KernelSbIdeal Cert.KernelSbIdeal.Gen Cert.Common Cert.Stick Finset

/-- A square, a column and rows of reals. -/
def sq (f : ℕ → ℕ → ℝ) : S256x256.Idx → EReal := fun i => ((f (i 0).val (i 1).val : ℝ) : EReal)
def col (f : ℕ → ℝ) : S256x1.Idx → EReal := fun i => ((f (i 0).val : ℝ) : EReal)
def rows (f : ℕ → ℕ → ℝ) : S256x128.Idx → EReal := fun i => ((f (i 0).val (i 1).val : ℝ) : EReal)

theorem score_real (q k : ℕ → ℕ → ℝ) :
    score (F := Ideal) (rows q) (rows k) = sq (fun r c => (∑ e ∈ range 128, q r e * k c e) * scale) := by
  funext i
  unfold score
  pointwise [rows, sq, scaleF]
  simp only [← EReal.coe_mul, zero_eq, scale_eq, sum_num (fun e => q (i 0).val e * k (i 1).val e)]

theorem lsPos_num (x : ℝ) : min (x : EReal) 0 - Ideal.log1p (Ideal.exp (0 - FloatOps.absf (F := Ideal) (φ := .f32) (x : EReal))) = ((-sp (-x) : ℝ) : EReal) := by
  have h : FloatOps.absf (F := Ideal) (φ := .f32) (x : EReal) = ((|x| : ℝ) : EReal) := by
    show max (x : EReal) (-(x : EReal)) = _
    rw [← EReal.coe_neg, max_real]; rfl
  have h1 : ¬ 1 + Real.exp (-|x|) ≤ 0 := by have := Real.exp_pos (-|x|); linarith
  have h2 : (1 : EReal) = ((1 : ℝ) : EReal) := rfl
  rw [h, zero_sub, ← EReal.coe_neg, Ideal.exp_coe, Ideal.log1p, h2, ← EReal.coe_add, Ideal.log_coe, if_neg h1,
    show min (x : EReal) 0 = ((min x 0 : ℝ) : EReal) from (EReal.coe_strictMono.monotone.map_min).symm, ← EReal.coe_sub]
  congr 1
  unfold sp
  rw [abs_neg]
  rcases le_total x 0 with h | h
  · rw [min_eq_left h, max_eq_left (by linarith)]; ring
  · rw [min_eq_right h, max_eq_right (by linarith)]; ring

theorem lsPos_real (z : ℕ → ℕ → ℝ) : lsPos (F := Ideal) (sq z) = sq (fun r c => -sp (-(z r c))) := by
  funext i
  unfold lsPos
  pointwise [sq, zeroF]
  exact lsPos_num _

theorem lsNot_real (z : ℕ → ℕ → ℝ) : lsNot (F := Ideal) (sq z) = sq (fun r c => -sp (z r c)) := by
  funext i
  unfold lsNot
  rw [lsPos_real]
  pointwise [sq]
  rw [← EReal.coe_sub, sp_neg]
  congr 1
  ring

theorem word_num (b : Bool) :
    FloatOps.sitofp (F := Ideal) .f32 (BitVec.setWidth 32 (BitVec.ofBool b)) = (((if b then 1 else 0 : ℝ) : ℝ) : EReal) := by
  show ((((BitVec.setWidth 32 (BitVec.ofBool b)).toInt : ℤ) : ℝ) : EReal) = _
  cases b
  · rw [show (BitVec.setWidth 32 (BitVec.ofBool false)).toInt = 0 from rfl]; simp
  · rw [show (BitVec.setWidth 32 (BitVec.ofBool true)).toInt = 1 from rfl]; simp

theorem triE_real : triE (F := Ideal) = sq (fun r c => if c < r then 1 else 0) := by
  funext i
  have h0 : (i 0).val < 256 := (i 0).isLt
  have h1 : (i 1).val < 256 := (i 1).isLt
  unfold triE
  pointwise [sq, k0_pay15]
  rw [cmpi_sgt_ofNat (by omega) (by omega)]
  by_cases h : (i 1).val < (i 0).val
  · rw [if_pos h, decide_eq_true h]; exact word_num true
  · rw [if_neg h, decide_eq_false h]; exact word_num false

theorem triI_real : triI (F := Ideal) = sq (fun r c => if c ≤ r then 1 else 0) := by
  funext i
  have h0 : (i 0).val < 256 := (i 0).isLt
  have h1 : (i 1).val < 256 := (i 1).isLt
  unfold triI
  pointwise [sq, k0_pay16]
  rw [cmpi_sge_ofNat (by omega) (by omega)]
  by_cases h : (i 1).val ≤ (i 0).val
  · rw [if_pos h, decide_eq_true h]; exact word_num true
  · rw [if_neg h, decide_eq_false h]; exact word_num false

theorem diag_real (i : S256x256.Idx) : k0_pay14 i = if (i 1).val < (i 0).val then 1#1 else 0#1 := by
  have h0 : (i 0).val < 256 := (i 0).isLt
  have h1 : (i 1).val < 256 := (i 1).isLt
  pointwise [k0_pay14]
  rw [show IntOp.addi (BitVec.ofNat 32 (i 0).val) 0#32 = BitVec.ofNat 32 (i 0).val from BitVec.add_zero _, cmpi_sgt_ofNat (by omega) (by omega)]
  by_cases h : (i 1).val < (i 0).val
  · rw [if_pos h, decide_eq_true h]; rfl
  · rw [if_neg h, decide_eq_false h]; rfl

theorem splitDot_real (x t : ℕ → ℕ → ℝ) : splitDot (F := Ideal) (sq x) (sq t) = sq (fun r c => ∑ k ∈ range 256, x r k * t k c) := by
  funext i
  have h0 : (i 0).val < 256 := (i 0).isLt
  have h1 : (i 1).val < 256 := (i 1).isLt
  unfold splitDot
  pointwise [sq]
  simp only [← EReal.coe_mul, ← EReal.coe_sub, sub_self, zero_mul, EReal.coe_zero, Finset.sum_const_zero, add_zero,
    sum_num (fun k => x (i 0).val k * t k (i 1).val)]

/-- Above a column, and from a column on. -/
theorem suffixE_real (x : ℕ → ℕ → ℝ) : splitDot (F := Ideal) (sq x) (triE (F := Ideal)) = sq (fun r c => ∑ k ∈ Ico (c + 1) 256, x r k) := by
  rw [triE_real, splitDot_real]
  refine congrArg sq (funext fun r => funext fun c => ?_)
  simp only [mul_ite, mul_one, mul_zero]
  rw [← Finset.sum_filter]
  refine Finset.sum_congr (Finset.ext fun k => ?_) fun _ _ => rfl
  simp only [mem_filter, mem_range, mem_Ico]
  omega

theorem suffixI_real (x : ℕ → ℕ → ℝ) : splitDot (F := Ideal) (sq x) (triI (F := Ideal)) = sq (fun r c => ∑ k ∈ Ico c 256, x r k) := by
  rw [triI_real, splitDot_real]
  refine congrArg sq (funext fun r => funext fun c => ?_)
  simp only [mul_ite, mul_one, mul_zero]
  rw [← Finset.sum_filter]
  refine Finset.sum_congr (Finset.ext fun k => ?_) fun _ _ => rfl
  simp only [mem_filter, mem_range, mem_Ico]
  omega

theorem firstCol_real (x : ℕ → ℕ → ℝ) : firstCol (F := Ideal) (sq x) = col (fun r => x r 0) := by
  funext i
  have h1 : (i 1).val < 1 := (i 1).isLt
  unfold firstCol
  pointwise [sq, col]

theorem wide_real (x : ℕ → ℝ) : wide (F := Ideal) (col x) = sq (fun r _ => x r) := by
  funext i
  unfold wide
  pointwise [col, sq]

theorem nt_real (d v : ℕ → ℕ → ℝ) :
    matmul (F := Ideal) (φ₁ := .bf16) (φ₂ := .bf16) dot_S256x128_S256x128_S256x256_1_1_0_0_n_n none (rows d) (rows v)
      (constant S256x256 .f32 0x00000000#32) = sq (fun r c => ∑ e ∈ range 128, d r e * v c e) := by
  funext i
  pointwise [rows, sq]
  simp only [← EReal.coe_mul, zero_eq, sum_num (fun e => d (i 0).val e * v (i 1).val e)]

theorem nn_real (x : ℕ → ℕ → ℝ) (k : ℕ → ℕ → ℝ) :
    matmul (F := Ideal) (φ₁ := .bf16) (φ₂ := .bf16) dot_S256x256_S256x128_S256x128_1_0_0_1_n_n none (sq x) (rows k)
      (constant S256x128 .f32 0x00000000#32) = rows (fun r e => ∑ c ∈ range 256, x r c * k c e) := by
  funext i
  pointwise [rows, sq]
  simp only [← EReal.coe_mul, zero_eq, sum_num (fun c => x (i 0).val c * k c (i 1).val)]

theorem tn_real (x : ℕ → ℕ → ℝ) (q : ℕ → ℕ → ℝ) :
    matmul (F := Ideal) (φ₁ := .bf16) (φ₂ := .bf16) dot_S256x256_S256x128_S256x128_0_0_1_1_n_n none (sq x) (rows q)
      (constant S256x128 .f32 0x00000000#32) = rows (fun c e => ∑ r ∈ range 256, x r c * q r e) := by
  funext i
  pointwise [rows, sq]
  simp only [← EReal.coe_mul, zero_eq, sum_num (fun r => x r (i 0).val * q r (i 1).val)]

end Cert.KernelSbIdeal.Sb

end

end
-- ==== Proof.Sb.Real.lean ====
/-
One tile over the reals: a chain that holds its row's sums from a position on holds them, after the tile, from 256
positions earlier on; the tile's shares of the gradients of keys and values are the rows' shares. A tile that the
chain does not have leaves the sums as they are and has no share.
-/
module

public import proofs.«01_k».proof.Proof.Sb.Ops

@[expose] public section

set_option maxRecDepth 16384

noncomputable section

namespace Cert.KernelSbIdeal.Sb

open Idealize.ShloMosaic Idealize.ShloMosaic.WordCmp Cert.KernelSbIdeal Cert.KernelSbIdeal.Gen Cert.Common Cert.Stick Finset

theorem sq_congr {f g : ℕ → ℕ → ℝ} (h : ∀ r c, r < 256 → c < 256 → f r c = g r c) : sq f = sq g := by
  funext i
  exact congrArg _ (h _ _ (i 0).isLt (i 1).isLt)

theorem col_congr {f g : ℕ → ℝ} (h : ∀ r, r < 256 → f r = g r) : col f = col g := by
  funext i
  exact congrArg _ (h _ (i 0).isLt)

theorem rows_congr {f g : ℕ → ℕ → ℝ} (h : ∀ r e, r < 256 → e < 128 → f r e = g r e) : rows f = rows g := by
  funext i
  exact congrArg _ (h _ _ (i 0).isLt (i 1).isLt)

/-- The masks of the tile of the rows from `t0` on and the keys from `j0` on: the positions before the row's own. -/
structure IsMask (M : Mask Ideal) (t0 j0 : ℕ) : Prop where
  ls : ∀ f, M.ls (sq f) = sq (fun r c => if j0 + c < t0 + r then f r c else 0)
  w : ∀ f, M.w (sq f) = sq (fun r c => if j0 + c < t0 + r then f r c else 0)
  dz : ∀ f, M.dz (sq f) = sq (fun r c => if j0 + c < t0 + r then f r c else 0)
  carry : ∀ x, M.carry x = x

theorem select_diag (f : ℕ → ℕ → ℝ) (t0 : ℕ) :
    select k0_pay14 (sq f) (broadcast S256x256 (zeroF (F := Ideal))) = sq (fun r c => if t0 + c < t0 + r then f r c else 0) := by
  funext i
  have e : select k0_pay14 (sq f) (broadcast S256x256 (zeroF (F := Ideal))) i
      = if k0_pay14 i = 1#1 then sq f i else (Ideal.ofBits .f32 0x00000000#32 : EReal) := rfl
  rw [e, diag_real, zero_eq]
  unfold sq
  simp only [Nat.add_lt_add_iff_left]
  split_ifs <;> first | rfl | contradiction

theorem isMask_diag (t0 : ℕ) : IsMask (Mask.diag (F := Ideal)) t0 t0 where
  ls f := select_diag f t0
  w f := select_diag f t0
  dz f := select_diag f t0
  carry _ := rfl

theorem isMask_off {j : BitVec 32} (hj : Scalar.cmpi .sge j 0#32 = 1#1) {t0 j0 : ℕ} (h : j0 + 256 ≤ t0) :
    IsMask (Mask.off (F := Ideal) j) t0 j0 where
  ls f := sq_congr fun r c _ hc => (if_pos (by omega)).symm
  w f := sq_congr fun r c _ hc => (if_pos (by omega)).symm
  dz f := by
    show Scalar.select _ _ _ = _
    rw [hj]
    exact sq_congr fun r c _ hc => (if_pos (by omega)).symm
  carry x := by
    show Scalar.select _ _ _ = _
    rw [hj]
    rfl

/-- The chain holds the sums of its rows from the position `lo` on. -/
structure IsSums (H : Head) (t0 lo : ℕ) (s : Chain Ideal) : Prop where
  cdlw : s.cdlw = col (fun r => ∑ x ∈ Ico lo 8192, H.g (t0 + r) x)
  dq : s.dq = rows (fun r e => ∑ x ∈ Ico lo 8192, H.dz (t0 + r) x * H.k x e)

def IsCarry (H : Head) (t0 lo : ℕ) (s : Chain Ideal) : Prop := s.carry = col (fun r => ∑ x ∈ Ico lo 8192, H.miss (t0 + r) x)

/-- Four rows' arrays as a head has them. -/
def block (f : ℕ → ℕ → ℝ) (t0 : ℕ) : S256x128.Idx → EReal := rows (fun r e => f (t0 + r) e)

section Tile

variable (H : Head) (M : Mask Ideal) (t0 j0 : ℕ) (s : Chain Ideal)

theorem score_eq (hsc : H.sc = scale) : score (F := Ideal) (block H.q t0) (block H.k j0) = sq (fun r c => H.z (t0 + r) (j0 + c)) := by
  unfold block
  rw [score_real, ← hsc]
  rfl

theorem ls_eq (hsc : H.sc = scale) (hM : IsMask M t0 j0) :
    M.ls (lsNot (score (F := Ideal) (block H.q t0) (block H.k j0))) = sq (fun r c => H.miss (t0 + r) (j0 + c)) := by
  rw [score_eq H t0 j0 hsc, lsNot_real, hM.ls]
  rfl

theorem addf_sq (f g : ℕ → ℕ → ℝ) : addf (F := Ideal) (φ := .f32) (sq f) (sq g) = sq (fun r c => f r c + g r c) := by
  funext i
  pointwise [sq]
  rw [← EReal.coe_add]

theorem subf_sq (f g : ℕ → ℕ → ℝ) : subf (F := Ideal) (φ := .f32) (sq f) (sq g) = sq (fun r c => f r c - g r c) := by
  funext i
  pointwise [sq]
  rw [← EReal.coe_sub]

theorem mulf_sq (f g : ℕ → ℕ → ℝ) : mulf (F := Ideal) (φ := .f32) (sq f) (sq g) = sq (fun r c => f r c * g r c) := by
  funext i
  pointwise [sq]
  rw [← EReal.coe_mul]

theorem exp_sq (f : ℕ → ℕ → ℝ) : exp (F := Ideal) (φ := .f32) (sq f) = sq (fun r c => Real.exp (f r c)) := by
  funext i
  pointwise [sq]
  rw [Ideal.exp_coe]

theorem addf_col (f g : ℕ → ℝ) : addf (F := Ideal) (φ := .f32) (col f) (col g) = col (fun r => f r + g r) := by
  funext i
  pointwise [col]
  rw [← EReal.coe_add]

theorem subf_col (f g : ℕ → ℝ) : subf (F := Ideal) (φ := .f32) (col f) (col g) = col (fun r => f r - g r) := by
  funext i
  pointwise [col]
  rw [← EReal.coe_sub]

theorem addf_rows (f g : ℕ → ℕ → ℝ) : addf (F := Ideal) (φ := .f32) (rows f) (rows g) = rows (fun r c => f r c + g r c) := by
  funext i
  pointwise [rows]
  rw [← EReal.coe_add]

theorem truncf_sq (f : ℕ → ℕ → ℝ) : truncf (F := Ideal) (φ := .f32) .bf16 (sq f) bitsLt_bf16_f32 = sq f := rfl

theorem scale_sq : broadcast S256x256 (scaleF (F := Ideal)) = sq (fun _ _ => scale) := by
  funext i
  exact scale_eq

theorem surv_eq (hsc : H.sc = scale) (hM : IsMask M t0 j0) (hj : j0 + 256 ≤ 8192) (hc : IsCarry H t0 (j0 + 256) s) :
    surv (F := Ideal) M (block H.q t0) (block H.k j0) s = sq (fun r c => H.surv (t0 + r) (j0 + c)) := by
  unfold surv
  rw [ls_eq H M t0 j0 hsc hM, hM.carry, hc, suffixE_real, wide_real, addf_sq]
  exact sq_congr fun r c _ hc => sum_block (fun x => H.miss (t0 + r) x) j0 (c + 1) hc hj

theorem weight_eq (hsc : H.sc = scale) (hM : IsMask M t0 j0) (hj : j0 + 256 ≤ 8192) (hc : IsCarry H t0 (j0 + 256) s) :
    weight (F := Ideal) M (block H.q t0) (block H.k j0) s = sq (fun r c => H.w (t0 + r) (j0 + c)) := by
  unfold weight
  rw [surv_eq H M t0 j0 s hsc hM hj hc, score_eq H t0 j0 hsc, lsPos_real, addf_sq, exp_sq, hM.w]
  rfl

theorem dlw_eq (hsc : H.sc = scale) (hM : IsMask M t0 j0) (hj : j0 + 256 ≤ 8192) (hc : IsCarry H t0 (j0 + 256) s) :
    dlw (F := Ideal) M (block H.q t0) (block H.k j0) (block H.v j0) (block H.d t0) s = sq (fun r c => H.g (t0 + r) (j0 + c)) := by
  unfold dlw
  rw [weight_eq H M t0 j0 s hsc hM hj hc]
  unfold block
  rw [nt_real, mulf_sq]
  rfl

theorem dlwSum_eq (hsc : H.sc = scale) (hM : IsMask M t0 j0) (hj : j0 + 256 ≤ 8192) (hc : IsCarry H t0 (j0 + 256) s) :
    dlwSum (F := Ideal) M (block H.q t0) (block H.k j0) (block H.v j0) (block H.d t0) s
      = sq (fun r c => ∑ x ∈ Ico c 256, H.g (t0 + r) (j0 + x)) := by
  unfold dlwSum
  rw [dlw_eq H M t0 j0 s hsc hM hj hc, suffixI_real]

/-- The totals of the rows. -/
def totals (H : Head) (t0 : ℕ) : S256x1.Idx → EReal := col (fun r => ∑ x ∈ range 8192, H.g (t0 + r) x)

theorem dNot_eq (hsc : H.sc = scale) (hM : IsMask M t0 j0) (hj : j0 + 256 ≤ 8192) (hc : IsCarry H t0 (j0 + 256) s)
    (hs : IsSums H t0 (j0 + 256) s) :
    dNot (F := Ideal) M (block H.q t0) (block H.k j0) (block H.v j0) (block H.d t0) (totals H t0) s
      = sq (fun r c => H.gm (t0 + r) (j0 + c)) := by
  unfold dNot totals
  rw [dlwSum_eq H M t0 j0 s hsc hM hj hc, hs.cdlw, subf_col, wide_real, subf_sq]
  refine sq_congr fun r c _ hc => ?_
  have a := sum_block (fun x => H.g (t0 + r) x) j0 c hc.le hj
  have b := sum_range_add_sum_Ico (fun x => H.g (t0 + r) x) (show j0 + c ≤ 8192 by omega)
  show _ = ∑ x ∈ range (j0 + c), H.g (t0 + r) x
  linarith

theorem dz_eq (hsc : H.sc = scale) (hM : IsMask M t0 j0) (hj : j0 + 256 ≤ 8192) (hc : IsCarry H t0 (j0 + 256) s)
    (hs : IsSums H t0 (j0 + 256) s) :
    dz (F := Ideal) M (block H.q t0) (block H.k j0) (block H.v j0) (block H.d t0) (totals H t0) s
      = sq (fun r c => H.dz (t0 + r) (j0 + c)) := by
  unfold dz
  rw [dlw_eq H M t0 j0 s hsc hM hj hc, dNot_eq H M t0 j0 s hsc hM hj hc hs, score_eq H t0 j0 hsc, lsNot_real, exp_sq, addf_sq, mulf_sq,
    subf_sq, scale_sq, mulf_sq, hM.dz]
  unfold Head.dz
  rw [hsc]
  rfl

/-- The chain after the tile. -/
theorem next_eq (hsc : H.sc = scale) (hM : IsMask M t0 j0) (hj : j0 + 256 ≤ 8192) (hc : IsCarry H t0 (j0 + 256) s)
    (hs : IsSums H t0 (j0 + 256) s) :
    IsCarry H t0 j0 (next (F := Ideal) M (block H.q t0) (block H.k j0) (block H.v j0) (block H.d t0) (totals H t0) s)
    ∧ IsSums H t0 j0 (next (F := Ideal) M (block H.q t0) (block H.k j0) (block H.v j0) (block H.d t0) (totals H t0) s) := by
  refine ⟨?_, ?_, ?_⟩
  · show addf (firstCol _) (firstCol _) = _
    rw [surv_eq H M t0 j0 s hsc hM hj hc, ls_eq H M t0 j0 hsc hM, firstCol_real, firstCol_real, addf_col]
    refine col_congr fun r _ => ?_
    rw [sum_eq_sum_Ico_succ_bot (show j0 < 8192 by omega)]
    exact add_comm _ _
  · show addf _ (firstCol _) = _
    rw [hs.cdlw, dlwSum_eq H M t0 j0 s hsc hM hj hc, firstCol_real, addf_col]
    refine col_congr fun r _ => ?_
    rw [add_comm]
    exact sum_block (fun x => H.g (t0 + r) x) j0 0 (by omega) hj
  · show addf _ (matmul _ _ _ _ _) = _
    rw [hs.dq, dz_eq H M t0 j0 s hsc hM hj hc hs]
    unfold block
    rw [nn_real, addf_rows]
    refine rows_congr fun r e _ _ => ?_
    rw [add_comm, range_eq_Ico]
    exact sum_block (fun x => H.dz (t0 + r) x * H.k x e) j0 0 (by omega) hj

/-- The shares of 256 rows in the gradients of a key and a value. -/
def dkShare (H : Head) (t0 x e : ℕ) : ℝ := ∑ r ∈ range 256, H.dz (t0 + r) x * H.q (t0 + r) e
def dvShare (H : Head) (t0 x e : ℕ) : ℝ := ∑ r ∈ range 256, H.w (t0 + r) x * H.d (t0 + r) e

theorem dkInc_eq (hsc : H.sc = scale) (hM : IsMask M t0 j0) (hj : j0 + 256 ≤ 8192) (hc : IsCarry H t0 (j0 + 256) s)
    (hs : IsSums H t0 (j0 + 256) s) :
    dkInc (F := Ideal) M (block H.q t0) (block H.k j0) (block H.v j0) (block H.d t0) (totals H t0) s
      = rows (fun c e => dkShare H t0 (j0 + c) e) := by
  unfold dkInc
  rw [dz_eq H M t0 j0 s hsc hM hj hc hs]
  exact tn_real (fun r c => H.dz (t0 + r) (j0 + c)) fun r e => H.q (t0 + r) e

theorem dvInc_eq (hsc : H.sc = scale) (hM : IsMask M t0 j0) (hj : j0 + 256 ≤ 8192) (hc : IsCarry H t0 (j0 + 256) s) :
    dvInc (F := Ideal) M (block H.q t0) (block H.k j0) (block H.d t0) s = rows (fun c e => dvShare H t0 (j0 + c) e) := by
  unfold dvInc
  rw [weight_eq H M t0 j0 s hsc hM hj hc, truncf_sq]
  exact tn_real (fun r c => H.w (t0 + r) (j0 + c)) fun r e => H.d (t0 + r) e

end Tile

section Gone

variable {j : BitVec 32} (hj : Scalar.cmpi .sge j 0#32 ≠ 1#1) (q k v d : ℕ → ℕ → ℝ) (tot : Col Ideal) (s : Chain Ideal)

include hj

theorem surv_gone : surv (F := Ideal) (Mask.off j) (rows q) (rows k) s = fun _ => ⊥ := by
  unfold surv
  have e : (Mask.off (F := Ideal) j).carry s.carry = fun _ => ⊥ := if_neg hj
  have e' : ∀ x, (Mask.off (F := Ideal) j).ls x = x := fun _ => rfl
  rw [e', score_real, lsNot_real, e, suffixE_real]
  funext i
  exact EReal.add_bot _

theorem weight_gone : weight (F := Ideal) (Mask.off j) (rows q) (rows k) s = sq (fun _ _ => 0) := by
  unfold weight
  rw [surv_gone hj]
  funext i
  show Ideal.exp (_ + ⊥) = _
  rw [EReal.add_bot, Ideal.exp_bot]
  rfl

theorem dlw_gone : dlw (F := Ideal) (Mask.off j) (rows q) (rows k) (rows v) (rows d) s = sq (fun _ _ => 0) := by
  unfold dlw
  rw [weight_gone hj, nt_real, mulf_sq]
  simp only [mul_zero]

theorem dz_gone : dz (F := Ideal) (Mask.off j) (rows q) (rows k) (rows v) (rows d) tot s = sq (fun _ _ => 0) := by
  have e : ∀ x, (Mask.off (F := Ideal) j).dz x = broadcast S256x256 (zeroF (F := Ideal)) := fun x => if_neg hj
  unfold dz
  rw [e]
  funext i
  exact zero_eq

theorem next_gone : (next (F := Ideal) (Mask.off j) (rows q) (rows k) (rows v) (rows d) tot s).carry = (fun _ => ⊥)
    ∧ (∀ f, s.cdlw = col f → (next (F := Ideal) (Mask.off j) (rows q) (rows k) (rows v) (rows d) tot s).cdlw = col f)
    ∧ ∀ f, s.dq = rows f → (next (F := Ideal) (Mask.off j) (rows q) (rows k) (rows v) (rows d) tot s).dq = rows f := by
  refine ⟨?_, fun f h => ?_, fun f h => ?_⟩
  · show addf (firstCol _) (firstCol _) = _
    rw [surv_gone hj]
    funext i
    exact EReal.bot_add _
  · show addf _ (firstCol (splitDot _ _)) = _
    rw [h, dlw_gone hj, suffixI_real, firstCol_real, addf_col]
    simp only [sum_const_zero, add_zero]
  · show addf _ (matmul _ _ _ _ _) = _
    rw [h, dz_gone hj, nn_real, addf_rows]
    simp only [zero_mul, sum_const_zero, add_zero]

theorem dkInc_gone : dkInc (F := Ideal) (Mask.off j) (rows q) (rows k) (rows v) (rows d) tot s = rows (fun _ _ => 0) := by
  unfold dkInc
  rw [dz_gone hj, tn_real]
  simp only [zero_mul, sum_const_zero]

theorem dvInc_gone : dvInc (F := Ideal) (Mask.off j) (rows q) (rows k) (rows d) s = rows (fun _ _ => 0) := by
  unfold dvInc
  rw [weight_gone hj, truncf_sq, tn_real]
  simp only [zero_mul, sum_const_zero]

end Gone

end Cert.KernelSbIdeal.Sb

end

end
-- ==== Proof.Sb.Pass.lean ====
/-
A grid point over the reals: after its tiles the four chains hold the sums of their rows over the whole sequence, and the
accumulators have grown by the point's rows' shares.
-/
module

public import proofs.«01_k».proof.Proof.Sb.Real

@[expose] public section

set_option maxRecDepth 16384

noncomputable section

namespace Cert.KernelSbIdeal.Sb

open Idealize.ShloMosaic Idealize.ShloMosaic.WordCmp Cert.KernelSbIdeal Cert.KernelSbIdeal.Gen Cert.Common Cert.Stick Finset

/-- The first position a chain of query block `qb` has summed after `n` tiles. -/
def lo (qb n : ℕ) : ℕ := 256 * (qb + 1 - n)

/-- A chain after `n` tiles. -/
structure Inv (H : Head) (qb n : ℕ) (s : Chain Ideal) : Prop where
  sums : IsSums H (256 * qb) (lo qb n) s
  carry : n ≤ qb + 1 → IsCarry H (256 * qb) (lo qb n) s

/-- Nothing lies beyond the rows' own positions. -/
theorem inv_zero (H : Head) (qb : ℕ) : Inv H qb 0 ⟨k0_pay21 (F := Ideal), k0_pay21 (F := Ideal), k0_pay22 (F := Ideal)⟩ := by
  have far : ∀ r x, r < 256 → x ∈ Ico (lo qb 0) 8192 → ¬ x < 256 * qb + r := by
    intro r x hr hx
    rw [mem_Ico] at hx
    unfold lo at hx
    omega
  have zero : ∀ f : ℕ → ℝ, (∀ r, r < 256 → f r = 0) → k0_pay21 (F := Ideal) = col f := by
    intro f hf
    funext i
    show (Ideal.ofBits .f32 0x00000000#32 : EReal) = ((f (i 0).val : ℝ) : EReal)
    rw [zero_eq, hf _ (i 0).isLt]
    rfl
  refine ⟨⟨zero _ fun r hr => sum_eq_zero fun x hx => ?_, ?_⟩, fun _ => zero _ fun r hr => sum_eq_zero fun x hx => ?_⟩
  · unfold Head.g Head.w
    rw [if_neg (far r x hr hx), mul_zero]
  · funext i
    show (Ideal.ofBits .f32 0x00000000#32 : EReal) = ((∑ x ∈ Ico (lo qb 0) 8192, H.dz (256 * qb + (i 0).val) x * H.k x (i 1).val : ℝ) : EReal)
    rw [zero_eq, sum_eq_zero fun x hx => ?_]
    · rfl
    · unfold Head.dz
      rw [if_neg (far (i 0).val x (i 0).isLt hx), zero_mul]
  · unfold Head.miss
    rw [if_neg (far r x hr hx)]

/-- The masks of tile `n` of query block `qb`. -/
def IsTile (qb n : ℕ) (M : Mask Ideal) : Prop :=
  if n = 0 then M = Mask.diag else ∃ w, M = Mask.off w ∧ (Scalar.cmpi .sge w 0#32 = 1#1 ↔ n ≤ qb)

theorem inv_step (H : Head) (hsc : H.sc = scale) {qb n : ℕ} (hq : qb < 32) {s : Chain Ideal} (h : Inv H qb n s) {M : Mask Ideal}
    (hM : IsTile qb n M) :
    Inv H qb (n + 1) (next (F := Ideal) M (block H.q (256 * qb)) (block H.k (256 * (qb - n))) (block H.v (256 * (qb - n)))
      (block H.d (256 * qb)) (totals H (256 * qb)) s)
    ∧ dkInc (F := Ideal) M (block H.q (256 * qb)) (block H.k (256 * (qb - n))) (block H.v (256 * (qb - n))) (block H.d (256 * qb))
        (totals H (256 * qb)) s = rows (fun c e => if n ≤ qb then dkShare H (256 * qb) (256 * (qb - n) + c) e else 0)
    ∧ dvInc (F := Ideal) M (block H.q (256 * qb)) (block H.k (256 * (qb - n))) (block H.d (256 * qb)) s
        = rows (fun c e => if n ≤ qb then dvShare H (256 * qb) (256 * (qb - n) + c) e else 0) := by
  by_cases hn : n ≤ qb
  · have m : IsMask M (256 * qb) (256 * (qb - n)) := by
      unfold IsTile at hM
      split_ifs at hM with h0
      · rw [hM, h0, Nat.sub_zero]; exact isMask_diag _
      · obtain ⟨w, rfl, hw⟩ := hM
        exact isMask_off (hw.2 hn) (by omega)
    have e : lo qb n = 256 * (qb - n) + 256 := by unfold lo; omega
    have e' : lo qb (n + 1) = 256 * (qb - n) := by unfold lo; omega
    have hs := h.sums
    have hc := h.carry (by omega)
    rw [e] at hs hc
    have a := next_eq H M _ _ s hsc m (by omega) hc hs
    simp only [if_pos hn]
    refine ⟨⟨?_, fun _ => ?_⟩, dkInc_eq H M _ _ s hsc m (by omega) hc hs, dvInc_eq H M _ _ s hsc m (by omega) hc⟩
    · rw [e']; exact a.2
    · rw [e']; exact a.1
  · unfold IsTile at hM
    rw [if_neg (by omega)] at hM
    obtain ⟨w, rfl, hw⟩ := hM
    have e : lo qb n = 0 := by unfold lo; omega
    have e' : lo qb (n + 1) = 0 := by unfold lo; omega
    have hs := h.sums
    rw [e] at hs
    have hw' := fun k => hn (hw.1 k)
    simp only [if_neg hn]
    unfold block
    refine ⟨⟨?_, fun k => by omega⟩, dkInc_gone hw' _ _ _ _ _ _, dvInc_gone hw' _ _ _ _⟩
    rw [e']
    exact ⟨(next_gone hw' _ _ _ _ _ _).2.1 _ hs.cdlw, (next_gone hw' _ _ _ _ _ _).2.2 _ hs.dq⟩

/-- An array of the sequence and a block of queries, of reals. -/
def grid (f : ℕ → ℕ → ℝ) : S8192x256.Idx → EReal := fun i => ((f (i 0).val (i 1).val : ℝ) : EReal)
def gridQ (f : ℕ → ℕ → ℝ) : S512x256.Idx → EReal := fun i => ((f (i 0).val (i 1).val : ℝ) : EReal)

/-- Two heads side by side. -/
def pair (f : ℕ → ℕ → ℕ → ℝ) (s e : ℕ) : ℝ := f (e / 128) s (e % 128)

theorem grid_congr {f g : ℕ → ℕ → ℝ} (h : ∀ s e, s < 8192 → e < 256 → f s e = g s e) : grid f = grid g := by
  funext i
  exact congrArg _ (h _ _ (i 0).isLt (i 1).isLt)

theorem pick_pair (f : ℕ → ℕ → ℕ → ℝ) (j b : ℕ) (hj : j + 256 ≤ 8192) (hb : b < 2) : pick (grid (pair f)) ![j, 128 * b] = block (f b) j := by
  funext y
  have h0 : (y 0).val < 256 := (y 0).isLt
  have h1 : (y 1).val < 128 := (y 1).isLt
  have e0 : (j + (y 0).val) % 8192 = j + (y 0).val := Nat.mod_eq_of_lt (by omega)
  have e1 : (128 * b + (y 1).val) % 256 = 128 * b + (y 1).val := Nat.mod_eq_of_lt (by omega)
  show ((pair f ((j + (y 0).val) % 8192) ((128 * b + (y 1).val) % 256) : ℝ) : EReal) = ((f b (j + (y 0).val) (y 1).val : ℝ) : EReal)
  rw [e0, e1, pair, show (128 * b + (y 1).val) / 128 = b by omega, show (128 * b + (y 1).val) % 128 = (y 1).val by omega]

theorem pickQ_pair (f : ℕ → ℕ → ℕ → ℝ) (t0 j b : ℕ) (hj : j + 256 ≤ 512) (hb : b < 2) :
    pickQ (gridQ (fun r => pair f (t0 + r))) ![j, 128 * b] = block (f b) (t0 + j) := by
  funext y
  have h0 : (y 0).val < 256 := (y 0).isLt
  have h1 : (y 1).val < 128 := (y 1).isLt
  have e0 : (j + (y 0).val) % 512 = j + (y 0).val := Nat.mod_eq_of_lt (by omega)
  have e1 : (128 * b + (y 1).val) % 256 = 128 * b + (y 1).val := Nat.mod_eq_of_lt (by omega)
  show ((pair f (t0 + (j + (y 0).val) % 512) ((128 * b + (y 1).val) % 256) : ℝ) : EReal) = ((f b (t0 + j + (y 0).val) (y 1).val : ℝ) : EReal)
  rw [e0, e1, pair, show (128 * b + (y 1).val) / 128 = b by omega, show (128 * b + (y 1).val) % 128 = (y 1).val by omega, Nat.add_assoc]

/-- Rows added into an array. -/
theorem acc_real (f w : ℕ → ℕ → ℝ) (j b : ℕ) (hj : j + 256 ≤ 8192) (hb : b < 2) :
    acc (F := Ideal) (grid f) ![j, 128 * b] (rows w)
      = grid (fun s e => f s e + if j ≤ s ∧ s < j + 256 ∧ e / 128 = b then w (s - j) (e % 128) else 0) := by
  funext y
  have h0 : (y 0).val < 8192 := (y 0).isLt
  have h1 : (y 1).val < 256 := (y 1).isLt
  unfold acc VecWindow.put
  by_cases h : j ≤ (y 0).val ∧ (y 0).val < j + 256 ∧ (y 1).val / 128 = b
  · obtain ⟨p, q, r⟩ := h
    have k : ∀ a : Fin 2, ![j, 128 * b] a ≤ (y a).val ∧ (y a).val < ![j, 128 * b] a + S256x128.size a :=
      Fin.forall_fin_two.2 ⟨⟨p, q⟩, show 128 * b ≤ (y 1).val by omega, show (y 1).val < 128 * b + 128 by omega⟩
    rw [dif_pos k]
    show _ = ((f (y 0).val (y 1).val + (if j ≤ (y 0).val ∧ (y 0).val < j + 256 ∧ (y 1).val / 128 = b
      then w ((y 0).val - j) ((y 1).val % 128) else 0) : ℝ) : EReal)
    rw [if_pos ⟨p, q, r⟩, EReal.coe_add, shapeCast_self]
    have e0 : (j + ((y 0).val - j)) % 8192 = (y 0).val := by omega
    have e1 : (128 * b + ((y 1).val - 128 * b)) % 256 = (y 1).val := by omega
    have e2 : (y 1).val - 128 * b = (y 1).val % 128 := by omega
    show ((f ((j + ((y 0).val - j)) % 8192) ((128 * b + ((y 1).val - 128 * b)) % 256) : ℝ) : EReal) + ((w ((y 0).val - j) ((y 1).val - 128 * b) : ℝ) : EReal) = _
    rw [e0, e1, e2]
  · rw [dif_neg (by
      intro k
      have k0 : j ≤ (y 0).val ∧ (y 0).val < j + 256 := k 0
      have k1 : 128 * b ≤ (y 1).val ∧ (y 1).val < 128 * b + 128 := k 1
      exact h ⟨k0.1, k0.2, by omega⟩)]
    show _ = ((f (y 0).val (y 1).val + (if j ≤ (y 0).val ∧ (y 0).val < j + 256 ∧ (y 1).val / 128 = b
      then w ((y 0).val - j) ((y 1).val % 128) else 0) : ℝ) : EReal)
    rw [if_neg h, add_zero]
    rfl

/-- What the tiles so far have added to an accumulator. -/
def grown (share : Head → ℕ → ℕ → ℕ → ℝ) (H : ℕ → Head) (x n : ℕ) (f : ℕ → ℕ → ℝ) (s e : ℕ) : ℝ :=
  f s e + (if lo (2 * x) n ≤ s then share (H (e / 128)) (256 * (2 * x)) s (e % 128) else 0)
    + if lo (2 * x + 1) n ≤ s then share (H (e / 128)) (256 * (2 * x + 1)) s (e % 128) else 0

/-- Rows have no share beyond their own positions. -/
theorem dk_far (H : Head) (t0 x e : ℕ) (h : t0 + 256 ≤ x) : dkShare H t0 x e = 0 :=
  sum_eq_zero fun r hr => by
    rw [mem_range] at hr
    unfold Head.dz
    rw [if_neg (by omega), zero_mul]

theorem dv_far (H : Head) (t0 x e : ℕ) (h : t0 + 256 ≤ x) : dvShare H t0 x e = 0 :=
  sum_eq_zero fun r hr => by
    rw [mem_range] at hr
    unfold Head.w
    rw [if_neg (by omega), zero_mul]

theorem grown_zero (share : Head → ℕ → ℕ → ℕ → ℝ) (far : ∀ H t0 x e, t0 + 256 ≤ x → share H t0 x e = 0) (H : ℕ → Head) (x : ℕ)
    (f : ℕ → ℕ → ℝ) : grid f = grid (grown share H x 0 f) := by
  refine grid_congr fun s e _ _ => ?_
  have one : ∀ qb, (if lo qb 0 ≤ s then share (H (e / 128)) (256 * qb) s (e % 128) else 0) = 0 := by
    intro qb
    split_ifs with k
    · unfold lo at k
      exact far _ _ _ _ (by omega)
    · rfl
  unfold grown
  rw [one, one, add_zero, add_zero]

/-- One tile of every chain into an accumulator. -/
theorem grown_step (share : Head → ℕ → ℕ → ℕ → ℝ) (H : ℕ → Head) (x n : ℕ) (hx : x < 16) (f : ℕ → ℕ → ℝ) {A : S8192x256.Idx → EReal}
    (hA : A = grid (grown share H x n f)) {w0 w1 w2 w3 : S256x128.Idx → EReal}
    (h0 : w0 = rows (fun c e => if n ≤ 2 * x then share (H 0) (256 * (2 * x)) (256 * (2 * x - n) + c) e else 0))
    (h1 : w1 = rows (fun c e => if n ≤ 2 * x + 1 then share (H 0) (256 * (2 * x + 1)) (256 * (2 * x + 1 - n) + c) e else 0))
    (h2 : w2 = rows (fun c e => if n ≤ 2 * x then share (H 1) (256 * (2 * x)) (256 * (2 * x - n) + c) e else 0))
    (h3 : w3 = rows (fun c e => if n ≤ 2 * x + 1 then share (H 1) (256 * (2 * x + 1)) (256 * (2 * x + 1 - n) + c) e else 0)) :
    acc (F := Ideal) (acc (acc (acc A ![256 * (2 * x - n), 128 * 0] w0) ![256 * (2 * x + 1 - n), 128 * 0] w1) ![256 * (2 * x - n), 128 * 1] w2)
      ![256 * (2 * x + 1 - n), 128 * 1] w3 = grid (grown share H x (n + 1) f) := by
  rw [hA, h0, h1, h2, h3, acc_real _ _ _ _ (by omega) (by omega), acc_real _ _ _ _ (by omega) (by omega), acc_real _ _ _ _ (by omega) (by omega),
    acc_real _ _ _ _ (by omega) (by omega)]
  refine grid_congr fun s e hs he => ?_
  have one : ∀ qb, qb < 32 → ∀ S : ℕ → ℝ, (if lo qb n ≤ s then S s else 0)
      + (if 256 * (qb - n) ≤ s ∧ s < 256 * (qb - n) + 256 then (if n ≤ qb then S (256 * (qb - n) + (s - 256 * (qb - n))) else 0) else 0)
      = if lo qb (n + 1) ≤ s then S s else 0 := by
    intro qb hq S
    unfold lo
    by_cases a : 256 * (qb - n) ≤ s
    · rw [show 256 * (qb - n) + (s - 256 * (qb - n)) = s by omega]
      split_ifs <;> first | omega | simp
    · split_ifs <;> first | omega | simp
  unfold grown
  rcases (show e / 128 = 0 ∨ e / 128 = 1 by omega) with k | k
  · rw [k]
    have p := one (2 * x) (by omega) fun s => share (H 0) (256 * (2 * x)) s (e % 128)
    have q := one (2 * x + 1) (by omega) fun s => share (H 0) (256 * (2 * x + 1)) s (e % 128)
    simp only [and_true, zero_ne_one, and_false, if_false, add_zero]
    rw [← p, ← q]
    ring
  · rw [k]
    have p := one (2 * x) (by omega) fun s => share (H 1) (256 * (2 * x)) s (e % 128)
    have q := one (2 * x + 1) (by omega) fun s => share (H 1) (256 * (2 * x + 1)) s (e % 128)
    simp only [and_true, one_ne_zero, and_false, if_false, add_zero]
    rw [← p, ← q]
    ring

/-- The chains' offsets and words, by number. -/
theorem offset_num (x : Fin 16) (a : Fin 2) (n : Fin 32) :
    (Scalar.indexCast (Scalar.muli (Scalar.maxsi (Scalar.subi (Scalar.addi (Scalar.muli 2#32 (BitVec.ofNat 32 x.val)) (BitVec.ofNat 32 a.val))
      (BitVec.ofNat 32 n.val)) 0#32) 256#32) : Index).toNat = 256 * (2 * x.val + a.val - n.val) := by
  revert x a n
  decide +kernel

theorem word_nonneg (x : Fin 16) (a : Fin 2) (n : Fin 32) :
    Scalar.cmpi .sge (Scalar.subi (Scalar.addi (Scalar.muli 2#32 (BitVec.ofNat 32 x.val)) (BitVec.ofNat 32 a.val)) (BitVec.ofNat 32 n.val)) 0#32 = 1#1
      ↔ n.val ≤ 2 * x.val + a.val := by
  revert x a n
  decide +kernel

theorem trips_word (x : Fin 16) (n : Fin 32) : n.val ≤ 2 * x.val + 1 →
    Scalar.cmpi .sle (BitVec.ofNat 32 n.val) (Scalar.subi (Scalar.addi (Scalar.muli 2#32 (BitVec.ofNat 32 x.val)) 2#32) 1#32) = 1#1 := by
  revert x n
  decide +kernel

/-- The greatest of a column is above −∞ if one entry is, -/
theorem above_of_entry (x : FVec Ideal S1x256x1 .f32) (hφ : FKind.Formats .f32) (hacc : 0xFF800000#32 = FKind.maximumf.neutral .f32 hφ)
    (i : S1x256x1.Idx) (hi : (⊥ : EReal) < x i) (j : S1.Idx) :
    (⊥ : EReal) < multiReduction (F := Ideal) .maximumf [1, 2] S1 x 0xFF800000#32 reduces_S1x256x1_S1 hφ hacc j := by
  refine lt_of_lt_of_eq (lt_of_lt_of_le hi ((Finset.le_fold_max _).2 (.inr ⟨i, ?_, le_rfl⟩)))
    (multiReduction_maximumf_eq_fold x 0xFF800000#32 reduces_S1x256x1_S1 hφ hacc j).symm
  rw [mem_filter]
  refine ⟨mem_univ _, funext fun a => Fin.ext ?_⟩
  have l : ∀ (a : Fin S1.rank) (v : Fin (S1.size a)), v.val = 0 := by
    intro a v
    have h : S1.size a = 1 := by revert a; decide
    omega
  rw [l, l]

/-- so that of the four carried columns is while one of them is real. -/
theorem above (a b c d : Col Ideal) (f : ℕ → ℝ) (hb : b = col f) : (⊥ : EReal) < k0_pay3 a b c d := by
  refine above_of_entry _ (.inl rfl) rfl (fun a => ⟨0, by revert a; decide⟩) ?_ _
  refine lt_of_lt_of_le ?_ ((le_max_right _ _).trans ((le_max_left _ _).trans (le_max_left _ _)))
  rw [hb]
  exact EReal.bot_lt_coe _

/-- The blocks of point `x` of a head pair. -/
structure IsBlk (H : ℕ → Head) (x : ℕ) (X : Blk Ideal) : Prop where
  q : X.q = gridQ (fun r => pair (fun b => (H b).q) (512 * x + r))
  k : X.k = grid (pair fun b => (H b).k)
  v : X.v = grid (pair fun b => (H b).v)
  d : X.d = gridQ (fun r => pair (fun b => (H b).d) (512 * x + r))
  t0 : X.t0 = totals (H 0) (256 * (2 * x))
  t1 : X.t1 = totals (H 0) (256 * (2 * x + 1))
  t2 : X.t2 = totals (H 1) (256 * (2 * x))
  t3 : X.t3 = totals (H 1) (256 * (2 * x + 1))

/-- The four chains and the accumulators after `n` tiles of point `x`. -/
structure PassInv (H : ℕ → Head) (x n : ℕ) (fA fB : ℕ → ℕ → ℝ) (s : St Ideal) : Prop where
  tile : s.n = BitVec.ofNat 32 n
  c0 : Inv (H 0) (2 * x) n s.c0
  c1 : Inv (H 0) (2 * x + 1) n s.c1
  c2 : Inv (H 1) (2 * x) n s.c2
  c3 : Inv (H 1) (2 * x + 1) n s.c3
  A : s.A = grid (grown dkShare H x n fA)
  B : s.B = grid (grown dvShare H x n fB)

theorem slice_eq_pickQ (x : S512x256.Idx → EReal) (off : Fin 2 → ℕ) (h : S512x256.Slices off S256x128) :
    extractStridedSlice S256x128 off x h = pickQ x off := by
  funext y
  refine congrArg x (funext fun a => Fin.ext ?_)
  exact (Nat.mod_eq_of_lt (Fin.isLt _)).symm

section Step

variable {H : ℕ → Head} {i : grid0.Coords} {X : Blk Ideal} {n : ℕ} {fA fB : ℕ → ℕ → ℝ} {s : St Ideal}

theorem pass_step (hsc : ∀ b, (H b).sc = scale) (hx : (i 1).val < 16) (hX : IsBlk H (i 1).val X) (h : PassInv H (i 1).val n fA fB s)
    (hn : n ≤ 2 * (i 1).val + 1) (M : BitVec 32 → Mask Ideal) (hM : M = if n = 0 then fun _ => Mask.diag else Mask.off) :
    PassInv H (i 1).val (n + 1) fA fB (step i X M s) := by
  have e0 : o0 i s.n = ![256 * (2 * (i 1).val - n), 128 * 0] := by
    rw [h.tile]; unfold o0 k0_off3; exact congrArg (fun w => ![w, 0]) (offset_num ⟨_, hx⟩ 0 ⟨n, by omega⟩)
  have e1 : o1 i s.n = ![256 * (2 * (i 1).val + 1 - n), 128 * 0] := by
    rw [h.tile]; unfold o1 k0_off3; exact congrArg (fun w => ![w, 0]) (offset_num ⟨_, hx⟩ 1 ⟨n, by omega⟩)
  have e2 : o2 i s.n = ![256 * (2 * (i 1).val - n), 128 * 1] := by
    rw [h.tile]; unfold o2 k0_off4; exact congrArg (fun w => ![w, 128]) (offset_num ⟨_, hx⟩ 0 ⟨n, by omega⟩)
  have e3 : o3 i s.n = ![256 * (2 * (i 1).val + 1 - n), 128 * 1] := by
    rw [h.tile]; unfold o3 k0_off4; exact congrArg (fun w => ![w, 128]) (offset_num ⟨_, hx⟩ 1 ⟨n, by omega⟩)
  have m0 : IsTile (2 * (i 1).val) n (M (word i 0#32 s.n)) := by
    unfold IsTile
    rw [hM]
    split_ifs with z
    · rfl
    · exact ⟨_, rfl, by rw [h.tile]; exact word_nonneg ⟨_, hx⟩ 0 ⟨n, by omega⟩⟩
  have m1 : IsTile (2 * (i 1).val + 1) n (M (word i 1#32 s.n)) := by
    unfold IsTile
    rw [hM]
    split_ifs with z
    · rfl
    · exact ⟨_, rfl, by rw [h.tile]; exact word_nonneg ⟨_, hx⟩ 1 ⟨n, by omega⟩⟩
  have q0 : pickQ X.q ![0, 0] = block (H 0).q (256 * (2 * (i 1).val)) := by
    rw [hX.q]; refine (pickQ_pair _ _ 0 0 (by omega) (by omega)).trans (congrArg _ (by omega))
  have q1 : pickQ X.q ![256, 0] = block (H 0).q (256 * (2 * (i 1).val + 1)) := by
    rw [hX.q]; refine (pickQ_pair _ _ 256 0 (by omega) (by omega)).trans (congrArg _ (by omega))
  have q2 : pickQ X.q ![0, 128] = block (H 1).q (256 * (2 * (i 1).val)) := by
    rw [hX.q]; refine (pickQ_pair _ _ 0 1 (by omega) (by omega)).trans (congrArg _ (by omega))
  have q3 : pickQ X.q ![256, 128] = block (H 1).q (256 * (2 * (i 1).val + 1)) := by
    rw [hX.q]; refine (pickQ_pair _ _ 256 1 (by omega) (by omega)).trans (congrArg _ (by omega))
  have g0 : d0 X = block (H 0).d (256 * (2 * (i 1).val)) := by
    unfold d0
    rw [slice_eq_pickQ, hX.d]; refine (pickQ_pair _ _ 0 0 (by omega) (by omega)).trans (congrArg _ (by omega))
  have g1 : d1 X = block (H 0).d (256 * (2 * (i 1).val + 1)) := by
    unfold d1
    rw [slice_eq_pickQ, hX.d]; refine (pickQ_pair _ _ 256 0 (by omega) (by omega)).trans (congrArg _ (by omega))
  have g2 : d2 X = block (H 1).d (256 * (2 * (i 1).val)) := by
    unfold d2
    rw [slice_eq_pickQ, hX.d]; refine (pickQ_pair _ _ 0 1 (by omega) (by omega)).trans (congrArg _ (by omega))
  have g3 : d3 X = block (H 1).d (256 * (2 * (i 1).val + 1)) := by
    unfold d3
    rw [slice_eq_pickQ, hX.d]; refine (pickQ_pair _ _ 256 1 (by omega) (by omega)).trans (congrArg _ (by omega))
  have p0 := inv_step (H 0) (hsc 0) (by omega) h.c0 m0
  have p1 := inv_step (H 0) (hsc 0) (by omega) h.c1 m1
  have p2 := inv_step (H 1) (hsc 1) (by omega) h.c2 m0
  have p3 := inv_step (H 1) (hsc 1) (by omega) h.c3 m1
  have w0 : ∀ f : ℕ → ℕ → ℕ → ℝ, pick (grid (pair f)) ![256 * (2 * (i 1).val - n), 128 * 0] = block (f 0) (256 * (2 * (i 1).val - n)) :=
    fun f => pick_pair f _ 0 (by omega) (by omega)
  have w1 : ∀ f : ℕ → ℕ → ℕ → ℝ, pick (grid (pair f)) ![256 * (2 * (i 1).val + 1 - n), 128 * 0] = block (f 0) (256 * (2 * (i 1).val + 1 - n)) :=
    fun f => pick_pair f _ 0 (by omega) (by omega)
  have w2 : ∀ f : ℕ → ℕ → ℕ → ℝ, pick (grid (pair f)) ![256 * (2 * (i 1).val - n), 128 * 1] = block (f 1) (256 * (2 * (i 1).val - n)) :=
    fun f => pick_pair f _ 1 (by omega) (by omega)
  have w3 : ∀ f : ℕ → ℕ → ℕ → ℝ, pick (grid (pair f)) ![256 * (2 * (i 1).val + 1 - n), 128 * 1] = block (f 1) (256 * (2 * (i 1).val + 1 - n)) :=
    fun f => pick_pair f _ 1 (by omega) (by omega)
  refine ⟨?_, ?_, ?_, ?_, ?_, ?_, ?_⟩
  · show Scalar.addi s.n 1#32 = _
    rw [h.tile]
    exact (BitVec.ofNat_add n 1).symm
  · unfold step
    dsimp only
    rw [e0, q0, g0, hX.k, hX.v, hX.t0, w0, w0]
    exact p0.1
  · unfold step
    dsimp only
    rw [e1, q1, g1, hX.k, hX.v, hX.t1, w1, w1]
    exact p1.1
  · unfold step
    dsimp only
    rw [e2, q2, g2, hX.k, hX.v, hX.t2, w2, w2]
    exact p2.1
  · unfold step
    dsimp only
    rw [e3, q3, g3, hX.k, hX.v, hX.t3, w3, w3]
    exact p3.1
  · unfold step
    dsimp only
    rw [e0, e1, e2, e3, q0, q1, q2, q3, g0, g1, g2, g3, hX.k, hX.v, hX.t0, hX.t1, hX.t2, hX.t3, w0, w0, w1, w1, w2, w2, w3, w3]
    exact grown_step dkShare H _ n hx fA h.A p0.2.1 p1.2.1 p2.2.1 p3.2.1
  · unfold step
    dsimp only
    rw [e0, e1, e2, e3, q0, q1, q2, q3, g0, g1, g2, g3, hX.k, w0, w1, w2, w3]
    exact grown_step dvShare H _ n hx fB h.B p0.2.2 p1.2.2 p2.2.2 p3.2.2

theorem more_eq (hx : (i 1).val < 16) (h : PassInv H (i 1).val n fA fB s) (hn : n ≤ 2 * (i 1).val + 1) : more i s = 1#1 := by
  have a : Scalar.cmpi .sle s.n (Scalar.subi (Scalar.addi (Scalar.muli 2#32 (BitVec.ofNat 32 (i 1).val)) 2#32) 1#32) = 1#1 := by
    rw [h.tile]
    exact trips_word ⟨_, hx⟩ ⟨n, by omega⟩ hn
  have k : (Named.named (F := Ideal) κ "dead" (φ := .f32) 0xC2DC0000#32 : EReal) = ⊥ :=
    (IdealRules.named_const.statement (κ := κ) "dead" .f32 0xC2DC0000#32 ⊥ rfl).2.2
  have b : Scalar.cmpf (F := Ideal) .ogt (k0_pay3 s.c0.carry s.c1.carry s.c2.carry s.c3.carry) (Named.named κ "dead" 0xC2DC0000#32) = 1#1 := by
    have c := above s.c0.carry s.c1.carry s.c2.carry s.c3.carry _ (h.c1.carry (by omega))
    rw [k]
    show Ideal.cmp .ogt _ _ = _
    unfold Ideal.cmp
    dsimp only
    rw [decide_eq_true c]
    rfl
  unfold more
  rw [a, b]
  rfl

theorem pass_loop (hsc : ∀ b, (H b).sc = scale) (hx : (i 1).val < 16) (hX : IsBlk H (i 1).val X) (k : ℕ) :
    ∀ (n : ℕ) (s : St Ideal), 1 ≤ n → n + k = 2 * (i 1).val + 2 → PassInv H (i 1).val n fA fB s →
      PassInv H (i 1).val (2 * (i 1).val + 2) fA fB (loop i X k s) := by
  induction k with
  | zero => intro n s _ e h; rw [← e]; exact h
  | succ k ih =>
    intro n s h1 e h
    unfold loop
    rw [if_pos (more_eq hx h (by omega))]
    exact ih (n + 1) _ (by omega) (by omega) (pass_step hsc hx hX h (by omega) _ (if_neg (by omega)).symm)

/-- A point's tiles over given accumulators. -/
theorem pass_real (hsc : ∀ b, (H b).sc = scale) (hx : (i 1).val < 16) (hX : IsBlk H (i 1).val X) :
    PassInv H (i 1).val (2 * (i 1).val + 2) fA fB (pass i X (grid fA) (grid fB)) := by
  have h0 : PassInv H (i 1).val 0 fA fB (start (grid fA) (grid fB)) := by
    exact ⟨rfl, inv_zero _ _, inv_zero _ _, inv_zero _ _, inv_zero _ _, grown_zero _ dk_far _ _ _, grown_zero _ dv_far _ _ _⟩
  have h1 := pass_step hsc hx hX h0 (by omega) (fun _ => Mask.diag) rfl
  have h2 := pass_step hsc hx hX h1 (by omega) Mask.off rfl
  exact pass_loop hsc hx hX (2 * (i 1).val) 2 _ (by omega) (by omega) h2

end Step

end Cert.KernelSbIdeal.Sb

end

end
-- ==== Proof.Sb.Forward.lean ====
/-
The attention's forward pass, as the host's lines compute it, over the reals: scores, survival, weights and results.
-/
module

public import proofs.«01_k».proof.Proof.Gen.ReferenceSbIdeal.Read
public import proofs.«01_k».proof.Proof.Common.Stick
public import proofs.«01_k».proof.Proof.Common.WindowSums
public import Idealize.ShloMosaic.Lib.WordCmp

@[expose] public section

set_option maxRecDepth 16384

noncomputable section

namespace Cert.ReferenceSbIdeal.Sb

open Idealize.ShloMosaic Idealize.ShloMosaic.WordCmp Cert.ReferenceSbIdeal Cert.ReferenceSbIdeal.Gen Cert.ReferenceSbIdeal.Read Cert.Common Cert.Stick Finset

/-- The two arguments, of reals. -/
def arg0 (x : ℕ → ℕ → ℝ) : S8192x10240.Idx → EReal := fun i => ((x (i 0).val (i 1).val : ℝ) : EReal)
def arg1 (y : ℕ → ℕ → ℝ) : S8192x1024.Idx → EReal := fun i => ((y (i 0).val (i 1).val : ℝ) : EReal)

/-- A head's rows, and a head's squares. -/
def headed (f : ℕ → ℕ → ℕ → ℝ) : S8x8192x128.Idx → EReal := fun i => ((f (i 0).val (i 1).val (i 2).val : ℝ) : EReal)
def cube (f : ℕ → ℕ → ℕ → ℝ) : S8x8192x8192.Idx → EReal := fun i => ((f (i 0).val (i 1).val (i 2).val : ℝ) : EReal)

theorem cube_congr {f g : ℕ → ℕ → ℕ → ℝ} (h : ∀ a t s, t < 8192 → s < 8192 → f a t s = g a t s) : cube f = cube g := by
  funext i
  exact congrArg _ (h _ _ _ (i 1).isLt (i 2).isLt)

/-- The logarithm of a sigmoid as the host writes it. -/
theorem softplus_num (r : ℝ) :
    Scalar.select (Ideal.cmp .une ((r : EReal) - Ideal.ofBits .f32 0x00000000#32) ((r : EReal) - Ideal.ofBits .f32 0x00000000#32))
      ((r : EReal) + Ideal.ofBits .f32 0x00000000#32)
      (max (r : EReal) (Ideal.ofBits .f32 0x00000000#32)
        + Ideal.log1p (Ideal.exp (-(max ((r : EReal) - Ideal.ofBits .f32 0x00000000#32) (-((r : EReal) - Ideal.ofBits .f32 0x00000000#32))))))
      = ((sp r : ℝ) : EReal) := by
  have c : Ideal.cmp .une ((r : EReal) - Ideal.ofBits .f32 0x00000000#32) ((r : EReal) - Ideal.ofBits .f32 0x00000000#32) = 0#1 := by
    simp [Ideal.cmp]
  rw [c, zero_eq, sub_zero]
  show max (r : EReal) ((0 : ℝ) : EReal) + _ = _
  rw [← EReal.coe_neg, max_real, max_real, ← EReal.coe_neg, log1p_exp_num, ← EReal.coe_add]
  rfl

/-- What its gradient selects by: no real is +∞. -/
theorem not_top (r : ℝ) : Ideal.cmp .oeq (r : EReal) (Ideal.ofBits .f32 0x7F800000#32) = 0#1 := by
  rw [ofBits_top]
  simp [Ideal.cmp]

variable (x : ℕ → ℕ → ℝ)

theorem v7_real : val_main_v7 (F := Ideal) (arg0 x) = headed (fun h => (headOf x x h).q) := by
  funext i
  have h0 : (i 0).val < 8 := (i 0).isLt
  have h2 : (i 2).val < 128 := (i 2).isLt
  rw [val_main_v7_apply, val_main_v6_apply, val_main_v3_apply, val_main_v0_apply]
  refine congrArg (fun r : ℝ => (r : EReal)) (congrArg₂ x ?_ ?_) <;> dsimp only <;> omega

theorem v9_real : val_main_v9 (F := Ideal) (arg0 x) = headed (fun h => (headOf x x h).k) := by
  funext i
  have h0 : (i 0).val < 8 := (i 0).isLt
  have h2 : (i 2).val < 128 := (i 2).isLt
  rw [val_main_v9_apply, val_main_v8_apply, val_main_v4_apply, val_main_v1_apply]
  refine congrArg (fun r : ℝ => (r : EReal)) (congrArg₂ x ?_ ?_) <;> dsimp only <;> omega

theorem v11_real : val_main_v11 (F := Ideal) (arg0 x) = headed (fun h => (headOf x x h).v) := by
  funext i
  have h0 : (i 0).val < 8 := (i 0).isLt
  have h2 : (i 2).val < 128 := (i 2).isLt
  rw [val_main_v11_apply, val_main_v10_apply, val_main_v5_apply, val_main_v2_apply]
  refine congrArg (fun r : ℝ => (r : EReal)) (congrArg₂ x ?_ ?_) <;> dsimp only <;> omega

theorem v15_real : val_main_v15 (F := Ideal) (arg0 x) = cube (fun h => (headOf x x h).z) := by
  funext i
  rw [val_main_v15_apply, val_main_v13_apply, val_main_v14_apply, val_main_cst_apply, v7_real, v9_real]
  show (∑ k : Fin 128, ((_ : ℝ) : EReal) * ((_ : ℝ) : EReal)) * Ideal.ofBits .f32 0x3DB504F3#32 = _
  simp only [← EReal.coe_mul]
  rw [sum_num (n := 128) fun e => (headOf x x (i 0).val).q (i 1).val e * (headOf x x (i 0).val).k (i 2).val e, scale_eq, ← EReal.coe_mul]
  rfl

/-- The positions before the row's own. -/
theorem causal (i : S8192x8192.Idx) : val_main_v20 (F := Ideal) i = if (i 1).val < (i 0).val then 1#1 else 0#1 := by
  have h0 : (i 0).val < 8192 := (i 0).isLt
  have h1 : (i 1).val < 8192 := (i 1).isLt
  rw [val_main_v20_apply, val_main_v18_apply, val_main_v19_apply, val_main_v16_apply, val_main_v17_apply, val_main_v12_apply, val_main_v12_apply]
  show IntOp.cmpi .slt (BitVec.ofNat 32 (i 1).val) (BitVec.ofNat 32 (i 0).val) = _
  rw [cmpi_slt_ofNat (by omega) (by omega)]
  by_cases h : (i 1).val < (i 0).val
  · rw [if_pos h, decide_eq_true h]; rfl
  · rw [if_neg h, decide_eq_false h]; rfl

/-- A selection by them. -/
theorem select_causal (i : S8x8192x8192.Idx) (a b : EReal) :
    Scalar.select (val_main_v20 (F := Ideal) (idx_main_v23_1 i)) a b = if (i 2).val < (i 1).val then a else b := by
  rw [causal]
  show (if (if (i 2).val < (i 1).val then 1#1 else 0#1) = 1#1 then a else b) = _
  split_ifs <;> first | rfl | contradiction

theorem softplus0_real : val_main_call0_v1_0 (F := Ideal) (arg0 x) = cube (fun h t s => sp ((headOf x x h).z t s)) := by
  have e : val_main_call0_v0 (F := Ideal) (arg0 x) = cube (fun h => (headOf x x h).z) := by
    funext i
    rw [val_main_call0_v0_apply, val_main_v21_apply, v15_real]
    exact neg_neg _
  funext i
  simp only [val_main_call0_v1_0_apply, val_main_call0_call0_v4_apply, val_main_call0_call0_v6_apply, val_main_call0_call0_v11_apply,
    val_main_call0_call0_v3_apply, val_main_call0_call0_v1_apply, val_main_call0_call0_v10_apply, val_main_call0_call0_v9_apply,
    val_main_call0_call0_v8_apply, val_main_call0_call0_v7_apply, val_main_call0_call0_v0_apply, val_main_call0_call0_v2_apply,
    val_main_call0_call0_v5_apply, val_main_call0_call0_cst_apply, e]
  exact softplus_num _

theorem softplus3_real : val_main_call3_v1_0 (F := Ideal) (arg0 x) = cube (fun h t s => sp (-((headOf x x h).z t s))) := by
  have e : val_main_call3_v0 (F := Ideal) (arg0 x) = cube (fun h t s => -((headOf x x h).z t s)) := by
    funext i
    rw [val_main_call3_v0_apply, v15_real]
    exact (EReal.coe_neg _).symm
  funext i
  simp only [val_main_call3_v1_0_apply, val_main_call3_call0_v4_apply, val_main_call3_call0_v6_apply, val_main_call3_call0_v11_apply,
    val_main_call3_call0_v3_apply, val_main_call3_call0_v1_apply, val_main_call3_call0_v10_apply, val_main_call3_call0_v9_apply,
    val_main_call3_call0_v8_apply, val_main_call3_call0_v7_apply, val_main_call3_call0_v0_apply, val_main_call3_call0_v2_apply,
    val_main_call3_call0_v5_apply, val_main_call3_call0_cst_apply, e]
  exact softplus_num _

theorem miss_real : val_main_v23_0 (F := Ideal) (arg0 x) = cube (fun h => (headOf x x h).miss) := by
  funext i
  rw [val_main_v23_0_apply, val_main_v23_1_apply, select_causal, val_main_v22_0_apply, softplus0_real, val_main_call1_v2_apply, val_main_call1_v0_apply,
    val_main_cst_0_apply]
  show (if (i 2).val < (i 1).val then -(((sp _ : ℝ)) : EReal) else Ideal.ofBits .f32 0x00000000#32)
    = (((if (i 2).val < (i 1).val then -sp ((headOf x x (i 0).val).z (i 1).val (i 2).val) else 0 : ℝ)) : EReal)
  split_ifs
  · exact (EReal.coe_neg _).symm
  · exact zero_eq

omit x in
/-- A running sum from the far end. -/
theorem suffix_real (f : ℕ → ℕ → ℕ → ℝ) (init : S_.Idx → EReal) (h : S8x8192x8192.ReduceWindows ![1, 1, 8192] ![1, 1, 1] ![0, 0, 0] ![0, 0, 8191] S8x8192x8192)
    (hu : 0 < S_.numel) (h0 : init (Shape.Idx.first hu) = 0) :
    Host.reduceWindowAdd (F := Ideal) (φ := .f32) ![1, 1, 8192] ![1, 1, 1] ![0, 0, 0] ![0, 0, 8191] (cube f) init h hu
      = cube (fun a t s => ∑ j ∈ Ico s 8192, f a t j) := by
  funext i
  have i0 : (i 0).val < 8 := (i 0).isLt
  have i1 : (i 1).val < 8192 := (i 1).isLt
  have i2 : (i 2).val < 8192 := (i 2).isLt
  rw [reduceWindowAdd_apply _ _ _ _ _ _ _ _ h0, sum_axis3 8192]
  refine (Finset.sum_congr rfl fun k _ =>
    (?_ : _ = (((fun n => if (i 2).val + n < 8192 then f (i 0).val (i 1).val ((i 2).val + n) else 0) k.val : ℝ) : EReal))).trans ?_
  · dsimp only
    by_cases c : (i 2).val + k.val < 8192
    · rw [if_pos c, dif_pos (by
        intro a
        match a with
        | ⟨0, _⟩ => exact ⟨Nat.zero_le _, show (i 0).val * 1 + 0 - 0 < 8 by omega⟩
        | ⟨1, _⟩ => exact ⟨Nat.zero_le _, show (i 1).val * 1 + 0 - 0 < 8192 by omega⟩
        | ⟨2, _⟩ => exact ⟨Nat.zero_le _, show (i 2).val * 1 + k.val - 0 < 8192 by omega⟩)]
      show ((f ((i 0).val * 1 + 0 - 0) ((i 1).val * 1 + 0 - 0) ((i 2).val * 1 + k.val - 0) : ℝ) : EReal) = _
      simp only [Nat.mul_one, Nat.add_zero, Nat.sub_zero]
    · rw [if_neg c, dif_neg (by
        intro hin
        have : (i 2).val * 1 + k.val - 0 < 8192 := (hin 2).2
        omega)]
      rfl
  refine (sum_num (n := 8192) fun n => if (i 2).val + n < 8192 then f (i 0).val (i 1).val ((i 2).val + n) else 0).trans ?_
  refine congrArg (fun r : ℝ => (r : EReal)) ?_
  dsimp only
  rw [← sum_filter, sum_Ico_eq_sum_range]
  refine sum_congr (Finset.ext fun k => ?_) fun _ _ => rfl
  simp only [mem_filter, mem_range]
  omega

omit x in
/-- A running sum from the near end. -/
theorem prefix_real (f : ℕ → ℕ → ℕ → ℝ) (init : S_.Idx → EReal) (h : S8x8192x8192.ReduceWindows ![1, 1, 8192] ![1, 1, 1] ![0, 0, 8191] ![0, 0, 0] S8x8192x8192)
    (hu : 0 < S_.numel) (h0 : init (Shape.Idx.first hu) = 0) :
    Host.reduceWindowAdd (F := Ideal) (φ := .f32) ![1, 1, 8192] ![1, 1, 1] ![0, 0, 8191] ![0, 0, 0] (cube f) init h hu
      = cube (fun a t s => ∑ j ∈ range (s + 1), f a t j) := by
  funext i
  have i0 : (i 0).val < 8 := (i 0).isLt
  have i1 : (i 1).val < 8192 := (i 1).isLt
  have i2 : (i 2).val < 8192 := (i 2).isLt
  rw [reduceWindowAdd_apply _ _ _ _ _ _ _ _ h0, sum_axis3 8192]
  refine (Finset.sum_congr rfl fun k _ =>
    (?_ : _ = (((fun n => if 8191 ≤ (i 2).val + n then f (i 0).val (i 1).val ((i 2).val + n - 8191) else 0) k.val : ℝ) : EReal))).trans ?_
  · dsimp only
    by_cases c : 8191 ≤ (i 2).val + k.val
    · rw [if_pos c, dif_pos (by
        intro a
        match a with
        | ⟨0, _⟩ => exact ⟨Nat.zero_le _, show (i 0).val * 1 + 0 - 0 < 8 by omega⟩
        | ⟨1, _⟩ => exact ⟨Nat.zero_le _, show (i 1).val * 1 + 0 - 0 < 8192 by omega⟩
        | ⟨2, _⟩ => exact ⟨show 8191 ≤ (i 2).val * 1 + k.val by omega, show (i 2).val * 1 + k.val - 8191 < 8192 by omega⟩)]
      show ((f ((i 0).val * 1 + 0 - 0) ((i 1).val * 1 + 0 - 0) ((i 2).val * 1 + k.val - 8191) : ℝ) : EReal) = _
      simp only [Nat.mul_one, Nat.add_zero, Nat.sub_zero]
    · rw [if_neg c, dif_neg (by
        intro hin
        have : 8191 ≤ (i 2).val * 1 + k.val := (hin 2).1
        omega)]
      rfl
  refine (sum_num (n := 8192) fun n => if 8191 ≤ (i 2).val + n then f (i 0).val (i 1).val ((i 2).val + n - 8191) else 0).trans ?_
  refine congrArg (fun r : ℝ => (r : EReal)) ?_
  rw [← sum_filter]
  refine sum_bij' (fun n _ => (i 2).val + n - 8191) (fun j _ => j + 8191 - (i 2).val) ?_ ?_ ?_ ?_ fun _ _ => rfl <;>
    · intro n hn
      simp only [mem_filter, mem_range] at hn ⊢
      omega

theorem v25_real : val_main_v25 (F := Ideal) (arg0 x) = cube (fun h => (headOf x x h).surv) := by
  have e : val_main_v24 (F := Ideal) (arg0 x) = cube (fun h t s => ∑ j ∈ Ico s 8192, (headOf x x h).miss t j) := by
    unfold val_main_v24
    rw [miss_real]
    exact suffix_real _ _ _ _ zero_eq
  funext i
  have i2 : (i 2).val < 8192 := (i 2).isLt
  rw [val_main_v25_apply, e, miss_real]
  show ((_ : ℝ) : EReal) - ((_ : ℝ) : EReal) = ((_ : ℝ) : EReal)
  rw [← EReal.coe_sub]
  refine congrArg (fun r : ℝ => (r : EReal)) ?_
  dsimp only
  rw [sum_eq_sum_Ico_succ_bot i2, add_sub_cancel_left]
  rfl

theorem v29_real : val_main_v29 (F := Ideal) (arg0 x) = cube (fun h => (headOf x x h).w) := by
  funext i
  rw [val_main_v29_apply, val_main_v28_0_apply, val_main_v28_1_apply]
  show Ideal.exp (Scalar.select (val_main_v20 (F := Ideal) (idx_main_v23_1 i)) _ _) = _
  rw [select_causal, val_main_v27_apply, val_main_v26_0_apply, softplus3_real, v25_real, val_main_call4_v2_apply, val_main_call4_v0_apply, val_main_cst_1_apply]
  show Ideal.exp (if (i 2).val < (i 1).val then -((_ : ℝ) : EReal) + ((_ : ℝ) : EReal) else Ideal.ofBits .f32 0xFF800000#32)
    = (((if (i 2).val < (i 1).val then _ else 0 : ℝ)) : EReal)
  split_ifs
  · rw [← EReal.coe_neg, ← EReal.coe_add, Ideal.exp_coe]
  · rw [ofBits_bot, Ideal.exp_bot]
    rfl

theorem v30_real : val_main_v30 (F := Ideal) (arg0 x) = headed (fun h => (headOf x x h).out) := by
  funext i
  rw [val_main_v30_apply, v29_real, v11_real]
  show (∑ k : Fin 8192, ((_ : ℝ) : EReal) * ((_ : ℝ) : EReal)) = _
  simp only [← EReal.coe_mul]
  exact sum_num (n := 8192) fun s => (headOf x x (i 0).val).w (i 1).val s * (headOf x x (i 0).val).v s (i 2).val

/-- The results, the heads side by side. -/
def beside (f : ℕ → ℕ → ℕ → ℝ) : S8192x1024.Idx → EReal := fun i => ((f ((i 1).val / 128) (i 0).val ((i 1).val % 128) : ℝ) : EReal)

omit x in
theorem headed_beside (f : ℕ → ℕ → ℕ → ℝ) (i : S8192x1024.Idx) : headed f (idx_main_v31 (idx_main_v32 i)) = beside f i := by
  have h1 : (i 1).val < 1024 := (i 1).isLt
  unfold headed beside
  refine congrArg (fun r : ℝ => (r : EReal)) ?_
  congr 1 <;> dsimp only <;> omega

theorem v32_real : val_main_v32 (F := Ideal) (arg0 x) = beside (fun h => (headOf x x h).out) := by
  funext i
  rw [val_main_v32_apply, val_main_v31_apply, v30_real]
  exact headed_beside _ i

end Cert.ReferenceSbIdeal.Sb

end

end
-- ==== Proof.Sb.Points.lean ====
/-
The blocks and the accumulators of the attention gradient's grid over the reals: each point is handed its rows of a head pair
and the pair's keys and values, and the accumulators hold the shares of the pair's rows so far.
-/
module

public import proofs.«01_k».proof.Proof.Sb.Frame
public import proofs.«01_k».proof.Proof.Sb.Pass
public import proofs.«01_k».proof.Proof.Sb.Forward
public import Idealize.ShloMosaic.Lib.Pipeline.Value
public import Idealize.ShloMosaic.Lib.Pipeline.ValueKit.Basic
public import Idealize.ShloMosaic.Lib.Pipeline.ValueKit
public import Idealize.ShloMosaic.Lib.StableHlo.RunRead

@[expose] public section

set_option maxRecDepth 16384

noncomputable section

namespace Cert.KernelSbIdeal.Sb

open Idealize.ShloMosaic Idealize.ShloMosaic.TcCoe Idealize.SL.Sem Cert.KernelSbIdeal Cert.KernelSbIdeal.Gen Cert.Common Cert.Stick Finset

variable (m : (ℓ : Loc nD τ sig) → Buf (Elt Ideal) ℓ) (c : Dev nD)

/-- The results of the forward pass as the launch finds them: the host's lines are the reference's own. -/
theorem V_v32 : V m c main_v32 = Cert.ReferenceSbIdeal.Read.val_main_v32 (F := Ideal) (m ((c : Thread nD τ).loc main_arg0)) := by
  unfold V V0
  after_reads_simp
  rfl

/-- The blocks' places in their arrays. -/
theorem places (t : Fin (cfg0 (F := Ideal)).N) :
    (win0_0.index t 0 = t.val % 16 ∧ win0_0.index t 1 = t.val / 16) ∧ (win0_1.index t 0 = 0 ∧ win0_1.index t 1 = 4 + t.val / 16)
    ∧ (win0_2.index t 0 = 0 ∧ win0_2.index t 1 = 8 + t.val / 16) ∧ (win0_3.index t 0 = t.val % 16 ∧ win0_3.index t 1 = t.val / 16)
    ∧ (win0_4.index t 0 = t.val % 16 ∧ win0_4.index t 1 = t.val / 16) ∧ (win0_5.index t 0 = t.val % 16 ∧ win0_5.index t 1 = t.val / 16)
    ∧ (win0_6.index t 0 = 0 ∧ win0_6.index t 1 = t.val / 16) ∧ (win0_7.index t 0 = 0 ∧ win0_7.index t 1 = t.val / 16) := by
  revert t
  decide +kernel

variable (x y : ℕ → ℕ → ℝ)

/-- The two heads of a pair. -/
def heads (p b : ℕ) : Head := headOf x y (2 * p + b)

variable (hx : m ((c : Thread nD τ).loc main_arg0) = Cert.ReferenceSbIdeal.Sb.arg0 x) (hy : m ((c : Thread nD τ).loc main_arg1) = Cert.ReferenceSbIdeal.Sb.arg1 y)

theorem column (p e : ℕ) : 128 * (2 * p + e / 128) + e % 128 = 256 * p + e := by omega

theorem entry (f : ℕ → ℕ → ℝ) {a a' b b' : ℕ} (h : a = a') (h' : b = b') : ((f a b : ℝ) : EReal) = ((f a' b' : ℝ) : EReal) := by
  rw [h, h']

include hx in
theorem iblk_0 (t) : iblk m c 0 t = gridQ (fun r => pair (fun b => (heads x y (t.val / 16) b).q) (512 * (t.val % 16) + r)) := by
  have e := (places t).1
  funext j
  have h1 : (j 1).val < 256 := (j 1).isLt
  unfold iblk
  blk_simp [V_arg0 m c, hx]
  refine entry x ?_ ?_
  · blk_simp [e.1]; omega
  · blk_simp [e.2]; omega

include hx in
theorem iblk_1 (t) : iblk m c 1 t = grid (pair fun b => (heads x y (t.val / 16) b).k) := by
  have e := (places t).2.1
  funext j
  have h1 : (j 1).val < 256 := (j 1).isLt
  unfold iblk
  blk_simp [V_arg0 m c, hx]
  refine entry x ?_ ?_
  · blk_simp [e.1]
  · blk_simp [e.2]; omega

include hx in
theorem iblk_2 (t) : iblk m c 2 t = grid (pair fun b => (heads x y (t.val / 16) b).v) := by
  have e := (places t).2.2.1
  funext j
  have h1 : (j 1).val < 256 := (j 1).isLt
  unfold iblk
  blk_simp [V_arg0 m c, hx]
  refine entry x ?_ ?_
  · blk_simp [e.1]
  · blk_simp [e.2]; omega

include hx in
theorem iblk_3 (t) : iblk m c 3 t = gridQ (fun r => pair (fun b => (heads x y (t.val / 16) b).out) (512 * (t.val % 16) + r)) := by
  have e := (places t).2.2.2.1
  have o : V m c main_v32 = Cert.ReferenceSbIdeal.Sb.beside (fun h => (headOf x y h).out) := by
    rw [V_v32, hx]
    exact Cert.ReferenceSbIdeal.Sb.v32_real x
  funext j
  have h1 : (j 1).val < 256 := (j 1).isLt
  unfold iblk
  blk_simp [o]
  have a0 : ((win0_3.blk t).view.emb j 0).val = 512 * (t.val % 16) + (j 0).val := by blk_simp [e.1]; omega
  have a1 : ((win0_3.blk t).view.emb j 1).val = 256 * (t.val / 16) + (j 1).val := by blk_simp [e.2]; omega
  show (((headOf x y _).out _ _ : ℝ) : EReal) = (((headOf x y _).out _ _ : ℝ) : EReal)
  rw [a0, a1]
  rw [show (256 * (t.val / 16) + (j 1).val) / 128 = 2 * (t.val / 16) + (j 1).val / 128 by omega,
    show (256 * (t.val / 16) + (j 1).val) % 128 = (j 1).val % 128 by omega]

include hy in
theorem iblk_4 (t) : iblk m c 4 t = gridQ (fun r => pair (fun b => (heads x y (t.val / 16) b).d) (512 * (t.val % 16) + r)) := by
  have e := (places t).2.2.2.2.1
  funext j
  have h1 : (j 1).val < 256 := (j 1).isLt
  unfold iblk
  blk_simp [V_arg1 m c, hy]
  refine entry y ?_ ?_
  · blk_simp [e.1]; omega
  · blk_simp [e.2]; omega

/-- The products of a block of gradients and results, -/
theorem pay13_real (f g : ℕ → ℕ → ℝ) : k0_pay13 (F := Ideal) (gridQ f) (gridQ g) = gridQ (fun r e => f r e * g r e) := by
  funext i
  unfold k0_pay13
  pointwise [gridQ]
  rw [EReal.coe_mul]

/-- and the row sums of one head's columns. -/
theorem rowSum_real (f : ℕ → ℕ → ℝ) :
    shapeCast S256x1 (multiReduction (F := Ideal) .add [1] S256 (rows f) 0x00000000#32 reduces_S256x128_S256 (.inl rfl) rfl) shapeCasts_S256_S256x1
      = col (fun r => ∑ e ∈ range 128, f r e) := by
  funext i
  pointwise [rows, col]
  exact sum_num (n := 128) fun e => f (i 0).val e

/-- The rows' totals: gradients against results, over one head's columns. -/
theorem totals_of (H : ℕ → Head) (u a b : ℕ) (ha : a < 2) (hb : b < 2) (off : Fin 2 → ℕ) (ho : off = ![256 * a, 128 * b])
    (h : S512x256.Slices off S256x128) :
    shapeCast S256x1 (multiReduction (F := Ideal) .add [1] S256 (extractStridedSlice S256x128 off (k0_pay13 (F := Ideal)
      (gridQ (fun r => pair (fun b => (H b).d) (512 * u + r))) (gridQ (fun r => pair (fun b => (H b).out) (512 * u + r)))) h)
      0x00000000#32 reduces_S256x128_S256 (.inl rfl) rfl) shapeCasts_S256_S256x1 = totals (H b) (256 * (2 * u + a)) := by
  have e : extractStridedSlice S256x128 off (k0_pay13 (F := Ideal)
      (gridQ (fun r => pair (fun b => (H b).d) (512 * u + r))) (gridQ (fun r => pair (fun b => (H b).out) (512 * u + r)))) h
      = rows (fun r e => (H b).d (512 * u + 256 * a + r) e * (H b).out (512 * u + 256 * a + r) e) := by
    rw [slice_eq_pickQ, ho, pay13_real]
    exact pickQ_pair (fun b t e => (H b).d t e * (H b).out t e) (512 * u) (256 * a) b (by omega) hb
  rw [e, rowSum_real]
  unfold totals
  refine congrArg col (funext fun r => ?_)
  rw [Head.total, show 512 * u + 256 * a = 256 * (2 * u + a) by omega]

include hx hy in
/-- A point's blocks are its rows of its head pair. -/
theorem isBlk (t) : IsBlk (heads x y (t.val / 16)) (t.val % 16) (blocks m c t) := by
  unfold blocks blk
  rw [iblk_0 m c x y hx t, iblk_1 m c x y hx t, iblk_2 m c x y hx t, iblk_3 m c x y hx t, iblk_4 m c x y hy t]
  exact ⟨rfl, rfl, rfl, rfl, totals_of _ _ 0 0 (by omega) (by omega) _ rfl slices_S512x256_o0_0_S256x128,
    totals_of _ _ 1 0 (by omega) (by omega) _ rfl slices_S512x256_o256_0_S256x128,
    totals_of _ _ 0 1 (by omega) (by omega) _ rfl slices_S512x256_o0_128_S256x128,
    totals_of _ _ 1 1 (by omega) (by omega) _ rfl slices_S512x256_o256_128_S256x128⟩

/-- The shares of a pair's first `n` points. -/
def soFar (share : Head → ℕ → ℕ → ℕ → ℝ) (H : ℕ → Head) (n : ℕ) (s e : ℕ) : ℝ :=
  ∑ u ∈ range n, (share (H (e / 128)) (256 * (2 * u)) s (e % 128) + share (H (e / 128)) (256 * (2 * u + 1)) s (e % 128))

theorem soFar_succ (share : Head → ℕ → ℕ → ℕ → ℝ) (H : ℕ → Head) (u : ℕ) :
    grown share H u (2 * u + 2) (soFar share H u) = soFar share H (u + 1) := by
  funext s e
  unfold grown soFar lo
  rw [sum_range_succ, if_pos (by omega), if_pos (by omega), add_assoc]

theorem clear_real : k0_pay11 (F := Ideal) = grid (fun _ _ => 0) ∧ k0_pay12 (F := Ideal) = grid (fun _ _ => 0) := by
  constructor <;> funext i
  · unfold k0_pay11
    pointwise [grid, zero_eq]
    exact EReal.coe_zero.symm
  · unfold k0_pay12
    pointwise [grid, zero_eq]
    exact EReal.coe_zero.symm

include hx hy in
/-- What a point makes of the accumulators before it. -/
theorem point_real (t : Fin (cfg0 (F := Ideal)).N) (A B : Vec Ideal S8192x256 .f32) (fA fB : ℕ → ℕ → ℝ)
    (hA : cleared (grid0.coords t) (k0_pay11 (F := Ideal)) A = grid fA) (hB : cleared (grid0.coords t) (k0_pay12 (F := Ideal)) B = grid fB) :
    PassInv (heads x y (t.val / 16)) (t.val % 16) (2 * (t.val % 16) + 2) fA fB (point (grid0.coords t) (blocks m c t) A B) := by
  have e := coord1 t
  have h := pass_real (i := grid0.coords t) (H := heads x y (t.val / 16)) (X := blocks m c t) (fA := fA) (fB := fB) (fun _ => rfl)
    (by rw [e]; omega) (by rw [e]; exact isBlk m c x y hx hy t)
  unfold point
  rw [hA, hB]
  rwa [e] at h

include hx hy in
/-- What a point leaves. -/
theorem final_real : ∀ (n : ℕ) (h : n < (cfg0 (F := Ideal)).N), PassInv (heads x y (n / 16)) (n % 16) (2 * (n % 16) + 2)
    (soFar dkShare (heads x y (n / 16)) (n % 16)) (soFar dvShare (heads x y (n / 16)) (n % 16)) (final m c ⟨n, h⟩) := by
  intro n
  induction n with
  | zero =>
    intro h
    refine point_real m c x y hx hy ⟨0, h⟩ _ _ _ _ ?_ ?_
    · exact (if_pos ((first_iff ⟨0, h⟩).2 rfl)).trans clear_real.1
    · exact (if_pos ((first_iff ⟨0, h⟩).2 rfl)).trans clear_real.2
  | succ k ih =>
    intro h
    by_cases hk : (k + 1) % 16 = 0
    · have z : ∀ share H, soFar share H ((k + 1) % 16) = fun _ _ => 0 := by
        intro share H
        rw [hk]
        rfl
      rw [z, z]
      refine point_real m c x y hx hy ⟨k + 1, h⟩ _ _ _ _ ?_ ?_
      · exact (if_pos ((first_iff ⟨k + 1, h⟩).2 hk)).trans clear_real.1
      · exact (if_pos ((first_iff ⟨k + 1, h⟩).2 hk)).trans clear_real.2
    · have i := ih (Nat.lt_of_succ_lt h)
      have e : (k + 1) / 16 = k / 16 := by omega
      have u : (k + 1) % 16 = k % 16 + 1 := by omega
      refine point_real m c x y hx hy ⟨k + 1, h⟩ _ _ _ _ ?_ ?_
      · refine (if_neg (mt (first_iff ⟨k + 1, h⟩).1 hk)).trans (i.A.trans ?_)
        rw [soFar_succ, e, u]
      · refine (if_neg (mt (first_iff ⟨k + 1, h⟩).1 hk)).trans (i.B.trans ?_)
        rw [soFar_succ, e, u]

/-- The rows of sixteen points are all rows. -/
theorem sum_points (f : ℕ → ℝ) (n : ℕ) :
    ∑ u ∈ range n, (∑ r ∈ range 256, f (256 * (2 * u) + r) + ∑ r ∈ range 256, f (256 * (2 * u + 1) + r)) = ∑ t ∈ range (512 * n), f t := by
  induction n with
  | zero => rfl
  | succ n ih =>
    rw [sum_range_succ, ih, show 512 * (n + 1) = 512 * n + 256 + 256 by omega, sum_range_add, sum_range_add, add_assoc,
      show 256 * (2 * n) = 512 * n by omega, show 256 * (2 * n + 1) = 512 * n + 256 by omega]

theorem all_dk (H : ℕ → Head) : soFar dkShare H 16 = pair fun b => (H b).dk := by
  funext s e
  exact sum_points (fun t => (H (e / 128)).dz t s * (H (e / 128)).q t (e % 128)) 16

theorem all_dv (H : ℕ → Head) : soFar dvShare H 16 = pair fun b => (H b).dv := by
  funext s e
  exact sum_points (fun t => (H (e / 128)).w t s * (H (e / 128)).d t (e % 128)) 16

/-- A chain that has gone through all tiles has the gradient of its queries. -/
theorem whole_dq (H : Head) (qb n : ℕ) (hn : qb + 1 ≤ n) (s : Chain Ideal) (h : Inv H qb n s) : s.dq = block H.dq (256 * qb) := by
  rw [h.sums.dq]
  unfold block Head.dq lo
  rw [show qb + 1 - n = 0 by omega, Nat.mul_zero]
  simp only [range_eq_Ico]

theorem entry3 (f : ℕ → ℕ → ℕ → ℝ) {b b' s s' e e' : ℕ} (hb : b = b') (hs : s = s') (he : e = e') :
    ((f b s e : ℝ) : EReal) = ((f b' s' e' : ℝ) : EReal) := by
  rw [hb, hs, he]

/-- The gradient of a point's queries. -/
theorem dqOut_real (H : ℕ → Head) (u : ℕ) (fA fB : ℕ → ℕ → ℝ) (s : St Ideal) (h : PassInv H u (2 * u + 2) fA fB s) (z : Vec Ideal S512x256 .bf16) :
    dqOut s z = gridQ (fun r => pair (fun b => (H b).dq) (512 * u + r)) := by
  have e0 : k0_pay169 s.c0.dq = block (H 0).dq (256 * (2 * u)) := whole_dq _ _ _ (by omega) _ h.c0
  have e1 : k0_pay170 s.c1.dq = block (H 0).dq (256 * (2 * u + 1)) := whole_dq _ _ _ (by omega) _ h.c1
  have e2 : k0_pay171 s.c2.dq = block (H 1).dq (256 * (2 * u)) := whole_dq _ _ _ (by omega) _ h.c2
  have e3 : k0_pay172 s.c3.dq = block (H 1).dq (256 * (2 * u + 1)) := whole_dq _ _ _ (by omega) _ h.c3
  funext i
  have l0 : ∀ p q, (i 0).val - (![p, q] : Fin 2 → ℕ) 0 = (i 0).val - p := fun _ _ => rfl
  have l1 : ∀ p q, (i 1).val - (![p, q] : Fin 2 → ℕ) 1 = (i 1).val - q := fun _ _ => rfl
  have h0 : (i 0).val < 512 := (i 0).isLt
  have h1 : (i 1).val < 256 := (i 1).isLt
  unfold dqOut VecWindow.put
  rw [e0, e1, e2, e3]
  by_cases a : (i 0).val < 256 <;> by_cases b : (i 1).val < 128 <;> simp [Fin.forall_fin_two, S256x128] <;> split_ifs <;>
    first | omega | (refine entry3 (fun b => (H b).dq) ?_ ((congrArg (_ + ·) (l0 _ _)).trans ?_) ((l1 _ _).trans ?_) <;> omega)

include hx hy in
/-- The three arrays that the call leaves. -/
theorem arr_dq : (dats m 0 c).arrAt 5 (cfg0 (F := Ideal)).N = Cert.ReferenceSbIdeal.Sb.beside (fun h => (headOf x y h).dq) := by
  refine (dats m 0 c).arrAt_eq_of_covers 5 _ (by decide +kernel) fun t hf j => ?_
  have e := (places t).2.2.2.2.2.1
  blk_simp
  show dqOut (final m c t) (iblk m c 0 t) _ = _
  rw [dqOut_real _ _ _ _ _ (final_real m c x y hx hy t.val t.isLt)]
  have h1 : (j 1).val < 256 := (j 1).isLt
  refine entry3 (fun h => (headOf x y h).dq) ?_ ?_ ?_
  · blk_simp [e.2]; omega
  · blk_simp [e.1]; omega
  · blk_simp [e.2]; omega

include hx hy in
@[inherit_doc arr_dq] theorem arr_dk : (dats m 0 c).arrAt 6 (cfg0 (F := Ideal)).N = Cert.ReferenceSbIdeal.Sb.beside (fun h => (headOf x y h).dk) := by
  refine (dats m 0 c).arrAt_eq_of_covers 6 _ (by decide +kernel) fun t hf j => ?_
  have e := (places t).2.2.2.2.2.2.1
  have l : ∀ t : Fin (cfg0 (F := Ideal)).N, ((cfg0 (F := Ideal)).win 6).flush t = true → t.val % 16 = 15 := by decide +kernel
  blk_simp
  show (final m c t).A _ = _
  rw [(final_real m c x y hx hy t.val t.isLt).A, l t hf, soFar_succ, all_dk]
  have h1 : (j 1).val < 256 := (j 1).isLt
  refine entry3 (fun h => (headOf x y h).dk) ?_ ?_ ?_
  · blk_simp [e.2]; omega
  · blk_simp [e.1]
  · blk_simp [e.2]; omega

include hx hy in
@[inherit_doc arr_dq] theorem arr_dv : (dats m 0 c).arrAt 7 (cfg0 (F := Ideal)).N = Cert.ReferenceSbIdeal.Sb.beside (fun h => (headOf x y h).dv) := by
  refine (dats m 0 c).arrAt_eq_of_covers 7 _ (by decide +kernel) fun t hf j => ?_
  have e := (places t).2.2.2.2.2.2.2
  have l : ∀ t : Fin (cfg0 (F := Ideal)).N, ((cfg0 (F := Ideal)).win 7).flush t = true → t.val % 16 = 15 := by decide +kernel
  blk_simp
  show (final m c t).B _ = _
  rw [(final_real m c x y hx hy t.val t.isLt).B, l t hf, soFar_succ, all_dv]
  have h1 : (j 1).val < 256 := (j 1).isLt
  refine entry3 (fun h => (headOf x y h).dv) ?_ ?_ ?_
  · blk_simp [e.2]; omega
  · blk_simp [e.1]
  · blk_simp [e.2]; omega

end Cert.KernelSbIdeal.Sb

end

end
-- ==== Proof.Sb.Backward.lean ====
/-
The attention's gradient, as the host's lines compute it, over the reals: the three results are the three gradients of
each head, side by side.
-/
module

public import proofs.«01_k».proof.Proof.Sb.Forward

@[expose] public section

set_option maxRecDepth 16384

noncomputable section

namespace Cert.ReferenceSbIdeal.Sb

open Idealize.ShloMosaic Cert.ReferenceSbIdeal Cert.ReferenceSbIdeal.Gen Cert.ReferenceSbIdeal.Read Cert.Common Cert.Stick Finset

variable (x y : ℕ → ℕ → ℝ)

theorem v35_real : val_main_v35 (F := Ideal) (arg1 y) = headed (fun h => (headOf x y h).d) := by
  funext i
  have h0 : (i 0).val < 8 := (i 0).isLt
  have h2 : (i 2).val < 128 := (i 2).isLt
  rw [val_main_v35_apply, val_main_v34_apply, val_main_v33_apply]
  refine congrArg (fun r : ℝ => (r : EReal)) (congrArg₂ y ?_ ?_) <;> dsimp only <;> omega

/-- The gradient of the logarithm of a weight. -/
theorem v40_real : val_main_v40 (F := Ideal) (arg0 x) (arg1 y) = cube (fun h => (headOf x y h).g) := by
  funext i
  rw [val_main_v40_apply, val_main_v28_1_apply]
  show Scalar.select (val_main_v20 (F := Ideal) (idx_main_v23_1 i)) _ _ = _
  rw [select_causal, val_main_v39_apply, val_main_v38_apply, v29_real, v35_real x y, v11_real, val_main_call5_v0_apply, val_main_call5_cst_apply]
  show (if (i 2).val < (i 1).val then (∑ k : Fin 128, ((_ : ℝ) : EReal) * ((_ : ℝ) : EReal)) * ((_ : ℝ) : EReal) else Ideal.ofBits .f32 0x00000000#32) = _
  simp only [← EReal.coe_mul]
  rw [sum_num (n := 128) fun e => (headOf x y (i 0).val).d (i 1).val e * (headOf x x (i 0).val).v (i 2).val e, ← EReal.coe_mul]
  show _ = (((_ : ℝ) * (if (i 2).val < (i 1).val then _ else 0) : ℝ) : EReal)
  split_ifs
  · rename_i c
    refine congrArg (fun r : ℝ => (r : EReal)) (congrArg₂ (· * ·) rfl ?_)
    exact if_pos c
  · rw [mul_zero, zero_eq]
    rfl

/-- The sum of those before a position. -/
theorem v45_real : val_main_v45 (F := Ideal) (arg0 x) (arg1 y) = cube (fun h t s => if s < t then (headOf x y h).gm t s else 0) := by
  have e : val_main_v43 (F := Ideal) (arg0 x) (arg1 y) = cube (fun h t s => ∑ j ∈ range (s + 1), (headOf x y h).g t j) := by
    unfold val_main_v43
    rw [v40_real]
    exact prefix_real _ _ _ _ zero_eq
  funext i
  rw [val_main_v45_apply, val_main_v23_1_apply, select_causal, val_main_v44_apply, val_main_v42_apply, e, v40_real, val_main_call8_v0_apply,
    val_main_call8_cst_apply]
  show (if (i 2).val < (i 1).val then -((_ : ℝ) : EReal) + ((_ : ℝ) : EReal) else Ideal.ofBits .f32 0x00000000#32) = ((if (i 2).val < (i 1).val then _ else 0 : ℝ) : EReal)
  split_ifs
  · rw [← EReal.coe_neg, ← EReal.coe_add]
    refine congrArg (fun r : ℝ => (r : EReal)) ?_
    dsimp only
    rw [sum_range_succ]
    unfold Head.gm
    ring
  · exact zero_eq

omit x y in
theorem cube_not_top (f : ℕ → ℕ → ℕ → ℝ) (i : S8x8192x8192.Idx) :
    FloatOps.cmpf (F := Ideal) (φ := .f32) .oeq (cube f i) (FloatOps.ofBits .f32 0x7F800000#32) = 0#1 := not_top _

theorem v26_real : val_main_v26_1 (F := Ideal) (arg0 x) = cube (fun h t s => Real.exp (-((headOf x x h).z t s) - sp (-((headOf x x h).z t s)))) := by
  have e : val_main_call3_v0 (F := Ideal) (arg0 x) = cube (fun h t s => -((headOf x x h).z t s)) := by
    funext i
    rw [val_main_call3_v0_apply, v15_real]
    exact (EReal.coe_neg _).symm
  funext i
  simp only [val_main_v26_1_apply, val_main_call3_call0_v21_apply, val_main_call3_call0_v20_apply, val_main_call3_call0_v16_apply,
    val_main_call3_call0_v14_apply, val_main_call3_call0_v18_apply, val_main_call3_call0_v13_apply, val_main_call3_call0_v17_apply,
    val_main_call3_call0_cst_0_apply, val_main_call3_call0_cst_2_apply, softplus3_real, e]
  rw [cube_not_top, cube_not_top]
  show Ideal.exp (((_ : ℝ) : EReal) - ((_ : ℝ) : EReal)) = _
  rw [← EReal.coe_sub, Ideal.exp_coe]
  rfl

theorem v22_real : val_main_v22_1 (F := Ideal) (arg0 x) = cube (fun h t s => Real.exp ((headOf x x h).z t s - sp ((headOf x x h).z t s))) := by
  have e : val_main_call0_v0 (F := Ideal) (arg0 x) = cube (fun h => (headOf x x h).z) := by
    funext i
    rw [val_main_call0_v0_apply, val_main_v21_apply, v15_real]
    exact neg_neg _
  funext i
  simp only [val_main_v22_1_apply, val_main_call0_call0_v21_apply, val_main_call0_call0_v20_apply, val_main_call0_call0_v16_apply,
    val_main_call0_call0_v14_apply, val_main_call0_call0_v18_apply, val_main_call0_call0_v13_apply, val_main_call0_call0_v17_apply,
    val_main_call0_call0_cst_0_apply, val_main_call0_call0_cst_2_apply, softplus0_real, e]
  rw [cube_not_top, cube_not_top]
  show Ideal.exp (((_ : ℝ) : EReal) - ((_ : ℝ) : EReal)) = _
  rw [← EReal.coe_sub, Ideal.exp_coe]
  rfl

/-- The gradient of the product of query and key: the two sigmoids add up to one. -/
theorem v50_real : val_main_v50 (F := Ideal) (arg0 x) (arg1 y) = cube (fun h => (headOf x y h).dz) := by
  funext i
  rw [val_main_v50_apply, val_main_v49_apply, val_main_cst_2_apply, val_main_v48_apply, val_main_v47_apply, val_main_v46_apply,
    val_main_call9_v1_apply, val_main_call9_v0_apply, val_main_v41_apply, val_main_call6_v1_apply, val_main_call6_v0_apply, v45_real, v40_real,
    v26_real, v22_real]
  show (-(-((_ : ℝ) : EReal) * ((_ : ℝ) : EReal)) + -(-(-((_ : ℝ) : EReal) * ((_ : ℝ) : EReal)))) * Ideal.ofBits .f32 0x3DB504F3#32 = ((_ : ℝ) : EReal)
  rw [scale_eq]
  simp only [← EReal.coe_neg, ← EReal.coe_mul, ← EReal.coe_add]
  refine congrArg (fun r : ℝ => (r : EReal)) ?_
  set H := headOf x y (i 0).val with hH
  have ez : (headOf x x (i 0).val).z = H.z := rfl
  have es : H.sc = scale := rfl
  rw [ez, sp_neg, sigma_add]
  unfold Head.dz
  rw [es]
  split_ifs with c
  · rw [show -H.z (i 1).val (i 2).val - (sp (H.z (i 1).val (i 2).val) - H.z (i 1).val (i 2).val) = -sp (H.z (i 1).val (i 2).val) by ring]
    ring
  · have g0 : H.g (i 1).val (i 2).val = 0 := by
      unfold Head.g Head.w
      rw [if_neg c, mul_zero]
    rw [g0]
    ring

/-- The three results. -/
theorem v59_real : val_main_v59 (F := Ideal) (arg0 x) (arg1 y) = beside (fun h => (headOf x y h).dq) := by
  have e : val_main_v52 (F := Ideal) (arg0 x) (arg1 y) = headed (fun h => (headOf x y h).dq) := by
    funext i
    rw [val_main_v52_apply, v50_real, v9_real]
    show (∑ k : Fin 8192, ((_ : ℝ) : EReal) * ((_ : ℝ) : EReal)) = _
    simp only [← EReal.coe_mul]
    exact sum_num (n := 8192) fun s => (headOf x y (i 0).val).dz (i 1).val s * (headOf x y (i 0).val).k s (i 2).val
  funext i
  rw [val_main_v59_apply, val_main_v58_apply, val_main_v57_apply, e]
  exact headed_beside _ i

theorem v60_real : val_main_v60 (F := Ideal) (arg0 x) (arg1 y) = beside (fun h => (headOf x y h).dk) := by
  have e : val_main_v51 (F := Ideal) (arg0 x) (arg1 y) = headed (fun h => (headOf x y h).dk) := by
    funext i
    rw [val_main_v51_apply, v50_real, v7_real]
    show (∑ k : Fin 8192, ((_ : ℝ) : EReal) * ((_ : ℝ) : EReal)) = _
    simp only [← EReal.coe_mul]
    exact sum_num (n := 8192) fun t => (headOf x y (i 0).val).dz t (i 1).val * (headOf x y (i 0).val).q t (i 2).val
  funext i
  rw [val_main_v60_apply, val_main_v56_apply, val_main_v55_apply, e]
  exact headed_beside _ i

theorem v61_real : val_main_v61 (F := Ideal) (arg0 x) (arg1 y) = beside (fun h => (headOf x y h).dv) := by
  have e : val_main_v37 (F := Ideal) (arg0 x) (arg1 y) = headed (fun h => (headOf x y h).dv) := by
    funext i
    rw [val_main_v37_apply, val_main_v36_apply, v35_real x y, v29_real]
    show (∑ k : Fin 8192, ((_ : ℝ) : EReal) * ((_ : ℝ) : EReal)) = _
    simp only [← EReal.coe_mul]
    refine (sum_num (n := 8192) fun t => (headOf x y (i 0).val).d t (i 2).val * (headOf x y (i 0).val).w t (i 1).val).trans ?_
    refine congrArg (fun r : ℝ => (r : EReal)) ?_
    exact sum_congr rfl fun t _ => mul_comm _ _
  funext i
  rw [val_main_v61_apply, val_main_v54_apply, val_main_v53_apply, e]
  exact headed_beside _ i

end Cert.ReferenceSbIdeal.Sb

end

end
-- ==== Proof.Sb.Results.lean ====
/-
The attention gradient's results: from finite arguments the kernel and the reference both leave the three gradients of the stick
model, head beside head.
-/
module

public import proofs.«01_k».proof.Proof.Sb.Points
public import proofs.«01_k».proof.Proof.Sb.Backward
public import proofs.«01_k».proof.Proof.Common.Reals
public import proofs.«01_k».proof.Proof.Gen.ReferenceSbIdeal.Run
public import proofs.«01_k».proof.Defs

@[expose] public section

set_option maxRecDepth 16384

set_option maxHeartbeats 2000000

noncomputable section

open Idealize.ShloMosaic Idealize.ShloMosaic.TcCoe Idealize.SL.Sem Cert.Stick

namespace Cert.KernelSbIdeal.Sb

open Cert.KernelSbIdeal Cert.KernelSbIdeal.Gen
open Cert.ReferenceSbIdeal.Sb (arg0 arg1 beside)

variable (m : (ℓ : Loc nD τ sig) → Buf (Elt Ideal) ℓ)

/-- The arguments' entries as real numbers. -/
def real0 (c : Dev nD) (i j : ℕ) : ℝ :=
  EReal.toReal ((m (c.tc.loc main_arg0) : FVec Ideal S8192x10240 .bf16) (ix2 ⟨i % 8192, Nat.mod_lt _ (by decide)⟩ ⟨j % 10240, Nat.mod_lt _ (by decide)⟩))
@[inherit_doc real0] def real1 (c : Dev nD) (i j : ℕ) : ℝ :=
  EReal.toReal ((m (c.tc.loc main_arg1) : FVec Ideal S8192x1024 .bf16) (ix2 ⟨i % 8192, Nat.mod_lt _ (by decide)⟩ ⟨j % 1024, Nat.mod_lt _ (by decide)⟩))

/-- Finite arguments are their real entries. -/
theorem finite_args [Cert.Pre_finite_sb.Facts] (h : Cert.Pre_KernelSbIdeal_finite_sb m) (c : Dev nD) :
    m (c.tc.loc main_arg0) = arg0 (real0 m c) ∧ m (c.tc.loc main_arg1) = arg1 (real1 m c) := by
  obtain ⟨h0, h1⟩ := h c
  constructor
  · funext i
    obtain ⟨r, hr⟩ := Cert.Common.real_of_cmp (congrFun h0 i)
    have e : (ix2 ⟨(i 0).val % 8192, Nat.mod_lt _ (by decide)⟩ ⟨(i 1).val % 10240, Nat.mod_lt _ (by decide)⟩ : S8192x10240.Idx) = i :=
      funext fun a => Fin.ext (match a with | ⟨0, _⟩ => Nat.mod_eq_of_lt (i 0).isLt | ⟨1, _⟩ => Nat.mod_eq_of_lt (i 1).isLt)
    unfold arg0 real0
    rw [e]
    have k : (m (c.tc.loc main_arg0) : FVec Ideal S8192x10240 .bf16) i = (r : EReal) := hr
    exact k.trans (congrArg (fun z : EReal => ((z.toReal : ℝ) : EReal)) k).symm
  · funext i
    obtain ⟨r, hr⟩ := Cert.Common.real_of_cmp (congrFun h1 i)
    have e : (ix2 ⟨(i 0).val % 8192, Nat.mod_lt _ (by decide)⟩ ⟨(i 1).val % 1024, Nat.mod_lt _ (by decide)⟩ : S8192x1024.Idx) = i :=
      funext fun a => Fin.ext (match a with | ⟨0, _⟩ => Nat.mod_eq_of_lt (i 0).isLt | ⟨1, _⟩ => Nat.mod_eq_of_lt (i 1).isLt)
    unfold arg1 real1
    rw [e]
    have k : (m (c.tc.loc main_arg1) : FVec Ideal S8192x1024 .bf16) i = (r : EReal) := hr
    exact k.trans (congrArg (fun z : EReal => ((z.toReal : ℝ) : EReal)) k).symm

/-- The kernel's results. -/
theorem results [Cert.Pre_finite_sb.Facts] (h : Cert.Pre_KernelSbIdeal_finite_sb m) (ρ : Dev nD → PrngReg) :
    θ_run (defs (F := Ideal)) (onTc (τ := τ) (main (F := Ideal))) ⟨m, fun _ => 0, ρ⟩ (fun r => ∀ c : Dev nD,
      r.2.mem (c.tc.loc main_v33_0) = beside (fun h => (headOf (real0 m c) (real1 m c) h).dq)
      ∧ r.2.mem (c.tc.loc main_v33_1) = beside (fun h => (headOf (real0 m c) (real1 m c) h).dk)
      ∧ r.2.mem (c.tc.loc main_v33_2) = beside (fun h => (headOf (real0 m c) (real1 m c) h).dv)
      ∧ r.2.mem (c.tc.loc main_arg0) = m (c.tc.loc main_arg0)
      ∧ r.2.mem (c.tc.loc main_arg1) = m (c.tc.loc main_arg1)) :=
  (θ_run defs _ _).mono (fun r g c =>
    ⟨((g.1 c).1 5).trans (arr_dq m c _ _ (finite_args m h c).1 (finite_args m h c).2),
     ((g.1 c).1 6).trans (arr_dk m c _ _ (finite_args m h c).1 (finite_args m h c).2),
     ((g.1 c).1 7).trans (arr_dv m c _ _ (finite_args m h c).1 (finite_args m h c).2),
     ((g.1 c).1 0).trans (((dats m 0 c).arrAt_in 0 rfl _).trans (V_arg0 m c)),
     ((g.1 c).1 4).trans (((dats m 0 c).arrAt_in 4 rfl _).trans (V_arg1 m c))⟩) (run m ρ)

end Cert.KernelSbIdeal.Sb

namespace Cert.ReferenceSbIdeal.Sb

open Cert.ReferenceSbIdeal Cert.ReferenceSbIdeal.Value Idealize.ShloMosaic.StableHlo
open Cert.KernelSbIdeal.Sb (real0 real1 finite_args)

variable (m : (ℓ : Loc Cert.KernelSbIdeal.nD Cert.KernelSbIdeal.τ Cert.KernelSbIdeal.sig) → Buf (Elt Ideal) ℓ)
  (m' : (ℓ : Loc nD τ sig) → Buf (Elt Ideal) ℓ)

/-- The reference's results, from the same arguments. -/
theorem results [Cert.Pre_finite_sb.Facts] (h : Cert.Pre_KernelSbIdeal_finite_sb m)
    (hagree : ∀ c : Dev nD, m' (c.tc.loc main_arg0) = m (c.tc.loc Cert.KernelSbIdeal.main_arg0)
      ∧ m' (c.tc.loc main_arg1) = m (c.tc.loc Cert.KernelSbIdeal.main_arg1)) (ρ : Dev nD → PrngReg) :
    θ_run (defs (F := Ideal)) (onTc (τ := τ) (main (F := Ideal))) ⟨m', fun _ => 0, ρ⟩ (fun r => ∀ c : Dev nD,
      r.2.mem (c.tc.loc main_v59) = beside (fun h => (headOf (real0 m c) (real1 m c) h).dq)
      ∧ r.2.mem (c.tc.loc main_v60) = beside (fun h => (headOf (real0 m c) (real1 m c) h).dk)
      ∧ r.2.mem (c.tc.loc main_v61) = beside (fun h => (headOf (real0 m c) (real1 m c) h).dv)
      ∧ r.2.mem (c.tc.loc main_arg0) = m' (c.tc.loc main_arg0)
      ∧ r.2.mem (c.tc.loc main_arg1) = m' (c.tc.loc main_arg1)) := by
  refine (θ_run defs _ _).mono (fun r g c => ?_) (Cert.ReferenceSbIdeal.Value.run m' ρ)
  have l0 : m' (c.tc.loc main_arg0) = arg0 (real0 m c) := (hagree c).1.trans (finite_args m h c).1
  have l1 : m' (c.tc.loc main_arg1) = arg1 (real1 m c) := (hagree c).2.trans (finite_args m h c).2
  obtain ⟨r0, r1, r2, hargs⟩ := g c
  refine ⟨r0.trans ?_, r1.trans ?_, r2.trans ?_, hargs⟩
  · refine Eq.trans ?_ (v59_real (real0 m c) (real1 m c))
    rw [← l0, ← l1]
    rfl
  · refine Eq.trans ?_ (v60_real (real0 m c) (real1 m c))
    rw [← l0, ← l1]
    rfl
  · refine Eq.trans ?_ (v61_real (real0 m c) (real1 m c))
    rw [← l0, ← l1]
    rfl

end Cert.ReferenceSbIdeal.Sb

end

end
-- ==== Proof.Sb.Rest.lean ====
/-
The frame of the attention gradient's reference, and the two constants that the ideal program reads as −∞.
-/
module

public import proofs.«01_k».proof.KernelSbIdeal
public import proofs.«01_k».proof.Proof.Gen.ReferenceSbIdeal.Run
public import Idealize.ShloMosaic.PureOps.IdealRules

@[expose] public section

noncomputable section

open Idealize.ShloMosaic Idealize.SL.Sem

namespace Cert.ReferenceSbIdeal.Sb

open Cert.ReferenceSbIdeal Idealize.ShloMosaic.TcCoe

/-- The reference ends with its arguments as it found them. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem (c.tc.loc main_arg0) = m (c.tc.loc main_arg0)
      ∧ r.2.mem (c.tc.loc main_arg1) = m (c.tc.loc main_arg1)) ∧ r.2.sem = fun _ => 0) :=
  (θ_run defs _ _).mono (fun r h => ⟨fun c => (h c).2.2.2, sem_eq_zero_of_no_sems (by decide) r.2⟩) (Cert.ReferenceSbIdeal.Value.run m ρ)

end Cert.ReferenceSbIdeal.Sb

namespace Cert.KernelSbIdeal.Sb

/-- The score of a block above the diagonal, and the log-probability below which a row's chain is left: both −∞. -/
theorem constants : IdealRules.named_const.Statement Cert.KernelSbIdeal.κ "gone" .f32 0xF149F2CA#32 ⊥
    ∧ IdealRules.named_const.Statement Cert.KernelSbIdeal.κ "dead" .f32 0xC2DC0000#32 ⊥ :=
  ⟨IdealRules.named_const.statement _ _ _ _ _ rfl, IdealRules.named_const.statement _ _ _ _ _ rfl⟩

end Cert.KernelSbIdeal.Sb

end

end
-- ==== Proof.Mid.Rest.lean ====
/-
The frame of the reference of the merge's gradients.
-/
module

public import proofs.«01_k».proof.Proof.Gen.ReferenceMidIdeal.Run
public import Idealize.ShloMosaic.PureOps.IdealRules

@[expose] public section

noncomputable section

open Idealize.ShloMosaic Idealize.SL.Sem

namespace Cert.ReferenceMidIdeal.Mid

open Cert.ReferenceMidIdeal Idealize.ShloMosaic.TcCoe

/-- The reference ends with its eleven arguments as it found them. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)) ∧ r.2.sem = fun _ => 0) :=
  (θ_run defs _ _).mono (fun r h => ⟨fun c => (h c).2.2.2.2.2.2.2.2.2.2.2.2.2.2, sem_eq_zero_of_no_sems (by decide) r.2⟩)
    (Cert.ReferenceMidIdeal.Value.run m ρ)

end Cert.ReferenceMidIdeal.Mid

end

end
-- ==== Proof.Mid.Word.lean ====
/-
The merge's frame at float words: the printed program is the ideal one's text, so its run is the same run.
-/
module

public import proofs.«01_k».proof.KernelMid
public import proofs.«01_k».proof.Proof.Mid.Frame
public import proofs.«01_k».proof.Proof.Gen.KernelMid

@[expose] public section

set_option maxRecDepth 16384

noncomputable section

open Idealize.ShloMosaic Idealize.ShloMosaic.TcCoe Idealize.ShloMosaic.Tactic Idealize.SL.Sem

namespace Cert.KernelMid.Mid

open Cert.KernelMid

variable {F : FTy → Type} [FloatOps F]

/-- The launch ends with the eleven arguments as it found them and every counter at zero. -/
theorem frame : ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine Eq.mp ?_ (Cert.KernelMidIdeal.Mid.frame (F := F))
  sl_kernel_rfl

end Cert.KernelMid.Mid

end

end
-- ==== Proof.Fwd.Step.lean ====
/-
The attention's forward call at one grid point, as a plain function of the point's blocks: two tiles of each of the
eight chains, then the loop's tiles. A chain is one head's 256 query rows. It walks the key blocks backwards from its
own, carrying the log survival, the result, and what the result loses in half precision. The scores, the log survival
and the weights of a tile are the gradient's.
-/
module

public import proofs.«01_k».proof.Proof.Sb.Step
public import proofs.«01_k».proof.Proof.Gen.KernelFwdIdeal.Skeleton
public import proofs.«01_k».proof.Proof.Gen.KernelFwdIdeal.Points

@[expose] public section

set_option maxRecDepth 16384

noncomputable section

namespace Cert.KernelFwdIdeal.Fwd

open Idealize.ShloMosaic Cert.KernelFwdIdeal Cert.KernelFwdIdeal.Gen
open Cert.KernelSbIdeal.Sb (Sq Col Rows Mask score lsNot firstCol)

variable {F : FTy → Type} [FloatOps F] [Named F]

/-- What a chain carries from tile to tile. -/
structure Chain (F : FTy → Type) where
  carry : Col F
  hi : Rows F
  lo : Rows F

/-- The same as the gradient's tiles read it. -/
def Chain.back (s : Chain F) : Cert.KernelSbIdeal.Sb.Chain F := ⟨s.carry, s.carry, s.hi⟩

/-- A tile's weights against the values, in two halves of the precision. -/
def both (w : Sq F) (v : Vec F S256x128 .bf16) : FVec F S512x128 .f32 :=
  have hi : FVec F S256x256 .bf16 := truncf .bf16 w bitsLt_bf16_f32
  have lo : FVec F S256x256 .bf16 := truncf .bf16 (subf w (extf .f32 hi bitsLt_bf16_f32)) bitsLt_bf16_f32
  matmul dot_S512x256_S256x128_S512x128_1_0_0_1_n_n none
    (concatenate S512x256 0 [⟨S256x256, hi⟩, ⟨S256x256, lo⟩] concatenates_S256x256_S256x256_S512x256_d0) v (constant S512x128 .f32 0x00000000#32)

section Tile

variable (M : Mask F) (q k v : Vec F S256x128 .bf16) (s : Chain F)

def surv : Sq F := Cert.KernelSbIdeal.Sb.surv M q k s.back
def weight : Sq F := Cert.KernelSbIdeal.Sb.weight M q k s.back

/-- The chain after the tile. -/
def next : Chain F where
  carry := addf (firstCol (surv M q k s)) (firstCol (M.ls (lsNot (score q k))))
  hi := addf s.hi (extractStridedSlice S256x128 ![0, 0] (both (weight M q k s) v) slices_S512x128_o0_0_S256x128)
  lo := addf s.lo (extractStridedSlice S256x128 ![256, 0] (both (weight M q k s) v) slices_S512x128_o256_0_S256x128)

end Tile

/-- 256 rows of one head of an array, at an offset. -/
def pick {α : Type} (x : S8192x512.Idx → α) (off : Fin 2 → ℕ) : S256x128.Idx → α := fun y =>
  x fun a => ⟨(off a + (y a).val) % S8192x512.size a, Nat.mod_lt _ (by revert a; decide)⟩

def pickQ {α : Type} (x : S512x512.Idx → α) (off : Fin 2 → ℕ) : S256x128.Idx → α := fun y =>
  x fun a => ⟨(off a + (y a).val) % S512x512.size a, Nat.mod_lt _ (by revert a; decide)⟩

theorem window_eq_pick {α : Type} (x : S8192x512.Idx → α) (off : Fin 2 → ℕ) (inb : ∀ a, off a + S256x128.size a ≤ S8192x512.size a) :
    VecWindow.window x off S256x128.size inb = pick x off := by
  funext y
  refine congrArg x (funext fun a => Fin.ext ?_)
  have e : ((Rect.unit (s := S8192x512) off S256x128.size inb).emb y a).val = off a + 1 * (y a).val := rfl
  have h1 := (y a).isLt
  have h2 := inb a
  have h3 : (Rect.unit (s := S8192x512) off S256x128.size inb).shape.size a = S256x128.size a := rfl
  rw [e, Nat.one_mul]
  exact (Nat.mod_eq_of_lt (by omega)).symm

theorem window_eq_pickQ {α : Type} (x : S512x512.Idx → α) (off : Fin 2 → ℕ) (inb : ∀ a, off a + S256x128.size a ≤ S512x512.size a) :
    VecWindow.window x off S256x128.size inb = pickQ x off := by
  funext y
  refine congrArg x (funext fun a => Fin.ext ?_)
  have e : ((Rect.unit (s := S512x512) off S256x128.size inb).emb y a).val = off a + 1 * (y a).val := rfl
  have h1 := (y a).isLt
  have h2 := inb a
  have h3 : (Rect.unit (s := S512x512) off S256x128.size inb).shape.size a = S256x128.size a := rfl
  rw [e, Nat.one_mul]
  exact (Nat.mod_eq_of_lt (by omega)).symm

/-- What a grid point's body reads: the queries, and its four heads' keys and values. -/
structure Blk (F : FTy → Type) where
  q : Vec F S512x512 .bf16
  k : Vec F S8192x512 .bf16
  v : Vec F S8192x512 .bf16

/-- The eight chains before tile `n`. -/
structure St (F : FTy → Type) where
  n : BitVec 32
  c : Fin 8 → Chain F

/-- The key block's word: negative when the chain has no such tile. -/
def word (i : grid0.Coords) (a n : BitVec 32) : BitVec 32 :=
  Scalar.subi (Scalar.addi (Scalar.muli 2#32 (BitVec.ofNat 32 (i 1).val)) a) n

/-- A chain's row group as a word: the chains of a head are two, the first the upper half of the point's rows. -/
def half (x : Fin 8) : BitVec 32 := BitVec.ofNat 32 (x.val % 2)

/-- Where a chain's queries lie in the point's block, -/
def offQ (x : Fin 8) : Fin 2 → ℕ := ![256 * (x.val % 2), 128 * (x.val / 2)]

/-- and its key block of tile `n` in the sequence. -/
def off (i : grid0.Coords) (n : BitVec 32) (x : Fin 8) : Fin 2 → ℕ :=
  ![(Scalar.indexCast (Scalar.muli (Scalar.maxsi (word i (half x) n) 0#32) 256#32)).toNat, 128 * (x.val / 2)]

/-- One tile of every chain. -/
def step (i : grid0.Coords) (X : Blk F) (M : BitVec 32 → Mask F) (s : St F) : St F where
  n := Scalar.addi s.n 1#32
  c x := next (M (word i (half x) s.n)) (pickQ X.q (offQ x)) (pick X.k (off i s.n x)) (pick X.v (off i s.n x)) (s.c x)

/-- The loop's test. -/
def more (i : grid0.Coords) (s : St F) : BitVec 1 :=
  Scalar.andi (Scalar.cmpi .sle s.n (Scalar.subi (Scalar.addi (Scalar.muli 2#32 (BitVec.ofNat 32 (i 1).val)) 2#32) 1#32))
    (Scalar.cmpf .ogt (k0_pay1 (s.c 0).carry (s.c 1).carry (s.c 2).carry (s.c 3).carry (s.c 4).carry (s.c 5).carry (s.c 6).carry (s.c 7).carry)
      (Named.named κ "dead" 0xC2DC0000#32))

/-- The loop, at most `k` trips of it. -/
def loop (i : grid0.Coords) (X : Blk F) : ℕ → St F → St F
  | 0, s => s
  | k + 1, s => if more i s = 1#1 then loop i X k (step i X Mask.off s) else s

/-- No tile yet. -/
def start : St F := ⟨0#32, fun _ => ⟨k0_pay8 (F := F), k0_pay7 (F := F), k0_pay7 (F := F)⟩⟩

/-- The point's tiles: the diagonal, the one before it, and the loop's. -/
def early (i : grid0.Coords) (X : Blk F) : St F := step i X Mask.off (step i X (fun _ => Mask.diag) start)
def pass (i : grid0.Coords) (X : Blk F) : St F := loop i X (2 * (i 1).val) (early i X)

end Cert.KernelFwdIdeal.Fwd

end

end
-- ==== Proof.Fwd.Real.lean ====
/-
A tile of the attention's forward pass over the reals: its weights in two halves of the precision are the weights and zeros, and a
chain's two sums are the sum of its weights against the values and zero.
-/
module

public import proofs.«01_k».proof.Proof.Fwd.Step
public import proofs.«01_k».proof.Proof.Sb.Pass

@[expose] public section

set_option maxRecDepth 16384

noncomputable section

namespace Cert.KernelFwdIdeal.Fwd

open Idealize.ShloMosaic Cert.KernelFwdIdeal Cert.KernelFwdIdeal.Gen Cert.Common Cert.Stick Finset
open Cert.KernelSbIdeal.Sb (Sq Col Rows Mask col rows block IsMask IsCarry IsTile addf_rows rows_congr)
open Cert.KernelSbIdeal.Sb renaming sq → square, lo → first

/-- The upper half of the products is the weights' own, -/
theorem both_hi (f v : ℕ → ℕ → ℝ) :
    extractStridedSlice S256x128 ![0, 0] (both (F := Ideal) (square f) (rows v)) slices_S512x128_o0_0_S256x128
      = rows (fun r e => ∑ c ∈ range 256, f r c * v c e) := by
  funext i
  have h0 : (i 0).val < 256 := (i 0).isLt
  unfold both
  pointwise [Cert.KernelSbIdeal.Sb.sq, rows]
  simp only [h0, dif_pos, if_pos, ← EReal.coe_mul, sum_num (fun k => f (i 0).val k * v k (i 1).val)]

/-- and nothing is left for the lower. -/
theorem both_lo (f v : ℕ → ℕ → ℝ) :
    extractStridedSlice S256x128 ![256, 0] (both (F := Ideal) (square f) (rows v)) slices_S512x128_o256_0_S256x128 = rows (fun _ _ => 0) := by
  funext i
  have h0 : (i 0).val < 256 := (i 0).isLt
  unfold both
  pointwise [Cert.KernelSbIdeal.Sb.sq, rows]
  simp only [← EReal.coe_mul, ← EReal.coe_sub, sub_self, zero_mul, EReal.coe_zero, Finset.sum_const_zero]

/-- A chain of query block `qb` after `n` tiles. -/
structure Inv (H : Head) (qb n : ℕ) (s : Chain Ideal) : Prop where
  hi : s.hi = rows (fun r e => ∑ x ∈ Ico (first qb n) 8192, H.w (256 * qb + r) x * H.v x e)
  lo : s.lo = rows (fun _ _ => 0)
  carry : n ≤ qb + 1 → IsCarry H (256 * qb) (first qb n) s.back

/-- Nothing lies beyond the rows' own positions. -/
theorem inv_zero (H : Head) (qb : ℕ) : Inv H qb 0 ⟨k0_pay8 (F := Ideal), k0_pay7 (F := Ideal), k0_pay7 (F := Ideal)⟩ := by
  have far : ∀ r x, r < 256 → x ∈ Ico (first qb 0) 8192 → ¬ x < 256 * qb + r := by
    intro r x hr hx
    rw [mem_Ico] at hx
    unfold first at hx
    omega
  have zero : ∀ f : ℕ → ℕ → ℝ, (∀ r e, r < 256 → f r e = 0) → k0_pay7 (F := Ideal) = rows f := by
    intro f hf
    funext i
    show (Ideal.ofBits .f32 0x00000000#32 : EReal) = ((f (i 0).val (i 1).val : ℝ) : EReal)
    rw [zero_eq, hf _ _ (i 0).isLt]
    rfl
  refine ⟨zero _ fun r e hr => sum_eq_zero fun x hx => ?_, zero _ fun _ _ _ => rfl, fun _ => ?_⟩
  · unfold Head.w
    rw [if_neg (far r x hr hx), zero_mul]
  · funext i
    show (Ideal.ofBits .f32 0x00000000#32 : EReal) = ((∑ x ∈ Ico (first qb 0) 8192, H.miss (256 * qb + (i 0).val) x : ℝ) : EReal)
    rw [zero_eq, sum_eq_zero fun x hx => ?_]
    · rfl
    · unfold Head.miss
      rw [if_neg (far _ x (i 0).isLt hx)]

theorem inv_step (H : Head) (hsc : H.sc = scale) {qb n : ℕ} (hq : qb < 32) {s : Chain Ideal} (h : Inv H qb n s) {M : Mask Ideal}
    (hM : IsTile qb n M) :
    Inv H qb (n + 1) (next (F := Ideal) M (block H.q (256 * qb)) (block H.k (256 * (qb - n))) (block H.v (256 * (qb - n))) s) := by
  have hlo : ∀ f : ℕ → ℕ → ℝ, weight (F := Ideal) M (block H.q (256 * qb)) (block H.k (256 * (qb - n))) s = square f →
      (next (F := Ideal) M (block H.q (256 * qb)) (block H.k (256 * (qb - n))) (block H.v (256 * (qb - n))) s).lo = rows (fun _ _ => 0) := by
    intro f hf
    show addf s.lo (extractStridedSlice S256x128 ![256, 0] (both (weight (F := Ideal) M _ _ s) (rows _)) _) = _
    rw [hf, both_lo, h.lo]
    exact (Cert.KernelSbIdeal.Sb.addf_rows _ _).trans (Cert.KernelSbIdeal.Sb.rows_congr fun _ _ _ _ => add_zero _)
  by_cases hn : n ≤ qb
  · have m : IsMask M (256 * qb) (256 * (qb - n)) := by
      unfold IsTile at hM
      split_ifs at hM with h0
      · rw [hM, h0, Nat.sub_zero]; exact Cert.KernelSbIdeal.Sb.isMask_diag _
      · obtain ⟨w, rfl, hw⟩ := hM
        exact Cert.KernelSbIdeal.Sb.isMask_off (hw.2 hn) (by omega)
    have e : first qb n = 256 * (qb - n) + 256 := by unfold first; omega
    have e' : first qb (n + 1) = 256 * (qb - n) := by unfold first; omega
    have hs := h.hi
    have hc := h.carry (by omega)
    rw [e] at hs hc
    have hw : weight (F := Ideal) M (block H.q (256 * qb)) (block H.k (256 * (qb - n))) s = square (fun r c => H.w (256 * qb + r) (256 * (qb - n) + c)) :=
      Cert.KernelSbIdeal.Sb.weight_eq H M _ _ s.back hsc m (by omega) hc
    refine ⟨?_, hlo _ hw, fun _ => ?_⟩
    · rw [e']
      show addf s.hi (extractStridedSlice S256x128 ![0, 0] (both (weight (F := Ideal) M _ _ s) (rows _)) _) = _
      rw [hw, both_hi, hs]
      refine (Cert.KernelSbIdeal.Sb.addf_rows _ _).trans (Cert.KernelSbIdeal.Sb.rows_congr fun r e _ _ => ?_)
      rw [add_comm, range_eq_Ico]
      exact sum_block (fun x => H.w (256 * qb + r) x * H.v x e) _ 0 (by omega) (by omega)
    · rw [e']
      show addf (Cert.KernelSbIdeal.Sb.firstCol (Cert.KernelSbIdeal.Sb.surv M _ _ s.back)) (Cert.KernelSbIdeal.Sb.firstCol _) = _
      rw [Cert.KernelSbIdeal.Sb.surv_eq H M _ _ s.back hsc m (by omega) hc, Cert.KernelSbIdeal.Sb.ls_eq H M _ _ hsc m,
        Cert.KernelSbIdeal.Sb.firstCol_real, Cert.KernelSbIdeal.Sb.firstCol_real, Cert.KernelSbIdeal.Sb.addf_col]
      refine Cert.KernelSbIdeal.Sb.col_congr fun r _ => ?_
      rw [sum_eq_sum_Ico_succ_bot (show 256 * (qb - n) < 8192 by omega)]
      exact add_comm _ _
  · unfold IsTile at hM
    rw [if_neg (by omega)] at hM
    obtain ⟨w, rfl, hw⟩ := hM
    have e : first qb n = 0 := by unfold first; omega
    have e' : first qb (n + 1) = 0 := by unfold first; omega
    have hs := h.hi
    rw [e] at hs
    have hg : weight (F := Ideal) (Mask.off w) (block H.q (256 * qb)) (block H.k (256 * (qb - n))) s = square (fun _ _ => 0) :=
      Cert.KernelSbIdeal.Sb.weight_gone (fun k => hn (hw.1 k)) _ _ s.back
    refine ⟨?_, hlo _ hg, fun k => by omega⟩
    rw [e']
    show addf s.hi (extractStridedSlice S256x128 ![0, 0] (both (weight (F := Ideal) _ _ _ s) (rows _)) _) = _
    rw [hg, both_hi, hs]
    refine (Cert.KernelSbIdeal.Sb.addf_rows _ _).trans (Cert.KernelSbIdeal.Sb.rows_congr fun r e _ _ => ?_)
    simp only [zero_mul, sum_const_zero, add_zero]

/-- A chain that has gone through all tiles has its rows of the result. -/
theorem whole (H : Head) (qb n : ℕ) (hn : qb + 1 ≤ n) (s : Chain Ideal) (h : Inv H qb n s) : s.hi = block H.out (256 * qb) := by
  rw [h.hi]
  unfold block Head.out first
  rw [show qb + 1 - n = 0 by omega, Nat.mul_zero]
  simp only [range_eq_Ico]

end Cert.KernelFwdIdeal.Fwd

end

end
-- ==== Proof.Fwd.Loop.lean ====
/-
The loop of one grid point of the attention's forward call: its label meets the specification that takes the buffers and
gives them back with the registers at the state `loop` computes, by induction on the trips that may still be run.
-/
module

public import proofs.«01_k».proof.Proof.Fwd.Step
public import proofs.«01_k».proof.Proof.Common.Access

@[expose] public section

set_option maxRecDepth 16384

noncomputable section

namespace Cert.KernelFwdIdeal.Fwd

open Cert.KernelFwdIdeal Cert.KernelFwdIdeal.Gen
open Cert.KernelSbIdeal.Sb (Mask triE)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section Rules

variable {α : Type} (bd : Option Variants.nat.V) (c : Dev nD) {e : EltTy}

/-- Loads of one chain's rows, -/
theorem load_rows (Q : α → sProp 𝕄) {m : Memref sig .tc .vmem S8192x512 e} {x : S8192x512.Idx → Elt F e} {off : Fin 2 → ℕ} {inb : ∀ a, off a + S256x128.size a ≤ S8192x512.size a}
    {hl : m.view.LoadsAt (Rect.unit (s := S8192x512) off S256x128.size inb).toLoadRect} {k : (S256x128.Idx → Elt F e) → Prog (TpuEff nD τ sig (Elt F) (Λ₀ F) .tc) α} :
    (owns (c : Thread nD τ) m fullShare x : sProp 𝕄)
      ⊢ iprop((owns (c : Thread nD τ) m fullShare x -∗ wp frame (wpE (defs₀ (F := F)) Variants.nat c bd) Set.univ (k (pick x off)) Q)
        -∗ wp frame (wpE (defs₀ (F := F)) Variants.nat c bd) Set.univ (.op (.load m (Rect.unit (s := S8192x512) off S256x128.size inb).toLoadRect hl) k) Q) := by
  rw [← window_eq_pick x off inb]
  exact Cert.Common.load_part defs₀ Variants.nat bd c Q

/-- and of a block's. -/
theorem load_block (Q : α → sProp 𝕄) {m : Memref sig .tc .vmem S512x512 e} {x : S512x512.Idx → Elt F e} {off : Fin 2 → ℕ} {inb : ∀ a, off a + S256x128.size a ≤ S512x512.size a}
    {hl : m.view.LoadsAt (Rect.unit (s := S512x512) off S256x128.size inb).toLoadRect} {k : (S256x128.Idx → Elt F e) → Prog (TpuEff nD τ sig (Elt F) (Λ₀ F) .tc) α} :
    (owns (c : Thread nD τ) m fullShare x : sProp 𝕄)
      ⊢ iprop((owns (c : Thread nD τ) m fullShare x -∗ wp frame (wpE (defs₀ (F := F)) Variants.nat c bd) Set.univ (k (pickQ x off)) Q)
        -∗ wp frame (wpE (defs₀ (F := F)) Variants.nat c bd) Set.univ (.op (.load m (Rect.unit (s := S512x512) off S256x128.size inb).toLoadRect hl) k) Q) := by
  rw [← window_eq_pickQ x off inb]
  exact Cert.Common.load_part defs₀ Variants.nat bd c Q

/-- A store of one chain's rows into a block. -/
theorem store_block (Q : α → sProp 𝕄) {m : Memref sig .tc .vmem S512x512 e} {x : S512x512.Idx → Elt F e} {off : Fin 2 → ℕ} {inb : ∀ a, off a + S256x128.size a ≤ S512x512.size a}
    {w : S256x128.Idx → Elt F e} {hx : (m.access (Rect.unit (s := S512x512) off S256x128.size inb)).Stores Finset.univ}
    {h : (Finset.univ = (Finset.univ : Finset (Rect.unit (s := S512x512) off S256x128.size inb).shape.Idx)) ∨ ∀ a, (Rect.unit (s := S512x512) off S256x128.size inb).stride a = 1}
    {k : PUnit → Prog (TpuEff nD τ sig (Elt F) (Λ₀ F) .tc) α} :
    (owns (c : Thread nD τ) m fullShare x : sProp 𝕄)
      ⊢ iprop((owns (c : Thread nD τ) m fullShare (VecWindow.put x off S256x128.size w) -∗ wp frame (wpE (defs₀ (F := F)) Variants.nat c bd) Set.univ (k ⟨⟩) Q)
        -∗ wp frame (wpE (defs₀ (F := F)) Variants.nat c bd) Set.univ (.op (.store m (Rect.unit (s := S512x512) off S256x128.size inb) w Finset.univ hx h) k) Q) :=
  Cert.Common.store_part defs₀ Variants.nat bd c Q

end Rules

/-- A trip's key blocks lie inside the sequence. -/
theorem chk_of_le (i : grid0.Coords) (j : ℕ) (hj : j < 34) : k0_chk1 i (BitVec.ofNat 32 j) := by
  obtain ⟨p, hp⟩ : ∃ p : Fin 16, (i 1).val = p.val := ⟨i 1, rfl⟩
  unfold k0_chk1 k0_off5 k0_off6 k0_off7 k0_off8 k0_mult17 k0_mult18 k0_mult19 k0_mult20 k0_mult21 k0_mult22 k0_mult23 k0_mult24
  rw [hp]
  clear hp
  obtain ⟨j, rfl⟩ : ∃ r : Fin 34, r.val = j := ⟨⟨j, hj⟩, rfl⟩
  clear hj i
  revert p j
  decide +kernel

/-- Past the last tile the test fails. -/
theorem more_last (i : grid0.Coords) (s : St F) (h : s.n = BitVec.ofNat 32 (2 * (i 1).val + 2)) : ¬more i s = 1#1 := by
  have e : Scalar.cmpi .sle s.n (Scalar.subi (Scalar.addi (Scalar.muli 2#32 (BitVec.ofNat 32 (i 1).val)) 2#32) 1#32) = 0#1 := by
    rw [h]
    obtain ⟨p, hp⟩ : ∃ p : Fin 16, (i 1).val = p.val := ⟨i 1, rfl⟩
    rw [hp]
    clear hp h
    revert p
    decide +kernel
  unfold more
  rw [e]
  unfold Scalar.andi IntOp.andi
  rw [BitVec.zero_and]
  decide

/-- A trip counts one up. -/
theorem next_word {n : BitVec 32} (p k : ℕ) (hs : n = BitVec.ofNat 32 (2 * p + 2 - (k + 1))) (hk : k + 1 ≤ 2 * p) :
    Scalar.addi n 1#32 = BitVec.ofNat 32 (2 * p + 2 - k) := by
  rw [hs]
  unfold Scalar.addi IntOp.addi
  rw [← BitVec.ofNat_add]
  congr 1
  omega

section Label

variable (c : Dev nD) (i : grid0.Coords) (X : Blk F)
  (ak : Memref sig .tc .vmem S8192x512 .bf16) (hk : ak.IsWhole) (av : Memref sig .tc .vmem S8192x512 .bf16) (hv : av.IsWhole)
  (aq : Memref sig .tc .vmem S512x512 .bf16) (hq : aq.IsWhole)

/-- The buffers the tiles read. -/
def held : sProp 𝕄 :=
  iprop(owns (c : Thread nD τ) ak fullShare X.k ∗ owns (c : Thread nD τ) av fullShare X.v ∗ owns (c : Thread nD τ) aq fullShare X.q)

/-- What the loop carries in registers. -/
abbrev Regs (F : FTy → Type) : Type :=
  BitVec 32 × FVec F S256x1 .f32 × FVec F S256x128 .f32 × FVec F S256x128 .f32 × FVec F S256x1 .f32 × FVec F S256x128 .f32 × FVec F S256x128 .f32
    × FVec F S256x1 .f32 × FVec F S256x128 .f32 × FVec F S256x128 .f32 × FVec F S256x1 .f32 × FVec F S256x128 .f32 × FVec F S256x128 .f32
    × FVec F S256x1 .f32 × FVec F S256x128 .f32 × FVec F S256x128 .f32 × FVec F S256x1 .f32 × FVec F S256x128 .f32 × FVec F S256x128 .f32
    × FVec F S256x1 .f32 × FVec F S256x128 .f32 × FVec F S256x128 .f32 × FVec F S256x1 .f32 × FVec F S256x128 .f32 × FVec F S256x128 .f32

def carried (s : St F) : Regs F :=
  (s.n, (s.c 0).carry, (s.c 0).hi, (s.c 0).lo, (s.c 1).carry, (s.c 1).hi, (s.c 1).lo, (s.c 2).carry, (s.c 2).hi, (s.c 2).lo,
    (s.c 3).carry, (s.c 3).hi, (s.c 3).lo, (s.c 4).carry, (s.c 4).hi, (s.c 4).lo, (s.c 5).carry, (s.c 5).hi, (s.c 5).lo,
    (s.c 6).carry, (s.c 6).hi, (s.c 6).lo, (s.c 7).carry, (s.c 7).hi, (s.c 7).lo)

/-- The label's arguments at a state. -/
def args (s : St F) : Cc0While1 F :=
  ⟨i, ak, hk, aq, hq, triE, av, hv, s.n, (s.c 0).carry, (s.c 0).hi, (s.c 0).lo, (s.c 1).carry, (s.c 1).hi, (s.c 1).lo,
    (s.c 2).carry, (s.c 2).hi, (s.c 2).lo, (s.c 3).carry, (s.c 3).hi, (s.c 3).lo, (s.c 4).carry, (s.c 4).hi, (s.c 4).lo,
    (s.c 5).carry, (s.c 5).hi, (s.c 5).lo, (s.c 6).carry, (s.c 6).hi, (s.c 6).lo, (s.c 7).carry, (s.c 7).hi, (s.c 7).lo⟩

/-- The label's body at a state. -/
theorem label_eq (s : St F) : defs₀ (F := F) .tc 1 (args i ak hk av hv aq hq s)
    = cc0_while1_skel i ak hk aq hq triE av hv s.n (s.c 0).carry (s.c 0).hi (s.c 0).lo (s.c 1).carry (s.c 1).hi (s.c 1).lo
      (s.c 2).carry (s.c 2).hi (s.c 2).lo (s.c 3).carry (s.c 3).hi (s.c 3).lo (s.c 4).carry (s.c 4).hi (s.c 4).lo
      (s.c 5).carry (s.c 5).hi (s.c 5).lo (s.c 6).carry (s.c 6).hi (s.c 6).lo (s.c 7).carry (s.c 7).hi (s.c 7).lo := by
  rw [← cc0_while1_eq_skeleton]
  rfl

/-- From the buffers, to the buffers and the registers after at most `k` trips. -/
def spec (k : ℕ) (s : St F) : sWPT 𝕄 (Regs F) := do
  sWPT.consume (held c X ak av aq)
  sWPT.produce (held c X ak av aq)
  pure (carried (loop i X k s))

theorem spec_apply (k : ℕ) (s : St F) (K : _ → sProp 𝕄) :
    spec c i X ak av aq k s K = iprop(held c X ak av aq ∗ (held c X ak av aq -∗ K (carried (loop i X k s)))) := rfl

set_option maxHeartbeats 2000000 in
theorem spec_le : ∀ (k : ℕ) (s : St F), s.n = BitVec.ofNat 32 (2 * (i 1).val + 2 - k) → k ≤ 2 * (i 1).val → ∀ K,
    spec c i X ak av aq k s K
      ⊢ wp frame (wpE (defs₀ (F := F)) Variants.nat (c : Thread nD τ) (some k)) Set.univ
          (defs₀ (F := F) .tc 1 (args i ak hk av hv aq hq s)) K := by
  intro k
  induction k with
  | zero =>
    intro s hs _ K
    rw [spec_apply, label_eq]
    unfold cc0_while1_skel
    have hm : ¬more i s = 1#1 := more_last i s hs
    unfold more at hm
    simp only [hm, ↓reduceIte, Prog.pure_eq_ret]
    iintro ⟨H, Hk⟩
    rw [wp_ret]; imodintro
    have e : loop i X 0 s = s := rfl
    rw [e]
    unfold carried
    iapply Hk
    iexact H
  | succ k ih =>
    intro s hs hk' K
    rw [spec_apply, label_eq]
    unfold cc0_while1_skel
    by_cases hm : more i s = 1#1
    · have hm' := hm
      unfold more at hm'
      simp only [hm', ↓reduceIte]
      simp only [k0_part21_eq_skeleton, k0_part22_eq_skeleton, k0_part23_eq_skeleton, k0_part24_eq_skeleton,
        k0_part25_eq_skeleton, k0_part26_eq_skeleton, k0_part27_eq_skeleton, k0_part28_eq_skeleton, k0_part29_eq_skeleton]
      unfold k0_part21_skel k0_part22_skel k0_part23_skel k0_part24_skel k0_part25_skel k0_part26_skel k0_part27_skel k0_part28_skel k0_part29_skel
      simp only [Prog.lift, Prog.bind_op, Prog.bind_ret, Prog.pure_eq_ret]
      unfold held
      iintro ⟨⟨Hk, Hv, Hq⟩, HK⟩
      iapply (wp_assume Variants.nat (c : Thread nD τ) (some (k + 1)) Set.univ (by rw [hs]; exact chk_of_le i _ (by have := (i 1).isLt; have : (i 1).val < 16 := this; omega)))
      iterate 8
        iapply (load_rows (some (k + 1)) c K) $$ Hk; iintro Hk
        iapply (load_block (some (k + 1)) c K) $$ Hq; iintro Hq
        iapply (load_rows (some (k + 1)) c K) $$ Hv; iintro Hv
      iapply (wp_call_spec Variants.nat (c : Thread nD τ) (some (k + 1)) Set.univ (spec c i X ak av aq k (step i X Mask.off s)) k
        (fun u hu => by cases hu; exact Nat.lt_succ_self k)
        (ih (step i X Mask.off s) (next_word _ _ hs hk') (by omega)))
      rw [spec_apply]
      unfold held
      isplitl [Hk Hv Hq]
      · isplitl [Hk]; · iexact Hk
        isplitl [Hv]; · iexact Hv
        iexact Hq
      iintro H
      rw [wp_ret]; imodintro
      have e : loop i X (k + 1) s = loop i X k (step i X Mask.off s) := if_pos hm
      rw [e]
      iapply HK
      iexact H
    · have hm' := hm
      unfold more at hm'
      have e : loop i X (k + 1) s = s := if_neg hm
      rw [e]
      simp only [hm', ↓reduceIte, Prog.pure_eq_ret]
      iintro ⟨H, Hk⟩
      rw [wp_ret]; imodintro
      unfold carried
      iapply Hk
      iexact H

end Label

end Cert.KernelFwdIdeal.Fwd

end

end
-- ==== Proof.Fwd.Body.lean ====
/-
One grid point of the attention's forward call: from the point's blocks to its two blocks of results.
-/
module

public import proofs.«01_k».proof.Proof.Fwd.Loop

@[expose] public section

set_option maxRecDepth 16384

noncomputable section

namespace Cert.KernelFwdIdeal.Fwd

open Cert.KernelFwdIdeal Cert.KernelFwdIdeal.Gen
open Cert.KernelSbIdeal.Sb (Mask triE Rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A block written by the first chains, each over its rows of its head. -/
def written (f : Fin 8 → Rows F) (x : Vec F S512x512 .f32) : (n : ℕ) → n ≤ 8 → Vec F S512x512 .f32
  | 0, _ => x
  | n + 1, h => VecWindow.put (written f x n (Nat.le_of_succ_le h)) (offQ ⟨n, h⟩) S256x128.size (f ⟨n, h⟩)

/-- A point's two results: the attention in half precision, and with the part that loses. -/
def outHi (s : St F) (x : Vec F S512x512 .f32) : Vec F S512x512 .f32 := written (fun c => (s.c c).hi) x 8 le_rfl
def outBoth (s : St F) (x : Vec F S512x512 .f32) : Vec F S512x512 .f32 := written (fun c => addf (s.c c).hi (s.c c).lo) x 8 le_rfl

section Run

variable (c : Dev nD) (i : grid0.Coords) (arg2 : Memref sig .tc .vmem S512x512 .bf16) (harg2 : arg2.IsWhole)
  (arg3 : Memref sig .tc .vmem S8192x512 .bf16) (harg3 : arg3.IsWhole) (arg4 : Memref sig .tc .vmem S8192x512 .bf16) (harg4 : arg4.IsWhole)
  (arg5 : Memref sig .tc .vmem S512x512 .f32) (harg5 : arg5.IsWhole) (arg6 : Memref sig .tc .vmem S512x512 .f32) (harg6 : arg6.IsWhole)

set_option maxHeartbeats 4000000 in
theorem body_run (q : Vec F S512x512 .bf16) (k v : Vec F S8192x512 .bf16) (x5 x6 : Vec F S512x512 .f32) (K : PUnit → sProp 𝕄) :
    iprop((owns (c : Thread nD τ) arg2 fullShare q ∗ owns (c : Thread nD τ) arg3 fullShare k ∗ owns (c : Thread nD τ) arg4 fullShare v
        ∗ owns (c : Thread nD τ) arg5 fullShare x5 ∗ owns (c : Thread nD τ) arg6 fullShare x6)
      ∗ ((owns (c : Thread nD τ) arg2 fullShare q ∗ owns (c : Thread nD τ) arg3 fullShare k ∗ owns (c : Thread nD τ) arg4 fullShare v
        ∗ owns (c : Thread nD τ) arg5 fullShare (outHi (pass i ⟨q, k, v⟩) x5)
        ∗ owns (c : Thread nD τ) arg6 fullShare (outBoth (pass i ⟨q, k, v⟩) x6)) -∗ K ⟨⟩))
      ⊢ wp frame (wpE (defs₀ (F := F)) Variants.nat (c : Thread nD τ) none) Set.univ
          (cc0_sb_fwd i arg2 harg2 arg3 harg3 arg4 harg4 arg5 harg5 arg6 harg6) K := by
  rw [cc0_sb_fwd_eq_skeleton]
  unfold cc0_sb_fwd_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton]
  unfold k0_part1_skel k0_part2_skel k0_part3_skel k0_part4_skel k0_part5_skel k0_part6_skel k0_part7_skel k0_part8_skel k0_part9_skel
    k0_part10_skel k0_part11_skel k0_part12_skel k0_part13_skel
  simp only [Prog.lift, Prog.bind_op, Prog.bind_ret, Prog.pure_eq_ret]
  iintro ⟨⟨H2, H3, H4, H5, H6⟩, HK⟩
  iterate 16
    iapply (load_rows none c K) $$ H3; iintro H3
    iapply (load_block none c K) $$ H2; iintro H2
    iapply (load_rows none c K) $$ H4; iintro H4
  simp only [k0_part14_eq_skeleton, k0_part15_eq_skeleton, k0_part16_eq_skeleton, k0_part17_eq_skeleton, k0_part18_eq_skeleton,
    k0_part19_eq_skeleton, k0_part20_eq_skeleton]
  unfold k0_part14_skel k0_part15_skel k0_part16_skel k0_part17_skel k0_part18_skel k0_part19_skel k0_part20_skel
  simp only [Prog.lift, Prog.bind_op, Prog.bind_ret, Prog.pure_eq_ret]
  iapply (wp_call_spec Variants.nat (c : Thread nD τ) none Set.univ
    (spec c i ⟨q, k, v⟩ arg3 arg4 arg2 (2 * (i 1).val) (early i ⟨q, k, v⟩)) (2 * (i 1).val)
    (fun u hu => nomatch hu)
    (spec_le c i ⟨q, k, v⟩ arg3 harg3 arg4 harg4 arg2 harg2 (2 * (i 1).val) (early i ⟨q, k, v⟩) (by rw [Nat.add_sub_cancel_left]; rfl) le_rfl))
  rw [spec_apply]
  unfold held
  isplitl [H2 H3 H4]
  · isplitl [H3]; · iexact H3
    isplitl [H4]; · iexact H4
    iexact H2
  iintro ⟨H3, H4, H2⟩
  iterate 8
    iapply (load_block none c K) $$ H5; iintro H5
    iapply (store_block none c K) $$ H5; iintro H5
    iapply (load_block none c K) $$ H6; iintro H6
    iapply (store_block none c K) $$ H6; iintro H6
  rw [wp_ret]
  imodintro
  iapply HK
  isplitl [H2]; · iexact H2
  isplitl [H3]; · iexact H3
  isplitl [H4]; · iexact H4
  isplitl [H5]; · iexact H5
  iexact H6

end Run

end Cert.KernelFwdIdeal.Fwd

end

end
-- ==== Proof.Fwd.Frame.lean ====
/-
The attention's forward call as a launch: its grid points' bodies meet their obligations, and the launch ends with the
argument as it found it and each array of results at what the points wrote.
-/
module

public import proofs.«01_k».proof.Proof.Fwd.Body
public import proofs.«01_k».proof.Proof.Gen.KernelFwdIdeal.Launch

@[expose] public section

set_option maxRecDepth 16384

noncomputable section

namespace Cert.KernelFwdIdeal.Fwd

open Cert.KernelFwdIdeal Cert.KernelFwdIdeal.Gen
open Cert.KernelSbIdeal.Sb (Rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The chain an element of a block belongs to, and where in the chain it lies. -/
def chainOf (z : S512x512.Idx) : Fin 8 := ⟨(z 1).val / 128 * 2 + (z 0).val / 256, by
  have h0 : (z 0).val < 512 := (z 0).isLt
  have h1 : (z 1).val < 512 := (z 1).isLt
  omega⟩
def inChain (z : S512x512.Idx) : S256x128.Idx := fun a => match a with
  | ⟨0, _⟩ => ⟨(z 0).val % 256, Nat.mod_lt _ (by decide)⟩
  | ⟨1, _⟩ => ⟨(z 1).val % 128, Nat.mod_lt _ (by decide)⟩

/-- The first chains write what is theirs. -/
theorem written_upTo (f : Fin 8 → Rows F) (x : Vec F S512x512 .f32) (z : S512x512.Idx) : ∀ (n : ℕ) (h : n ≤ 8),
    written f x n h z = if (chainOf z).val < n then f (chainOf z) (inChain z) else x z
  | 0, _ => (if_neg (Nat.not_lt_zero _)).symm
  | n + 1, h => by
    have ih := written_upTo f x z n (Nat.le_of_succ_le h)
    have h0 : (z 0).val < 512 := (z 0).isLt
    have h1 : (z 1).val < 512 := (z 1).isLt
    have hc : (chainOf z).val = (z 1).val / 128 * 2 + (z 0).val / 256 := rfl
    unfold written VecWindow.put
    by_cases hz : (chainOf z).val = n
    · have hw : ∀ a, offQ ⟨n, h⟩ a ≤ (z a).val ∧ (z a).val < offQ ⟨n, h⟩ a + S256x128.size a := by
        rw [Fin.forall_fin_two]
        show (256 * (n % 2) ≤ (z 0).val ∧ (z 0).val < 256 * (n % 2) + 256) ∧ (128 * (n / 2) ≤ (z 1).val ∧ (z 1).val < 128 * (n / 2) + 128)
        omega
      rw [dif_pos hw, if_pos (by omega)]
      have e : (⟨n, h⟩ : Fin 8) = chainOf z := Fin.ext hz.symm
      refine congrArg₂ f e (funext fun a => Fin.ext ?_)
      match a with
      | ⟨0, _⟩ =>
        show (z 0).val - 256 * (n % 2) = (z 0).val % 256
        omega
      | ⟨1, _⟩ =>
        show (z 1).val - 128 * (n / 2) = (z 1).val % 128
        omega
    · have hw : ¬∀ a, offQ ⟨n, h⟩ a ≤ (z a).val ∧ (z a).val < offQ ⟨n, h⟩ a + S256x128.size a := by
        rw [Fin.forall_fin_two]
        show ¬((256 * (n % 2) ≤ (z 0).val ∧ (z 0).val < 256 * (n % 2) + 256) ∧ (128 * (n / 2) ≤ (z 1).val ∧ (z 1).val < 128 * (n / 2) + 128))
        omega
      rw [dif_neg hw, ih]
      by_cases hl : (chainOf z).val < n
      · rw [if_pos hl, if_pos (by omega)]
      · rw [if_neg hl, if_neg (by omega)]

/-- The eight chains cover the block. -/
theorem written_all (f : Fin 8 → Rows F) (x : Vec F S512x512 .f32) (z : S512x512.Idx) : written f x 8 le_rfl z = f (chainOf z) (inChain z) :=
  (written_upTo f x z 8 le_rfl).trans (if_pos (chainOf z).isLt)

/-- So what they write does not depend on what was there. -/
theorem written_eq (f : Fin 8 → Rows F) (x y : Vec F S512x512 .f32) : written f x 8 le_rfl = written f y 8 le_rfl :=
  funext fun z => (written_all f x z).trans (written_all f y z).symm

/-- A block for what nothing reads. -/
abbrev blank : Vec F S512x512 .f32 := constant S512x512 .f32 0x00000000#32

variable (m : (ℓ : Loc nD τ sig) → Buf (Elt F) ℓ) (ρ : Dev nD → PrngReg)

/-- A device's buffers at the launch. -/
abbrev V (c : Dev nD) (b : Ref sig .tc) : Buf (Elt F) ((c : Thread nD τ).loc b) := m ((c : Thread nD τ).loc b)

/-- A window's block at a point, read off its array as the launch finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The state a point's body ends in. -/
def final (c : Dev nD) (t : Fin (cfg0 (F := F)).N) : St F := pass (grid0.coords t) ⟨iblk m c 0 t, iblk m c 1 t, iblk m c 2 t⟩

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The launch's data: the arrays as found, each input buffer left at its block, each output buffer at what the point
computes. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outHi (final m c t) blank
    | ⟨4, _⟩ => outBoth (final m c t) blank
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]

/-- The input buffers hold their blocks at every point. -/
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => rfl) t d).trans rfl

/-- What a point's body is handed, -/
def given (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def handed (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem owns_eq (c : Dev nD) {sp : Space} {s : Shape} {e : EltTy} (b : Memref sig .tc sp s e) {X Y : s.Idx → Elt F e} (h : X = Y) :
    (owns (c : Thread nD τ) b fullShare X : sProp 𝕄) ⊢ owns (c : Thread nD τ) b fullShare Y := h ▸ .rfl

/-- A point's body. -/
theorem sound (c : Dev nD) (t : Fin (cfg0 (F := F)).N) :
    given m c t ⊢ wp frame (wpE (defs₀ (F := F)) Variants.nat c none) Set.univ (bodyAt0 t) (fun _ => handed m c t) := by
  unfold given handed bodyAt0
  simp only [before_0, before_1, before_2]
  iintro ⟨HI, Ho, ⟨%d0, H0⟩, ⟨%d1, H1⟩, ⟨%d2, H2⟩, ⟨%d3, H3⟩, ⟨%d4, H4⟩⟩
  iapply (body_run c (grid0.coords t) (st0_0 t) _ (st0_1 t) _ (st0_2 t) _ (st0_3 t) _ (st0_4 t) _
    (iblk m c 0 t) (iblk m c 1 t) (iblk m c 2 t) ((dats m 0 c).before 3 t d3) ((dats m 0 c).before 4 t d4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  rw [show (dats m 0 c).Φ t.succ = (dats m 0 c).Φ t.castSucc from rfl]
  isplitl [HI]; · iexact HI
  isplitl [Ho]; · iexact Ho
  isplitl [H0]; · iexact H0
  isplitl [H1]; · iexact H1
  isplitl [H2]; · iexact H2
  isplitl [H3]
  · iapply (owns_eq c (st0_3 t) (written_eq (fun x => ((final m c t).c x).hi) ((dats m 0 c).before 3 t d3) blank))
    iexact H3
  · iapply (owns_eq c (st0_4 t) (written_eq (fun x => addf ((final m c t).c x).hi ((final m c t).c x).lo) ((dats m 0 c).before 4 t d4) blank))
    iexact H4

theorem row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body at every point. -/
theorem obligation (c : Dev nD) : BodyObligation (dats (F := F) m 0 c) (defs₀ (F := F)) Variants.nat () Set.univ := fun t => by
  rw [bigSep_W0, bigSep_W0, row]
  exact triple_restated (sound m c t) rfl .rfl fun _ => .rfl

set_option backward.isDefEq.respectTransparency.types false in
/-- The launch ends, each array at what the points left, every counter at zero. -/
theorem run : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.nat m ρ main
    (hbody := fun c => (obligation m c).loose) (hq := fun _ _ _ => rfl)
    (howed := fun _ _ => rfl) (V := V m) (hmain := hmain m Variants.nat) (hA := A_eq m) (hΦ := fun _ _ => rfl)

/-- The launch ends with the argument as it found it and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => ((h.1 c).1 0).trans ((dats m 0 c).arrAt_in 0 rfl _), h.2⟩) (run m ρ)

end Cert.KernelFwdIdeal.Fwd

end

end
-- ==== Proof.Fwd.Pass.lean ====
/-
A grid point of the attention's forward pass over the reals: the threshold of the early exit is −∞, so the loop makes all its trips,
and its eight chains end with their rows of the result.
-/
module

public import proofs.«01_k».proof.Proof.Fwd.Real
public import proofs.«01_k».proof.Proof.Fwd.Frame

@[expose] public section

set_option maxRecDepth 16384

noncomputable section

namespace Cert.KernelFwdIdeal.Fwd

open Idealize.ShloMosaic Cert.KernelFwdIdeal Cert.KernelFwdIdeal.Gen Cert.Common Cert.Stick Finset
open Cert.KernelSbIdeal.Sb (Sq Col Rows Mask col rows block IsMask IsCarry IsTile)

/-- An array of the sequence and a block of rows, of reals. -/
def wide (f : ℕ → ℕ → ℝ) : S8192x512.Idx → EReal := fun i => ((f (i 0).val (i 1).val : ℝ) : EReal)
def part (f : ℕ → ℕ → ℝ) : S512x512.Idx → EReal := fun i => ((f (i 0).val (i 1).val : ℝ) : EReal)

/-- Four heads side by side. -/
def four (f : ℕ → ℕ → ℕ → ℝ) (s e : ℕ) : ℝ := f (e / 128) s (e % 128)

theorem four_at (f : ℕ → ℕ → ℕ → ℝ) (s b e : ℕ) (he : e < 128) : four f s (128 * b + e) = f b s e := by
  unfold four
  rw [show (128 * b + e) / 128 = b by omega, show (128 * b + e) % 128 = e by omega]

theorem pick_four (f : ℕ → ℕ → ℕ → ℝ) (j b : ℕ) (hj : j + 256 ≤ 8192) (hb : b < 4) : pick (wide (four f)) ![j, 128 * b] = block (f b) j := by
  funext y
  have h0 : (y 0).val < 256 := (y 0).isLt
  have h1 : (y 1).val < 128 := (y 1).isLt
  show ((four f ((j + (y 0).val) % 8192) ((128 * b + (y 1).val) % 512) : ℝ) : EReal) = ((f b (j + (y 0).val) (y 1).val : ℝ) : EReal)
  rw [Nat.mod_eq_of_lt (show j + (y 0).val < 8192 by omega), Nat.mod_eq_of_lt (show 128 * b + (y 1).val < 512 by omega), four_at f _ _ _ h1]

theorem pickQ_four (f : ℕ → ℕ → ℕ → ℝ) (t0 j b : ℕ) (hj : j + 256 ≤ 512) (hb : b < 4) :
    pickQ (part (fun r => four f (t0 + r))) ![j, 128 * b] = block (f b) (t0 + j) := by
  funext y
  have h0 : (y 0).val < 256 := (y 0).isLt
  have h1 : (y 1).val < 128 := (y 1).isLt
  show ((four f (t0 + (j + (y 0).val) % 512) ((128 * b + (y 1).val) % 512) : ℝ) : EReal) = ((f b (t0 + j + (y 0).val) (y 1).val : ℝ) : EReal)
  rw [Nat.mod_eq_of_lt (show j + (y 0).val < 512 by omega), Nat.mod_eq_of_lt (show 128 * b + (y 1).val < 512 by omega), four_at f _ _ _ h1,
    Nat.add_assoc]

/-- The greatest of the carried columns is above −∞ while the second is real. -/
theorem above (a b c d e f g h : Col Ideal) (u : ℕ → ℝ) (hb : b = col u) : (⊥ : EReal) < k0_pay1 a b c d e f g h := by
  refine Cert.KernelSbIdeal.Sb.above_of_entry _ (.inl rfl) rfl (fun a => ⟨0, by revert a; decide⟩) ?_ _
  refine lt_of_lt_of_le ?_ ((le_max_right _ _).trans ((le_max_left _ _).trans ((le_max_left _ _).trans ((le_max_left _ _).trans
    ((le_max_left _ _).trans ((le_max_left _ _).trans (le_max_left _ _)))))))
  rw [hb]
  exact EReal.bot_lt_coe _

/-- The blocks of point `x` of four heads. -/
structure IsBlk (H : ℕ → Head) (x : ℕ) (X : Blk Ideal) : Prop where
  q : X.q = part (fun r => four (fun b => (H b).q) (512 * x + r))
  k : X.k = wide (four fun b => (H b).k)
  v : X.v = wide (four fun b => (H b).v)

/-- The eight chains after `n` tiles of point `x`. -/
structure PassInv (H : ℕ → Head) (x n : ℕ) (s : St Ideal) : Prop where
  tile : s.n = BitVec.ofNat 32 n
  chain : ∀ y : Fin 8, Inv (H (y.val / 2)) (2 * x + y.val % 2) n (s.c y)

section Step

variable {H : ℕ → Head} {i : grid0.Coords} {X : Blk Ideal} {n : ℕ} {s : St Ideal}

theorem pass_step (hsc : ∀ b, (H b).sc = scale) (hx : (i 1).val < 16) (hX : IsBlk H (i 1).val X) (h : PassInv H (i 1).val n s)
    (hn : n ≤ 2 * (i 1).val + 1) (M : BitVec 32 → Mask Ideal) (hM : M = if n = 0 then fun _ => Mask.diag else Mask.off) :
    PassInv H (i 1).val (n + 1) (step i X M s) := by
  refine ⟨?_, fun y => ?_⟩
  · show Scalar.addi s.n 1#32 = _
    rw [h.tile]
    exact (BitVec.ofNat_add n 1).symm
  · have hy := y.isLt
    have o : off i s.n y = ![256 * (2 * (i 1).val + y.val % 2 - n), 128 * (y.val / 2)] := by
      rw [h.tile]
      exact congrArg (fun w => ![w, 128 * (y.val / 2)])
        (Cert.KernelSbIdeal.Sb.offset_num ⟨_, hx⟩ ⟨y.val % 2, Nat.mod_lt _ (by decide)⟩ ⟨n, by omega⟩)
    have m : IsTile (2 * (i 1).val + y.val % 2) n (M (word i (half y) s.n)) := by
      unfold IsTile
      rw [hM]
      split_ifs with h0
      · rfl
      · refine ⟨_, rfl, ?_⟩
        rw [h.tile]
        exact Cert.KernelSbIdeal.Sb.word_nonneg ⟨_, hx⟩ ⟨y.val % 2, Nat.mod_lt _ (by decide)⟩ ⟨n, by omega⟩
    have q : pickQ X.q (offQ y) = block (H (y.val / 2)).q (256 * (2 * (i 1).val + y.val % 2)) := by
      rw [hX.q]
      exact (pickQ_four _ _ (256 * (y.val % 2)) (y.val / 2) (by omega) (by omega)).trans (congrArg _ (by omega))
    have k : pick X.k (off i s.n y) = block (H (y.val / 2)).k (256 * (2 * (i 1).val + y.val % 2 - n)) := by
      rw [o, hX.k]
      exact pick_four _ _ _ (by omega) (by omega)
    have v : pick X.v (off i s.n y) = block (H (y.val / 2)).v (256 * (2 * (i 1).val + y.val % 2 - n)) := by
      rw [o, hX.v]
      exact pick_four _ _ _ (by omega) (by omega)
    show Inv _ _ _ (next (M (word i (half y) s.n)) (pickQ X.q (offQ y)) (pick X.k (off i s.n y)) (pick X.v (off i s.n y)) (s.c y))
    rw [q, k, v]
    exact inv_step _ (hsc _) (by omega) (h.chain y) m

theorem more_eq (hx : (i 1).val < 16) (h : PassInv H (i 1).val n s) (hn : n ≤ 2 * (i 1).val + 1) : more i s = 1#1 := by
  have a : Scalar.cmpi .sle s.n (Scalar.subi (Scalar.addi (Scalar.muli 2#32 (BitVec.ofNat 32 (i 1).val)) 2#32) 1#32) = 1#1 := by
    rw [h.tile]
    exact Cert.KernelSbIdeal.Sb.trips_word ⟨_, hx⟩ ⟨n, by omega⟩ hn
  have k : (Named.named (F := Ideal) κ "dead" (φ := .f32) 0xC2DC0000#32 : EReal) = ⊥ :=
    (IdealRules.named_const.statement (κ := κ) "dead" .f32 0xC2DC0000#32 ⊥ rfl).2.2
  have b : Scalar.cmpf (F := Ideal) .ogt (k0_pay1 (s.c 0).carry (s.c 1).carry (s.c 2).carry (s.c 3).carry (s.c 4).carry (s.c 5).carry
      (s.c 6).carry (s.c 7).carry) (Named.named κ "dead" 0xC2DC0000#32) = 1#1 := by
    have c := above (s.c 0).carry (s.c 1).carry (s.c 2).carry (s.c 3).carry (s.c 4).carry (s.c 5).carry (s.c 6).carry (s.c 7).carry _
      ((h.chain 1).carry (show n ≤ 2 * (i 1).val + 1 + 1 by omega))
    rw [k]
    show Ideal.cmp .ogt _ _ = _
    unfold Ideal.cmp
    dsimp only
    rw [decide_eq_true c]
    rfl
  unfold more
  rw [a, b]
  rfl

theorem pass_loop (hsc : ∀ b, (H b).sc = scale) (hx : (i 1).val < 16) (hX : IsBlk H (i 1).val X) (k : ℕ) :
    ∀ (n : ℕ) (s : St Ideal), 1 ≤ n → n + k = 2 * (i 1).val + 2 → PassInv H (i 1).val n s →
      PassInv H (i 1).val (2 * (i 1).val + 2) (loop i X k s) := by
  induction k with
  | zero => intro n s _ e h; rw [← e]; exact h
  | succ k ih =>
    intro n s h1 e h
    unfold loop
    rw [if_pos (more_eq hx h (by omega))]
    exact ih (n + 1) _ (by omega) (by omega) (pass_step hsc hx hX h (by omega) _ (if_neg (by omega)).symm)

/-- A point's tiles. -/
theorem pass_real (hsc : ∀ b, (H b).sc = scale) (hx : (i 1).val < 16) (hX : IsBlk H (i 1).val X) :
    PassInv H (i 1).val (2 * (i 1).val + 2) (pass i X) := by
  have h0 : PassInv H (i 1).val 0 (start (F := Ideal)) := ⟨rfl, fun y => inv_zero _ _⟩
  have h1 := pass_step hsc hx hX h0 (by omega) (fun _ => Mask.diag) rfl
  have h2 := pass_step hsc hx hX h1 (by omega) Mask.off rfl
  exact pass_loop hsc hx hX (2 * (i 1).val) 2 _ (by omega) (by omega) h2

/-- Both of a point's blocks are its heads' results. -/
theorem outHi_real {x : ℕ} (h : PassInv H x (2 * x + 2) s) (z : Vec Ideal S512x512 .f32) :
    outHi s z = part (fun r => four (fun b => (H b).out) (512 * x + r)) := by
  funext i
  have h0 : (i 0).val < 512 := (i 0).isLt
  have h1 : (i 1).val < 512 := (i 1).isLt
  have hc : (chainOf i).val = (i 1).val / 128 * 2 + (i 0).val / 256 := rfl
  unfold outHi
  rw [written_all]
  rw [whole _ _ _ (by omega) _ (h.chain (chainOf i))]
  show (((H ((chainOf i).val / 2)).out (256 * (2 * x + (chainOf i).val % 2) + (i 0).val % 256) ((i 1).val % 128) : ℝ) : EReal)
    = (((H ((i 1).val / 128)).out (512 * x + (i 0).val) ((i 1).val % 128) : ℝ) : EReal)
  rw [show (chainOf i).val / 2 = (i 1).val / 128 by omega, show 256 * (2 * x + (chainOf i).val % 2) + (i 0).val % 256 = 512 * x + (i 0).val by omega]

theorem outBoth_real {x : ℕ} (h : PassInv H x (2 * x + 2) s) (z : Vec Ideal S512x512 .f32) :
    outBoth s z = part (fun r => four (fun b => (H b).out) (512 * x + r)) := by
  rw [← outHi_real h z]
  unfold outBoth outHi
  refine congrArg (fun f => written f z 8 le_rfl) (funext fun y => ?_)
  rw [(h.chain y).lo, (h.chain y).hi]
  exact (Cert.KernelSbIdeal.Sb.addf_rows _ _).trans (Cert.KernelSbIdeal.Sb.rows_congr fun _ _ _ _ => add_zero _)

end Step

end Cert.KernelFwdIdeal.Fwd

end

end
-- ==== Proof.Fwd.Points.lean ====
/-
The blocks of the attention's forward grid over the reals: each point is handed its rows of four heads' queries and the heads' keys
and values, and leaves their results in both arrays.
-/
module

public import proofs.«01_k».proof.Proof.Fwd.Pass
public import proofs.«01_k».proof.Proof.Sb.Forward
public import Idealize.ShloMosaic.Lib.Pipeline.Value
public import Idealize.ShloMosaic.Lib.Pipeline.ValueKit.Basic
public import Idealize.ShloMosaic.Lib.Pipeline.ValueKit

@[expose] public section

set_option maxRecDepth 16384

noncomputable section

namespace Cert.KernelFwdIdeal.Fwd

open Idealize.ShloMosaic Idealize.ShloMosaic.TcCoe Idealize.SL.Sem Cert.KernelFwdIdeal Cert.KernelFwdIdeal.Gen Cert.Common Cert.Stick Finset

variable (m : (ℓ : Loc nD τ sig) → Buf (Elt Ideal) ℓ) (c : Dev nD)

/-- The blocks' places in their arrays. -/
theorem places (t : Fin (cfg0 (F := Ideal)).N) :
    (win0_0.index t 0 = t.val % 16 ∧ win0_0.index t 1 = t.val / 16) ∧ (win0_1.index t 0 = 0 ∧ win0_1.index t 1 = 2 + t.val / 16)
    ∧ (win0_2.index t 0 = 0 ∧ win0_2.index t 1 = 4 + t.val / 16) ∧ (win0_3.index t 0 = t.val % 16 ∧ win0_3.index t 1 = t.val / 16)
    ∧ (win0_4.index t 0 = t.val % 16 ∧ win0_4.index t 1 = t.val / 16) := by
  revert t
  decide +kernel

theorem coord1 (t : Fin (cfg0 (F := Ideal)).N) : (grid0.coords t 1).val = t.val % 16 := by
  revert t
  decide +kernel

variable (x : ℕ → ℕ → ℝ)

/-- Four heads. -/
def heads (p b : ℕ) : Head := headOf x x (4 * p + b)

variable (hx : m ((c : Thread nD τ).loc main_arg0) = Cert.ReferenceSbIdeal.Sb.arg0 x)

theorem entry (f : ℕ → ℕ → ℝ) {a a' b b' : ℕ} (h : a = a') (h' : b = b') : ((f a b : ℝ) : EReal) = ((f a' b' : ℝ) : EReal) := by
  rw [h, h']

include hx in
theorem iblk_0 (t) : iblk m c 0 t = part (fun r => four (fun b => (heads x (t.val / 16) b).q) (512 * (t.val % 16) + r)) := by
  have e := (places t).1
  funext j
  have h1 : (j 1).val < 512 := (j 1).isLt
  unfold iblk
  blk_simp [V, hx]
  refine entry x ?_ ?_
  · blk_simp [e.1]; omega
  · blk_simp [e.2]; omega

include hx in
theorem iblk_1 (t) : iblk m c 1 t = wide (four fun b => (heads x (t.val / 16) b).k) := by
  have e := (places t).2.1
  funext j
  have h1 : (j 1).val < 512 := (j 1).isLt
  unfold iblk
  blk_simp [V, hx]
  refine entry x ?_ ?_
  · blk_simp [e.1]
  · blk_simp [e.2]; omega

include hx in
theorem iblk_2 (t) : iblk m c 2 t = wide (four fun b => (heads x (t.val / 16) b).v) := by
  have e := (places t).2.2.1
  funext j
  have h1 : (j 1).val < 512 := (j 1).isLt
  unfold iblk
  blk_simp [V, hx]
  refine entry x ?_ ?_
  · blk_simp [e.1]
  · blk_simp [e.2]; omega

include hx in
/-- What a point leaves. -/
theorem final_real (t : Fin (cfg0 (F := Ideal)).N) :
    PassInv (heads x (t.val / 16)) (t.val % 16) (2 * (t.val % 16) + 2) (final m c t) := by
  have e := coord1 t
  have h := pass_real (i := grid0.coords t) (H := heads x (t.val / 16)) (X := ⟨iblk m c 0 t, iblk m c 1 t, iblk m c 2 t⟩) (fun _ => rfl)
    (by rw [e]; omega) (by rw [e]; exact ⟨iblk_0 m c x hx t, iblk_1 m c x hx t, iblk_2 m c x hx t⟩)
  unfold final
  rwa [e] at h

theorem entry3 (f : ℕ → ℕ → ℕ → ℝ) {b b' s s' e e' : ℕ} (hb : b = b') (hs : s = s') (he : e = e') :
    ((f b s e : ℝ) : EReal) = ((f b' s' e' : ℝ) : EReal) := by
  rw [hb, hs, he]

include hx in
/-- The array of the results in half precision's first part, over the reals the results, -/
theorem arr_hi : (dats m 0 c).arrAt 3 (cfg0 (F := Ideal)).N = Cert.ReferenceSbIdeal.Sb.beside (fun h => (headOf x x h).out) := by
  refine (dats m 0 c).arrAt_eq_of_covers 3 _ (by decide +kernel) fun t hf j => ?_
  have e := (places t).2.2.2.1
  blk_simp
  show outHi (final m c t) blank _ = _
  rw [outHi_real (final_real m c x hx t)]
  have h1 : (j 1).val < 512 := (j 1).isLt
  refine entry3 (fun h => (headOf x x h).out) ?_ ?_ ?_
  · blk_simp [e.2]; omega
  · blk_simp [e.1]; omega
  · blk_simp [e.2]; omega

include hx in
/-- and the array of both parts' sums. -/
theorem arr_both : (dats m 0 c).arrAt 4 (cfg0 (F := Ideal)).N = Cert.ReferenceSbIdeal.Sb.beside (fun h => (headOf x x h).out) := by
  refine (dats m 0 c).arrAt_eq_of_covers 4 _ (by decide +kernel) fun t hf j => ?_
  have e := (places t).2.2.2.2
  blk_simp
  show outBoth (final m c t) blank _ = _
  rw [outBoth_real (final_real m c x hx t)]
  have h1 : (j 1).val < 512 := (j 1).isLt
  refine entry3 (fun h => (headOf x x h).out) ?_ ?_ ?_
  · blk_simp [e.2]; omega
  · blk_simp [e.1]; omega
  · blk_simp [e.2]; omega

end Cert.KernelFwdIdeal.Fwd

end

end
-- ==== Proof.Fwd.Results.lean ====
/-
The attention's forward results: from finite arguments the kernel and the reference both leave the stick model's results, head
beside head.
-/
module

public import proofs.«01_k».proof.Proof.Fwd.Points
public import proofs.«01_k».proof.Proof.Common.Reals
public import proofs.«01_k».proof.Proof.Gen.ReferenceFwdIdeal.Run
public import proofs.«01_k».proof.Proof.Gen.ReferenceFwdIdeal.Read
public import proofs.«01_k».proof.Defs

@[expose] public section

set_option maxRecDepth 16384

noncomputable section

open Idealize.ShloMosaic Idealize.ShloMosaic.TcCoe Idealize.SL.Sem Cert.Stick

namespace Cert.KernelFwdIdeal.Fwd

open Cert.KernelFwdIdeal Cert.KernelFwdIdeal.Gen
open Cert.ReferenceSbIdeal.Sb (arg0 beside)

variable (m : (ℓ : Loc nD τ sig) → Buf (Elt Ideal) ℓ)

/-- The argument's entries as real numbers. -/
def entries (c : Dev nD) (i j : ℕ) : ℝ :=
  EReal.toReal ((m (c.tc.loc main_arg0) : FVec Ideal S8192x10240 .bf16) (ix2 ⟨i % 8192, Nat.mod_lt _ (by decide)⟩ ⟨j % 10240, Nat.mod_lt _ (by decide)⟩))

/-- A finite argument is its real entries. -/
theorem finite_arg [Cert.Pre_finite_fwd.Facts] (h : Cert.Pre_KernelFwdIdeal_finite_fwd m) (c : Dev nD) :
    m (c.tc.loc main_arg0) = arg0 (entries m c) := by
  funext i
  obtain ⟨r, hr⟩ := Cert.Common.real_of_cmp (congrFun (h c) i)
  have e : (ix2 ⟨(i 0).val % 8192, Nat.mod_lt _ (by decide)⟩ ⟨(i 1).val % 10240, Nat.mod_lt _ (by decide)⟩ : S8192x10240.Idx) = i :=
    funext fun a => Fin.ext (match a with | ⟨0, _⟩ => Nat.mod_eq_of_lt (i 0).isLt | ⟨1, _⟩ => Nat.mod_eq_of_lt (i 1).isLt)
  unfold arg0 entries
  rw [e]
  have k : (m (c.tc.loc main_arg0) : FVec Ideal S8192x10240 .bf16) i = (r : EReal) := hr
  exact k.trans (congrArg (fun z : EReal => ((z.toReal : ℝ) : EReal)) k).symm

/-- The kernel's results. -/
theorem results [Cert.Pre_finite_fwd.Facts] (h : Cert.Pre_KernelFwdIdeal_finite_fwd m) (ρ : Dev nD → PrngReg) :
    θ_run (defs (F := Ideal)) (onTc (τ := τ) (main (F := Ideal))) ⟨m, fun _ => 0, ρ⟩ (fun r => ∀ c : Dev nD,
      r.2.mem (c.tc.loc main_v0_0) = beside (fun h => (headOf (entries m c) (entries m c) h).out)
      ∧ r.2.mem (c.tc.loc main_v0_1) = beside (fun h => (headOf (entries m c) (entries m c) h).out)
      ∧ r.2.mem (c.tc.loc main_arg0) = m (c.tc.loc main_arg0)) :=
  (θ_run defs _ _).mono (fun r g c =>
    ⟨((g.1 c).1 3).trans (arr_hi m c _ (finite_arg m h c)), ((g.1 c).1 4).trans (arr_both m c _ (finite_arg m h c)),
     ((g.1 c).1 0).trans ((dats m 0 c).arrAt_in 0 rfl _)⟩) (run m ρ)

/-- The score of a block above the diagonal, and the log-probability below which a row's chain is left: both −∞. -/
theorem constants : IdealRules.named_const.Statement κ "gone" .f32 0xF149F2CA#32 ⊥
    ∧ IdealRules.named_const.Statement κ "dead" .f32 0xC2DC0000#32 ⊥ :=
  ⟨IdealRules.named_const.statement _ _ _ _ _ rfl, IdealRules.named_const.statement _ _ _ _ _ rfl⟩

end Cert.KernelFwdIdeal.Fwd

namespace Cert.ReferenceFwdIdeal.Fwd

open Cert.ReferenceFwdIdeal Cert.ReferenceFwdIdeal.Value
open Cert.KernelFwdIdeal.Fwd (entries finite_arg)
open Cert.ReferenceSbIdeal.Sb (arg0 beside)

/-- The two forward passes are the same lines. -/
theorem same (x : (⟨S8192x10240, .bf16⟩ : BufTy).Contents (Elt Ideal)) :
    Cert.ReferenceFwdIdeal.Read.val_main_v32 (F := Ideal) x = Cert.ReferenceSbIdeal.Read.val_main_v32 (F := Ideal) x := rfl

/-- The reference ends with its argument as it found it. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem (c.tc.loc main_arg0) = m (c.tc.loc main_arg0)) ∧ r.2.sem = fun _ => 0) :=
  (θ_run defs _ _).mono (fun r h => ⟨fun c => (h c).2.2, sem_eq_zero_of_no_sems (by decide) r.2⟩) (Value.run m ρ)

variable (m : (ℓ : Loc Cert.KernelFwdIdeal.nD Cert.KernelFwdIdeal.τ Cert.KernelFwdIdeal.sig) → Buf (Elt Ideal) ℓ)
  (m' : (ℓ : Loc nD τ sig) → Buf (Elt Ideal) ℓ)

/-- The reference's results, from the same argument. -/
theorem results [Cert.Pre_finite_fwd.Facts] (h : Cert.Pre_KernelFwdIdeal_finite_fwd m)
    (hagree : ∀ c : Dev nD, m' (c.tc.loc main_arg0) = m (c.tc.loc Cert.KernelFwdIdeal.main_arg0)) (ρ : Dev nD → PrngReg) :
    θ_run (defs (F := Ideal)) (onTc (τ := τ) (main (F := Ideal))) ⟨m', fun _ => 0, ρ⟩ (fun r => ∀ c : Dev nD,
      r.2.mem (c.tc.loc main_v32) = beside (fun h => (headOf (entries m c) (entries m c) h).out)
      ∧ r.2.mem (c.tc.loc main_v32) = beside (fun h => (headOf (entries m c) (entries m c) h).out)
      ∧ r.2.mem (c.tc.loc main_arg0) = m' (c.tc.loc main_arg0)) := by
  refine (θ_run defs _ _).mono (fun r g c => ?_) (Value.run m' ρ)
  have l : m' (c.tc.loc main_arg0) = arg0 (entries m c) := (hagree c).trans (finite_arg m h c)
  obtain ⟨r0, -, hargs⟩ := g c
  have e : r.2.mem (c.tc.loc main_v32) = beside (fun h => (headOf (entries m c) (entries m c) h).out) := by
    refine r0.trans (Eq.trans ?_ ((same _).trans (Cert.ReferenceSbIdeal.Sb.v32_real (entries m c))))
    rw [← l]
    rfl
  exact ⟨e, e, hargs⟩

end Cert.ReferenceFwdIdeal.Fwd

end

end
-- ==== Proof.lean ====
module

public import proofs.«01_k».proof.Defs
public import proofs.«01_k».proof.Proof.Gen.KernelSmall
public import proofs.«01_k».proof.Proof.Gen.KernelSmall.Skeleton
public import proofs.«01_k».proof.Proof.Gen.KernelSmall.Launch
public import proofs.«01_k».proof.Proof.Gen.KernelSmall.Points
public import proofs.«01_k».proof.Proof.Gen.KernelSmall.Frame
public import proofs.«01_k».proof.Proof.Gen.KernelSmallIdeal
public import proofs.«01_k».proof.Proof.Gen.KernelSmallIdeal.Skeleton
public import proofs.«01_k».proof.Proof.Gen.KernelSmallIdeal.Launch
public import proofs.«01_k».proof.Proof.Gen.KernelSmallIdeal.Points
public import proofs.«01_k».proof.Proof.Gen.KernelSmallIdeal.Frame
public import proofs.«01_k».proof.Proof.Gen.ReferenceSmallIdeal
public import proofs.«01_k».proof.Proof.Gen.Pre_finite_small
public import proofs.«01_k».proof.Proof.Gen.ReferenceSmallIdeal.Run
public import proofs.«01_k».proof.Proof.Gen.ReferenceSmallIdeal.Read
public import proofs.«01_k».proof.KernelMid
public import proofs.«01_k».proof.Proof.Gen.KernelMid
public import proofs.«01_k».proof.KernelMidIdeal
public import proofs.«01_k».proof.Proof.Gen.KernelMidIdeal
public import proofs.«01_k».proof.Proof.Gen.KernelMidIdeal.Skeleton
public import proofs.«01_k».proof.Proof.Gen.KernelMidIdeal.Launch
public import proofs.«01_k».proof.Proof.Gen.KernelMidIdeal.Points
public import proofs.«01_k».proof.ReferenceMidIdeal
public import proofs.«01_k».proof.Proof.Gen.ReferenceMidIdeal
public import proofs.«01_k».proof.Proof.Gen.ReferenceMidIdeal.Read
public import proofs.«01_k».proof.Proof.Gen.ReferenceMidIdeal.Run
public import proofs.«01_k».proof.Proof.Gen.KernelSb
public import proofs.«01_k».proof.Proof.Gen.KernelSb.Skeleton
public import proofs.«01_k».proof.Proof.Gen.KernelSb.Launch
public import proofs.«01_k».proof.Proof.Gen.KernelSb.Points
public import proofs.«01_k».proof.Proof.Gen.KernelSbIdeal
public import proofs.«01_k».proof.Proof.Gen.KernelSbIdeal.Skeleton
public import proofs.«01_k».proof.Proof.Gen.KernelSbIdeal.Launch
public import proofs.«01_k».proof.Proof.Gen.KernelSbIdeal.Points
public import proofs.«01_k».proof.Proof.Gen.ReferenceSbIdeal
public import proofs.«01_k».proof.Proof.Gen.ReferenceSbIdeal.Run
public import proofs.«01_k».proof.Proof.Gen.ReferenceSbIdeal.Read
public import proofs.«01_k».proof.Proof.Gen.Pre_finite_sb
public import proofs.«01_k».proof.Proof.Gen.Pre_finite_mid
public import proofs.«01_k».proof.KernelFwd
public import proofs.«01_k».proof.Proof.Gen.KernelFwd
public import proofs.«01_k».proof.KernelFwdIdeal
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwd.Skeleton
public import proofs.«01_k».proof.Proof.Gen.KernelFwd.Launch
public import proofs.«01_k».proof.Proof.Gen.KernelFwd.Points
public import proofs.«01_k».proof.ReferenceFwdIdeal
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Gen.Pre_finite_fwd
public import proofs.«01_k».proof.KernelDx
public import proofs.«01_k».proof.Proof.Gen.KernelDx
public import proofs.«01_k».proof.Proof.Gen.KernelDx.Skeleton
public import proofs.«01_k».proof.Proof.Gen.KernelDx.Launch
public import proofs.«01_k».proof.Proof.Gen.KernelDx.Points
public import proofs.«01_k».proof.Proof.Gen.KernelDx.Frame
public import proofs.«01_k».proof.KernelDxIdeal
public import proofs.«01_k».proof.Proof.Gen.KernelDxIdeal
public import proofs.«01_k».proof.Proof.Gen.KernelDxIdeal.Skeleton
public import proofs.«01_k».proof.Proof.Gen.KernelDxIdeal.Launch
public import proofs.«01_k».proof.Proof.Gen.KernelDxIdeal.Points
public import proofs.«01_k».proof.Proof.Gen.KernelDxIdeal.Frame
public import proofs.«01_k».proof.ReferenceDxIdeal
public import proofs.«01_k».proof.Proof.Gen.ReferenceDxIdeal
public import proofs.«01_k».proof.Proof.Gen.ReferenceDxIdeal.Run
public import proofs.«01_k».proof.Proof.Gen.ReferenceDxIdeal.Read
public import proofs.«01_k».proof.Proof.Gen.Pre_finite_dx
public import proofs.«01_k».proof.KernelPre
public import proofs.«01_k».proof.Proof.Gen.KernelPre
public import proofs.«01_k».proof.Proof.Gen.KernelPre.Skeleton
public import proofs.«01_k».proof.Proof.Gen.KernelPre.Launch
public import proofs.«01_k».proof.Proof.Gen.KernelPre.Points
public import proofs.«01_k».proof.Proof.Gen.KernelPre.Frame
public import proofs.«01_k».proof.KernelPreIdeal
public import proofs.«01_k».proof.Proof.Gen.KernelPreIdeal
public import proofs.«01_k».proof.Proof.Gen.KernelPreIdeal.Skeleton
public import proofs.«01_k».proof.Proof.Gen.KernelPreIdeal.Launch
public import proofs.«01_k».proof.Proof.Gen.KernelPreIdeal.Points
public import proofs.«01_k».proof.Proof.Gen.KernelPreIdeal.Frame
public import proofs.«01_k».proof.KernelHgf
public import proofs.«01_k».proof.Proof.Gen.KernelHgf
public import proofs.«01_k».proof.Proof.Gen.KernelHgf.Skeleton
public import proofs.«01_k».proof.Proof.Gen.KernelHgf.Launch
public import proofs.«01_k».proof.Proof.Gen.KernelHgf.Points
public import proofs.«01_k».proof.Proof.Gen.KernelHgf.Frame
public import proofs.«01_k».proof.KernelHgfIdeal
public import proofs.«01_k».proof.Proof.Gen.KernelHgfIdeal
public import proofs.«01_k».proof.Proof.Gen.KernelHgfIdeal.Skeleton
public import proofs.«01_k».proof.Proof.Gen.KernelHgfIdeal.Launch
public import proofs.«01_k».proof.Proof.Gen.KernelHgfIdeal.Points
public import proofs.«01_k».proof.Proof.Gen.KernelHgfIdeal.Frame
public import proofs.«01_k».proof.ReferenceHgfIdeal
public import proofs.«01_k».proof.Proof.Gen.ReferenceHgfIdeal
public import proofs.«01_k».proof.Proof.Gen.ReferenceHgfIdeal.Run
public import proofs.«01_k».proof.ReferencePreIdeal
public import proofs.«01_k».proof.Proof.Gen.ReferencePreIdeal
public import proofs.«01_k».proof.Proof.Gen.ReferencePreIdeal.Run
public import proofs.«01_k».proof.Proof.Gen.ReferencePreIdeal.Read
public import proofs.«01_k».proof.KernelHg
public import proofs.«01_k».proof.Proof.Gen.KernelHg
public import proofs.«01_k».proof.Proof.Gen.KernelHg.Skeleton
public import proofs.«01_k».proof.Proof.Gen.KernelHg.Launch
public import proofs.«01_k».proof.Proof.Gen.KernelHg.Points
public import proofs.«01_k».proof.Proof.Gen.KernelHg.Frame
public import proofs.«01_k».proof.KernelHgIdeal
public import proofs.«01_k».proof.Proof.Gen.KernelHgIdeal
public import proofs.«01_k».proof.Proof.Gen.KernelHgIdeal.Skeleton
public import proofs.«01_k».proof.Proof.Gen.KernelHgIdeal.Launch
public import proofs.«01_k».proof.Proof.Gen.KernelHgIdeal.Points
public import proofs.«01_k».proof.Proof.Gen.KernelHgIdeal.Frame
public import proofs.«01_k».proof.Proof.Hg.Reference
public import proofs.«01_k».proof.Proof.Pre.Results
public import proofs.«01_k».proof.Proof.Dx.Results
public import proofs.«01_k».proof.Proof.Small.Reference
public import proofs.«01_k».proof.Proof.Sb.Frame
public import proofs.«01_k».proof.Proof.Sb.Results
public import proofs.«01_k».proof.Proof.SbWord.Frame
public import proofs.«01_k».proof.Proof.Sb.Rest
public import proofs.«01_k».proof.Proof.Gen.KernelMidIdeal.Frame.Runs
public import proofs.«01_k».proof.Proof.Mid.Rest
public import proofs.«01_k».proof.Proof.Mid.Word
public import proofs.«01_k».proof.Proof.Mid.Results
public import proofs.«01_k».proof.Proof.Fwd.Results
public import proofs.«01_k».proof.Proof.FwdWord.Frame
public import Idealize.ShloMosaic.Adequacy
public import Idealize.ShloMosaic.Init

@[expose] public section

noncomputable section

namespace Cert.Proof

open Idealize.ShloMosaic Idealize.SL.Sem Cert.KernelSmall

theorem claim : Cert.Claim := ⟨Cert.KernelSmall.Gen.facts, Cert.KernelSmallIdeal.Gen.facts, Cert.ReferenceSmallIdeal.Gen.facts,
  Cert.KernelSb.Gen.facts, Cert.KernelSbIdeal.Gen.facts, Cert.ReferenceSbIdeal.Gen.facts,
  Cert.KernelMid.Gen.facts, Cert.KernelMidIdeal.Gen.facts, Cert.ReferenceMidIdeal.Gen.facts,
  Cert.KernelFwd.Gen.facts, Cert.KernelFwdIdeal.Gen.facts, Cert.ReferenceFwdIdeal.Gen.facts,
  Cert.KernelDx.Gen.facts, Cert.KernelDxIdeal.Gen.facts, Cert.ReferenceDxIdeal.Gen.facts,
  Cert.KernelHgf.Gen.facts, Cert.KernelHgfIdeal.Gen.facts, Cert.ReferenceHgfIdeal.Gen.facts,
  Cert.KernelPre.Gen.facts, Cert.KernelPreIdeal.Gen.facts, Cert.ReferencePreIdeal.Gen.facts,
  Cert.KernelHg.Gen.facts, Cert.KernelHgIdeal.Gen.facts,
  Cert.Pre_finite_small.Gen.facts, Cert.Pre_finite_sb.Gen.facts, Cert.Pre_finite_mid.Gen.facts, Cert.Pre_finite_fwd.Gen.facts, Cert.Pre_finite_dx.Gen.facts,
  fun m ρ _ => Cert.KernelSmall.Gen.frame m ρ, fun m ρ _ => Cert.KernelSmallIdeal.Gen.frame m ρ, fun m ρ _ => Cert.KernelSmallIdeal.Gen.frame m ρ,
  fun m ρ _ => Cert.ReferenceSmallIdeal.Small.frame m ρ, fun m ρ _ => Cert.ReferenceSmallIdeal.Small.frame m ρ,
  fun m ρ _ => Cert.KernelSb.Sb.frame m ρ, fun m ρ _ => Cert.KernelSbIdeal.Sb.frame m ρ, fun m ρ _ => Cert.KernelSbIdeal.Sb.frame m ρ, fun m ρ _ => Cert.ReferenceSbIdeal.Sb.frame m ρ, fun m ρ _ => Cert.ReferenceSbIdeal.Sb.frame m ρ,
  fun m ρ _ => Cert.KernelMid.Mid.frame m ρ, fun m ρ _ => Cert.KernelMidIdeal.Mid.frame m ρ, fun m ρ _ => Cert.KernelMidIdeal.Mid.frame m ρ,
  fun m ρ _ => Cert.ReferenceMidIdeal.Mid.frame m ρ, fun m ρ _ => Cert.ReferenceMidIdeal.Mid.frame m ρ,
  fun m ρ _ => Cert.KernelFwd.Fwd.frame m ρ, fun m ρ _ => Cert.KernelFwdIdeal.Fwd.frame m ρ, fun m ρ _ => Cert.KernelFwdIdeal.Fwd.frame m ρ,
  fun m ρ _ => Cert.ReferenceFwdIdeal.Fwd.frame m ρ, fun m ρ _ => Cert.ReferenceFwdIdeal.Fwd.frame m ρ,
  fun m ρ _ => Cert.KernelDx.Gen.frame m ρ, fun m ρ _ => Cert.KernelDxIdeal.Gen.frame m ρ, fun m ρ _ => Cert.KernelDxIdeal.Gen.frame m ρ,
  fun m ρ _ => Cert.ReferenceDxIdeal.Dx.frame m ρ, fun m ρ _ => Cert.ReferenceDxIdeal.Dx.frame m ρ,
  fun m ρ _ => Cert.KernelHgf.Gen.frame m ρ, fun m ρ _ => Cert.KernelHgfIdeal.Gen.frame m ρ, fun m ρ _ => Cert.ReferenceHgfIdeal.Hg.frame m ρ,
  fun m ρ _ => Cert.KernelPre.Gen.frame m ρ, fun m ρ _ => Cert.KernelPreIdeal.Gen.frame m ρ, fun m ρ _ => Cert.ReferencePreIdeal.Pre.frame m ρ,
  fun m ρ _ => Cert.KernelHg.Gen.frame m ρ, fun m ρ _ => Cert.KernelHgIdeal.Gen.frame m ρ,
  trivial, by
    intro m g m' g' hpre hagree
    refine ⟨_, _, _, _, _, _, _, _, _, _, _, _, _, _, _, _, _, _, _, _, _, Cert.KernelSmallIdeal.Small.results m hpre g, ?_⟩
    exact Cert.ReferenceSmallIdeal.Small.results m m' hagree g', Cert.KernelSbIdeal.Sb.constants, by
    intro m g m' g' hpre hagree
    refine ⟨_, _, _, Cert.KernelSbIdeal.Sb.results m hpre g, ?_⟩
    exact Cert.ReferenceSbIdeal.Sb.results m m' hpre hagree g',
  trivial, by
    intro m g m' g' hpre hagree
    choose p sbo hgo x tgt bg gain fg wsb whg wout H using Cert.KernelMidIdeal.Mid.finite_args m hpre
    refine ⟨_, _, _, _, _, _, _, _, _, _, _, _, _, _, Cert.KernelMidIdeal.Mid.results H rfl g, ?_⟩
    exact Cert.ReferenceMidIdeal.Mid.results H rfl hagree g',
  Cert.KernelFwdIdeal.Fwd.constants, by
    intro m g m' g' hpre hagree
    refine ⟨_, _, Cert.KernelFwdIdeal.Fwd.results m hpre g, ?_⟩
    exact Cert.ReferenceFwdIdeal.Fwd.results m m' hpre hagree g',
  trivial, by
    intro m g m' g' hpre hagree
    choose A H using Cert.KernelDxIdeal.Dx.finite_args hpre
    refine ⟨_, _, Cert.KernelDxIdeal.Dx.results H g, ?_⟩
    exact Cert.ReferenceDxIdeal.Dx.results H hagree g',
  trivial, trivial, by
    intro m g m' g' hpre hagree
    refine ⟨_, _, Cert.KernelPreIdeal.Pre.results m g, ?_⟩
    exact Cert.ReferencePreIdeal.Pre.results m m' hagree g',
  trivial⟩

end Cert.Proof

end

end
